-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_steps [hPre_finite_steps : Cert.Pre_finite_steps.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_steps.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_steps [hPre_finite_steps : Cert.Pre_finite_steps.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_steps.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel10Ideal_pre_finite_steps [hKernel10Ideal : Cert.Kernel10Ideal.Facts] [hPre_finite_steps : Cert.Pre_finite_steps.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_steps m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Reference10Ideal_pre_finite_steps [hReference10Ideal : Cert.Reference10Ideal.Facts] [hPre_finite_steps : Cert.Pre_finite_steps.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_steps m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v36_0)) (v1 : (c : Dev Cert.Kernel7Ideal.nD) → Buf (Elt Ideal) ((c.tc : Thread Cert.Kernel7Ideal.nD Cert.Kernel7Ideal.τ).loc Cert.Kernel7Ideal.main_v36_1)) (v2 : (c : Dev Cert.Kernel7Ideal.nD) → Buf (Elt Ideal) ((c.tc : Thread Cert.Kernel7Ideal.nD Cert.Kernel7Ideal.τ).loc Cert.Kernel7Ideal.main_v36_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36_0) = v0 c
          ∧ r.2.mem ((c.tc : Thread Cert.Kernel7Ideal.nD Cert.Kernel7Ideal.τ).loc Cert.Kernel7Ideal.main_v36_1) = v1 c
          ∧ r.2.mem ((c.tc : Thread Cert.Kernel7Ideal.nD Cert.Kernel7Ideal.τ).loc Cert.Kernel7Ideal.main_v36_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v48_0)) (v1 : (c : Dev Cert.Kernel8Ideal.nD) → Buf (Elt Ideal) ((c.tc : Thread Cert.Kernel8Ideal.nD Cert.Kernel8Ideal.τ).loc Cert.Kernel8Ideal.main_v48_1)) (v2 : (c : Dev Cert.Kernel8Ideal.nD) → Buf (Elt Ideal) ((c.tc : Thread Cert.Kernel8Ideal.nD Cert.Kernel8Ideal.τ).loc Cert.Kernel8Ideal.main_v48_2)) (v3 : (c : Dev Cert.Kernel8Ideal.nD) → Buf (Elt Ideal) ((c.tc : Thread Cert.Kernel8Ideal.nD Cert.Kernel8Ideal.τ).loc Cert.Kernel8Ideal.main_v48_3)) (v4 : (c : Dev Cert.Kernel8Ideal.nD) → Buf (Elt Ideal) ((c.tc : Thread Cert.Kernel8Ideal.nD Cert.Kernel8Ideal.τ).loc Cert.Kernel8Ideal.main_v48_4)) (v5 : (c : Dev Cert.Kernel8Ideal.nD) → Buf (Elt Ideal) ((c.tc : Thread Cert.Kernel8Ideal.nD Cert.Kernel8Ideal.τ).loc Cert.Kernel8Ideal.main_v48_5)) (v6 : (c : Dev Cert.Kernel8Ideal.nD) → Buf (Elt Ideal) ((c.tc : Thread Cert.Kernel8Ideal.nD Cert.Kernel8Ideal.τ).loc Cert.Kernel8Ideal.main_v48_6)) (v7 : (c : Dev Cert.Kernel8Ideal.nD) → Buf (Elt Ideal) ((c.tc : Thread Cert.Kernel8Ideal.nD Cert.Kernel8Ideal.τ).loc Cert.Kernel8Ideal.main_v48_7)) (v8 : (c : Dev Cert.Kernel8Ideal.nD) → Buf (Elt Ideal) ((c.tc : Thread Cert.Kernel8Ideal.nD Cert.Kernel8Ideal.τ).loc Cert.Kernel8Ideal.main_v48_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v48_0) = v0 c
          ∧ r.2.mem ((c.tc : Thread Cert.Kernel8Ideal.nD Cert.Kernel8Ideal.τ).loc Cert.Kernel8Ideal.main_v48_1) = v1 c
          ∧ r.2.mem ((c.tc : Thread Cert.Kernel8Ideal.nD Cert.Kernel8Ideal.τ).loc Cert.Kernel8Ideal.main_v48_2) = v2 c
          ∧ r.2.mem ((c.tc : Thread Cert.Kernel8Ideal.nD Cert.Kernel8Ideal.τ).loc Cert.Kernel8Ideal.main_v48_3) = v3 c
          ∧ r.2.mem ((c.tc : Thread Cert.Kernel8Ideal.nD Cert.Kernel8Ideal.τ).loc Cert.Kernel8Ideal.main_v48_4) = v4 c
          ∧ r.2.mem ((c.tc : Thread Cert.Kernel8Ideal.nD Cert.Kernel8Ideal.τ).loc Cert.Kernel8Ideal.main_v48_5) = v5 c
          ∧ r.2.mem ((c.tc : Thread Cert.Kernel8Ideal.nD Cert.Kernel8Ideal.τ).loc Cert.Kernel8Ideal.main_v48_6) = v6 c
          ∧ r.2.mem ((c.tc : Thread Cert.Kernel8Ideal.nD Cert.Kernel8Ideal.τ).loc Cert.Kernel8Ideal.main_v48_7) = v7 c
          ∧ r.2.mem ((c.tc : Thread Cert.Kernel8Ideal.nD Cert.Kernel8Ideal.τ).loc Cert.Kernel8Ideal.main_v48_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v164) = v0 c
          ∧ r.2.mem ((c.tc : Thread Cert.Reference8Ideal.nD Cert.Reference8Ideal.τ).loc Cert.Reference8Ideal.main_v165) = v1 c
          ∧ r.2.mem ((c.tc : Thread Cert.Reference8Ideal.nD Cert.Reference8Ideal.τ).loc Cert.Reference8Ideal.main_v168) = v2 c
          ∧ r.2.mem ((c.tc : Thread Cert.Reference8Ideal.nD Cert.Reference8Ideal.τ).loc Cert.Reference8Ideal.main_v169) = v3 c
          ∧ r.2.mem ((c.tc : Thread Cert.Reference8Ideal.nD Cert.Reference8Ideal.τ).loc Cert.Reference8Ideal.main_v171) = v4 c
          ∧ r.2.mem ((c.tc : Thread Cert.Reference8Ideal.nD Cert.Reference8Ideal.τ).loc Cert.Reference8Ideal.main_v173) = v5 c
          ∧ r.2.mem ((c.tc : Thread Cert.Reference8Ideal.nD Cert.Reference8Ideal.τ).loc Cert.Reference8Ideal.main_v174) = v6 c
          ∧ r.2.mem ((c.tc : Thread Cert.Reference8Ideal.nD Cert.Reference8Ideal.τ).loc Cert.Reference8Ideal.main_v177) = v7 c
          ∧ r.2.mem ((c.tc : Thread Cert.Reference8Ideal.nD Cert.Reference8Ideal.τ).loc Cert.Reference8Ideal.main_v178) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v54_0)) (v1 : (c : Dev Cert.Kernel9Ideal.nD) → Buf (Elt Ideal) ((c.tc : Thread Cert.Kernel9Ideal.nD Cert.Kernel9Ideal.τ).loc Cert.Kernel9Ideal.main_v54_1)) (v2 : (c : Dev Cert.Kernel9Ideal.nD) → Buf (Elt Ideal) ((c.tc : Thread Cert.Kernel9Ideal.nD Cert.Kernel9Ideal.τ).loc Cert.Kernel9Ideal.main_v54_2)) (v3 : (c : Dev Cert.Kernel9Ideal.nD) → Buf (Elt Ideal) ((c.tc : Thread Cert.Kernel9Ideal.nD Cert.Kernel9Ideal.τ).loc Cert.Kernel9Ideal.main_v54_3)) (v4 : (c : Dev Cert.Kernel9Ideal.nD) → Buf (Elt Ideal) ((c.tc : Thread Cert.Kernel9Ideal.nD Cert.Kernel9Ideal.τ).loc Cert.Kernel9Ideal.main_v54_4)) (v5 : (c : Dev Cert.Kernel9Ideal.nD) → Buf (Elt Ideal) ((c.tc : Thread Cert.Kernel9Ideal.nD Cert.Kernel9Ideal.τ).loc Cert.Kernel9Ideal.main_v54_5)) (v6 : (c : Dev Cert.Kernel9Ideal.nD) → Buf (Elt Ideal) ((c.tc : Thread Cert.Kernel9Ideal.nD Cert.Kernel9Ideal.τ).loc Cert.Kernel9Ideal.main_v54_6)) (v7 : (c : Dev Cert.Kernel9Ideal.nD) → Buf (Elt Ideal) ((c.tc : Thread Cert.Kernel9Ideal.nD Cert.Kernel9Ideal.τ).loc Cert.Kernel9Ideal.main_v54_7)) (v8 : (c : Dev Cert.Kernel9Ideal.nD) → Buf (Elt Ideal) ((c.tc : Thread Cert.Kernel9Ideal.nD Cert.Kernel9Ideal.τ).loc Cert.Kernel9Ideal.main_v54_8)) (v9 : (c : Dev Cert.Kernel9Ideal.nD) → Buf (Elt Ideal) ((c.tc : Thread Cert.Kernel9Ideal.nD Cert.Kernel9Ideal.τ).loc Cert.Kernel9Ideal.main_v54_9)) (v10 : (c : Dev Cert.Kernel9Ideal.nD) → Buf (Elt Ideal) ((c.tc : Thread Cert.Kernel9Ideal.nD Cert.Kernel9Ideal.τ).loc Cert.Kernel9Ideal.main_v54_10)) (v11 : (c : Dev Cert.Kernel9Ideal.nD) → Buf (Elt Ideal) ((c.tc : Thread Cert.Kernel9Ideal.nD Cert.Kernel9Ideal.τ).loc Cert.Kernel9Ideal.main_v54_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v54_0) = v0 c
          ∧ r.2.mem ((c.tc : Thread Cert.Kernel9Ideal.nD Cert.Kernel9Ideal.τ).loc Cert.Kernel9Ideal.main_v54_1) = v1 c
          ∧ r.2.mem ((c.tc : Thread Cert.Kernel9Ideal.nD Cert.Kernel9Ideal.τ).loc Cert.Kernel9Ideal.main_v54_2) = v2 c
          ∧ r.2.mem ((c.tc : Thread Cert.Kernel9Ideal.nD Cert.Kernel9Ideal.τ).loc Cert.Kernel9Ideal.main_v54_3) = v3 c
          ∧ r.2.mem ((c.tc : Thread Cert.Kernel9Ideal.nD Cert.Kernel9Ideal.τ).loc Cert.Kernel9Ideal.main_v54_4) = v4 c
          ∧ r.2.mem ((c.tc : Thread Cert.Kernel9Ideal.nD Cert.Kernel9Ideal.τ).loc Cert.Kernel9Ideal.main_v54_5) = v5 c
          ∧ r.2.mem ((c.tc : Thread Cert.Kernel9Ideal.nD Cert.Kernel9Ideal.τ).loc Cert.Kernel9Ideal.main_v54_6) = v6 c
          ∧ r.2.mem ((c.tc : Thread Cert.Kernel9Ideal.nD Cert.Kernel9Ideal.τ).loc Cert.Kernel9Ideal.main_v54_7) = v7 c
          ∧ r.2.mem ((c.tc : Thread Cert.Kernel9Ideal.nD Cert.Kernel9Ideal.τ).loc Cert.Kernel9Ideal.main_v54_8) = v8 c
          ∧ r.2.mem ((c.tc : Thread Cert.Kernel9Ideal.nD Cert.Kernel9Ideal.τ).loc Cert.Kernel9Ideal.main_v54_9) = v9 c
          ∧ r.2.mem ((c.tc : Thread Cert.Kernel9Ideal.nD Cert.Kernel9Ideal.τ).loc Cert.Kernel9Ideal.main_v54_10) = v10 c
          ∧ r.2.mem ((c.tc : Thread Cert.Kernel9Ideal.nD Cert.Kernel9Ideal.τ).loc Cert.Kernel9Ideal.main_v54_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v167) = v0 c
          ∧ r.2.mem ((c.tc : Thread Cert.Reference9Ideal.nD Cert.Reference9Ideal.τ).loc Cert.Reference9Ideal.main_v168) = v1 c
          ∧ r.2.mem ((c.tc : Thread Cert.Reference9Ideal.nD Cert.Reference9Ideal.τ).loc Cert.Reference9Ideal.main_v169) = v2 c
          ∧ r.2.mem ((c.tc : Thread Cert.Reference9Ideal.nD Cert.Reference9Ideal.τ).loc Cert.Reference9Ideal.main_v170) = v3 c
          ∧ r.2.mem ((c.tc : Thread Cert.Reference9Ideal.nD Cert.Reference9Ideal.τ).loc Cert.Reference9Ideal.main_v173) = v4 c
          ∧ r.2.mem ((c.tc : Thread Cert.Reference9Ideal.nD Cert.Reference9Ideal.τ).loc Cert.Reference9Ideal.main_v174) = v5 c
          ∧ r.2.mem ((c.tc : Thread Cert.Reference9Ideal.nD Cert.Reference9Ideal.τ).loc Cert.Reference9Ideal.main_v176) = v6 c
          ∧ r.2.mem ((c.tc : Thread Cert.Reference9Ideal.nD Cert.Reference9Ideal.τ).loc Cert.Reference9Ideal.main_v177) = v7 c
          ∧ r.2.mem ((c.tc : Thread Cert.Reference9Ideal.nD Cert.Reference9Ideal.τ).loc Cert.Reference9Ideal.main_v180) = v8 c
          ∧ r.2.mem ((c.tc : Thread Cert.Reference9Ideal.nD Cert.Reference9Ideal.τ).loc Cert.Reference9Ideal.main_v181) = v9 c
          ∧ r.2.mem ((c.tc : Thread Cert.Reference9Ideal.nD Cert.Reference9Ideal.τ).loc Cert.Reference9Ideal.main_v183) = v10 c
          ∧ r.2.mem ((c.tc : Thread Cert.Reference9Ideal.nD Cert.Reference9Ideal.τ).loc Cert.Reference9Ideal.main_v184) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_steps [hKernel10Ideal : Cert.Kernel10Ideal.Facts] [hReference10Ideal : Cert.Reference10Ideal.Facts] [hPre_finite_steps : Cert.Pre_finite_steps.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_steps m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v114) = v0 c
          ∧ r.2.mem ((c.tc : Thread Cert.Reference10Ideal.nD Cert.Reference10Ideal.τ).loc Cert.Reference10Ideal.main_v105) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_steps : Cert.Pre_finite_steps.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_steps (hKernel10Ideal := hKernel10Ideal) (hPre_finite_steps := hPre_finite_steps)
    ∧ quiescent_Reference10Ideal (hReference10Ideal := hReference10Ideal)
    ∧ quiescent_Reference10Ideal_pre_finite_steps (hReference10Ideal := hReference10Ideal) (hPre_finite_steps := hPre_finite_steps)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_steps (hKernel10Ideal := hKernel10Ideal) (hReference10Ideal := hReference10Ideal) (hPre_finite_steps := hPre_finite_steps)
-- ==== Pre_finite_steps.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S1x32 : Shape := ⟨2, ![1, 32]⟩
abbrev S_ : Shape := ⟨0, ![]⟩

class Facts : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x2048 .f32) (main_arg1 : FVec F S16384x3072 .f32) (main_arg2 : FVec F S16384x32 .f32) (main_arg3 : FVec F S4x3072 .f32) (main_arg4 : FVec F S3072 .f32) (main_arg5 : FVec F S32 .f32) (main_arg6 : FVec F S32 .f32) (main_arg7 : FVec F S32 .f32) : IVec S_ 1 :=
  let main_v0 : FVec F S1x32 .f32 := broadcastInDim S1x32 ![1] bcast_S32_S1x32_1 main_arg5
  let main_v1 : FVec F S16384x32 .f32 := broadcastInDim S16384x32 ![0, 1] bcast_S1x32_S16384x32_0_1 main_v0
  let main_v2 : FVec F S16384x32 .f32 := addf main_arg2 main_v1
  let main_cst : FVec F S_ .f32 := constant S_ .f32 0x7F800000#32
  let main_v3 : FVec F S16384x32 .f32 := broadcastInDim S16384x32 ![] bcast_S_S16384x32 main_cst
  let main_v4 : IVec S16384x32 1 := cmpf .olt main_v2 main_v3
  let main_c : IVec S_ 1 := constantI S_ 1 1#1
  let main_v5 : IVec S_ 1 := (fun x v => Host.reduce IntOp.andi x v reducesTo_S16384x32_S_d0_1 h_S_) main_v4 main_c
  main_v5
-- ==== Kernel.lean ====
abbrev S2x8192x1024 : Shape := ⟨3, ![2, 8192, 1024]⟩
abbrev S1024 : Shape := ⟨1, ![1024]⟩
abbrev S2x256x4x128 : Shape := ⟨4, ![2, 256, 4, 128]⟩
abbrev S1024x512 : Shape := ⟨2, ![1024, 512]⟩
abbrev S512x1024 : Shape := ⟨2, ![512, 1024]⟩
abbrev S16384x1024 : Shape := ⟨2, ![16384, 1024]⟩
abbrev S1x1024 : Shape := ⟨2, ![1, 1024]⟩
abbrev S2x256x512 : Shape := ⟨3, ![2, 256, 512]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x256x4x128, .f32⟩
  | .hbm, ⟨3, _⟩ => ⟨S2x256x4x128, .f32⟩
  | .hbm, ⟨4, _⟩ => ⟨S1024x512, .f32⟩
  | .hbm, ⟨5, _⟩ => ⟨S512x1024, .f32⟩
  | .hbm, ⟨6, _⟩ => ⟨S16384x1024, .f32⟩
  | .hbm, ⟨7, _⟩ => ⟨S1x1024, .f32⟩
  | .hbm, ⟨8, _⟩ => ⟨S1024x512, .bf16⟩
  | .hbm, ⟨9, _⟩ => ⟨S2x256x512, .f32⟩
  | .hbm, ⟨10, _⟩ => ⟨S2x256x512, .f32⟩
  | .hbm, ⟨11, _⟩ => ⟨S512x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x1024 : Shape := ⟨3, ![2, 8192, 1024]⟩
abbrev S1024 : Shape := ⟨1, ![1024]⟩
abbrev S2x256x4x128 : Shape := ⟨4, ![2, 256, 4, 128]⟩
abbrev S1024x512 : Shape := ⟨2, ![1024, 512]⟩
abbrev S512x1024 : Shape := ⟨2, ![512, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x512 : Shape := ⟨3, ![2, 8192, 512]⟩
abbrev S2x8192x4x128 : Shape := ⟨4, ![2, 8192, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x256x4x128, .f32⟩
  | .hbm, ⟨3, _⟩ => ⟨S2x256x4x128, .f32⟩
  | .hbm, ⟨4, _⟩ => ⟨S1024x512, .f32⟩
  | .hbm, ⟨5, _⟩ => ⟨S512x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x512, .f32⟩
  | .hbm, ⟨23, _⟩ => ⟨S2x8192x4x128, .f32⟩
  | .hbm, ⟨24, _⟩ => ⟨S2x4x8192x256, .f32⟩
  | .hbm, ⟨25, _⟩ => ⟨S_, .f32⟩
  | .hbm, ⟨26, _⟩ => ⟨S2x4x8192x256, .f32⟩
  | .hbm, ⟨27, _⟩ => ⟨S2x4x8192x256, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x256, .f32⟩
  | .hbm, ⟨35, _⟩ => ⟨S2x4x8192x256, .f32⟩
  | .hbm, ⟨36, _⟩ => ⟨S2x4x8192x256, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x256, .f32⟩
  | .hbm, ⟨41, _⟩ => ⟨S2x4x8192x256, .f32⟩
  | .hbm, ⟨42, _⟩ => ⟨S2x4x128x8192, .f32⟩
  | .hbm, ⟨43, _⟩ => ⟨S2x8192x4x128, .f32⟩
  | .hbm, ⟨44, _⟩ => ⟨S2x8192x512, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x512 : Shape := ⟨2, ![512, 512]⟩
abbrev S2816x512 : Shape := ⟨2, ![2816, 512]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x5632, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S2x256x1024 : Shape := ⟨3, ![2, 256, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S512x1024, .f32⟩
  | .hbm, ⟨4, _⟩ => ⟨S1024x1024, .bf16⟩
  | .hbm, ⟨5, _⟩ => ⟨S1x1024, .f32⟩
  | .hbm, ⟨6, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference3Ideal.lean ====
abbrev S2x256x1024 : Shape := ⟨3, ![2, 256, 1024]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x8192x1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x1024, .f32⟩
  | .hbm, ⟨14, _⟩ => ⟨S2x8192x1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x1024 : Shape := ⟨2, ![1024, 1024]⟩
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S16384x1024, .f32⟩
  | .hbm, ⟨4, _⟩ => ⟨S16384x1024, .f32⟩
  | .hbm, ⟨5, _⟩ => ⟨S1024x1024, .bf16⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x8192x1024 : Shape := ⟨3, ![2, 8192, 1024]⟩
abbrev S1024x1024 : Shape := ⟨2, ![1024, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2x8192x2048 : Shape := ⟨3, ![2, 8192, 2048]⟩
abbrev S2048 : Shape := ⟨1, ![2048]⟩
abbrev S2048x1024 : Shape := ⟨2, ![2048, 1024]⟩
abbrev S2x8192x1024 : Shape := ⟨3, ![2, 8192, 1024]⟩
abbrev S16384x2048 : Shape := ⟨2, ![16384, 2048]⟩
abbrev S16384x1024 : Shape := ⟨2, ![16384, 1024]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x1024, .f32⟩
  | .hbm, ⟨3, _⟩ => ⟨S2x8192x1024, .f32⟩
  | .hbm, ⟨4, _⟩ => ⟨S16384x2048, .f32⟩
  | .hbm, ⟨5, _⟩ => ⟨S16384x1024, .f32⟩
  | .hbm, ⟨6, _⟩ => ⟨S2048x1024, .bf16⟩
  | .hbm, ⟨7, _⟩ => ⟨S1x2048, .f32⟩
  | .hbm, ⟨8, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x8192x2048 : Shape := ⟨3, ![2, 8192, 2048]⟩
abbrev S2048 : Shape := ⟨1, ![2048]⟩
abbrev S2048x1024 : Shape := ⟨2, ![2048, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x1024 : Shape := ⟨2, ![16384, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x1024, .f32⟩
  | .hbm, ⟨3, _⟩ => ⟨S2x8192x1024, .f32⟩
  | .hbm, ⟨4, _⟩ => ⟨S2x8192x2048, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x2048, .f32⟩
  | .hbm, ⟨16, _⟩ => ⟨S2x8192x2048, .f32⟩
  | .hbm, ⟨17, _⟩ => ⟨S1x1x2048, .f32⟩
  | .hbm, ⟨18, _⟩ => ⟨S2x8192x2048, .f32⟩
  | .hbm, ⟨19, _⟩ => ⟨S2x8192x2048, .f32⟩
  | .hbm, ⟨20, _⟩ => ⟨S2x8192x1024, .f32⟩
  | .hbm, ⟨21, _⟩ => ⟨S2x8192x1024, .f32⟩
  | .hbm, ⟨22, _⟩ => ⟨S16384x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024 : Shape := ⟨1, ![1024]⟩
abbrev S1024x5152 : Shape := ⟨2, ![1024, 5152]⟩
abbrev S16384x1024 : Shape := ⟨2, ![16384, 1024]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S16384 : Shape := ⟨1, ![16384]⟩
abbrev S1024x128 : Shape := ⟨2, ![1024, 128]⟩
abbrev S1024x5248 : Shape := ⟨2, ![1024, 5248]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S16384x2048 : Shape := ⟨2, ![16384, 2048]⟩
abbrev S16384x3072 : Shape := ⟨2, ![16384, 3072]⟩
abbrev S512x1024 : Shape := ⟨2, ![512, 1024]⟩
abbrev S512x128 : Shape := ⟨2, ![512, 128]⟩
abbrev S512x2048 : Shape := ⟨2, ![512, 2048]⟩
abbrev S512x3072 : Shape := ⟨2, ![512, 3072]⟩
abbrev S512x32 : Shape := ⟨2, ![512, 32]⟩
abbrev S512 : Shape := ⟨1, ![512]⟩
abbrev S512x1 : Shape := ⟨2, ![512, 1]⟩

abbrev nBuf : Space → Nat
  | .hbm => 51
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5152, .f32⟩
  | .hbm, ⟨3, _⟩ => ⟨S16384x1024, .f32⟩
  | .hbm, ⟨4, _⟩ => ⟨S1024x2048, .f32⟩
  | .hbm, ⟨5, _⟩ => ⟨S1024x3072, .f32⟩
  | .hbm, ⟨6, _⟩ => ⟨S1024x32, .f32⟩
  | .hbm, ⟨7, _⟩ => ⟨S_, .i32⟩
  | .hbm, ⟨8, _⟩ => ⟨S16384, .i32⟩
  | .hbm, ⟨9, _⟩ => ⟨S1024x2048, .bf16⟩
  | .hbm, ⟨10, _⟩ => ⟨S_, .i32⟩
  | .hbm, ⟨11, _⟩ => ⟨S_, .bf16⟩
  | .hbm, ⟨12, _⟩ => ⟨S1024x2048, .bf16⟩
  | .hbm, ⟨13, _⟩ => ⟨S1024x3072, .bf16⟩
  | .hbm, ⟨14, _⟩ => ⟨S_, .i32⟩
  | .hbm, ⟨15, _⟩ => ⟨S_, .bf16⟩
  | .hbm, ⟨16, _⟩ => ⟨S1024x3072, .bf16⟩
  | .hbm, ⟨17, _⟩ => ⟨S1024x32, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S1024x5248, .bf16⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S16384, .f32⟩
  | .hbm, ⟨31, _⟩ => ⟨S16384x1, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S1x16384x1x64, .f32⟩
  | .hbm, ⟨40, _⟩ => ⟨S1x16384x2x64, .f32⟩
  | .hbm, ⟨41, _⟩ => ⟨S16384x128, .f32⟩
  | .hbm, ⟨42, _⟩ => ⟨S16384x32, .f32⟩
  | .hbm, ⟨43, _⟩ => ⟨S16384x64, .f32⟩
  | .hbm, ⟨44, _⟩ => ⟨S1x16384x1x64, .f32⟩
  | .hbm, ⟨45, _⟩ => ⟨S1x16384x2x64, .f32⟩
  | .hbm, ⟨46, _⟩ => ⟨S16384x128, .f32⟩
  | .hbm, ⟨47, _⟩ => ⟨S1x1024, .f32⟩
  | .hbm, ⟨48, _⟩ => ⟨S16384x2048, .f32⟩
  | .hbm, ⟨49, _⟩ => ⟨S16384x3072, .f32⟩
  | .hbm, ⟨50, _⟩ => ⟨S16384x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x5248, .bf16⟩
  | .local _ .vmem, ⟨8, _⟩ => ⟨S512x2048, .f32⟩
  | .local _ .vmem, ⟨9, _⟩ => ⟨S512x2048, .f32⟩
  | .local _ .vmem, ⟨10, _⟩ => ⟨S512x3072, .f32⟩
  | .local _ .vmem, ⟨11, _⟩ => ⟨S512x3072, .f32⟩
  | .local _ .vmem, ⟨12, _⟩ => ⟨S512x32, .f32⟩
  | .local _ .vmem, ⟨13, _⟩ => ⟨S512x32, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S2x8192x1024 : Shape := ⟨3, ![2, 8192, 1024]⟩
abbrev S1024 : Shape := ⟨1, ![1024]⟩
abbrev S1024x5152 : Shape := ⟨2, ![1024, 5152]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5152 : Shape := ⟨3, ![2, 8192, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5152, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x5152, .f32⟩
  | .hbm, ⟨20, _⟩ => ⟨S16384x5152, .f32⟩
  | .hbm, ⟨21, _⟩ => ⟨S16384x2048, .f32⟩
  | .hbm, ⟨22, _⟩ => ⟨S16384x3072, .f32⟩
  | .hbm, ⟨23, _⟩ => ⟨S16384x32, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S2x8192x1024 : Shape := ⟨3, ![2, 8192, 1024]⟩
abbrev S1024 : Shape := ⟨1, ![1024]⟩
abbrev S1024x2120 : Shape := ⟨2, ![1024, 2120]⟩
abbrev S8192 : Shape := ⟨1, ![8192]⟩
abbrev S16384x1024 : Shape := ⟨2, ![16384, 1024]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1x8192 : Shape := ⟨2, ![1, 8192]⟩
abbrev S2x8192 : Shape := ⟨2, ![2, 8192]⟩
abbrev S16384 : Shape := ⟨1, ![16384]⟩
abbrev S_ : Shape := ⟨0, ![]⟩
abbrev S1024x128 : Shape := ⟨2, ![1024, 128]⟩
abbrev S1024x2304 : Shape := ⟨2, ![1024, 2304]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S16384x256 : Shape := ⟨2, ![16384, 256]⟩
abbrev S256x16384 : Shape := ⟨2, ![256, 16384]⟩
abbrev S16384x512 : Shape := ⟨2, ![16384, 512]⟩
abbrev S64x16384 : Shape := ⟨2, ![64, 16384]⟩
abbrev S16384x8 : Shape := ⟨2, ![16384, 8]⟩
abbrev S512x1024 : Shape := ⟨2, ![512, 1024]⟩
abbrev S512x128 : Shape := ⟨2, ![512, 128]⟩
abbrev S512x256 : Shape := ⟨2, ![512, 256]⟩
abbrev S256x512 : Shape := ⟨2, ![256, 512]⟩
abbrev S512x512 : Shape := ⟨2, ![512, 512]⟩
abbrev S512x64 : Shape := ⟨2, ![512, 64]⟩
abbrev S64x512 : Shape := ⟨2, ![64, 512]⟩
abbrev S512x8 : Shape := ⟨2, ![512, 8]⟩
abbrev S512 : Shape := ⟨1, ![512]⟩
abbrev S512x1 : Shape := ⟨2, ![512, 1]⟩

abbrev nBuf : Space → Nat
  | .hbm => 74
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2120, .f32⟩
  | .hbm, ⟨3, _⟩ => ⟨S8192, .i32⟩
  | .hbm, ⟨4, _⟩ => ⟨S16384x1024, .f32⟩
  | .hbm, ⟨5, _⟩ => ⟨S1024x1024, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1x8192, .i32⟩
  | .hbm, ⟨12, _⟩ => ⟨S2x8192, .i32⟩
  | .hbm, ⟨13, _⟩ => ⟨S16384, .i32⟩
  | .hbm, ⟨14, _⟩ => ⟨S1024x1024, .bf16⟩
  | .hbm, ⟨15, _⟩ => ⟨S_, .i32⟩
  | .hbm, ⟨16, _⟩ => ⟨S_, .bf16⟩
  | .hbm, ⟨17, _⟩ => ⟨S1024x1024, .bf16⟩
  | .hbm, ⟨18, _⟩ => ⟨S1024x256, .bf16⟩
  | .hbm, ⟨19, _⟩ => ⟨S_, .i32⟩
  | .hbm, ⟨20, _⟩ => ⟨S_, .bf16⟩
  | .hbm, ⟨21, _⟩ => ⟨S1024x256, .bf16⟩
  | .hbm, ⟨22, _⟩ => ⟨S1024x256, .bf16⟩
  | .hbm, ⟨23, _⟩ => ⟨S_, .i32⟩
  | .hbm, ⟨24, _⟩ => ⟨S_, .bf16⟩
  | .hbm, ⟨25, _⟩ => ⟨S1024x256, .bf16⟩
  | .hbm, ⟨26, _⟩ => ⟨S1024x512, .bf16⟩
  | .hbm, ⟨27, _⟩ => ⟨S_, .i32⟩
  | .hbm, ⟨28, _⟩ => ⟨S_, .bf16⟩
  | .hbm, ⟨29, _⟩ => ⟨S1024x512, .bf16⟩
  | .hbm, ⟨30, _⟩ => ⟨S1024x64, .bf16⟩
  | .hbm, ⟨31, _⟩ => ⟨S_, .i32⟩
  | .hbm, ⟨32, _⟩ => ⟨S_, .bf16⟩
  | .hbm, ⟨33, _⟩ => ⟨S1024x128, .bf16⟩
  | .hbm, ⟨34, _⟩ => ⟨S1024x8, .bf16⟩
  | .hbm, ⟨35, _⟩ => ⟨S_, .i32⟩
  | .hbm, ⟨36, _⟩ => ⟨S_, .bf16⟩
  | .hbm, ⟨37, _⟩ => ⟨S1024x128, .bf16⟩
  | .hbm, ⟨38, _⟩ => ⟨S1024x2304, .bf16⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S16384, .f32⟩
  | .hbm, ⟨48, _⟩ => ⟨S16384x1, .f32⟩
  | .hbm, ⟨49, _⟩ => ⟨S1x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x64, .f32⟩
  | .hbm, ⟨56, _⟩ => ⟨S1x16384x1x64, .f32⟩
  | .hbm, ⟨57, _⟩ => ⟨S1x16384x2x64, .f32⟩
  | .hbm, ⟨58, _⟩ => ⟨S16384x128, .f32⟩
  | .hbm, ⟨59, _⟩ => ⟨S16384x32, .f32⟩
  | .hbm, ⟨60, _⟩ => ⟨S16384x64, .f32⟩
  | .hbm, ⟨61, _⟩ => ⟨S1x16384x1x64, .f32⟩
  | .hbm, ⟨62, _⟩ => ⟨S1x16384x2x64, .f32⟩
  | .hbm, ⟨63, _⟩ => ⟨S16384x128, .f32⟩
  | .hbm, ⟨64, _⟩ => ⟨S1x1024, .f32⟩
  | .hbm, ⟨65, _⟩ => ⟨S16384x1024, .bf16⟩
  | .hbm, ⟨66, _⟩ => ⟨S16384x256, .f32⟩
  | .hbm, ⟨67, _⟩ => ⟨S256x16384, .bf16⟩
  | .hbm, ⟨68, _⟩ => ⟨S16384x256, .f32⟩
  | .hbm, ⟨69, _⟩ => ⟨S16384x256, .bf16⟩
  | .hbm, ⟨70, _⟩ => ⟨S16384x512, .bf16⟩
  | .hbm, ⟨71, _⟩ => ⟨S16384x64, .f32⟩
  | .hbm, ⟨72, _⟩ => ⟨S64x16384, .bf16⟩
  | .hbm, ⟨73, _⟩ => ⟨S16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x2304, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S256x512, .bf16⟩
  | .local _ .vmem, ⟨13, _⟩ => ⟨S256x512, .bf16⟩
  | .local _ .vmem, ⟨14, _⟩ => ⟨S512x256, .f32⟩
  | .local _ .vmem, ⟨15, _⟩ => ⟨S512x256, .f32⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | .local _ .vmem, ⟨20, _⟩ => ⟨S512x64, .f32⟩
  | .local _ .vmem, ⟨21, _⟩ => ⟨S512x64, .f32⟩
  | .local _ .vmem, ⟨22, _⟩ => ⟨S64x512, .bf16⟩
  | .local _ .vmem, ⟨23, _⟩ => ⟨S64x512, .bf16⟩
  | .local _ .vmem, ⟨24, _⟩ => ⟨S512x8, .f32⟩
  | .local _ .vmem, ⟨25, _⟩ => ⟨S512x8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_call3_v0 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call4_v0 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_call5_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev main_v48_3 : Ref sig .tc := ⟨.hbm, 68, rfl⟩
abbrev main_v48_4 : Ref sig .tc := ⟨.hbm, 69, rfl⟩
abbrev main_v48_5 : Ref sig .tc := ⟨.hbm, 70, rfl⟩
abbrev main_v48_6 : Ref sig .tc := ⟨.hbm, 71, rfl⟩
abbrev main_v48_7 : Ref sig .tc := ⟨.hbm, 72, rfl⟩
abbrev main_v48_8 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S2x8192x1024 : Shape := ⟨3, ![2, 8192, 1024]⟩
abbrev S1024 : Shape := ⟨1, ![1024]⟩
abbrev S1024x2120 : Shape := ⟨2, ![1024, 2120]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S2x8192x2120 : Shape := ⟨3, ![2, 8192, 2120]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x4x64 : Shape := ⟨4, ![2, 8192, 4, 64]⟩
abbrev S2x8192x4x32 : Shape := ⟨4, ![2, 8192, 4, 32]⟩
abbrev S2x8192x8x64 : Shape := ⟨4, ![2, 8192, 8, 64]⟩
abbrev S2x8192x8x32 : Shape := ⟨4, ![2, 8192, 8, 32]⟩
abbrev S2x8192x1x64 : Shape := ⟨4, ![2, 8192, 1, 64]⟩
abbrev S2x8192x1x32 : Shape := ⟨4, ![2, 8192, 1, 32]⟩
abbrev S16384x1024 : Shape := ⟨2, ![16384, 1024]⟩
abbrev S16384x256 : Shape := ⟨2, ![16384, 256]⟩
abbrev S256x16384 : Shape := ⟨2, ![256, 16384]⟩
abbrev S16384x512 : Shape := ⟨2, ![16384, 512]⟩
abbrev S16384x64 : Shape := ⟨2, ![16384, 64]⟩
abbrev S64x16384 : Shape := ⟨2, ![64, 16384]⟩
abbrev S16384x8 : Shape := ⟨2, ![16384, 8]⟩

abbrev nBuf : Space → Nat
  | .hbm => 195
  | .vmem => 0
  | .smem => 0
  | _ => 0

abbrev hbmTy0_0 (i : Nat) : BufTy := match i % 128 with
  | 0 => ⟨S2x8192x1024, .f32⟩
  | 1 => ⟨S1024, .f32⟩
  | 2 => ⟨S1024x2120, .f32⟩
  | 3 => ⟨S2x8192x1024, .f32⟩
  | 4 => ⟨S_, .f32⟩
  | 5 => ⟨S2x8192, .f32⟩
  | 6 => ⟨S2x8192x1, .f32⟩
  | 7 => ⟨S_, .f32⟩
  | 8 => ⟨S2x8192x1, .f32⟩
  | 9 => ⟨S2x8192x1, .f32⟩
  | 10 => ⟨S_, .f32⟩
  | 11 => ⟨S2x8192x1, .f32⟩
  | 12 => ⟨S2x8192x1, .f32⟩
  | 13 => ⟨S2x8192x1, .f32⟩
  | 14 => ⟨S2x8192x1024, .f32⟩
  | 15 => ⟨S2x8192x1024, .f32⟩
  | 16 => ⟨S1x1x1024, .f32⟩
  | 17 => ⟨S2x8192x1024, .f32⟩
  | 18 => ⟨S2x8192x1024, .f32⟩
  | 19 => ⟨S8192, .i32⟩
  | 20 => ⟨S2x8192x2120, .f32⟩
  | 21 => ⟨S2x8192x1024, .f32⟩
  | 22 => ⟨S2x8192x256, .f32⟩
  | 23 => ⟨S2x8192x256, .f32⟩
  | 24 => ⟨S2x8192x512, .f32⟩
  | 25 => ⟨S2x8192x64, .f32⟩
  | 26 => ⟨S2x8192x8, .f32⟩
  | 27 => ⟨S2x8192x16x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S8192, .f32⟩
  | 37 => ⟨S8192x1, .f32⟩
  | 38 => ⟨S1x32, .f32⟩
  | 39 => ⟨S8192x32, .f32⟩
  | 40 => ⟨S8192x32, .f32⟩
  | 41 => ⟨S8192x32, .f32⟩
  | 42 => ⟨S8192x32, .f32⟩
  | 43 => ⟨S8192x1x32, .f32⟩
  | 44 => ⟨S8192x32, .f32⟩
  | 45 => ⟨S8192x1x32, .f32⟩
  | 46 => ⟨S2x8192x16x32, .f32⟩
  | 47 => ⟨S2x8192x16x32, .f32⟩
  | 48 => ⟨S1x8192x1x32, .f32⟩
  | 49 => ⟨S2x8192x16x32, .f32⟩
  | 50 => ⟨S2x8192x16x32, .f32⟩
  | 51 => ⟨S1x8192x1x32, .f32⟩
  | 52 => ⟨S2x8192x16x32, .f32⟩
  | 53 => ⟨S2x8192x16x32, .f32⟩
  | 54 => ⟨S2x8192x16x32, .f32⟩
  | 55 => ⟨S1x8192x1x32, .f32⟩
  | 56 => ⟨S2x8192x16x32, .f32⟩
  | 57 => ⟨S2x8192x16x32, .f32⟩
  | 58 => ⟨S1x8192x1x32, .f32⟩
  | 59 => ⟨S2x8192x16x32, .f32⟩
  | 60 => ⟨S2x8192x16x32, .f32⟩
  | 61 => ⟨S2x8192x16x32, .f32⟩
  | 62 => ⟨S2x8192x16x64, .f32⟩
  | 63 => ⟨S2x8192x4x64, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S8192, .f32⟩
  | 73 => ⟨S8192x1, .f32⟩
  | 74 => ⟨S1x32, .f32⟩
  | 75 => ⟨S8192x32, .f32⟩
  | 76 => ⟨S8192x32, .f32⟩
  | 77 => ⟨S8192x32, .f32⟩
  | 78 => ⟨S8192x32, .f32⟩
  | 79 => ⟨S8192x1x32, .f32⟩
  | 80 => ⟨S8192x32, .f32⟩
  | 81 => ⟨S8192x1x32, .f32⟩
  | 82 => ⟨S2x8192x4x32, .f32⟩
  | 83 => ⟨S2x8192x4x32, .f32⟩
  | 84 => ⟨S1x8192x1x32, .f32⟩
  | 85 => ⟨S2x8192x4x32, .f32⟩
  | 86 => ⟨S2x8192x4x32, .f32⟩
  | 87 => ⟨S1x8192x1x32, .f32⟩
  | 88 => ⟨S2x8192x4x32, .f32⟩
  | 89 => ⟨S2x8192x4x32, .f32⟩
  | 90 => ⟨S2x8192x4x32, .f32⟩
  | 91 => ⟨S1x8192x1x32, .f32⟩
  | 92 => ⟨S2x8192x4x32, .f32⟩
  | 93 => ⟨S2x8192x4x32, .f32⟩
  | 94 => ⟨S1x8192x1x32, .f32⟩
  | 95 => ⟨S2x8192x4x32, .f32⟩
  | 96 => ⟨S2x8192x4x32, .f32⟩
  | 97 => ⟨S2x8192x4x32, .f32⟩
  | 98 => ⟨S2x8192x4x64, .f32⟩
  | 99 => ⟨S2x8192x4x64, .f32⟩
  | 100 => ⟨S2x8192x8x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S8192, .f32⟩
  | 110 => ⟨S8192x1, .f32⟩
  | 111 => ⟨S1x32, .f32⟩
  | 112 => ⟨S8192x32, .f32⟩
  | 113 => ⟨S8192x32, .f32⟩
  | 114 => ⟨S8192x32, .f32⟩
  | 115 => ⟨S8192x32, .f32⟩
  | 116 => ⟨S8192x1x32, .f32⟩
  | 117 => ⟨S8192x32, .f32⟩
  | 118 => ⟨S8192x1x32, .f32⟩
  | 119 => ⟨S2x8192x8x32, .f32⟩
  | 120 => ⟨S2x8192x8x32, .f32⟩
  | 121 => ⟨S1x8192x1x32, .f32⟩
  | 122 => ⟨S2x8192x8x32, .f32⟩
  | 123 => ⟨S2x8192x8x32, .f32⟩
  | 124 => ⟨S1x8192x1x32, .f32⟩
  | 125 => ⟨S2x8192x8x32, .f32⟩
  | 126 => ⟨S2x8192x8x32, .f32⟩
  | 127 => ⟨S2x8192x8x32, .f32⟩
  | _ => ⟨S2x8192x1024, .f32⟩

abbrev hbmTy0_1 (i : Nat) : BufTy := match i % 128 with
  | 0 => ⟨S1x8192x1x32, .f32⟩
  | 1 => ⟨S2x8192x8x32, .f32⟩
  | 2 => ⟨S2x8192x8x32, .f32⟩
  | 3 => ⟨S1x8192x1x32, .f32⟩
  | 4 => ⟨S2x8192x8x32, .f32⟩
  | 5 => ⟨S2x8192x8x32, .f32⟩
  | 6 => ⟨S2x8192x8x32, .f32⟩
  | 7 => ⟨S2x8192x8x64, .f32⟩
  | 8 => ⟨S2x8192x1x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S8192, .f32⟩
  | 18 => ⟨S8192x1, .f32⟩
  | 19 => ⟨S1x32, .f32⟩
  | 20 => ⟨S8192x32, .f32⟩
  | 21 => ⟨S8192x32, .f32⟩
  | 22 => ⟨S8192x32, .f32⟩
  | 23 => ⟨S8192x32, .f32⟩
  | 24 => ⟨S8192x1x32, .f32⟩
  | 25 => ⟨S8192x32, .f32⟩
  | 26 => ⟨S8192x1x32, .f32⟩
  | 27 => ⟨S2x8192x1x32, .f32⟩
  | 28 => ⟨S2x8192x1x32, .f32⟩
  | 29 => ⟨S1x8192x1x32, .f32⟩
  | 30 => ⟨S2x8192x1x32, .f32⟩
  | 31 => ⟨S2x8192x1x32, .f32⟩
  | 32 => ⟨S1x8192x1x32, .f32⟩
  | 33 => ⟨S2x8192x1x32, .f32⟩
  | 34 => ⟨S2x8192x1x32, .f32⟩
  | 35 => ⟨S2x8192x1x32, .f32⟩
  | 36 => ⟨S1x8192x1x32, .f32⟩
  | 37 => ⟨S2x8192x1x32, .f32⟩
  | 38 => ⟨S2x8192x1x32, .f32⟩
  | 39 => ⟨S1x8192x1x32, .f32⟩
  | 40 => ⟨S2x8192x1x32, .f32⟩
  | 41 => ⟨S2x8192x1x32, .f32⟩
  | 42 => ⟨S2x8192x1x32, .f32⟩
  | 43 => ⟨S2x8192x1x64, .f32⟩
  | 44 => ⟨S2x8192x64, .f32⟩
  | 45 => ⟨S_, .f32⟩
  | 46 => ⟨S2x8192x8, .f32⟩
  | 47 => ⟨S2x8192x8, .f32⟩
  | 48 => ⟨S_, .f32⟩
  | 49 => ⟨S2x8192x16x64, .f32⟩
  | 50 => ⟨S2x8192x16x64, .f32⟩
  | 51 => ⟨S16384x1024, .f32⟩
  | 52 => ⟨S16384x1024, .bf16⟩
  | 53 => ⟨S16384x256, .f32⟩
  | 54 => ⟨S16384x256, .f32⟩
  | 55 => ⟨S256x16384, .f32⟩
  | 56 => ⟨S256x16384, .bf16⟩
  | 57 => ⟨S16384x256, .f32⟩
  | 58 => ⟨S16384x256, .f32⟩
  | 59 => ⟨S16384x256, .bf16⟩
  | 60 => ⟨S16384x512, .f32⟩
  | 61 => ⟨S16384x512, .bf16⟩
  | 62 => ⟨S16384x64, .f32⟩
  | 63 => ⟨S16384x64, .f32⟩
  | 64 => ⟨S64x16384, .f32⟩
  | 65 => ⟨S64x16384, .bf16⟩
  | 66 => ⟨S16384x8, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_6 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_cst_8 : Ref sig .tc := ⟨.hbm, 139, rfl⟩
abbrev main_v127 : Ref sig .tc := ⟨.hbm, 140, rfl⟩
abbrev main_v128 : Ref sig .tc := ⟨.hbm, 141, rfl⟩
abbrev main_cst_9 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_cst_10 : Ref sig .tc := ⟨.hbm, 173, rfl⟩
abbrev main_v159 : Ref sig .tc := ⟨.hbm, 174, rfl⟩
abbrev main_v160 : Ref sig .tc := ⟨.hbm, 175, rfl⟩
abbrev main_cst_11 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩

abbrev nD : Nat := 1
abbrev τ : Topo := Topo.v7x

variable {F : FTy → Type} [FloatOps F]
-- ==== Kernel9.lean ====
abbrev S2x8192x1024 : Shape := ⟨3, ![2, 8192, 1024]⟩
abbrev S1024 : Shape := ⟨1, ![1024]⟩
abbrev S1024x1840 : Shape := ⟨2, ![1024, 1840]⟩
abbrev S8192 : Shape := ⟨1, ![8192]⟩
abbrev S16384x1024 : Shape := ⟨2, ![16384, 1024]⟩
abbrev S1024x1024 : Shape := ⟨2, ![1024, 1024]⟩
abbrev S1024x128 : Shape := ⟨2, ![1024, 128]⟩
abbrev S1024x48 : Shape := ⟨2, ![1024, 48]⟩
abbrev S1x8192 : Shape := ⟨2, ![1, 8192]⟩
abbrev S2x8192 : Shape := ⟨2, ![2, 8192]⟩
abbrev S16384 : Shape := ⟨1, ![16384]⟩
abbrev S_ : Shape := ⟨0, ![]⟩
abbrev S1024x1920 : Shape := ⟨2, ![1024, 1920]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S128x16384 : Shape := ⟨2, ![128, 16384]⟩
abbrev S16384x48 : Shape := ⟨2, ![16384, 48]⟩
abbrev S512x1024 : Shape := ⟨2, ![512, 1024]⟩
abbrev S512x128 : Shape := ⟨2, ![512, 128]⟩
abbrev S128x512 : Shape := ⟨2, ![128, 512]⟩
abbrev S512x48 : Shape := ⟨2, ![512, 48]⟩
abbrev S512 : Shape := ⟨1, ![512]⟩
abbrev S512x1 : Shape := ⟨2, ![512, 1]⟩

abbrev nBuf : Space → Nat
  | .hbm => 87
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1840, .f32⟩
  | .hbm, ⟨3, _⟩ => ⟨S8192, .i32⟩
  | .hbm, ⟨4, _⟩ => ⟨S16384x1024, .f32⟩
  | .hbm, ⟨5, _⟩ => ⟨S1024x1024, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x48, .f32⟩
  | .hbm, ⟨13, _⟩ => ⟨S1x8192, .i32⟩
  | .hbm, ⟨14, _⟩ => ⟨S2x8192, .i32⟩
  | .hbm, ⟨15, _⟩ => ⟨S16384, .i32⟩
  | .hbm, ⟨16, _⟩ => ⟨S1024x1024, .bf16⟩
  | .hbm, ⟨17, _⟩ => ⟨S_, .i32⟩
  | .hbm, ⟨18, _⟩ => ⟨S_, .bf16⟩
  | .hbm, ⟨19, _⟩ => ⟨S1024x1024, .bf16⟩
  | .hbm, ⟨20, _⟩ => ⟨S1024x128, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S1024x128, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S1024x128, .bf16⟩
  | .hbm, ⟨29, _⟩ => ⟨S_, .i32⟩
  | .hbm, ⟨30, _⟩ => ⟨S_, .bf16⟩
  | .hbm, ⟨31, _⟩ => ⟨S1024x128, .bf16⟩
  | .hbm, ⟨32, _⟩ => ⟨S1024x128, .bf16⟩
  | .hbm, ⟨33, _⟩ => ⟨S_, .i32⟩
  | .hbm, ⟨34, _⟩ => ⟨S_, .bf16⟩
  | .hbm, ⟨35, _⟩ => ⟨S1024x128, .bf16⟩
  | .hbm, ⟨36, _⟩ => ⟨S1024x128, .bf16⟩
  | .hbm, ⟨37, _⟩ => ⟨S_, .i32⟩
  | .hbm, ⟨38, _⟩ => ⟨S_, .bf16⟩
  | .hbm, ⟨39, _⟩ => ⟨S1024x128, .bf16⟩
  | .hbm, ⟨40, _⟩ => ⟨S1024x128, .bf16⟩
  | .hbm, ⟨41, _⟩ => ⟨S_, .i32⟩
  | .hbm, ⟨42, _⟩ => ⟨S_, .bf16⟩
  | .hbm, ⟨43, _⟩ => ⟨S1024x128, .bf16⟩
  | .hbm, ⟨44, _⟩ => ⟨S1024x48, .bf16⟩
  | .hbm, ⟨45, _⟩ => ⟨S_, .i32⟩
  | .hbm, ⟨46, _⟩ => ⟨S_, .bf16⟩
  | .hbm, ⟨47, _⟩ => ⟨S1024x128, .bf16⟩
  | .hbm, ⟨48, _⟩ => ⟨S1024x1920, .bf16⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S16384, .f32⟩
  | .hbm, ⟨58, _⟩ => ⟨S16384x1, .f32⟩
  | .hbm, ⟨59, _⟩ => ⟨S1x32, .f32⟩
  | .hbm, ⟨60, _⟩ => ⟨S16384x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S16384x64, .f32⟩
  | .hbm, ⟨66, _⟩ => ⟨S1x16384x1x64, .f32⟩
  | .hbm, ⟨67, _⟩ => ⟨S1x16384x2x64, .f32⟩
  | .hbm, ⟨68, _⟩ => ⟨S16384x128, .f32⟩
  | .hbm, ⟨69, _⟩ => ⟨S16384x32, .f32⟩
  | .hbm, ⟨70, _⟩ => ⟨S16384x64, .f32⟩
  | .hbm, ⟨71, _⟩ => ⟨S1x16384x1x64, .f32⟩
  | .hbm, ⟨72, _⟩ => ⟨S1x16384x2x64, .f32⟩
  | .hbm, ⟨73, _⟩ => ⟨S16384x128, .f32⟩
  | .hbm, ⟨74, _⟩ => ⟨S1x1024, .f32⟩
  | .hbm, ⟨75, _⟩ => ⟨S16384x1024, .bf16⟩
  | .hbm, ⟨76, _⟩ => ⟨S16384x128, .f32⟩
  | .hbm, ⟨77, _⟩ => ⟨S16384x128, .f32⟩
  | .hbm, ⟨78, _⟩ => ⟨S16384x128, .f32⟩
  | .hbm, ⟨79, _⟩ => ⟨S128x16384, .bf16⟩
  | .hbm, ⟨80, _⟩ => ⟨S16384x128, .f32⟩
  | .hbm, ⟨81, _⟩ => ⟨S16384x128, .bf16⟩
  | .hbm, ⟨82, _⟩ => ⟨S16384x128, .f32⟩
  | .hbm, ⟨83, _⟩ => ⟨S128x16384, .bf16⟩
  | .hbm, ⟨84, _⟩ => ⟨S16384x128, .f32⟩
  | .hbm, ⟨85, _⟩ => ⟨S16384x128, .bf16⟩
  | .hbm, ⟨86, _⟩ => ⟨S16384x48, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1920, .bf16⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S128x512, .bf16⟩
  | .local _ .vmem, ⟨17, _⟩ => ⟨S128x512, .bf16⟩
  | .local _ .vmem, ⟨18, _⟩ => ⟨S512x128, .f32⟩
  | .local _ .vmem, ⟨19, _⟩ => ⟨S512x128, .f32⟩
  | .local _ .vmem, ⟨20, _⟩ => ⟨S512x128, .bf16⟩
  | .local _ .vmem, ⟨21, _⟩ => ⟨S512x128, .bf16⟩
  | .local _ .vmem, ⟨22, _⟩ => ⟨S512x128, .f32⟩
  | .local _ .vmem, ⟨23, _⟩ => ⟨S512x128, .f32⟩
  | .local _ .vmem, ⟨24, _⟩ => ⟨S128x512, .bf16⟩
  | .local _ .vmem, ⟨25, _⟩ => ⟨S128x512, .bf16⟩
  | .local _ .vmem, ⟨26, _⟩ => ⟨S512x128, .f32⟩
  | .local _ .vmem, ⟨27, _⟩ => ⟨S512x128, .f32⟩
  | .local _ .vmem, ⟨28, _⟩ => ⟨S512x128, .bf16⟩
  | .local _ .vmem, ⟨29, _⟩ => ⟨S512x128, .bf16⟩
  | .local _ .vmem, ⟨30, _⟩ => ⟨S512x48, .f32⟩
  | .local _ .vmem, ⟨31, _⟩ => ⟨S512x48, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call2_v0 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call4_v0 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_call5_v0 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call6_v0 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_call7_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_v54_3 : Ref sig .tc := ⟨.hbm, 78, rfl⟩
abbrev main_v54_4 : Ref sig .tc := ⟨.hbm, 79, rfl⟩
abbrev main_v54_5 : Ref sig .tc := ⟨.hbm, 80, rfl⟩
abbrev main_v54_6 : Ref sig .tc := ⟨.hbm, 81, rfl⟩
abbrev main_v54_7 : Ref sig .tc := ⟨.hbm, 82, rfl⟩
abbrev main_v54_8 : Ref sig .tc := ⟨.hbm, 83, rfl⟩
abbrev main_v54_9 : Ref sig .tc := ⟨.hbm, 84, rfl⟩
abbrev main_v54_10 : Ref sig .tc := ⟨.hbm, 85, rfl⟩
abbrev main_v54_11 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x48 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference9Ideal.lean ====
abbrev S2x8192x1024 : Shape := ⟨3, ![2, 8192, 1024]⟩
abbrev S1024 : Shape := ⟨1, ![1024]⟩
abbrev S1024x1840 : Shape := ⟨2, ![1024, 1840]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S8192 : Shape := ⟨1, ![8192]⟩
abbrev S2x8192x1840 : Shape := ⟨3, ![2, 8192, 1840]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x768 : Shape := ⟨3, ![2, 8192, 768]⟩
abbrev S2x8192x6x2x64 : Shape := ⟨5, ![2, 8192, 6, 2, 64]⟩
abbrev S2x8192x48 : Shape := ⟨3, ![2, 8192, 48]⟩
abbrev S2x8192x1x2x64 : Shape := ⟨5, ![2, 8192, 1, 2, 64]⟩
abbrev S2x8192x2x64 : Shape := ⟨4, ![2, 8192, 2, 64]⟩
abbrev S2x8192x2x32 : Shape := ⟨4, ![2, 8192, 2, 32]⟩
abbrev S16384x1024 : Shape := ⟨2, ![16384, 1024]⟩
abbrev S16384x128 : Shape := ⟨2, ![16384, 128]⟩
abbrev S128x16384 : Shape := ⟨2, ![128, 16384]⟩
abbrev S16384x48 : Shape := ⟨2, ![16384, 48]⟩

abbrev nBuf : Space → Nat
  | .hbm => 200
  | .vmem => 0
  | .smem => 0
  | _ => 0

abbrev hbmTy0_0 (i : Nat) : BufTy := match i % 128 with
  | 0 => ⟨S2x8192x1024, .f32⟩
  | 1 => ⟨S1024, .f32⟩
  | 2 => ⟨S1024x1840, .f32⟩
  | 3 => ⟨S2x8192x1024, .f32⟩
  | 4 => ⟨S_, .f32⟩
  | 5 => ⟨S2x8192, .f32⟩
  | 6 => ⟨S2x8192x1, .f32⟩
  | 7 => ⟨S_, .f32⟩
  | 8 => ⟨S2x8192x1, .f32⟩
  | 9 => ⟨S2x8192x1, .f32⟩
  | 10 => ⟨S_, .f32⟩
  | 11 => ⟨S2x8192x1, .f32⟩
  | 12 => ⟨S2x8192x1, .f32⟩
  | 13 => ⟨S2x8192x1, .f32⟩
  | 14 => ⟨S2x8192x1024, .f32⟩
  | 15 => ⟨S2x8192x1024, .f32⟩
  | 16 => ⟨S1x1x1024, .f32⟩
  | 17 => ⟨S2x8192x1024, .f32⟩
  | 18 => ⟨S2x8192x1024, .f32⟩
  | 19 => ⟨S8192, .i32⟩
  | 20 => ⟨S2x8192x1840, .f32⟩
  | 21 => ⟨S2x8192x1024, .f32⟩
  | 22 => ⟨S2x8192x16x64, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S8192, .f32⟩
  | 32 => ⟨S8192x1, .f32⟩
  | 33 => ⟨S1x32, .f32⟩
  | 34 => ⟨S8192x32, .f32⟩
  | 35 => ⟨S8192x32, .f32⟩
  | 36 => ⟨S8192x32, .f32⟩
  | 37 => ⟨S8192x32, .f32⟩
  | 38 => ⟨S8192x1x32, .f32⟩
  | 39 => ⟨S8192x32, .f32⟩
  | 40 => ⟨S8192x1x32, .f32⟩
  | 41 => ⟨S2x8192x16x32, .f32⟩
  | 42 => ⟨S2x8192x16x32, .f32⟩
  | 43 => ⟨S1x8192x1x32, .f32⟩
  | 44 => ⟨S2x8192x16x32, .f32⟩
  | 45 => ⟨S2x8192x16x32, .f32⟩
  | 46 => ⟨S1x8192x1x32, .f32⟩
  | 47 => ⟨S2x8192x16x32, .f32⟩
  | 48 => ⟨S2x8192x16x32, .f32⟩
  | 49 => ⟨S2x8192x16x32, .f32⟩
  | 50 => ⟨S1x8192x1x32, .f32⟩
  | 51 => ⟨S2x8192x16x32, .f32⟩
  | 52 => ⟨S2x8192x16x32, .f32⟩
  | 53 => ⟨S1x8192x1x32, .f32⟩
  | 54 => ⟨S2x8192x16x32, .f32⟩
  | 55 => ⟨S2x8192x16x32, .f32⟩
  | 56 => ⟨S2x8192x16x32, .f32⟩
  | 57 => ⟨S2x8192x16x64, .f32⟩
  | 58 => ⟨S2x8192x768, .f32⟩
  | 59 => ⟨S2x8192x6x2x64, .f32⟩
  | 60 => ⟨S2x8192x48, .f32⟩
  | 61 => ⟨S2x8192x1x2x64, .f32⟩
  | 62 => ⟨S2x8192x2x64, .f32⟩
  | 63 => ⟨S2x8192x1x2x64, .f32⟩
  | 64 => ⟨S2x8192x2x64, .f32⟩
  | 65 => ⟨S2x8192x1x2x64, .f32⟩
  | 66 => ⟨S2x8192x2x64, .f32⟩
  | 67 => ⟨S2x8192x1x2x64, .f32⟩
  | 68 => ⟨S2x8192x2x64, .f32⟩
  | 69 => ⟨S2x8192x1x2x64, .f32⟩
  | 70 => ⟨S2x8192x2x64, .f32⟩
  | 71 => ⟨S2x8192x1x2x64, .f32⟩
  | 72 => ⟨S2x8192x2x64, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S8192, .f32⟩
  | 82 => ⟨S8192x1, .f32⟩
  | 83 => ⟨S1x32, .f32⟩
  | 84 => ⟨S8192x32, .f32⟩
  | 85 => ⟨S8192x32, .f32⟩
  | 86 => ⟨S8192x32, .f32⟩
  | 87 => ⟨S8192x32, .f32⟩
  | 88 => ⟨S8192x1x32, .f32⟩
  | 89 => ⟨S8192x32, .f32⟩
  | 90 => ⟨S8192x1x32, .f32⟩
  | 91 => ⟨S2x8192x2x32, .f32⟩
  | 92 => ⟨S2x8192x2x32, .f32⟩
  | 93 => ⟨S1x8192x1x32, .f32⟩
  | 94 => ⟨S2x8192x2x32, .f32⟩
  | 95 => ⟨S2x8192x2x32, .f32⟩
  | 96 => ⟨S1x8192x1x32, .f32⟩
  | 97 => ⟨S2x8192x2x32, .f32⟩
  | 98 => ⟨S2x8192x2x32, .f32⟩
  | 99 => ⟨S2x8192x2x32, .f32⟩
  | 100 => ⟨S1x8192x1x32, .f32⟩
  | 101 => ⟨S2x8192x2x32, .f32⟩
  | 102 => ⟨S2x8192x2x32, .f32⟩
  | 103 => ⟨S1x8192x1x32, .f32⟩
  | 104 => ⟨S2x8192x2x32, .f32⟩
  | 105 => ⟨S2x8192x2x32, .f32⟩
  | 106 => ⟨S2x8192x2x32, .f32⟩
  | 107 => ⟨S2x8192x2x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S8192, .f32⟩
  | 117 => ⟨S8192x1, .f32⟩
  | 118 => ⟨S1x32, .f32⟩
  | 119 => ⟨S8192x32, .f32⟩
  | 120 => ⟨S8192x32, .f32⟩
  | 121 => ⟨S8192x32, .f32⟩
  | 122 => ⟨S8192x32, .f32⟩
  | 123 => ⟨S8192x1x32, .f32⟩
  | 124 => ⟨S8192x32, .f32⟩
  | 125 => ⟨S8192x1x32, .f32⟩
  | 126 => ⟨S2x8192x2x32, .f32⟩
  | 127 => ⟨S2x8192x2x32, .f32⟩
  | _ => ⟨S2x8192x1024, .f32⟩

abbrev hbmTy0_1 (i : Nat) : BufTy := match i % 128 with
  | 0 => ⟨S1x8192x1x32, .f32⟩
  | 1 => ⟨S2x8192x2x32, .f32⟩
  | 2 => ⟨S2x8192x2x32, .f32⟩
  | 3 => ⟨S1x8192x1x32, .f32⟩
  | 4 => ⟨S2x8192x2x32, .f32⟩
  | 5 => ⟨S2x8192x2x32, .f32⟩
  | 6 => ⟨S2x8192x2x32, .f32⟩
  | 7 => ⟨S1x8192x1x32, .f32⟩
  | 8 => ⟨S2x8192x2x32, .f32⟩
  | 9 => ⟨S2x8192x2x32, .f32⟩
  | 10 => ⟨S1x8192x1x32, .f32⟩
  | 11 => ⟨S2x8192x2x32, .f32⟩
  | 12 => ⟨S2x8192x2x32, .f32⟩
  | 13 => ⟨S2x8192x2x32, .f32⟩
  | 14 => ⟨S2x8192x2x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8192, .f32⟩
  | 24 => ⟨S8192x1, .f32⟩
  | 25 => ⟨S1x32, .f32⟩
  | 26 => ⟨S8192x32, .f32⟩
  | 27 => ⟨S8192x32, .f32⟩
  | 28 => ⟨S8192x32, .f32⟩
  | 29 => ⟨S8192x32, .f32⟩
  | 30 => ⟨S8192x1x32, .f32⟩
  | 31 => ⟨S8192x32, .f32⟩
  | 32 => ⟨S8192x1x32, .f32⟩
  | 33 => ⟨S2x8192x2x32, .f32⟩
  | 34 => ⟨S2x8192x2x32, .f32⟩
  | 35 => ⟨S1x8192x1x32, .f32⟩
  | 36 => ⟨S2x8192x2x32, .f32⟩
  | 37 => ⟨S2x8192x2x32, .f32⟩
  | 38 => ⟨S1x8192x1x32, .f32⟩
  | 39 => ⟨S2x8192x2x32, .f32⟩
  | 40 => ⟨S2x8192x2x32, .f32⟩
  | 41 => ⟨S2x8192x2x32, .f32⟩
  | 42 => ⟨S1x8192x1x32, .f32⟩
  | 43 => ⟨S2x8192x2x32, .f32⟩
  | 44 => ⟨S2x8192x2x32, .f32⟩
  | 45 => ⟨S1x8192x1x32, .f32⟩
  | 46 => ⟨S2x8192x2x32, .f32⟩
  | 47 => ⟨S2x8192x2x32, .f32⟩
  | 48 => ⟨S2x8192x2x32, .f32⟩
  | 49 => ⟨S2x8192x2x64, .f32⟩
  | 50 => ⟨S_, .f32⟩
  | 51 => ⟨S2x8192x16x64, .f32⟩
  | 52 => ⟨S2x8192x16x64, .f32⟩
  | 53 => ⟨S16384x1024, .f32⟩
  | 54 => ⟨S16384x1024, .bf16⟩
  | 55 => ⟨S16384x128, .f32⟩
  | 56 => ⟨S16384x128, .f32⟩
  | 57 => ⟨S16384x128, .f32⟩
  | 58 => ⟨S16384x128, .f32⟩
  | 59 => ⟨S128x16384, .f32⟩
  | 60 => ⟨S128x16384, .bf16⟩
  | 61 => ⟨S16384x128, .f32⟩
  | 62 => ⟨S16384x128, .f32⟩
  | 63 => ⟨S16384x128, .bf16⟩
  | 64 => ⟨S16384x128, .f32⟩
  | 65 => ⟨S16384x128, .f32⟩
  | 66 => ⟨S128x16384, .f32⟩
  | 67 => ⟨S128x16384, .bf16⟩
  | 68 => ⟨S16384x128, .f32⟩
  | 69 => ⟨S16384x128, .f32⟩
  | 70 => ⟨S16384x128, .bf16⟩
  | 71 => ⟨S16384x48, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_4 : Ref sig .tc := ⟨.hbm, 75, rfl⟩
abbrev main_v67 : Ref sig .tc := ⟨.hbm, 76, rfl⟩
abbrev main_v68 : Ref sig .tc := ⟨.hbm, 77, rfl⟩
abbrev main_cst_5 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_cst_6 : Ref sig .tc := ⟨.hbm, 110, rfl⟩
abbrev main_v100 : Ref sig .tc := ⟨.hbm, 111, rfl⟩
abbrev main_v101 : Ref sig .tc := ⟨.hbm, 112, rfl⟩
abbrev main_cst_7 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_cst_8 : Ref sig .tc := ⟨.hbm, 145, rfl⟩
abbrev main_v133 : Ref sig .tc := ⟨.hbm, 146, rfl⟩
abbrev main_v134 : Ref sig .tc := ⟨.hbm, 147, rfl⟩
abbrev main_cst_9 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_cst_10 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩

abbrev nD : Nat := 1
abbrev τ : Topo := Topo.v7x

variable {F : FTy → Type} [FloatOps F]
-- ==== Kernel10.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S_ : Shape := ⟨0, ![]⟩
abbrev S2x3x3072 : Shape := ⟨3, ![2, 3, 3072]⟩
abbrev S2x32x64x128 : Shape := ⟨4, ![2, 32, 64, 128]⟩
abbrev S2x8x3072 : Shape := ⟨3, ![2, 8, 3072]⟩
abbrev S32x64 : Shape := ⟨2, ![32, 64]⟩
abbrev S2048 : Shape := ⟨1, ![2048]⟩
abbrev S1x2048 : Shape := ⟨2, ![1, 2048]⟩
abbrev S1x3072 : Shape := ⟨2, ![1, 3072]⟩
abbrev S1x32 : Shape := ⟨2, ![1, 32]⟩
abbrev S128x2048 : Shape := ⟨2, ![128, 2048]⟩
abbrev S128x3072 : Shape := ⟨2, ![128, 3072]⟩
abbrev S128x32 : Shape := ⟨2, ![128, 32]⟩
abbrev S1x8x3072 : Shape := ⟨3, ![1, 8, 3072]⟩
abbrev S1x32x64x128 : Shape := ⟨4, ![1, 32, 64, 128]⟩
abbrev S8x3072 : Shape := ⟨2, ![8, 3072]⟩
abbrev S16x128x128 : Shape := ⟨3, ![16, 128, 128]⟩
abbrev S1x1x64x128 : Shape := ⟨4, ![1, 1, 64, 128]⟩
abbrev S64x128 : Shape := ⟨2, ![64, 128]⟩
abbrev S128x128 : Shape := ⟨2, ![128, 128]⟩
abbrev S128x64 : Shape := ⟨2, ![128, 64]⟩
abbrev S1x128x128 : Shape := ⟨3, ![1, 128, 128]⟩
abbrev S127x3072 : Shape := ⟨2, ![127, 3072]⟩
abbrev S2x3072 : Shape := ⟨2, ![2, 3072]⟩
abbrev S126x3072 : Shape := ⟨2, ![126, 3072]⟩
abbrev S3x3072 : Shape := ⟨2, ![3, 3072]⟩
abbrev S125x3072 : Shape := ⟨2, ![125, 3072]⟩
abbrev S128x512 : Shape := ⟨2, ![128, 512]⟩
abbrev S127x32 : Shape := ⟨2, ![127, 32]⟩
abbrev S2x32 : Shape := ⟨2, ![2, 32]⟩
abbrev S126x32 : Shape := ⟨2, ![126, 32]⟩
abbrev S4x32 : Shape := ⟨2, ![4, 32]⟩
abbrev S124x32 : Shape := ⟨2, ![124, 32]⟩
abbrev S8x32 : Shape := ⟨2, ![8, 32]⟩
abbrev S120x32 : Shape := ⟨2, ![120, 32]⟩
abbrev S16x32 : Shape := ⟨2, ![16, 32]⟩
abbrev S112x32 : Shape := ⟨2, ![112, 32]⟩
abbrev S32x32 : Shape := ⟨2, ![32, 32]⟩
abbrev S96x32 : Shape := ⟨2, ![96, 32]⟩
abbrev S64x32 : Shape := ⟨2, ![64, 32]⟩
abbrev S128x96 : Shape := ⟨2, ![128, 96]⟩
abbrev S32x2048 : Shape := ⟨2, ![32, 2048]⟩
abbrev S128x1 : Shape := ⟨2, ![128, 1]⟩
abbrev S1x128 : Shape := ⟨2, ![1, 128]⟩
abbrev S256x128 : Shape := ⟨2, ![256, 128]⟩
abbrev S128x256 : Shape := ⟨2, ![128, 256]⟩

abbrev nBuf : Space → Nat
  | .hbm => 23
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S16384x3072, .f32⟩
  | .hbm, ⟨2, _⟩ => ⟨S16384x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S2x3x3072, .f32⟩
  | .hbm, ⟨10, _⟩ => ⟨S_, .f32⟩
  | .hbm, ⟨11, _⟩ => ⟨S2x32x64x128, .f32⟩
  | .hbm, ⟨12, _⟩ => ⟨S_, .i32⟩
  | .hbm, ⟨13, _⟩ => ⟨S_, .f32⟩
  | .hbm, ⟨14, _⟩ => ⟨S2x8x3072, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S1x3072, .f32⟩
  | .hbm, ⟨19, _⟩ => ⟨S1x32, .f32⟩
  | .hbm, ⟨20, _⟩ => ⟨S1x32, .f32⟩
  | .hbm, ⟨21, _⟩ => ⟨S16384x2048, .f32⟩
  | .hbm, ⟨22, _⟩ => ⟨S2x32x64x128, .f32⟩
  | .local _ .vmem, ⟨0, _⟩ => ⟨S128x2048, .f32⟩
  | .local _ .vmem, ⟨1, _⟩ => ⟨S128x2048, .f32⟩
  | .local _ .vmem, ⟨2, _⟩ => ⟨S128x3072, .f32⟩
  | .local _ .vmem, ⟨3, _⟩ => ⟨S128x3072, .f32⟩
  | .local _ .vmem, ⟨4, _⟩ => ⟨S128x32, .f32⟩
  | .local _ .vmem, ⟨5, _⟩ => ⟨S128x32, .f32⟩
  | .local _ .vmem, ⟨6, _⟩ => ⟨S4x3072, .f32⟩
  | .local _ .vmem, ⟨7, _⟩ => ⟨S1x3072, .f32⟩
  | .local _ .vmem, ⟨8, _⟩ => ⟨S1x32, .f32⟩
  | .local _ .vmem, ⟨9, _⟩ => ⟨S1x32, .f32⟩
  | .local _ .vmem, ⟨10, _⟩ => ⟨S1x2048, .f32⟩
  | .local _ .vmem, ⟨11, _⟩ => ⟨S1x8x3072, .f32⟩
  | .local _ .vmem, ⟨12, _⟩ => ⟨S1x8x3072, .f32⟩
  | .local _ .vmem, ⟨13, _⟩ => ⟨S1x32x64x128, .f32⟩
  | .local _ .vmem, ⟨14, _⟩ => ⟨S1x32x64x128, .f32⟩
  | .local _ .vmem, ⟨15, _⟩ => ⟨S128x2048, .f32⟩
  | .local _ .vmem, ⟨16, _⟩ => ⟨S128x2048, .f32⟩
  | .local _ .vmem, ⟨17, _⟩ => ⟨S1x32x64x128, .f32⟩
  | .local _ .vmem, ⟨18, _⟩ => ⟨S1x32x64x128, .f32⟩
  | .local _ .vmem, ⟨19, _⟩ => ⟨S8x3072, .f32⟩
  | .local _ .vmem, ⟨20, _⟩ => ⟨S16x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v1056 : BitVec 1 := Scalar.cmpi .eq arg1 c63_i32
  let v1057 : BitVec 32 := Scalar.extui v1056
  let c0_i32_298 : BitVec 32 := 0#32
  let v1058 : BitVec 1 := Scalar.cmpi .ne v1057 c0_i32_298
  v1058

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference10Ideal.lean ====
abbrev S16384x2048 : Shape := ⟨2, ![16384, 2048]⟩
abbrev S16384x3072 : Shape := ⟨2, ![16384, 3072]⟩
abbrev S16384x32 : Shape := ⟨2, ![16384, 32]⟩
abbrev S4x3072 : Shape := ⟨2, ![4, 3072]⟩
abbrev S3072 : Shape := ⟨1, ![3072]⟩
abbrev S32 : Shape := ⟨1, ![32]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S_ : Shape := ⟨0, ![]⟩
abbrev S2x3x3072 : Shape := ⟨3, ![2, 3, 3072]⟩
abbrev S2x32x64x128 : Shape := ⟨4, ![2, 32, 64, 128]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x32x64 : Shape := ⟨4, ![2, 8192, 32, 64]⟩
abbrev S2x8192x512 : Shape := ⟨3, ![2, 8192, 512]⟩
abbrev S2x8192x4x128 : Shape := ⟨4, ![2, 8192, 4, 128]⟩
abbrev S1x1x32 : Shape := ⟨3, ![1, 1, 32]⟩
abbrev S2x8192x32x1 : Shape := ⟨4, ![2, 8192, 32, 1]⟩
abbrev S2x64x128x4x8x64 : Shape := ⟨6, ![2, 64, 128, 4, 8, 64]⟩
abbrev S2x64x128x4x8 : Shape := ⟨5, ![2, 64, 128, 4, 8]⟩
abbrev S2x64x128x4x128 : Shape := ⟨5, ![2, 64, 128, 4, 128]⟩
abbrev S2x64x128x1x4x8 : Shape := ⟨6, ![2, 64, 128, 1, 4, 8]⟩
abbrev S2x64x1x128x4x8 : Shape := ⟨6, ![2, 64, 1, 128, 4, 8]⟩
abbrev S2x64x128x128x4x8 : Shape := ⟨6, ![2, 64, 128, 128, 4, 8]⟩
abbrev S128x128 : Shape := ⟨2, ![128, 128]⟩
abbrev S128x128x1x1 : Shape := ⟨4, ![128, 128, 1, 1]⟩
abbrev S2x64x4x128x128 : Shape := ⟨5, ![2, 64, 4, 128, 128]⟩
abbrev S2x64x128x128x4 : Shape := ⟨5, ![2, 64, 128, 128, 4]⟩
abbrev S2x64x128x128x4x1 : Shape := ⟨6, ![2, 64, 128, 128, 4, 1]⟩
abbrev S2x64x4x8x64x128 : Shape := ⟨6, ![2, 64, 4, 8, 64, 128]⟩
abbrev S2x64x1x4x8 : Shape := ⟨5, ![2, 64, 1, 4, 8]⟩
abbrev S2x64x128x4x8x1 : Shape := ⟨6, ![2, 64, 128, 4, 8, 1]⟩
abbrev S2x64x4x8 : Shape := ⟨4, ![2, 64, 4, 8]⟩
abbrev S2x4x8x64x128 : Shape := ⟨5, ![2, 4, 8, 64, 128]⟩
abbrev S64x2x4x8x64x128 : Shape := ⟨6, ![64, 2, 4, 8, 64, 128]⟩
abbrev S64x2x4x8 : Shape := ⟨4, ![64, 2, 4, 8]⟩
abbrev S1x2x4x8x64x128 : Shape := ⟨6, ![1, 2, 4, 8, 64, 128]⟩
abbrev S1x2x4x8 : Shape := ⟨4, ![1, 2, 4, 8]⟩
abbrev S2x4x8 : Shape := ⟨3, ![2, 4, 8]⟩
abbrev S2x4x8x1x1 : Shape := ⟨5, ![2, 4, 8, 1, 1]⟩
abbrev S32x1 : Shape := ⟨2, ![32, 1]⟩
abbrev S1x1x32x1 : Shape := ⟨4, ![1, 1, 32, 1]⟩

abbrev nBuf : Space → Nat
  | .hbm => 207
  | .vmem => 0
  | .smem => 0
  | _ => 0

abbrev hbmTy0_0 (i : Nat) : BufTy := match i % 128 with
  | 0 => ⟨S16384x2048, .f32⟩
  | 1 => ⟨S16384x3072, .f32⟩
  | 2 => ⟨S16384x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2x8192x2048, .f32⟩
  | 9 => ⟨S2x8192x3072, .f32⟩
  | 10 => ⟨S2x8192x32, .f32⟩
  | 11 => ⟨S_, .f32⟩
  | 12 => ⟨S2x3x3072, .f32⟩
  | 13 => ⟨S_, .f32⟩
  | 14 => ⟨S2x32x64x128, .f32⟩
  | 15 => ⟨S2x8195x3072, .f32⟩
  | 16 => ⟨S2x8192x3072, .f32⟩
  | 17 => ⟨S1x3072, .f32⟩
  | 18 => ⟨S3072, .f32⟩
  | 19 => ⟨S1x1x3072, .f32⟩
  | 20 => ⟨S2x8192x3072, .f32⟩
  | 21 => ⟨S2x8192x3072, .f32⟩
  | 22 => ⟨S_, .f32⟩
  | 23 => ⟨S2x8192x3072, .f32⟩
  | 24 => ⟨S2x8192x3072, .f32⟩
  | 25 => ⟨S2x8192x3072, .f32⟩
  | 26 => ⟨S1x3072, .f32⟩
  | 27 => ⟨S3072, .f32⟩
  | 28 => ⟨S1x1x3072, .f32⟩
  | 29 => ⟨S2x8192x3072, .f32⟩
  | 30 => ⟨S2x8192x3072, .f32⟩
  | 31 => ⟨S2x8192x3072, .f32⟩
  | 32 => ⟨S2x8192x3072, .f32⟩
  | 33 => ⟨S1x3072, .f32⟩
  | 34 => ⟨S3072, .f32⟩
  | 35 => ⟨S1x1x3072, .f32⟩
  | 36 => ⟨S2x8192x3072, .f32⟩
  | 37 => ⟨S2x8192x3072, .f32⟩
  | 38 => ⟨S2x8192x3072, .f32⟩
  | 39 => ⟨S2x8192x3072, .f32⟩
  | 40 => ⟨S1x3072, .f32⟩
  | 41 => ⟨S3072, .f32⟩
  | 42 => ⟨S1x1x3072, .f32⟩
  | 43 => ⟨S2x8192x3072, .f32⟩
  | 44 => ⟨S2x8192x3072, .f32⟩
  | 45 => ⟨S2x8192x3072, .f32⟩
  | 46 => ⟨S1x1x3072, .f32⟩
  | 47 => ⟨S2x8192x3072, .f32⟩
  | 48 => ⟨S2x8192x3072, .f32⟩
  | 49 => ⟨S2x8192x3072, .f32⟩
  | 50 => ⟨S2x8192x3072, .f32⟩
  | 51 => ⟨S_, .f32⟩
  | 52 => ⟨S2x8192x3072, .f32⟩
  | 53 => ⟨S2x8192x3072, .f32⟩
  | 54 => ⟨S_, .f32⟩
  | 55 => ⟨S2x8192x3072, .f32⟩
  | 56 => ⟨S2x8192x3072, .f32⟩
  | 57 => ⟨S2x8192x3072, .f32⟩
  | 58 => ⟨S2x8192x2048, .f32⟩
  | 59 => ⟨S2x8192x32x64, .f32⟩
  | 60 => ⟨S2x8192x512, .f32⟩
  | 61 => ⟨S2x8192x4x128, .f32⟩
  | 62 => ⟨S2x8192x512, .f32⟩
  | 63 => ⟨S2x8192x4x128, .f32⟩
  | 64 => ⟨S1x1x32, .f32⟩
  | 65 => ⟨S2x8192x32, .f32⟩
  | 66 => ⟨S2x8192x32, .f32⟩
  | 67 => ⟨S_, .f32⟩
  | 68 => ⟨S2x8192x32, .f32⟩
  | 69 => ⟨S2x8192x32, .f32⟩
  | 70 => ⟨S2x8192x32, .f32⟩
  | 71 => ⟨S2x8192x32, .f32⟩
  | 72 => ⟨S2x8192x32, .i1⟩
  | 73 => ⟨S2x8192x32, .f32⟩
  | 74 => ⟨S2x8192x32, .f32⟩
  | 75 => ⟨S2x8192x32, .f32⟩
  | 76 => ⟨S2x8192x32, .f32⟩
  | 77 => ⟨S2x8192x32, .f32⟩
  | 78 => ⟨S2x8192x32, .f32⟩
  | 79 => ⟨S2x8192x32, .f32⟩
  | 80 => ⟨S2x8192x32, .f32⟩
  | 81 => ⟨S32, .f32⟩
  | 82 => ⟨S32, .f32⟩
  | 83 => ⟨S2x8192x32x1, .f32⟩
  | 84 => ⟨S2x8192x32x64, .f32⟩
  | 85 => ⟨S2x8192x32x64, .f32⟩
  | 86 => ⟨S2x64x128x4x8x64, .f32⟩
  | 87 => ⟨S1x1x32, .f32⟩
  | 88 => ⟨S2x8192x32, .f32⟩
  | 89 => ⟨S2x8192x32, .f32⟩
  | 90 => ⟨S2x64x128x4x8, .f32⟩
  | 91 => ⟨S_, .f32⟩
  | 92 => ⟨S_, .f32⟩
  | 93 => ⟨S2x64x128x4x8, .f32⟩
  | 94 => ⟨S2x64x128x4x128, .f32⟩
  | 95 => ⟨S2x64x128x4x128, .f32⟩
  | 96 => ⟨S2x64x128x1x4x8, .f32⟩
  | 97 => ⟨S2x64x1x128x4x8, .f32⟩
  | 98 => ⟨S2x64x128x128x4x8, .f32⟩
  | 99 => ⟨S2x64x128x128x4x8, .f32⟩
  | 100 => ⟨S2x64x128x128x4x8, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S128x128x1x1, .i1⟩
  | 113 => ⟨S_, .f32⟩
  | 114 => ⟨S_, .f32⟩
  | 115 => ⟨S2x64x128x128x4x8, .i1⟩
  | 116 => ⟨S2x64x128x128x4x8, .f32⟩
  | 117 => ⟨S2x64x128x128x4x8, .f32⟩
  | 118 => ⟨S2x64x128x128x4x8, .f32⟩
  | 119 => ⟨S_, .f32⟩
  | 120 => ⟨S_, .f32⟩
  | 121 => ⟨S2x64x128x128x4x8, .i1⟩
  | 122 => ⟨S2x64x128x128x4x8, .f32⟩
  | 123 => ⟨S2x64x128x128x4x8, .f32⟩
  | 124 => ⟨S2x64x4x128x128, .f32⟩
  | 125 => ⟨S2x64x128x128x4, .f32⟩
  | 126 => ⟨S2x64x128x128x4x1, .f32⟩
  | 127 => ⟨S2x64x128x128x4x8, .f32⟩
  | _ => ⟨S16384x2048, .f32⟩

abbrev hbmTy0_1 (i : Nat) : BufTy := match i % 128 with
  | 0 => ⟨S2x64x128x128x4x8, .f32⟩
  | 1 => ⟨S2x64x4x8x64x128, .f32⟩
  | 2 => ⟨S2x64x128x4x8x64, .f32⟩
  | 3 => ⟨S2x64x1x4x8, .f32⟩
  | 4 => ⟨S2x64x128x4x8, .f32⟩
  | 5 => ⟨S2x64x128x4x8, .f32⟩
  | 6 => ⟨S2x64x128x4x8, .f32⟩
  | 7 => ⟨S2x64x128x4x8x1, .f32⟩
  | 8 => ⟨S2x64x128x4x8x64, .f32⟩
  | 9 => ⟨S2x64x128x4x8x64, .f32⟩
  | 10 => ⟨S2x64x4x8x64x128, .f32⟩
  | 11 => ⟨S2x64x1x4x8, .f32⟩
  | 12 => ⟨S2x64x4x8, .f32⟩
  | 13 => ⟨S2x64x4x8, .f32⟩
  | 14 => ⟨S2x4x8x64x128, .f32⟩
  | 15 => ⟨S64x2x4x8x64x128, .f32⟩
  | 16 => ⟨S64x2x4x8, .f32⟩
  | 17 => ⟨S_, .f32⟩
  | 18 => ⟨S64x2x4x8x64x128, .f32⟩
  | 19 => ⟨S_, .i32⟩
  | 20 => ⟨S64x2x4x8x64x128, .f32⟩
  | 21 => ⟨S64x2x4x8, .f32⟩
  | 22 => ⟨S_, .i32⟩
  | 23 => ⟨S2x4x8x64x128, .f32⟩
  | 24 => ⟨S64x2x4x8x64x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x2x4x8x64x128, .f32⟩
  | 33 => ⟨S2x4x8x64x128, .f32⟩
  | 34 => ⟨S_, .i32⟩
  | 35 => ⟨S_, .i32⟩
  | 36 => ⟨S_, .i32⟩
  | 37 => ⟨S1x2x4x8, .f32⟩
  | 38 => ⟨S2x4x8, .f32⟩
  | 39 => ⟨S2x4x8x1x1, .f32⟩
  | 40 => ⟨S2x4x8x64x128, .f32⟩
  | 41 => ⟨S2x4x8x64x128, .f32⟩
  | 42 => ⟨S2x4x8x64x128, .f32⟩
  | 43 => ⟨S1x2x4x8x64x128, .f32⟩
  | 44 => ⟨S_, .i32⟩
  | 45 => ⟨S_, .i32⟩
  | 46 => ⟨S_, .i32⟩
  | 47 => ⟨S_, .i32⟩
  | 48 => ⟨S_, .i32⟩
  | 49 => ⟨S64x2x4x8x64x128, .f32⟩
  | 50 => ⟨S_, .i32⟩
  | 51 => ⟨S_, .i32⟩
  | 52 => ⟨S2x64x4x8x64x128, .f32⟩
  | 53 => ⟨S2x64x128x4x8, .f32⟩
  | 54 => ⟨S2x64x128x4x8x1, .f32⟩
  | 55 => ⟨S2x64x4x8x64x128, .f32⟩
  | 56 => ⟨S2x64x128x4x8x64, .f32⟩
  | 57 => ⟨S2x64x128x4x8x64, .f32⟩
  | 58 => ⟨S2x64x128x4x8x64, .f32⟩
  | 59 => ⟨S2x64x128x4x8x64, .f32⟩
  | 60 => ⟨S2x8192x32x64, .f32⟩
  | 61 => ⟨S2x32x64x128, .f32⟩
  | 62 => ⟨S32x1, .f32⟩
  | 63 => ⟨S1x1x32x1, .f32⟩
  | 64 => ⟨S2x8192x32x64, .f32⟩
  | 65 => ⟨S2x8192x32x64, .f32⟩
  | 66 => ⟨S2x8192x32x64, .f32⟩
  | 67 => ⟨S2x8192x2048, .f32⟩
  | 68 => ⟨S2x8192x2048, .f32⟩
  | 69 => ⟨S2x8192x2048, .f32⟩
  | 70 => ⟨S_, .f32⟩
  | 71 => ⟨S2x8192x2048, .f32⟩
  | 72 => ⟨S2x8192x2048, .f32⟩
  | 73 => ⟨S_, .f32⟩
  | 74 => ⟨S2x8192x2048, .f32⟩
  | 75 => ⟨S2x8192x2048, .f32⟩
  | 76 => ⟨S2x8192x2048, .f32⟩
  | 77 => ⟨S2x8192x2048, .f32⟩
  | 78 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_call0_cst : Ref sig .tc := ⟨.hbm, 91, rfl⟩
abbrev main_call2_call0_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c : Ref sig .tc := ⟨.hbm, 101, rfl⟩
abbrev main_v67 : Ref sig .tc := ⟨.hbm, 102, rfl⟩
abbrev main_call3_v0 : Ref sig .tc := ⟨.hbm, 103, rfl⟩
abbrev main_call3_c : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_0 : Ref sig .tc := ⟨.hbm, 109, rfl⟩
abbrev main_call3_v5 : Ref sig .tc := ⟨.hbm, 110, rfl⟩
abbrev main_v68 : Ref sig .tc := ⟨.hbm, 111, rfl⟩
abbrev main_v69 : Ref sig .tc := ⟨.hbm, 112, rfl⟩
abbrev main_cst_2 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v70 : Ref sig .tc := ⟨.hbm, 117, rfl⟩
abbrev main_v71 : Ref sig .tc := ⟨.hbm, 118, rfl⟩
abbrev main_cst_3 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_4 : Ref sig .tc := ⟨.hbm, 145, rfl⟩
abbrev main_v94 : Ref sig .tc := ⟨.hbm, 146, rfl⟩
abbrev main_c_5 : Ref sig .tc := ⟨.hbm, 147, rfl⟩
abbrev main_v95_0 : Ref sig .tc := ⟨.hbm, 148, rfl⟩
abbrev main_v95_1 : Ref sig .tc := ⟨.hbm, 149, rfl⟩
abbrev main_v95_2 : Ref sig .tc := ⟨.hbm, 150, rfl⟩
abbrev main_v95_3 : Ref sig .tc := ⟨.hbm, 151, rfl⟩
abbrev main_v95_4 : Ref sig .tc := ⟨.hbm, 152, rfl⟩
abbrev main_while0c_c_10 : Ref sig .tc := ⟨.hbm, 153, rfl⟩
abbrev main_while0c_v115 : Ref sig .tc := ⟨.hbm, 154, rfl⟩
abbrev main_while0b_call6_c : Ref sig .tc := ⟨.hbm, 155, rfl⟩
abbrev main_while0b_call6_c_0 : Ref sig .tc := ⟨.hbm, 156, rfl⟩
abbrev main_while0b_call6_c_1 : Ref sig .tc := ⟨.hbm, 157, rfl⟩
abbrev main_while0b_call6_c_2 : Ref sig .tc := ⟨.hbm, 158, rfl⟩
abbrev main_while0b_call6_c_3 : Ref sig .tc := ⟨.hbm, 159, rfl⟩
abbrev main_while0b_call6_v0 : Ref sig .tc := ⟨.hbm, 160, rfl⟩
abbrev main_while0b_v115 : Ref sig .tc := ⟨.hbm, 161, rfl⟩
abbrev main_while0b_call7_c : Ref sig .tc := ⟨.hbm, 162, rfl⟩
abbrev main_while0b_call7_c_0 : Ref sig .tc := ⟨.hbm, 163, rfl⟩
abbrev main_while0b_call7_c_1 : Ref sig .tc := ⟨.hbm, 164, rfl⟩
abbrev main_while0b_call7_v0 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_call8_v0 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_call8_c_2 : Ref sig .tc := ⟨.hbm, 175, rfl⟩
abbrev main_while0b_call8_c_3 : Ref sig .tc := ⟨.hbm, 176, rfl⟩
abbrev main_while0b_v121 : Ref sig .tc := ⟨.hbm, 177, rfl⟩
abbrev main_while0b_c_10 : Ref sig .tc := ⟨.hbm, 178, rfl⟩
abbrev main_while0b_v122 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_call9_v0 : Ref sig .tc := ⟨.hbm, 196, rfl⟩
abbrev main_call9_v1 : Ref sig .tc := ⟨.hbm, 197, rfl⟩
abbrev main_call9_cst : Ref sig .tc := ⟨.hbm, 198, rfl⟩
abbrev main_call9_v2 : Ref sig .tc := ⟨.hbm, 199, rfl⟩
abbrev main_call9_v3 : Ref sig .tc := ⟨.hbm, 200, rfl⟩
abbrev main_call9_cst_0 : Ref sig .tc := ⟨.hbm, 201, rfl⟩
abbrev main_call9_v4 : Ref sig .tc := ⟨.hbm, 202, rfl⟩
abbrev main_call9_v5 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩

abbrev nD : Nat := 1
abbrev τ : Topo := Topo.v7x

variable {F : FTy → Type} [FloatOps F]

abbrev main_while0_count : Scf.Loop 32 := ⟨0#32, 64#32, 1#32⟩
-- ==== Proof.Rows.lean ====
module

public import Idealize.ShloMosaic.Lib.Pipeline.ValueKit

@[expose] public section
noncomputable section
open Idealize.ShloMosaic

/-! The layer's row functions over the extended reals, shared by the kernels' blocks and the references. -/
namespace Cert.Rows

/-- One entry of a normalised row: the entry times the reciprocal root of the row's mean square plus epsilon, times the gain. -/
def normed (x g : Fin 1024 → EReal) (e : Fin 1024) : EReal :=
  x e * Ideal.rsqrt (Ideal.div (∑ a, x a * x a) (Ideal.ofBits FTy.f32 0x44800000#32) + Ideal.ofBits FTy.f32 0x358637BD#32) * g e

/-- One query's score against key `t`: the inner product over the head's 128 lanes, scaled. -/
def score (q : Fin 128 → EReal) (k : Fin 256 → Fin 128 → EReal) (t : Fin 256) : EReal :=
  (∑ d, q d * k t d) * Ideal.ofBits FTy.f32 0x3DB504F3#32

/-- The exponential of a score less the row's largest score. -/
def weight (q : Fin 128 → EReal) (k : Fin 256 → Fin 128 → EReal) (t : Fin 256) : EReal :=
  Ideal.exp (score q k t - Finset.fold max (Ideal.ofBits FTy.f32 0xFF800000#32) (fun s => score q k s) Finset.univ)

/-- One lane of one head of softmax attention over 256 memory slots. -/
def attend (q : Fin 128 → EReal) (k v : Fin 256 → Fin 128 → EReal) (d : Fin 128) : EReal :=
  ∑ t, Ideal.div (weight q k t) (∑ s, weight q k s) * v t d

/-- Lane `d` of the head that column `k` of the four heads laid side by side lies in. -/
def lane (k : Fin 512) (d : Fin 128) : Fin 512 := ⟨k.val / 128 * 128 + d.val, by omega⟩

/-- Column `n` of one row of the cross-attention layer with its residual: project the normalised row to queries, attend
    each head over the memory, project the heads back and add the row. -/
def crossRow (x g : Fin 1024 → EReal) (wq : Fin 1024 → Fin 512 → EReal) (mk mv : Fin 256 → Fin 512 → EReal)
    (wo : Fin 512 → Fin 1024 → EReal) (n : Fin 1024) : EReal :=
  x n + ∑ k : Fin 512, attend (fun d => ∑ e, normed x g e * wq e (lane k d)) (fun t d => mk t (lane k d))
    (fun t d => mv t (lane k d)) ⟨k.val % 128, by omega⟩ * wo k n

/-- The row function depends only on the values its arguments take. -/
theorem crossRow_congr {x x' g g' : Fin 1024 → EReal} {wq wq' : Fin 1024 → Fin 512 → EReal} {mk mk' mv mv' : Fin 256 → Fin 512 → EReal}
    {wo wo' : Fin 512 → Fin 1024 → EReal} {n n' : Fin 1024} (hx : ∀ a, x a = x' a) (hg : ∀ a, g a = g' a) (hq : ∀ a b, wq a b = wq' a b)
    (hk : ∀ a b, mk a b = mk' a b) (hv : ∀ a b, mv a b = mv' a b) (ho : ∀ a b, wo a b = wo' a b) (hn : n = n') :
    crossRow x g wq mk mv wo n = crossRow x' g' wq' mk' mv' wo' n' := by
  obtain rfl := funext hx; obtain rfl := funext hg; obtain rfl := funext fun a => funext (hq a); obtain rfl := funext fun a => funext (hk a)
  obtain rfl := funext fun a => funext (hv a); obtain rfl := funext fun a => funext (ho a); rw [hn]

/-- One hidden unit of the gated feed-forward: the gate's projection, times its logistic, times the up projection. -/
def gated (h a b : Fin 1024 → EReal) : EReal :=
  (∑ e, h e * a e) * Ideal.logistic (∑ e, h e * a e) * ∑ e, h e * b e

/-- A hidden unit depends only on the values of the row and of its two weight columns. -/
theorem gated_congr {h h' a a' b b' : Fin 1024 → EReal} (hh : ∀ e, h e = h' e) (ha : ∀ e, a e = a' e) (hb : ∀ e, b e = b' e) : gated h a b = gated h' a' b' := by
  obtain rfl := funext hh; obtain rfl := funext ha; obtain rfl := funext hb; rfl

/-- Column `n` of one row of the half-step feed-forward with its residual. -/
def ffnRow (x g : Fin 1024 → EReal) (wg wu : Fin 1024 → Fin 2816 → EReal) (wo : Fin 2816 → Fin 1024 → EReal) (n : Fin 1024) : EReal :=
  x n + Ideal.ofBits FTy.f32 0x3F000000#32 * ∑ k : Fin 2816, gated (normed x g) (fun e => wg e k) (fun e => wu e k) * wo k n

/-- The feed-forward's row function depends only on the values its arguments take. -/
theorem ffnRow_congr {x x' g g' : Fin 1024 → EReal} {wg wg' wu wu' : Fin 1024 → Fin 2816 → EReal} {wo wo' : Fin 2816 → Fin 1024 → EReal} {n n' : Fin 1024}
    (hx : ∀ a, x a = x' a) (hg : ∀ a, g a = g' a) (h1 : ∀ a b, wg a b = wg' a b) (h2 : ∀ a b, wu a b = wu' a b) (ho : ∀ a b, wo a b = wo' a b) (hn : n = n') :
    ffnRow x g wg wu wo n = ffnRow x' g' wg' wu' wo' n' := by
  obtain rfl := funext hx; obtain rfl := funext hg; obtain rfl := funext fun a => funext (h1 a); obtain rfl := funext fun a => funext (h2 a)
  obtain rfl := funext fun a => funext (ho a); rw [hn]

/-- One entry of a normalised row of 2048. -/
def normed2 (x g : Fin 2048 → EReal) (e : Fin 2048) : EReal :=
  x e * Ideal.rsqrt (Ideal.div (∑ a, x a * x a) (Ideal.ofBits FTy.f32 0x45000000#32) + Ideal.ofBits FTy.f32 0x358637BD#32) * g e

/-- A normalised row's entry depends only on the values of the row and of the gain. -/
theorem normed_congr {x x' g g' : Fin 1024 → EReal} {e e' : Fin 1024} (hx : ∀ a, x a = x' a) (hg : ∀ a, g a = g' a) (he : e = e') :
    normed x g e = normed x' g' e' := by
  obtain rfl := funext hx; obtain rfl := funext hg; rw [he]

/-- One column of a normalised row's projection: the inner product of the normalised row with the weight's column. -/
def proj (x g w : Fin 1024 → EReal) : EReal := ∑ e, normed x g e * w e

/-- The projection depends only on the values its arguments take. -/
theorem proj_congr {x x' g g' w w' : Fin 1024 → EReal} (hx : ∀ a, x a = x' a) (hg : ∀ a, g a = g' a) (hw : ∀ a, w a = w' a) :
    proj x g w = proj x' g' w' := by
  obtain rfl := funext hx; obtain rfl := funext hg; obtain rfl := funext hw; rfl

/-- A residual entry plus the inner product of a row with a weight's column. -/
def outCol (r : EReal) (x w : Fin 1024 → EReal) : EReal := r + ∑ e, x e * w e

/-- It depends only on the values its arguments take. -/
theorem outCol_congr {r r' : EReal} {x x' w w' : Fin 1024 → EReal} (hr : r = r') (hx : ∀ a, x a = x' a) (hw : ∀ a, w a = w' a) :
    outCol r x w = outCol r' x' w' := by
  obtain rfl := funext hx; obtain rfl := funext hw; rw [hr]

/-- A residual entry plus the inner product of a normalised row of 2048 with a weight's column. -/
def outCol2 (r : EReal) (x g w : Fin 2048 → EReal) : EReal := r + ∑ e, normed2 x g e * w e

/-- It depends only on the values its arguments take. -/
theorem outCol2_congr {r r' : EReal} {x x' g g' w w' : Fin 2048 → EReal} (hr : r = r') (hx : ∀ a, x a = x' a) (hg : ∀ a, g a = g' a) (hw : ∀ a, w a = w' a) :
    outCol2 r x g w = outCol2 r' x' g' w' := by
  obtain rfl := funext hx; obtain rfl := funext hg; obtain rfl := funext hw; rw [hr]

/-- A rectangle of a matrix loaded from row `o` and column `u` on, at an index. -/
theorem ld_at {R C P Q : ℕ} {φ : EltTy} (w : (⟨2, ![R, C]⟩ : Shape).Idx → Elt Ideal φ) (o u : ℕ)
    (inb : ∀ a, (![o, u] : Fin 2 → ℕ) a + (![P, Q] : Fin 2 → ℕ) a ≤ (⟨2, ![R, C]⟩ : Shape).size a) (i : Fin P) (j : Fin Q) (i' : Fin R) (j' : Fin C)
    (hi : i'.val = o + i.val) (hj : j'.val = u + j.val) :
    View.ld (Val := Elt Ideal) (e' := φ) w (Rect.unit (s := ⟨2, ![R, C]⟩) ![o, u] ![P, Q] inb) (ix2 i j : (⟨2, ![P, Q]⟩ : Shape).Idx) = w (ix2 i' j') := by
  refine congrArg w (funext fun a => Fin.ext ?_)
  fin_cases a
  · show o + 1 * i.val = i'.val; omega
  · show u + 1 * j.val = j'.val; omega

end Cert.Rows
end
-- ==== Proof.XattnBlock.lean ====
module

public import proofs.«01_k».proof.Proof.Gen.KernelIdeal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the cross-attention kernel computes from its blocks. -/
namespace Cert.KernelIdeal.Value
open Cert.KernelIdeal Cert.KernelIdeal.Gen Cert.Rows

/-- The queries' block: the normalised rows times the query weight. -/
theorem queries_at (x : FVec Ideal S512x1024 .f32) (g : FVec Ideal S1x1024 .f32) (w : FVec Ideal S1024x512 .bf16) (i : Fin 512) (k : Fin 512) :
    k0_pay4 (F := Ideal) x g w (ix2 i k) = ∑ e, normed (fun a => x (ix2 i a)) (fun a => g (ix2 0 a)) e * w (ix2 e k) := by
  pointwise [k0_pay4]
  rfl

/-- Head 1 of the block, a lane of a row. -/
theorem head1_at (q : FVec Ideal S512x512 .bf16) (mk mv : FVec Ideal S256x512 .bf16) (i : Fin 512) (d : Fin 128) :
    k0_pay10 q mk mv (ix2 i d) = attend (fun a => q (ix2 i ⟨128 + a.val, by omega⟩)) (fun t a => mk (ix2 t ⟨128 + a.val, by omega⟩))
      (fun t a => mv (ix2 t ⟨128 + a.val, by omega⟩)) d := by
  pointwise [k0_pay10]
  rfl

/-- Head 2 of the block, a lane of a row. -/
theorem head2_at (q : FVec Ideal S512x512 .bf16) (mk mv : FVec Ideal S256x512 .bf16) (i : Fin 512) (d : Fin 128) :
    k0_pay11 q mk mv (ix2 i d) = attend (fun a => q (ix2 i ⟨256 + a.val, by omega⟩)) (fun t a => mk (ix2 t ⟨256 + a.val, by omega⟩))
      (fun t a => mv (ix2 t ⟨256 + a.val, by omega⟩)) d := by
  pointwise [k0_pay11]
  rfl

/-- Head 0 of the block, a lane of a row. -/
theorem head0_at (x : FVec Ideal S512x1024 .f32) (g : FVec Ideal S1x1024 .f32) (w : FVec Ideal S1024x512 .bf16) (mk : FVec Ideal S1x256x512 .f32) (mv : FVec Ideal S256x512 .bf16)
    (i : Fin 512) (d : Fin 128) :
    k0_pay9 (F := Ideal) mv (k0_pay7 (F := Ideal) x g w mk) (k0_pay8 (F := Ideal) x g w mk) (ix2 i d)
      = attend (fun a => k0_pay4 (F := Ideal) x g w (ix2 i ⟨a.val, by omega⟩)) (fun t a => mk (ix3 0 t ⟨a.val, by omega⟩))
      (fun t a => mv (ix2 t ⟨a.val, by omega⟩)) d := by
  pointwise [k0_pay9, k0_pay8, k0_pay7, k0_pay5]
  rfl

/-- The lane of a column, with the head's number known. -/
theorem lane_eq (k : Fin 512) (c : ℕ) (hc : k.val / 128 = c) (h : c < 4) : lane k = fun a => ⟨c * 128 + a.val, by omega⟩ := by
  funext a; apply Fin.ext; simp only [lane]; omega

/-- The four heads side by side: a column is a lane of its head's attention. -/
theorem heads_at (x : FVec Ideal S512x1024 .f32) (g : FVec Ideal S1x1024 .f32) (w : FVec Ideal S1024x512 .bf16) (mk mv : FVec Ideal S1x256x512 .f32) (i k : Fin 512) :
    k0_pay1 (F := Ideal) (k0_pay6 (F := Ideal) mv) (k0_pay9 (F := Ideal) (k0_pay6 (F := Ideal) mv) (k0_pay7 (F := Ideal) x g w mk) (k0_pay8 (F := Ideal) x g w mk))
      (k0_pay10 (F := Ideal) (k0_pay4 (F := Ideal) x g w) (k0_pay5 (F := Ideal) mk) (k0_pay6 (F := Ideal) mv))
      (k0_pay11 (F := Ideal) (k0_pay4 (F := Ideal) x g w) (k0_pay5 (F := Ideal) mk) (k0_pay6 (F := Ideal) mv))
      (k0_pay12 (F := Ideal) (k0_pay4 (F := Ideal) x g w) (k0_pay5 (F := Ideal) mk)) (ix2 i k)
    = attend (fun d => ∑ e, normed (fun a => x (ix2 i a)) (fun a => g (ix2 0 a)) e * w (ix2 e (lane k d)))
        (fun t d => mk (ix3 0 t (lane k d))) (fun t d => mv (ix3 0 t (lane k d))) ⟨k.val % 128, by omega⟩ := by
  have hmk : ∀ t a, k0_pay5 (F := Ideal) mk (ix2 t a) = mk (ix3 0 t a) := by intro t a; pointwise [k0_pay5]
  have hmv : ∀ t a, k0_pay6 (F := Ideal) mv (ix2 t a) = mv (ix3 0 t a) := by intro t a; pointwise [k0_pay6]
  pointwise [k0_pay1, k0_pay12]
  by_cases h0 : k.val < 128
  · rw [dif_pos h0, head0_at]
    simp only [queries_at, hmv, lane_eq k 0 (by omega) (by omega), zero_mul, zero_add]
    congr 1; apply Fin.ext; simp only []; omega
  rw [dif_neg h0]
  by_cases h1 : k.val - 128 < 128
  · rw [dif_pos h1, head1_at]
    simp only [queries_at, hmk, hmv, lane_eq k 1 (by omega) (by omega), one_mul]
    congr 1; apply Fin.ext; simp only []; omega
  rw [dif_neg h1]
  by_cases h2 : k.val - 128 - 128 < 128
  · rw [dif_pos h2, head2_at]
    simp only [queries_at, hmk, hmv, lane_eq k 2 (by omega) (by omega)]
    congr 1; apply Fin.ext; simp only []; omega
  · rw [dif_neg h2]
    simp only [queries_at, hmk, hmv, lane_eq k 3 (by omega) (by omega)]
    have hk : k.val - 128 - 128 - 128 = k.val % 128 := by omega
    simp only [hk]
    rfl

/-- The stored block, both halves: the rows plus the heads projected back. -/
theorem block_at (x : FVec Ideal S512x1024 .f32) (g : FVec Ideal S1x1024 .f32) (w : FVec Ideal S1024x512 .bf16) (mk mv : FVec Ideal S1x256x512 .f32) (wo : FVec Ideal S512x1024 .bf16)
    (i : Fin 512) (n : Fin 1024) :
    out0_6 (F := Ideal) x g w mk mv wo (ix2 i n) = crossRow (fun a => x (ix2 i a)) (fun a => g (ix2 0 a)) (fun a b => w (ix2 a b)) (fun a b => mk (ix3 0 a b)) (fun a b => mv (ix3 0 a b))
      (fun a b => wo (ix2 a b)) n := by
  unfold_out out0_6
  frame_out
  canon_tiles y h
  · idx_vars y
    obtain rfl : i = y0 := Fin.ext h0
    pointwise [k0_pay3]
    simp only [heads_at]
    blk_point []
  · idx_vars y
    obtain rfl : i = y0 := Fin.ext h0
    pointwise [k0_pay2]
    simp only [heads_at]
    blk_point []
end Cert.KernelIdeal.Value
end
-- ==== Proof.XattnValue.lean ====
module

public import proofs.«01_k».proof.Proof.XattnBlock

@[expose] public section
set_option maxRecDepth 16384
noncomputable section
open Idealize.ShloMosaic Idealize.ShloMosaic.TcCoe Idealize.SL.Sem
open Idealize.ShloMosaic.Pipeline (Dat)
/-! The array the cross-attention kernel leaves. -/
namespace Cert.KernelIdeal.Value
open Cert.KernelIdeal Cert.KernelIdeal.Gen Cert.Rows
variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![0, 0]
    ∧ win0_3.index t = ![t.val / 16, 0, 0] ∧ win0_4.index t = ![t.val / 16, 0, 0] ∧ win0_5.index t = ![0, 0] ∧ win0_6.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 6 of point `t` lies in its array. -/
theorem emb6 (t : Fin cfg0.N) (i : Fin 512) (a : Fin 1024) (h : t.val < 32) :
    (((cfg0.win 6).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 1024) (a : Fin 512) :
    (((cfg0.win 2).blk t).view.emb (ix2 i a : S1024x512.Idx) : S1024x512.Idx) = ix2 i a := by
  blk_ext [idx t]

/-- Where block 5 of point `t` lies in its array. -/
theorem emb5 (t : Fin cfg0.N) (i : Fin 512) (a : Fin 1024) :
    (((cfg0.win 5).blk t).view.emb (ix2 i a : S512x1024.Idx) : S512x1024.Idx) = ix2 i a := by
  blk_ext [idx t]

/-- Where block 3 of point `t` lies in its array. -/
theorem emb3 (t : Fin cfg0.N) (i : Fin 256) (a : Fin 512) (h : t.val < 32) :
    (((cfg0.win 3).blk t).view.emb (ix3 0 i a : S1x256x512.Idx) : S2x256x512.Idx) = ix3 ⟨t.val / 16, by omega⟩ i a := by
  blk_ext [idx t]

/-- Where block 4 of point `t` lies in its array. -/
theorem emb4 (t : Fin cfg0.N) (i : Fin 256) (a : Fin 512) (h : t.val < 32) :
    (((cfg0.win 4).blk t).view.emb (ix3 0 i a : S1x256x512.Idx) : S2x256x512.Idx) = ix3 ⟨t.val / 16, by omega⟩ i a := by
  blk_ext [idx t]

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ?_
  entry_read
  pointwise

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v1) (emb1 t a)).trans ?_
  entry_read
  pointwise

/-- Block 2 of point `t`, read in the argument array. -/
theorem blk2 (c : Dev nD) (t : Fin cfg0.N) (i : Fin 1024) (a : Fin 512) : (show FVec Ideal S1024x512 .bf16 from iblk m c 2 t) (ix2 i a)
    = (show FVec Ideal S1024x512 .f32 from m ((c : Thread nD τ).loc main_arg4)) (ix2 i a) := by
  refine (congrArg (V m c main_v2) (emb2 t i a)).trans ?_
  entry_read
  pointwise

/-- Block 5 of point `t`, read in the argument array. -/
theorem blk5 (c : Dev nD) (t : Fin cfg0.N) (i : Fin 512) (a : Fin 1024) : (show FVec Ideal S512x1024 .bf16 from iblk m c 5 t) (ix2 i a)
    = (show FVec Ideal S512x1024 .f32 from m ((c : Thread nD τ).loc main_arg5)) (ix2 i a) := by
  refine (congrArg (V m c main_v5) (emb5 t i a)).trans ?_
  entry_read
  pointwise

/-- Block 3 of point `t`, read in the argument array. -/
theorem blk3 (c : Dev nD) (t : Fin cfg0.N) (i : Fin 256) (a : Fin 512) (h : t.val < 32) : (show FVec Ideal S1x256x512 .f32 from iblk m c 3 t) (ix3 0 i a)
    = (show FVec Ideal S2x256x4x128 .f32 from m ((c : Thread nD τ).loc main_arg2)) (ix4 ⟨t.val / 16, by omega⟩ i ⟨a.val / 128, by omega⟩ ⟨a.val % 128, by omega⟩) := by
  refine (congrArg (V m c main_v3) (emb3 t i a h)).trans ?_
  entry_read
  pointwise

/-- Block 4 of point `t`, read in the argument array. -/
theorem blk4 (c : Dev nD) (t : Fin cfg0.N) (i : Fin 256) (a : Fin 512) (h : t.val < 32) : (show FVec Ideal S1x256x512 .f32 from iblk m c 4 t) (ix3 0 i a)
    = (show FVec Ideal S2x256x4x128 .f32 from m ((c : Thread nD τ).loc main_arg3)) (ix4 ⟨t.val / 16, by omega⟩ i ⟨a.val / 128, by omega⟩ ⟨a.val % 128, by omega⟩) := by
  refine (congrArg (V m c main_v4) (emb4 t i a h)).trans ?_
  entry_read
  pointwise

/-- The whole result array: row `R` is the layer's row function of row `R` of the input and its batch's memory. -/
def G (x : FVec Ideal S2x8192x1024 .f32) (g : FVec Ideal S1024 .f32) (mk mv : FVec Ideal S2x256x4x128 .f32) (wq : FVec Ideal S1024x512 .f32) (wo : FVec Ideal S512x1024 .f32)
    (R : Fin 16384) (n : Fin 1024) : EReal :=
  crossRow (fun a => x (ix3 ⟨R.val / 8192, by omega⟩ ⟨R.val % 8192, by omega⟩ a)) (fun a => g (ix1 a)) (fun a b => wq (ix2 a b))
        (fun a b => mk (ix4 ⟨R.val / 8192, by omega⟩ a ⟨b.val / 128, by omega⟩ ⟨b.val % 128, by omega⟩))
        (fun a b => mv (ix4 ⟨R.val / 8192, by omega⟩ a ⟨b.val / 128, by omega⟩ ⟨b.val % 128, by omega⟩)) (fun a b => wo (ix2 a b)) n

/-- THE ARRAY after the run, at every index. -/
theorem final (c : Dev nD) (X : FVec Ideal S16384x1024 .f32)
    (hX : ∀ R n, X (ix2 R n) = G (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) R n) : (dats m 0 c).arrAt 6 cfg0.N = X := by
  refine (dats m 0 c).arrAt_eq_of_covers 6 _ (by decide +kernel) fun t _ y => ?_
  have h : t.val < 32 := (idx t).2.2.2.2.2.2.2
  blk_simp
  rw [after0_6]
  idx_vars y
  refine (block_at _ _ _ _ _ _ y0 y1).trans ?_
  refine Eq.trans ?_ (congrArg X (emb6 t y0 y1 h)).symm
  rw [hX]
  have hb : t.val / 16 = (t.val * 512 + y0.val) / 8192 := by omega
  unfold G
  refine crossRow_congr (fun a => blk0 m c t y0 a h) (fun a => blk1 m c t a) (fun a b => blk2 m c t a b) (fun a b => ?_) (fun a b => ?_) (fun a b => blk5 m c t a b) rfl
  · refine (blk3 m c t a b h).trans ?_
    simp only [hb]
  · refine (blk4 m c t a b h).trans ?_
    simp only [hb]

/-- The array the run leaves, as one function of the arguments. -/
def result (c : Dev nD) : FVec Ideal S16384x1024 .f32 := fun y => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1)
end Cert.KernelIdeal.Value
end
-- ==== Proof.XattnRef.lean ====
module

public import proofs.«01_k».proof.Proof.Gen.ReferenceIdeal.Run
public import proofs.«01_k».proof.Proof.Rows
public import Idealize.ShloMosaic.Lib.KernelVsHost

@[expose] public section
set_option maxRecDepth 16384
noncomputable section
open Idealize.ShloMosaic Idealize.ShloMosaic.TcCoe Idealize.SL.Sem

/-! What the cross-attention reference computes, index by index. -/
namespace Cert.ReferenceIdeal.Value
open Cert.ReferenceIdeal Cert.ReferenceIdeal.Gen Cert.Rows

/-- The normalised rows times the query weight. -/
def refQ (x : FVec Ideal S2x8192x1024 .f32) (g : FVec Ideal S1024 .f32) (wq : FVec Ideal S1024x512 .f32) : FVec Ideal S2x8192x512 .f32 :=
  Host.dotGeneral dot_S2x8192x1024_S1024x512_S2x8192x512_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) wq

/-- The scaled scores of every head. -/
def refS (q : FVec Ideal S2x8192x512 .f32) (mk : FVec Ideal S2x256x4x128 .f32) : FVec Ideal S2x4x8192x256 .f32 :=
  mulf (Host.dotGeneral dot_S2x8192x4x128_S2x256x4x128_S2x4x8192x256_3_3_1_1_02_02 none (shapeCast _ q shapeCasts_S2x8192x512_S2x8192x4x128) mk) (broadcastInDim S2x4x8192x256 ![] bcast_S_S2x4x8192x256 (constant S_ .f32 0x3DB504F3#32))

/-- Each row's largest score. -/
def refM (s : FVec Ideal S2x4x8192x256 .f32) : FVec Ideal S2x4x8192 .f32 :=
  Host.reduce FloatOps.maximumf s (constant S_ .f32 0xFF800000#32) reducesTo_S2x4x8192x256_S2x4x8192_d3 h_S_

/-- The exponentials of the scores less their row's largest. -/
def refE (s : FVec Ideal S2x4x8192x256 .f32) (M : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) M))))

/-- The heads' attention over the memory, the heads side by side. -/
def refA (e : FVec Ideal S2x4x8192x256 .f32) (mv : FVec Ideal S2x256x4x128 .f32) : FVec Ideal S2x8192x512 .f32 :=
  shapeCast _ (transpose S2x8192x4x128 [0, 3, 1, 2] (Host.dotGeneral dot_S2x256x4x128_S2x4x8192x256_S2x4x128x8192_1_3_3_2_02_01 none mv (Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_))))) transposes_S2x4x128x8192_S2x8192x4x128_0_3_1_2) shapeCasts_S2x8192x4x128_S2x8192x512

/-- The residual rows plus the heads projected back, rows laid in one axis. -/
def refO (x : FVec Ideal S2x8192x1024 .f32) (a : FVec Ideal S2x8192x512 .f32) (wo : FVec Ideal S512x1024 .f32) : FVec Ideal S16384x1024 .f32 :=
  shapeCast _ (addf x (Host.dotGeneral dot_S2x8192x512_S512x1024_S2x8192x1024_2_0_01_1_n_n none a wo)) shapeCasts_S2x8192x1024_S16384x1024

/-- The exponentials from the arguments. -/
def scoresOf (x : FVec Ideal S2x8192x1024 .f32) (g : FVec Ideal S1024 .f32) (mk : FVec Ideal S2x256x4x128 .f32) (wq : FVec Ideal S1024x512 .f32) : FVec Ideal S2x4x8192x256 .f32 :=
  refE (refS (refQ x g wq) mk) (refM (refS (refQ x g wq) mk))

/-- The reference's result is these steps composed. -/
theorem res_steps (m : (ℓ : Loc nD τ sig) → Buf (Elt Ideal) ℓ) (c : Dev nD) : res_out0 m c
    = refO (m ((c.tc : Thread nD τ).loc main_arg0)) (refA (scoresOf (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg3))) (m ((c.tc : Thread nD τ).loc main_arg5)) := rfl

theorem refQ_at (x : FVec Ideal S2x8192x1024 .f32) (g : FVec Ideal S1024 .f32) (wq : FVec Ideal S1024x512 .f32) (b : Fin 2) (r : Fin 8192) (k : Fin 512) :
    refQ x g wq (ix3 b r k) = ∑ e, normed (fun a => x (ix3 b r a)) (fun a => g (ix1 a)) e * wq (ix2 e k) := by
  pointwise [refQ]
  rfl

theorem refS_at (q : FVec Ideal S2x8192x512 .f32) (mk : FVec Ideal S2x256x4x128 .f32) (b : Fin 2) (h : Fin 4) (r : Fin 8192) (t : Fin 256) :
    refS q mk (ix4 b h r t) = score (fun d => q (ix3 b r ⟨h.val * 128 + d.val, by omega⟩)) (fun t d => mk (ix4 b t h d)) t := by
  pointwise [refS]
  rfl

/-- The largest over the last axis of a rank-four array, at any sizes: the fold of `max` along that axis. -/
theorem hostMax_last {n0 n1 n2 n3 : ℕ} (h : (⟨4, ![n0, n1, n2, n3]⟩ : Shape).ReducesTo [3] (⟨3, ![n0, n1, n2]⟩ : Shape)) (hu : 0 < S_.numel)
    (s : FVec Ideal ⟨4, ![n0, n1, n2, n3]⟩ .f32) (init : FVec Ideal S_ .f32) (b : Fin n0) (i : Fin n1) (r : Fin n2) :
    Host.reduce FloatOps.maximumf s init h hu (ix3 b i r : (⟨3, ![n0, n1, n2]⟩ : Shape).Idx)
      = Finset.fold max (init (Shape.Idx.first hu)) (fun u => s (ix4 b i r u)) Finset.univ := by
  rw [Host.reduce_eq_fold, Shape.ReducesTo.fold_fiber_r4_a3]
  rfl

theorem refM_at (s : FVec Ideal S2x4x8192x256 .f32) (b : Fin 2) (h : Fin 4) (r : Fin 8192) :
    refM s (ix3 b h r) = Finset.fold max (Ideal.ofBits FTy.f32 0xFF800000#32) (fun u => s (ix4 b h r u)) Finset.univ :=
  hostMax_last reducesTo_S2x4x8192x256_S2x4x8192_d3 h_S_ s (constant S_ .f32 0xFF800000#32) b h r

theorem refE_at (s : FVec Ideal S2x4x8192x256 .f32) (M : FVec Ideal S2x4x8192 .f32) (b : Fin 2) (h : Fin 4) (r : Fin 8192) (t : Fin 256) :
    refE s M (ix4 b h r t) = Ideal.exp (s (ix4 b h r t) - max (Ideal.ofBits FTy.f32 0xFF800000#32) (M (ix3 b h r))) := by
  pointwise [refE]

/-- A maximum folded from a value is at least that value. -/
theorem max_fold_self (z : EReal) (f : Fin 256 → EReal) : max z (Finset.fold max z f Finset.univ) = Finset.fold max z f Finset.univ :=
  max_eq_right (Finset.le_fold_max z |>.mpr (Or.inl le_rfl))

theorem refA_at (e : FVec Ideal S2x4x8192x256 .f32) (mv : FVec Ideal S2x256x4x128 .f32) (b : Fin 2) (r : Fin 8192) (k : Fin 512) :
    refA e mv (ix3 b r k) = ∑ t, Ideal.div (e (ix4 b ⟨k.val / 128, by omega⟩ r t)) (∑ s, e (ix4 b ⟨k.val / 128, by omega⟩ r s))
      * mv (ix4 b t ⟨k.val / 128, by omega⟩ ⟨k.val % 128, by omega⟩) := by
  pointwise [refA]
  exact Finset.sum_congr rfl fun t _ => mul_comm _ _

/-- THE REFERENCE AT AN INDEX: row `R` of the flattened result is the layer's row function of row `R` of the input. -/
theorem res_at (x : FVec Ideal S2x8192x1024 .f32) (g : FVec Ideal S1024 .f32) (mk mv : FVec Ideal S2x256x4x128 .f32) (wq : FVec Ideal S1024x512 .f32) (wo : FVec Ideal S512x1024 .f32)
    (R : Fin 16384) (n : Fin 1024) :
    refO x (refA (scoresOf x g mk wq) mv) wo (ix2 R n)
    = crossRow (fun a => x (ix3 ⟨R.val / 8192, by omega⟩ ⟨R.val % 8192, by omega⟩ a)) (fun a => g (ix1 a)) (fun a b => wq (ix2 a b))
        (fun a b => mk (ix4 ⟨R.val / 8192, by omega⟩ a ⟨b.val / 128, by omega⟩ ⟨b.val % 128, by omega⟩))
        (fun a b => mv (ix4 ⟨R.val / 8192, by omega⟩ a ⟨b.val / 128, by omega⟩ ⟨b.val % 128, by omega⟩)) (fun a b => wo (ix2 a b)) n := by
  pointwise [refO]
  simp only [refA_at, scoresOf, refE_at, refM_at, max_fold_self, refS_at, refQ_at]
  have hd : ∀ (k : Fin 512) (d : Fin 128), (lane k d).val / 128 = k.val / 128 := by intro k d; simp only [lane]; omega
  have hm : ∀ (k : Fin 512) (d : Fin 128), (lane k d).val % 128 = d.val := by intro k d; simp only [lane]; omega
  simp only [crossRow, hd, hm]
  rfl
end Cert.ReferenceIdeal.Value
end
-- ==== Proof.XattnClaim.lean ====
module

public import proofs.«01_k».proof.Defs
public import proofs.«01_k».proof.Proof.Gen.Kernel.Frame
public import proofs.«01_k».proof.Proof.XattnValue
public import proofs.«01_k».proof.Proof.XattnRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the cross-attention. -/
namespace Cert.Proof.Xattn

/-- The kernel runs, leaves its arguments and ends with every counter at zero. -/
theorem frame : Cert.quiescent_Kernel := fun m ρ _ => Cert.Kernel.Gen.frame m ρ

/-- The same of the kernel read over the extended reals. -/
theorem frame_ideal : Cert.quiescent_KernelIdeal := fun m ρ _ => Cert.KernelIdeal.Gen.frame m ρ

/-- The same of the reference. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- Over the extended reals the kernel's array is the reference's, entry by entry. -/
theorem algebraic : Cert.algebraic_KernelIdeal_ReferenceIdeal := by
  intro m g m' g' _ hagree
  refine ⟨fun c => Cert.KernelIdeal.Value.result m c, ?_, ?_⟩
  · exact (θ_run Cert.KernelIdeal.defs _ _).mono (fun _ h c => ⟨(h c).1.trans (Cert.KernelIdeal.Value.final m c _ fun R n => rfl), (h c).2⟩) (Cert.KernelIdeal.Value.run_blocks m g)
  · refine (θ_run Cert.ReferenceIdeal.defs _ _).mono (fun _ h c => ⟨(h c).1.trans ?_, (h c).2⟩) (Cert.ReferenceIdeal.Value.run m' g')
    refine (Cert.ReferenceIdeal.Value.res_steps m' c).trans ?_
    obtain ⟨h0, h1, h2, h3, h4, h5⟩ := hagree c
    rw [h0, h1, h2, h3, h4, h5]
    funext y
    idx_vars y
    exact Cert.ReferenceIdeal.Value.res_at _ _ _ _ _ _ y0 y1
end Cert.Proof.Xattn
end
-- ==== Proof.FfnBlock.lean ====
module

public import proofs.«01_k».proof.Proof.Gen.Kernel2Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the feed-forward kernel computes from its blocks. -/
namespace Cert.Kernel2Ideal.Value
open Cert.Kernel2Ideal Cert.Kernel2Ideal.Gen Cert.Rows
/-- The normalised rows. -/
theorem norm_at (x : FVec Ideal S512x1024 .f32) (g : FVec Ideal S1x1024 .f32) (i : Fin 512) (e : Fin 1024) :
    k0_pay2 (F := Ideal) x g (ix2 i e) = normed (fun a => x (ix2 i a)) (fun a => g (ix2 0 a)) e := by
  pointwise [k0_pay2]
  rfl

/-- Hidden units 0 to 255 of the block. -/
theorem act0_at (x : FVec Ideal S512x1024 .f32) (g : FVec Ideal S1x1024 .f32) (a b : FVec Ideal S1024x256 .bf16) (i : Fin 512) (j : Fin 256) :
    k0_pay3 (F := Ideal) x g a b (ix2 i j) = gated (normed (fun a => x (ix2 i a)) (fun a => g (ix2 0 a))) (fun e => a (ix2 e j)) (fun e => b (ix2 e j)) := by
  pointwise [k0_pay3, k0_pay2]
  rfl

/-- Hidden units 256 to 511 of the block. -/
theorem act1_at (x : FVec Ideal S512x1024 .f32) (g : FVec Ideal S1x1024 .f32) (a b : FVec Ideal S1024x256 .bf16) (i : Fin 512) (j : Fin 256) :
    k0_pay7 (F := Ideal) (k0_pay4 (F := Ideal) x g a) (k0_pay5 (F := Ideal) x g b) (k0_pay6 (F := Ideal) x g a) (ix2 i j)
      = gated (normed (fun a => x (ix2 i a)) (fun a => g (ix2 0 a))) (fun e => a (ix2 e j)) (fun e => b (ix2 e j)) := by
  pointwise [k0_pay7, k0_pay6, k0_pay5, k0_pay4, k0_pay2]
  rfl

/-- Hidden units 512 to 767 of the block. -/
theorem act2_at (h : FVec Ideal S512x1024 .bf16) (a b : FVec Ideal S1024x256 .bf16) (i : Fin 512) (j : Fin 256) :
    k0_pay8 (F := Ideal) h a b (ix2 i j) = gated (fun e => h (ix2 i e)) (fun e => a (ix2 e j)) (fun e => b (ix2 e j)) := by
  pointwise [k0_pay8]
  rfl

/-- Hidden units 768 to 1023 of the block. -/
theorem act3_at (h : FVec Ideal S512x1024 .bf16) (a b : FVec Ideal S1024x256 .bf16) (i : Fin 512) (j : Fin 256) :
    k0_pay9 (F := Ideal) h a b (ix2 i j) = gated (fun e => h (ix2 i e)) (fun e => a (ix2 e j)) (fun e => b (ix2 e j)) := by
  pointwise [k0_pay9]
  rfl

/-- Hidden units 1024 to 1279 of the block. -/
theorem act4_at (h : FVec Ideal S512x1024 .bf16) (a b : FVec Ideal S1024x256 .bf16) (i : Fin 512) (j : Fin 256) :
    k0_pay11 (F := Ideal) h (k0_pay10 (F := Ideal) h a) b (ix2 i j) = gated (fun e => h (ix2 i e)) (fun e => a (ix2 e j)) (fun e => b (ix2 e j)) := by
  pointwise [k0_pay11, k0_pay10]
  rfl

/-- Hidden units 1280 to 1535 of the block. -/
theorem act5_at (h : FVec Ideal S512x1024 .bf16) (a b : FVec Ideal S1024x256 .bf16) (i : Fin 512) (j : Fin 256) :
    k0_pay12 (F := Ideal) h a b (ix2 i j) = gated (fun e => h (ix2 i e)) (fun e => a (ix2 e j)) (fun e => b (ix2 e j)) := by
  pointwise [k0_pay12]
  rfl

/-- Hidden units 1536 to 1791 of the block. -/
theorem act6_at (h : FVec Ideal S512x1024 .bf16) (a b : FVec Ideal S1024x256 .bf16) (i : Fin 512) (j : Fin 256) :
    k0_pay13 (F := Ideal) h a b (ix2 i j) = gated (fun e => h (ix2 i e)) (fun e => a (ix2 e j)) (fun e => b (ix2 e j)) := by
  pointwise [k0_pay13]
  rfl

/-- Hidden units 1792 to 2047 of the block. -/
theorem act7_at (h : FVec Ideal S512x1024 .bf16) (a b : FVec Ideal S1024x256 .bf16) (i : Fin 512) (j : Fin 256) :
    k0_pay14 (F := Ideal) h a b (ix2 i j) = gated (fun e => h (ix2 i e)) (fun e => a (ix2 e j)) (fun e => b (ix2 e j)) := by
  pointwise [k0_pay14]
  rfl

/-- Hidden units 2048 to 2303 of the block. -/
theorem act8_at (h : FVec Ideal S512x1024 .bf16) (a b : FVec Ideal S1024x256 .bf16) (i : Fin 512) (j : Fin 256) :
    k0_pay15 (F := Ideal) h a b (ix2 i j) = gated (fun e => h (ix2 i e)) (fun e => a (ix2 e j)) (fun e => b (ix2 e j)) := by
  pointwise [k0_pay15]
  rfl

/-- Hidden units 2304 to 2559 of the block. -/
theorem act9_at (h : FVec Ideal S512x1024 .bf16) (a b : FVec Ideal S1024x256 .bf16) (i : Fin 512) (j : Fin 256) :
    k0_pay17 (F := Ideal) (k0_pay16 (F := Ideal) h a b) (ix2 i j) = gated (fun e => h (ix2 i e)) (fun e => a (ix2 e j)) (fun e => b (ix2 e j)) := by
  pointwise [k0_pay17, k0_pay16]
  rfl

/-- Hidden units 2560 to 2815 of the block. -/
theorem act10_at (h : FVec Ideal S512x1024 .bf16) (a b : FVec Ideal S1024x256 .bf16) (i : Fin 512) (j : Fin 256) :
    k0_pay18 (F := Ideal) h a b (ix2 i j) = gated (fun e => h (ix2 i e)) (fun e => a (ix2 e j)) (fun e => b (ix2 e j)) := by
  pointwise [k0_pay18]
  rfl

/-- 256 columns of a weight loaded from column `o` on, at an index. -/
theorem cols_at (w : FVec Ideal S1024x2816 .bf16) (o : ℕ) (inb : ∀ a, (![0, o] : Fin 2 → ℕ) a + (![1024, 256] : Fin 2 → ℕ) a ≤ S1024x2816.size a) (e : Fin 1024) (j : Fin 256) (k : Fin 2816)
    (hk : k.val = o + j.val) : View.ld (Val := Elt Ideal) (e' := .bf16) w (Rect.unit (s := S1024x2816) ![0, o] ![1024, 256] inb) (ix2 e j : (⟨2, ![1024, 256]⟩ : Shape).Idx) = w (ix2 e k) := by
  refine congrArg w (funext fun a => Fin.ext ?_)
  fin_cases a
  · show 0 + 1 * e.val = e.val; omega
  · show o + 1 * j.val = k.val; omega

variable (m : (ℓ : Loc nD τ sig) → Buf (Elt Ideal) ℓ)

/-- The stored block. -/
theorem block_at (c : Dev nD) (t : Fin cfg0.N) (i : Fin 512) (n : Fin 1024) : outsAt0 m c t (ix2 i n)
    = ffnRow (fun a => (show FVec Ideal S512x1024 .f32 from iblk m c 0 t) (ix2 i a)) (fun a => (show FVec Ideal S1x1024 .f32 from iblk m c 1 t) (ix2 0 a))
      (fun a b => (show FVec Ideal S1024x2816 .bf16 from iblk m c 2 t) (ix2 a b)) (fun a b => (show FVec Ideal S1024x2816 .bf16 from iblk m c 3 t) (ix2 a b))
      (fun a b => (show FVec Ideal S2816x1024 .bf16 from iblk m c 4 t) (ix2 a b)) n := by
  unfold outsAt0
  frame_out
  canon_tiles y h <;> idx_vars y
  · pointwise [k0_pay1, k0_pay20, k0_pay21]
    obtain rfl : i = y0 := Fin.ext h0
    have hn : (⟨512 + y1.val, by omega⟩ : Fin 1024) = n := Fin.ext h1.symm
    unfold ffnRow
    refine congrArg₂ _ (congrArg (fun q => (show FVec Ideal S512x1024 .f32 from iblk m c 0 t) (ix2 i q)) hn)
      (congrArg₂ _ rfl (Finset.sum_congr rfl fun k _ => congrArg₂ _ ?_ (congrArg (fun q => (show FVec Ideal S2816x1024 .bf16 from iblk m c 4 t) (ix2 k q)) hn)))
    simp only [View.readCov_eq_canon']
    canon_tiles z q <;> idx_vars z
    all_goals
      have e0 : z0 = i := Fin.ext (q0.symm.trans (Nat.zero_add _ |>.trans (Nat.one_mul _)))
      replace q1 := (show 0 + 1 * k.val = _ from q1)
      subst e0
    · exact (act10_at _ _ _ _ _).trans (gated_congr (fun e => norm_at _ _ _ e) (fun e => cols_at _ 2560 _ e z1 k (by omega)) (fun e => cols_at _ 2560 _ e z1 k (by omega)))
    · exact (act9_at _ _ _ _ _).trans (gated_congr (fun e => norm_at _ _ _ e) (fun e => cols_at _ 2304 _ e z1 k (by omega)) (fun e => cols_at _ 2304 _ e z1 k (by omega)))
    · exact (act8_at _ _ _ _ _).trans (gated_congr (fun e => norm_at _ _ _ e) (fun e => cols_at _ 2048 _ e z1 k (by omega)) (fun e => cols_at _ 2048 _ e z1 k (by omega)))
    · exact (act7_at _ _ _ _ _).trans (gated_congr (fun e => norm_at _ _ _ e) (fun e => cols_at _ 1792 _ e z1 k (by omega)) (fun e => cols_at _ 1792 _ e z1 k (by omega)))
    · exact (act6_at _ _ _ _ _).trans (gated_congr (fun e => norm_at _ _ _ e) (fun e => cols_at _ 1536 _ e z1 k (by omega)) (fun e => cols_at _ 1536 _ e z1 k (by omega)))
    · exact (act5_at _ _ _ _ _).trans (gated_congr (fun e => norm_at _ _ _ e) (fun e => cols_at _ 1280 _ e z1 k (by omega)) (fun e => cols_at _ 1280 _ e z1 k (by omega)))
    · exact (act4_at _ _ _ _ _).trans (gated_congr (fun e => norm_at _ _ _ e) (fun e => cols_at _ 1024 _ e z1 k (by omega)) (fun e => cols_at _ 1024 _ e z1 k (by omega)))
    · exact (act3_at _ _ _ _ _).trans (gated_congr (fun e => norm_at _ _ _ e) (fun e => cols_at _ 768 _ e z1 k (by omega)) (fun e => cols_at _ 768 _ e z1 k (by omega)))
    · exact (act2_at _ _ _ _ _).trans (gated_congr (fun e => norm_at _ _ _ e) (fun e => cols_at _ 512 _ e z1 k (by omega)) (fun e => cols_at _ 512 _ e z1 k (by omega)))
    · exact (act1_at _ _ _ _ _ _).trans (gated_congr (fun e => rfl) (fun e => cols_at _ 256 _ e z1 k (by omega)) (fun e => cols_at _ 256 _ e z1 k (by omega)))
    · exact (act0_at _ _ _ _ _ _).trans (gated_congr (fun e => rfl) (fun e => cols_at _ 0 _ e z1 k (by omega)) (fun e => cols_at _ 0 _ e z1 k (by omega)))
  · pointwise [k0_pay19]
    obtain rfl : i = y0 := Fin.ext h0
    have hn : (⟨y1.val, by omega⟩ : Fin 1024) = n := Fin.ext h1.symm
    unfold ffnRow
    refine congrArg₂ _ (congrArg (fun q => (show FVec Ideal S512x1024 .f32 from iblk m c 0 t) (ix2 i q)) hn)
      (congrArg₂ _ rfl (Finset.sum_congr rfl fun k _ => congrArg₂ _ ?_ (congrArg (fun q => (show FVec Ideal S2816x1024 .bf16 from iblk m c 4 t) (ix2 k q)) hn)))
    simp only [View.readCov_eq_canon']
    canon_tiles z q <;> idx_vars z
    all_goals
      have e0 : z0 = i := Fin.ext (q0.symm.trans (Nat.zero_add _ |>.trans (Nat.one_mul _)))
      replace q1 := (show 0 + 1 * k.val = _ from q1)
      subst e0
    · exact (act10_at _ _ _ _ _).trans (gated_congr (fun e => norm_at _ _ _ e) (fun e => cols_at _ 2560 _ e z1 k (by omega)) (fun e => cols_at _ 2560 _ e z1 k (by omega)))
    · exact (act9_at _ _ _ _ _).trans (gated_congr (fun e => norm_at _ _ _ e) (fun e => cols_at _ 2304 _ e z1 k (by omega)) (fun e => cols_at _ 2304 _ e z1 k (by omega)))
    · exact (act8_at _ _ _ _ _).trans (gated_congr (fun e => norm_at _ _ _ e) (fun e => cols_at _ 2048 _ e z1 k (by omega)) (fun e => cols_at _ 2048 _ e z1 k (by omega)))
    · exact (act7_at _ _ _ _ _).trans (gated_congr (fun e => norm_at _ _ _ e) (fun e => cols_at _ 1792 _ e z1 k (by omega)) (fun e => cols_at _ 1792 _ e z1 k (by omega)))
    · exact (act6_at _ _ _ _ _).trans (gated_congr (fun e => norm_at _ _ _ e) (fun e => cols_at _ 1536 _ e z1 k (by omega)) (fun e => cols_at _ 1536 _ e z1 k (by omega)))
    · exact (act5_at _ _ _ _ _).trans (gated_congr (fun e => norm_at _ _ _ e) (fun e => cols_at _ 1280 _ e z1 k (by omega)) (fun e => cols_at _ 1280 _ e z1 k (by omega)))
    · exact (act4_at _ _ _ _ _).trans (gated_congr (fun e => norm_at _ _ _ e) (fun e => cols_at _ 1024 _ e z1 k (by omega)) (fun e => cols_at _ 1024 _ e z1 k (by omega)))
    · exact (act3_at _ _ _ _ _).trans (gated_congr (fun e => norm_at _ _ _ e) (fun e => cols_at _ 768 _ e z1 k (by omega)) (fun e => cols_at _ 768 _ e z1 k (by omega)))
    · exact (act2_at _ _ _ _ _).trans (gated_congr (fun e => norm_at _ _ _ e) (fun e => cols_at _ 512 _ e z1 k (by omega)) (fun e => cols_at _ 512 _ e z1 k (by omega)))
    · exact (act1_at _ _ _ _ _ _).trans (gated_congr (fun e => rfl) (fun e => cols_at _ 256 _ e z1 k (by omega)) (fun e => cols_at _ 256 _ e z1 k (by omega)))
    · exact (act0_at _ _ _ _ _ _).trans (gated_congr (fun e => rfl) (fun e => cols_at _ 0 _ e z1 k (by omega)) (fun e => cols_at _ 0 _ e z1 k (by omega)))
end Cert.Kernel2Ideal.Value
end
-- ==== Proof.FfnValue.lean ====
module

public import proofs.«01_k».proof.Proof.FfnBlock

@[expose] public section
set_option maxRecDepth 16384
noncomputable section
open Idealize.ShloMosaic Idealize.ShloMosaic.TcCoe Idealize.SL.Sem
open Idealize.ShloMosaic.Pipeline (Dat)
/-! The array the feed-forward kernel leaves. -/
namespace Cert.Kernel2Ideal.Value
open Cert.Kernel2Ideal Cert.Kernel2Ideal.Gen Cert.Rows
variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 5 of point `t` lies in its array. -/
theorem emb5 (t : Fin cfg0.N) (i : Fin 512) (a : Fin 1024) (h : t.val < 32) :
    (((cfg0.win 5).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 1024) (a : Fin 2816) :
    (((cfg0.win 2).blk t).view.emb (ix2 i a : S1024x2816.Idx) : S1024x2816.Idx) = ix2 i a := by
  blk_ext [idx t]

/-- Where block 3 of point `t` lies in its array. -/
theorem emb3 (t : Fin cfg0.N) (i : Fin 1024) (a : Fin 2816) :
    (((cfg0.win 3).blk t).view.emb (ix2 i a : S1024x2816.Idx) : S1024x2816.Idx) = ix2 i a := by
  blk_ext [idx t]

/-- Where block 4 of point `t` lies in its array. -/
theorem emb4 (t : Fin cfg0.N) (i : Fin 2816) (a : Fin 1024) :
    (((cfg0.win 4).blk t).view.emb (ix2 i a : S2816x1024.Idx) : S2816x1024.Idx) = ix2 i a := by
  blk_ext [idx t]

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ?_
  entry_read
  pointwise

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v2) (emb1 t a)).trans ?_
  entry_read
  pointwise

/-- Block 2 of point `t`, the gate's columns of the first weight. -/
theorem blk2 (c : Dev nD) (t : Fin cfg0.N) (i : Fin 1024) (a : Fin 2816) : (show FVec Ideal S1024x2816 .bf16 from iblk m c 2 t) (ix2 i a)
    = (show FVec Ideal S1024x5632 .f32 from m ((c : Thread nD τ).loc main_arg2)) (ix2 i ⟨a.val, by omega⟩) := by
  refine (congrArg (V m c main_v3) (emb2 t i a)).trans ?_
  entry_read
  pointwise

/-- Block 3 of point `t`, the up projection's columns of the first weight. -/
theorem blk3 (c : Dev nD) (t : Fin cfg0.N) (i : Fin 1024) (a : Fin 2816) : (show FVec Ideal S1024x2816 .bf16 from iblk m c 3 t) (ix2 i a)
    = (show FVec Ideal S1024x5632 .f32 from m ((c : Thread nD τ).loc main_arg2)) (ix2 i ⟨2816 + a.val, by omega⟩) := by
  refine (congrArg (V m c main_v4) (emb3 t i a)).trans ?_
  entry_read
  pointwise

/-- Block 4 of point `t`, read in the argument array. -/
theorem blk4 (c : Dev nD) (t : Fin cfg0.N) (i : Fin 2816) (a : Fin 1024) : (show FVec Ideal S2816x1024 .bf16 from iblk m c 4 t) (ix2 i a)
    = (show FVec Ideal S2816x1024 .f32 from m ((c : Thread nD τ).loc main_arg3)) (ix2 i a) := by
  refine (congrArg (V m c main_v5) (emb4 t i a)).trans ?_
  entry_read
  pointwise

/-- The whole result array: row `R` is the feed-forward's row function of row `R` of the input. -/
def G (x : FVec Ideal S2x8192x1024 .f32) (g : FVec Ideal S1024 .f32) (wi : FVec Ideal S1024x5632 .f32) (wo : FVec Ideal S2816x1024 .f32)
    (R : Fin 16384) (n : Fin 1024) : EReal :=
  ffnRow (fun a => x (ix3 ⟨R.val / 8192, by omega⟩ ⟨R.val % 8192, by omega⟩ a)) (fun a => g (ix1 a)) (fun a b => wi (ix2 a ⟨b.val, by omega⟩))
    (fun a b => wi (ix2 a ⟨2816 + b.val, by omega⟩)) (fun a b => wo (ix2 a b)) n

/-- THE ARRAY after the run, at every index. -/
theorem final (c : Dev nD) (X : FVec Ideal S16384x1024 .f32)
    (hX : ∀ R n, X (ix2 R n) = G (m ((c : Thread nD τ).loc main_arg0)) (m ((c : Thread nD τ).loc main_arg1)) (m ((c : Thread nD τ).loc main_arg2)) (m ((c : Thread nD τ).loc main_arg3)) R n) :
    (dats m 0 c).arrAt 5 cfg0.N = X := by
  refine (dats m 0 c).arrAt_eq_of_covers 5 _ (by decide +kernel) fun t _ y => ?_
  have h : t.val < 32 := (idx t).2.2.2.2.2.2
  blk_simp
  rw [after0_5]
  idx_vars y
  refine (block_at m c t y0 y1).trans ?_
  refine Eq.trans ?_ (congrArg X (emb5 t y0 y1 h)).symm
  rw [hX]
  exact ffnRow_congr (fun a => blk0 m c t y0 a h) (fun a => blk1 m c t a) (fun a b => blk2 m c t a b) (fun a b => blk3 m c t a b) (fun a b => blk4 m c t a b) rfl

/-- The array the run leaves, as one function of the arguments. -/
def result (c : Dev nD) : FVec Ideal S16384x1024 .f32 := fun y => G (m ((c : Thread nD τ).loc main_arg0)) (m ((c : Thread nD τ).loc main_arg1)) (m ((c : Thread nD τ).loc main_arg2)) (m ((c : Thread nD τ).loc main_arg3)) (y 0) (y 1)
end Cert.Kernel2Ideal.Value
end
-- ==== Proof.FfnRef.lean ====
module

public import proofs.«01_k».proof.Proof.Gen.Reference2Ideal.Run
public import proofs.«01_k».proof.Proof.Rows

@[expose] public section
set_option maxRecDepth 16384
noncomputable section
open Idealize.ShloMosaic Idealize.ShloMosaic.TcCoe Idealize.SL.Sem

/-! What the feed-forward reference computes, index by index. -/
namespace Cert.Reference2Ideal.Value
open Cert.Reference2Ideal Cert.Reference2Ideal.Gen Cert.Rows

/-- The normalised rows times the first weight. -/
def refH (x : FVec Ideal S2x8192x1024 .f32) (g : FVec Ideal S1024 .f32) (wi : FVec Ideal S1024x5632 .f32) : FVec Ideal S2x8192x5632 .f32 :=
  Host.dotGeneral dot_S2x8192x1024_S1024x5632_S2x8192x5632_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) wi

/-- The hidden units: the gate's half times its logistic times the up half. -/
def refA (h : FVec Ideal S2x8192x5632 .f32) : FVec Ideal S2x8192x2816 .f32 :=
  mulf (mulf (extractStridedSlice S2x8192x2816 ![0, 0, 0] h slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] h slices_S2x8192x5632_S2x8192x2816_0_0_0)))))) (extractStridedSlice S2x8192x2816 ![0, 0, 2816] h slices_S2x8192x5632_S2x8192x2816_0_0_2816)

/-- The residual rows plus half the hidden units projected back, rows laid in one axis. -/
def refO (x : FVec Ideal S2x8192x1024 .f32) (a : FVec Ideal S2x8192x2816 .f32) (wo : FVec Ideal S2816x1024 .f32) : FVec Ideal S16384x1024 .f32 :=
  shapeCast _ (addf x (mulf (broadcastInDim S2x8192x1024 ![] bcast_S_S2x8192x1024 (constant S_ .f32 0x3F000000#32)) (Host.dotGeneral dot_S2x8192x2816_S2816x1024_S2x8192x1024_2_0_01_1_n_n none a wo))) shapeCasts_S2x8192x1024_S16384x1024

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = refO (m ((c.tc : Thread nD τ).loc main_arg0)) (refA (refH (m ((c.tc : Thread nD τ).loc main_arg0)) (m ((c.tc : Thread nD τ).loc main_arg1)) (m ((c.tc : Thread nD τ).loc main_arg2)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

theorem refH_at (x : FVec Ideal S2x8192x1024 .f32) (g : FVec Ideal S1024 .f32) (wi : FVec Ideal S1024x5632 .f32) (b : Fin 2) (r : Fin 8192) (k : Fin 5632) :
    refH x g wi (ix3 b r k) = ∑ e, normed (fun a => x (ix3 b r a)) (fun a => g (ix1 a)) e * wi (ix2 e k) := by
  pointwise [refH]
  rfl

theorem refA_at (h : FVec Ideal S2x8192x5632 .f32) (b : Fin 2) (r : Fin 8192) (k : Fin 2816) :
    refA h (ix3 b r k) = h (ix3 b r ⟨k.val, by omega⟩) * Ideal.logistic (h (ix3 b r ⟨k.val, by omega⟩)) * h (ix3 b r ⟨2816 + k.val, by omega⟩) := by
  pointwise [refA]
  simp only [Ideal.logistic]

/-- THE REFERENCE AT AN INDEX: row `R` of the flattened result is the feed-forward's row function of row `R` of the input. -/
theorem res_at (x : FVec Ideal S2x8192x1024 .f32) (g : FVec Ideal S1024 .f32) (wi : FVec Ideal S1024x5632 .f32) (wo : FVec Ideal S2816x1024 .f32)
    (R : Fin 16384) (n : Fin 1024) :
    refO x (refA (refH x g wi)) wo (ix2 R n)
    = ffnRow (fun a => x (ix3 ⟨R.val / 8192, by omega⟩ ⟨R.val % 8192, by omega⟩ a)) (fun a => g (ix1 a)) (fun a b => wi (ix2 a ⟨b.val, by omega⟩))
    (fun a b => wi (ix2 a ⟨2816 + b.val, by omega⟩)) (fun a b => wo (ix2 a b)) n := by
  pointwise [refO]
  simp only [refA_at, refH_at]
  rfl
end Cert.Reference2Ideal.Value
end
-- ==== Proof.FfnClaim.lean ====
module

public import proofs.«01_k».proof.Defs
public import proofs.«01_k».proof.Proof.Gen.Kernel2.Frame
public import proofs.«01_k».proof.Proof.FfnValue
public import proofs.«01_k».proof.Proof.FfnRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the feed-forward. -/
namespace Cert.Proof.Ffn

/-- The kernel runs, leaves its arguments and ends with every counter at zero. -/
theorem frame : Cert.quiescent_Kernel2 := fun m ρ _ => Cert.Kernel2.Gen.frame m ρ

/-- The same of the kernel read over the extended reals. -/
theorem frame_ideal : Cert.quiescent_Kernel2Ideal := fun m ρ _ => Cert.Kernel2Ideal.Gen.frame m ρ

/-- The same of the reference. -/
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run_steps m ρ)

/-- Over the extended reals the kernel's array is the reference's, entry by entry. -/
theorem algebraic : Cert.algebraic_Kernel2Ideal_Reference2Ideal := by
  intro m g m' g' _ hagree
  refine ⟨fun c => Cert.Kernel2Ideal.Value.result m c, ?_, ?_⟩
  · exact (θ_run Cert.Kernel2Ideal.defs _ _).mono (fun _ h c => ⟨(h c).1.trans (Cert.Kernel2Ideal.Value.final m c _ fun R n => rfl), (h c).2⟩) (Cert.Kernel2Ideal.Value.run_blocks m g)
  · refine (θ_run Cert.Reference2Ideal.defs _ _).mono (fun _ h c => ⟨(h c).1.trans ?_, (h c).2⟩) (Cert.Reference2Ideal.Value.run_steps m' g')

    obtain ⟨h0, h1, h2, h3⟩ := hagree c
    rw [h0, h1, h2, h3]
    funext y
    idx_vars y
    exact Cert.Reference2Ideal.Value.res_at _ _ _ _ y0 y1
end Cert.Proof.Ffn
end
-- ==== Proof.MemBlock.lean ====
module

public import proofs.«01_k».proof.Proof.Gen.Kernel3Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the memory projection computes from its blocks. -/
namespace Cert.Kernel3Ideal.Value
open Cert.Kernel3Ideal Cert.Kernel3Ideal.Gen Cert.Rows

/-- The low half's columns of the block. -/
theorem lo_at (x : FVec Ideal S512x1024 .f32) (g : FVec Ideal S1x1024 .f32) (w : FVec Ideal S1024x512 .bf16) (i k : Fin 512) :
    k0_pay2 (F := Ideal) x g w (ix2 i k) = proj (fun a => x (ix2 i a)) (fun a => g (ix2 0 a)) (fun e => w (ix2 e k)) := by
  pointwise [k0_pay2, k0_pay1]
  rfl

/-- The high half's columns of the block. -/
theorem hi_at (x : FVec Ideal S512x1024 .f32) (g : FVec Ideal S1x1024 .f32) (w : FVec Ideal S1024x512 .bf16) (i k : Fin 512) :
    k0_pay3 (F := Ideal) x g w (ix2 i k) = proj (fun a => x (ix2 i a)) (fun a => g (ix2 0 a)) (fun e => w (ix2 e k)) := by
  pointwise [k0_pay3, k0_pay1]
  rfl

/-- The stored block: a column of the normalised row's projection. -/
theorem block_at (x : FVec Ideal S512x1024 .f32) (g : FVec Ideal S1x1024 .f32) (w : FVec Ideal S1024x1024 .bf16) (i : Fin 512) (n : Fin 1024) :
    out0_3 (F := Ideal) x g w (ix2 i n) = proj (fun a => x (ix2 i a)) (fun a => g (ix2 0 a)) (fun e => w (ix2 e n)) := by
  unfold out0_3
  frame_out
  canon_tiles y h
  · idx_vars y
    obtain rfl : i = y0 := Fin.ext h0
    refine (hi_at _ _ _ _ _).trans ?_
    blk_point []
    all_goals exact ld_at _ _ _ _ _ _ _ _ (by omega) (by omega)
  · idx_vars y
    obtain rfl : i = y0 := Fin.ext h0
    refine (lo_at _ _ _ _ _).trans ?_
    blk_point []
    all_goals exact ld_at _ _ _ _ _ _ _ _ (by omega) (by omega)

end Cert.Kernel3Ideal.Value
end
-- ==== Proof.MemValue.lean ====
module

public import proofs.«01_k».proof.Proof.MemBlock

@[expose] public section
set_option maxRecDepth 16384
noncomputable section
open Idealize.ShloMosaic Idealize.ShloMosaic.TcCoe Idealize.SL.Sem
open Idealize.ShloMosaic.Pipeline (Dat)

/-! The array the memory projection leaves. -/
namespace Cert.Kernel3Ideal.Value
open Cert.Kernel3Ideal Cert.Kernel3Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![0, 0] ∧ win0_3.index t = ![t.val, 0] ∧ t.val < 1 :=
  (by decide +kernel : ∀ t : Fin grid0.N, _)

/-- Where block 0 of point `t` lies in its array. -/
theorem emb0 (t : Fin cfg0.N) (i : Fin 512) (a : Fin 1024) (h : t.val < 1) :
    (((cfg0.win 0).blk t).view.emb (ix2 i a : S512x1024.Idx) : S512x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 1024) (a : Fin 1024) :
    (((cfg0.win 2).blk t).view.emb (ix2 i a : S1024x1024.Idx) : S1024x1024.Idx) = ix2 i a := by
  blk_ext [idx t]

/-- Where block 3 of point `t` lies in its array. -/
theorem emb3 (t : Fin cfg0.N) (i : Fin 512) (a : Fin 1024) (h : t.val < 1) :
    (((cfg0.win 3).blk t).view.emb (ix2 i a : S512x1024.Idx) : S512x1024.Idx) = ix2 ⟨t.val * 512 + i.val, by omega⟩ a := by
  blk_ext [idx t]

/-- Block 0 of point `t`, read in the argument array. -/
theorem blk0 (c : Dev nD) (t : Fin cfg0.N) (i : Fin 512) (a : Fin 1024) (h : t.val < 1) : (show FVec Ideal S512x1024 .f32 from iblk m c 0 t) (ix2 i a)
    = (show FVec Ideal S2x256x1024 .f32 from m ((c : Thread nD τ).loc main_arg0)) (ix3 ⟨(t.val * 512 + i.val) / 256, by omega⟩ ⟨(t.val * 512 + i.val) % 256, by omega⟩ a) := by
  refine (congrArg (V m c main_v0) (emb0 t i a h)).trans ?_
  entry_read
  pointwise

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v2) (emb1 t a)).trans ?_
  entry_read
  pointwise

/-- Block 2 of point `t`, read in the argument array. -/
theorem blk2 (c : Dev nD) (t : Fin cfg0.N) (i : Fin 1024) (a : Fin 1024) : (show FVec Ideal S1024x1024 .bf16 from iblk m c 2 t) (ix2 i a)
    = (show FVec Ideal S1024x1024 .f32 from m ((c : Thread nD τ).loc main_arg2)) (ix2 i a) := by
  refine (congrArg (V m c main_v1) (emb2 t i a)).trans ?_
  entry_read
  pointwise

/-- The whole result array: a column of the normalised row's projection. -/
def G (x : FVec Ideal S2x256x1024 .f32) (g : FVec Ideal S1024 .f32) (w : FVec Ideal S1024x1024 .f32) (R : Fin 512) (n : Fin 1024) : EReal :=
  proj (fun a => x (ix3 ⟨R.val / 256, by omega⟩ ⟨R.val % 256, by omega⟩ a)) (fun a => g (ix1 a)) (fun e => w (ix2 e n))

/-- THE ARRAY after the run, at every index. -/
theorem final (c : Dev nD) (X : FVec Ideal S512x1024 .f32)
    (hX : ∀ R n, X (ix2 R n) = G (m ((c : Thread nD τ).loc main_arg0)) (m ((c : Thread nD τ).loc main_arg1)) (m ((c : Thread nD τ).loc main_arg2)) R n) :
    (dats m 0 c).arrAt 3 cfg0.N = X := by
  refine (dats m 0 c).arrAt_eq_of_covers 3 _ (by decide +kernel) fun t _ y => ?_
  have h : t.val < 1 := (idx t).2.2.2.2
  blk_simp
  rw [after0_3]
  idx_vars y
  refine (block_at _ _ _ y0 y1).trans ?_
  refine Eq.trans ?_ (congrArg X (emb3 t y0 y1 h)).symm
  rw [hX]
  exact proj_congr (fun a => blk0 m c t y0 a h) (fun a => blk1 m c t a) (fun a => blk2 m c t a y1)

/-- The array the run leaves, as one function of the arguments. -/
def result (c : Dev nD) : FVec Ideal S512x1024 .f32 := fun y => G (m ((c : Thread nD τ).loc main_arg0)) (m ((c : Thread nD τ).loc main_arg1)) (m ((c : Thread nD τ).loc main_arg2)) (y 0) (y 1)

end Cert.Kernel3Ideal.Value
end
-- ==== Proof.MemRef.lean ====
module

public import proofs.«01_k».proof.Proof.Gen.Reference3Ideal.Run
public import proofs.«01_k».proof.Proof.Rows

@[expose] public section
set_option maxRecDepth 16384
noncomputable section
open Idealize.ShloMosaic Idealize.ShloMosaic.TcCoe Idealize.SL.Sem
open Idealize.ShloMosaic.Pipeline (Dat)

/-! What the reference of the memory projection computes, index by index. -/
namespace Cert.Reference3Ideal.Value
open Cert.Reference3Ideal Cert.Reference3Ideal.Gen Cert.Rows

/-- The reference's composed term. -/
def refO (x : FVec Ideal S2x256x1024 .f32) (g : FVec Ideal S1024 .f32) (w : FVec Ideal S1024x1024 .f32) : FVec Ideal S512x1024 .f32 :=
  shapeCast _ (Host.dotGeneral dot_S2x256x1024_S1024x1024_S2x256x1024_2_0_01_1_n_n none (mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))) w) shapeCasts_S2x256x1024_S512x1024

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = refO (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-- THE REFERENCE AT AN INDEX. -/
theorem res_at (x : FVec Ideal S2x256x1024 .f32) (g : FVec Ideal S1024 .f32) (w : FVec Ideal S1024x1024 .f32) (R : Fin 512) (n : Fin 1024) :
    refO x g w (ix2 R n) = proj (fun a => x (ix3 ⟨R.val / 256, by omega⟩ ⟨R.val % 256, by omega⟩ a)) (fun a => g (ix1 a)) (fun e => w (ix2 e n)) := by
  pointwise [refO]
  rfl

end Cert.Reference3Ideal.Value
end
-- ==== Proof.MemClaim.lean ====
module

public import proofs.«01_k».proof.Defs
public import proofs.«01_k».proof.Proof.Gen.Kernel3.Frame
public import proofs.«01_k».proof.Proof.MemValue
public import proofs.«01_k».proof.Proof.MemRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the memory projection. -/
namespace Cert.Proof.Mem

/-- The kernel runs, leaves its arguments and ends with every counter at zero. -/
theorem frame : Cert.quiescent_Kernel3 := fun m ρ _ => Cert.Kernel3.Gen.frame m ρ

/-- The same of the kernel read over the extended reals. -/
theorem frame_ideal : Cert.quiescent_Kernel3Ideal := fun m ρ _ => Cert.Kernel3Ideal.Gen.frame m ρ

/-- The same of the reference. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run_steps m ρ)

/-- Over the extended reals the kernel's array is the reference's, entry by entry. -/
theorem algebraic : Cert.algebraic_Kernel3Ideal_Reference3Ideal := by
  intro m g m' g' _ hagree
  refine ⟨fun c => Cert.Kernel3Ideal.Value.result m c, ?_, ?_⟩
  · exact (θ_run Cert.Kernel3Ideal.defs _ _).mono (fun _ h c => ⟨(h c).1.trans (Cert.Kernel3Ideal.Value.final m c _ fun R n => rfl), (h c).2⟩) (Cert.Kernel3Ideal.Value.run_blocks m g)
  · refine (θ_run Cert.Reference3Ideal.defs _ _).mono (fun _ h c => ⟨(h c).1.trans ?_, (h c).2⟩) (Cert.Reference3Ideal.Value.run_steps m' g')

    obtain ⟨h0, h1, h2⟩ := hagree c
    rw [h0, h1, h2]
    funext y
    idx_vars y
    exact Cert.Reference3Ideal.Value.res_at _ _ _ y0 y1
end Cert.Proof.Mem
end
-- ==== Proof.NormBlock.lean ====
module

public import proofs.«01_k».proof.Proof.Gen.Kernel4Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the final norm computes from its blocks. -/
namespace Cert.Kernel4Ideal.Value
open Cert.Kernel4Ideal Cert.Kernel4Ideal.Gen Cert.Rows

/-- The stored block: the normalised row. -/
theorem block_at (x : FVec Ideal S512x1024 .f32) (g : FVec Ideal S1x1024 .f32) (i : Fin 512) (n : Fin 1024) :
    out0_2 (F := Ideal) x g (ix2 i n) = normed (fun a => x (ix2 i a)) (fun a => g (ix2 0 a)) n := by
  unfold out0_2
  frame_out
  pointwise [k0_pay1]
  rfl

end Cert.Kernel4Ideal.Value
end
-- ==== Proof.NormValue.lean ====
module

public import proofs.«01_k».proof.Proof.NormBlock

@[expose] public section
set_option maxRecDepth 16384
noncomputable section
open Idealize.ShloMosaic Idealize.ShloMosaic.TcCoe Idealize.SL.Sem
open Idealize.ShloMosaic.Pipeline (Dat)

/-! The array the final norm leaves. -/
namespace Cert.Kernel4Ideal.Value
open Cert.Kernel4Ideal Cert.Kernel4Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 512) (a : Fin 1024) (h : t.val < 32) :
    (((cfg0.win 2).blk t).view.emb (ix2 i a : S512x1024.Idx) : S16384x1024.Idx) = ix2 ⟨t.val * 512 + i.val, by omega⟩ a := by
  blk_ext [idx t]

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ?_
  entry_read
  pointwise

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v1) (emb1 t a)).trans ?_
  entry_read
  pointwise

/-- The whole result array: the normalised row. -/
def G (x : FVec Ideal S2x8192x1024 .f32) (g : FVec Ideal S1024 .f32) (R : Fin 16384) (n : Fin 1024) : EReal :=
  normed (fun a => x (ix3 ⟨R.val / 8192, by omega⟩ ⟨R.val % 8192, by omega⟩ a)) (fun a => g (ix1 a)) n

/-- THE ARRAY after the run, at every index. -/
theorem final (c : Dev nD) (X : FVec Ideal S16384x1024 .f32)
    (hX : ∀ R n, X (ix2 R n) = G (m ((c : Thread nD τ).loc main_arg0)) (m ((c : Thread nD τ).loc main_arg1)) R n) :
    (dats m 0 c).arrAt 2 cfg0.N = X := by
  refine (dats m 0 c).arrAt_eq_of_covers 2 _ (by decide +kernel) fun t _ y => ?_
  have h : t.val < 32 := (idx t).2.2.2
  blk_simp
  rw [after0_2]
  idx_vars y
  refine (block_at _ _ y0 y1).trans ?_
  refine Eq.trans ?_ (congrArg X (emb2 t y0 y1 h)).symm
  rw [hX]
  exact normed_congr (fun a => blk0 m c t y0 a h) (fun a => blk1 m c t a) rfl

/-- The array the run leaves, as one function of the arguments. -/
def result (c : Dev nD) : FVec Ideal S16384x1024 .f32 := fun y => G (m ((c : Thread nD τ).loc main_arg0)) (m ((c : Thread nD τ).loc main_arg1)) (y 0) (y 1)

end Cert.Kernel4Ideal.Value
end
-- ==== Proof.NormRef.lean ====
module

public import proofs.«01_k».proof.Proof.Gen.Reference4Ideal.Run
public import proofs.«01_k».proof.Proof.Rows

@[expose] public section
set_option maxRecDepth 16384
noncomputable section
open Idealize.ShloMosaic Idealize.ShloMosaic.TcCoe Idealize.SL.Sem
open Idealize.ShloMosaic.Pipeline (Dat)

/-! What the reference of the final norm computes, index by index. -/
namespace Cert.Reference4Ideal.Value
open Cert.Reference4Ideal Cert.Reference4Ideal.Gen Cert.Rows

/-- The reference's composed term. -/
def refO (x : FVec Ideal S2x8192x1024 .f32) (g : FVec Ideal S1024 .f32) : FVec Ideal S16384x1024 .f32 :=
  shapeCast _ (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) shapeCasts_S2x8192x1024_S16384x1024

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refO (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := run m ρ

/-- THE REFERENCE AT AN INDEX. -/
theorem res_at (x : FVec Ideal S2x8192x1024 .f32) (g : FVec Ideal S1024 .f32) (R : Fin 16384) (n : Fin 1024) :
    refO x g (ix2 R n) = normed (fun a => x (ix3 ⟨R.val / 8192, by omega⟩ ⟨R.val % 8192, by omega⟩ a)) (fun a => g (ix1 a)) n := by
  pointwise [refO]
  rfl

end Cert.Reference4Ideal.Value
end
-- ==== Proof.NormClaim.lean ====
module

public import proofs.«01_k».proof.Defs
public import proofs.«01_k».proof.Proof.Gen.Kernel4.Frame
public import proofs.«01_k».proof.Proof.NormValue
public import proofs.«01_k».proof.Proof.NormRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the final norm. -/
namespace Cert.Proof.Norm

/-- The kernel runs, leaves its arguments and ends with every counter at zero. -/
theorem frame : Cert.quiescent_Kernel4 := fun m ρ _ => Cert.Kernel4.Gen.frame m ρ

/-- The same of the kernel read over the extended reals. -/
theorem frame_ideal : Cert.quiescent_Kernel4Ideal := fun m ρ _ => Cert.Kernel4Ideal.Gen.frame m ρ

/-- The same of the reference. -/
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run_steps m ρ)

/-- Over the extended reals the kernel's array is the reference's, entry by entry. -/
theorem algebraic : Cert.algebraic_Kernel4Ideal_Reference4Ideal := by
  intro m g m' g' _ hagree
  refine ⟨fun c => Cert.Kernel4Ideal.Value.result m c, ?_, ?_⟩
  · exact (θ_run Cert.Kernel4Ideal.defs _ _).mono (fun _ h c => ⟨(h c).1.trans (Cert.Kernel4Ideal.Value.final m c _ fun R n => rfl), (h c).2⟩) (Cert.Kernel4Ideal.Value.run_blocks m g)
  · refine (θ_run Cert.Reference4Ideal.defs _ _).mono (fun _ h c => ⟨(h c).1.trans ?_, (h c).2⟩) (Cert.Reference4Ideal.Value.run_steps m' g')

    obtain ⟨h0, h1⟩ := hagree c
    rw [h0, h1]
    funext y
    idx_vars y
    exact Cert.Reference4Ideal.Value.res_at _ _ y0 y1
end Cert.Proof.Norm
end
-- ==== Proof.OutBlock.lean ====
module

public import proofs.«01_k».proof.Proof.Gen.Kernel5Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the attention's output projection computes from its blocks. -/
namespace Cert.Kernel5Ideal.Value
open Cert.Kernel5Ideal Cert.Kernel5Ideal.Gen Cert.Rows

/-- The low half's columns of the block. -/
theorem lo_at (x : FVec Ideal S512x1024 .f32) (w : FVec Ideal S1024x512 .bf16) (r : FVec Ideal S512x512 .f32) (i k : Fin 512) :
    k0_pay2 (F := Ideal) x w r (ix2 i k) = outCol (r (ix2 i k)) (fun a => x (ix2 i a)) (fun e => w (ix2 e k)) := by
  pointwise [k0_pay2, k0_pay1]
  rfl

/-- The high half's columns of the block. -/
theorem hi_at (x : FVec Ideal S512x1024 .f32) (w : FVec Ideal S1024x512 .bf16) (r : FVec Ideal S512x512 .f32) (i k : Fin 512) :
    k0_pay3 (F := Ideal) x w r (ix2 i k) = outCol (r (ix2 i k)) (fun a => x (ix2 i a)) (fun e => w (ix2 e k)) := by
  pointwise [k0_pay3, k0_pay1]
  rfl

/-- The stored block: the residual plus the row's product with the weight. -/
theorem block_at (x : FVec Ideal S512x1024 .f32) (g : FVec Ideal S1x1024 .f32) (w : FVec Ideal S1024x1024 .bf16) (r : FVec Ideal S512x1024 .f32) (i : Fin 512) (n : Fin 1024) :
    out0_4 (F := Ideal) x g w r (ix2 i n) = outCol (r (ix2 i n)) (fun a => x (ix2 i a)) (fun e => w (ix2 e n)) := by
  unfold out0_4
  frame_out
  canon_tiles y h
  · idx_vars y
    obtain rfl : i = y0 := Fin.ext h0
    refine (hi_at _ _ _ _ _).trans ?_
    blk_point []
    all_goals exact ld_at _ _ _ _ _ _ _ _ (by omega) (by omega)
  · idx_vars y
    obtain rfl : i = y0 := Fin.ext h0
    refine (lo_at _ _ _ _ _).trans ?_
    blk_point []
    all_goals exact ld_at _ _ _ _ _ _ _ _ (by omega) (by omega)

end Cert.Kernel5Ideal.Value
end
-- ==== Proof.OutValue.lean ====
module

public import proofs.«01_k».proof.Proof.OutBlock

@[expose] public section
set_option maxRecDepth 16384
noncomputable section
open Idealize.ShloMosaic Idealize.ShloMosaic.TcCoe Idealize.SL.Sem
open Idealize.ShloMosaic.Pipeline (Dat)

/-! The array the attention's output projection leaves. -/
namespace Cert.Kernel5Ideal.Value
open Cert.Kernel5Ideal Cert.Kernel5Ideal.Gen Cert.Rows

variable (m : (ℓ : Loc nD τ sig) → Buf (Elt Ideal) ℓ)

/-- The block indices of the windows at every grid point. -/
theorem idx : ∀ t : Fin cfg0.N, win0_0.index t = ![t.val, 0] ∧ win0_2.index t = ![0, 0] ∧ win0_3.index t = ![t.val, 0] ∧ win0_4.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 2 of point `t` lies in its array. -/
theorem emb2 (t : Fin cfg0.N) (i : Fin 1024) (a : Fin 1024) :
    (((cfg0.win 2).blk t).view.emb (ix2 i a : S1024x1024.Idx) : S1024x1024.Idx) = ix2 i a := by
  blk_ext [idx t]

/-- Where block 3 of point `t` lies in its array. -/
theorem emb3 (t : Fin cfg0.N) (i : Fin 512) (a : Fin 1024) (h : t.val < 32) :
    (((cfg0.win 3).blk t).view.emb (ix2 i a : S512x1024.Idx) : S16384x1024.Idx) = ix2 ⟨t.val * 512 + i.val, by omega⟩ a := by
  blk_ext [idx t]

/-- Where block 4 of point `t` lies in its array. -/
theorem emb4 (t : Fin cfg0.N) (i : Fin 512) (a : Fin 1024) (h : t.val < 32) :
    (((cfg0.win 4).blk t).view.emb (ix2 i a : S512x1024.Idx) : S16384x1024.Idx) = ix2 ⟨t.val * 512 + i.val, by omega⟩ a := by
  blk_ext [idx t]

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ?_
  entry_read
  pointwise

/-- Block 2 of point `t`, read in the argument array. -/
theorem blk2 (c : Dev nD) (t : Fin cfg0.N) (i : Fin 1024) (a : Fin 1024) : (show FVec Ideal S1024x1024 .bf16 from iblk m c 2 t) (ix2 i a)
    = (show FVec Ideal S1024x1024 .f32 from m ((c : Thread nD τ).loc main_arg1)) (ix2 i a) := by
  refine (congrArg (V m c main_v2) (emb2 t i a)).trans ?_
  entry_read
  pointwise

/-- Block 3 of point `t`, read in the argument array. -/
theorem blk3 (c : Dev nD) (t : Fin cfg0.N) (i : Fin 512) (a : Fin 1024) (h : t.val < 32) : (show FVec Ideal S512x1024 .f32 from iblk m c 3 t) (ix2 i a)
    = (show FVec Ideal S2x8192x1024 .f32 from m ((c : Thread nD τ).loc main_arg2)) (ix3 ⟨(t.val * 512 + i.val) / 8192, by omega⟩ ⟨(t.val * 512 + i.val) % 8192, by omega⟩ a) := by
  refine (congrArg (V m c main_v1) (emb3 t i a h)).trans ?_
  entry_read
  pointwise

/-- The whole result array: the residual plus the row's product with the weight. -/
def G (x : FVec Ideal S2x8192x1024 .f32) (w : FVec Ideal S1024x1024 .f32) (r : FVec Ideal S2x8192x1024 .f32) (R : Fin 16384) (n : Fin 1024) : EReal :=
  outCol (r (ix3 ⟨R.val / 8192, by omega⟩ ⟨R.val % 8192, by omega⟩ n)) (fun a => x (ix3 ⟨R.val / 8192, by omega⟩ ⟨R.val % 8192, by omega⟩ a)) (fun e => w (ix2 e n))

/-- THE ARRAY after the run, at every index. -/
theorem final (c : Dev nD) (X : FVec Ideal S16384x1024 .f32)
    (hX : ∀ R n, X (ix2 R n) = G (m ((c : Thread nD τ).loc main_arg0)) (m ((c : Thread nD τ).loc main_arg1)) (m ((c : Thread nD τ).loc main_arg2)) R n) :
    (dats m 0 c).arrAt 4 cfg0.N = X := by
  refine (dats m 0 c).arrAt_eq_of_covers 4 _ (by decide +kernel) fun t _ y => ?_
  have h : t.val < 32 := (idx t).2.2.2.2
  blk_simp
  rw [after0_4]
  idx_vars y
  refine (block_at _ _ _ _ y0 y1).trans ?_
  refine Eq.trans ?_ (congrArg X (emb4 t y0 y1 h)).symm
  rw [hX]
  exact outCol_congr (blk3 m c t y0 y1 h) (fun a => blk0 m c t y0 a h) (fun a => blk2 m c t a y1)

/-- The array the run leaves, as one function of the arguments. -/
def result (c : Dev nD) : FVec Ideal S16384x1024 .f32 := fun y => G (m ((c : Thread nD τ).loc main_arg0)) (m ((c : Thread nD τ).loc main_arg1)) (m ((c : Thread nD τ).loc main_arg2)) (y 0) (y 1)

end Cert.Kernel5Ideal.Value
end
-- ==== Proof.OutRef.lean ====
module

public import proofs.«01_k».proof.Proof.Gen.Reference5Ideal.Run
public import proofs.«01_k».proof.Proof.Rows

@[expose] public section
set_option maxRecDepth 16384
noncomputable section
open Idealize.ShloMosaic Idealize.ShloMosaic.TcCoe Idealize.SL.Sem
open Idealize.ShloMosaic.Pipeline (Dat)

/-! What the reference of the attention's output projection computes, index by index. -/
namespace Cert.Reference5Ideal.Value
open Cert.Reference5Ideal Cert.Reference5Ideal.Gen Cert.Rows

/-- The reference's composed term. -/
def refO (x : FVec Ideal S2x8192x1024 .f32) (w : FVec Ideal S1024x1024 .f32) (r : FVec Ideal S2x8192x1024 .f32) : FVec Ideal S16384x1024 .f32 :=
  shapeCast _ (addf r (Host.dotGeneral dot_S2x8192x1024_S1024x1024_S2x8192x1024_2_0_01_1_n_n none x w)) shapeCasts_S2x8192x1024_S16384x1024

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = refO (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-- THE REFERENCE AT AN INDEX. -/
theorem res_at (x : FVec Ideal S2x8192x1024 .f32) (w : FVec Ideal S1024x1024 .f32) (r : FVec Ideal S2x8192x1024 .f32) (R : Fin 16384) (n : Fin 1024) :
    refO x w r (ix2 R n) = outCol (r (ix3 ⟨R.val / 8192, by omega⟩ ⟨R.val % 8192, by omega⟩ n)) (fun a => x (ix3 ⟨R.val / 8192, by omega⟩ ⟨R.val % 8192, by omega⟩ a)) (fun e => w (ix2 e n)) := by
  pointwise [refO]
  rfl

end Cert.Reference5Ideal.Value
end
-- ==== Proof.OutClaim.lean ====
module

public import proofs.«01_k».proof.Defs
public import proofs.«01_k».proof.Proof.Gen.Kernel5.Frame
public import proofs.«01_k».proof.Proof.OutValue
public import proofs.«01_k».proof.Proof.OutRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the attention's output projection. -/
namespace Cert.Proof.Out

/-- The kernel runs, leaves its arguments and ends with every counter at zero. -/
theorem frame : Cert.quiescent_Kernel5 := fun m ρ _ => Cert.Kernel5.Gen.frame m ρ

/-- The same of the kernel read over the extended reals. -/
theorem frame_ideal : Cert.quiescent_Kernel5Ideal := fun m ρ _ => Cert.Kernel5Ideal.Gen.frame m ρ

/-- The same of the reference. -/
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run_steps m ρ)

/-- Over the extended reals the kernel's array is the reference's, entry by entry. -/
theorem algebraic : Cert.algebraic_Kernel5Ideal_Reference5Ideal := by
  intro m g m' g' _ hagree
  refine ⟨fun c => Cert.Kernel5Ideal.Value.result m c, ?_, ?_⟩
  · exact (θ_run Cert.Kernel5Ideal.defs _ _).mono (fun _ h c => ⟨(h c).1.trans (Cert.Kernel5Ideal.Value.final m c _ fun R n => rfl), (h c).2⟩) (Cert.Kernel5Ideal.Value.run_blocks m g)
  · refine (θ_run Cert.Reference5Ideal.defs _ _).mono (fun _ h c => ⟨(h c).1.trans ?_, (h c).2⟩) (Cert.Reference5Ideal.Value.run_steps m' g')

    obtain ⟨h0, h1, h2⟩ := hagree c
    rw [h0, h1, h2]
    funext y
    idx_vars y
    exact Cert.Reference5Ideal.Value.res_at _ _ _ y0 y1
end Cert.Proof.Out
end
-- ==== Proof.SsdOutBlock.lean ====
module

public import proofs.«01_k».proof.Proof.Gen.Kernel6Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the recurrence's output projection computes from its blocks. -/
namespace Cert.Kernel6Ideal.Value
open Cert.Kernel6Ideal Cert.Kernel6Ideal.Gen Cert.Rows

/-- The low half's columns of the block. -/
theorem lo_at (x : FVec Ideal S512x2048 .f32) (g : FVec Ideal S1x2048 .f32) (w : FVec Ideal S2048x512 .bf16) (r : FVec Ideal S512x512 .f32) (i k : Fin 512) :
    k0_pay2 (F := Ideal) x g w r (ix2 i k) = outCol2 (r (ix2 i k)) (fun a => x (ix2 i a)) (fun a => g (ix2 0 a)) (fun e => w (ix2 e k)) := by
  pointwise [k0_pay2, k0_pay1]
  rfl

/-- The high half's columns of the block. -/
theorem hi_at (x : FVec Ideal S512x2048 .f32) (g : FVec Ideal S1x2048 .f32) (w : FVec Ideal S2048x512 .bf16) (r : FVec Ideal S512x512 .f32) (i k : Fin 512) :
    k0_pay3 (F := Ideal) x g w r (ix2 i k) = outCol2 (r (ix2 i k)) (fun a => x (ix2 i a)) (fun a => g (ix2 0 a)) (fun e => w (ix2 e k)) := by
  pointwise [k0_pay3, k0_pay1]
  rfl

/-- The stored block: the residual plus the normalised row's product with the weight. -/
theorem block_at (x : FVec Ideal S512x2048 .f32) (g : FVec Ideal S1x2048 .f32) (w : FVec Ideal S2048x1024 .bf16) (r : FVec Ideal S512x1024 .f32) (i : Fin 512) (n : Fin 1024) :
    out0_4 (F := Ideal) x g w r (ix2 i n) = outCol2 (r (ix2 i n)) (fun a => x (ix2 i a)) (fun a => g (ix2 0 a)) (fun e => w (ix2 e n)) := by
  unfold out0_4
  frame_out
  canon_tiles y h
  · idx_vars y
    obtain rfl : i = y0 := Fin.ext h0
    refine (hi_at _ _ _ _ _ _).trans ?_
    blk_point []
    all_goals exact ld_at _ _ _ _ _ _ _ _ (by omega) (by omega)
  · idx_vars y
    obtain rfl : i = y0 := Fin.ext h0
    refine (lo_at _ _ _ _ _ _).trans ?_
    blk_point []
    all_goals exact ld_at _ _ _ _ _ _ _ _ (by omega) (by omega)

end Cert.Kernel6Ideal.Value
end
-- ==== Proof.SsdOutValue.lean ====
module

public import proofs.«01_k».proof.Proof.SsdOutBlock

@[expose] public section
set_option maxRecDepth 16384
noncomputable section
open Idealize.ShloMosaic Idealize.ShloMosaic.TcCoe Idealize.SL.Sem
open Idealize.ShloMosaic.Pipeline (Dat)

/-! The array the recurrence's output projection leaves. -/
namespace Cert.Kernel6Ideal.Value
open Cert.Kernel6Ideal Cert.Kernel6Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ t.val < 32 :=
  (by decide +kernel : ∀ t : Fin grid0.N, _)

/-- Where block 0 of point `t` lies in its array. -/
theorem emb0 (t : Fin cfg0.N) (i : Fin 512) (a : Fin 2048) (h : t.val < 32) :
    (((cfg0.win 0).blk t).view.emb (ix2 i a : S512x2048.Idx) : S16384x2048.Idx) = ix2 ⟨t.val * 512 + i.val, by omega⟩ a := by
  blk_ext [idx t]

/-- Where block 1 of point `t` lies in its array. -/
theorem emb1 (t : Fin cfg0.N) (a : Fin 2048) :
    (((cfg0.win 1).blk t).view.emb (ix2 0 a : S1x2048.Idx) : S1x2048.Idx) = ix2 0 a := by
  blk_ext [idx t]

/-- Where block 2 of point `t` lies in its array. -/
theorem emb2 (t : Fin cfg0.N) (i : Fin 2048) (a : Fin 1024) :
    (((cfg0.win 2).blk t).view.emb (ix2 i a : S2048x1024.Idx) : S2048x1024.Idx) = ix2 i a := by
  blk_ext [idx t]

/-- Where block 3 of point `t` lies in its array. -/
theorem emb3 (t : Fin cfg0.N) (i : Fin 512) (a : Fin 1024) (h : t.val < 32) :
    (((cfg0.win 3).blk t).view.emb (ix2 i a : S512x1024.Idx) : S16384x1024.Idx) = ix2 ⟨t.val * 512 + i.val, by omega⟩ a := by
  blk_ext [idx t]

/-- Where block 4 of point `t` lies in its array. -/
theorem emb4 (t : Fin cfg0.N) (i : Fin 512) (a : Fin 1024) (h : t.val < 32) :
    (((cfg0.win 4).blk t).view.emb (ix2 i a : S512x1024.Idx) : S16384x1024.Idx) = ix2 ⟨t.val * 512 + i.val, by omega⟩ a := by
  blk_ext [idx t]

/-- Block 0 of point `t`, read in the argument array. -/
theorem blk0 (c : Dev nD) (t : Fin cfg0.N) (i : Fin 512) (a : Fin 2048) (h : t.val < 32) : (show FVec Ideal S512x2048 .f32 from iblk m c 0 t) (ix2 i a)
    = (show FVec Ideal S2x8192x2048 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ?_
  entry_read
  pointwise

/-- Block 1 of point `t`, read in the argument array. -/
theorem blk1 (c : Dev nD) (t : Fin cfg0.N) (a : Fin 2048) : (show FVec Ideal S1x2048 .f32 from iblk m c 1 t) (ix2 0 a)
    = (show FVec Ideal S2048 .f32 from m ((c : Thread nD τ).loc main_arg1)) (ix1 a) := by
  refine (congrArg (V m c main_v3) (emb1 t a)).trans ?_
  entry_read
  pointwise

/-- Block 2 of point `t`, read in the argument array. -/
theorem blk2 (c : Dev nD) (t : Fin cfg0.N) (i : Fin 2048) (a : Fin 1024) : (show FVec Ideal S2048x1024 .bf16 from iblk m c 2 t) (ix2 i a)
    = (show FVec Ideal S2048x1024 .f32 from m ((c : Thread nD τ).loc main_arg2)) (ix2 i a) := by
  refine (congrArg (V m c main_v2) (emb2 t i a)).trans ?_
  entry_read
  pointwise

/-- Block 3 of point `t`, read in the argument array. -/
theorem blk3 (c : Dev nD) (t : Fin cfg0.N) (i : Fin 512) (a : Fin 1024) (h : t.val < 32) : (show FVec Ideal S512x1024 .f32 from iblk m c 3 t) (ix2 i a)
    = (show FVec Ideal S2x8192x1024 .f32 from m ((c : Thread nD τ).loc main_arg3)) (ix3 ⟨(t.val * 512 + i.val) / 8192, by omega⟩ ⟨(t.val * 512 + i.val) % 8192, by omega⟩ a) := by
  refine (congrArg (V m c main_v1) (emb3 t i a h)).trans ?_
  entry_read
  pointwise

/-- The whole result array: the residual plus the normalised row's product with the weight. -/
def G (x : FVec Ideal S2x8192x2048 .f32) (g : FVec Ideal S2048 .f32) (w : FVec Ideal S2048x1024 .f32) (r : FVec Ideal S2x8192x1024 .f32) (R : Fin 16384) (n : Fin 1024) : EReal :=
  outCol2 (r (ix3 ⟨R.val / 8192, by omega⟩ ⟨R.val % 8192, by omega⟩ n)) (fun a => x (ix3 ⟨R.val / 8192, by omega⟩ ⟨R.val % 8192, by omega⟩ a)) (fun a => g (ix1 a)) (fun e => w (ix2 e n))

/-- THE ARRAY after the run, at every index. -/
theorem final (c : Dev nD) (X : FVec Ideal S16384x1024 .f32)
    (hX : ∀ R n, X (ix2 R n) = G (m ((c : Thread nD τ).loc main_arg0)) (m ((c : Thread nD τ).loc main_arg1)) (m ((c : Thread nD τ).loc main_arg2)) (m ((c : Thread nD τ).loc main_arg3)) R n) :
    (dats m 0 c).arrAt 4 cfg0.N = X := by
  refine (dats m 0 c).arrAt_eq_of_covers 4 _ (by decide +kernel) fun t _ y => ?_
  have h : t.val < 32 := (idx t).2.2.2.2.2
  blk_simp
  rw [after0_4]
  idx_vars y
  refine (block_at _ _ _ _ y0 y1).trans ?_
  refine Eq.trans ?_ (congrArg X (emb4 t y0 y1 h)).symm
  rw [hX]
  exact outCol2_congr (blk3 m c t y0 y1 h) (fun a => blk0 m c t y0 a h) (fun a => blk1 m c t a) (fun a => blk2 m c t a y1)

/-- The array the run leaves, as one function of the arguments. -/
def result (c : Dev nD) : FVec Ideal S16384x1024 .f32 := fun y => G (m ((c : Thread nD τ).loc main_arg0)) (m ((c : Thread nD τ).loc main_arg1)) (m ((c : Thread nD τ).loc main_arg2)) (m ((c : Thread nD τ).loc main_arg3)) (y 0) (y 1)

end Cert.Kernel6Ideal.Value
end
-- ==== Proof.SsdOutRef.lean ====
module

public import proofs.«01_k».proof.Proof.Gen.Reference6Ideal.Run
public import proofs.«01_k».proof.Proof.Rows

@[expose] public section
set_option maxRecDepth 16384
noncomputable section
open Idealize.ShloMosaic Idealize.ShloMosaic.TcCoe Idealize.SL.Sem
open Idealize.ShloMosaic.Pipeline (Dat)

/-! What the reference of the recurrence's output projection computes, index by index. -/
namespace Cert.Reference6Ideal.Value
open Cert.Reference6Ideal Cert.Reference6Ideal.Gen Cert.Rows

/-- The reference's composed term. -/
def refO (x : FVec Ideal S2x8192x2048 .f32) (g : FVec Ideal S2048 .f32) (w : FVec Ideal S2048x1024 .f32) (r : FVec Ideal S2x8192x1024 .f32) : FVec Ideal S16384x1024 .f32 :=
  shapeCast _ (addf r (Host.dotGeneral dot_S2x8192x2048_S2048x1024_S2x8192x1024_2_0_01_1_n_n none (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) w)) shapeCasts_S2x8192x1024_S16384x1024

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = refO (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := run m ρ

/-- THE REFERENCE AT AN INDEX. -/
theorem res_at (x : FVec Ideal S2x8192x2048 .f32) (g : FVec Ideal S2048 .f32) (w : FVec Ideal S2048x1024 .f32) (r : FVec Ideal S2x8192x1024 .f32) (R : Fin 16384) (n : Fin 1024) :
    refO x g w r (ix2 R n) = outCol2 (r (ix3 ⟨R.val / 8192, by omega⟩ ⟨R.val % 8192, by omega⟩ n)) (fun a => x (ix3 ⟨R.val / 8192, by omega⟩ ⟨R.val % 8192, by omega⟩ a)) (fun a => g (ix1 a)) (fun e => w (ix2 e n)) := by
  pointwise [refO]
  rfl

end Cert.Reference6Ideal.Value
end
-- ==== Proof.SsdOutClaim.lean ====
module

public import proofs.«01_k».proof.Defs
public import proofs.«01_k».proof.Proof.Gen.Kernel6.Frame
public import proofs.«01_k».proof.Proof.SsdOutValue
public import proofs.«01_k».proof.Proof.SsdOutRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the recurrence's output projection. -/
namespace Cert.Proof.SsdOut

/-- The kernel runs, leaves its arguments and ends with every counter at zero. -/
theorem frame : Cert.quiescent_Kernel6 := fun m ρ _ => Cert.Kernel6.Gen.frame m ρ

/-- The same of the kernel read over the extended reals. -/
theorem frame_ideal : Cert.quiescent_Kernel6Ideal := fun m ρ _ => Cert.Kernel6Ideal.Gen.frame m ρ

/-- The same of the reference. -/
theorem frame_ref : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run_steps m ρ)

/-- Over the extended reals the kernel's array is the reference's, entry by entry. -/
theorem algebraic : Cert.algebraic_Kernel6Ideal_Reference6Ideal := by
  intro m g m' g' _ hagree
  refine ⟨fun c => Cert.Kernel6Ideal.Value.result m c, ?_, ?_⟩
  · exact (θ_run Cert.Kernel6Ideal.defs _ _).mono (fun _ h c => ⟨(h c).1.trans (Cert.Kernel6Ideal.Value.final m c _ fun R n => rfl), (h c).2⟩) (Cert.Kernel6Ideal.Value.run_blocks m g)
  · refine (θ_run Cert.Reference6Ideal.defs _ _).mono (fun _ h c => ⟨(h c).1.trans ?_, (h c).2⟩) (Cert.Reference6Ideal.Value.run_steps m' g')

    obtain ⟨h0, h1, h2, h3⟩ := hagree c
    rw [h0, h1, h2, h3]
    funext y
    idx_vars y
    exact Cert.Reference6Ideal.Value.res_at _ _ _ _ y0 y1
end Cert.Proof.SsdOut
end
-- ==== Proof.SsdInBlock.lean ====
module

public import proofs.«01_k».proof.Proof.Gen.Kernel7Ideal.Value
public import proofs.«01_k».proof.Proof.Rows

@[expose] public section
set_option maxRecDepth 16384
noncomputable section
open Idealize.ShloMosaic Idealize.ShloMosaic.TcCoe Idealize.SL.Sem
open Idealize.ShloMosaic.Pipeline (Dat)

/-! What one grid point of the recurrence's input projection computes from its blocks. -/
namespace Cert.Kernel7Ideal.Value
open Cert.Kernel7Ideal Cert.Kernel7Ideal.Gen Cert.Rows

/-- The stored values of window 5 from the loaded values. -/
theorem pay2_at (x : FVec Ideal S512x1024 .f32) (g : FVec Ideal S1x1024 .f32) (w : FVec Ideal S1024x2048 .bf16) (i : Fin 512) (n : Fin 2048) :
    k0_pay2 (F := Ideal) x g w (ix2 i n) = proj (fun a => x (ix2 i a)) (fun a => g (ix2 0 a)) (fun e => w (ix2 e ⟨n.val, by omega⟩)) := by
  pointwise [k0_pay2, k0_pay1]
  rfl

/-- The block stored in window 5: columns 0 to 2047 of the normalised row's projection. -/
theorem block5_at (x : FVec Ideal S512x1024 .f32) (g : FVec Ideal S1x1024 .f32) (u v : FVec Ideal S512x128 .f32) (w : FVec Ideal S1024x5248 .bf16) (i : Fin 512) (n : Fin 2048) :
    out0_5 (F := Ideal) x g u v w (ix2 i n) = proj (fun a => x (ix2 i a)) (fun a => g (ix2 0 a)) (fun e => w (ix2 e ⟨0 + n.val, by omega⟩)) := by
  unfold out0_5
  frame_out
  refine (pay2_at _ _ _ _ _).trans (proj_congr (fun a => rfl) (fun a => rfl) fun a => ?_)
  exact ld_at _ _ _ _ _ _ _ _ (Nat.zero_add _).symm rfl

/-- The stored values of window 6 from the loaded values. -/
theorem pay3_at (x : FVec Ideal S512x1024 .f32) (g : FVec Ideal S1x1024 .f32) (w : FVec Ideal S1024x3072 .bf16) (i : Fin 512) (n : Fin 3072) :
    k0_pay3 (F := Ideal) x g w (ix2 i n) = proj (fun a => x (ix2 i a)) (fun a => g (ix2 0 a)) (fun e => w (ix2 e ⟨n.val, by omega⟩)) := by
  pointwise [k0_pay3, k0_pay1]
  rfl

/-- The block stored in window 6: columns 2048 to 5119 of the normalised row's projection. -/
theorem block6_at (x : FVec Ideal S512x1024 .f32) (g : FVec Ideal S1x1024 .f32) (u v : FVec Ideal S512x128 .f32) (w : FVec Ideal S1024x5248 .bf16) (i : Fin 512) (n : Fin 3072) :
    out0_6 (F := Ideal) x g u v w (ix2 i n) = proj (fun a => x (ix2 i a)) (fun a => g (ix2 0 a)) (fun e => w (ix2 e ⟨2048 + n.val, by omega⟩)) := by
  unfold out0_6
  frame_out
  refine (pay3_at _ _ _ _ _).trans (proj_congr (fun a => rfl) (fun a => rfl) fun a => ?_)
  exact ld_at _ _ _ _ _ _ _ _ (Nat.zero_add _).symm rfl

/-- The stored values of window 7 from the loaded values. -/
theorem pay4_at (x : FVec Ideal S512x1024 .f32) (g : FVec Ideal S1x1024 .f32) (w : FVec Ideal S1024x128 .bf16) (i : Fin 512) (n : Fin 32) :
    k0_pay4 (F := Ideal) x g w (ix2 i n) = proj (fun a => x (ix2 i a)) (fun a => g (ix2 0 a)) (fun e => w (ix2 e ⟨n.val, by omega⟩)) := by
  pointwise [k0_pay4, k0_pay1]
  rfl

/-- The block stored in window 7: columns 5120 to 5151 of the normalised row's projection. -/
theorem block7_at (x : FVec Ideal S512x1024 .f32) (g : FVec Ideal S1x1024 .f32) (u v : FVec Ideal S512x128 .f32) (w : FVec Ideal S1024x5248 .bf16) (i : Fin 512) (n : Fin 32) :
    out0_7 (F := Ideal) x g u v w (ix2 i n) = proj (fun a => x (ix2 i a)) (fun a => g (ix2 0 a)) (fun e => w (ix2 e ⟨5120 + n.val, by omega⟩)) := by
  unfold out0_7
  frame_out
  refine (pay4_at _ _ _ _ _).trans (proj_congr (fun a => rfl) (fun a => rfl) fun a => ?_)
  exact ld_at _ _ _ _ _ _ _ _ (Nat.zero_add _).symm rfl

end Cert.Kernel7Ideal.Value
end
-- ==== Proof.SsdInValue.lean ====
module

public import proofs.«01_k».proof.Proof.SsdInBlock

@[expose] public section
set_option maxRecDepth 16384
noncomputable section
open Idealize.ShloMosaic Idealize.ShloMosaic.TcCoe Idealize.SL.Sem
open Idealize.ShloMosaic.Pipeline (Dat)

/-! The array the recurrence's input projection leaves. -/
namespace Cert.Kernel7Ideal.Value
open Cert.Kernel7Ideal Cert.Kernel7Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_4.index t = ![0, 0] ∧ win0_5.index t = ![t.val, 0] ∧ win0_6.index t = ![t.val, 0] ∧ win0_7.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 4 of point `t` lies in its array. -/
theorem emb4 (t : Fin cfg0.N) (i : Fin 1024) (a : Fin 5248) :
    (((cfg0.win 4).blk t).view.emb (ix2 i a : S1024x5248.Idx) : S1024x5248.Idx) = ix2 i a := by
  blk_ext [idx t]

/-- Where block 5 of point `t` lies in its array. -/
theorem emb5 (t : Fin cfg0.N) (i : Fin 512) (a : Fin 2048) (h : t.val < 32) :
    (((cfg0.win 5).blk t).view.emb (ix2 i a : S512x2048.Idx) : S16384x2048.Idx) = ix2 ⟨t.val * 512 + i.val, by omega⟩ a := by
  blk_ext [idx t]

/-- Where block 6 of point `t` lies in its array. -/
theorem emb6 (t : Fin cfg0.N) (i : Fin 512) (a : Fin 3072) (h : t.val < 32) :
    (((cfg0.win 6).blk t).view.emb (ix2 i a : S512x3072.Idx) : S16384x3072.Idx) = ix2 ⟨t.val * 512 + i.val, by omega⟩ a := by
  blk_ext [idx t]

/-- Where block 7 of point `t` lies in its array. -/
theorem emb7 (t : Fin cfg0.N) (i : Fin 512) (a : Fin 32) (h : t.val < 32) :
    (((cfg0.win 7).blk t).view.emb (ix2 i a : S512x32.Idx) : S16384x32.Idx) = ix2 ⟨t.val * 512 + i.val, by omega⟩ a := by
  blk_ext [idx t]

/-- The host's operations before the region, stretch after stretch. -/
theorem V_split (c : Dev nD) (b : Ref sig .tc) : V m c b = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) b := by
  show StableHlo.after (hostOps0 ++ (hostOps0_1 ++ (hostOps0_2 ++ (hostOps0_3 ++ (hostOps0_4 ++ (hostOps0_5 ++ (hostOps0_6 ++ []))))))) _ _ = _
  rw [StableHlo.after_append, StableHlo.after_append, StableHlo.after_append, StableHlo.after_append, StableHlo.after_append, StableHlo.after_append, StableHlo.after_append, StableHlo.after_nil]

/-- The rows the region reads: argument 0 reshaped. -/
theorem V_v0 (c : Dev nD) : (show FVec Ideal S16384x1024 .f32 from V m c main_v0) = shapeCast _ (show FVec Ideal S2x8192x1024 .f32 from m ((c : Thread nD τ).loc main_arg0)) shapeCasts_S2x8192x1024_S16384x1024 := by
  show V m c main_v0 = _
  rw [V_split]
  after_results
  rfl

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v0) (emb0 t i a h)).trans ((congrFun (V_v0 m c) _).trans ?_)
  pointwise

/-- The gain the region reads: argument 1 reshaped. -/
theorem V_v35 (c : Dev nD) : (show FVec Ideal S1x1024 .f32 from V m c main_v35) = shapeCast _ (show FVec Ideal S1024 .f32 from m ((c : Thread nD τ).loc main_arg1)) shapeCasts_S1024_S1x1024 := by
  show V m c main_v35 = _
  rw [V_split]
  after_results
  rfl

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v35) (emb1 t a)).trans ((congrFun (V_v35 m c) _).trans ?_)
  pointwise

/-- The weight's columns, segment after segment, each padded with zeros to whole lanes. -/
def pk (w : FVec Ideal S1024x5152 .f32) : FVec Ideal S1024x5248 .bf16 :=
  concatenate S1024x5248 1 [⟨S1024x2048, pad S1024x2048 ![0, 0] ![0, 0] ![0, 0] (truncf .bf16 (extractStridedSlice S1024x2048 ![0, 0] w slices_S1024x5152_S1024x2048_0_0) bitsLt_bf16_f32) (sitofp (F := Ideal) .bf16 (constantI S_ 32 0#32)) pads_S1024x2048_S1024x2048_000_000 h_S_⟩,
    ⟨S1024x3072, pad S1024x3072 ![0, 0] ![0, 0] ![0, 0] (truncf .bf16 (extractStridedSlice S1024x3072 ![0, 2048] w slices_S1024x5152_S1024x3072_0_2048) bitsLt_bf16_f32) (sitofp (F := Ideal) .bf16 (constantI S_ 32 0#32)) pads_S1024x3072_S1024x3072_000_000 h_S_⟩,
    ⟨S1024x128, pad S1024x128 ![0, 0] ![0, 96] ![0, 0] (truncf .bf16 (extractStridedSlice S1024x32 ![0, 5120] w slices_S1024x5152_S1024x32_0_5120) bitsLt_bf16_f32) (sitofp (F := Ideal) .bf16 (constantI S_ 32 0#32)) pads_S1024x32_S1024x128_000_0960 h_S_⟩] concatenates_S1024x2048_S1024x3072_S1024x128_S1024x5248_d1

/-- Segment 0 of the packed weight. -/
theorem pk_0 (w : FVec Ideal S1024x5152 .f32) (i : Fin 1024) (n : Fin 2048) : pk w (ix2 i ⟨0 + n.val, by omega⟩) = w (ix2 i ⟨0 + n.val, by omega⟩) := by
  pointwise [pk]
  all_goals first | done | (
    try simp only [dif_pos (show 0 + n.val < 2048 by omega), dif_pos (show 0 + n.val < 2048 by omega)]
    exact congrArg (fun q => w (ix2 i q)) (Fin.ext (by simp; try omega)))

/-- Segment 1 of the packed weight. -/
theorem pk_1 (w : FVec Ideal S1024x5152 .f32) (i : Fin 1024) (n : Fin 3072) : pk w (ix2 i ⟨2048 + n.val, by omega⟩) = w (ix2 i ⟨2048 + n.val, by omega⟩) := by
  pointwise [pk]
  all_goals first | done | (
    try simp only [dif_neg (show ¬ 2048 + n.val < 2048 by omega), dif_pos (show 2048 + n.val - 2048 < 3072 by omega), dif_pos (show 2048 + n.val - 2048 < 3072 by omega)]
    exact congrArg (fun q => w (ix2 i q)) (Fin.ext (by simp; try omega)))

/-- Segment 2 of the packed weight. -/
theorem pk_2 (w : FVec Ideal S1024x5152 .f32) (i : Fin 1024) (n : Fin 32) : pk w (ix2 i ⟨5120 + n.val, by omega⟩) = w (ix2 i ⟨5120 + n.val, by omega⟩) := by
  pointwise [pk]
  all_goals first | done | (
    try simp only [dif_neg (show ¬ 5120 + n.val < 2048 by omega), dif_neg (show ¬ 5120 + n.val - 2048 < 3072 by omega), dif_pos (show 5120 + n.val - 2048 - 3072 < 128 by omega), dif_pos (show 5120 + n.val - 2048 - 3072 < 32 by omega)]
    exact congrArg (fun q => w (ix2 i q)) (Fin.ext (by simp; try omega)))

/-- The packed weight the region reads. -/
theorem V_v11 (c : Dev nD) : (show FVec Ideal S1024x5248 .bf16 from V m c main_v11) = pk (m ((c : Thread nD τ).loc main_arg2)) := by
  show V m c main_v11 = _
  rw [V_split]
  after_results
  rfl

/-- Block 4 of point `t` at the columns of window 5, read in the argument array. -/
theorem blk4_5 (c : Dev nD) (t : Fin cfg0.N) (i : Fin 1024) (n : Fin 2048) : (show FVec Ideal S1024x5248 .bf16 from iblk m c 4 t) (ix2 i ⟨0 + n.val, by omega⟩)
    = (show FVec Ideal S1024x5152 .f32 from m ((c : Thread nD τ).loc main_arg2)) (ix2 i ⟨0 + n.val, by omega⟩) := by
  refine (congrArg (V m c main_v11) (emb4 t i _)).trans ((congrFun (V_v11 m c) _).trans (pk_0 _ i n))

/-- Block 4 of point `t` at the columns of window 6, read in the argument array. -/
theorem blk4_6 (c : Dev nD) (t : Fin cfg0.N) (i : Fin 1024) (n : Fin 3072) : (show FVec Ideal S1024x5248 .bf16 from iblk m c 4 t) (ix2 i ⟨2048 + n.val, by omega⟩)
    = (show FVec Ideal S1024x5152 .f32 from m ((c : Thread nD τ).loc main_arg2)) (ix2 i ⟨2048 + n.val, by omega⟩) := by
  refine (congrArg (V m c main_v11) (emb4 t i _)).trans ((congrFun (V_v11 m c) _).trans (pk_1 _ i n))

/-- Block 4 of point `t` at the columns of window 7, read in the argument array. -/
theorem blk4_7 (c : Dev nD) (t : Fin cfg0.N) (i : Fin 1024) (n : Fin 32) : (show FVec Ideal S1024x5248 .bf16 from iblk m c 4 t) (ix2 i ⟨5120 + n.val, by omega⟩)
    = (show FVec Ideal S1024x5152 .f32 from m ((c : Thread nD τ).loc main_arg2)) (ix2 i ⟨5120 + n.val, by omega⟩) := by
  refine (congrArg (V m c main_v11) (emb4 t i _)).trans ((congrFun (V_v11 m c) _).trans (pk_2 _ i n))

/-- The array of window 5: columns 0 to 2047 of the normalised row's projection. -/
def G5 (x : FVec Ideal S2x8192x1024 .f32) (g : FVec Ideal S1024 .f32) (w : FVec Ideal S1024x5152 .f32) (R : Fin 16384) (n : Fin 2048) : EReal :=
  proj (fun a => x (ix3 ⟨R.val / 8192, by omega⟩ ⟨R.val % 8192, by omega⟩ a)) (fun a => g (ix1 a)) (fun e => w (ix2 e ⟨0 + n.val, by omega⟩))

/-- Window 5's array after the run, at every index. -/
theorem final5 (c : Dev nD) (X : FVec Ideal S16384x2048 .f32)
    (hX : ∀ R n, X (ix2 R n) = G5 (m ((c : Thread nD τ).loc main_arg0)) (m ((c : Thread nD τ).loc main_arg1)) (m ((c : Thread nD τ).loc main_arg2)) R n) :
    (dats m 0 c).arrAt 5 cfg0.N = X := by
  refine (dats m 0 c).arrAt_eq_of_covers 5 _ (by decide +kernel) fun t _ y => ?_
  have h : t.val < 32 := (idx t).2.2.2.2.2.2
  blk_simp
  rw [after0_5]
  idx_vars y
  refine (block5_at _ _ _ _ _ y0 y1).trans ?_
  refine Eq.trans ?_ (congrArg X (emb5 t y0 y1 h)).symm
  rw [hX]
  exact proj_congr (fun a => blk0 m c t y0 a h) (fun a => blk1 m c t a) (fun a => blk4_5 m c t a y1)

/-- Window 5's array, as one function of the arguments. -/
def result5 (c : Dev nD) : FVec Ideal S16384x2048 .f32 := fun y => G5 (m ((c : Thread nD τ).loc main_arg0)) (m ((c : Thread nD τ).loc main_arg1)) (m ((c : Thread nD τ).loc main_arg2)) (y 0) (y 1)

/-- The array of window 6: columns 2048 to 5119 of the normalised row's projection. -/
def G6 (x : FVec Ideal S2x8192x1024 .f32) (g : FVec Ideal S1024 .f32) (w : FVec Ideal S1024x5152 .f32) (R : Fin 16384) (n : Fin 3072) : EReal :=
  proj (fun a => x (ix3 ⟨R.val / 8192, by omega⟩ ⟨R.val % 8192, by omega⟩ a)) (fun a => g (ix1 a)) (fun e => w (ix2 e ⟨2048 + n.val, by omega⟩))

/-- Window 6's array after the run, at every index. -/
theorem final6 (c : Dev nD) (X : FVec Ideal S16384x3072 .f32)
    (hX : ∀ R n, X (ix2 R n) = G6 (m ((c : Thread nD τ).loc main_arg0)) (m ((c : Thread nD τ).loc main_arg1)) (m ((c : Thread nD τ).loc main_arg2)) R n) :
    (dats m 0 c).arrAt 6 cfg0.N = X := by
  refine (dats m 0 c).arrAt_eq_of_covers 6 _ (by decide +kernel) fun t _ y => ?_
  have h : t.val < 32 := (idx t).2.2.2.2.2.2
  blk_simp
  rw [after0_6]
  idx_vars y
  refine (block6_at _ _ _ _ _ y0 y1).trans ?_
  refine Eq.trans ?_ (congrArg X (emb6 t y0 y1 h)).symm
  rw [hX]
  exact proj_congr (fun a => blk0 m c t y0 a h) (fun a => blk1 m c t a) (fun a => blk4_6 m c t a y1)

/-- Window 6's array, as one function of the arguments. -/
def result6 (c : Dev nD) : FVec Ideal S16384x3072 .f32 := fun y => G6 (m ((c : Thread nD τ).loc main_arg0)) (m ((c : Thread nD τ).loc main_arg1)) (m ((c : Thread nD τ).loc main_arg2)) (y 0) (y 1)

/-- The array of window 7: columns 5120 to 5151 of the normalised row's projection. -/
def G7 (x : FVec Ideal S2x8192x1024 .f32) (g : FVec Ideal S1024 .f32) (w : FVec Ideal S1024x5152 .f32) (R : Fin 16384) (n : Fin 32) : EReal :=
  proj (fun a => x (ix3 ⟨R.val / 8192, by omega⟩ ⟨R.val % 8192, by omega⟩ a)) (fun a => g (ix1 a)) (fun e => w (ix2 e ⟨5120 + n.val, by omega⟩))

/-- Window 7's array after the run, at every index. -/
theorem final7 (c : Dev nD) (X : FVec Ideal S16384x32 .f32)
    (hX : ∀ R n, X (ix2 R n) = G7 (m ((c : Thread nD τ).loc main_arg0)) (m ((c : Thread nD τ).loc main_arg1)) (m ((c : Thread nD τ).loc main_arg2)) R n) :
    (dats m 0 c).arrAt 7 cfg0.N = X := by
  refine (dats m 0 c).arrAt_eq_of_covers 7 _ (by decide +kernel) fun t _ y => ?_
  have h : t.val < 32 := (idx t).2.2.2.2.2.2
  blk_simp
  rw [after0_7]
  idx_vars y
  refine (block7_at _ _ _ _ _ y0 y1).trans ?_
  refine Eq.trans ?_ (congrArg X (emb7 t y0 y1 h)).symm
  rw [hX]
  exact proj_congr (fun a => blk0 m c t y0 a h) (fun a => blk1 m c t a) (fun a => blk4_7 m c t a y1)

/-- Window 7's array, as one function of the arguments. -/
def result7 (c : Dev nD) : FVec Ideal S16384x32 .f32 := fun y => G7 (m ((c : Thread nD τ).loc main_arg0)) (m ((c : Thread nD τ).loc main_arg1)) (m ((c : Thread nD τ).loc main_arg2)) (y 0) (y 1)

end Cert.Kernel7Ideal.Value
end
-- ==== Proof.SsdInRef.lean ====
module

public import proofs.«01_k».proof.Proof.Gen.Reference7Ideal.Run
public import proofs.«01_k».proof.Proof.Rows

@[expose] public section
set_option maxRecDepth 16384
noncomputable section
open Idealize.ShloMosaic Idealize.ShloMosaic.TcCoe Idealize.SL.Sem
open Idealize.ShloMosaic.Pipeline (Dat)

/-! What the reference of the recurrence's input projection computes, index by index. -/
namespace Cert.Reference7Ideal.Value
open Cert.Reference7Ideal Cert.Reference7Ideal.Gen Cert.Rows

/-- The normalised rows times the whole weight. -/
def refP (x : FVec Ideal S2x8192x1024 .f32) (g : FVec Ideal S1024 .f32) (w : FVec Ideal S1024x5152 .f32) : FVec Ideal S16384x5152 .f32 :=
  shapeCast _ (Host.dotGeneral dot_S2x8192x1024_S1024x5152_S2x8192x5152_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w) shapeCasts_S2x8192x5152_S16384x5152

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = extractStridedSlice S16384x2048 ![0, 0] (refP (m ((c.tc : Thread nD τ).loc main_arg0)) (m ((c.tc : Thread nD τ).loc main_arg1)) (m ((c.tc : Thread nD τ).loc main_arg2))) slices_S16384x5152_S16384x2048_0_0
      ∧ r.2.mem ((c.tc : Thread nD τ).loc main_v16) = extractStridedSlice S16384x3072 ![0, 2048] (refP (m ((c.tc : Thread nD τ).loc main_arg0)) (m ((c.tc : Thread nD τ).loc main_arg1)) (m ((c.tc : Thread nD τ).loc main_arg2))) slices_S16384x5152_S16384x3072_0_2048
      ∧ r.2.mem ((c.tc : Thread nD τ).loc main_v17) = extractStridedSlice S16384x32 ![0, 5120] (refP (m ((c.tc : Thread nD τ).loc main_arg0)) (m ((c.tc : Thread nD τ).loc main_arg1)) (m ((c.tc : Thread nD τ).loc main_arg2))) slices_S16384x5152_S16384x32_0_5120
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

theorem refP_at (x : FVec Ideal S2x8192x1024 .f32) (g : FVec Ideal S1024 .f32) (w : FVec Ideal S1024x5152 .f32) (R : Fin 16384) (n : Fin 5152) :
    refP x g w (ix2 R n) = proj (fun a => x (ix3 ⟨R.val / 8192, by omega⟩ ⟨R.val % 8192, by omega⟩ a)) (fun a => g (ix1 a)) (fun e => w (ix2 e n)) := by
  pointwise [refP]
  rfl

/-- Result 0 of the reference at an index. -/
theorem res5_at (x : FVec Ideal S2x8192x1024 .f32) (g : FVec Ideal S1024 .f32) (w : FVec Ideal S1024x5152 .f32) (R : Fin 16384) (n : Fin 2048) :
    extractStridedSlice S16384x2048 ![0, 0] (refP x g w) slices_S16384x5152_S16384x2048_0_0 (ix2 R n) = proj (fun a => x (ix3 ⟨R.val / 8192, by omega⟩ ⟨R.val % 8192, by omega⟩ a)) (fun a => g (ix1 a)) (fun e => w (ix2 e ⟨0 + n.val, by omega⟩)) := by
  pointwise
  exact (refP_at x g w R _).trans (proj_congr (fun a => rfl) (fun a => rfl) (fun a => congrArg (fun q => w (ix2 a q)) (Fin.ext (by simp))))

/-- Result 1 of the reference at an index. -/
theorem res6_at (x : FVec Ideal S2x8192x1024 .f32) (g : FVec Ideal S1024 .f32) (w : FVec Ideal S1024x5152 .f32) (R : Fin 16384) (n : Fin 3072) :
    extractStridedSlice S16384x3072 ![0, 2048] (refP x g w) slices_S16384x5152_S16384x3072_0_2048 (ix2 R n) = proj (fun a => x (ix3 ⟨R.val / 8192, by omega⟩ ⟨R.val % 8192, by omega⟩ a)) (fun a => g (ix1 a)) (fun e => w (ix2 e ⟨2048 + n.val, by omega⟩)) := by
  pointwise
  exact (refP_at x g w R _).trans (proj_congr (fun a => rfl) (fun a => rfl) (fun a => congrArg (fun q => w (ix2 a q)) (Fin.ext (by simp))))

/-- Result 2 of the reference at an index. -/
theorem res7_at (x : FVec Ideal S2x8192x1024 .f32) (g : FVec Ideal S1024 .f32) (w : FVec Ideal S1024x5152 .f32) (R : Fin 16384) (n : Fin 32) :
    extractStridedSlice S16384x32 ![0, 5120] (refP x g w) slices_S16384x5152_S16384x32_0_5120 (ix2 R n) = proj (fun a => x (ix3 ⟨R.val / 8192, by omega⟩ ⟨R.val % 8192, by omega⟩ a)) (fun a => g (ix1 a)) (fun e => w (ix2 e ⟨5120 + n.val, by omega⟩)) := by
  pointwise
  exact (refP_at x g w R _).trans (proj_congr (fun a => rfl) (fun a => rfl) (fun a => congrArg (fun q => w (ix2 a q)) (Fin.ext (by simp))))

end Cert.Reference7Ideal.Value
end
-- ==== Proof.SsdInClaim.lean ====
module

public import proofs.«01_k».proof.Defs
public import proofs.«01_k».proof.Proof.Gen.Kernel7.Frame
public import proofs.«01_k».proof.Proof.SsdInValue
public import proofs.«01_k».proof.Proof.SsdInRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the recurrence's input projection. -/
namespace Cert.Proof.SsdIn

/-- The kernel runs, leaves its arguments and ends with every counter at zero. -/
theorem frame : Cert.quiescent_Kernel7 := fun m ρ _ => Cert.Kernel7.Gen.frame m ρ

/-- The same of the kernel read over the extended reals. -/
theorem frame_ideal : Cert.quiescent_Kernel7Ideal := fun m ρ _ => Cert.Kernel7Ideal.Gen.frame m ρ

/-- The same of the reference. -/
theorem frame_ref : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run_steps m ρ)

/-- Over the extended reals each of the kernel's arrays is the reference's, entry by entry. -/
theorem algebraic : Cert.algebraic_Kernel7Ideal_Reference7Ideal := by
  intro m g m' g' _ hagree
  refine ⟨fun c => Cert.Kernel7Ideal.Value.result5 m c, fun c => Cert.Kernel7Ideal.Value.result6 m c, fun c => Cert.Kernel7Ideal.Value.result7 m c, ?_, ?_⟩
  · exact (θ_run Cert.Kernel7Ideal.defs _ _).mono (fun _ h c => ⟨(h c).1.trans (Cert.Kernel7Ideal.Value.final5 m c _ fun R n => rfl), (h c).2.1.trans (Cert.Kernel7Ideal.Value.final6 m c _ fun R n => rfl), (h c).2.2.1.trans (Cert.Kernel7Ideal.Value.final7 m c _ fun R n => rfl), (h c).2.2.2⟩) (Cert.Kernel7Ideal.Value.run_blocks m g)
  · refine (θ_run Cert.Reference7Ideal.defs _ _).mono (fun _ h c => ⟨(h c).1.trans ?_, (h c).2.1.trans ?_, (h c).2.2.1.trans ?_, (h c).2.2.2⟩) (Cert.Reference7Ideal.Value.run_steps m' g')
    all_goals
      obtain ⟨h0, h1, h2⟩ := hagree c
      rw [h0, h1, h2]
      funext y
      idx_vars y
    · exact Cert.Reference7Ideal.Value.res5_at _ _ _ y0 y1
    · exact Cert.Reference7Ideal.Value.res6_at _ _ _ y0 y1
    · exact Cert.Reference7Ideal.Value.res7_at _ _ _ y0 y1
end Cert.Proof.SsdIn
end
-- ==== Proof.Rope.lean ====
module

public import proofs.«01_k».proof.Proof.Rows

@[expose] public section
set_option maxRecDepth 16384
noncomputable section
open Idealize.ShloMosaic

/-! Rotary positions of a row of 64-wide heads. -/
namespace Cert.Rows

/-- The angle of frequency `k` at position `t`. -/
def ang (t k : ℕ) : EReal :=
  FloatOps.sitofp (F := Ideal) FTy.f32 (BitVec.ofNat 32 t) * Ideal.pow (Ideal.ofBits FTy.f32 0x461C4000#32)
    (Ideal.div (-FloatOps.sitofp (F := Ideal) FTy.f32 (BitVec.ofNat 32 k)) (Ideal.ofBits FTy.f32 0x42000000#32))

/-- The factor of column `n` itself. -/
def cosT (t n : ℕ) : EReal := Ideal.cos (ang t (n % 32))

/-- The factor of column `n`'s partner: negative in the lower half of a head. -/
def sinT (t n : ℕ) : EReal := if n % 64 < 32 then -Ideal.sin (ang t (n % 32)) else Ideal.sin (ang t (n % 32))

/-- The column half a head away from column `n`, in the same head. -/
def part (n : ℕ) : ℕ := if n % 64 < 32 then n + 32 else n - 32

/-- The partner lies in the row when the row is made of whole heads. -/
theorem part_lt {W n : ℕ} (hW : W % 64 = 0) (h : n < W) : part n < W := by
  unfold part; split <;> omega

/-- Column `n` of a row `y` with its position's rotation, the two factors read from a table of two heads. -/
def rotBlk {W : ℕ} (hW : W % 64 = 0) (y : Fin W → EReal) (C S : Fin 128 → EReal) (n : Fin W) : EReal :=
  y n * C ⟨n.val % 128, Nat.mod_lt _ (by decide)⟩ + y ⟨part n.val, part_lt hW n.isLt⟩ * S ⟨n.val % 128, Nat.mod_lt _ (by decide)⟩

/-- Column `n` of a row `y` rotated by position `t`. -/
def rotCol {W : ℕ} (hW : W % 64 = 0) (y : Fin W → EReal) (t : ℕ) (n : Fin W) : EReal :=
  y n * cosT t n.val + y ⟨part n.val, part_lt hW n.isLt⟩ * sinT t n.val

/-- Equal rows and tables give equal columns. -/
theorem rotBlk_congr {W : ℕ} (hW : W % 64 = 0) {y y' : Fin W → EReal} {C C' S S' : Fin 128 → EReal} (hy : ∀ n, y n = y' n)
    (hC : ∀ l, C l = C' l) (hS : ∀ l, S l = S' l) (n : Fin W) : rotBlk hW y C S n = rotBlk hW y' C' S' n := by
  rw [funext hy, funext hC, funext hS]

/-- Equal rows give equal rotated columns. -/
theorem rotCol_congr {W : ℕ} (hW : W % 64 = 0) {y y' : Fin W → EReal} (hy : ∀ n, y n = y' n) (t : ℕ) (n : Fin W) :
    rotCol hW y t n = rotCol hW y' t n := by
  rw [funext hy]

/-- With the tables of position `t` the two are the same. -/
theorem rotBlk_eq {W : ℕ} (hW : W % 64 = 0) {y y' : Fin W → EReal} {C S : Fin 128 → EReal} {t : ℕ} (hy : ∀ n, y n = y' n)
    (hC : ∀ l : Fin 128, C l = cosT t l.val) (hS : ∀ l : Fin 128, S l = sinT t l.val) (n : Fin W) :
    rotBlk hW y C S n = rotCol hW y' t n := by
  have h1 : n.val % 128 % 32 = n.val % 32 := by omega
  have h2 : n.val % 128 % 64 = n.val % 64 := by omega
  unfold rotBlk rotCol
  rw [hy, hy, hC, hS]
  simp only [cosT, sinT, h1, h2]

/-- The lane comparison selects the first value in the lower half of a head. -/
theorem sel_lower (n : ℕ) (h : n < 1024) (a b : EReal) :
    Scalar.select (IntOp.cmpi CmpIPredicate.slt
        (Scalar.select
          (IntOp.andi
            (IntOp.xori
              (IntOp.cmpi CmpIPredicate.slt (IntOp.remsi ArithUnit.vector (BitVec.ofNat 32 n) (Scalar.select (Scalar.cmpi CmpIPredicate.eq 64#32 0#32) 1#32 64#32)) 0#32)
              (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 n) (Scalar.select (Scalar.cmpi CmpIPredicate.eq 64#32 0#32) 1#32 64#32)) 0#32))
          (IntOp.addi (IntOp.remsi ArithUnit.vector (BitVec.ofNat 32 n) (Scalar.select (Scalar.cmpi CmpIPredicate.eq 64#32 0#32) 1#32 64#32)) (Scalar.select (Scalar.cmpi CmpIPredicate.eq 64#32 0#32) 1#32 64#32))
          (IntOp.remsi ArithUnit.vector (BitVec.ofNat 32 n) (Scalar.select (Scalar.cmpi CmpIPredicate.eq 64#32 0#32) 1#32 64#32)))
        32#32) a b = if n % 64 < 32 then a else b := by
  have key : ∀ k : Fin 1024, IntOp.cmpi CmpIPredicate.slt
        (Scalar.select
          (IntOp.andi
            (IntOp.xori
              (IntOp.cmpi CmpIPredicate.slt (IntOp.remsi ArithUnit.vector (BitVec.ofNat 32 k.val) (Scalar.select (Scalar.cmpi CmpIPredicate.eq 64#32 0#32) 1#32 64#32)) 0#32)
              (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 k.val) (Scalar.select (Scalar.cmpi CmpIPredicate.eq 64#32 0#32) 1#32 64#32)) 0#32))
          (IntOp.addi (IntOp.remsi ArithUnit.vector (BitVec.ofNat 32 k.val) (Scalar.select (Scalar.cmpi CmpIPredicate.eq 64#32 0#32) 1#32 64#32)) (Scalar.select (Scalar.cmpi CmpIPredicate.eq 64#32 0#32) 1#32 64#32))
          (IntOp.remsi ArithUnit.vector (BitVec.ofNat 32 k.val) (Scalar.select (Scalar.cmpi CmpIPredicate.eq 64#32 0#32) 1#32 64#32)))
        32#32 = if k.val % 64 < 32 then 1#1 else 0#1 := by decide +kernel
  rw [key ⟨n, h⟩]
  by_cases hn : n % 64 < 32
  · simp [hn, Scalar.select]
  · simp [hn, Scalar.select]

/-- A value read at the rotated partner: the lower half reads 32 columns up, the upper half 32 columns down. -/
theorem pick_part {W : ℕ} (hW : W % 64 = 0) (y : Fin W → EReal) (n : ℕ) (h : n < W) (a b : Fin W)
    (ha : n % 64 < 32 → a.val = n + 32) (hb : ¬ n % 64 < 32 → b.val = n - 32) :
    (if n % 64 < 32 then y a else y b) = y ⟨part n, part_lt hW h⟩ := by
  by_cases hn : n % 64 < 32
  · rw [if_pos hn]; exact congrArg y (Fin.ext (by simp [part, hn, ha hn]))
  · rw [if_neg hn]; exact congrArg y (Fin.ext (by simp [part, hn, hb hn]))

/-- The reference's pair of halves is the rotated column. -/
theorem halves {W : ℕ} (hW : W % 64 = 0) (y : Fin W → EReal) (t : ℕ) (n : Fin W) (a b c d : Fin W)
    (k l : ℕ) (ha : n.val % 64 < 32 → a.val = n.val) (hb : n.val % 64 < 32 → b.val = n.val + 32)
    (hc : ¬ n.val % 64 < 32 → c.val = n.val) (hd : ¬ n.val % 64 < 32 → d.val = n.val - 32)
    (hk : n.val % 64 < 32 → k = n.val % 32) (hl : ¬ n.val % 64 < 32 → l = n.val % 32) :
    (if n.val % 64 < 32 then y a * Ideal.cos (ang t k) - y b * Ideal.sin (ang t k)
      else y c * Ideal.cos (ang t l) + y d * Ideal.sin (ang t l)) = rotCol hW y t n := by
  unfold rotCol cosT sinT
  by_cases hn : n.val % 64 < 32
  · have e1 : a = n := Fin.ext (ha hn)
    have e2 : b = ⟨part n.val, part_lt hW n.isLt⟩ := Fin.ext (by simp [part, hn, hb hn])
    rw [if_pos hn, if_pos hn, e1, e2, hk hn, sub_eq_add_neg, mul_neg]
  · have e1 : c = n := Fin.ext (hc hn)
    have e2 : d = ⟨part n.val, part_lt hW n.isLt⟩ := Fin.ext (by simp [part, hn, hd hn])
    rw [if_neg hn, if_neg hn, e1, e2, hl hn]

/-- 2 copies of a 128-wide table side by side. -/
theorem tile2 (f : Fin 128 → EReal) (n : ℕ) (hn : n < 256) :
    (if h : n < 128 then f ⟨n, h⟩ else f ⟨n - 128, by omega⟩) = f ⟨n % 128, Nat.mod_lt _ (by decide)⟩ := by
  split_ifs <;> exact congrArg f (Fin.ext (by simp only; omega))

/-- 4 copies of a 128-wide table side by side. -/
theorem tile4 (f : Fin 128 → EReal) (n : ℕ) (hn : n < 512) :
    (if h : n < 128 then f ⟨n, h⟩ else if h : n - 128 < 128 then f ⟨n - 128, h⟩ else if h : n - 128 - 128 < 128 then f ⟨n - 128 - 128, h⟩ else f ⟨n - 128 - 128 - 128, by omega⟩) = f ⟨n % 128, Nat.mod_lt _ (by decide)⟩ := by
  split_ifs <;> exact congrArg f (Fin.ext (by simp only; omega))

/-- 8 copies of a 128-wide table side by side. -/
theorem tile8 (f : Fin 128 → EReal) (n : ℕ) (hn : n < 1024) :
    (if h : n < 128 then f ⟨n, h⟩ else if h : n - 128 < 128 then f ⟨n - 128, h⟩ else if h : n - 128 - 128 < 128 then f ⟨n - 128 - 128, h⟩ else if h : n - 128 - 128 - 128 < 128 then f ⟨n - 128 - 128 - 128, h⟩ else if h : n - 128 - 128 - 128 - 128 < 128 then f ⟨n - 128 - 128 - 128 - 128, h⟩ else if h : n - 128 - 128 - 128 - 128 - 128 < 128 then f ⟨n - 128 - 128 - 128 - 128 - 128, h⟩ else if h : n - 128 - 128 - 128 - 128 - 128 - 128 < 128 then f ⟨n - 128 - 128 - 128 - 128 - 128 - 128, h⟩ else f ⟨n - 128 - 128 - 128 - 128 - 128 - 128 - 128, by omega⟩) = f ⟨n % 128, Nat.mod_lt _ (by decide)⟩ := by
  split_ifs <;> exact congrArg f (Fin.ext (by simp only; omega))

/-- One copy of the table. -/
theorem tile1 (f : Fin 128 → EReal) (n : ℕ) (hn : n < 128) : f ⟨n, hn⟩ = f ⟨n % 128, Nat.mod_lt _ (by decide)⟩ :=
  congrArg f (Fin.ext (Nat.mod_eq_of_lt hn).symm)

/-- A row of normalised entries times a column is the projection. -/
theorem sum_proj {x g v w w' : Fin 1024 → EReal} (hv : ∀ e, v e = normed x g e) (hw : ∀ e, w e = w' e) :
    ∑ e, v e * w e = proj x g w' := by
  obtain rfl := funext hv; obtain rfl := funext hw; rfl

/-- The first columns of a wider row rotate as a row of their own. -/
theorem rotBlk_narrow {W V : ℕ} (hW : W % 64 = 0) (hV : V % 64 = 0) (h : V ≤ W) (y : Fin W → EReal) (C S : Fin 128 → EReal) (n : Fin V) :
    rotBlk hW y C S ⟨n.val, lt_of_lt_of_le n.isLt h⟩ = rotBlk hV (fun n => y ⟨n.val, lt_of_lt_of_le n.isLt h⟩) C S n := rfl

/-- One head of a row rotates as a row of its own. -/
theorem rotCol_head {W : ℕ} (hW : W % 64 = 0) (y : Fin W → EReal) (t : ℕ) (n : Fin W) :
    rotCol (W := 64) (by decide) (fun d => y ⟨n.val / 64 * 64 + d.val, by have := n.isLt; have := d.isLt; omega⟩) t ⟨n.val % 64, Nat.mod_lt _ (by decide)⟩ = rotCol hW y t n := by
  have h1 : n.val % 64 % 64 = n.val % 64 := by omega
  have h2 : n.val % 64 % 32 = n.val % 32 := by omega
  have h3 : n.val / 64 * 64 + part (n.val % 64) = part n.val := by unfold part; rw [h1]; split <;> omega
  have h4 : n.val / 64 * 64 + n.val % 64 = n.val := by omega
  unfold rotCol
  simp only [cosT, sinT, h1, h2, h3, h4]

end Cert.Rows
end
-- ==== Proof.DsaInBlock.lean ====
module

public import proofs.«01_k».proof.Proof.Gen.Kernel8Ideal.Value
public import proofs.«01_k».proof.Proof.Rope

@[expose] public section
set_option maxRecDepth 16384
noncomputable section
open Idealize.ShloMosaic Idealize.ShloMosaic.TcCoe Idealize.SL.Sem
open Idealize.ShloMosaic.Pipeline (Dat)

/-! What one grid point of the sparse-attention input projection computes from its blocks. -/
namespace Cert.Kernel8Ideal.Value
open Cert.Kernel8Ideal Cert.Kernel8Ideal.Gen Cert.Rows

/-- The normalised rows. -/
theorem normed_at (x : FVec Ideal S512x1024 .f32) (g : FVec Ideal S1x1024 .f32) (i : Fin 512) (e : Fin 1024) :
    k0_pay3 (F := Ideal) x g (ix2 i e) = normed (fun a => x (ix2 i a)) (fun a => g (ix2 0 a)) e := by
  pointwise [k0_pay3]
  rfl

/-- The table of the columns' own factors is read as it is. -/
theorem cos_at (u : FVec Ideal S512x128 .f32) (i : Fin 512) (l : Fin 128) : k0_pay4 (F := Ideal) u (ix2 i l) = u (ix2 i l) := by
  pointwise [k0_pay4]

/-- The table of the partners' factors is read as it is. -/
theorem sin_at (u : FVec Ideal S512x128 .f32) (i : Fin 512) (l : Fin 128) : k0_pay5 (F := Ideal) u (ix2 i l) = u (ix2 i l) := by
  pointwise [k0_pay5]

/-- The first stretch of the projected rows. -/
theorem first_at (x : FVec Ideal S512x1024 .f32) (g : FVec Ideal S1x1024 .f32) (w : FVec Ideal S1024x1024 .bf16) (i : Fin 512) (n : Fin 1024) :
    k0_pay6 (F := Ideal) x g w (ix2 i n) = proj (fun a => x (ix2 i a)) (fun a => g (ix2 0 a)) (fun e => w (ix2 e n)) := by
  pointwise [k0_pay6, k0_pay3]
  rfl

/-- A rotated stretch of the projected row. -/
theorem rotq_at (v18 v20 : FVec Ideal S512x128 .f32) (v23 : FVec Ideal S512x1024 .f32) (i : Fin 512) (n : Fin 1024) :
    k0_pay10 (F := Ideal) v18 v20 v23 k0_pay7 k0_pay8 k0_pay9 (ix2 i n) = rotBlk (W := 1024) (by decide) (fun n => v23 (ix2 i n)) (fun l => v18 (ix2 i l)) (fun l => v20 (ix2 i l)) n * Ideal.ofBits FTy.f32 0x3E000000#32 := by
  pointwise [k0_pay10, k0_pay7, k0_pay8, k0_pay9]
  rw [sel_lower _ (by omega)]
  exact congrArg (· * Ideal.ofBits FTy.f32 0x3E000000#32) (congrArg₂ (· + ·) (congrArg₂ (· * ·) rfl (tile8 (fun l => v18 (ix2 i l)) n.val (by omega)))
    (congrArg₂ (· * ·) (pick_part (by decide) (fun n : Fin 1024 => v23 (ix2 i n)) n.val (by omega) _ _ (by intro _; simp only; omega) (by intro _; simp only; omega))
      (tile8 (fun l => v20 (ix2 i l)) n.val (by omega))))

/-- A rotated stretch of the projected row. -/
theorem pay13_at (v16 : FVec Ideal S512x1024 .bf16) (v18 v20 : FVec Ideal S512x128 .f32) (w : FVec Ideal S1024x256 .bf16) (i : Fin 512) (n : Fin 256) :
    k0_pay13 (F := Ideal) v18 v20 (k0_pay11 v16 w) (k0_pay12 v16 w) (ix2 i n) = rotBlk (W := 256) (by decide) (fun n => ∑ e, v16 (ix2 i e) * w (ix2 e n)) (fun l => v18 (ix2 i l)) (fun l => v20 (ix2 i l)) n := by
  pointwise [k0_pay13, k0_pay11, k0_pay12]
  rw [sel_lower _ (by omega)]
  exact (congrArg₂ (· + ·) (congrArg₂ (· * ·) rfl (tile2 (fun l => v18 (ix2 i l)) n.val (by omega)))
    (congrArg₂ (· * ·) (pick_part (by decide) (fun n : Fin 256 => ∑ e, v16 (ix2 i e) * w (ix2 e n)) n.val (by omega) _ _ (by intro _; simp only; omega) (by intro _; simp only; omega))
      (tile2 (fun l => v20 (ix2 i l)) n.val (by omega))))

/-- The stretch stored transposed. -/
theorem pay14_at (v18 v20 : FVec Ideal S512x128 .f32) (a b : FVec Ideal S512x256 .f32) (i : Fin 512) (n : Fin 256) : k0_pay14 (F := Ideal) v18 v20 a b (ix2 n i) = k0_pay13 (F := Ideal) v18 v20 a b (ix2 i n) := by
  pointwise [k0_pay14]

/-- A stretch of the projected row as it is. -/
theorem pay15_at (v16 : FVec Ideal S512x1024 .bf16) (w : FVec Ideal S1024x256 .bf16) (i : Fin 512) (n : Fin 256) :
    k0_pay15 (F := Ideal) v16 w (ix2 i n) = (∑ e, v16 (ix2 i e) * w (ix2 e n)) := by
  pointwise [k0_pay15]

/-- A stretch of the projected row as it is. -/
theorem pay16_at (v16 : FVec Ideal S512x1024 .bf16) (w : FVec Ideal S1024x256 .bf16) (i : Fin 512) (n : Fin 256) :
    k0_pay16 (F := Ideal) v16 w (ix2 i n) = (∑ e, v16 (ix2 i e) * w (ix2 e n)) := by
  pointwise [k0_pay16, k0_pay15]

/-- A rotated stretch of the projected row. -/
theorem pay19_at (v16 : FVec Ideal S512x1024 .bf16) (v18 v20 : FVec Ideal S512x128 .f32) (w : FVec Ideal S1024x512 .bf16) (i : Fin 512) (n : Fin 512) :
    k0_pay19 (F := Ideal) v18 v20 (k0_pay17 v16 w) k0_pay18 32#32 (ix2 i n) = rotBlk (W := 512) (by decide) (fun n => ∑ e, v16 (ix2 i e) * w (ix2 e n)) (fun l => v18 (ix2 i l)) (fun l => v20 (ix2 i l)) n := by
  pointwise [k0_pay19, k0_pay17, k0_pay18]
  rw [sel_lower _ (by omega)]
  exact (congrArg₂ (· + ·) (congrArg₂ (· * ·) rfl (tile4 (fun l => v18 (ix2 i l)) n.val (by omega)))
    (congrArg₂ (· * ·) (pick_part (by decide) (fun n : Fin 512 => ∑ e, v16 (ix2 i e) * w (ix2 e n)) n.val (by omega) _ _ (by intro _; simp only; omega) (by intro _; simp only; omega))
      (tile4 (fun l => v20 (ix2 i l)) n.val (by omega))))

/-- A rotated stretch of the projected row. -/
theorem pay20_at (v16 : FVec Ideal S512x1024 .bf16) (v18 v20 : FVec Ideal S512x128 .f32) (w : FVec Ideal S1024x128 .bf16) (i : Fin 512) (n : Fin 128) :
    k0_pay20 (F := Ideal) v16 v18 v20 w (ix2 i n) = rotBlk (W := 128) (by decide) (fun n => ∑ e, v16 (ix2 i e) * w (ix2 e n)) (fun l => v18 (ix2 i l)) (fun l => v20 (ix2 i l)) n := by
  pointwise [k0_pay20]
  rw [sel_lower _ (by omega)]
  exact (congrArg₂ (· + ·) (congrArg₂ (· * ·) rfl (tile1 (fun l => v18 (ix2 i l)) n.val (by omega)))
    (congrArg₂ (· * ·) (pick_part (by decide) (fun n : Fin 128 => ∑ e, v16 (ix2 i e) * w (ix2 e n)) n.val (by omega) _ _ (by intro _; simp only; omega) (by intro _; simp only; omega))
      (tile1 (fun l => v20 (ix2 i l)) n.val (by omega))))

/-- A rotated stretch of the projected row. -/
theorem pay21_at (v16 : FVec Ideal S512x1024 .bf16) (v18 v20 : FVec Ideal S512x128 .f32) (w : FVec Ideal S1024x128 .bf16) (i : Fin 512) (n : Fin 64) :
    k0_pay21 (F := Ideal) v16 v18 v20 w (ix2 i n) = rotBlk (W := 128) (by decide) (fun n => ∑ e, v16 (ix2 i e) * w (ix2 e n)) (fun l => v18 (ix2 i l)) (fun l => v20 (ix2 i l)) ⟨n.val, by omega⟩ := by
  pointwise [k0_pay21, k0_pay20]
  rw [sel_lower _ (by omega)]
  exact (congrArg₂ (· + ·) (congrArg₂ (· * ·) rfl (tile1 (fun l => v18 (ix2 i l)) n.val (by omega)))
    (congrArg₂ (· * ·) (pick_part (by decide) (fun n : Fin 128 => ∑ e, v16 (ix2 i e) * w (ix2 e n)) n.val (by omega) _ _ (by intro _; simp only; omega) (by intro _; simp only; omega))
      (tile1 (fun l => v20 (ix2 i l)) n.val (by omega))))

/-- The stretch stored transposed. -/
theorem pay1_at (a : FVec Ideal S512x128 .f32) (i : Fin 512) (n : Fin 64) : k0_pay1 (F := Ideal) a (ix2 n i) = a (ix2 i ⟨n.val, by omega⟩) := by
  pointwise [k0_pay1]

/-- A stretch of the projected row as it is. -/
theorem pay2_at (v16 : FVec Ideal S512x1024 .bf16) (w : FVec Ideal S1024x128 .bf16) (i : Fin 512) (n : Fin 8) :
    k0_pay2 (F := Ideal) v16 w (ix2 i n) = (∑ e, v16 (ix2 i e) * w (ix2 e ⟨n.val, by omega⟩)) * Ideal.ofBits FTy.f32 0x3D3504F3#32 := by
  pointwise [k0_pay2]

/-- The block stored in window 5. -/
theorem block5_at (x : FVec Ideal S512x1024 .f32) (g : FVec Ideal S1x1024 .f32) (u v : FVec Ideal S512x128 .f32) (w : FVec Ideal S1024x2304 .bf16) (i : Fin 512) (n : Fin 1024) :
    out0_5 (F := Ideal) x g u v w (ix2 i n) = rotBlk (W := 1024) (by decide) (fun n => proj (fun a => x (ix2 i a)) (fun a => g (ix2 0 a)) (fun e => w (ix2 e ⟨0 + n.val, by omega⟩))) (fun l => u (ix2 i l)) (fun l => v (ix2 i l)) n * Ideal.ofBits FTy.f32 0x3E000000#32 := by
  unfold_out out0_5
  frame_out
  exact (rotq_at _ _ _ i n).trans (congrArg (· * Ideal.ofBits FTy.f32 0x3E000000#32) (rotBlk_congr (by decide) (fun n => (first_at _ _ _ i n).trans (proj_congr (fun a => rfl) (fun a => rfl) fun a => ld_at _ _ _ _ _ _ _ _ (Nat.zero_add _).symm rfl)) (fun l => cos_at _ i l) (fun l => sin_at _ i l) n))

/-- The block stored in window 6. -/
theorem block6_at (x : FVec Ideal S512x1024 .f32) (g : FVec Ideal S1x1024 .f32) (u v : FVec Ideal S512x128 .f32) (w : FVec Ideal S1024x2304 .bf16) (i : Fin 512) (n : Fin 256) :
    out0_6 (F := Ideal) x g u v w (ix2 i n) = rotBlk (W := 256) (by decide) (fun n => proj (fun a => x (ix2 i a)) (fun a => g (ix2 0 a)) (fun e => w (ix2 e ⟨1024 + n.val, by omega⟩))) (fun l => u (ix2 i l)) (fun l => v (ix2 i l)) n := by
  unfold_out out0_6
  frame_out
  refine (pay13_at _ _ _ _ i n).trans (rotBlk_congr (by decide) (fun n => ?_) (fun l => cos_at _ i l) (fun l => sin_at _ i l) n)
  beta_reduce
  exact sum_proj (fun e => normed_at _ _ i e) (fun e => ld_at _ _ _ _ _ _ _ _ (Nat.zero_add _).symm rfl)

/-- The block stored in window 7. -/
theorem block7_at (x : FVec Ideal S512x1024 .f32) (g : FVec Ideal S1x1024 .f32) (u v : FVec Ideal S512x128 .f32) (w : FVec Ideal S1024x2304 .bf16) (i : Fin 512) (n : Fin 256) :
    out0_7 (F := Ideal) x g u v w (ix2 n i) = rotBlk (W := 256) (by decide) (fun n => proj (fun a => x (ix2 i a)) (fun a => g (ix2 0 a)) (fun e => w (ix2 e ⟨1024 + n.val, by omega⟩))) (fun l => u (ix2 i l)) (fun l => v (ix2 i l)) n := by
  unfold_out out0_7
  frame_out
  refine (pay14_at _ _ _ _ i n).trans ((pay13_at _ _ _ _ i n).trans (rotBlk_congr (by decide) (fun n => ?_) (fun l => cos_at _ i l) (fun l => sin_at _ i l) n))
  beta_reduce
  exact sum_proj (fun e => normed_at _ _ i e) (fun e => ld_at _ _ _ _ _ _ _ _ (Nat.zero_add _).symm rfl)

/-- The block stored in window 8. -/
theorem block8_at (x : FVec Ideal S512x1024 .f32) (g : FVec Ideal S1x1024 .f32) (u v : FVec Ideal S512x128 .f32) (w : FVec Ideal S1024x2304 .bf16) (i : Fin 512) (n : Fin 256) :
    out0_8 (F := Ideal) x g u v w (ix2 i n) = proj (fun a => x (ix2 i a)) (fun a => g (ix2 0 a)) (fun e => w (ix2 e ⟨1280 + n.val, by omega⟩)) := by
  unfold_out out0_8
  frame_out
  exact (pay15_at _ _ i n).trans (sum_proj (fun e => normed_at _ _ i e) (fun e => ld_at _ _ _ _ _ _ _ _ (Nat.zero_add _).symm rfl))

/-- The block stored in window 9. -/
theorem block9_at (x : FVec Ideal S512x1024 .f32) (g : FVec Ideal S1x1024 .f32) (u v : FVec Ideal S512x128 .f32) (w : FVec Ideal S1024x2304 .bf16) (i : Fin 512) (n : Fin 256) :
    out0_9 (F := Ideal) x g u v w (ix2 i n) = proj (fun a => x (ix2 i a)) (fun a => g (ix2 0 a)) (fun e => w (ix2 e ⟨1280 + n.val, by omega⟩)) := by
  unfold_out out0_9
  frame_out
  exact (pay16_at _ _ i n).trans (sum_proj (fun e => normed_at _ _ i e) (fun e => ld_at _ _ _ _ _ _ _ _ (Nat.zero_add _).symm rfl))

/-- The block stored in window 10. -/
theorem block10_at (x : FVec Ideal S512x1024 .f32) (g : FVec Ideal S1x1024 .f32) (u v : FVec Ideal S512x128 .f32) (w : FVec Ideal S1024x2304 .bf16) (i : Fin 512) (n : Fin 512) :
    out0_10 (F := Ideal) x g u v w (ix2 i n) = rotBlk (W := 512) (by decide) (fun n => proj (fun a => x (ix2 i a)) (fun a => g (ix2 0 a)) (fun e => w (ix2 e ⟨1536 + n.val, by omega⟩))) (fun l => u (ix2 i l)) (fun l => v (ix2 i l)) n := by
  unfold_out out0_10
  frame_out
  refine (pay19_at _ _ _ _ i n).trans (rotBlk_congr (by decide) (fun n => ?_) (fun l => cos_at _ i l) (fun l => sin_at _ i l) n)
  beta_reduce
  exact sum_proj (fun e => normed_at _ _ i e) (fun e => ld_at _ _ _ _ _ _ _ _ (Nat.zero_add _).symm rfl)

/-- The block stored in window 11. -/
theorem block11_at (x : FVec Ideal S512x1024 .f32) (g : FVec Ideal S1x1024 .f32) (u v : FVec Ideal S512x128 .f32) (w : FVec Ideal S1024x2304 .bf16) (i : Fin 512) (n : Fin 64) :
    out0_11 (F := Ideal) x g u v w (ix2 i n) = rotBlk (W := 64) (by decide) (fun n => proj (fun a => x (ix2 i a)) (fun a => g (ix2 0 a)) (fun e => w (ix2 e ⟨2048 + n.val, by omega⟩))) (fun l => u (ix2 i l)) (fun l => v (ix2 i l)) n := by
  unfold_out out0_11
  frame_out
  refine (pay21_at _ _ _ _ i n).trans ((rotBlk_narrow (by decide) (by decide) (by decide) _ _ _ n).trans (rotBlk_congr (by decide) (fun n => ?_) (fun l => cos_at _ i l) (fun l => sin_at _ i l) n))
  beta_reduce
  exact sum_proj (fun e => normed_at _ _ i e) (fun e => ld_at _ _ _ _ _ _ _ _ (Nat.zero_add _).symm rfl)

/-- The block stored in window 12. -/
theorem block12_at (x : FVec Ideal S512x1024 .f32) (g : FVec Ideal S1x1024 .f32) (u v : FVec Ideal S512x128 .f32) (w : FVec Ideal S1024x2304 .bf16) (i : Fin 512) (n : Fin 64) :
    out0_12 (F := Ideal) x g u v w (ix2 n i) = rotBlk (W := 64) (by decide) (fun n => proj (fun a => x (ix2 i a)) (fun a => g (ix2 0 a)) (fun e => w (ix2 e ⟨2048 + n.val, by omega⟩))) (fun l => u (ix2 i l)) (fun l => v (ix2 i l)) n := by
  unfold_out out0_12
  frame_out
  refine (pay1_at _ i n).trans ((pay20_at _ _ _ _ i _).trans ((rotBlk_narrow (by decide) (by decide) (by decide) _ _ _ n).trans (rotBlk_congr (by decide) (fun n => ?_) (fun l => cos_at _ i l) (fun l => sin_at _ i l) n)))
  beta_reduce
  exact sum_proj (fun e => normed_at _ _ i e) (fun e => ld_at _ _ _ _ _ _ _ _ (Nat.zero_add _).symm rfl)

/-- The block stored in window 13. -/
theorem block13_at (x : FVec Ideal S512x1024 .f32) (g : FVec Ideal S1x1024 .f32) (u v : FVec Ideal S512x128 .f32) (w : FVec Ideal S1024x2304 .bf16) (i : Fin 512) (n : Fin 8) :
    out0_13 (F := Ideal) x g u v w (ix2 i n) = proj (fun a => x (ix2 i a)) (fun a => g (ix2 0 a)) (fun e => w (ix2 e ⟨2176 + n.val, by omega⟩)) * Ideal.ofBits FTy.f32 0x3D3504F3#32 := by
  unfold_out out0_13
  frame_out
  exact (pay2_at _ _ i n).trans (congrArg (· * Ideal.ofBits FTy.f32 0x3D3504F3#32) (sum_proj (fun e => normed_at _ _ i e) (fun e => ld_at _ _ _ _ _ _ _ _ (Nat.zero_add _).symm rfl)))

end Cert.Kernel8Ideal.Value
end
-- ==== Proof.DsaInValue.lean ====
module

public import proofs.«01_k».proof.Proof.DsaInBlock

@[expose] public section
set_option maxRecDepth 16384
noncomputable section
open Idealize.ShloMosaic Idealize.ShloMosaic.TcCoe Idealize.SL.Sem
open Idealize.ShloMosaic.Pipeline (Dat)

/-! The arrays the sparse-attention input projection leaves. -/
namespace Cert.Kernel8Ideal.Value
open Cert.Kernel8Ideal Cert.Kernel8Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, t.val] ∧ win0_8.index t = ![t.val, 0] ∧ win0_9.index t = ![t.val, 0] ∧ win0_10.index t = ![t.val, 0] ∧ win0_11.index t = ![t.val, 0] ∧ win0_12.index t = ![0, t.val] ∧ win0_13.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 512) (a : Fin 128) (h : t.val < 32) :
    (((cfg0.win 2).blk t).view.emb (ix2 i a : S512x128.Idx) : S16384x128.Idx) = ix2 ⟨t.val * 512 + i.val, by omega⟩ a := by
  blk_ext [idx t]

/-- Where block 3 of point `t` lies in its array. -/
theorem emb3 (t : Fin cfg0.N) (i : Fin 512) (a : Fin 128) (h : t.val < 32) :
    (((cfg0.win 3).blk t).view.emb (ix2 i a : S512x128.Idx) : S16384x128.Idx) = ix2 ⟨t.val * 512 + i.val, by omega⟩ a := by
  blk_ext [idx t]

/-- Where block 4 of point `t` lies in its array. -/
theorem emb4 (t : Fin cfg0.N) (i : Fin 1024) (a : Fin 2304) :
    (((cfg0.win 4).blk t).view.emb (ix2 i a : S1024x2304.Idx) : S1024x2304.Idx) = ix2 i a := by
  blk_ext [idx t]

/-- Where block 5 of point `t` lies in its array. -/
theorem emb5 (t : Fin cfg0.N) (i : Fin 512) (a : Fin 1024) (h : t.val < 32) :
    (((cfg0.win 5).blk t).view.emb (ix2 i a : S512x1024.Idx) : S16384x1024.Idx) = ix2 ⟨t.val * 512 + i.val, by omega⟩ a := by
  blk_ext [idx t]

/-- Where block 6 of point `t` lies in its array. -/
theorem emb6 (t : Fin cfg0.N) (i : Fin 512) (a : Fin 256) (h : t.val < 32) :
    (((cfg0.win 6).blk t).view.emb (ix2 i a : S512x256.Idx) : S16384x256.Idx) = ix2 ⟨t.val * 512 + i.val, by omega⟩ a := by
  blk_ext [idx t]

/-- Where block 7 of point `t` lies in its array. -/
theorem emb7 (t : Fin cfg0.N) (n : Fin 256) (i : Fin 512) (h : t.val < 32) :
    (((cfg0.win 7).blk t).view.emb (ix2 n i : S256x512.Idx) : S256x16384.Idx) = ix2 n ⟨t.val * 512 + i.val, by omega⟩ := by
  blk_ext [idx t]

/-- Where block 8 of point `t` lies in its array. -/
theorem emb8 (t : Fin cfg0.N) (i : Fin 512) (a : Fin 256) (h : t.val < 32) :
    (((cfg0.win 8).blk t).view.emb (ix2 i a : S512x256.Idx) : S16384x256.Idx) = ix2 ⟨t.val * 512 + i.val, by omega⟩ a := by
  blk_ext [idx t]

/-- Where block 9 of point `t` lies in its array. -/
theorem emb9 (t : Fin cfg0.N) (i : Fin 512) (a : Fin 256) (h : t.val < 32) :
    (((cfg0.win 9).blk t).view.emb (ix2 i a : S512x256.Idx) : S16384x256.Idx) = ix2 ⟨t.val * 512 + i.val, by omega⟩ a := by
  blk_ext [idx t]

/-- Where block 10 of point `t` lies in its array. -/
theorem emb10 (t : Fin cfg0.N) (i : Fin 512) (a : Fin 512) (h : t.val < 32) :
    (((cfg0.win 10).blk t).view.emb (ix2 i a : S512x512.Idx) : S16384x512.Idx) = ix2 ⟨t.val * 512 + i.val, by omega⟩ a := by
  blk_ext [idx t]

/-- Where block 11 of point `t` lies in its array. -/
theorem emb11 (t : Fin cfg0.N) (i : Fin 512) (a : Fin 64) (h : t.val < 32) :
    (((cfg0.win 11).blk t).view.emb (ix2 i a : S512x64.Idx) : S16384x64.Idx) = ix2 ⟨t.val * 512 + i.val, by omega⟩ a := by
  blk_ext [idx t]

/-- Where block 12 of point `t` lies in its array. -/
theorem emb12 (t : Fin cfg0.N) (n : Fin 64) (i : Fin 512) (h : t.val < 32) :
    (((cfg0.win 12).blk t).view.emb (ix2 n i : S64x512.Idx) : S64x16384.Idx) = ix2 n ⟨t.val * 512 + i.val, by omega⟩ := by
  blk_ext [idx t]

/-- Where block 13 of point `t` lies in its array. -/
theorem emb13 (t : Fin cfg0.N) (i : Fin 512) (a : Fin 8) (h : t.val < 32) :
    (((cfg0.win 13).blk t).view.emb (ix2 i a : S512x8.Idx) : S16384x8.Idx) = ix2 ⟨t.val * 512 + i.val, by omega⟩ a := by
  blk_ext [idx t]

/-- The host's operations before the region, stretch after stretch. -/
theorem V_split (c : Dev nD) (b : Ref sig .tc) : V m c b = StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))))) b := by
  show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ []))))))))))))) _ _ = _
  simp only [StableHlo.after_append, StableHlo.after_nil]

/-- The rows the region reads: argument 0 reshaped. -/
theorem V_v1 (c : Dev nD) : (show FVec Ideal S16384x1024 .f32 from V m c main_v1) = shapeCast _ (show FVec Ideal S2x8192x1024 .f32 from m ((c : Thread nD τ).loc main_arg0)) shapeCasts_S2x8192x1024_S16384x1024 := by
  show V m c main_v1 = _
  rw [V_split]
  after_results
  rfl

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v1) (emb0 t i a h)).trans ((congrFun (V_v1 m c) _).trans ?_)
  pointwise

/-- The gain the region reads: argument 1 reshaped. -/
theorem V_v47 (c : Dev nD) : (show FVec Ideal S1x1024 .f32 from V m c main_v47) = shapeCast _ (show FVec Ideal S1024 .f32 from m ((c : Thread nD τ).loc main_arg1)) shapeCasts_S1024_S1x1024 := by
  show V m c main_v47 = _
  rw [V_split]
  after_results
  rfl

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v47) (emb1 t a)).trans ((congrFun (V_v47 m c) _).trans ?_)
  pointwise

/-- The weight's columns, segment after segment, each padded with zeros to whole lanes. -/
def pk (w : FVec Ideal S1024x2120 .f32) : FVec Ideal S1024x2304 .bf16 :=
  concatenate S1024x2304 1 [⟨S1024x1024, pad S1024x1024 ![0, 0] ![0, 0] ![0, 0] (truncf .bf16 (extractStridedSlice S1024x1024 ![0, 0] w slices_S1024x2120_S1024x1024_0_0) bitsLt_bf16_f32) (sitofp (F := Ideal) .bf16 (constantI S_ 32 0#32)) pads_S1024x1024_S1024x1024_000_000 h_S_⟩,
    ⟨S1024x256, pad S1024x256 ![0, 0] ![0, 0] ![0, 0] (truncf .bf16 (extractStridedSlice S1024x256 ![0, 1024] w slices_S1024x2120_S1024x256_0_1024) bitsLt_bf16_f32) (sitofp (F := Ideal) .bf16 (constantI S_ 32 0#32)) pads_S1024x256_S1024x256_000_000 h_S_⟩,
    ⟨S1024x256, pad S1024x256 ![0, 0] ![0, 0] ![0, 0] (truncf .bf16 (extractStridedSlice S1024x256 ![0, 1280] w slices_S1024x2120_S1024x256_0_1280) bitsLt_bf16_f32) (sitofp (F := Ideal) .bf16 (constantI S_ 32 0#32)) pads_S1024x256_S1024x256_000_000 h_S_⟩,
    ⟨S1024x512, pad S1024x512 ![0, 0] ![0, 0] ![0, 0] (truncf .bf16 (extractStridedSlice S1024x512 ![0, 1536] w slices_S1024x2120_S1024x512_0_1536) bitsLt_bf16_f32) (sitofp (F := Ideal) .bf16 (constantI S_ 32 0#32)) pads_S1024x512_S1024x512_000_000 h_S_⟩,
    ⟨S1024x128, pad S1024x128 ![0, 0] ![0, 64] ![0, 0] (truncf .bf16 (extractStridedSlice S1024x64 ![0, 2048] w slices_S1024x2120_S1024x64_0_2048) bitsLt_bf16_f32) (sitofp (F := Ideal) .bf16 (constantI S_ 32 0#32)) pads_S1024x64_S1024x128_000_0640 h_S_⟩,
    ⟨S1024x128, pad S1024x128 ![0, 0] ![0, 120] ![0, 0] (truncf .bf16 (extractStridedSlice S1024x8 ![0, 2112] w slices_S1024x2120_S1024x8_0_2112) bitsLt_bf16_f32) (sitofp (F := Ideal) .bf16 (constantI S_ 32 0#32)) pads_S1024x8_S1024x128_000_01200 h_S_⟩] concatenates_S1024x1024_S1024x256_S1024x256_S1024x512_S1024x128_S1024x128_S1024x2304_d1

/-- Segment 0 of the packed weight. -/
theorem pk_0 (w : FVec Ideal S1024x2120 .f32) (i : Fin 1024) (n : Fin 1024) : pk w (ix2 i ⟨0 + n.val, by omega⟩) = w (ix2 i ⟨0 + n.val, by omega⟩) := by
  pointwise [pk]
  all_goals first | done | (
    try simp (disch := omega) only [dif_pos, dif_neg]
    exact congrArg (fun q => w (ix2 i q)) (Fin.ext (by simp; try omega)))

/-- Segment 1 of the packed weight. -/
theorem pk_1 (w : FVec Ideal S1024x2120 .f32) (i : Fin 1024) (n : Fin 256) : pk w (ix2 i ⟨1024 + n.val, by omega⟩) = w (ix2 i ⟨1024 + n.val, by omega⟩) := by
  pointwise [pk]
  all_goals first | done | (
    try simp (disch := omega) only [dif_pos, dif_neg]
    exact congrArg (fun q => w (ix2 i q)) (Fin.ext (by simp; try omega)))

/-- Segment 2 of the packed weight. -/
theorem pk_2 (w : FVec Ideal S1024x2120 .f32) (i : Fin 1024) (n : Fin 256) : pk w (ix2 i ⟨1280 + n.val, by omega⟩) = w (ix2 i ⟨1280 + n.val, by omega⟩) := by
  pointwise [pk]
  all_goals first | done | (
    try simp (disch := omega) only [dif_pos, dif_neg]
    exact congrArg (fun q => w (ix2 i q)) (Fin.ext (by simp; try omega)))

/-- Segment 3 of the packed weight. -/
theorem pk_3 (w : FVec Ideal S1024x2120 .f32) (i : Fin 1024) (n : Fin 512) : pk w (ix2 i ⟨1536 + n.val, by omega⟩) = w (ix2 i ⟨1536 + n.val, by omega⟩) := by
  pointwise [pk]
  all_goals first | done | (
    try simp (disch := omega) only [dif_pos, dif_neg]
    exact congrArg (fun q => w (ix2 i q)) (Fin.ext (by simp; try omega)))

/-- Segment 4 of the packed weight. -/
theorem pk_4 (w : FVec Ideal S1024x2120 .f32) (i : Fin 1024) (n : Fin 64) : pk w (ix2 i ⟨2048 + n.val, by omega⟩) = w (ix2 i ⟨2048 + n.val, by omega⟩) := by
  pointwise [pk]
  all_goals first | done | (
    try simp (disch := omega) only [dif_pos, dif_neg]
    exact congrArg (fun q => w (ix2 i q)) (Fin.ext (by simp; try omega)))

/-- Segment 5 of the packed weight. -/
theorem pk_5 (w : FVec Ideal S1024x2120 .f32) (i : Fin 1024) (n : Fin 8) : pk w (ix2 i ⟨2176 + n.val, by omega⟩) = w (ix2 i ⟨2112 + n.val, by omega⟩) := by
  pointwise [pk]
  all_goals first | done | (
    try simp (disch := omega) only [dif_pos, dif_neg]
    exact congrArg (fun q => w (ix2 i q)) (Fin.ext (by simp; try omega)))

/-- The packed weight the region reads. -/
theorem V_v23 (c : Dev nD) : (show FVec Ideal S1024x2304 .bf16 from V m c main_v23) = pk (m ((c : Thread nD τ).loc main_arg2)) := by
  show V m c main_v23 = _
  rw [V_split]
  after_results
  rfl

/-- The angles the host prepares: row position times frequency. -/
def angK : FVec Ideal S16384x32 .f32 :=
  mulf (broadcastInDim S16384x32 ![0, 1] bcast_S16384x1_S16384x32_0_1 (broadcastInDim S16384x1 ![0] bcast_S16384_S16384x1_0 (sitofp .f32 (shapeCast S16384 (broadcastInDim S2x8192 ![0, 1] bcast_S1x8192_S2x8192_0_1 (shapeCast S1x8192 (iotaInDim S8192 32 0) shapeCasts_S8192_S1x8192)) shapeCasts_S2x8192_S16384))))
    (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- An angle the host prepares. -/
theorem angK_at (R : Fin 16384) (k : Fin 32) : angK (ix2 R k) = ang (R.val % 8192) k.val := by
  pointwise [angK]
  rfl

/-- Two halves of a head side by side, repeated for two heads. -/
def twoHeads (a b : FVec Ideal S16384x32 .f32) : FVec Ideal S16384x128 .f32 :=
  shapeCast S16384x128 (broadcastInDim S1x16384x2x64 ![0, 1, 2, 3] bcast_S1x16384x1x64_S1x16384x2x64_0_1_2_3 (shapeCast S1x16384x1x64 (concatenate S16384x64 1 [⟨S16384x32, a⟩, ⟨S16384x32, b⟩] concatenates_S16384x32_S16384x32_S16384x64_d1) shapeCasts_S16384x64_S1x16384x1x64)) shapeCasts_S1x16384x2x64_S16384x128

/-- A lane of the two heads is a lane of one of the halves. -/
theorem twoHeads_at (a b : FVec Ideal S16384x32 .f32) (R : Fin 16384) (l : Fin 128) :
    twoHeads a b (ix2 R l) = if l.val % 64 < 32 then a (ix2 R ⟨l.val % 32, by omega⟩) else b (ix2 R ⟨l.val % 32, by omega⟩) := by
  pointwise [twoHeads]
  by_cases h : l.val % 64 < 32
  · rw [dif_pos h, if_pos h]
    exact congrArg (fun q => a (ix2 R q)) (Fin.ext (by simp only; omega))
  · rw [dif_neg h, if_neg h]
    exact congrArg (fun q => b (ix2 R q)) (Fin.ext (by simp only; omega))

/-- The table of the columns' own factors. -/
theorem V_v41 (c : Dev nD) : (show FVec Ideal S16384x128 .f32 from V m c main_v41) = twoHeads (Host.cos angK) (Host.cos angK) := by
  show V m c main_v41 = _
  rw [V_split]
  after_results
  rfl

/-- The table of the partners' factors. -/
theorem V_v46 (c : Dev nD) : (show FVec Ideal S16384x128 .f32 from V m c main_v46) = twoHeads (Host.negf (Host.sin angK)) (Host.sin angK) := by
  show V m c main_v46 = _
  rw [V_split]
  after_results
  rfl

/-- Block 2 of point `t` holds the cosines of the rows' positions. -/
theorem blk2 (c : Dev nD) (t : Fin cfg0.N) (i : Fin 512) (l : Fin 128) (h : t.val < 32) : (show FVec Ideal S512x128 .f32 from iblk m c 2 t) (ix2 i l)
    = cosT ((t.val * 512 + i.val) % 8192) l.val := by
  refine (congrArg (V m c main_v41) (emb2 t i l h)).trans ((congrFun (V_v41 m c) _).trans ((twoHeads_at _ _ _ l).trans ?_))
  rw [ite_self]
  exact congrArg Ideal.cos (angK_at _ _)

/-- Block 3 of point `t` holds the signed sines of the rows' positions. -/
theorem blk3 (c : Dev nD) (t : Fin cfg0.N) (i : Fin 512) (l : Fin 128) (h : t.val < 32) : (show FVec Ideal S512x128 .f32 from iblk m c 3 t) (ix2 i l)
    = sinT ((t.val * 512 + i.val) % 8192) l.val := by
  refine (congrArg (V m c main_v46) (emb3 t i l h)).trans ((congrFun (V_v46 m c) _).trans ((twoHeads_at _ _ _ l).trans ?_))
  exact if_congr Iff.rfl (congrArg (fun a => -Ideal.sin a) (angK_at _ _)) (congrArg Ideal.sin (angK_at _ _))

/-- Block 4 of point `t` at the columns of segment 0, read in the argument array. -/
theorem blk4_0 (c : Dev nD) (t : Fin cfg0.N) (i : Fin 1024) (n : Fin 1024) : (show FVec Ideal S1024x2304 .bf16 from iblk m c 4 t) (ix2 i ⟨0 + n.val, by omega⟩)
    = (show FVec Ideal S1024x2120 .f32 from m ((c : Thread nD τ).loc main_arg2)) (ix2 i ⟨0 + n.val, by omega⟩) := by
  refine (congrArg (V m c main_v23) (emb4 t i _)).trans ((congrFun (V_v23 m c) _).trans (pk_0 _ i n))

/-- Block 4 of point `t` at the columns of segment 1, read in the argument array. -/
theorem blk4_1 (c : Dev nD) (t : Fin cfg0.N) (i : Fin 1024) (n : Fin 256) : (show FVec Ideal S1024x2304 .bf16 from iblk m c 4 t) (ix2 i ⟨1024 + n.val, by omega⟩)
    = (show FVec Ideal S1024x2120 .f32 from m ((c : Thread nD τ).loc main_arg2)) (ix2 i ⟨1024 + n.val, by omega⟩) := by
  refine (congrArg (V m c main_v23) (emb4 t i _)).trans ((congrFun (V_v23 m c) _).trans (pk_1 _ i n))

/-- Block 4 of point `t` at the columns of segment 2, read in the argument array. -/
theorem blk4_2 (c : Dev nD) (t : Fin cfg0.N) (i : Fin 1024) (n : Fin 256) : (show FVec Ideal S1024x2304 .bf16 from iblk m c 4 t) (ix2 i ⟨1280 + n.val, by omega⟩)
    = (show FVec Ideal S1024x2120 .f32 from m ((c : Thread nD τ).loc main_arg2)) (ix2 i ⟨1280 + n.val, by omega⟩) := by
  refine (congrArg (V m c main_v23) (emb4 t i _)).trans ((congrFun (V_v23 m c) _).trans (pk_2 _ i n))

/-- Block 4 of point `t` at the columns of segment 3, read in the argument array. -/
theorem blk4_3 (c : Dev nD) (t : Fin cfg0.N) (i : Fin 1024) (n : Fin 512) : (show FVec Ideal S1024x2304 .bf16 from iblk m c 4 t) (ix2 i ⟨1536 + n.val, by omega⟩)
    = (show FVec Ideal S1024x2120 .f32 from m ((c : Thread nD τ).loc main_arg2)) (ix2 i ⟨1536 + n.val, by omega⟩) := by
  refine (congrArg (V m c main_v23) (emb4 t i _)).trans ((congrFun (V_v23 m c) _).trans (pk_3 _ i n))

/-- Block 4 of point `t` at the columns of segment 4, read in the argument array. -/
theorem blk4_4 (c : Dev nD) (t : Fin cfg0.N) (i : Fin 1024) (n : Fin 64) : (show FVec Ideal S1024x2304 .bf16 from iblk m c 4 t) (ix2 i ⟨2048 + n.val, by omega⟩)
    = (show FVec Ideal S1024x2120 .f32 from m ((c : Thread nD τ).loc main_arg2)) (ix2 i ⟨2048 + n.val, by omega⟩) := by
  refine (congrArg (V m c main_v23) (emb4 t i _)).trans ((congrFun (V_v23 m c) _).trans (pk_4 _ i n))

/-- Block 4 of point `t` at the columns of segment 5, read in the argument array. -/
theorem blk4_5 (c : Dev nD) (t : Fin cfg0.N) (i : Fin 1024) (n : Fin 8) : (show FVec Ideal S1024x2304 .bf16 from iblk m c 4 t) (ix2 i ⟨2176 + n.val, by omega⟩)
    = (show FVec Ideal S1024x2120 .f32 from m ((c : Thread nD τ).loc main_arg2)) (ix2 i ⟨2112 + n.val, by omega⟩) := by
  refine (congrArg (V m c main_v23) (emb4 t i _)).trans ((congrFun (V_v23 m c) _).trans (pk_5 _ i n))

/-- The array of window 5. -/
def G5 (x : FVec Ideal S2x8192x1024 .f32) (g : FVec Ideal S1024 .f32) (w : FVec Ideal S1024x2120 .f32) (R : Fin 16384) (n : Fin 1024) : EReal :=
  rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n * Ideal.ofBits FTy.f32 0x3E000000#32

/-- Window 5's array after the run, at every index. -/
theorem final5 (c : Dev nD) (X : FVec Ideal S16384x1024 .f32)
    (hX : ∀ R n, X (ix2 R n) = G5 (m ((c : Thread nD τ).loc main_arg0)) (m ((c : Thread nD τ).loc main_arg1)) (m ((c : Thread nD τ).loc main_arg2)) R n) :
    (dats m 0 c).arrAt 5 cfg0.N = X := by
  refine (dats m 0 c).arrAt_eq_of_covers 5 _ (by decide +kernel) fun t _ y => ?_
  have h : t.val < 32 := (idx t).2.2.2.2.2.2.2.2.2.2.2.2.2.2
  blk_simp
  rw [after0_5]
  idx_vars y
  refine (block5_at _ _ _ _ _ y0 y1).trans ?_
  refine Eq.trans ?_ (congrArg X (emb5 t y0 y1 h)).symm
  rw [hX]
  refine congrArg (· * Ideal.ofBits FTy.f32 0x3E000000#32) (rotBlk_eq (by decide) (fun n => ?_) (fun l => blk2 m c t y0 l h) (fun l => blk3 m c t y0 l h) y1)
  beta_reduce
  exact proj_congr (fun a => blk0 m c t y0 a h) (fun a => blk1 m c t a) (fun a => blk4_0 m c t a n)

/-- Window 5's array, as one function of the arguments. -/
def result5 (c : Dev nD) : FVec Ideal S16384x1024 .f32 := fun y => G5 (m ((c : Thread nD τ).loc main_arg0)) (m ((c : Thread nD τ).loc main_arg1)) (m ((c : Thread nD τ).loc main_arg2)) (y 0) (y 1)

/-- The array of window 6. -/
def G6 (x : FVec Ideal S2x8192x1024 .f32) (g : FVec Ideal S1024 .f32) (w : FVec Ideal S1024x2120 .f32) (R : Fin 16384) (n : Fin 256) : EReal :=
  rotCol (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n

/-- Window 6's array after the run, at every index. -/
theorem final6 (c : Dev nD) (X : FVec Ideal S16384x256 .f32)
    (hX : ∀ R n, X (ix2 R n) = G6 (m ((c : Thread nD τ).loc main_arg0)) (m ((c : Thread nD τ).loc main_arg1)) (m ((c : Thread nD τ).loc main_arg2)) R n) :
    (dats m 0 c).arrAt 6 cfg0.N = X := by
  refine (dats m 0 c).arrAt_eq_of_covers 6 _ (by decide +kernel) fun t _ y => ?_
  have h : t.val < 32 := (idx t).2.2.2.2.2.2.2.2.2.2.2.2.2.2
  blk_simp
  rw [after0_6]
  idx_vars y
  refine (block6_at _ _ _ _ _ y0 y1).trans ?_
  refine Eq.trans ?_ (congrArg X (emb6 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_1 m c t a n)

/-- Window 6's array, as one function of the arguments. -/
def result6 (c : Dev nD) : FVec Ideal S16384x256 .f32 := fun y => G6 (m ((c : Thread nD τ).loc main_arg0)) (m ((c : Thread nD τ).loc main_arg1)) (m ((c : Thread nD τ).loc main_arg2)) (y 0) (y 1)

/-- The array of window 7. -/
def G7 (x : FVec Ideal S2x8192x1024 .f32) (g : FVec Ideal S1024 .f32) (w : FVec Ideal S1024x2120 .f32) (R : Fin 16384) (n : Fin 256) : EReal :=
  rotCol (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n

/-- Window 7's array after the run, at every index. -/
theorem final7 (c : Dev nD) (X : FVec Ideal S256x16384 .f32)
    (hX : ∀ n R, X (ix2 n R) = G7 (m ((c : Thread nD τ).loc main_arg0)) (m ((c : Thread nD τ).loc main_arg1)) (m ((c : Thread nD τ).loc main_arg2)) R n) :
    (dats m 0 c).arrAt 7 cfg0.N = X := by
  refine (dats m 0 c).arrAt_eq_of_covers 7 _ (by decide +kernel) fun t _ y => ?_
  have h : t.val < 32 := (idx t).2.2.2.2.2.2.2.2.2.2.2.2.2.2
  blk_simp
  rw [after0_7]
  idx_vars y
  refine (block7_at _ _ _ _ _ y1 y0).trans ?_
  refine Eq.trans ?_ (congrArg X (emb7 t y0 y1 h)).symm
  rw [hX]
  refine rotBlk_eq (by decide) (fun n => ?_) (fun l => blk2 m c t y1 l h) (fun l => blk3 m c t y1 l h) y0
  beta_reduce
  exact proj_congr (fun a => blk0 m c t y1 a h) (fun a => blk1 m c t a) (fun a => blk4_1 m c t a n)

/-- Window 7's array, as one function of the arguments. -/
def result7 (c : Dev nD) : FVec Ideal S256x16384 .f32 := fun y => G7 (m ((c : Thread nD τ).loc main_arg0)) (m ((c : Thread nD τ).loc main_arg1)) (m ((c : Thread nD τ).loc main_arg2)) (y 1) (y 0)

/-- The array of window 8. -/
def G8 (x : FVec Ideal S2x8192x1024 .f32) (g : FVec Ideal S1024 .f32) (w : FVec Ideal S1024x2120 .f32) (R : Fin 16384) (n : Fin 256) : EReal :=
  proj (fun a => x (ix3 ⟨R.val / 8192, by omega⟩ ⟨R.val % 8192, by omega⟩ a)) (fun a => g (ix1 a)) (fun e => w (ix2 e ⟨1280 + n.val, by omega⟩))

/-- Window 8's array after the run, at every index. -/
theorem final8 (c : Dev nD) (X : FVec Ideal S16384x256 .f32)
    (hX : ∀ R n, X (ix2 R n) = G8 (m ((c : Thread nD τ).loc main_arg0)) (m ((c : Thread nD τ).loc main_arg1)) (m ((c : Thread nD τ).loc main_arg2)) R n) :
    (dats m 0 c).arrAt 8 cfg0.N = X := by
  refine (dats m 0 c).arrAt_eq_of_covers 8 _ (by decide +kernel) fun t _ y => ?_
  have h : t.val < 32 := (idx t).2.2.2.2.2.2.2.2.2.2.2.2.2.2
  blk_simp
  rw [after0_8]
  idx_vars y
  refine (block8_at _ _ _ _ _ y0 y1).trans ?_
  refine Eq.trans ?_ (congrArg X (emb8 t y0 y1 h)).symm
  rw [hX]
  exact proj_congr (fun a => blk0 m c t y0 a h) (fun a => blk1 m c t a) (fun a => blk4_2 m c t a y1)

/-- Window 8's array, as one function of the arguments. -/
def result8 (c : Dev nD) : FVec Ideal S16384x256 .f32 := fun y => G8 (m ((c : Thread nD τ).loc main_arg0)) (m ((c : Thread nD τ).loc main_arg1)) (m ((c : Thread nD τ).loc main_arg2)) (y 0) (y 1)

/-- The array of window 9. -/
def G9 (x : FVec Ideal S2x8192x1024 .f32) (g : FVec Ideal S1024 .f32) (w : FVec Ideal S1024x2120 .f32) (R : Fin 16384) (n : Fin 256) : EReal :=
  proj (fun a => x (ix3 ⟨R.val / 8192, by omega⟩ ⟨R.val % 8192, by omega⟩ a)) (fun a => g (ix1 a)) (fun e => w (ix2 e ⟨1280 + n.val, by omega⟩))

/-- Window 9's array after the run, at every index. -/
theorem final9 (c : Dev nD) (X : FVec Ideal S16384x256 .f32)
    (hX : ∀ R n, X (ix2 R n) = G9 (m ((c : Thread nD τ).loc main_arg0)) (m ((c : Thread nD τ).loc main_arg1)) (m ((c : Thread nD τ).loc main_arg2)) R n) :
    (dats m 0 c).arrAt 9 cfg0.N = X := by
  refine (dats m 0 c).arrAt_eq_of_covers 9 _ (by decide +kernel) fun t _ y => ?_
  have h : t.val < 32 := (idx t).2.2.2.2.2.2.2.2.2.2.2.2.2.2
  blk_simp
  rw [after0_9]
  idx_vars y
  refine (block9_at _ _ _ _ _ y0 y1).trans ?_
  refine Eq.trans ?_ (congrArg X (emb9 t y0 y1 h)).symm
  rw [hX]
  exact proj_congr (fun a => blk0 m c t y0 a h) (fun a => blk1 m c t a) (fun a => blk4_2 m c t a y1)

/-- Window 9's array, as one function of the arguments. -/
def result9 (c : Dev nD) : FVec Ideal S16384x256 .f32 := fun y => G9 (m ((c : Thread nD τ).loc main_arg0)) (m ((c : Thread nD τ).loc main_arg1)) (m ((c : Thread nD τ).loc main_arg2)) (y 0) (y 1)

/-- The array of window 10. -/
def G10 (x : FVec Ideal S2x8192x1024 .f32) (g : FVec Ideal S1024 .f32) (w : FVec Ideal S1024x2120 .f32) (R : Fin 16384) (n : Fin 512) : EReal :=
  rotCol (W := 512) (by decide) (fun n => proj (fun a => x (ix3 ⟨R.val / 8192, by omega⟩ ⟨R.val % 8192, by omega⟩ a)) (fun a => g (ix1 a)) (fun e => w (ix2 e ⟨1536 + n.val, by omega⟩))) (R.val % 8192) n

/-- Window 10's array after the run, at every index. -/
theorem final10 (c : Dev nD) (X : FVec Ideal S16384x512 .f32)
    (hX : ∀ R n, X (ix2 R n) = G10 (m ((c : Thread nD τ).loc main_arg0)) (m ((c : Thread nD τ).loc main_arg1)) (m ((c : Thread nD τ).loc main_arg2)) R n) :
    (dats m 0 c).arrAt 10 cfg0.N = X := by
  refine (dats m 0 c).arrAt_eq_of_covers 10 _ (by decide +kernel) fun t _ y => ?_
  have h : t.val < 32 := (idx t).2.2.2.2.2.2.2.2.2.2.2.2.2.2
  blk_simp
  rw [after0_10]
  idx_vars y
  refine (block10_at _ _ _ _ _ y0 y1).trans ?_
  refine Eq.trans ?_ (congrArg X (emb10 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_3 m c t a n)

/-- Window 10's array, as one function of the arguments. -/
def result10 (c : Dev nD) : FVec Ideal S16384x512 .f32 := fun y => G10 (m ((c : Thread nD τ).loc main_arg0)) (m ((c : Thread nD τ).loc main_arg1)) (m ((c : Thread nD τ).loc main_arg2)) (y 0) (y 1)

/-- The array of window 11. -/
def G11 (x : FVec Ideal S2x8192x1024 .f32) (g : FVec Ideal S1024 .f32) (w : FVec Ideal S1024x2120 .f32) (R : Fin 16384) (n : Fin 64) : EReal :=
  rotCol (W := 64) (by decide) (fun n => proj (fun a => x (ix3 ⟨R.val / 8192, by omega⟩ ⟨R.val % 8192, by omega⟩ a)) (fun a => g (ix1 a)) (fun e => w (ix2 e ⟨2048 + n.val, by omega⟩))) (R.val % 8192) n

/-- Window 11's array after the run, at every index. -/
theorem final11 (c : Dev nD) (X : FVec Ideal S16384x64 .f32)
    (hX : ∀ R n, X (ix2 R n) = G11 (m ((c : Thread nD τ).loc main_arg0)) (m ((c : Thread nD τ).loc main_arg1)) (m ((c : Thread nD τ).loc main_arg2)) R n) :
    (dats m 0 c).arrAt 11 cfg0.N = X := by
  refine (dats m 0 c).arrAt_eq_of_covers 11 _ (by decide +kernel) fun t _ y => ?_
  have h : t.val < 32 := (idx t).2.2.2.2.2.2.2.2.2.2.2.2.2.2
  blk_simp
  rw [after0_11]
  idx_vars y
  refine (block11_at _ _ _ _ _ y0 y1).trans ?_
  refine Eq.trans ?_ (congrArg X (emb11 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_4 m c t a n)

/-- Window 11's array, as one function of the arguments. -/
def result11 (c : Dev nD) : FVec Ideal S16384x64 .f32 := fun y => G11 (m ((c : Thread nD τ).loc main_arg0)) (m ((c : Thread nD τ).loc main_arg1)) (m ((c : Thread nD τ).loc main_arg2)) (y 0) (y 1)

/-- The array of window 12. -/
def G12 (x : FVec Ideal S2x8192x1024 .f32) (g : FVec Ideal S1024 .f32) (w : FVec Ideal S1024x2120 .f32) (R : Fin 16384) (n : Fin 64) : EReal :=
  rotCol (W := 64) (by decide) (fun n => proj (fun a => x (ix3 ⟨R.val / 8192, by omega⟩ ⟨R.val % 8192, by omega⟩ a)) (fun a => g (ix1 a)) (fun e => w (ix2 e ⟨2048 + n.val, by omega⟩))) (R.val % 8192) n

/-- Window 12's array after the run, at every index. -/
theorem final12 (c : Dev nD) (X : FVec Ideal S64x16384 .f32)
    (hX : ∀ n R, X (ix2 n R) = G12 (m ((c : Thread nD τ).loc main_arg0)) (m ((c : Thread nD τ).loc main_arg1)) (m ((c : Thread nD τ).loc main_arg2)) R n) :
    (dats m 0 c).arrAt 12 cfg0.N = X := by
  refine (dats m 0 c).arrAt_eq_of_covers 12 _ (by decide +kernel) fun t _ y => ?_
  have h : t.val < 32 := (idx t).2.2.2.2.2.2.2.2.2.2.2.2.2.2
  blk_simp
  rw [after0_12]
  idx_vars y
  refine (block12_at _ _ _ _ _ y1 y0).trans ?_
  refine Eq.trans ?_ (congrArg X (emb12 t y0 y1 h)).symm
  rw [hX]
  refine rotBlk_eq (by decide) (fun n => ?_) (fun l => blk2 m c t y1 l h) (fun l => blk3 m c t y1 l h) y0
  beta_reduce
  exact proj_congr (fun a => blk0 m c t y1 a h) (fun a => blk1 m c t a) (fun a => blk4_4 m c t a n)

/-- Window 12's array, as one function of the arguments. -/
def result12 (c : Dev nD) : FVec Ideal S64x16384 .f32 := fun y => G12 (m ((c : Thread nD τ).loc main_arg0)) (m ((c : Thread nD τ).loc main_arg1)) (m ((c : Thread nD τ).loc main_arg2)) (y 1) (y 0)

/-- The array of window 13. -/
def G13 (x : FVec Ideal S2x8192x1024 .f32) (g : FVec Ideal S1024 .f32) (w : FVec Ideal S1024x2120 .f32) (R : Fin 16384) (n : Fin 8) : EReal :=
  proj (fun a => x (ix3 ⟨R.val / 8192, by omega⟩ ⟨R.val % 8192, by omega⟩ a)) (fun a => g (ix1 a)) (fun e => w (ix2 e ⟨2112 + n.val, by omega⟩)) * Ideal.ofBits FTy.f32 0x3D3504F3#32

/-- Window 13's array after the run, at every index. -/
theorem final13 (c : Dev nD) (X : FVec Ideal S16384x8 .f32)
    (hX : ∀ R n, X (ix2 R n) = G13 (m ((c : Thread nD τ).loc main_arg0)) (m ((c : Thread nD τ).loc main_arg1)) (m ((c : Thread nD τ).loc main_arg2)) R n) :
    (dats m 0 c).arrAt 13 cfg0.N = X := by
  refine (dats m 0 c).arrAt_eq_of_covers 13 _ (by decide +kernel) fun t _ y => ?_
  have h : t.val < 32 := (idx t).2.2.2.2.2.2.2.2.2.2.2.2.2.2
  blk_simp
  rw [after0_13]
  idx_vars y
  refine (block13_at _ _ _ _ _ y0 y1).trans ?_
  refine Eq.trans ?_ (congrArg X (emb13 t y0 y1 h)).symm
  rw [hX]
  exact congrArg (· * Ideal.ofBits FTy.f32 0x3D3504F3#32) (proj_congr (fun a => blk0 m c t y0 a h) (fun a => blk1 m c t a) (fun a => blk4_5 m c t a y1))

/-- Window 13's array, as one function of the arguments. -/
def result13 (c : Dev nD) : FVec Ideal S16384x8 .f32 := fun y => G13 (m ((c : Thread nD τ).loc main_arg0)) (m ((c : Thread nD τ).loc main_arg1)) (m ((c : Thread nD τ).loc main_arg2)) (y 0) (y 1)

end Cert.Kernel8Ideal.Value
end
-- ==== Proof.DsaInRef.lean ====
module

public import proofs.«01_k».proof.Proof.Gen.Reference8Ideal.Run
public import proofs.«01_k».proof.Proof.Rope

@[expose] public section
set_option maxRecDepth 16384
noncomputable section
open Idealize.ShloMosaic Idealize.ShloMosaic.TcCoe Idealize.SL.Sem
open Idealize.ShloMosaic.Pipeline (Dat)

/-! What the reference of the sparse-attention input projection computes, index by index. -/
namespace Cert.Reference8Ideal.Value
open Cert.Reference8Ideal Cert.Reference8Ideal.Gen Cert.Rows

/-- The angles: position times frequency. -/
def angR : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Their cosines. -/
def cosR : FVec Ideal S8192x1x32 .f32 := broadcastInDim S8192x1x32 ![0, 2] bcast_S8192x32_S8192x1x32_0_2 (Host.cos angR)

/-- Their sines. -/
def sinR : FVec Ideal S8192x1x32 .f32 := broadcastInDim S8192x1x32 ![0, 2] bcast_S8192x32_S8192x1x32_0_2 (Host.sin angR)

/-- A cosine at an index. -/
theorem cosR_at (t : Fin 8192) (z : Fin 1) (q : Fin 32) : cosR (ix3 t z q) = Ideal.cos (ang t.val q.val) := by
  pointwise [cosR, angR]
  rfl

/-- A sine at an index. -/
theorem sinR_at (t : Fin 8192) (z : Fin 1) (q : Fin 32) : sinR (ix3 t z q) = Ideal.sin (ang t.val q.val) := by
  pointwise [sinR, angR]
  rfl

/-- The normalised rows times the whole weight. -/
def refP (x : FVec Ideal S2x8192x1024 .f32) (g : FVec Ideal S1024 .f32) (w : FVec Ideal S1024x2120 .f32) : FVec Ideal S2x8192x2120 .f32 :=
  Host.dotGeneral dot_S2x8192x1024_S1024x2120_S2x8192x2120_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

/-- The normalised rows' projection at an index. -/
theorem refP_at (x : FVec Ideal S2x8192x1024 .f32) (g : FVec Ideal S1024 .f32) (w : FVec Ideal S1024x2120 .f32) (b : Fin 2) (t : Fin 8192) (n : Fin 2120) :
    refP x g w (ix3 b t n) = proj (fun a => x (ix3 b t a)) (fun a => g (ix1 a)) (fun e => w (ix2 e n)) := by
  pointwise [refP]
  rfl

/-- The rotation of 16 heads, half against half. -/
def rotR16 (y : FVec Ideal S2x8192x16x64 .f32) : FVec Ideal S2x8192x16x64 .f32 :=
  concatenate S2x8192x16x64 3 [⟨S2x8192x16x32, subf (mulf (extractStridedSlice S2x8192x16x32 ![0, 0, 0, 0] y slices_S2x8192x16x64_S2x8192x16x32_0_0_0_0) (broadcastInDim S2x8192x16x32 ![0, 1, 2, 3] bcast_S1x8192x1x32_S2x8192x16x32_0_1_2_3 (broadcastInDim S1x8192x1x32 ![1, 2, 3] bcast_S8192x1x32_S1x8192x1x32_1_2_3 cosR))) (mulf (extractStridedSlice S2x8192x16x32 ![0, 0, 0, 32] y slices_S2x8192x16x64_S2x8192x16x32_0_0_0_32) (broadcastInDim S2x8192x16x32 ![0, 1, 2, 3] bcast_S1x8192x1x32_S2x8192x16x32_0_1_2_3 (broadcastInDim S1x8192x1x32 ![1, 2, 3] bcast_S8192x1x32_S1x8192x1x32_1_2_3 sinR)))⟩,
    ⟨S2x8192x16x32, addf (mulf (extractStridedSlice S2x8192x16x32 ![0, 0, 0, 32] y slices_S2x8192x16x64_S2x8192x16x32_0_0_0_32) (broadcastInDim S2x8192x16x32 ![0, 1, 2, 3] bcast_S1x8192x1x32_S2x8192x16x32_0_1_2_3 (broadcastInDim S1x8192x1x32 ![1, 2, 3] bcast_S8192x1x32_S1x8192x1x32_1_2_3 cosR))) (mulf (extractStridedSlice S2x8192x16x32 ![0, 0, 0, 0] y slices_S2x8192x16x64_S2x8192x16x32_0_0_0_0) (broadcastInDim S2x8192x16x32 ![0, 1, 2, 3] bcast_S1x8192x1x32_S2x8192x16x32_0_1_2_3 (broadcastInDim S1x8192x1x32 ![1, 2, 3] bcast_S8192x1x32_S1x8192x1x32_1_2_3 sinR)))⟩] concatenates_S2x8192x16x32_S2x8192x16x32_S2x8192x16x64_d3

/-- A lane of a rotated head. -/
theorem rotR16_at (y : FVec Ideal S2x8192x16x64 .f32) (b : Fin 2) (t : Fin 8192) (h : Fin 16) (d : Fin 64) :
    rotR16 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR16]
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The rotation of 4 heads, half against half. -/
def rotR4 (y : FVec Ideal S2x8192x4x64 .f32) : FVec Ideal S2x8192x4x64 .f32 :=
  concatenate S2x8192x4x64 3 [⟨S2x8192x4x32, subf (mulf (extractStridedSlice S2x8192x4x32 ![0, 0, 0, 0] y slices_S2x8192x4x64_S2x8192x4x32_0_0_0_0) (broadcastInDim S2x8192x4x32 ![0, 1, 2, 3] bcast_S1x8192x1x32_S2x8192x4x32_0_1_2_3 (broadcastInDim S1x8192x1x32 ![1, 2, 3] bcast_S8192x1x32_S1x8192x1x32_1_2_3 cosR))) (mulf (extractStridedSlice S2x8192x4x32 ![0, 0, 0, 32] y slices_S2x8192x4x64_S2x8192x4x32_0_0_0_32) (broadcastInDim S2x8192x4x32 ![0, 1, 2, 3] bcast_S1x8192x1x32_S2x8192x4x32_0_1_2_3 (broadcastInDim S1x8192x1x32 ![1, 2, 3] bcast_S8192x1x32_S1x8192x1x32_1_2_3 sinR)))⟩,
    ⟨S2x8192x4x32, addf (mulf (extractStridedSlice S2x8192x4x32 ![0, 0, 0, 32] y slices_S2x8192x4x64_S2x8192x4x32_0_0_0_32) (broadcastInDim S2x8192x4x32 ![0, 1, 2, 3] bcast_S1x8192x1x32_S2x8192x4x32_0_1_2_3 (broadcastInDim S1x8192x1x32 ![1, 2, 3] bcast_S8192x1x32_S1x8192x1x32_1_2_3 cosR))) (mulf (extractStridedSlice S2x8192x4x32 ![0, 0, 0, 0] y slices_S2x8192x4x64_S2x8192x4x32_0_0_0_0) (broadcastInDim S2x8192x4x32 ![0, 1, 2, 3] bcast_S1x8192x1x32_S2x8192x4x32_0_1_2_3 (broadcastInDim S1x8192x1x32 ![1, 2, 3] bcast_S8192x1x32_S1x8192x1x32_1_2_3 sinR)))⟩] concatenates_S2x8192x4x32_S2x8192x4x32_S2x8192x4x64_d3

/-- A lane of a rotated head. -/
theorem rotR4_at (y : FVec Ideal S2x8192x4x64 .f32) (b : Fin 2) (t : Fin 8192) (h : Fin 4) (d : Fin 64) :
    rotR4 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR4]
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The rotation of 8 heads, half against half. -/
def rotR8 (y : FVec Ideal S2x8192x8x64 .f32) : FVec Ideal S2x8192x8x64 .f32 :=
  concatenate S2x8192x8x64 3 [⟨S2x8192x8x32, subf (mulf (extractStridedSlice S2x8192x8x32 ![0, 0, 0, 0] y slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 cosR))) (mulf (extractStridedSlice S2x8192x8x32 ![0, 0, 0, 32] y slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 sinR)))⟩,
    ⟨S2x8192x8x32, addf (mulf (extractStridedSlice S2x8192x8x32 ![0, 0, 0, 32] y slices_S2x8192x8x64_S2x8192x8x32_0_0_0_32) (broadcastInDim S2x8192x8x32 ![0, 1, 2, 3] bcast_S1x8192x1x32_S2x8192x8x32_0_1_2_3 (broadcastInDim S1x8192x1x32 ![1, 2, 3] bcast_S8192x1x32_S1x8192x1x32_1_2_3 cosR))) (mulf (extractStridedSlice S2x8192x8x32 ![0, 0, 0, 0] y slices_S2x8192x8x64_S2x8192x8x32_0_0_0_0) (broadcastInDim S2x8192x8x32 ![0, 1, 2, 3] bcast_S1x8192x1x32_S2x8192x8x32_0_1_2_3 (broadcastInDim S1x8192x1x32 ![1, 2, 3] bcast_S8192x1x32_S1x8192x1x32_1_2_3 sinR)))⟩] concatenates_S2x8192x8x32_S2x8192x8x32_S2x8192x8x64_d3

/-- A lane of a rotated head. -/
theorem rotR8_at (y : FVec Ideal S2x8192x8x64 .f32) (b : Fin 2) (t : Fin 8192) (h : Fin 8) (d : Fin 64) :
    rotR8 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR8]
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The rotation of 1 head, half against half. -/
def rotR1 (y : FVec Ideal S2x8192x1x64 .f32) : FVec Ideal S2x8192x1x64 .f32 :=
  concatenate S2x8192x1x64 3 [⟨S2x8192x1x32, subf (mulf (extractStridedSlice S2x8192x1x32 ![0, 0, 0, 0] y slices_S2x8192x1x64_S2x8192x1x32_0_0_0_0) (broadcastInDim S2x8192x1x32 ![0, 1, 2, 3] bcast_S1x8192x1x32_S2x8192x1x32_0_1_2_3 (broadcastInDim S1x8192x1x32 ![1, 2, 3] bcast_S8192x1x32_S1x8192x1x32_1_2_3 cosR))) (mulf (extractStridedSlice S2x8192x1x32 ![0, 0, 0, 32] y slices_S2x8192x1x64_S2x8192x1x32_0_0_0_32) (broadcastInDim S2x8192x1x32 ![0, 1, 2, 3] bcast_S1x8192x1x32_S2x8192x1x32_0_1_2_3 (broadcastInDim S1x8192x1x32 ![1, 2, 3] bcast_S8192x1x32_S1x8192x1x32_1_2_3 sinR)))⟩,
    ⟨S2x8192x1x32, addf (mulf (extractStridedSlice S2x8192x1x32 ![0, 0, 0, 32] y slices_S2x8192x1x64_S2x8192x1x32_0_0_0_32) (broadcastInDim S2x8192x1x32 ![0, 1, 2, 3] bcast_S1x8192x1x32_S2x8192x1x32_0_1_2_3 (broadcastInDim S1x8192x1x32 ![1, 2, 3] bcast_S8192x1x32_S1x8192x1x32_1_2_3 cosR))) (mulf (extractStridedSlice S2x8192x1x32 ![0, 0, 0, 0] y slices_S2x8192x1x64_S2x8192x1x32_0_0_0_0) (broadcastInDim S2x8192x1x32 ![0, 1, 2, 3] bcast_S1x8192x1x32_S2x8192x1x32_0_1_2_3 (broadcastInDim S1x8192x1x32 ![1, 2, 3] bcast_S8192x1x32_S1x8192x1x32_1_2_3 sinR)))⟩] concatenates_S2x8192x1x32_S2x8192x1x32_S2x8192x1x64_d3

/-- A lane of a rotated head. -/
theorem rotR1_at (y : FVec Ideal S2x8192x1x64 .f32) (b : Fin 2) (t : Fin 8192) (h : Fin 1) (d : Fin 64) :
    rotR1 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR1]
  obtain rfl : h = 0 := Subsingleton.elim _ _
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The heads at column 0. -/
def seg0 (y : FVec Ideal S2x8192x2120 .f32) : FVec Ideal S2x8192x16x64 .f32 :=
  shapeCast S2x8192x16x64 (extractStridedSlice S2x8192x1024 ![0, 0, 0] y slices_S2x8192x2120_S2x8192x1024_0_0_0) shapeCasts_S2x8192x1024_S2x8192x16x64

/-- A lane of a head at column 0. -/
theorem seg0_at (y : FVec Ideal S2x8192x2120 .f32) (b : Fin 2) (t : Fin 8192) (h : Fin 16) (d : Fin 64) :
    seg0 y (ix4 b t h d) = y (ix3 b t ⟨0 + (h.val * 64 + d.val), by omega⟩) := by
  pointwise [seg0]
  all_goals first | done | exact congrArg (fun q => y (ix3 b t q)) (Fin.ext (by simp only; omega))

/-- The heads at column 1024. -/
def seg1024 (y : FVec Ideal S2x8192x2120 .f32) : FVec Ideal S2x8192x4x64 .f32 :=
  shapeCast S2x8192x4x64 (extractStridedSlice S2x8192x256 ![0, 0, 1024] y slices_S2x8192x2120_S2x8192x256_0_0_1024) shapeCasts_S2x8192x256_S2x8192x4x64

/-- A lane of a head at column 1024. -/
theorem seg1024_at (y : FVec Ideal S2x8192x2120 .f32) (b : Fin 2) (t : Fin 8192) (h : Fin 4) (d : Fin 64) :
    seg1024 y (ix4 b t h d) = y (ix3 b t ⟨1024 + (h.val * 64 + d.val), by omega⟩) := by
  pointwise [seg1024]
  all_goals first | done | exact congrArg (fun q => y (ix3 b t q)) (Fin.ext (by simp only; omega))

/-- The heads at column 1280. -/
def seg1280 (y : FVec Ideal S2x8192x2120 .f32) : FVec Ideal S2x8192x4x64 .f32 :=
  shapeCast S2x8192x4x64 (extractStridedSlice S2x8192x256 ![0, 0, 1280] y slices_S2x8192x2120_S2x8192x256_0_0_1280) shapeCasts_S2x8192x256_S2x8192x4x64

/-- A lane of a head at column 1280. -/
theorem seg1280_at (y : FVec Ideal S2x8192x2120 .f32) (b : Fin 2) (t : Fin 8192) (h : Fin 4) (d : Fin 64) :
    seg1280 y (ix4 b t h d) = y (ix3 b t ⟨1280 + (h.val * 64 + d.val), by omega⟩) := by
  pointwise [seg1280]
  all_goals first | done | exact congrArg (fun q => y (ix3 b t q)) (Fin.ext (by simp only; omega))

/-- The heads at column 1536. -/
def seg1536 (y : FVec Ideal S2x8192x2120 .f32) : FVec Ideal S2x8192x8x64 .f32 :=
  shapeCast S2x8192x8x64 (extractStridedSlice S2x8192x512 ![0, 0, 1536] y slices_S2x8192x2120_S2x8192x512_0_0_1536) shapeCasts_S2x8192x512_S2x8192x8x64

/-- A lane of a head at column 1536. -/
theorem seg1536_at (y : FVec Ideal S2x8192x2120 .f32) (b : Fin 2) (t : Fin 8192) (h : Fin 8) (d : Fin 64) :
    seg1536 y (ix4 b t h d) = y (ix3 b t ⟨1536 + (h.val * 64 + d.val), by omega⟩) := by
  pointwise [seg1536]
  all_goals first | done | exact congrArg (fun q => y (ix3 b t q)) (Fin.ext (by simp only; omega))

/-- The heads at column 2048. -/
def seg2048 (y : FVec Ideal S2x8192x2120 .f32) : FVec Ideal S2x8192x1x64 .f32 :=
  shapeCast S2x8192x1x64 (extractStridedSlice S2x8192x64 ![0, 0, 2048] y slices_S2x8192x2120_S2x8192x64_0_0_2048) shapeCasts_S2x8192x64_S2x8192x1x64

/-- A lane of a head at column 2048. -/
theorem seg2048_at (y : FVec Ideal S2x8192x2120 .f32) (b : Fin 2) (t : Fin 8192) (h : Fin 1) (d : Fin 64) :
    seg2048 y (ix4 b t h d) = y (ix3 b t ⟨2048 + (h.val * 64 + d.val), by omega⟩) := by
  pointwise [seg2048]
  all_goals first | done | exact congrArg (fun q => y (ix3 b t q)) (Fin.ext (by simp only; omega))

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164) = truncf .bf16 (shapeCast S16384x1024 (mulf (rotR16 (seg0 (refP (m ((c.tc : Thread nD τ).loc main_arg0)) (m ((c.tc : Thread nD τ).loc main_arg1)) (m ((c.tc : Thread nD τ).loc main_arg2))))) (broadcastInDim S2x8192x16x64 ![] bcast_S_S2x8192x16x64 (constant S_ .f32 0x3E000000#32))) shapeCasts_S2x8192x16x64_S16384x1024) bitsLt_bf16_f32
      ∧ r.2.mem ((c.tc : Thread nD τ).loc main_v165) = shapeCast S16384x256 (rotR4 (seg1024 (refP (m ((c.tc : Thread nD τ).loc main_arg0)) (m ((c.tc : Thread nD τ).loc main_arg1)) (m ((c.tc : Thread nD τ).loc main_arg2))))) shapeCasts_S2x8192x4x64_S16384x256
      ∧ r.2.mem ((c.tc : Thread nD τ).loc main_v168) = truncf .bf16 (transpose S256x16384 [1, 0] (shapeCast S16384x256 (rotR4 (seg1024 (refP (m ((c.tc : Thread nD τ).loc main_arg0)) (m ((c.tc : Thread nD τ).loc main_arg1)) (m ((c.tc : Thread nD τ).loc main_arg2))))) shapeCasts_S2x8192x4x64_S16384x256) transposes_S16384x256_S256x16384_1_0) bitsLt_bf16_f32
      ∧ r.2.mem ((c.tc : Thread nD τ).loc main_v169) = shapeCast S16384x256 (seg1280 (refP (m ((c.tc : Thread nD τ).loc main_arg0)) (m ((c.tc : Thread nD τ).loc main_arg1)) (m ((c.tc : Thread nD τ).loc main_arg2)))) shapeCasts_S2x8192x4x64_S16384x256
      ∧ r.2.mem ((c.tc : Thread nD τ).loc main_v171) = truncf .bf16 (shapeCast S16384x256 (seg1280 (refP (m ((c.tc : Thread nD τ).loc main_arg0)) (m ((c.tc : Thread nD τ).loc main_arg1)) (m ((c.tc : Thread nD τ).loc main_arg2)))) shapeCasts_S2x8192x4x64_S16384x256) bitsLt_bf16_f32
      ∧ r.2.mem ((c.tc : Thread nD τ).loc main_v173) = truncf .bf16 (shapeCast S16384x512 (rotR8 (seg1536 (refP (m ((c.tc : Thread nD τ).loc main_arg0)) (m ((c.tc : Thread nD τ).loc main_arg1)) (m ((c.tc : Thread nD τ).loc main_arg2))))) shapeCasts_S2x8192x8x64_S16384x512) bitsLt_bf16_f32
      ∧ r.2.mem ((c.tc : Thread nD τ).loc main_v174) = shapeCast S16384x64 (shapeCast S2x8192x64 (rotR1 (seg2048 (refP (m ((c.tc : Thread nD τ).loc main_arg0)) (m ((c.tc : Thread nD τ).loc main_arg1)) (m ((c.tc : Thread nD τ).loc main_arg2))))) shapeCasts_S2x8192x1x64_S2x8192x64) shapeCasts_S2x8192x64_S16384x64
      ∧ r.2.mem ((c.tc : Thread nD τ).loc main_v177) = truncf .bf16 (transpose S64x16384 [1, 0] (shapeCast S16384x64 (shapeCast S2x8192x64 (rotR1 (seg2048 (refP (m ((c.tc : Thread nD τ).loc main_arg0)) (m ((c.tc : Thread nD τ).loc main_arg1)) (m ((c.tc : Thread nD τ).loc main_arg2))))) shapeCasts_S2x8192x1x64_S2x8192x64) shapeCasts_S2x8192x64_S16384x64) transposes_S16384x64_S64x16384_1_0) bitsLt_bf16_f32
      ∧ r.2.mem ((c.tc : Thread nD τ).loc main_v178) = shapeCast S16384x8 (mulf (extractStridedSlice S2x8192x8 ![0, 0, 2112] (refP (m ((c.tc : Thread nD τ).loc main_arg0)) (m ((c.tc : Thread nD τ).loc main_arg1)) (m ((c.tc : Thread nD τ).loc main_arg2))) slices_S2x8192x2120_S2x8192x8_0_0_2112) (broadcastInDim S2x8192x8 ![] bcast_S_S2x8192x8 (constant S_ .f32 0x3D3504F3#32))) shapeCasts_S2x8192x8_S16384x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-- A column of the rotated heads at column 0 of the projection. -/
theorem head0_at (x : FVec Ideal S2x8192x1024 .f32) (g : FVec Ideal S1024 .f32) (w : FVec Ideal S1024x2120 .f32) (R : Fin 16384) (n : Fin 1024) :
    rotR16 (seg0 (refP x g w)) (ix4 ⟨R.val / 8192, by omega⟩ ⟨R.val % 8192, by omega⟩ ⟨n.val / 64, by omega⟩ ⟨n.val % 64, by omega⟩) = rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n := by
  refine (rotR16_at _ _ _ _ _).trans ?_
  refine Eq.trans ?_ (rotCol_head (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n)
  refine rotCol_congr (by decide) (fun d => ?_) _ _
  beta_reduce
  refine (seg0_at _ _ _ _ _).trans ((refP_at x g w _ _ _).trans (proj_congr (fun a => rfl) (fun a => rfl) (fun a => congrArg (fun q => w (ix2 a q)) (Fin.ext ?_))))
  simp only
  all_goals omega

/-- Result 0 of the reference at an index. -/
theorem res5_at (x : FVec Ideal S2x8192x1024 .f32) (g : FVec Ideal S1024 .f32) (w : FVec Ideal S1024x2120 .f32) (R : Fin 16384) (n : Fin 1024) :
    (truncf .bf16 (shapeCast S16384x1024 (mulf (rotR16 (seg0 (refP x g w))) (broadcastInDim S2x8192x16x64 ![] bcast_S_S2x8192x16x64 (constant S_ .f32 0x3E000000#32))) shapeCasts_S2x8192x16x64_S16384x1024) bitsLt_bf16_f32 : FVec Ideal S16384x1024 .f32) (ix2 R n) = rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n * Ideal.ofBits FTy.f32 0x3E000000#32 := by
  pointwise
  exact (congrArg (· * Ideal.ofBits FTy.f32 0x3E000000#32) (head0_at x g w R n)).trans (by simp only [Nat.zero_add])

/-- A column of the rotated heads at column 1024 of the projection. -/
theorem head1024_at (x : FVec Ideal S2x8192x1024 .f32) (g : FVec Ideal S1024 .f32) (w : FVec Ideal S1024x2120 .f32) (R : Fin 16384) (n : Fin 256) :
    rotR4 (seg1024 (refP x g w)) (ix4 ⟨R.val / 8192, by omega⟩ ⟨R.val % 8192, by omega⟩ ⟨n.val / 64, by omega⟩ ⟨n.val % 64, by omega⟩) = rotCol (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n := by
  refine (rotR4_at _ _ _ _ _).trans ?_
  refine Eq.trans ?_ (rotCol_head (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n)
  refine rotCol_congr (by decide) (fun d => ?_) _ _
  beta_reduce
  refine (seg1024_at _ _ _ _ _).trans ((refP_at x g w _ _ _).trans (proj_congr (fun a => rfl) (fun a => rfl) (fun a => congrArg (fun q => w (ix2 a q)) (Fin.ext ?_))))
  simp only
  all_goals omega

/-- Result 1 of the reference at an index. -/
theorem res6_at (x : FVec Ideal S2x8192x1024 .f32) (g : FVec Ideal S1024 .f32) (w : FVec Ideal S1024x2120 .f32) (R : Fin 16384) (n : Fin 256) :
    (shapeCast S16384x256 (rotR4 (seg1024 (refP x g w))) shapeCasts_S2x8192x4x64_S16384x256 : FVec Ideal S16384x256 .f32) (ix2 R n) = rotCol (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n := by
  pointwise
  exact head1024_at x g w R n

/-- Result 2 of the reference at an index. -/
theorem res7_at (x : FVec Ideal S2x8192x1024 .f32) (g : FVec Ideal S1024 .f32) (w : FVec Ideal S1024x2120 .f32) (n : Fin 256) (R : Fin 16384) :
    (truncf .bf16 (transpose S256x16384 [1, 0] (shapeCast S16384x256 (rotR4 (seg1024 (refP x g w))) shapeCasts_S2x8192x4x64_S16384x256) transposes_S16384x256_S256x16384_1_0) bitsLt_bf16_f32 : FVec Ideal S256x16384 .f32) (ix2 n R) = rotCol (W := 256) (by decide) (fun n => proj (fun a => x (ix3 ⟨R.val / 8192, by omega⟩ ⟨R.val % 8192, by omega⟩ a)) (fun a => g (ix1 a)) (fun e => w (ix2 e ⟨1024 + n.val, by omega⟩))) (R.val % 8192) n := by
  pointwise
  exact head1024_at x g w R n

/-- A column of the heads at column 1280 of the projection. -/
theorem lane1280_at (x : FVec Ideal S2x8192x1024 .f32) (g : FVec Ideal S1024 .f32) (w : FVec Ideal S1024x2120 .f32) (R : Fin 16384) (n : Fin 256) :
    seg1280 (refP x g w) (ix4 ⟨R.val / 8192, by omega⟩ ⟨R.val % 8192, by omega⟩ ⟨n.val / 64, by omega⟩ ⟨n.val % 64, by omega⟩) = proj (fun a => x (ix3 ⟨R.val / 8192, by omega⟩ ⟨R.val % 8192, by omega⟩ a)) (fun a => g (ix1 a)) (fun e => w (ix2 e ⟨1280 + n.val, by omega⟩)) := by
  refine (seg1280_at _ _ _ _ _).trans ((refP_at x g w _ _ _).trans (proj_congr (fun a => rfl) (fun a => rfl) (fun a => congrArg (fun q => w (ix2 a q)) (Fin.ext ?_))))
  simp only
  all_goals omega

/-- Result 3 of the reference at an index. -/
theorem res8_at (x : FVec Ideal S2x8192x1024 .f32) (g : FVec Ideal S1024 .f32) (w : FVec Ideal S1024x2120 .f32) (R : Fin 16384) (n : Fin 256) :
    (shapeCast S16384x256 (seg1280 (refP x g w)) shapeCasts_S2x8192x4x64_S16384x256 : FVec Ideal S16384x256 .f32) (ix2 R n) = proj (fun a => x (ix3 ⟨R.val / 8192, by omega⟩ ⟨R.val % 8192, by omega⟩ a)) (fun a => g (ix1 a)) (fun e => w (ix2 e ⟨1280 + n.val, by omega⟩)) := by
  pointwise
  exact lane1280_at x g w R n

/-- Result 4 of the reference at an index. -/
theorem res9_at (x : FVec Ideal S2x8192x1024 .f32) (g : FVec Ideal S1024 .f32) (w : FVec Ideal S1024x2120 .f32) (R : Fin 16384) (n : Fin 256) :
    (truncf .bf16 (shapeCast S16384x256 (seg1280 (refP x g w)) shapeCasts_S2x8192x4x64_S16384x256) bitsLt_bf16_f32 : FVec Ideal S16384x256 .f32) (ix2 R n) = proj (fun a => x (ix3 ⟨R.val / 8192, by omega⟩ ⟨R.val % 8192, by omega⟩ a)) (fun a => g (ix1 a)) (fun e => w (ix2 e ⟨1280 + n.val, by omega⟩)) := by
  pointwise
  exact lane1280_at x g w R n

/-- A column of the rotated heads at column 1536 of the projection. -/
theorem head1536_at (x : FVec Ideal S2x8192x1024 .f32) (g : FVec Ideal S1024 .f32) (w : FVec Ideal S1024x2120 .f32) (R : Fin 16384) (n : Fin 512) :
    rotR8 (seg1536 (refP x g w)) (ix4 ⟨R.val / 8192, by omega⟩ ⟨R.val % 8192, by omega⟩ ⟨n.val / 64, by omega⟩ ⟨n.val % 64, by omega⟩) = rotCol (W := 512) (by decide) (fun n => proj (fun a => x (ix3 ⟨R.val / 8192, by omega⟩ ⟨R.val % 8192, by omega⟩ a)) (fun a => g (ix1 a)) (fun e => w (ix2 e ⟨1536 + n.val, by omega⟩))) (R.val % 8192) n := by
  refine (rotR8_at _ _ _ _ _).trans ?_
  refine Eq.trans ?_ (rotCol_head (W := 512) (by decide) (fun n => proj (fun a => x (ix3 ⟨R.val / 8192, by omega⟩ ⟨R.val % 8192, by omega⟩ a)) (fun a => g (ix1 a)) (fun e => w (ix2 e ⟨1536 + n.val, by omega⟩))) (R.val % 8192) n)
  refine rotCol_congr (by decide) (fun d => ?_) _ _
  beta_reduce
  refine (seg1536_at _ _ _ _ _).trans ((refP_at x g w _ _ _).trans (proj_congr (fun a => rfl) (fun a => rfl) (fun a => congrArg (fun q => w (ix2 a q)) (Fin.ext ?_))))
  simp only
  all_goals omega

/-- Result 5 of the reference at an index. -/
theorem res10_at (x : FVec Ideal S2x8192x1024 .f32) (g : FVec Ideal S1024 .f32) (w : FVec Ideal S1024x2120 .f32) (R : Fin 16384) (n : Fin 512) :
    (truncf .bf16 (shapeCast S16384x512 (rotR8 (seg1536 (refP x g w))) shapeCasts_S2x8192x8x64_S16384x512) bitsLt_bf16_f32 : FVec Ideal S16384x512 .f32) (ix2 R n) = rotCol (W := 512) (by decide) (fun n => proj (fun a => x (ix3 ⟨R.val / 8192, by omega⟩ ⟨R.val % 8192, by omega⟩ a)) (fun a => g (ix1 a)) (fun e => w (ix2 e ⟨1536 + n.val, by omega⟩))) (R.val % 8192) n := by
  pointwise
  exact head1536_at x g w R n

/-- A column of the rotated heads at column 2048 of the projection. -/
theorem head2048_at (x : FVec Ideal S2x8192x1024 .f32) (g : FVec Ideal S1024 .f32) (w : FVec Ideal S1024x2120 .f32) (R : Fin 16384) (n : Fin 64) :
    rotR1 (seg2048 (refP x g w)) (ix4 ⟨R.val / 8192, by omega⟩ ⟨R.val % 8192, by omega⟩ 0 n) = rotCol (W := 64) (by decide) (fun n => proj (fun a => x (ix3 ⟨R.val / 8192, by omega⟩ ⟨R.val % 8192, by omega⟩ a)) (fun a => g (ix1 a)) (fun e => w (ix2 e ⟨2048 + n.val, by omega⟩))) (R.val % 8192) n := by
  refine (rotR1_at _ _ _ 0 _).trans ?_
  refine rotCol_congr (by decide) (fun d => ?_) _ _
  beta_reduce
  refine (seg2048_at _ _ _ _ _).trans ((refP_at x g w _ _ _).trans (proj_congr (fun a => rfl) (fun a => rfl) (fun a => congrArg (fun q => w (ix2 a q)) (Fin.ext ?_))))
  simp only
  all_goals omega

/-- Result 6 of the reference at an index. -/
theorem res11_at (x : FVec Ideal S2x8192x1024 .f32) (g : FVec Ideal S1024 .f32) (w : FVec Ideal S1024x2120 .f32) (R : Fin 16384) (n : Fin 64) :
    (shapeCast S16384x64 (shapeCast S2x8192x64 (rotR1 (seg2048 (refP x g w))) shapeCasts_S2x8192x1x64_S2x8192x64) shapeCasts_S2x8192x64_S16384x64 : FVec Ideal S16384x64 .f32) (ix2 R n) = rotCol (W := 64) (by decide) (fun n => proj (fun a => x (ix3 ⟨R.val / 8192, by omega⟩ ⟨R.val % 8192, by omega⟩ a)) (fun a => g (ix1 a)) (fun e => w (ix2 e ⟨2048 + n.val, by omega⟩))) (R.val % 8192) n := by
  pointwise
  exact head2048_at x g w R n

/-- Result 7 of the reference at an index. -/
theorem res12_at (x : FVec Ideal S2x8192x1024 .f32) (g : FVec Ideal S1024 .f32) (w : FVec Ideal S1024x2120 .f32) (n : Fin 64) (R : Fin 16384) :
    (truncf .bf16 (transpose S64x16384 [1, 0] (shapeCast S16384x64 (shapeCast S2x8192x64 (rotR1 (seg2048 (refP x g w))) shapeCasts_S2x8192x1x64_S2x8192x64) shapeCasts_S2x8192x64_S16384x64) transposes_S16384x64_S64x16384_1_0) bitsLt_bf16_f32 : FVec Ideal S64x16384 .f32) (ix2 n R) = rotCol (W := 64) (by decide) (fun n => proj (fun a => x (ix3 ⟨R.val / 8192, by omega⟩ ⟨R.val % 8192, by omega⟩ a)) (fun a => g (ix1 a)) (fun e => w (ix2 e ⟨2048 + n.val, by omega⟩))) (R.val % 8192) n := by
  pointwise
  exact head2048_at x g w R n

/-- Result 8 of the reference at an index. -/
theorem res13_at (x : FVec Ideal S2x8192x1024 .f32) (g : FVec Ideal S1024 .f32) (w : FVec Ideal S1024x2120 .f32) (R : Fin 16384) (n : Fin 8) :
    (shapeCast S16384x8 (mulf (extractStridedSlice S2x8192x8 ![0, 0, 2112] (refP x g w) slices_S2x8192x2120_S2x8192x8_0_0_2112) (broadcastInDim S2x8192x8 ![] bcast_S_S2x8192x8 (constant S_ .f32 0x3D3504F3#32))) shapeCasts_S2x8192x8_S16384x8 : FVec Ideal S16384x8 .f32) (ix2 R n) = proj (fun a => x (ix3 ⟨R.val / 8192, by omega⟩ ⟨R.val % 8192, by omega⟩ a)) (fun a => g (ix1 a)) (fun e => w (ix2 e ⟨2112 + n.val, by omega⟩)) * Ideal.ofBits FTy.f32 0x3D3504F3#32 := by
  pointwise
  exact congrArg (· * Ideal.ofBits FTy.f32 0x3D3504F3#32) ((refP_at x g w _ _ _).trans (proj_congr (fun a => rfl) (fun a => rfl) (fun a => congrArg (fun q => w (ix2 a q)) (Fin.ext (by simp)))))

end Cert.Reference8Ideal.Value
end
-- ==== Proof.DsaInClaim.lean ====
module

public import proofs.«01_k».proof.Defs
public import proofs.«01_k».proof.Proof.Gen.Kernel8.Frame
public import proofs.«01_k».proof.Proof.DsaInValue
public import proofs.«01_k».proof.Proof.DsaInRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! The claims about the sparse-attention input projection. -/
namespace Cert.Proof.DsaIn

/-- The kernel runs, leaves its arguments and ends with every counter at zero. -/
theorem frame : Cert.quiescent_Kernel8 := fun m ρ _ => Cert.Kernel8.Gen.frame m ρ

/-- The same of the kernel read over the extended reals. -/
theorem frame_ideal : Cert.quiescent_Kernel8Ideal := fun m ρ _ => Cert.Kernel8Ideal.Gen.frame m ρ

/-- The same of the reference. -/
theorem frame_ref : Cert.quiescent_Reference8Ideal := fun m ρ _ =>
  (θ_run Cert.Reference8Ideal.defs _ _).mono (fun r h => ⟨fun c => (h c).2.2.2.2.2.2.2.2.2, Idealize.ShloMosaic.sem_eq_zero_of_no_sems (by decide) r.2⟩)
    (Cert.Reference8Ideal.Value.run_steps m ρ)

/-- Over the extended reals each of the kernel's arrays is the reference's, entry by entry. -/
theorem algebraic : Cert.algebraic_Kernel8Ideal_Reference8Ideal := by
  intro m g m' g' _ hagree
  refine ⟨fun c => Cert.Kernel8Ideal.Value.result5 m c, fun c => Cert.Kernel8Ideal.Value.result6 m c, fun c => Cert.Kernel8Ideal.Value.result7 m c, fun c => Cert.Kernel8Ideal.Value.result8 m c, fun c => Cert.Kernel8Ideal.Value.result9 m c, fun c => Cert.Kernel8Ideal.Value.result10 m c, fun c => Cert.Kernel8Ideal.Value.result11 m c, fun c => Cert.Kernel8Ideal.Value.result12 m c, fun c => Cert.Kernel8Ideal.Value.result13 m c, ?_, ?_⟩
  · exact (θ_run Cert.Kernel8Ideal.defs _ _).mono (fun _ h c => ⟨(h c).1.trans (Cert.Kernel8Ideal.Value.final5 m c _ fun R n => rfl), (h c).2.1.trans (Cert.Kernel8Ideal.Value.final6 m c _ fun R n => rfl), (h c).2.2.1.trans (Cert.Kernel8Ideal.Value.final7 m c _ fun R n => rfl), (h c).2.2.2.1.trans (Cert.Kernel8Ideal.Value.final8 m c _ fun R n => rfl), (h c).2.2.2.2.1.trans (Cert.Kernel8Ideal.Value.final9 m c _ fun R n => rfl), (h c).2.2.2.2.2.1.trans (Cert.Kernel8Ideal.Value.final10 m c _ fun R n => rfl), (h c).2.2.2.2.2.2.1.trans (Cert.Kernel8Ideal.Value.final11 m c _ fun R n => rfl), (h c).2.2.2.2.2.2.2.1.trans (Cert.Kernel8Ideal.Value.final12 m c _ fun R n => rfl), (h c).2.2.2.2.2.2.2.2.1.trans (Cert.Kernel8Ideal.Value.final13 m c _ fun R n => rfl), (h c).2.2.2.2.2.2.2.2.2⟩) (Cert.Kernel8Ideal.Value.run_blocks m g)
  · refine (θ_run Cert.Reference8Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference8Ideal.Value.run_steps m' g')
    all_goals
      obtain ⟨h0, h1, h2⟩ := hagree c
      rw [h0, h1, h2]
      funext y
      idx_vars y
    · exact Cert.Reference8Ideal.Value.res5_at _ _ _ y0 y1
    · exact Cert.Reference8Ideal.Value.res6_at _ _ _ y0 y1
    · exact Cert.Reference8Ideal.Value.res7_at _ _ _ y0 y1
    · exact Cert.Reference8Ideal.Value.res8_at _ _ _ y0 y1
    · exact Cert.Reference8Ideal.Value.res9_at _ _ _ y0 y1
    · exact Cert.Reference8Ideal.Value.res10_at _ _ _ y0 y1
    · exact Cert.Reference8Ideal.Value.res11_at _ _ _ y0 y1
    · exact Cert.Reference8Ideal.Value.res12_at _ _ _ y0 y1
    · exact Cert.Reference8Ideal.Value.res13_at _ _ _ y0 y1
end Cert.Proof.DsaIn
end
-- ==== Proof.NsaInBlock.lean ====
module

public import proofs.«01_k».proof.Proof.Gen.Kernel9Ideal.Value
public import proofs.«01_k».proof.Proof.Rope

@[expose] public section
set_option maxRecDepth 16384
noncomputable section
open Idealize.ShloMosaic Idealize.ShloMosaic.TcCoe Idealize.SL.Sem
open Idealize.ShloMosaic.Pipeline (Dat)

/-! What one grid point of the three-branch attention's input projection computes from its blocks. -/
namespace Cert.Kernel9Ideal.Value
open Cert.Kernel9Ideal Cert.Kernel9Ideal.Gen Cert.Rows

/-- The normalised rows. -/
theorem normed_at (x : FVec Ideal S512x1024 .f32) (g : FVec Ideal S1x1024 .f32) (i : Fin 512) (e : Fin 1024) :
    k0_pay6 (F := Ideal) x g (ix2 i e) = normed (fun a => x (ix2 i a)) (fun a => g (ix2 0 a)) e := by
  pointwise [k0_pay6]
  rfl

/-- The table of the columns' own factors is read as it is. -/
theorem cos_at (u : FVec Ideal S512x128 .f32) (i : Fin 512) (l : Fin 128) : k0_pay7 (F := Ideal) u (ix2 i l) = u (ix2 i l) := by
  pointwise [k0_pay7]

/-- The table of the partners' factors is read as it is. -/
theorem sin_at (u : FVec Ideal S512x128 .f32) (i : Fin 512) (l : Fin 128) : k0_pay8 (F := Ideal) u (ix2 i l) = u (ix2 i l) := by
  pointwise [k0_pay8]

/-- The first stretch of the projected rows. -/
theorem first_at (x : FVec Ideal S512x1024 .f32) (g : FVec Ideal S1x1024 .f32) (w : FVec Ideal S1024x1024 .bf16) (i : Fin 512) (n : Fin 1024) :
    k0_pay9 (F := Ideal) x g w (ix2 i n) = proj (fun a => x (ix2 i a)) (fun a => g (ix2 0 a)) (fun e => w (ix2 e n)) := by
  pointwise [k0_pay9, k0_pay6]
  rfl

/-- A rotated stretch of the projected row. -/
theorem rotq_at (v18 v20 : FVec Ideal S512x128 .f32) (v23 : FVec Ideal S512x1024 .f32) (i : Fin 512) (n : Fin 1024) :
    k0_pay13 (F := Ideal) v18 v20 v23 k0_pay10 k0_pay11 k0_pay12 (ix2 i n) = rotBlk (W := 1024) (by decide) (fun n => v23 (ix2 i n)) (fun l => v18 (ix2 i l)) (fun l => v20 (ix2 i l)) n * Ideal.ofBits FTy.f32 0x3E000000#32 := by
  pointwise [k0_pay13, k0_pay10, k0_pay11, k0_pay12]
  rw [sel_lower _ (by omega)]
  exact congrArg (· * Ideal.ofBits FTy.f32 0x3E000000#32) (congrArg₂ (· + ·) (congrArg₂ (· * ·) rfl (tile8 (fun l => v18 (ix2 i l)) n.val (by omega)))
    (congrArg₂ (· * ·) (pick_part (by decide) (fun n : Fin 1024 => v23 (ix2 i n)) n.val (by omega) _ _ (by intro _; simp only; omega) (by intro _; simp only; omega))
      (tile8 (fun l => v20 (ix2 i l)) n.val (by omega))))

/-- A rotated stretch of the projected row. -/
theorem pay16_at (v16 : FVec Ideal S512x1024 .bf16) (v18 v20 : FVec Ideal S512x128 .f32) (w : FVec Ideal S1024x128 .bf16) (i : Fin 512) (n : Fin 128) :
    k0_pay16 (F := Ideal) v18 v20 (k0_pay14 v16 w) (k0_pay15 v16 w) (ix2 i n) = rotBlk (W := 128) (by decide) (fun n => ∑ e, v16 (ix2 i e) * w (ix2 e n)) (fun l => v18 (ix2 i l)) (fun l => v20 (ix2 i l)) n := by
  pointwise [k0_pay16, k0_pay14, k0_pay15]
  rw [sel_lower _ (by omega)]
  exact (congrArg₂ (· + ·) (congrArg₂ (· * ·) rfl (tile1 (fun l => v18 (ix2 i l)) n.val (by omega)))
    (congrArg₂ (· * ·) (pick_part (by decide) (fun n : Fin 128 => ∑ e, v16 (ix2 i e) * w (ix2 e n)) n.val (by omega) _ _ (by intro _; simp only; omega) (by intro _; simp only; omega))
      (tile1 (fun l => v20 (ix2 i l)) n.val (by omega))))

/-- A stretch of the projected row as it is. -/
theorem pay17_at (v16 : FVec Ideal S512x1024 .bf16) (w : FVec Ideal S1024x128 .bf16) (i : Fin 512) (n : Fin 128) :
    k0_pay17 (F := Ideal) v16 w (ix2 i n) = (∑ e, v16 (ix2 i e) * w (ix2 e n)) := by
  pointwise [k0_pay17]

/-- A rotated stretch of the projected row. -/
theorem pay18_at (v16 : FVec Ideal S512x1024 .bf16) (v18 v20 : FVec Ideal S512x128 .f32) (w : FVec Ideal S1024x128 .bf16) (i : Fin 512) (n : Fin 128) :
    k0_pay18 (F := Ideal) v16 v18 v20 w (ix2 i n) = rotBlk (W := 128) (by decide) (fun n => ∑ e, v16 (ix2 i e) * w (ix2 e n)) (fun l => v18 (ix2 i l)) (fun l => v20 (ix2 i l)) n := by
  pointwise [k0_pay18]
  rw [sel_lower _ (by omega)]
  exact (congrArg₂ (· + ·) (congrArg₂ (· * ·) rfl (tile1 (fun l => v18 (ix2 i l)) n.val (by omega)))
    (congrArg₂ (· * ·) (pick_part (by decide) (fun n : Fin 128 => ∑ e, v16 (ix2 i e) * w (ix2 e n)) n.val (by omega) _ _ (by intro _; simp only; omega) (by intro _; simp only; omega))
      (tile1 (fun l => v20 (ix2 i l)) n.val (by omega))))

/-- The stretch stored transposed. -/
theorem pay19_at (a : FVec Ideal S512x128 .f32) (i : Fin 512) (n : Fin 128) : k0_pay19 (F := Ideal) a (ix2 n i) = a (ix2 i n) := by
  pointwise [k0_pay19]

/-- A stretch of the projected row as it is. -/
theorem pay20_at (v16 : FVec Ideal S512x1024 .bf16) (w : FVec Ideal S1024x128 .bf16) (i : Fin 512) (n : Fin 128) :
    k0_pay20 (F := Ideal) v16 w (ix2 i n) = (∑ e, v16 (ix2 i e) * w (ix2 e n)) := by
  pointwise [k0_pay20]

/-- A stretch of the projected row as it is. -/
theorem pay21_at (v16 : FVec Ideal S512x1024 .bf16) (w : FVec Ideal S1024x128 .bf16) (i : Fin 512) (n : Fin 128) :
    k0_pay21 (F := Ideal) v16 w (ix2 i n) = (∑ e, v16 (ix2 i e) * w (ix2 e n)) := by
  pointwise [k0_pay21, k0_pay20]

/-- A rotated stretch of the projected row. -/
theorem pay1_at (v16 : FVec Ideal S512x1024 .bf16) (v18 v20 : FVec Ideal S512x128 .f32) (w : FVec Ideal S1024x128 .bf16) (i : Fin 512) (n : Fin 128) :
    k0_pay1 (F := Ideal) v20 (k0_pay23 v16 w) (k0_pay24 v16 v18 w) (ix2 i n) = rotBlk (W := 128) (by decide) (fun n => ∑ e, v16 (ix2 i e) * w (ix2 e n)) (fun l => v18 (ix2 i l)) (fun l => v20 (ix2 i l)) n := by
  pointwise [k0_pay1, k0_pay22, k0_pay23, k0_pay24]
  rw [sel_lower _ (by omega)]
  exact (congrArg₂ (· + ·) (congrArg₂ (· * ·) rfl (tile1 (fun l => v18 (ix2 i l)) n.val (by omega)))
    (congrArg₂ (· * ·) (pick_part (by decide) (fun n : Fin 128 => ∑ e, v16 (ix2 i e) * w (ix2 e n)) n.val (by omega) _ _ (by intro _; simp only; omega) (by intro _; simp only; omega))
      (tile1 (fun l => v20 (ix2 i l)) n.val (by omega))))

/-- The stretch stored transposed. -/
theorem pay2_at (v20 a b : FVec Ideal S512x128 .f32) (i : Fin 512) (n : Fin 128) : k0_pay2 (F := Ideal) v20 a b (ix2 n i) = k0_pay1 (F := Ideal) v20 a b (ix2 i n) := by
  pointwise [k0_pay2]

/-- A stretch of the projected row as it is. -/
theorem pay3_at (v16 : FVec Ideal S512x1024 .bf16) (w : FVec Ideal S1024x128 .bf16) (i : Fin 512) (n : Fin 128) :
    k0_pay3 (F := Ideal) v16 w (ix2 i n) = (∑ e, v16 (ix2 i e) * w (ix2 e n)) := by
  pointwise [k0_pay3]

/-- A stretch of the projected row as it is. -/
theorem pay4_at (v16 : FVec Ideal S512x1024 .bf16) (w : FVec Ideal S1024x128 .bf16) (i : Fin 512) (n : Fin 128) :
    k0_pay4 (F := Ideal) v16 w (ix2 i n) = (∑ e, v16 (ix2 i e) * w (ix2 e n)) := by
  pointwise [k0_pay4, k0_pay3]

/-- A stretch of the projected row as it is. -/
theorem pay5_at (v16 : FVec Ideal S512x1024 .bf16) (w : FVec Ideal S1024x128 .bf16) (i : Fin 512) (n : Fin 48) :
    k0_pay5 (F := Ideal) v16 w (ix2 i n) = (∑ e, v16 (ix2 i e) * w (ix2 e ⟨n.val, by omega⟩)) := by
  pointwise [k0_pay5]

/-- The block stored in window 5. -/
theorem block5_at (x : FVec Ideal S512x1024 .f32) (g : FVec Ideal S1x1024 .f32) (u v : FVec Ideal S512x128 .f32) (w : FVec Ideal S1024x1920 .bf16) (i : Fin 512) (n : Fin 1024) :
    out0_5 (F := Ideal) x g u v w (ix2 i n) = rotBlk (W := 1024) (by decide) (fun n => proj (fun a => x (ix2 i a)) (fun a => g (ix2 0 a)) (fun e => w (ix2 e ⟨0 + n.val, by omega⟩))) (fun l => u (ix2 i l)) (fun l => v (ix2 i l)) n * Ideal.ofBits FTy.f32 0x3E000000#32 := by
  unfold_out out0_5
  frame_out
  exact (rotq_at _ _ _ i n).trans (congrArg (· * Ideal.ofBits FTy.f32 0x3E000000#32) (rotBlk_congr (by decide) (fun n => (first_at _ _ _ i n).trans (proj_congr (fun a => rfl) (fun a => rfl) fun a => ld_at _ _ _ _ _ _ _ _ (Nat.zero_add _).symm rfl)) (fun l => cos_at _ i l) (fun l => sin_at _ i l) n))

/-- The block stored in window 6. -/
theorem block6_at (x : FVec Ideal S512x1024 .f32) (g : FVec Ideal S1x1024 .f32) (u v : FVec Ideal S512x128 .f32) (w : FVec Ideal S1024x1920 .bf16) (i : Fin 512) (n : Fin 128) :
    out0_6 (F := Ideal) x g u v w (ix2 i n) = rotBlk (W := 128) (by decide) (fun n => proj (fun a => x (ix2 i a)) (fun a => g (ix2 0 a)) (fun e => w (ix2 e ⟨1024 + n.val, by omega⟩))) (fun l => u (ix2 i l)) (fun l => v (ix2 i l)) n := by
  unfold_out out0_6
  frame_out
  refine (pay16_at _ _ _ _ i n).trans (rotBlk_congr (by decide) (fun n => ?_) (fun l => cos_at _ i l) (fun l => sin_at _ i l) n)
  beta_reduce
  exact sum_proj (fun e => normed_at _ _ i e) (fun e => ld_at _ _ _ _ _ _ _ _ (Nat.zero_add _).symm rfl)

/-- The block stored in window 7. -/
theorem block7_at (x : FVec Ideal S512x1024 .f32) (g : FVec Ideal S1x1024 .f32) (u v : FVec Ideal S512x128 .f32) (w : FVec Ideal S1024x1920 .bf16) (i : Fin 512) (n : Fin 128) :
    out0_7 (F := Ideal) x g u v w (ix2 i n) = proj (fun a => x (ix2 i a)) (fun a => g (ix2 0 a)) (fun e => w (ix2 e ⟨1152 + n.val, by omega⟩)) := by
  unfold_out out0_7
  frame_out
  exact (pay17_at _ _ i n).trans (sum_proj (fun e => normed_at _ _ i e) (fun e => ld_at _ _ _ _ _ _ _ _ (Nat.zero_add _).symm rfl))

/-- The block stored in window 8. -/
theorem block8_at (x : FVec Ideal S512x1024 .f32) (g : FVec Ideal S1x1024 .f32) (u v : FVec Ideal S512x128 .f32) (w : FVec Ideal S1024x1920 .bf16) (i : Fin 512) (n : Fin 128) :
    out0_8 (F := Ideal) x g u v w (ix2 i n) = rotBlk (W := 128) (by decide) (fun n => proj (fun a => x (ix2 i a)) (fun a => g (ix2 0 a)) (fun e => w (ix2 e ⟨1280 + n.val, by omega⟩))) (fun l => u (ix2 i l)) (fun l => v (ix2 i l)) n := by
  unfold_out out0_8
  frame_out
  refine (pay18_at _ _ _ _ i n).trans (rotBlk_congr (by decide) (fun n => ?_) (fun l => cos_at _ i l) (fun l => sin_at _ i l) n)
  beta_reduce
  exact sum_proj (fun e => normed_at _ _ i e) (fun e => ld_at _ _ _ _ _ _ _ _ (Nat.zero_add _).symm rfl)

/-- The block stored in window 9. -/
theorem block9_at (x : FVec Ideal S512x1024 .f32) (g : FVec Ideal S1x1024 .f32) (u v : FVec Ideal S512x128 .f32) (w : FVec Ideal S1024x1920 .bf16) (i : Fin 512) (n : Fin 128) :
    out0_9 (F := Ideal) x g u v w (ix2 n i) = rotBlk (W := 128) (by decide) (fun n => proj (fun a => x (ix2 i a)) (fun a => g (ix2 0 a)) (fun e => w (ix2 e ⟨1280 + n.val, by omega⟩))) (fun l => u (ix2 i l)) (fun l => v (ix2 i l)) n := by
  unfold_out out0_9
  frame_out
  refine (pay19_at _ i n).trans ((pay18_at _ _ _ _ i n).trans (rotBlk_congr (by decide) (fun n => ?_) (fun l => cos_at _ i l) (fun l => sin_at _ i l) n))
  beta_reduce
  exact sum_proj (fun e => normed_at _ _ i e) (fun e => ld_at _ _ _ _ _ _ _ _ (Nat.zero_add _).symm rfl)

/-- The block stored in window 10. -/
theorem block10_at (x : FVec Ideal S512x1024 .f32) (g : FVec Ideal S1x1024 .f32) (u v : FVec Ideal S512x128 .f32) (w : FVec Ideal S1024x1920 .bf16) (i : Fin 512) (n : Fin 128) :
    out0_10 (F := Ideal) x g u v w (ix2 i n) = proj (fun a => x (ix2 i a)) (fun a => g (ix2 0 a)) (fun e => w (ix2 e ⟨1408 + n.val, by omega⟩)) := by
  unfold_out out0_10
  frame_out
  exact (pay20_at _ _ i n).trans (sum_proj (fun e => normed_at _ _ i e) (fun e => ld_at _ _ _ _ _ _ _ _ (Nat.zero_add _).symm rfl))

/-- The block stored in window 11. -/
theorem block11_at (x : FVec Ideal S512x1024 .f32) (g : FVec Ideal S1x1024 .f32) (u v : FVec Ideal S512x128 .f32) (w : FVec Ideal S1024x1920 .bf16) (i : Fin 512) (n : Fin 128) :
    out0_11 (F := Ideal) x g u v w (ix2 i n) = proj (fun a => x (ix2 i a)) (fun a => g (ix2 0 a)) (fun e => w (ix2 e ⟨1408 + n.val, by omega⟩)) := by
  unfold_out out0_11
  frame_out
  exact (pay21_at _ _ i n).trans (sum_proj (fun e => normed_at _ _ i e) (fun e => ld_at _ _ _ _ _ _ _ _ (Nat.zero_add _).symm rfl))

/-- The block stored in window 12. -/
theorem block12_at (x : FVec Ideal S512x1024 .f32) (g : FVec Ideal S1x1024 .f32) (u v : FVec Ideal S512x128 .f32) (w : FVec Ideal S1024x1920 .bf16) (i : Fin 512) (n : Fin 128) :
    out0_12 (F := Ideal) x g u v w (ix2 i n) = rotBlk (W := 128) (by decide) (fun n => proj (fun a => x (ix2 i a)) (fun a => g (ix2 0 a)) (fun e => w (ix2 e ⟨1536 + n.val, by omega⟩))) (fun l => u (ix2 i l)) (fun l => v (ix2 i l)) n := by
  unfold_out out0_12
  frame_out
  refine (pay1_at _ _ _ _ i n).trans (rotBlk_congr (by decide) (fun n => ?_) (fun l => cos_at _ i l) (fun l => sin_at _ i l) n)
  beta_reduce
  exact sum_proj (fun e => normed_at _ _ i e) (fun e => ld_at _ _ _ _ _ _ _ _ (Nat.zero_add _).symm rfl)

/-- The block stored in window 13. -/
theorem block13_at (x : FVec Ideal S512x1024 .f32) (g : FVec Ideal S1x1024 .f32) (u v : FVec Ideal S512x128 .f32) (w : FVec Ideal S1024x1920 .bf16) (i : Fin 512) (n : Fin 128) :
    out0_13 (F := Ideal) x g u v w (ix2 n i) = rotBlk (W := 128) (by decide) (fun n => proj (fun a => x (ix2 i a)) (fun a => g (ix2 0 a)) (fun e => w (ix2 e ⟨1536 + n.val, by omega⟩))) (fun l => u (ix2 i l)) (fun l => v (ix2 i l)) n := by
  unfold_out out0_13
  frame_out
  refine (pay2_at _ _ _ i n).trans ((pay1_at _ _ _ _ i n).trans (rotBlk_congr (by decide) (fun n => ?_) (fun l => cos_at _ i l) (fun l => sin_at _ i l) n))
  beta_reduce
  exact sum_proj (fun e => normed_at _ _ i e) (fun e => ld_at _ _ _ _ _ _ _ _ (Nat.zero_add _).symm rfl)

/-- The block stored in window 14. -/
theorem block14_at (x : FVec Ideal S512x1024 .f32) (g : FVec Ideal S1x1024 .f32) (u v : FVec Ideal S512x128 .f32) (w : FVec Ideal S1024x1920 .bf16) (i : Fin 512) (n : Fin 128) :
    out0_14 (F := Ideal) x g u v w (ix2 i n) = proj (fun a => x (ix2 i a)) (fun a => g (ix2 0 a)) (fun e => w (ix2 e ⟨1664 + n.val, by omega⟩)) := by
  unfold_out out0_14
  frame_out
  exact (pay3_at _ _ i n).trans (sum_proj (fun e => normed_at _ _ i e) (fun e => ld_at _ _ _ _ _ _ _ _ (Nat.zero_add _).symm rfl))

/-- The block stored in window 15. -/
theorem block15_at (x : FVec Ideal S512x1024 .f32) (g : FVec Ideal S1x1024 .f32) (u v : FVec Ideal S512x128 .f32) (w : FVec Ideal S1024x1920 .bf16) (i : Fin 512) (n : Fin 128) :
    out0_15 (F := Ideal) x g u v w (ix2 i n) = proj (fun a => x (ix2 i a)) (fun a => g (ix2 0 a)) (fun e => w (ix2 e ⟨1664 + n.val, by omega⟩)) := by
  unfold_out out0_15
  frame_out
  exact (pay4_at _ _ i n).trans (sum_proj (fun e => normed_at _ _ i e) (fun e => ld_at _ _ _ _ _ _ _ _ (Nat.zero_add _).symm rfl))

/-- The block stored in window 16. -/
theorem block16_at (x : FVec Ideal S512x1024 .f32) (g : FVec Ideal S1x1024 .f32) (u v : FVec Ideal S512x128 .f32) (w : FVec Ideal S1024x1920 .bf16) (i : Fin 512) (n : Fin 48) :
    out0_16 (F := Ideal) x g u v w (ix2 i n) = proj (fun a => x (ix2 i a)) (fun a => g (ix2 0 a)) (fun e => w (ix2 e ⟨1792 + n.val, by omega⟩)) := by
  unfold_out out0_16
  frame_out
  exact (pay5_at _ _ i n).trans (sum_proj (fun e => normed_at _ _ i e) (fun e => ld_at _ _ _ _ _ _ _ _ (Nat.zero_add _).symm rfl))

end Cert.Kernel9Ideal.Value
end
-- ==== Proof.NsaInValue.lean ====
module

public import proofs.«01_k».proof.Proof.NsaInBlock

@[expose] public section
set_option maxRecDepth 16384
noncomputable section
open Idealize.ShloMosaic Idealize.ShloMosaic.TcCoe Idealize.SL.Sem
open Idealize.ShloMosaic.Pipeline (Dat)

/-! The arrays the three-branch attention's input projection leaves. -/
namespace Cert.Kernel9Ideal.Value
open Cert.Kernel9Ideal Cert.Kernel9Ideal.Gen Cert.Rows

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![t.val, 0] ∧ win0_8.index t = ![t.val, 0] ∧ win0_9.index t = ![0, t.val] ∧ win0_10.index t = ![t.val, 0] ∧ win0_11.index t = ![t.val, 0] ∧ win0_12.index t = ![t.val, 0] ∧ win0_13.index t = ![0, t.val] ∧ win0_14.index t = ![t.val, 0] ∧ win0_15.index t = ![t.val, 0] ∧ win0_16.index t = ![t.val, 0] ∧ t.val < 32 :=
  (by decide +kernel : ∀ t : Fin grid0.N, _)

/-- Where block 0 of point `t` lies in its array. -/
theorem emb0 (t : Fin cfg0.N) (i : Fin 512) (a : Fin 1024) (h : t.val < 32) :
    (((cfg0.win 0).blk t).view.emb (ix2 i a : S512x1024.Idx) : S16384x1024.Idx) = ix2 ⟨t.val * 512 + i.val, by omega⟩ a := by
  blk_ext [idx t]

/-- Where block 1 of point `t` lies in its array. -/
theorem emb1 (t : Fin cfg0.N) (a : Fin 1024) :
    (((cfg0.win 1).blk t).view.emb (ix2 0 a : S1x1024.Idx) : S1x1024.Idx) = ix2 0 a := by
  blk_ext [idx t]

/-- Where block 2 of point `t` lies in its array. -/
theorem emb2 (t : Fin cfg0.N) (i : Fin 512) (a : Fin 128) (h : t.val < 32) :
    (((cfg0.win 2).blk t).view.emb (ix2 i a : S512x128.Idx) : S16384x128.Idx) = ix2 ⟨t.val * 512 + i.val, by omega⟩ a := by
  blk_ext [idx t]

/-- Where block 3 of point `t` lies in its array. -/
theorem emb3 (t : Fin cfg0.N) (i : Fin 512) (a : Fin 128) (h : t.val < 32) :
    (((cfg0.win 3).blk t).view.emb (ix2 i a : S512x128.Idx) : S16384x128.Idx) = ix2 ⟨t.val * 512 + i.val, by omega⟩ a := by
  blk_ext [idx t]

/-- Where block 4 of point `t` lies in its array. -/
theorem emb4 (t : Fin cfg0.N) (i : Fin 1024) (a : Fin 1920) :
    (((cfg0.win 4).blk t).view.emb (ix2 i a : S1024x1920.Idx) : S1024x1920.Idx) = ix2 i a := by
  blk_ext [idx t]

/-- Where block 5 of point `t` lies in its array. -/
theorem emb5 (t : Fin cfg0.N) (i : Fin 512) (a : Fin 1024) (h : t.val < 32) :
    (((cfg0.win 5).blk t).view.emb (ix2 i a : S512x1024.Idx) : S16384x1024.Idx) = ix2 ⟨t.val * 512 + i.val, by omega⟩ a := by
  blk_ext [idx t]

/-- Where block 6 of point `t` lies in its array. -/
theorem emb6 (t : Fin cfg0.N) (i : Fin 512) (a : Fin 128) (h : t.val < 32) :
    (((cfg0.win 6).blk t).view.emb (ix2 i a : S512x128.Idx) : S16384x128.Idx) = ix2 ⟨t.val * 512 + i.val, by omega⟩ a := by
  blk_ext [idx t]

/-- Where block 7 of point `t` lies in its array. -/
theorem emb7 (t : Fin cfg0.N) (i : Fin 512) (a : Fin 128) (h : t.val < 32) :
    (((cfg0.win 7).blk t).view.emb (ix2 i a : S512x128.Idx) : S16384x128.Idx) = ix2 ⟨t.val * 512 + i.val, by omega⟩ a := by
  blk_ext [idx t]

/-- Where block 8 of point `t` lies in its array. -/
theorem emb8 (t : Fin cfg0.N) (i : Fin 512) (a : Fin 128) (h : t.val < 32) :
    (((cfg0.win 8).blk t).view.emb (ix2 i a : S512x128.Idx) : S16384x128.Idx) = ix2 ⟨t.val * 512 + i.val, by omega⟩ a := by
  blk_ext [idx t]

/-- Where block 9 of point `t` lies in its array. -/
theorem emb9 (t : Fin cfg0.N) (n : Fin 128) (i : Fin 512) (h : t.val < 32) :
    (((cfg0.win 9).blk t).view.emb (ix2 n i : S128x512.Idx) : S128x16384.Idx) = ix2 n ⟨t.val * 512 + i.val, by omega⟩ := by
  blk_ext [idx t]

/-- Where block 10 of point `t` lies in its array. -/
theorem emb10 (t : Fin cfg0.N) (i : Fin 512) (a : Fin 128) (h : t.val < 32) :
    (((cfg0.win 10).blk t).view.emb (ix2 i a : S512x128.Idx) : S16384x128.Idx) = ix2 ⟨t.val * 512 + i.val, by omega⟩ a := by
  blk_ext [idx t]

/-- Where block 11 of point `t` lies in its array. -/
theorem emb11 (t : Fin cfg0.N) (i : Fin 512) (a : Fin 128) (h : t.val < 32) :
    (((cfg0.win 11).blk t).view.emb (ix2 i a : S512x128.Idx) : S16384x128.Idx) = ix2 ⟨t.val * 512 + i.val, by omega⟩ a := by
  blk_ext [idx t]

/-- Where block 12 of point `t` lies in its array. -/
theorem emb12 (t : Fin cfg0.N) (i : Fin 512) (a : Fin 128) (h : t.val < 32) :
    (((cfg0.win 12).blk t).view.emb (ix2 i a : S512x128.Idx) : S16384x128.Idx) = ix2 ⟨t.val * 512 + i.val, by omega⟩ a := by
  blk_ext [idx t]

/-- Where block 13 of point `t` lies in its array. -/
theorem emb13 (t : Fin cfg0.N) (n : Fin 128) (i : Fin 512) (h : t.val < 32) :
    (((cfg0.win 13).blk t).view.emb (ix2 n i : S128x512.Idx) : S128x16384.Idx) = ix2 n ⟨t.val * 512 + i.val, by omega⟩ := by
  blk_ext [idx t]

/-- Where block 14 of point `t` lies in its array. -/
theorem emb14 (t : Fin cfg0.N) (i : Fin 512) (a : Fin 128) (h : t.val < 32) :
    (((cfg0.win 14).blk t).view.emb (ix2 i a : S512x128.Idx) : S16384x128.Idx) = ix2 ⟨t.val * 512 + i.val, by omega⟩ a := by
  blk_ext [idx t]

/-- Where block 15 of point `t` lies in its array. -/
theorem emb15 (t : Fin cfg0.N) (i : Fin 512) (a : Fin 128) (h : t.val < 32) :
    (((cfg0.win 15).blk t).view.emb (ix2 i a : S512x128.Idx) : S16384x128.Idx) = ix2 ⟨t.val * 512 + i.val, by omega⟩ a := by
  blk_ext [idx t]

/-- Where block 16 of point `t` lies in its array. -/
theorem emb16 (t : Fin cfg0.N) (i : Fin 512) (a : Fin 48) (h : t.val < 32) :
    (((cfg0.win 16).blk t).view.emb (ix2 i a : S512x48.Idx) : S16384x48.Idx) = ix2 ⟨t.val * 512 + i.val, by omega⟩ a := by
  blk_ext [idx t]

/-- The host's operations before the region, stretch after stretch. -/
theorem V_split (c : Dev nD) (b : Ref sig .tc) : V m c b = StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))))))))))) b := by
  show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ []))))))))))))))))) _ _ = _
  simp only [StableHlo.after_append, StableHlo.after_nil]

/-- The rows the region reads: argument 0 reshaped. -/
theorem V_v1 (c : Dev nD) : (show FVec Ideal S16384x1024 .f32 from V m c main_v1) = shapeCast _ (show FVec Ideal S2x8192x1024 .f32 from m ((c : Thread nD τ).loc main_arg0)) shapeCasts_S2x8192x1024_S16384x1024 := by
  show V m c main_v1 = _
  rw [V_split]
  after_results
  rfl

/-- Block 0 of point `t`, read in the argument array. -/
theorem blk0 (c : Dev nD) (t : Fin cfg0.N) (i : Fin 512) (a : Fin 1024) (h : t.val < 32) : (show FVec Ideal S512x1024 .f32 from iblk m c 0 t) (ix2 i a)
    = (show FVec Ideal S2x8192x1024 .f32 from m ((c : Thread nD τ).loc main_arg0)) (ix3 ⟨(t.val * 512 + i.val) / 8192, by omega⟩ ⟨(t.val * 512 + i.val) % 8192, by omega⟩ a) := by
  refine (congrArg (V m c main_v1) (emb0 t i a h)).trans ((congrFun (V_v1 m c) _).trans ?_)
  pointwise

/-- The gain the region reads: argument 1 reshaped. -/
theorem V_v53 (c : Dev nD) : (show FVec Ideal S1x1024 .f32 from V m c main_v53) = shapeCast _ (show FVec Ideal S1024 .f32 from m ((c : Thread nD τ).loc main_arg1)) shapeCasts_S1024_S1x1024 := by
  show V m c main_v53 = _
  rw [V_split]
  after_results
  rfl

/-- Block 1 of point `t`, read in the argument array. -/
theorem blk1 (c : Dev nD) (t : Fin cfg0.N) (a : Fin 1024) : (show FVec Ideal S1x1024 .f32 from iblk m c 1 t) (ix2 0 a)
    = (show FVec Ideal S1024 .f32 from m ((c : Thread nD τ).loc main_arg1)) (ix1 a) := by
  refine (congrArg (V m c main_v53) (emb1 t a)).trans ((congrFun (V_v53 m c) _).trans ?_)
  pointwise

/-- The weight's columns, segment after segment, each padded with zeros to whole lanes. -/
def pk (w : FVec Ideal S1024x1840 .f32) : FVec Ideal S1024x1920 .bf16 :=
  concatenate S1024x1920 1 [⟨S1024x1024, pad S1024x1024 ![0, 0] ![0, 0] ![0, 0] (truncf .bf16 (extractStridedSlice S1024x1024 ![0, 0] w slices_S1024x1840_S1024x1024_0_0) bitsLt_bf16_f32) (sitofp (F := Ideal) .bf16 (constantI S_ 32 0#32)) pads_S1024x1024_S1024x1024_000_000 h_S_⟩,
    ⟨S1024x128, pad S1024x128 ![0, 0] ![0, 0] ![0, 0] (truncf .bf16 (extractStridedSlice S1024x128 ![0, 1024] w slices_S1024x1840_S1024x128_0_1024) bitsLt_bf16_f32) (sitofp (F := Ideal) .bf16 (constantI S_ 32 0#32)) pads_S1024x128_S1024x128_000_000 h_S_⟩,
    ⟨S1024x128, pad S1024x128 ![0, 0] ![0, 0] ![0, 0] (truncf .bf16 (extractStridedSlice S1024x128 ![0, 1152] w slices_S1024x1840_S1024x128_0_1152) bitsLt_bf16_f32) (sitofp (F := Ideal) .bf16 (constantI S_ 32 0#32)) pads_S1024x128_S1024x128_000_000 h_S_⟩,
    ⟨S1024x128, pad S1024x128 ![0, 0] ![0, 0] ![0, 0] (truncf .bf16 (extractStridedSlice S1024x128 ![0, 1280] w slices_S1024x1840_S1024x128_0_1280) bitsLt_bf16_f32) (sitofp (F := Ideal) .bf16 (constantI S_ 32 0#32)) pads_S1024x128_S1024x128_000_000 h_S_⟩,
    ⟨S1024x128, pad S1024x128 ![0, 0] ![0, 0] ![0, 0] (truncf .bf16 (extractStridedSlice S1024x128 ![0, 1408] w slices_S1024x1840_S1024x128_0_1408) bitsLt_bf16_f32) (sitofp (F := Ideal) .bf16 (constantI S_ 32 0#32)) pads_S1024x128_S1024x128_000_000 h_S_⟩,
    ⟨S1024x128, pad S1024x128 ![0, 0] ![0, 0] ![0, 0] (truncf .bf16 (extractStridedSlice S1024x128 ![0, 1536] w slices_S1024x1840_S1024x128_0_1536) bitsLt_bf16_f32) (sitofp (F := Ideal) .bf16 (constantI S_ 32 0#32)) pads_S1024x128_S1024x128_000_000 h_S_⟩,
    ⟨S1024x128, pad S1024x128 ![0, 0] ![0, 0] ![0, 0] (truncf .bf16 (extractStridedSlice S1024x128 ![0, 1664] w slices_S1024x1840_S1024x128_0_1664) bitsLt_bf16_f32) (sitofp (F := Ideal) .bf16 (constantI S_ 32 0#32)) pads_S1024x128_S1024x128_000_000 h_S_⟩,
    ⟨S1024x128, pad S1024x128 ![0, 0] ![0, 80] ![0, 0] (truncf .bf16 (extractStridedSlice S1024x48 ![0, 1792] w slices_S1024x1840_S1024x48_0_1792) bitsLt_bf16_f32) (sitofp (F := Ideal) .bf16 (constantI S_ 32 0#32)) pads_S1024x48_S1024x128_000_0800 h_S_⟩] concatenates_S1024x1024_S1024x128_S1024x128_S1024x128_S1024x128_S1024x128_S1024x128_S1024x128_S1024x1920_d1

/-- Segment 0 of the packed weight. -/
theorem pk_0 (w : FVec Ideal S1024x1840 .f32) (i : Fin 1024) (n : Fin 1024) : pk w (ix2 i ⟨0 + n.val, by omega⟩) = w (ix2 i ⟨0 + n.val, by omega⟩) := by
  pointwise [pk]
  all_goals first | done | (
    try simp (disch := omega) only [dif_pos, dif_neg]
    exact congrArg (fun q => w (ix2 i q)) (Fin.ext (by simp; try omega)))

/-- Segment 1 of the packed weight. -/
theorem pk_1 (w : FVec Ideal S1024x1840 .f32) (i : Fin 1024) (n : Fin 128) : pk w (ix2 i ⟨1024 + n.val, by omega⟩) = w (ix2 i ⟨1024 + n.val, by omega⟩) := by
  pointwise [pk]
  all_goals first | done | (
    try simp (disch := omega) only [dif_pos, dif_neg]
    exact congrArg (fun q => w (ix2 i q)) (Fin.ext (by simp; try omega)))

/-- Segment 2 of the packed weight. -/
theorem pk_2 (w : FVec Ideal S1024x1840 .f32) (i : Fin 1024) (n : Fin 128) : pk w (ix2 i ⟨1152 + n.val, by omega⟩) = w (ix2 i ⟨1152 + n.val, by omega⟩) := by
  pointwise [pk]
  all_goals first | done | (
    try simp (disch := omega) only [dif_pos, dif_neg]
    exact congrArg (fun q => w (ix2 i q)) (Fin.ext (by simp; try omega)))

/-- Segment 3 of the packed weight. -/
theorem pk_3 (w : FVec Ideal S1024x1840 .f32) (i : Fin 1024) (n : Fin 128) : pk w (ix2 i ⟨1280 + n.val, by omega⟩) = w (ix2 i ⟨1280 + n.val, by omega⟩) := by
  pointwise [pk]
  all_goals first | done | (
    try simp (disch := omega) only [dif_pos, dif_neg]
    exact congrArg (fun q => w (ix2 i q)) (Fin.ext (by simp; try omega)))

/-- Segment 4 of the packed weight. -/
theorem pk_4 (w : FVec Ideal S1024x1840 .f32) (i : Fin 1024) (n : Fin 128) : pk w (ix2 i ⟨1408 + n.val, by omega⟩) = w (ix2 i ⟨1408 + n.val, by omega⟩) := by
  pointwise [pk]
  all_goals first | done | (
    try simp (disch := omega) only [dif_pos, dif_neg]
    exact congrArg (fun q => w (ix2 i q)) (Fin.ext (by simp; try omega)))

/-- Segment 5 of the packed weight. -/
theorem pk_5 (w : FVec Ideal S1024x1840 .f32) (i : Fin 1024) (n : Fin 128) : pk w (ix2 i ⟨1536 + n.val, by omega⟩) = w (ix2 i ⟨1536 + n.val, by omega⟩) := by
  pointwise [pk]
  all_goals first | done | (
    try simp (disch := omega) only [dif_pos, dif_neg]
    exact congrArg (fun q => w (ix2 i q)) (Fin.ext (by simp; try omega)))

/-- Segment 6 of the packed weight. -/
theorem pk_6 (w : FVec Ideal S1024x1840 .f32) (i : Fin 1024) (n : Fin 128) : pk w (ix2 i ⟨1664 + n.val, by omega⟩) = w (ix2 i ⟨1664 + n.val, by omega⟩) := by
  pointwise [pk]
  all_goals first | done | (
    try simp (disch := omega) only [dif_pos, dif_neg]
    exact congrArg (fun q => w (ix2 i q)) (Fin.ext (by simp; try omega)))

/-- Segment 7 of the packed weight. -/
theorem pk_7 (w : FVec Ideal S1024x1840 .f32) (i : Fin 1024) (n : Fin 48) : pk w (ix2 i ⟨1792 + n.val, by omega⟩) = w (ix2 i ⟨1792 + n.val, by omega⟩) := by
  pointwise [pk]
  all_goals first | done | (
    try simp (disch := omega) only [dif_pos, dif_neg]
    exact congrArg (fun q => w (ix2 i q)) (Fin.ext (by simp; try omega)))

/-- The packed weight the region reads. -/
theorem V_v29 (c : Dev nD) : (show FVec Ideal S1024x1920 .bf16 from V m c main_v29) = pk (m ((c : Thread nD τ).loc main_arg2)) := by
  show V m c main_v29 = _
  rw [V_split]
  after_results
  rfl

/-- The angles the host prepares: row position times frequency. -/
def angK : FVec Ideal S16384x32 .f32 :=
  mulf (broadcastInDim S16384x32 ![0, 1] bcast_S16384x1_S16384x32_0_1 (broadcastInDim S16384x1 ![0] bcast_S16384_S16384x1_0 (sitofp .f32 (shapeCast S16384 (broadcastInDim S2x8192 ![0, 1] bcast_S1x8192_S2x8192_0_1 (shapeCast S1x8192 (iotaInDim S8192 32 0) shapeCasts_S8192_S1x8192)) shapeCasts_S2x8192_S16384))))
    (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- An angle the host prepares. -/
theorem angK_at (R : Fin 16384) (k : Fin 32) : angK (ix2 R k) = ang (R.val % 8192) k.val := by
  pointwise [angK]
  rfl

/-- Two halves of a head side by side, repeated for two heads. -/
def twoHeads (a b : FVec Ideal S16384x32 .f32) : FVec Ideal S16384x128 .f32 :=
  shapeCast S16384x128 (broadcastInDim S1x16384x2x64 ![0, 1, 2, 3] bcast_S1x16384x1x64_S1x16384x2x64_0_1_2_3 (shapeCast S1x16384x1x64 (concatenate S16384x64 1 [⟨S16384x32, a⟩, ⟨S16384x32, b⟩] concatenates_S16384x32_S16384x32_S16384x64_d1) shapeCasts_S16384x64_S1x16384x1x64)) shapeCasts_S1x16384x2x64_S16384x128

/-- A lane of the two heads is a lane of one of the halves. -/
theorem twoHeads_at (a b : FVec Ideal S16384x32 .f32) (R : Fin 16384) (l : Fin 128) :
    twoHeads a b (ix2 R l) = if l.val % 64 < 32 then a (ix2 R ⟨l.val % 32, by omega⟩) else b (ix2 R ⟨l.val % 32, by omega⟩) := by
  pointwise [twoHeads]
  by_cases h : l.val % 64 < 32
  · rw [dif_pos h, if_pos h]
    exact congrArg (fun q => a (ix2 R q)) (Fin.ext (by simp only; omega))
  · rw [dif_neg h, if_neg h]
    exact congrArg (fun q => b (ix2 R q)) (Fin.ext (by simp only; omega))

/-- The table of the columns' own factors. -/
theorem V_v47 (c : Dev nD) : (show FVec Ideal S16384x128 .f32 from V m c main_v47) = twoHeads (Host.cos angK) (Host.cos angK) := by
  show V m c main_v47 = _
  rw [V_split]
  after_results
  rfl

/-- The table of the partners' factors. -/
theorem V_v52 (c : Dev nD) : (show FVec Ideal S16384x128 .f32 from V m c main_v52) = twoHeads (Host.negf (Host.sin angK)) (Host.sin angK) := by
  show V m c main_v52 = _
  rw [V_split]
  after_results
  rfl

/-- Block 2 of point `t` holds the cosines of the rows' positions. -/
theorem blk2 (c : Dev nD) (t : Fin cfg0.N) (i : Fin 512) (l : Fin 128) (h : t.val < 32) : (show FVec Ideal S512x128 .f32 from iblk m c 2 t) (ix2 i l)
    = cosT ((t.val * 512 + i.val) % 8192) l.val := by
  refine (congrArg (V m c main_v47) (emb2 t i l h)).trans ((congrFun (V_v47 m c) _).trans ((twoHeads_at _ _ _ l).trans ?_))
  rw [ite_self]
  exact congrArg Ideal.cos (angK_at _ _)

/-- Block 3 of point `t` holds the signed sines of the rows' positions. -/
theorem blk3 (c : Dev nD) (t : Fin cfg0.N) (i : Fin 512) (l : Fin 128) (h : t.val < 32) : (show FVec Ideal S512x128 .f32 from iblk m c 3 t) (ix2 i l)
    = sinT ((t.val * 512 + i.val) % 8192) l.val := by
  refine (congrArg (V m c main_v52) (emb3 t i l h)).trans ((congrFun (V_v52 m c) _).trans ((twoHeads_at _ _ _ l).trans ?_))
  exact if_congr Iff.rfl (congrArg (fun a => -Ideal.sin a) (angK_at _ _)) (congrArg Ideal.sin (angK_at _ _))

/-- Block 4 of point `t` at the columns of segment 0, read in the argument array. -/
theorem blk4_0 (c : Dev nD) (t : Fin cfg0.N) (i : Fin 1024) (n : Fin 1024) : (show FVec Ideal S1024x1920 .bf16 from iblk m c 4 t) (ix2 i ⟨0 + n.val, by omega⟩)
    = (show FVec Ideal S1024x1840 .f32 from m ((c : Thread nD τ).loc main_arg2)) (ix2 i ⟨0 + n.val, by omega⟩) := by
  refine (congrArg (V m c main_v29) (emb4 t i _)).trans ((congrFun (V_v29 m c) _).trans (pk_0 _ i n))

/-- Block 4 of point `t` at the columns of segment 1, read in the argument array. -/
theorem blk4_1 (c : Dev nD) (t : Fin cfg0.N) (i : Fin 1024) (n : Fin 128) : (show FVec Ideal S1024x1920 .bf16 from iblk m c 4 t) (ix2 i ⟨1024 + n.val, by omega⟩)
    = (show FVec Ideal S1024x1840 .f32 from m ((c : Thread nD τ).loc main_arg2)) (ix2 i ⟨1024 + n.val, by omega⟩) := by
  refine (congrArg (V m c main_v29) (emb4 t i _)).trans ((congrFun (V_v29 m c) _).trans (pk_1 _ i n))

/-- Block 4 of point `t` at the columns of segment 2, read in the argument array. -/
theorem blk4_2 (c : Dev nD) (t : Fin cfg0.N) (i : Fin 1024) (n : Fin 128) : (show FVec Ideal S1024x1920 .bf16 from iblk m c 4 t) (ix2 i ⟨1152 + n.val, by omega⟩)
    = (show FVec Ideal S1024x1840 .f32 from m ((c : Thread nD τ).loc main_arg2)) (ix2 i ⟨1152 + n.val, by omega⟩) := by
  refine (congrArg (V m c main_v29) (emb4 t i _)).trans ((congrFun (V_v29 m c) _).trans (pk_2 _ i n))

/-- Block 4 of point `t` at the columns of segment 3, read in the argument array. -/
theorem blk4_3 (c : Dev nD) (t : Fin cfg0.N) (i : Fin 1024) (n : Fin 128) : (show FVec Ideal S1024x1920 .bf16 from iblk m c 4 t) (ix2 i ⟨1280 + n.val, by omega⟩)
    = (show FVec Ideal S1024x1840 .f32 from m ((c : Thread nD τ).loc main_arg2)) (ix2 i ⟨1280 + n.val, by omega⟩) := by
  refine (congrArg (V m c main_v29) (emb4 t i _)).trans ((congrFun (V_v29 m c) _).trans (pk_3 _ i n))

/-- Block 4 of point `t` at the columns of segment 4, read in the argument array. -/
theorem blk4_4 (c : Dev nD) (t : Fin cfg0.N) (i : Fin 1024) (n : Fin 128) : (show FVec Ideal S1024x1920 .bf16 from iblk m c 4 t) (ix2 i ⟨1408 + n.val, by omega⟩)
    = (show FVec Ideal S1024x1840 .f32 from m ((c : Thread nD τ).loc main_arg2)) (ix2 i ⟨1408 + n.val, by omega⟩) := by
  refine (congrArg (V m c main_v29) (emb4 t i _)).trans ((congrFun (V_v29 m c) _).trans (pk_4 _ i n))

/-- Block 4 of point `t` at the columns of segment 5, read in the argument array. -/
theorem blk4_5 (c : Dev nD) (t : Fin cfg0.N) (i : Fin 1024) (n : Fin 128) : (show FVec Ideal S1024x1920 .bf16 from iblk m c 4 t) (ix2 i ⟨1536 + n.val, by omega⟩)
    = (show FVec Ideal S1024x1840 .f32 from m ((c : Thread nD τ).loc main_arg2)) (ix2 i ⟨1536 + n.val, by omega⟩) := by
  refine (congrArg (V m c main_v29) (emb4 t i _)).trans ((congrFun (V_v29 m c) _).trans (pk_5 _ i n))

/-- Block 4 of point `t` at the columns of segment 6, read in the argument array. -/
theorem blk4_6 (c : Dev nD) (t : Fin cfg0.N) (i : Fin 1024) (n : Fin 128) : (show FVec Ideal S1024x1920 .bf16 from iblk m c 4 t) (ix2 i ⟨1664 + n.val, by omega⟩)
    = (show FVec Ideal S1024x1840 .f32 from m ((c : Thread nD τ).loc main_arg2)) (ix2 i ⟨1664 + n.val, by omega⟩) := by
  refine (congrArg (V m c main_v29) (emb4 t i _)).trans ((congrFun (V_v29 m c) _).trans (pk_6 _ i n))

/-- Block 4 of point `t` at the columns of segment 7, read in the argument array. -/
theorem blk4_7 (c : Dev nD) (t : Fin cfg0.N) (i : Fin 1024) (n : Fin 48) : (show FVec Ideal S1024x1920 .bf16 from iblk m c 4 t) (ix2 i ⟨1792 + n.val, by omega⟩)
    = (show FVec Ideal S1024x1840 .f32 from m ((c : Thread nD τ).loc main_arg2)) (ix2 i ⟨1792 + n.val, by omega⟩) := by
  refine (congrArg (V m c main_v29) (emb4 t i _)).trans ((congrFun (V_v29 m c) _).trans (pk_7 _ i n))

/-- The array of window 5. -/
def G5 (x : FVec Ideal S2x8192x1024 .f32) (g : FVec Ideal S1024 .f32) (w : FVec Ideal S1024x1840 .f32) (R : Fin 16384) (n : Fin 1024) : EReal :=
  rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n * Ideal.ofBits FTy.f32 0x3E000000#32

/-- Window 5's array after the run, at every index. -/
theorem final5 (c : Dev nD) (X : FVec Ideal S16384x1024 .f32)
    (hX : ∀ R n, X (ix2 R n) = G5 (m ((c : Thread nD τ).loc main_arg0)) (m ((c : Thread nD τ).loc main_arg1)) (m ((c : Thread nD τ).loc main_arg2)) R n) :
    (dats m 0 c).arrAt 5 cfg0.N = X := by
  refine (dats m 0 c).arrAt_eq_of_covers 5 _ (by decide +kernel) fun t _ y => ?_
  have h : t.val < 32 := (idx t).2.2.2.2.2.2.2.2.2.2.2.2.2.2.2.2.2
  blk_simp
  rw [after0_5]
  idx_vars y
  refine (block5_at _ _ _ _ _ y0 y1).trans ?_
  refine Eq.trans ?_ (congrArg X (emb5 t y0 y1 h)).symm
  rw [hX]
  refine congrArg (· * Ideal.ofBits FTy.f32 0x3E000000#32) (rotBlk_eq (by decide) (fun n => ?_) (fun l => blk2 m c t y0 l h) (fun l => blk3 m c t y0 l h) y1)
  beta_reduce
  exact proj_congr (fun a => blk0 m c t y0 a h) (fun a => blk1 m c t a) (fun a => blk4_0 m c t a n)

/-- Window 5's array, as one function of the arguments. -/
def result5 (c : Dev nD) : FVec Ideal S16384x1024 .f32 := fun y => G5 (m ((c : Thread nD τ).loc main_arg0)) (m ((c : Thread nD τ).loc main_arg1)) (m ((c : Thread nD τ).loc main_arg2)) (y 0) (y 1)

/-- The array of window 6. -/
def G6 (x : FVec Ideal S2x8192x1024 .f32) (g : FVec Ideal S1024 .f32) (w : FVec Ideal S1024x1840 .f32) (R : Fin 16384) (n : Fin 128) : EReal :=
  rotCol (W := 128) (by decide) (fun n => proj (fun a => x (ix3 ⟨R.val / 8192, by omega⟩ ⟨R.val % 8192, by omega⟩ a)) (fun a => g (ix1 a)) (fun e => w (ix2 e ⟨1024 + n.val, by omega⟩))) (R.val % 8192) n

/-- Window 6's array after the run, at every index. -/
theorem final6 (c : Dev nD) (X : FVec Ideal S16384x128 .f32)
    (hX : ∀ R n, X (ix2 R n) = G6 (m ((c : Thread nD τ).loc main_arg0)) (m ((c : Thread nD τ).loc main_arg1)) (m ((c : Thread nD τ).loc main_arg2)) R n) :
    (dats m 0 c).arrAt 6 cfg0.N = X := by
  refine (dats m 0 c).arrAt_eq_of_covers 6 _ (by decide +kernel) fun t _ y => ?_
  have h : t.val < 32 := (idx t).2.2.2.2.2.2.2.2.2.2.2.2.2.2.2.2.2
  blk_simp
  rw [after0_6]
  idx_vars y
  refine (block6_at _ _ _ _ _ y0 y1).trans ?_
  refine Eq.trans ?_ (congrArg X (emb6 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_1 m c t a n)

/-- Window 6's array, as one function of the arguments. -/
def result6 (c : Dev nD) : FVec Ideal S16384x128 .f32 := fun y => G6 (m ((c : Thread nD τ).loc main_arg0)) (m ((c : Thread nD τ).loc main_arg1)) (m ((c : Thread nD τ).loc main_arg2)) (y 0) (y 1)

/-- The array of window 7. -/
def G7 (x : FVec Ideal S2x8192x1024 .f32) (g : FVec Ideal S1024 .f32) (w : FVec Ideal S1024x1840 .f32) (R : Fin 16384) (n : Fin 128) : EReal :=
  proj (fun a => x (ix3 ⟨R.val / 8192, by omega⟩ ⟨R.val % 8192, by omega⟩ a)) (fun a => g (ix1 a)) (fun e => w (ix2 e ⟨1152 + n.val, by omega⟩))

/-- Window 7's array after the run, at every index. -/
theorem final7 (c : Dev nD) (X : FVec Ideal S16384x128 .f32)
    (hX : ∀ R n, X (ix2 R n) = G7 (m ((c : Thread nD τ).loc main_arg0)) (m ((c : Thread nD τ).loc main_arg1)) (m ((c : Thread nD τ).loc main_arg2)) R n) :
    (dats m 0 c).arrAt 7 cfg0.N = X := by
  refine (dats m 0 c).arrAt_eq_of_covers 7 _ (by decide +kernel) fun t _ y => ?_
  have h : t.val < 32 := (idx t).2.2.2.2.2.2.2.2.2.2.2.2.2.2.2.2.2
  blk_simp
  rw [after0_7]
  idx_vars y
  refine (block7_at _ _ _ _ _ y0 y1).trans ?_
  refine Eq.trans ?_ (congrArg X (emb7 t y0 y1 h)).symm
  rw [hX]
  exact proj_congr (fun a => blk0 m c t y0 a h) (fun a => blk1 m c t a) (fun a => blk4_2 m c t a y1)

/-- Window 7's array, as one function of the arguments. -/
def result7 (c : Dev nD) : FVec Ideal S16384x128 .f32 := fun y => G7 (m ((c : Thread nD τ).loc main_arg0)) (m ((c : Thread nD τ).loc main_arg1)) (m ((c : Thread nD τ).loc main_arg2)) (y 0) (y 1)

/-- The array of window 8. -/
def G8 (x : FVec Ideal S2x8192x1024 .f32) (g : FVec Ideal S1024 .f32) (w : FVec Ideal S1024x1840 .f32) (R : Fin 16384) (n : Fin 128) : EReal :=
  rotCol (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n

/-- Window 8's array after the run, at every index. -/
theorem final8 (c : Dev nD) (X : FVec Ideal S16384x128 .f32)
    (hX : ∀ R n, X (ix2 R n) = G8 (m ((c : Thread nD τ).loc main_arg0)) (m ((c : Thread nD τ).loc main_arg1)) (m ((c : Thread nD τ).loc main_arg2)) R n) :
    (dats m 0 c).arrAt 8 cfg0.N = X := by
  refine (dats m 0 c).arrAt_eq_of_covers 8 _ (by decide +kernel) fun t _ y => ?_
  have h : t.val < 32 := (idx t).2.2.2.2.2.2.2.2.2.2.2.2.2.2.2.2.2
  blk_simp
  rw [after0_8]
  idx_vars y
  refine (block8_at _ _ _ _ _ y0 y1).trans ?_
  refine Eq.trans ?_ (congrArg X (emb8 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_3 m c t a n)

/-- Window 8's array, as one function of the arguments. -/
def result8 (c : Dev nD) : FVec Ideal S16384x128 .f32 := fun y => G8 (m ((c : Thread nD τ).loc main_arg0)) (m ((c : Thread nD τ).loc main_arg1)) (m ((c : Thread nD τ).loc main_arg2)) (y 0) (y 1)

/-- The array of window 9. -/
def G9 (x : FVec Ideal S2x8192x1024 .f32) (g : FVec Ideal S1024 .f32) (w : FVec Ideal S1024x1840 .f32) (R : Fin 16384) (n : Fin 128) : EReal :=
  rotCol (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n

/-- Window 9's array after the run, at every index. -/
theorem final9 (c : Dev nD) (X : FVec Ideal S128x16384 .f32)
    (hX : ∀ n R, X (ix2 n R) = G9 (m ((c : Thread nD τ).loc main_arg0)) (m ((c : Thread nD τ).loc main_arg1)) (m ((c : Thread nD τ).loc main_arg2)) R n) :
    (dats m 0 c).arrAt 9 cfg0.N = X := by
  refine (dats m 0 c).arrAt_eq_of_covers 9 _ (by decide +kernel) fun t _ y => ?_
  have h : t.val < 32 := (idx t).2.2.2.2.2.2.2.2.2.2.2.2.2.2.2.2.2
  blk_simp
  rw [after0_9]
  idx_vars y
  refine (block9_at _ _ _ _ _ y1 y0).trans ?_
  refine Eq.trans ?_ (congrArg X (emb9 t y0 y1 h)).symm
  rw [hX]
  refine rotBlk_eq (by decide) (fun n => ?_) (fun l => blk2 m c t y1 l h) (fun l => blk3 m c t y1 l h) y0
  beta_reduce
  exact proj_congr (fun a => blk0 m c t y1 a h) (fun a => blk1 m c t a) (fun a => blk4_3 m c t a n)

/-- Window 9's array, as one function of the arguments. -/
def result9 (c : Dev nD) : FVec Ideal S128x16384 .f32 := fun y => G9 (m ((c : Thread nD τ).loc main_arg0)) (m ((c : Thread nD τ).loc main_arg1)) (m ((c : Thread nD τ).loc main_arg2)) (y 1) (y 0)

/-- The array of window 10. -/
def G10 (x : FVec Ideal S2x8192x1024 .f32) (g : FVec Ideal S1024 .f32) (w : FVec Ideal S1024x1840 .f32) (R : Fin 16384) (n : Fin 128) : EReal :=
  proj (fun a => x (ix3 ⟨R.val / 8192, by omega⟩ ⟨R.val % 8192, by omega⟩ a)) (fun a => g (ix1 a)) (fun e => w (ix2 e ⟨1408 + n.val, by omega⟩))

/-- Window 10's array after the run, at every index. -/
theorem final10 (c : Dev nD) (X : FVec Ideal S16384x128 .f32)
    (hX : ∀ R n, X (ix2 R n) = G10 (m ((c : Thread nD τ).loc main_arg0)) (m ((c : Thread nD τ).loc main_arg1)) (m ((c : Thread nD τ).loc main_arg2)) R n) :
    (dats m 0 c).arrAt 10 cfg0.N = X := by
  refine (dats m 0 c).arrAt_eq_of_covers 10 _ (by decide +kernel) fun t _ y => ?_
  have h : t.val < 32 := (idx t).2.2.2.2.2.2.2.2.2.2.2.2.2.2.2.2.2
  blk_simp
  rw [after0_10]
  idx_vars y
  refine (block10_at _ _ _ _ _ y0 y1).trans ?_
  refine Eq.trans ?_ (congrArg X (emb10 t y0 y1 h)).symm
  rw [hX]
  exact proj_congr (fun a => blk0 m c t y0 a h) (fun a => blk1 m c t a) (fun a => blk4_4 m c t a y1)

/-- Window 10's array, as one function of the arguments. -/
def result10 (c : Dev nD) : FVec Ideal S16384x128 .f32 := fun y => G10 (m ((c : Thread nD τ).loc main_arg0)) (m ((c : Thread nD τ).loc main_arg1)) (m ((c : Thread nD τ).loc main_arg2)) (y 0) (y 1)

/-- The array of window 11. -/
def G11 (x : FVec Ideal S2x8192x1024 .f32) (g : FVec Ideal S1024 .f32) (w : FVec Ideal S1024x1840 .f32) (R : Fin 16384) (n : Fin 128) : EReal :=
  proj (fun a => x (ix3 ⟨R.val / 8192, by omega⟩ ⟨R.val % 8192, by omega⟩ a)) (fun a => g (ix1 a)) (fun e => w (ix2 e ⟨1408 + n.val, by omega⟩))

/-- Window 11's array after the run, at every index. -/
theorem final11 (c : Dev nD) (X : FVec Ideal S16384x128 .f32)
    (hX : ∀ R n, X (ix2 R n) = G11 (m ((c : Thread nD τ).loc main_arg0)) (m ((c : Thread nD τ).loc main_arg1)) (m ((c : Thread nD τ).loc main_arg2)) R n) :
    (dats m 0 c).arrAt 11 cfg0.N = X := by
  refine (dats m 0 c).arrAt_eq_of_covers 11 _ (by decide +kernel) fun t _ y => ?_
  have h : t.val < 32 := (idx t).2.2.2.2.2.2.2.2.2.2.2.2.2.2.2.2.2
  blk_simp
  rw [after0_11]
  idx_vars y
  refine (block11_at _ _ _ _ _ y0 y1).trans ?_
  refine Eq.trans ?_ (congrArg X (emb11 t y0 y1 h)).symm
  rw [hX]
  exact proj_congr (fun a => blk0 m c t y0 a h) (fun a => blk1 m c t a) (fun a => blk4_4 m c t a y1)

/-- Window 11's array, as one function of the arguments. -/
def result11 (c : Dev nD) : FVec Ideal S16384x128 .f32 := fun y => G11 (m ((c : Thread nD τ).loc main_arg0)) (m ((c : Thread nD τ).loc main_arg1)) (m ((c : Thread nD τ).loc main_arg2)) (y 0) (y 1)

/-- The array of window 12. -/
def G12 (x : FVec Ideal S2x8192x1024 .f32) (g : FVec Ideal S1024 .f32) (w : FVec Ideal S1024x1840 .f32) (R : Fin 16384) (n : Fin 128) : EReal :=
  rotCol (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n

/-- Window 12's array after the run, at every index. -/
theorem final12 (c : Dev nD) (X : FVec Ideal S16384x128 .f32)
    (hX : ∀ R n, X (ix2 R n) = G12 (m ((c : Thread nD τ).loc main_arg0)) (m ((c : Thread nD τ).loc main_arg1)) (m ((c : Thread nD τ).loc main_arg2)) R n) :
    (dats m 0 c).arrAt 12 cfg0.N = X := by
  refine (dats m 0 c).arrAt_eq_of_covers 12 _ (by decide +kernel) fun t _ y => ?_
  have h : t.val < 32 := (idx t).2.2.2.2.2.2.2.2.2.2.2.2.2.2.2.2.2
  blk_simp
  rw [after0_12]
  idx_vars y
  refine (block12_at _ _ _ _ _ y0 y1).trans ?_
  refine Eq.trans ?_ (congrArg X (emb12 t y0 y1 h)).symm
  rw [hX]
  refine rotBlk_eq (by decide) (fun n => ?_) (fun l => blk2 m c t y0 l h) (fun l => blk3 m c t y0 l h) y1
  beta_reduce
  exact proj_congr (fun a => blk0 m c t y0 a h) (fun a => blk1 m c t a) (fun a => blk4_5 m c t a n)

/-- Window 12's array, as one function of the arguments. -/
def result12 (c : Dev nD) : FVec Ideal S16384x128 .f32 := fun y => G12 (m ((c : Thread nD τ).loc main_arg0)) (m ((c : Thread nD τ).loc main_arg1)) (m ((c : Thread nD τ).loc main_arg2)) (y 0) (y 1)

/-- The array of window 13. -/
def G13 (x : FVec Ideal S2x8192x1024 .f32) (g : FVec Ideal S1024 .f32) (w : FVec Ideal S1024x1840 .f32) (R : Fin 16384) (n : Fin 128) : EReal :=
  rotCol (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n

/-- Window 13's array after the run, at every index. -/
theorem final13 (c : Dev nD) (X : FVec Ideal S128x16384 .f32)
    (hX : ∀ n R, X (ix2 n R) = G13 (m ((c : Thread nD τ).loc main_arg0)) (m ((c : Thread nD τ).loc main_arg1)) (m ((c : Thread nD τ).loc main_arg2)) R n) :
    (dats m 0 c).arrAt 13 cfg0.N = X := by
  refine (dats m 0 c).arrAt_eq_of_covers 13 _ (by decide +kernel) fun t _ y => ?_
  have h : t.val < 32 := (idx t).2.2.2.2.2.2.2.2.2.2.2.2.2.2.2.2.2
  blk_simp
  rw [after0_13]
  idx_vars y
  refine (block13_at _ _ _ _ _ y1 y0).trans ?_
  refine Eq.trans ?_ (congrArg X (emb13 t y0 y1 h)).symm
  rw [hX]
  refine rotBlk_eq (by decide) (fun n => ?_) (fun l => blk2 m c t y1 l h) (fun l => blk3 m c t y1 l h) y0
  beta_reduce
  exact proj_congr (fun a => blk0 m c t y1 a h) (fun a => blk1 m c t a) (fun a => blk4_5 m c t a n)

/-- Window 13's array, as one function of the arguments. -/
def result13 (c : Dev nD) : FVec Ideal S128x16384 .f32 := fun y => G13 (m ((c : Thread nD τ).loc main_arg0)) (m ((c : Thread nD τ).loc main_arg1)) (m ((c : Thread nD τ).loc main_arg2)) (y 1) (y 0)

/-- The array of window 14. -/
def G14 (x : FVec Ideal S2x8192x1024 .f32) (g : FVec Ideal S1024 .f32) (w : FVec Ideal S1024x1840 .f32) (R : Fin 16384) (n : Fin 128) : EReal :=
  proj (fun a => x (ix3 ⟨R.val / 8192, by omega⟩ ⟨R.val % 8192, by omega⟩ a)) (fun a => g (ix1 a)) (fun e => w (ix2 e ⟨1664 + n.val, by omega⟩))

/-- Window 14's array after the run, at every index. -/
theorem final14 (c : Dev nD) (X : FVec Ideal S16384x128 .f32)
    (hX : ∀ R n, X (ix2 R n) = G14 (m ((c : Thread nD τ).loc main_arg0)) (m ((c : Thread nD τ).loc main_arg1)) (m ((c : Thread nD τ).loc main_arg2)) R n) :
    (dats m 0 c).arrAt 14 cfg0.N = X := by
  refine (dats m 0 c).arrAt_eq_of_covers 14 _ (by decide +kernel) fun t _ y => ?_
  have h : t.val < 32 := (idx t).2.2.2.2.2.2.2.2.2.2.2.2.2.2.2.2.2
  blk_simp
  rw [after0_14]
  idx_vars y
  refine (block14_at _ _ _ _ _ y0 y1).trans ?_
  refine Eq.trans ?_ (congrArg X (emb14 t y0 y1 h)).symm
  rw [hX]
  exact proj_congr (fun a => blk0 m c t y0 a h) (fun a => blk1 m c t a) (fun a => blk4_6 m c t a y1)

/-- Window 14's array, as one function of the arguments. -/
def result14 (c : Dev nD) : FVec Ideal S16384x128 .f32 := fun y => G14 (m ((c : Thread nD τ).loc main_arg0)) (m ((c : Thread nD τ).loc main_arg1)) (m ((c : Thread nD τ).loc main_arg2)) (y 0) (y 1)

/-- The array of window 15. -/
def G15 (x : FVec Ideal S2x8192x1024 .f32) (g : FVec Ideal S1024 .f32) (w : FVec Ideal S1024x1840 .f32) (R : Fin 16384) (n : Fin 128) : EReal :=
  proj (fun a => x (ix3 ⟨R.val / 8192, by omega⟩ ⟨R.val % 8192, by omega⟩ a)) (fun a => g (ix1 a)) (fun e => w (ix2 e ⟨1664 + n.val, by omega⟩))

/-- Window 15's array after the run, at every index. -/
theorem final15 (c : Dev nD) (X : FVec Ideal S16384x128 .f32)
    (hX : ∀ R n, X (ix2 R n) = G15 (m ((c : Thread nD τ).loc main_arg0)) (m ((c : Thread nD τ).loc main_arg1)) (m ((c : Thread nD τ).loc main_arg2)) R n) :
    (dats m 0 c).arrAt 15 cfg0.N = X := by
  refine (dats m 0 c).arrAt_eq_of_covers 15 _ (by decide +kernel) fun t _ y => ?_
  have h : t.val < 32 := (idx t).2.2.2.2.2.2.2.2.2.2.2.2.2.2.2.2.2
  blk_simp
  rw [after0_15]
  idx_vars y
  refine (block15_at _ _ _ _ _ y0 y1).trans ?_
  refine Eq.trans ?_ (congrArg X (emb15 t y0 y1 h)).symm
  rw [hX]
  exact proj_congr (fun a => blk0 m c t y0 a h) (fun a => blk1 m c t a) (fun a => blk4_6 m c t a y1)

/-- Window 15's array, as one function of the arguments. -/
def result15 (c : Dev nD) : FVec Ideal S16384x128 .f32 := fun y => G15 (m ((c : Thread nD τ).loc main_arg0)) (m ((c : Thread nD τ).loc main_arg1)) (m ((c : Thread nD τ).loc main_arg2)) (y 0) (y 1)

/-- The array of window 16. -/
def G16 (x : FVec Ideal S2x8192x1024 .f32) (g : FVec Ideal S1024 .f32) (w : FVec Ideal S1024x1840 .f32) (R : Fin 16384) (n : Fin 48) : EReal :=
  proj (fun a => x (ix3 ⟨R.val / 8192, by omega⟩ ⟨R.val % 8192, by omega⟩ a)) (fun a => g (ix1 a)) (fun e => w (ix2 e ⟨1792 + n.val, by omega⟩))

/-- Window 16's array after the run, at every index. -/
theorem final16 (c : Dev nD) (X : FVec Ideal S16384x48 .f32)
    (hX : ∀ R n, X (ix2 R n) = G16 (m ((c : Thread nD τ).loc main_arg0)) (m ((c : Thread nD τ).loc main_arg1)) (m ((c : Thread nD τ).loc main_arg2)) R n) :
    (dats m 0 c).arrAt 16 cfg0.N = X := by
  refine (dats m 0 c).arrAt_eq_of_covers 16 _ (by decide +kernel) fun t _ y => ?_
  have h : t.val < 32 := (idx t).2.2.2.2.2.2.2.2.2.2.2.2.2.2.2.2.2
  blk_simp
  rw [after0_16]
  idx_vars y
  refine (block16_at _ _ _ _ _ y0 y1).trans ?_
  refine Eq.trans ?_ (congrArg X (emb16 t y0 y1 h)).symm
  rw [hX]
  exact proj_congr (fun a => blk0 m c t y0 a h) (fun a => blk1 m c t a) (fun a => blk4_7 m c t a y1)

/-- Window 16's array, as one function of the arguments. -/
def result16 (c : Dev nD) : FVec Ideal S16384x48 .f32 := fun y => G16 (m ((c : Thread nD τ).loc main_arg0)) (m ((c : Thread nD τ).loc main_arg1)) (m ((c : Thread nD τ).loc main_arg2)) (y 0) (y 1)

end Cert.Kernel9Ideal.Value
end
-- ==== Proof.NsaInRef.lean ====
module

public import proofs.«01_k».proof.Proof.Gen.Reference9Ideal.Run
public import proofs.«01_k».proof.Proof.Rope

@[expose] public section
set_option maxRecDepth 16384
noncomputable section
open Idealize.ShloMosaic Idealize.ShloMosaic.TcCoe Idealize.SL.Sem
open Idealize.ShloMosaic.Pipeline (Dat)

/-! What the reference of the three-branch attention's input projection computes, index by index. -/
namespace Cert.Reference9Ideal.Value
open Cert.Reference9Ideal Cert.Reference9Ideal.Gen Cert.Rows

/-- The angles: position times frequency. -/
def angR : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Their cosines. -/
def cosR : FVec Ideal S8192x1x32 .f32 := broadcastInDim S8192x1x32 ![0, 2] bcast_S8192x32_S8192x1x32_0_2 (Host.cos angR)

/-- Their sines. -/
def sinR : FVec Ideal S8192x1x32 .f32 := broadcastInDim S8192x1x32 ![0, 2] bcast_S8192x32_S8192x1x32_0_2 (Host.sin angR)

/-- A cosine at an index. -/
theorem cosR_at (t : Fin 8192) (z : Fin 1) (q : Fin 32) : cosR (ix3 t z q) = Ideal.cos (ang t.val q.val) := by
  pointwise [cosR, angR]
  rfl

/-- A sine at an index. -/
theorem sinR_at (t : Fin 8192) (z : Fin 1) (q : Fin 32) : sinR (ix3 t z q) = Ideal.sin (ang t.val q.val) := by
  pointwise [sinR, angR]
  rfl

/-- The normalised rows times the whole weight. -/
def refP (x : FVec Ideal S2x8192x1024 .f32) (g : FVec Ideal S1024 .f32) (w : FVec Ideal S1024x1840 .f32) : FVec Ideal S2x8192x1840 .f32 :=
  Host.dotGeneral dot_S2x8192x1024_S1024x1840_S2x8192x1840_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

/-- The normalised rows' projection at an index. -/
theorem refP_at (x : FVec Ideal S2x8192x1024 .f32) (g : FVec Ideal S1024 .f32) (w : FVec Ideal S1024x1840 .f32) (b : Fin 2) (t : Fin 8192) (n : Fin 1840) :
    refP x g w (ix3 b t n) = proj (fun a => x (ix3 b t a)) (fun a => g (ix1 a)) (fun e => w (ix2 e n)) := by
  pointwise [refP]
  rfl

/-- The rotation of 16 heads, half against half. -/
def rotR16 (y : FVec Ideal S2x8192x16x64 .f32) : FVec Ideal S2x8192x16x64 .f32 :=
  concatenate S2x8192x16x64 3 [⟨S2x8192x16x32, subf (mulf (extractStridedSlice S2x8192x16x32 ![0, 0, 0, 0] y slices_S2x8192x16x64_S2x8192x16x32_0_0_0_0) (broadcastInDim S2x8192x16x32 ![0, 1, 2, 3] bcast_S1x8192x1x32_S2x8192x16x32_0_1_2_3 (broadcastInDim S1x8192x1x32 ![1, 2, 3] bcast_S8192x1x32_S1x8192x1x32_1_2_3 cosR))) (mulf (extractStridedSlice S2x8192x16x32 ![0, 0, 0, 32] y slices_S2x8192x16x64_S2x8192x16x32_0_0_0_32) (broadcastInDim S2x8192x16x32 ![0, 1, 2, 3] bcast_S1x8192x1x32_S2x8192x16x32_0_1_2_3 (broadcastInDim S1x8192x1x32 ![1, 2, 3] bcast_S8192x1x32_S1x8192x1x32_1_2_3 sinR)))⟩,
    ⟨S2x8192x16x32, addf (mulf (extractStridedSlice S2x8192x16x32 ![0, 0, 0, 32] y slices_S2x8192x16x64_S2x8192x16x32_0_0_0_32) (broadcastInDim S2x8192x16x32 ![0, 1, 2, 3] bcast_S1x8192x1x32_S2x8192x16x32_0_1_2_3 (broadcastInDim S1x8192x1x32 ![1, 2, 3] bcast_S8192x1x32_S1x8192x1x32_1_2_3 cosR))) (mulf (extractStridedSlice S2x8192x16x32 ![0, 0, 0, 0] y slices_S2x8192x16x64_S2x8192x16x32_0_0_0_0) (broadcastInDim S2x8192x16x32 ![0, 1, 2, 3] bcast_S1x8192x1x32_S2x8192x16x32_0_1_2_3 (broadcastInDim S1x8192x1x32 ![1, 2, 3] bcast_S8192x1x32_S1x8192x1x32_1_2_3 sinR)))⟩] concatenates_S2x8192x16x32_S2x8192x16x32_S2x8192x16x64_d3

/-- A lane of a rotated head. -/
theorem rotR16_at (y : FVec Ideal S2x8192x16x64 .f32) (b : Fin 2) (t : Fin 8192) (h : Fin 16) (d : Fin 64) :
    rotR16 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR16]
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The rotation of 2 heads, half against half. -/
def rotR2 (y : FVec Ideal S2x8192x2x64 .f32) : FVec Ideal S2x8192x2x64 .f32 :=
  concatenate S2x8192x2x64 3 [⟨S2x8192x2x32, subf (mulf (extractStridedSlice S2x8192x2x32 ![0, 0, 0, 0] y slices_S2x8192x2x64_S2x8192x2x32_0_0_0_0) (broadcastInDim S2x8192x2x32 ![0, 1, 2, 3] bcast_S1x8192x1x32_S2x8192x2x32_0_1_2_3 (broadcastInDim S1x8192x1x32 ![1, 2, 3] bcast_S8192x1x32_S1x8192x1x32_1_2_3 cosR))) (mulf (extractStridedSlice S2x8192x2x32 ![0, 0, 0, 32] y slices_S2x8192x2x64_S2x8192x2x32_0_0_0_32) (broadcastInDim S2x8192x2x32 ![0, 1, 2, 3] bcast_S1x8192x1x32_S2x8192x2x32_0_1_2_3 (broadcastInDim S1x8192x1x32 ![1, 2, 3] bcast_S8192x1x32_S1x8192x1x32_1_2_3 sinR)))⟩,
    ⟨S2x8192x2x32, addf (mulf (extractStridedSlice S2x8192x2x32 ![0, 0, 0, 32] y slices_S2x8192x2x64_S2x8192x2x32_0_0_0_32) (broadcastInDim S2x8192x2x32 ![0, 1, 2, 3] bcast_S1x8192x1x32_S2x8192x2x32_0_1_2_3 (broadcastInDim S1x8192x1x32 ![1, 2, 3] bcast_S8192x1x32_S1x8192x1x32_1_2_3 cosR))) (mulf (extractStridedSlice S2x8192x2x32 ![0, 0, 0, 0] y slices_S2x8192x2x64_S2x8192x2x32_0_0_0_0) (broadcastInDim S2x8192x2x32 ![0, 1, 2, 3] bcast_S1x8192x1x32_S2x8192x2x32_0_1_2_3 (broadcastInDim S1x8192x1x32 ![1, 2, 3] bcast_S8192x1x32_S1x8192x1x32_1_2_3 sinR)))⟩] concatenates_S2x8192x2x32_S2x8192x2x32_S2x8192x2x64_d3

/-- A lane of a rotated head. -/
theorem rotR2_at (y : FVec Ideal S2x8192x2x64 .f32) (b : Fin 2) (t : Fin 8192) (h : Fin 2) (d : Fin 64) :
    rotR2 y (ix4 b t h d) = rotCol (W := 64) (by decide) (fun d => y (ix4 b t h d)) t.val d := by
  refine Eq.trans ?_ (halves (by decide) (fun d => y (ix4 b t h d)) t.val d d ⟨(d.val + 32) % 64, by omega⟩ d ⟨(d.val + 32) % 64, by omega⟩ (d.val % 32) (d.val % 32)
    (fun _ => rfl) (by intro _; simp only; omega) (fun _ => rfl) (by intro _; simp only; omega) (fun _ => rfl) (fun _ => rfl))
  pointwise [rotR2]
  by_cases hd : d.val < 32
  · have e1 : (⟨(d.val + 32) % 64, by omega⟩ : Fin 64) = ⟨32 + d.val, by omega⟩ := Fin.ext (by simp only; omega)
    have e2 : d.val % 32 = d.val := by omega
    rw [dif_pos hd, if_pos (show d.val % 64 < 32 by omega), e1, e2, cosR_at, sinR_at]
  · have e1 : (⟨(d.val + 32) % 64, by omega⟩ : Fin 64) = ⟨d.val - 32, by omega⟩ := Fin.ext (by simp only; omega)
    have e2 : d.val % 32 = d.val - 32 := by omega
    have e3 : (⟨32 + (d.val - 32), by omega⟩ : Fin 64) = d := Fin.ext (by simp only; omega)
    rw [dif_neg hd, if_neg (show ¬ d.val % 64 < 32 by omega), e1, e2, cosR_at, sinR_at, e3]

/-- The heads at column 0. -/
def seg0 (y : FVec Ideal S2x8192x1840 .f32) : FVec Ideal S2x8192x16x64 .f32 :=
  shapeCast S2x8192x16x64 (extractStridedSlice S2x8192x1024 ![0, 0, 0] y slices_S2x8192x1840_S2x8192x1024_0_0_0) shapeCasts_S2x8192x1024_S2x8192x16x64

/-- A lane of a head at column 0. -/
theorem seg0_at (y : FVec Ideal S2x8192x1840 .f32) (b : Fin 2) (t : Fin 8192) (h : Fin 16) (d : Fin 64) :
    seg0 y (ix4 b t h d) = y (ix3 b t ⟨0 + (h.val * 64 + d.val), by omega⟩) := by
  pointwise [seg0]
  all_goals first | done | exact congrArg (fun q => y (ix3 b t q)) (Fin.ext (by simp only; omega))

/-- The heads at column 1024. -/
def seg1024 (y : FVec Ideal S2x8192x1840 .f32) : FVec Ideal S2x8192x2x64 .f32 :=
  shapeCast S2x8192x2x64 (extractStridedSlice S2x8192x1x2x64 ![0, 0, 0, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_0_0_0) shapeCasts_S2x8192x1x2x64_S2x8192x2x64

/-- A lane of a head at column 1024. -/
theorem seg1024_at (y : FVec Ideal S2x8192x1840 .f32) (b : Fin 2) (t : Fin 8192) (h : Fin 2) (d : Fin 64) :
    seg1024 y (ix4 b t h d) = y (ix3 b t ⟨1024 + (h.val * 64 + d.val), by omega⟩) := by
  pointwise [seg1024]
  all_goals first | done | exact congrArg (fun q => y (ix3 b t q)) (Fin.ext (by simp only; omega))

/-- The heads at column 1152. -/
def seg1152 (y : FVec Ideal S2x8192x1840 .f32) : FVec Ideal S2x8192x2x64 .f32 :=
  shapeCast S2x8192x2x64 (extractStridedSlice S2x8192x1x2x64 ![0, 0, 1, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_1_0_0) shapeCasts_S2x8192x1x2x64_S2x8192x2x64

/-- A lane of a head at column 1152. -/
theorem seg1152_at (y : FVec Ideal S2x8192x1840 .f32) (b : Fin 2) (t : Fin 8192) (h : Fin 2) (d : Fin 64) :
    seg1152 y (ix4 b t h d) = y (ix3 b t ⟨1152 + (h.val * 64 + d.val), by omega⟩) := by
  pointwise [seg1152]
  all_goals first | done | exact congrArg (fun q => y (ix3 b t q)) (Fin.ext (by simp only; omega))

/-- The heads at column 1280. -/
def seg1280 (y : FVec Ideal S2x8192x1840 .f32) : FVec Ideal S2x8192x2x64 .f32 :=
  shapeCast S2x8192x2x64 (extractStridedSlice S2x8192x1x2x64 ![0, 0, 2, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_2_0_0) shapeCasts_S2x8192x1x2x64_S2x8192x2x64

/-- A lane of a head at column 1280. -/
theorem seg1280_at (y : FVec Ideal S2x8192x1840 .f32) (b : Fin 2) (t : Fin 8192) (h : Fin 2) (d : Fin 64) :
    seg1280 y (ix4 b t h d) = y (ix3 b t ⟨1280 + (h.val * 64 + d.val), by omega⟩) := by
  pointwise [seg1280]
  all_goals first | done | exact congrArg (fun q => y (ix3 b t q)) (Fin.ext (by simp only; omega))

/-- The heads at column 1408. -/
def seg1408 (y : FVec Ideal S2x8192x1840 .f32) : FVec Ideal S2x8192x2x64 .f32 :=
  shapeCast S2x8192x2x64 (extractStridedSlice S2x8192x1x2x64 ![0, 0, 3, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_3_0_0) shapeCasts_S2x8192x1x2x64_S2x8192x2x64

/-- A lane of a head at column 1408. -/
theorem seg1408_at (y : FVec Ideal S2x8192x1840 .f32) (b : Fin 2) (t : Fin 8192) (h : Fin 2) (d : Fin 64) :
    seg1408 y (ix4 b t h d) = y (ix3 b t ⟨1408 + (h.val * 64 + d.val), by omega⟩) := by
  pointwise [seg1408]
  all_goals first | done | exact congrArg (fun q => y (ix3 b t q)) (Fin.ext (by simp only; omega))

/-- The heads at column 1536. -/
def seg1536 (y : FVec Ideal S2x8192x1840 .f32) : FVec Ideal S2x8192x2x64 .f32 :=
  shapeCast S2x8192x2x64 (extractStridedSlice S2x8192x1x2x64 ![0, 0, 4, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_4_0_0) shapeCasts_S2x8192x1x2x64_S2x8192x2x64

/-- A lane of a head at column 1536. -/
theorem seg1536_at (y : FVec Ideal S2x8192x1840 .f32) (b : Fin 2) (t : Fin 8192) (h : Fin 2) (d : Fin 64) :
    seg1536 y (ix4 b t h d) = y (ix3 b t ⟨1536 + (h.val * 64 + d.val), by omega⟩) := by
  pointwise [seg1536]
  all_goals first | done | exact congrArg (fun q => y (ix3 b t q)) (Fin.ext (by simp only; omega))

/-- The heads at column 1664. -/
def seg1664 (y : FVec Ideal S2x8192x1840 .f32) : FVec Ideal S2x8192x2x64 .f32 :=
  shapeCast S2x8192x2x64 (extractStridedSlice S2x8192x1x2x64 ![0, 0, 5, 0, 0] (shapeCast S2x8192x6x2x64 (extractStridedSlice S2x8192x768 ![0, 0, 1024] y slices_S2x8192x1840_S2x8192x768_0_0_1024) shapeCasts_S2x8192x768_S2x8192x6x2x64) slices_S2x8192x6x2x64_S2x8192x1x2x64_0_0_5_0_0) shapeCasts_S2x8192x1x2x64_S2x8192x2x64

/-- A lane of a head at column 1664. -/
theorem seg1664_at (y : FVec Ideal S2x8192x1840 .f32) (b : Fin 2) (t : Fin 8192) (h : Fin 2) (d : Fin 64) :
    seg1664 y (ix4 b t h d) = y (ix3 b t ⟨1664 + (h.val * 64 + d.val), by omega⟩) := by
  pointwise [seg1664]
  all_goals first | done | exact congrArg (fun q => y (ix3 b t q)) (Fin.ext (by simp only; omega))

/-- The reference's run leaves these steps composed. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167) = truncf .bf16 (shapeCast S16384x1024 (mulf (rotR16 (seg0 (refP (m ((c.tc : Thread nD τ).loc main_arg0)) (m ((c.tc : Thread nD τ).loc main_arg1)) (m ((c.tc : Thread nD τ).loc main_arg2))))) (broadcastInDim S2x8192x16x64 ![] bcast_S_S2x8192x16x64 (constant S_ .f32 0x3E000000#32))) shapeCasts_S2x8192x16x64_S16384x1024) bitsLt_bf16_f32
      ∧ r.2.mem ((c.tc : Thread nD τ).loc main_v168) = shapeCast S16384x128 (rotR2 (seg1024 (refP (m ((c.tc : Thread nD τ).loc main_arg0)) (m ((c.tc : Thread nD τ).loc main_arg1)) (m ((c.tc : Thread nD τ).loc main_arg2))))) shapeCasts_S2x8192x2x64_S16384x128
      ∧ r.2.mem ((c.tc : Thread nD τ).loc main_v169) = shapeCast S16384x128 (seg1152 (refP (m ((c.tc : Thread nD τ).loc main_arg0)) (m ((c.tc : Thread nD τ).loc main_arg1)) (m ((c.tc : Thread nD τ).loc main_arg2)))) shapeCasts_S2x8192x2x64_S16384x128
      ∧ r.2.mem ((c.tc : Thread nD τ).loc main_v170) = shapeCast S16384x128 (rotR2 (seg1280 (refP (m ((c.tc : Thread nD τ).loc main_arg0)) (m ((c.tc : Thread nD τ).loc main_arg1)) (m ((c.tc : Thread nD τ).loc main_arg2))))) shapeCasts_S2x8192x2x64_S16384x128
      ∧ r.2.mem ((c.tc : Thread nD τ).loc main_v173) = truncf .bf16 (transpose S128x16384 [1, 0] (shapeCast S16384x128 (rotR2 (seg1280 (refP (m ((c.tc : Thread nD τ).loc main_arg0)) (m ((c.tc : Thread nD τ).loc main_arg1)) (m ((c.tc : Thread nD τ).loc main_arg2))))) shapeCasts_S2x8192x2x64_S16384x128) transposes_S16384x128_S128x16384_1_0) bitsLt_bf16_f32
      ∧ r.2.mem ((c.tc : Thread nD τ).loc main_v174) = shapeCast S16384x128 (seg1408 (refP (m ((c.tc : Thread nD τ).loc main_arg0)) (m ((c.tc : Thread nD τ).loc main_arg1)) (m ((c.tc : Thread nD τ).loc main_arg2)))) shapeCasts_S2x8192x2x64_S16384x128
      ∧ r.2.mem ((c.tc : Thread nD τ).loc main_v176) = truncf .bf16 (shapeCast S16384x128 (seg1408 (refP (m ((c.tc : Thread nD τ).loc main_arg0)) (m ((c.tc : Thread nD τ).loc main_arg1)) (m ((c.tc : Thread nD τ).loc main_arg2)))) shapeCasts_S2x8192x2x64_S16384x128) bitsLt_bf16_f32
      ∧ r.2.mem ((c.tc : Thread nD τ).loc main_v177) = shapeCast S16384x128 (rotR2 (seg1536 (refP (m ((c.tc : Thread nD τ).loc main_arg0)) (m ((c.tc : Thread nD τ).loc main_arg1)) (m ((c.tc : Thread nD τ).loc main_arg2))))) shapeCasts_S2x8192x2x64_S16384x128
      ∧ r.2.mem ((c.tc : Thread nD τ).loc main_v180) = truncf .bf16 (transpose S128x16384 [1, 0] (shapeCast S16384x128 (rotR2 (seg1536 (refP (m ((c.tc : Thread nD τ).loc main_arg0)) (m ((c.tc : Thread nD τ).loc main_arg1)) (m ((c.tc : Thread nD τ).loc main_arg2))))) shapeCasts_S2x8192x2x64_S16384x128) transposes_S16384x128_S128x16384_1_0) bitsLt_bf16_f32
      ∧ r.2.mem ((c.tc : Thread nD τ).loc main_v181) = shapeCast S16384x128 (seg1664 (refP (m ((c.tc : Thread nD τ).loc main_arg0)) (m ((c.tc : Thread nD τ).loc main_arg1)) (m ((c.tc : Thread nD τ).loc main_arg2)))) shapeCasts_S2x8192x2x64_S16384x128
      ∧ r.2.mem ((c.tc : Thread nD τ).loc main_v183) = truncf .bf16 (shapeCast S16384x128 (seg1664 (refP (m ((c.tc : Thread nD τ).loc main_arg0)) (m ((c.tc : Thread nD τ).loc main_arg1)) (m ((c.tc : Thread nD τ).loc main_arg2)))) shapeCasts_S2x8192x2x64_S16384x128) bitsLt_bf16_f32
      ∧ r.2.mem ((c.tc : Thread nD τ).loc main_v184) = shapeCast S16384x48 (extractStridedSlice S2x8192x48 ![0, 0, 1792] (refP (m ((c.tc : Thread nD τ).loc main_arg0)) (m ((c.tc : Thread nD τ).loc main_arg1)) (m ((c.tc : Thread nD τ).loc main_arg2))) slices_S2x8192x1840_S2x8192x48_0_0_1792) shapeCasts_S2x8192x48_S16384x48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-- A column of the rotated heads at column 0 of the projection. -/
theorem head0_at (x : FVec Ideal S2x8192x1024 .f32) (g : FVec Ideal S1024 .f32) (w : FVec Ideal S1024x1840 .f32) (R : Fin 16384) (n : Fin 1024) :
    rotR16 (seg0 (refP x g w)) (ix4 ⟨R.val / 8192, by omega⟩ ⟨R.val % 8192, by omega⟩ ⟨n.val / 64, by omega⟩ ⟨n.val % 64, by omega⟩) = rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n := by
  refine (rotR16_at _ _ _ _ _).trans ?_
  refine Eq.trans ?_ (rotCol_head (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n)
  refine rotCol_congr (by decide) (fun d => ?_) _ _
  beta_reduce
  refine (seg0_at _ _ _ _ _).trans ((refP_at x g w _ _ _).trans (proj_congr (fun a => rfl) (fun a => rfl) (fun a => congrArg (fun q => w (ix2 a q)) (Fin.ext ?_))))
  simp only
  all_goals omega

/-- Result 0 of the reference at an index. -/
theorem res5_at (x : FVec Ideal S2x8192x1024 .f32) (g : FVec Ideal S1024 .f32) (w : FVec Ideal S1024x1840 .f32) (R : Fin 16384) (n : Fin 1024) :
    (truncf .bf16 (shapeCast S16384x1024 (mulf (rotR16 (seg0 (refP x g w))) (broadcastInDim S2x8192x16x64 ![] bcast_S_S2x8192x16x64 (constant S_ .f32 0x3E000000#32))) shapeCasts_S2x8192x16x64_S16384x1024) bitsLt_bf16_f32 : FVec Ideal S16384x1024 .f32) (ix2 R n) = rotCol (W := 1024) (by decide) (fun n => proj (fun a => x (ix3 ⟨R.val / 8192, by omega⟩ ⟨R.val % 8192, by omega⟩ a)) (fun a => g (ix1 a)) (fun e => w (ix2 e ⟨0 + n.val, by omega⟩))) (R.val % 8192) n * Ideal.ofBits FTy.f32 0x3E000000#32 := by
  pointwise
  exact (congrArg (· * Ideal.ofBits FTy.f32 0x3E000000#32) (head0_at x g w R n)).trans (by simp only [Nat.zero_add])

/-- A column of the rotated heads at column 1024 of the projection. -/
theorem head1024_at (x : FVec Ideal S2x8192x1024 .f32) (g : FVec Ideal S1024 .f32) (w : FVec Ideal S1024x1840 .f32) (R : Fin 16384) (n : Fin 128) :
    rotR2 (seg1024 (refP x g w)) (ix4 ⟨R.val / 8192, by omega⟩ ⟨R.val % 8192, by omega⟩ ⟨n.val / 64, by omega⟩ ⟨n.val % 64, by omega⟩) = rotCol (W := 128) (by decide) (fun n => proj (fun a => x (ix3 ⟨R.val / 8192, by omega⟩ ⟨R.val % 8192, by omega⟩ a)) (fun a => g (ix1 a)) (fun e => w (ix2 e ⟨1024 + n.val, by omega⟩))) (R.val % 8192) n := by
  refine (rotR2_at _ _ _ _ _).trans ?_
  refine Eq.trans ?_ (rotCol_head (W := 128) (by decide) (fun n => proj (fun a => x (ix3 ⟨R.val / 8192, by omega⟩ ⟨R.val % 8192, by omega⟩ a)) (fun a => g (ix1 a)) (fun e => w (ix2 e ⟨1024 + n.val, by omega⟩))) (R.val % 8192) n)
  refine rotCol_congr (by decide) (fun d => ?_) _ _
  beta_reduce
  refine (seg1024_at _ _ _ _ _).trans ((refP_at x g w _ _ _).trans (proj_congr (fun a => rfl) (fun a => rfl) (fun a => congrArg (fun q => w (ix2 a q)) (Fin.ext ?_))))
  simp only
  all_goals omega

/-- Result 1 of the reference at an index. -/
theorem res6_at (x : FVec Ideal S2x8192x1024 .f32) (g : FVec Ideal S1024 .f32) (w : FVec Ideal S1024x1840 .f32) (R : Fin 16384) (n : Fin 128) :
    (shapeCast S16384x128 (rotR2 (seg1024 (refP x g w))) shapeCasts_S2x8192x2x64_S16384x128 : FVec Ideal S16384x128 .f32) (ix2 R n) = rotCol (W := 128) (by decide) (fun n => proj (fun a => x (ix3 ⟨R.val / 8192, by omega⟩ ⟨R.val % 8192, by omega⟩ a)) (fun a => g (ix1 a)) (fun e => w (ix2 e ⟨1024 + n.val, by omega⟩))) (R.val % 8192) n := by
  pointwise
  exact head1024_at x g w R n

/-- A column of the heads at column 1152 of the projection. -/
theorem lane1152_at (x : FVec Ideal S2x8192x1024 .f32) (g : FVec Ideal S1024 .f32) (w : FVec Ideal S1024x1840 .f32) (R : Fin 16384) (n : Fin 128) :
    seg1152 (refP x g w) (ix4 ⟨R.val / 8192, by omega⟩ ⟨R.val % 8192, by omega⟩ ⟨n.val / 64, by omega⟩ ⟨n.val % 64, by omega⟩) = proj (fun a => x (ix3 ⟨R.val / 8192, by omega⟩ ⟨R.val % 8192, by omega⟩ a)) (fun a => g (ix1 a)) (fun e => w (ix2 e ⟨1152 + n.val, by omega⟩)) := by
  refine (seg1152_at _ _ _ _ _).trans ((refP_at x g w _ _ _).trans (proj_congr (fun a => rfl) (fun a => rfl) (fun a => congrArg (fun q => w (ix2 a q)) (Fin.ext ?_))))
  simp only
  all_goals omega

/-- Result 2 of the reference at an index. -/
theorem res7_at (x : FVec Ideal S2x8192x1024 .f32) (g : FVec Ideal S1024 .f32) (w : FVec Ideal S1024x1840 .f32) (R : Fin 16384) (n : Fin 128) :
    (shapeCast S16384x128 (seg1152 (refP x g w)) shapeCasts_S2x8192x2x64_S16384x128 : FVec Ideal S16384x128 .f32) (ix2 R n) = proj (fun a => x (ix3 ⟨R.val / 8192, by omega⟩ ⟨R.val % 8192, by omega⟩ a)) (fun a => g (ix1 a)) (fun e => w (ix2 e ⟨1152 + n.val, by omega⟩)) := by
  pointwise
  exact lane1152_at x g w R n

/-- A column of the rotated heads at column 1280 of the projection. -/
theorem head1280_at (x : FVec Ideal S2x8192x1024 .f32) (g : FVec Ideal S1024 .f32) (w : FVec Ideal S1024x1840 .f32) (R : Fin 16384) (n : Fin 128) :
    rotR2 (seg1280 (refP x g w)) (ix4 ⟨R.val / 8192, by omega⟩ ⟨R.val % 8192, by omega⟩ ⟨n.val / 64, by omega⟩ ⟨n.val % 64, by omega⟩) = rotCol (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n := by
  refine (rotR2_at _ _ _ _ _).trans ?_
  refine Eq.trans ?_ (rotCol_head (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n)
  refine rotCol_congr (by decide) (fun d => ?_) _ _
  beta_reduce
  refine (seg1280_at _ _ _ _ _).trans ((refP_at x g w _ _ _).trans (proj_congr (fun a => rfl) (fun a => rfl) (fun a => congrArg (fun q => w (ix2 a q)) (Fin.ext ?_))))
  simp only
  all_goals omega

/-- Result 3 of the reference at an index. -/
theorem res8_at (x : FVec Ideal S2x8192x1024 .f32) (g : FVec Ideal S1024 .f32) (w : FVec Ideal S1024x1840 .f32) (R : Fin 16384) (n : Fin 128) :
    (shapeCast S16384x128 (rotR2 (seg1280 (refP x g w))) shapeCasts_S2x8192x2x64_S16384x128 : FVec Ideal S16384x128 .f32) (ix2 R n) = rotCol (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n := by
  pointwise
  exact head1280_at x g w R n

/-- Result 4 of the reference at an index. -/
theorem res9_at (x : FVec Ideal S2x8192x1024 .f32) (g : FVec Ideal S1024 .f32) (w : FVec Ideal S1024x1840 .f32) (n : Fin 128) (R : Fin 16384) :
    (truncf .bf16 (transpose S128x16384 [1, 0] (shapeCast S16384x128 (rotR2 (seg1280 (refP x g w))) shapeCasts_S2x8192x2x64_S16384x128) transposes_S16384x128_S128x16384_1_0) bitsLt_bf16_f32 : FVec Ideal S128x16384 .f32) (ix2 n R) = rotCol (W := 128) (by decide) (fun n => proj (fun a => x (ix3 ⟨R.val / 8192, by omega⟩ ⟨R.val % 8192, by omega⟩ a)) (fun a => g (ix1 a)) (fun e => w (ix2 e ⟨1280 + n.val, by omega⟩))) (R.val % 8192) n := by
  pointwise
  exact head1280_at x g w R n

/-- A column of the heads at column 1408 of the projection. -/
theorem lane1408_at (x : FVec Ideal S2x8192x1024 .f32) (g : FVec Ideal S1024 .f32) (w : FVec Ideal S1024x1840 .f32) (R : Fin 16384) (n : Fin 128) :
    seg1408 (refP x g w) (ix4 ⟨R.val / 8192, by omega⟩ ⟨R.val % 8192, by omega⟩ ⟨n.val / 64, by omega⟩ ⟨n.val % 64, by omega⟩) = proj (fun a => x (ix3 ⟨R.val / 8192, by omega⟩ ⟨R.val % 8192, by omega⟩ a)) (fun a => g (ix1 a)) (fun e => w (ix2 e ⟨1408 + n.val, by omega⟩)) := by
  refine (seg1408_at _ _ _ _ _).trans ((refP_at x g w _ _ _).trans (proj_congr (fun a => rfl) (fun a => rfl) (fun a => congrArg (fun q => w (ix2 a q)) (Fin.ext ?_))))
  simp only
  all_goals omega

/-- Result 5 of the reference at an index. -/
theorem res10_at (x : FVec Ideal S2x8192x1024 .f32) (g : FVec Ideal S1024 .f32) (w : FVec Ideal S1024x1840 .f32) (R : Fin 16384) (n : Fin 128) :
    (shapeCast S16384x128 (seg1408 (refP x g w)) shapeCasts_S2x8192x2x64_S16384x128 : FVec Ideal S16384x128 .f32) (ix2 R n) = proj (fun a => x (ix3 ⟨R.val / 8192, by omega⟩ ⟨R.val % 8192, by omega⟩ a)) (fun a => g (ix1 a)) (fun e => w (ix2 e ⟨1408 + n.val, by omega⟩)) := by
  pointwise
  exact lane1408_at x g w R n

/-- Result 6 of the reference at an index. -/
theorem res11_at (x : FVec Ideal S2x8192x1024 .f32) (g : FVec Ideal S1024 .f32) (w : FVec Ideal S1024x1840 .f32) (R : Fin 16384) (n : Fin 128) :
    (truncf .bf16 (shapeCast S16384x128 (seg1408 (refP x g w)) shapeCasts_S2x8192x2x64_S16384x128) bitsLt_bf16_f32 : FVec Ideal S16384x128 .f32) (ix2 R n) = proj (fun a => x (ix3 ⟨R.val / 8192, by omega⟩ ⟨R.val % 8192, by omega⟩ a)) (fun a => g (ix1 a)) (fun e => w (ix2 e ⟨1408 + n.val, by omega⟩)) := by
  pointwise
  exact lane1408_at x g w R n

/-- A column of the rotated heads at column 1536 of the projection. -/
theorem head1536_at (x : FVec Ideal S2x8192x1024 .f32) (g : FVec Ideal S1024 .f32) (w : FVec Ideal S1024x1840 .f32) (R : Fin 16384) (n : Fin 128) :
    rotR2 (seg1536 (refP x g w)) (ix4 ⟨R.val / 8192, by omega⟩ ⟨R.val % 8192, by omega⟩ ⟨n.val / 64, by omega⟩ ⟨n.val % 64, by omega⟩) = rotCol (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n := by
  refine (rotR2_at _ _ _ _ _).trans ?_
  refine Eq.trans ?_ (rotCol_head (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n)
  refine rotCol_congr (by decide) (fun d => ?_) _ _
  beta_reduce
  refine (seg1536_at _ _ _ _ _).trans ((refP_at x g w _ _ _).trans (proj_congr (fun a => rfl) (fun a => rfl) (fun a => congrArg (fun q => w (ix2 a q)) (Fin.ext ?_))))
  simp only
  all_goals omega

/-- Result 7 of the reference at an index. -/
theorem res12_at (x : FVec Ideal S2x8192x1024 .f32) (g : FVec Ideal S1024 .f32) (w : FVec Ideal S1024x1840 .f32) (R : Fin 16384) (n : Fin 128) :
    (shapeCast S16384x128 (rotR2 (seg1536 (refP x g w))) shapeCasts_S2x8192x2x64_S16384x128 : FVec Ideal S16384x128 .f32) (ix2 R n) = rotCol (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n := by
  pointwise
  exact head1536_at x g w R n

/-- Result 8 of the reference at an index. -/
theorem res13_at (x : FVec Ideal S2x8192x1024 .f32) (g : FVec Ideal S1024 .f32) (w : FVec Ideal S1024x1840 .f32) (n : Fin 128) (R : Fin 16384) :
    (truncf .bf16 (transpose S128x16384 [1, 0] (shapeCast S16384x128 (rotR2 (seg1536 (refP x g w))) shapeCasts_S2x8192x2x64_S16384x128) transposes_S16384x128_S128x16384_1_0) bitsLt_bf16_f32 : FVec Ideal S128x16384 .f32) (ix2 n R) = rotCol (W := 128) (by decide) (fun n => proj (fun a => x (ix3 ⟨R.val / 8192, by omega⟩ ⟨R.val % 8192, by omega⟩ a)) (fun a => g (ix1 a)) (fun e => w (ix2 e ⟨1536 + n.val, by omega⟩))) (R.val % 8192) n := by
  pointwise
  exact head1536_at x g w R n

/-- A column of the heads at column 1664 of the projection. -/
theorem lane1664_at (x : FVec Ideal S2x8192x1024 .f32) (g : FVec Ideal S1024 .f32) (w : FVec Ideal S1024x1840 .f32) (R : Fin 16384) (n : Fin 128) :
    seg1664 (refP x g w) (ix4 ⟨R.val / 8192, by omega⟩ ⟨R.val % 8192, by omega⟩ ⟨n.val / 64, by omega⟩ ⟨n.val % 64, by omega⟩) = proj (fun a => x (ix3 ⟨R.val / 8192, by omega⟩ ⟨R.val % 8192, by omega⟩ a)) (fun a => g (ix1 a)) (fun e => w (ix2 e ⟨1664 + n.val, by omega⟩)) := by
  refine (seg1664_at _ _ _ _ _).trans ((refP_at x g w _ _ _).trans (proj_congr (fun a => rfl) (fun a => rfl) (fun a => congrArg (fun q => w (ix2 a q)) (Fin.ext ?_))))
  simp only
  all_goals omega

/-- Result 9 of the reference at an index. -/
theorem res14_at (x : FVec Ideal S2x8192x1024 .f32) (g : FVec Ideal S1024 .f32) (w : FVec Ideal S1024x1840 .f32) (R : Fin 16384) (n : Fin 128) :
    (shapeCast S16384x128 (seg1664 (refP x g w)) shapeCasts_S2x8192x2x64_S16384x128 : FVec Ideal S16384x128 .f32) (ix2 R n) = proj (fun a => x (ix3 ⟨R.val / 8192, by omega⟩ ⟨R.val % 8192, by omega⟩ a)) (fun a => g (ix1 a)) (fun e => w (ix2 e ⟨1664 + n.val, by omega⟩)) := by
  pointwise
  exact lane1664_at x g w R n

/-- Result 10 of the reference at an index. -/
theorem res15_at (x : FVec Ideal S2x8192x1024 .f32) (g : FVec Ideal S1024 .f32) (w : FVec Ideal S1024x1840 .f32) (R : Fin 16384) (n : Fin 128) :
    (truncf .bf16 (shapeCast S16384x128 (seg1664 (refP x g w)) shapeCasts_S2x8192x2x64_S16384x128) bitsLt_bf16_f32 : FVec Ideal S16384x128 .f32) (ix2 R n) = proj (fun a => x (ix3 ⟨R.val / 8192, by omega⟩ ⟨R.val % 8192, by omega⟩ a)) (fun a => g (ix1 a)) (fun e => w (ix2 e ⟨1664 + n.val, by omega⟩)) := by
  pointwise
  exact lane1664_at x g w R n

/-- Result 11 of the reference at an index. -/
theorem res16_at (x : FVec Ideal S2x8192x1024 .f32) (g : FVec Ideal S1024 .f32) (w : FVec Ideal S1024x1840 .f32) (R : Fin 16384) (n : Fin 48) :
    (shapeCast S16384x48 (extractStridedSlice S2x8192x48 ![0, 0, 1792] (refP x g w) slices_S2x8192x1840_S2x8192x48_0_0_1792) shapeCasts_S2x8192x48_S16384x48 : FVec Ideal S16384x48 .f32) (ix2 R n) = proj (fun a => x (ix3 ⟨R.val / 8192, by omega⟩ ⟨R.val % 8192, by omega⟩ a)) (fun a => g (ix1 a)) (fun e => w (ix2 e ⟨1792 + n.val, by omega⟩)) := by
  pointwise
  exact (refP_at x g w _ _ _).trans (proj_congr (fun a => rfl) (fun a => rfl) (fun a => congrArg (fun q => w (ix2 a q)) (Fin.ext (by simp))))

end Cert.Reference9Ideal.Value
end
-- ==== Proof.NsaInClaim.lean ====
module

public import proofs.«01_k».proof.Defs
public import proofs.«01_k».proof.Proof.Gen.Kernel9.Frame
public import proofs.«01_k».proof.Proof.NsaInValue
public import proofs.«01_k».proof.Proof.NsaInRef
public import Idealize.ShloMosaic.Lib.Claim
public import Idealize.ShloMosaic.Lib.Quiescent

@[expose] public section
set_option maxRecDepth 16384
set_option maxHeartbeats 4000000
noncomputable section
open Idealize.ShloMosaic Idealize.ShloMosaic.TcCoe Idealize.SL.Sem

/-! The claims about the three-branch attention's input projection. -/
namespace Cert.Proof.NsaIn

/-- The kernel runs, leaves its arguments and ends with every counter at zero. -/
theorem frame : Cert.quiescent_Kernel9 := fun m ρ _ => Cert.Kernel9.Gen.frame m ρ

/-- The same of the kernel read over the extended reals. -/
theorem frame_ideal : Cert.quiescent_Kernel9Ideal := fun m ρ _ => Cert.Kernel9Ideal.Gen.frame m ρ

/-- The same of the reference. -/
theorem frame_ref : Cert.quiescent_Reference9Ideal := fun m ρ _ =>
  (θ_run Cert.Reference9Ideal.defs _ _).mono (fun r h => ⟨fun c => (h c).2.2.2.2.2.2.2.2.2.2.2.2, Idealize.ShloMosaic.sem_eq_zero_of_no_sems (by decide) r.2⟩)
    (Cert.Reference9Ideal.Value.run_steps m ρ)

/-- Over the extended reals each of the kernel's arrays is the reference's, entry by entry. -/
theorem algebraic : Cert.algebraic_Kernel9Ideal_Reference9Ideal := by
  intro m g m' g' _ hagree
  refine ⟨fun c => Cert.Kernel9Ideal.Value.result5 m c, fun c => Cert.Kernel9Ideal.Value.result6 m c, fun c => Cert.Kernel9Ideal.Value.result7 m c, fun c => Cert.Kernel9Ideal.Value.result8 m c, fun c => Cert.Kernel9Ideal.Value.result9 m c, fun c => Cert.Kernel9Ideal.Value.result10 m c, fun c => Cert.Kernel9Ideal.Value.result11 m c, fun c => Cert.Kernel9Ideal.Value.result12 m c, fun c => Cert.Kernel9Ideal.Value.result13 m c, fun c => Cert.Kernel9Ideal.Value.result14 m c, fun c => Cert.Kernel9Ideal.Value.result15 m c, fun c => Cert.Kernel9Ideal.Value.result16 m c, ?_, ?_⟩
  · exact (θ_run Cert.Kernel9Ideal.defs _ _).mono (fun _ h c => ⟨(h c).1.trans (Cert.Kernel9Ideal.Value.final5 m c _ fun R n => rfl), (h c).2.1.trans (Cert.Kernel9Ideal.Value.final6 m c _ fun R n => rfl), (h c).2.2.1.trans (Cert.Kernel9Ideal.Value.final7 m c _ fun R n => rfl), (h c).2.2.2.1.trans (Cert.Kernel9Ideal.Value.final8 m c _ fun R n => rfl), (h c).2.2.2.2.1.trans (Cert.Kernel9Ideal.Value.final9 m c _ fun R n => rfl), (h c).2.2.2.2.2.1.trans (Cert.Kernel9Ideal.Value.final10 m c _ fun R n => rfl), (h c).2.2.2.2.2.2.1.trans (Cert.Kernel9Ideal.Value.final11 m c _ fun R n => rfl), (h c).2.2.2.2.2.2.2.1.trans (Cert.Kernel9Ideal.Value.final12 m c _ fun R n => rfl), (h c).2.2.2.2.2.2.2.2.1.trans (Cert.Kernel9Ideal.Value.final13 m c _ fun R n => rfl), (h c).2.2.2.2.2.2.2.2.2.1.trans (Cert.Kernel9Ideal.Value.final14 m c _ fun R n => rfl), (h c).2.2.2.2.2.2.2.2.2.2.1.trans (Cert.Kernel9Ideal.Value.final15 m c _ fun R n => rfl), (h c).2.2.2.2.2.2.2.2.2.2.2.1.trans (Cert.Kernel9Ideal.Value.final16 m c _ fun R n => rfl), (h c).2.2.2.2.2.2.2.2.2.2.2.2⟩) (Cert.Kernel9Ideal.Value.run_blocks m g)
  · refine (θ_run Cert.Reference9Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (Cert.Reference9Ideal.Value.run_steps m' g')
    all_goals
      obtain ⟨h0, h1, h2⟩ := hagree c
      rw [h0, h1, h2]
      funext y
      idx_vars y
    · exact Cert.Reference9Ideal.Value.res5_at _ _ _ y0 y1
    · exact Cert.Reference9Ideal.Value.res6_at _ _ _ y0 y1
    · exact Cert.Reference9Ideal.Value.res7_at _ _ _ y0 y1
    · exact Cert.Reference9Ideal.Value.res8_at _ _ _ y0 y1
    · exact Cert.Reference9Ideal.Value.res9_at _ _ _ y0 y1
    · exact Cert.Reference9Ideal.Value.res10_at _ _ _ y0 y1
    · exact Cert.Reference9Ideal.Value.res11_at _ _ _ y0 y1
    · exact Cert.Reference9Ideal.Value.res12_at _ _ _ y0 y1
    · exact Cert.Reference9Ideal.Value.res13_at _ _ _ y0 y1
    · exact Cert.Reference9Ideal.Value.res14_at _ _ _ y0 y1
    · exact Cert.Reference9Ideal.Value.res15_at _ _ _ y0 y1
    · exact Cert.Reference9Ideal.Value.res16_at _ _ _ y0 y1
end Cert.Proof.NsaIn
end
-- ==== Proof.Ssd.lean ====
module

public import Idealize.ShloMosaic.Lib.Pipeline.ValueKit

@[expose] public section
noncomputable section
open Idealize.ShloMosaic

/-! The entries of the chunked state-space recurrence over the extended reals, shared by the kernel's blocks and the reference. -/
namespace Cert.Ssd

/-- A choice on the bit of a decided proposition is the choice on the proposition. -/
theorem sel_if {α : Type} (P : Prop) [Decidable P] (a b : α) : Scalar.select (if P then 1#1 else 0#1) a b = if P then a else b := by
  by_cases h : P <;> simp [h, Scalar.select]

/-- A choice on the set bit. -/
theorem sel_one {α : Type} (a b : α) : Scalar.select 1#1 a b = a := by simp [Scalar.select]

/-- A choice on the clear bit. -/
theorem sel_zero {α : Type} (a b : α) : Scalar.select 0#1 a b = b := by simp [Scalar.select]

/-- A masked product whose exponent is masked the same way needs the outer mask only. -/
theorem sel_tri (P : Prop) [Decidable P] (c d x : EReal) :
    Scalar.select (if P then 1#1 else 0#1) (c * Ideal.exp (Scalar.select (if P then 1#1 else 0#1) d 0) * x) 0 = if P then c * Ideal.exp d * x else 0 := by
  by_cases h : P <;> simp [h, Scalar.select]

/-- The part of an output entry that comes from the tokens of its own chunk: the tokens up to `i`, each weighted by the product of
    the output and input vectors and by the decay between the two tokens. -/
def intra (cm : Fin 128 → EReal) (bm : Fin 128 → Fin 128 → EReal) (a xr : Fin 128 → EReal) (i : Fin 128) : EReal :=
  ∑ x, if x.val ≤ i.val then (∑ n, cm n * bm x n) * Ideal.exp (a i - a x) * xr x else 0

/-- One output entry of a chunk: its own tokens' part, the entering state's part, the skip, all times the gate. -/
def yE (cm : Fin 128 → EReal) (bm : Fin 128 → Fin 128 → EReal) (a xr ht : Fin 128 → EReal) (grow skip gate : EReal) (i : Fin 128) : EReal :=
  (intra cm bm a xr i + (∑ n, cm n * ht n) * grow + skip) * gate

/-- It depends only on the values its arguments take. -/
theorem yE_congr {cm cm' : Fin 128 → EReal} {bm bm' : Fin 128 → Fin 128 → EReal} {a a' xr xr' ht ht' : Fin 128 → EReal} {grow grow' skip skip' gate gate' : EReal} {i i' : Fin 128}
    (h1 : ∀ n, cm n = cm' n) (h2 : ∀ x n, bm x n = bm' x n) (h3 : ∀ x, a x = a' x) (h4 : ∀ x, xr x = xr' x) (h5 : ∀ n, ht n = ht' n)
    (h6 : grow = grow') (h7 : skip = skip') (h8 : gate = gate') (h9 : i = i') : yE cm bm a xr ht grow skip gate i = yE cm' bm' a' xr' ht' grow' skip' gate' i' := by
  obtain rfl := funext h1; obtain rfl := funext fun x => funext (h2 x); obtain rfl := funext h3; obtain rfl := funext h4; obtain rfl := funext h5
  rw [h6, h7, h8, h9]

/-- One entry of the state a chunk leaves: the entering entry decayed over the chunk plus the chunk's own tokens' part. -/
def hE (ht decay : EReal) (bm xw : Fin 128 → EReal) : EReal := ht * decay + ∑ x, bm x * xw x

/-- It depends only on the values its arguments take. -/
theorem hE_congr {ht ht' decay decay' : EReal} {bm bm' xw xw' : Fin 128 → EReal} (h1 : ht = ht') (h2 : decay = decay') (h3 : ∀ x, bm x = bm' x)
    (h4 : ∀ x, xw x = xw' x) : hE ht decay bm xw = hE ht' decay' bm' xw' := by
  obtain rfl := funext h3; obtain rfl := funext h4; rw [h1, h2]

end Cert.Ssd
end
-- ==== Proof.SsdModel.lean ====
module

public import proofs.«01_k».proof.Proof.Ssd

@[expose] public section
noncomputable section
open Idealize.ShloMosaic

/-! The chunked state-space recurrence as plain functions: what one chunk computes from its entering state, and the states the chunks hand on. -/
namespace Cert.Ssd

/-- A value times its logistic. -/
def silu (c : EReal) : EReal := c * Ideal.logistic c

/-- The softplus, in the form that is safe from overflow. -/
def softplus (s : EReal) : EReal := max s 0 + Ideal.log1p (Ideal.exp (0 - max s (-s)))

/-- The head a column belongs to. -/
def hdOf (q : Fin 2048) : Fin 32 := ⟨q.val / 64, by omega⟩

/-- The column of the activations that holds lane `n` of the input vector of column `q`'s group. -/
def bmCol (q : Fin 2048) (n : Fin 128) : Fin 3072 := ⟨2048 + (128 * (q.val / 512) + n.val), by omega⟩

/-- The column of the activations that holds lane `n` of the output vector of column `q`'s group. -/
def cmCol (q : Fin 2048) (n : Fin 128) : Fin 3072 := ⟨2560 + (128 * (q.val / 512) + n.val), by omega⟩

/-- The column of the activations that holds column `q` of the values. -/
def xsCol (q : Fin 2048) : Fin 3072 := ⟨q.val, by omega⟩

section chunk
variable (act : Fin 128 → Fin 3072 → EReal) (dtv : Fin 128 → Fin 32 → EReal) (rate : Fin 32 → EReal)

/-- The running sum, within the chunk, of the step sizes times the decay rate. -/
def acs (i : Fin 128) (h : Fin 32) : EReal := ∑ x : Fin 128, if x.val ≤ i.val then dtv x h * rate h else 0

/-- The values scaled by their step sizes. -/
def xrE (i : Fin 128) (q : Fin 2048) : EReal := act i (xsCol q) * dtv i (hdOf q)

/-- What a chunk stores at token `i`, column `q`. -/
def yC (ht : Fin 128 → Fin 2048 → EReal) (z : Fin 128 → Fin 2048 → EReal) (ds : Fin 2048 → EReal) (i : Fin 128) (q : Fin 2048) : EReal :=
  yE (fun n => act i (cmCol q n)) (fun x n => act x (bmCol q n)) (fun x => acs dtv rate x (hdOf q)) (fun x => xrE act dtv x q) (fun n => ht n q)
    (Ideal.exp (acs dtv rate i (hdOf q))) (act i (xsCol q) * ds q) (silu (z i q)) i

/-- The state a chunk leaves at lane `n`, column `q`. -/
def hC (ht : Fin 128 → Fin 2048 → EReal) (n : Fin 128) (q : Fin 2048) : EReal :=
  hE (ht n q) (Ideal.exp (acs dtv rate 127 (hdOf q))) (fun x => act x (bmCol q n))
    (fun x => xrE act dtv x q * Ideal.exp (acs dtv rate 127 (hdOf q) - acs dtv rate x (hdOf q)))

end chunk

section whole
variable (x : Nat → Fin 3072 → EReal) (w : Fin 4 → Fin 3072 → EReal) (cb : Fin 3072 → EReal) (dt : Nat → Fin 32 → EReal) (db al : Fin 32 → EReal)

/-- The input `j` tokens before row `r`, zero before the batch's first token. -/
def back (j r : Nat) (k : Fin 3072) : EReal := if r % 8192 < j then 0 else x (r - j) k

/-- The short convolution over a token and the three before it. -/
def conv (r : Nat) (k : Fin 3072) : EReal := cb k + x r k * w 3 k + back x 1 r k * w 2 k + back x 2 r k * w 1 k + back x 3 r k * w 0 k

/-- The activations of chunk `t`. -/
def actW (t : Nat) (i : Fin 128) (k : Fin 3072) : EReal := silu (conv x w cb (128 * t + i.val) k)

/-- The step sizes of chunk `t`. -/
def dtW (t : Nat) (i : Fin 128) (h : Fin 32) : EReal := softplus (dt (128 * t + i.val) h + db h)

/-- The decay rates. -/
def rateW (h : Fin 32) : EReal := 0 - Ideal.exp (al h)

/-- The state a batch starts from. -/
def zeroS (_n : Fin 128) (_q : Fin 2048) : EReal := 0

/-- The state chunk `t` leaves; a batch has 64 chunks and starts from the zero state. -/
def leave : Nat → Fin 128 → Fin 2048 → EReal
  | 0 => hC (actW x w cb 0) (dtW dt db 0) (rateW al) zeroS
  | t + 1 => hC (actW x w cb (t + 1)) (dtW dt db (t + 1)) (rateW al) (if (t + 1) % 64 = 0 then zeroS else leave t)

/-- The state chunk `t` enters with. -/
def enter (t : Nat) : Fin 128 → Fin 2048 → EReal := if t % 64 = 0 then zeroS else leave x w cb dt db al (t - 1)

/-- A chunk leaves what it makes of the state it enters with. -/
theorem leave_eq (t : Nat) : leave x w cb dt db al t = hC (actW x w cb t) (dtW dt db t) (rateW al) (enter x w cb dt db al t) := by
  cases t with
  | zero => rfl
  | succ t => rfl

/-- The output at row `128 t + i`. -/
def yW (z : Nat → Fin 2048 → EReal) (ds : Fin 2048 → EReal) (t : Nat) (i : Fin 128) (q : Fin 2048) : EReal :=
  yC (actW x w cb t) (dtW dt db t) (rateW al) (enter x w cb dt db al t) (fun i q => z (128 * t + i.val) q) ds i q

end whole

/-! ### Facts on the extended reals -/

/-- The exponential is nowhere negative. -/
theorem exp_nonneg (x : EReal) : 0 ≤ Ideal.exp x := by
  induction x with
  | bot => exact le_refl _
  | top => exact le_top
  | coe r => exact EReal.coe_nonneg.mpr (Real.exp_pos r).le

/-- The logarithm of one plus a nonnegative number is nonnegative. -/
theorem log1p_nonneg {x : EReal} (h : 0 ≤ x) : 0 ≤ Ideal.log1p x := by
  induction x with
  | bot => exact absurd h (by simp)
  | top => exact le_top
  | coe r =>
    have hr : 0 ≤ r := EReal.coe_nonneg.mp h
    show 0 ≤ Ideal.log (1 + (r : EReal))
    have : (1 : EReal) + (r : EReal) = ((1 + r : ℝ) : EReal) := by rw [EReal.coe_add]; rfl
    rw [this]
    show 0 ≤ (if 1 + r ≤ 0 then ⊥ else (Real.log (1 + r) : EReal))
    rw [if_neg (by linarith)]
    exact EReal.coe_nonneg.mpr (Real.log_nonneg (by linarith))

/-- The softplus is nowhere negative. -/
theorem softplus_nonneg (s : EReal) : 0 ≤ softplus s :=
  add_nonneg (le_max_right _ _) (log1p_nonneg (exp_nonneg _))

/-- The softplus of a value below infinity is below infinity. -/
theorem softplus_ne_top {s : EReal} (h : s < ⊤) : softplus s ≠ ⊤ := by
  induction s with
  | bot =>
    show max (⊥ : EReal) 0 + Ideal.log (1 + Ideal.exp (0 - max ⊥ (-⊥))) ≠ ⊤
    have e : (0 : EReal) - max ⊥ (-⊥) = ⊥ := by simp
    rw [e]
    show max (⊥ : EReal) 0 + Ideal.log (1 + 0) ≠ ⊤
    have e2 : (1 : EReal) + 0 = ((1 : ℝ) : EReal) := by simp
    rw [e2]
    show max (⊥ : EReal) 0 + (if (1 : ℝ) ≤ 0 then ⊥ else (Real.log 1 : EReal)) ≠ ⊤
    rw [if_neg (by norm_num)]
    simp
  | top => exact absurd h (lt_irrefl _)
  | coe r =>
    have e : (0 : EReal) - max (r : EReal) (-(r : EReal)) = ((0 - max r (-r) : ℝ) : EReal) := by
      rw [EReal.coe_sub, ← EReal.coe_neg, EReal.coe_strictMono.monotone.map_max]; rfl
    have e2 : max (r : EReal) 0 = ((max r 0 : ℝ) : EReal) := (EReal.coe_strictMono.monotone.map_max).symm
    unfold softplus
    rw [e, e2]
    show _ + Ideal.log (1 + ((Real.exp (0 - max r (-r)) : ℝ) : EReal)) ≠ ⊤
    have e3 : (1 : EReal) + ((Real.exp (0 - max r (-r)) : ℝ) : EReal) = ((1 + Real.exp (0 - max r (-r)) : ℝ) : EReal) := by rw [EReal.coe_add]; rfl
    rw [e3]
    show _ + (if 1 + Real.exp (0 - max r (-r)) ≤ 0 then ⊥ else (Real.log (1 + Real.exp (0 - max r (-r))) : EReal)) ≠ ⊤
    rw [if_neg (by have := Real.exp_pos (0 - max r (-r)); linarith), ← EReal.coe_add]
    exact EReal.coe_ne_top _

/-- A nonnegative step size times a decay rate is at most zero. -/
theorem step_le (d a : EReal) (hd : 0 ≤ d) : d * (0 - Ideal.exp a) ≤ 0 := by
  have : (0 : EReal) - Ideal.exp a = - Ideal.exp a := zero_sub _
  rw [this, mul_neg]
  exact (EReal.neg_le_neg_iff.mpr (mul_nonneg hd (exp_nonneg _))).trans (le_of_eq neg_zero)

/-- A running sum of decays is at most zero. -/
theorem acs_le (dtv : Fin 128 → Fin 32 → EReal) (rate : Fin 32 → EReal) (h : ∀ x h, dtv x h * rate h ≤ 0) (i : Fin 128) (k : Fin 32) : acs dtv rate i k ≤ 0 :=
  Finset.sum_nonpos fun x _ => by
    by_cases hx : x.val ≤ i.val
    · rw [if_pos hx]; exact h x k
    · rw [if_neg hx]

/-- A value below infinity is the sum of the three parts it is split into when rounding changes nothing. -/
theorem three {v : EReal} (h : v ≠ ⊤) : v + (v - v) + (v - v - (v - v)) = v := by
  induction v with
  | bot => rfl
  | top => exact absurd rfl h
  | coe r =>
    have : ((r : EReal) - (r : EReal)) = 0 := by rw [← EReal.coe_sub, sub_self]; rfl
    rw [this]; simp

/-- One doubling of a running sum. -/
theorem window_double (f : Fin 128 → EReal) (s : Nat) (i : Fin 128) :
    (∑ x : Fin 128, if x.val ≤ i.val ∧ i.val < x.val + s then f x else 0)
      + (if h : i.val < s then 0 else ∑ x : Fin 128, if x.val ≤ i.val - s ∧ i.val - s < x.val + s then f x else 0)
      = ∑ x : Fin 128, if x.val ≤ i.val ∧ i.val < x.val + (s + s) then f x else 0 := by
  by_cases h : i.val < s
  · rw [dif_pos h, add_zero]
    refine Finset.sum_congr rfl fun x _ => ?_
    by_cases hx : x.val ≤ i.val
    · rw [if_pos ⟨hx, by omega⟩, if_pos ⟨hx, by omega⟩]
    · rw [if_neg (fun e => hx e.1), if_neg (fun e => hx e.1)]
  · rw [dif_neg h, ← Finset.sum_add_distrib]
    refine Finset.sum_congr rfl fun x _ => ?_
    by_cases h1 : x.val ≤ i.val ∧ i.val < x.val + s
    · rw [if_pos h1, if_neg (by omega), if_pos (by omega), add_zero]
    · rw [if_neg h1, zero_add]
      by_cases h2 : x.val ≤ i.val - s ∧ i.val - s < x.val + s
      · rw [if_pos h2, if_pos (by omega)]
      · rw [if_neg h2, if_neg (by omega)]

/-- The first of the windows holds one term. -/
theorem window_one (f : Fin 128 → EReal) (i : Fin 128) : (∑ x : Fin 128, if x.val ≤ i.val ∧ i.val < x.val + 1 then f x else 0) = f i := by
  rw [Finset.sum_eq_single i]
  · rw [if_pos ⟨le_refl _, by omega⟩]
  · intro b _ hb
    rw [if_neg fun e => hb (Fin.ext (by omega))]
  · intro e; exact absurd (Finset.mem_univ _) e

/-- The last holds the whole prefix. -/
theorem window_all (f : Fin 128 → EReal) (i : Fin 128) : (∑ x : Fin 128, if x.val ≤ i.val ∧ i.val < x.val + 128 then f x else 0) = ∑ x : Fin 128, if x.val ≤ i.val then f x else 0 :=
  Finset.sum_congr rfl fun x _ => by
    by_cases hx : x.val ≤ i.val
    · rw [if_pos ⟨hx, by omega⟩, if_pos hx]
    · rw [if_neg (fun e => hx e.1), if_neg hx]

end Cert.Ssd
end
-- ==== Proof.SsdShared.lean ====
module

public import proofs.«01_k».proof.Proof.Gen.Kernel10Ideal.Value
public import proofs.«01_k».proof.Proof.Rows
public import proofs.«01_k».proof.Proof.SsdModel

@[expose] public section
set_option maxRecDepth 16384
noncomputable section
open Idealize.ShloMosaic Idealize.ShloMosaic.TcCoe Idealize.SL.Sem
open Idealize.ShloMosaic.Pipeline (Dat)
/-! The tensors a chunk of the kernel shares between its heads, entry by entry. -/
namespace Cert.Kernel10Ideal.Value
open Cert.Kernel10Ideal Cert.Kernel10Ideal.Gen Cert.Rows Cert.Ssd

/-- The floor division that finds a column's head, on words. -/
theorem head_word : ∀ q : Fin 2048, Scalar.select
          (IntOp.andi
            (IntOp.cmpi CmpIPredicate.ne
              (IntOp.subi (BitVec.setWidth 32 (IntOp.cmpi CmpIPredicate.sgt (BitVec.ofNat 32 q.val) 0#32))
                (BitVec.setWidth 32 (IntOp.cmpi CmpIPredicate.slt (BitVec.ofNat 32 q.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 q.val) 64#32) 0#32))
          (IntOp.subi (IntOp.divsi ArithUnit.vector (BitVec.ofNat 32 q.val) 64#32) 1#32)
          (IntOp.divsi ArithUnit.vector (BitVec.ofNat 32 q.val) 64#32) = BitVec.ofNat 32 (q.val / 64) := by
  decide +kernel

/-- The matrix that spreads a head's value over the head's columns. -/
theorem spread_at (h : Fin 32) (q : Fin 2048) : k0_pay108 (F := Ideal) (ix2 h q) = if hdOf q = h then 1 else 0 := by
  pointwise [k0_pay108]
  rw [head_word]
  word_cmp
  by_cases e : hdOf q = h
  · have e' : q.val / 64 = h.val := congrArg Fin.val e
    simp [e, e', Scalar.select]
  · have e' : ¬ q.val / 64 = h.val := fun x => e (Fin.ext x)
    simp [e, e', Scalar.select]

/-- The short convolution, from the chunk's inputs and the eight rows before them. -/
theorem conv_at (x : Vec Ideal S128x3072 .f32) (prev : Vec Ideal S8x3072 .f32) (cb w3 w2 w1 w0 : Vec Ideal S1x3072 .f32) (i : Fin 128) (k : Fin 3072) :
    k0_pay97 (F := Ideal) x prev cb w3 w2 w1 w0 (ix2 i k) = cb (ix2 0 k) + x (ix2 i k) * w3 (ix2 0 k) +
          (if h : i.val < 1 then prev (ix2 ⟨7 + i.val, by omega⟩ k) else x (ix2 ⟨i.val - 1, by omega⟩ k)) * w2 (ix2 0 k) +
        (if h : i.val < 2 then prev (ix2 ⟨6 + i.val, by omega⟩ k) else x (ix2 ⟨i.val - 2, by omega⟩ k)) * w1 (ix2 0 k) +
      (if h : i.val < 3 then prev (ix2 ⟨5 + i.val, by omega⟩ k) else x (ix2 ⟨i.val - 3, by omega⟩ k)) * w0 (ix2 0 k) := by
  pointwise [k0_pay97]

/-- The activations are the convolution times its logistic. -/
theorem act_at (x : Vec Ideal S128x3072 .f32) (prev : Vec Ideal S8x3072 .f32) (cb w3 w2 w1 w0 : Vec Ideal S1x3072 .f32) (i : Fin 128) (k : Fin 3072) :
    k0_pay97 (F := Ideal) x prev cb w3 w2 w1 w0 (ix2 i k) * k0_pay99 (F := Ideal) x prev cb w3 w2 w1 w0 (ix2 i k) = silu (k0_pay97 (F := Ideal) x prev cb w3 w2 w1 w0 (ix2 i k)) := rfl

/-- The values are the first 2048 columns of the activations. -/
theorem xs_at (u w : FVec Ideal S128x3072 .f32) (i : Fin 128) (q : Fin 2048) : k0_pay101 (F := Ideal) u w (ix2 i q) = u (ix2 i ⟨q.val, by omega⟩) * w (ix2 i ⟨q.val, by omega⟩) := by
  pointwise [k0_pay100, k0_pay101]

/-- The input vectors are the next 512. -/
theorem bm_at (u w : FVec Ideal S128x3072 .f32) (i : Fin 128) (q : Fin 512) : k0_pay102 (F := Ideal) u w (ix2 i q) = u (ix2 i ⟨2048 + q.val, by omega⟩) * w (ix2 i ⟨2048 + q.val, by omega⟩) := by
  pointwise [k0_pay100, k0_pay102]

/-- The output vectors are the last 512. -/
theorem cm_at (u w : FVec Ideal S128x3072 .f32) (i : Fin 128) (q : Fin 512) : k0_pay103 (F := Ideal) u w (ix2 i q) = u (ix2 i ⟨2560 + q.val, by omega⟩) * w (ix2 i ⟨2560 + q.val, by omega⟩) := by
  pointwise [k0_pay100, k0_pay103]

/-- The step sizes. -/
theorem soft_at (x : Vec Ideal S128x32 .f32) (b : Vec Ideal S1x32 .f32) (i : Fin 128) (h : Fin 32) :
    k0_pay104 (F := Ideal) x b (ix2 i h) = softplus (x (ix2 i h) + b (ix2 0 h)) := by
  pointwise [k0_pay104]
  rw [if_neg (fun e => e rfl)]
  rfl

/-- Entry `i` of every column holds the sum of the `s` terms ending at `i`. -/
def Win (v : FVec Ideal S128x32 .f32) (s : Nat) (f : Fin 128 → Fin 32 → EReal) : Prop :=
  ∀ (i : Fin 128) (h : Fin 32), v (ix2 i h) = ∑ x : Fin 128, if x.val ≤ i.val ∧ i.val < x.val + s then f x h else 0

/-- Adding the column moved down by 1 doubles the window. -/
theorem win1 {v : FVec Ideal S128x32 .f32} {f : Fin 128 → Fin 32 → EReal} (hv : Win v 1 f) :
    Win (addf v (concatenate S128x32 0 [⟨S1x32, broadcast S1x32 (FloatOps.ofBits FTy.f32 0#32)⟩, ⟨S127x32, extractStridedSlice S127x32 ![0, 0] v slices_S128x32_o0_0_S127x32⟩]
            concatenates_S1x32_S127x32_S128x32_d0)) 2 f := fun i h => by
  refine Eq.trans ?_ (window_double (fun x => f x h) 1 i)
  rw [← hv i h]
  pointwise []
  by_cases hi : i.val < 1
  · simp only [dif_pos hi]
  · simp only [dif_neg hi]
    exact congrArg (_ + ·) (hv ⟨i.val - 1, by omega⟩ h)

/-- Adding the column moved down by 2 doubles the window. -/
theorem win2 {v : FVec Ideal S128x32 .f32} {f : Fin 128 → Fin 32 → EReal} (hv : Win v 2 f) :
    Win (addf v (concatenate S128x32 0 [⟨S2x32, broadcast S2x32 (FloatOps.ofBits FTy.f32 0#32)⟩, ⟨S126x32, extractStridedSlice S126x32 ![0, 0] v slices_S128x32_o0_0_S126x32⟩]
            concatenates_S2x32_S126x32_S128x32_d0)) 4 f := fun i h => by
  refine Eq.trans ?_ (window_double (fun x => f x h) 2 i)
  rw [← hv i h]
  pointwise []
  by_cases hi : i.val < 2
  · simp only [dif_pos hi]
  · simp only [dif_neg hi]
    exact congrArg (_ + ·) (hv ⟨i.val - 2, by omega⟩ h)

/-- Adding the column moved down by 4 doubles the window. -/
theorem win4 {v : FVec Ideal S128x32 .f32} {f : Fin 128 → Fin 32 → EReal} (hv : Win v 4 f) :
    Win (addf v (concatenate S128x32 0 [⟨S4x32, broadcast S4x32 (FloatOps.ofBits FTy.f32 0#32)⟩, ⟨S124x32, extractStridedSlice S124x32 ![0, 0] v slices_S128x32_o0_0_S124x32⟩]
            concatenates_S4x32_S124x32_S128x32_d0)) 8 f := fun i h => by
  refine Eq.trans ?_ (window_double (fun x => f x h) 4 i)
  rw [← hv i h]
  pointwise []
  by_cases hi : i.val < 4
  · simp only [dif_pos hi]
  · simp only [dif_neg hi]
    exact congrArg (_ + ·) (hv ⟨i.val - 4, by omega⟩ h)

/-- Adding the column moved down by 8 doubles the window. -/
theorem win8 {v : FVec Ideal S128x32 .f32} {f : Fin 128 → Fin 32 → EReal} (hv : Win v 8 f) :
    Win (addf v (concatenate S128x32 0 [⟨S8x32, broadcast S8x32 (FloatOps.ofBits FTy.f32 0#32)⟩, ⟨S120x32, extractStridedSlice S120x32 ![0, 0] v slices_S128x32_o0_0_S120x32⟩]
            concatenates_S8x32_S120x32_S128x32_d0)) 16 f := fun i h => by
  refine Eq.trans ?_ (window_double (fun x => f x h) 8 i)
  rw [← hv i h]
  pointwise []
  by_cases hi : i.val < 8
  · simp only [dif_pos hi]
  · simp only [dif_neg hi]
    exact congrArg (_ + ·) (hv ⟨i.val - 8, by omega⟩ h)

/-- Adding the column moved down by 16 doubles the window. -/
theorem win16 {v : FVec Ideal S128x32 .f32} {f : Fin 128 → Fin 32 → EReal} (hv : Win v 16 f) :
    Win (addf v (concatenate S128x32 0 [⟨S16x32, broadcast S16x32 (FloatOps.ofBits FTy.f32 0#32)⟩, ⟨S112x32, extractStridedSlice S112x32 ![0, 0] v slices_S128x32_o0_0_S112x32⟩]
            concatenates_S16x32_S112x32_S128x32_d0)) 32 f := fun i h => by
  refine Eq.trans ?_ (window_double (fun x => f x h) 16 i)
  rw [← hv i h]
  pointwise []
  by_cases hi : i.val < 16
  · simp only [dif_pos hi]
  · simp only [dif_neg hi]
    exact congrArg (_ + ·) (hv ⟨i.val - 16, by omega⟩ h)

/-- Adding the column moved down by 32 doubles the window. -/
theorem win32 {v : FVec Ideal S128x32 .f32} {f : Fin 128 → Fin 32 → EReal} (hv : Win v 32 f) :
    Win (addf v (concatenate S128x32 0 [⟨S32x32, broadcast S32x32 (FloatOps.ofBits FTy.f32 0#32)⟩, ⟨S96x32, extractStridedSlice S96x32 ![0, 0] v slices_S128x32_o0_0_S96x32⟩]
            concatenates_S32x32_S96x32_S128x32_d0)) 64 f := fun i h => by
  refine Eq.trans ?_ (window_double (fun x => f x h) 32 i)
  rw [← hv i h]
  pointwise []
  by_cases hi : i.val < 32
  · simp only [dif_pos hi]
  · simp only [dif_neg hi]
    exact congrArg (_ + ·) (hv ⟨i.val - 32, by omega⟩ h)

/-- Adding the column moved down by 64 doubles the window. -/
theorem win64 {v : FVec Ideal S128x32 .f32} {f : Fin 128 → Fin 32 → EReal} (hv : Win v 64 f) :
    Win (addf v (concatenate S128x32 0 [⟨S64x32, broadcast S64x32 (FloatOps.ofBits FTy.f32 0#32)⟩, ⟨S64x32, extractStridedSlice S64x32 ![0, 0] v slices_S128x32_o0_0_S64x32⟩]
            concatenates_S64x32_S64x32_S128x32_d0)) 128 f := fun i h => by
  refine Eq.trans ?_ (window_double (fun x => f x h) 64 i)
  rw [← hv i h]
  pointwise []
  by_cases hi : i.val < 64
  · simp only [dif_pos hi]
  · simp only [dif_neg hi]
    exact congrArg (_ + ·) (hv ⟨i.val - 64, by omega⟩ h)

/-- The running sums within the chunk. -/
theorem acs_at (x : Vec Ideal S128x32 .f32) (b al : Vec Ideal S1x32 .f32) (i : Fin 128) (h : Fin 32) :
    k0_pay106 (F := Ideal) (k0_pay105 x b al) (FloatOps.ofBits FTy.f32 0#32) (ix2 i h)
      = acs (fun i h => softplus (x (ix2 i h) + b (ix2 0 h))) (fun h => 0 - Ideal.exp (al (ix2 0 h))) i h := by
  let f : Fin 128 → Fin 32 → EReal := fun i h => softplus (x (ix2 i h) + b (ix2 0 h)) * (0 - Ideal.exp (al (ix2 0 h)))
  have h0 : Win (mulf (k0_pay104 (F := Ideal) x b) (broadcastTo S128x32 (subf (broadcast S1x32 (FloatOps.ofBits FTy.f32 0#32)) (exp (shapeCast S1x32 al shapeCasts_S1x32_S1x32))) broadcasts_S1x32_S128x32)) 1 f := fun i h => by
    rw [window_one]
    pointwise []
    rw [soft_at]
  have h3 : Win (k0_pay105 (F := Ideal) x b al) 16 f := win8 (win4 (win2 (win1 h0)))
  have h7 : Win (k0_pay106 (F := Ideal) (k0_pay105 x b al) (FloatOps.ofBits FTy.f32 0#32)) 128 f := win64 (win32 (win16 h3))
  exact (h7 i h).trans (window_all (fun x => f x h) i)

/-- The running sums, transposed and padded. -/
theorem acst_at (v : FVec Ideal S128x32 .f32) (z : Ideal .f32) (h : Fin 32) (x : Fin 128) :
    k0_pay107 (F := Ideal) v z (ix2 ⟨h.val, by omega⟩ x) = k0_pay106 (F := Ideal) v z (ix2 x h) := by
  pointwise [k0_pay107]

/-- A product with the spreading matrix picks the column's head. -/
theorem sum_spread (f : Fin 32 → EReal) (q : Fin 2048) : ∑ h : Fin 32, f h * k0_pay108 (F := Ideal) (ix2 h q) = f (hdOf q) := by
  rw [Finset.sum_eq_single (hdOf q)]
  · rw [spread_at, if_pos rfl]; exact mul_one _
  · intro b _ hb
    rw [spread_at, if_neg (fun e => hb e.symm)]; exact mul_zero _
  · intro e; exact absurd (Finset.mem_univ _) e

/-- A head's running sum, spread over its columns in three parts. -/
theorem acs_cols (v : FVec Ideal S128x32 .f32) (hv : ∀ i h, v (ix2 i h) ≠ ⊤) (i : Fin 128) (q : Fin 2048) :
    k0_pay110 (F := Ideal) v k0_pay108 (ix2 i q) = v (ix2 i (hdOf q)) := by
  pointwise [k0_pay110]
  rw [sum_spread (fun x => v (ix2 i x)), sum_spread (fun x => v (ix2 i x) - v (ix2 i x)), sum_spread (fun x => v (ix2 i x) - v (ix2 i x) - (v (ix2 i x) - v (ix2 i x)))]
  exact three (hv i (hdOf q))

/-- The values scaled by their step sizes, which are spread the same way. -/
theorem xr_at (u : FVec Ideal S128x2048 .f32) (v : FVec Ideal S128x32 .f32) (hv : ∀ i h, v (ix2 i h) ≠ ⊤) (i : Fin 128) (q : Fin 2048) :
    k0_pay112 (F := Ideal) u v k0_pay108 k0_pay109 (ix2 i q) = u (ix2 i q) * v (ix2 i (hdOf q)) := by
  pointwise [k0_pay112, k0_pay109]
  rw [sum_spread (fun x => v (ix2 i x)), sum_spread (fun x => v (ix2 i x) - v (ix2 i x)), sum_spread (fun x => v (ix2 i x) - v (ix2 i x) - (v (ix2 i x) - v (ix2 i x)))]
  exact congrArg (u (ix2 i q) * ·) (three (hv i (hdOf q)))

/-- The scaled values, decayed to the chunk's end. -/
theorem xw_at (u : FVec Ideal S128x2048 .f32) (v a : FVec Ideal S128x32 .f32) (hv : ∀ i h, v (ix2 i h) ≠ ⊤) (ha : ∀ i h, a (ix2 i h) ≠ ⊤) (i : Fin 128) (q : Fin 2048) :
    k0_pay113 (F := Ideal) u v a k0_pay108 k0_pay109 (ix2 i q)
      = u (ix2 i q) * v (ix2 i (hdOf q)) * Ideal.exp (a (ix2 127 (hdOf q)) - a (ix2 i (hdOf q))) := by
  pointwise [k0_pay113, k0_pay111]
  rw [xr_at u v hv, acs_cols a ha, acs_cols a ha]

/-- The decay from the chunk's start. -/
theorem grow_at (a : FVec Ideal S128x32 .f32) (ha : ∀ i h, a (ix2 i h) ≠ ⊤) (i : Fin 128) (q : Fin 2048) :
    k0_pay114 (F := Ideal) a k0_pay108 (ix2 i q) = Ideal.exp (a (ix2 i (hdOf q))) := by
  pointwise [k0_pay114]
  rw [acs_cols a ha]

/-- The decay over the chunk. -/
theorem decay_at (a : FVec Ideal S128x32 .f32) (ha : ∀ i h, a (ix2 i h) ≠ ⊤) (q : Fin 2048) :
    k0_pay115 (F := Ideal) a k0_pay108 (ix2 0 q) = Ideal.exp (a (ix2 127 (hdOf q))) := by
  pointwise [k0_pay115, k0_pay111]
  rw [acs_cols a ha]

/-- The gate. -/
theorem gate_at (v : FVec Ideal S128x2048 .f32) (i : Fin 128) (q : Fin 2048) : k0_pay117 (F := Ideal) v (ix2 i q) = silu (v (ix2 i q)) := by
  pointwise [k0_pay117]
  rfl

/-- The skip. -/
theorem skip_at (v : FVec Ideal S128x2048 .f32) (w : FVec Ideal S1x2048 .f32) (i : Fin 128) (q : Fin 2048) :
    k0_pay116 (F := Ideal) v w (ix2 i q) = v (ix2 i q) * w (ix2 0 q) := by
  pointwise [k0_pay116]

/-- The rows a chunk hands to the next are its last eight. -/
theorem carry_at (x : Vec Ideal S128x3072 .f32) (i : Fin 8) (k : Fin 3072) : k0_pay98 (F := Ideal) x (ix2 i k) = x (ix2 ⟨120 + i.val, by omega⟩ k) := by
  pointwise [k0_pay98]

end Cert.Kernel10Ideal.Value
end
-- ==== Proof.SsdFin.lean ====
module

public import proofs.«01_k».proof.Proof.Gen.Kernel10Ideal.Value
public import proofs.«01_k».proof.Proof.Rows
public import proofs.«01_k».proof.Proof.SsdShared

@[expose] public section
set_option maxRecDepth 16384
noncomputable section
open Idealize.ShloMosaic Idealize.ShloMosaic.TcCoe Idealize.SL.Sem
open Idealize.ShloMosaic.Pipeline (Dat)
/-! What the kernel stores for a pair of heads is what the chunk's model says. -/
namespace Cert.Kernel10Ideal.Value
open Cert.Kernel10Ideal Cert.Kernel10Ideal.Gen Cert.Rows Cert.Ssd

/-- A chunk's activations, from its inputs and the eight rows before them. -/
def blkAct (x1 : Vec Ideal S128x3072 .f32) (prev : Vec Ideal S8x3072 .f32) (x3 : Vec Ideal S4x3072 .f32) (x4 : Vec Ideal S1x3072 .f32) (i : Fin 128) (k : Fin 3072) : EReal :=
  silu (x4 (ix2 0 k) + x1 (ix2 i k) * x3 (ix2 3 k) +
          (if h : i.val < 1 then prev (ix2 ⟨7 + i.val, by omega⟩ k) else x1 (ix2 ⟨i.val - 1, by omega⟩ k)) * x3 (ix2 2 k) +
        (if h : i.val < 2 then prev (ix2 ⟨6 + i.val, by omega⟩ k) else x1 (ix2 ⟨i.val - 2, by omega⟩ k)) * x3 (ix2 1 k) +
      (if h : i.val < 3 then prev (ix2 ⟨5 + i.val, by omega⟩ k) else x1 (ix2 ⟨i.val - 3, by omega⟩ k)) * x3 (ix2 0 k))

/-- The kernel's activations are these. -/
theorem act_blk (x1 : Vec Ideal S128x3072 .f32) (prev : Vec Ideal S8x3072 .f32) (x3 : Vec Ideal S4x3072 .f32) (x4 w3 w2 w1 w0 : Vec Ideal S1x3072 .f32)
    (h3 : ∀ k, w3 (ix2 0 k) = x3 (ix2 3 k)) (h2 : ∀ k, w2 (ix2 0 k) = x3 (ix2 2 k)) (h1 : ∀ k, w1 (ix2 0 k) = x3 (ix2 1 k)) (h0 : ∀ k, w0 (ix2 0 k) = x3 (ix2 0 k)) (i : Fin 128) (k : Fin 3072) :
    k0_pay97 (F := Ideal) x1 prev x4 w3 w2 w1 w0 (ix2 i k) * k0_pay99 (F := Ideal) x1 prev x4 w3 w2 w1 w0 (ix2 i k) = blkAct x1 prev x3 x4 i k := by
  rw [act_at, conv_at, h3, h2, h1, h0]
  rfl

/-- A chunk's step sizes. -/
def blkDt (x2 : Vec Ideal S128x32 .f32) (x5 : Vec Ideal S1x32 .f32) (i : Fin 128) (h : Fin 32) : EReal := softplus (x2 (ix2 i h) + x5 (ix2 0 h))

/-- The decay rates. -/
def blkRate (x6 : Vec Ideal S1x32 .f32) (h : Fin 32) : EReal := 0 - Ideal.exp (x6 (ix2 0 h))

/-- The running sums never reach infinity. -/
theorem acs_ne_top (x2 : Vec Ideal S128x32 .f32) (x5 x6 : Vec Ideal S1x32 .f32) (i : Fin 128) (h : Fin 32) : (k0_pay106 (k0_pay105 x2 x5 x6) (FloatOps.ofBits FTy.f32 0#32)) (ix2 i h) ≠ (⊤ : EReal) := by
  rw [acs_at]
  exact ne_of_lt (lt_of_le_of_lt (acs_le _ _ (fun x h => step_le _ _ (softplus_nonneg _)) i h) EReal.zero_lt_top)

/-- Nor do the step sizes, if what the softplus is taken of does not. -/
theorem dt_ne_top (x2 : Vec Ideal S128x32 .f32) (x5 : Vec Ideal S1x32 .f32) (hs : ∀ i h, x2 (ix2 i h) + x5 (ix2 0 h) < (⊤ : EReal)) (i : Fin 128) (h : Fin 32) : (k0_pay104 x2 x5) (ix2 i h) ≠ (⊤ : EReal) := by
  rw [soft_at]
  exact softplus_ne_top (hs i h)

section
variable {x0 : Vec Ideal S128x2048 .f32} {x1 : Vec Ideal S128x3072 .f32} {x2 : Vec Ideal S128x32 .f32} {x4 : Vec Ideal S1x3072 .f32} {x5 x6 : Vec Ideal S1x32 .f32}
  {x7 : Vec Ideal S1x2048 .f32} {prev : Vec Ideal S8x3072 .f32} {w3 w2 w1 w0 : Vec Ideal S1x3072 .f32} (hs : ∀ i h, x2 (ix2 i h) + x5 (ix2 0 h) < (⊤ : EReal))
  {x3 : Vec Ideal S4x3072 .f32}
include hs

/-- The output entry of a pair, in terms of the chunk's model. -/
theorem fin_y (p : Nat) {i j : Fin 128} {q : Fin 2048} {HT : Fin 128 → Fin 2048 → EReal} {ht : FVec Ideal S1x128x128 .f32}
    (hht : ∀ n, ht (ix3 0 n j) = HT n q) {lane : Fin 128 → Fin 512} (h3 : ∀ k, w3 (ix2 0 k) = x3 (ix2 3 k) := by exact fun k => ld_at _ _ _ _ _ _ _ _ rfl (Nat.zero_add _).symm) (h2 : ∀ k, w2 (ix2 0 k) = x3 (ix2 2 k) := by exact fun k => ld_at _ _ _ _ _ _ _ _ rfl (Nat.zero_add _).symm) (h1 : ∀ k, w1 (ix2 0 k) = x3 (ix2 1 k) := by exact fun k => ld_at _ _ _ _ _ _ _ _ rfl (Nat.zero_add _).symm) (h0 : ∀ k, w0 (ix2 0 k) = x3 (ix2 0 k) := by exact fun k => ld_at _ _ _ _ _ _ _ _ rfl (Nat.zero_add _).symm)
    (hq : q.val = 128 * p + j.val := by first | rfl | omega | (dsimp only; omega)) (hl : ∀ n, (lane n).val = 128 * (p / 4) + n.val := by exact fun n => by first | rfl | omega | (dsimp only; omega)) :
    yE (fun n => (k0_pay103 (k0_pay97 x1 prev x4 w3 w2 w1 w0) (k0_pay99 x1 prev x4 w3 w2 w1 w0)) (ix2 i (lane n))) (fun x n => (k0_pay102 (k0_pay97 x1 prev x4 w3 w2 w1 w0) (k0_pay99 x1 prev x4 w3 w2 w1 w0)) (ix2 x (lane n))) (fun x => (k0_pay106 (k0_pay105 x2 x5 x6) (FloatOps.ofBits FTy.f32 0#32)) (ix2 x (hdOf q))) (fun x => (k0_pay112 (k0_pay101 (k0_pay97 x1 prev x4 w3 w2 w1 w0) (k0_pay99 x1 prev x4 w3 w2 w1 w0)) (k0_pay104 x2 x5) k0_pay108 k0_pay109) (ix2 x q))
      (fun n => ht (ix3 0 n j)) ((k0_pay114 (k0_pay106 (k0_pay105 x2 x5 x6) (FloatOps.ofBits FTy.f32 0#32)) k0_pay108) (ix2 i q)) ((k0_pay116 (k0_pay101 (k0_pay97 x1 prev x4 w3 w2 w1 w0) (k0_pay99 x1 prev x4 w3 w2 w1 w0)) x7) (ix2 i q)) ((k0_pay117 x0) (ix2 i q)) i
      = yC (blkAct x1 prev x3 x4) (blkDt x2 x5) (blkRate x6) HT (fun i q => x0 (ix2 i q)) (fun q => x7 (ix2 0 q)) i q := by
  have hp : q.val / 512 = p / 4 := by omega
  refine yE_congr (fun n => ?_) (fun x n => ?_) (fun x => ?_) (fun x => ?_) hht ?_ ?_ ?_ rfl
  · refine (cm_at _ _ _ _).trans ?_
    rw [show (⟨2560 + (lane n).val, by omega⟩ : Fin 3072) = cmCol q n from Fin.ext (by show 2560 + (lane n).val = 2560 + (128 * (q.val / 512) + n.val); rw [hl, hp])]
    exact act_blk _ _ _ _ _ _ _ _ h3 h2 h1 h0 _ _
  · refine (bm_at _ _ _ _).trans ?_
    rw [show (⟨2048 + (lane n).val, by omega⟩ : Fin 3072) = bmCol q n from Fin.ext (by show 2048 + (lane n).val = 2048 + (128 * (q.val / 512) + n.val); rw [hl, hp])]
    exact act_blk _ _ _ _ _ _ _ _ h3 h2 h1 h0 _ _
  · exact acs_at _ _ _ _ _
  · refine (xr_at _ _ (dt_ne_top x2 x5 hs) _ _).trans ?_
    rw [soft_at, xs_at, act_blk _ _ _ _ _ _ _ _ h3 h2 h1 h0]
    rfl
  · rw [grow_at _ (acs_ne_top x2 x5 x6), acs_at]
    rfl
  · rw [skip_at, xs_at, act_blk _ _ _ _ _ _ _ _ h3 h2 h1 h0]
    rfl
  · exact gate_at _ _ _

/-- The state entry of a pair, in terms of the chunk's model. -/
theorem fin_h (p : Nat) {n j : Fin 128} {q : Fin 2048} {HT : Fin 128 → Fin 2048 → EReal} {ht : FVec Ideal S1x128x128 .f32}
    (hht : ht (ix3 0 n j) = HT n q) {lane : Fin 512} (h3 : ∀ k, w3 (ix2 0 k) = x3 (ix2 3 k) := by exact fun k => ld_at _ _ _ _ _ _ _ _ rfl (Nat.zero_add _).symm) (h2 : ∀ k, w2 (ix2 0 k) = x3 (ix2 2 k) := by exact fun k => ld_at _ _ _ _ _ _ _ _ rfl (Nat.zero_add _).symm) (h1 : ∀ k, w1 (ix2 0 k) = x3 (ix2 1 k) := by exact fun k => ld_at _ _ _ _ _ _ _ _ rfl (Nat.zero_add _).symm) (h0 : ∀ k, w0 (ix2 0 k) = x3 (ix2 0 k) := by exact fun k => ld_at _ _ _ _ _ _ _ _ rfl (Nat.zero_add _).symm)
    (hq : q.val = 128 * p + j.val := by first | rfl | omega | (dsimp only; omega)) (hl : lane.val = 128 * (p / 4) + n.val := by first | rfl | omega | (dsimp only; omega)) :
    hE (ht (ix3 0 n j)) ((k0_pay115 (k0_pay106 (k0_pay105 x2 x5 x6) (FloatOps.ofBits FTy.f32 0#32)) k0_pay108) (ix2 0 q)) (fun x => (k0_pay102 (k0_pay97 x1 prev x4 w3 w2 w1 w0) (k0_pay99 x1 prev x4 w3 w2 w1 w0)) (ix2 x lane)) (fun x => (k0_pay113 (k0_pay101 (k0_pay97 x1 prev x4 w3 w2 w1 w0) (k0_pay99 x1 prev x4 w3 w2 w1 w0)) (k0_pay104 x2 x5) (k0_pay106 (k0_pay105 x2 x5 x6) (FloatOps.ofBits FTy.f32 0#32)) k0_pay108 k0_pay109) (ix2 x q))
      = hC (blkAct x1 prev x3 x4) (blkDt x2 x5) (blkRate x6) HT n q := by
  have hp : q.val / 512 = p / 4 := by omega
  refine hE_congr hht ?_ (fun x => ?_) (fun x => ?_)
  · rw [decay_at _ (acs_ne_top x2 x5 x6), acs_at]
    rfl
  · refine (bm_at _ _ _ _).trans ?_
    rw [show (⟨2048 + lane.val, by omega⟩ : Fin 3072) = bmCol q n from Fin.ext (by show 2048 + lane.val = 2048 + (128 * (q.val / 512) + n.val); rw [hl, hp])]
    exact act_blk _ _ _ _ _ _ _ _ h3 h2 h1 h0 _ _
  · refine (xw_at _ _ _ (dt_ne_top x2 x5 hs) (acs_ne_top x2 x5 x6) _ _).trans ?_
    rw [soft_at, xs_at, acs_at, acs_at, act_blk _ _ _ _ _ _ _ _ h3 h2 h1 h0]
    rfl

end

/-- A number below `n` is an index's. -/
theorem fin_of {k n : Nat} (h : k < n) : ∃ j : Fin n, k = j.val := ⟨⟨k, h⟩, rfl⟩

/-- An index whose number is known. -/
theorem at_val {n : Nat} (q : Fin n) (k : Nat) (h : q.val = k := by omega) : ∃ hk : k < n, q = ⟨k, hk⟩ := ⟨h ▸ q.isLt, Fin.ext h⟩

/-- A pair's place in a matrix. -/
theorem pt2 {m n : Nat} (y : (⟨2, ![m, n]⟩ : Shape).Idx) (i : Fin m) (j : Fin n) (h0 : (y 0).val = i.val) (h1 : (y 1).val = j.val) : y = ix2 i j :=
  funext fun a => by
    match a with
    | ⟨0, _⟩ => exact Fin.ext h0
    | ⟨1, _⟩ => exact Fin.ext h1

/-- An entry's place in a stack of one matrix. -/
theorem pt3 {m n : Nat} (y : (⟨3, ![1, m, n]⟩ : Shape).Idx) (i : Fin m) (j : Fin n) (h1 : (y 1).val = i.val) (h2 : (y 2).val = j.val) : y = ix3 0 i j :=
  funext fun a => by
    match a with
    | ⟨0, _⟩ => exact Subsingleton.elim (α := Fin 1) _ _
    | ⟨1, _⟩ => exact Fin.ext h1
    | ⟨2, _⟩ => exact Fin.ext h2

/-- An entry's place in the stack of the pairs' states. -/
theorem pt3g (y y' : S16x128x128.Idx) (h0 : (y 0).val = (y' 0).val := by dsimp; omega) (h1 : (y 1).val = (y' 1).val := by dsimp; omega) (h2 : (y 2).val = (y' 2).val := by dsimp; omega) : y = y' :=
  funext fun a => by
    match a with
    | ⟨0, _⟩ => exact Fin.ext h0
    | ⟨1, _⟩ => exact Fin.ext h1
    | ⟨2, _⟩ => exact Fin.ext h2

/-- An entry's place in a head's state. -/
theorem pt4 (y : S1x1x64x128.Idx) (j : Fin 64) (n : Fin 128) (h2 : (y 2).val = j.val) (h3 : (y 3).val = n.val) : y = ix4 0 0 j n :=
  funext fun a => by
    match a with
    | ⟨0, _⟩ => exact Subsingleton.elim (α := Fin 1) _ _
    | ⟨1, _⟩ => exact Subsingleton.elim (α := Fin 1) _ _
    | ⟨2, _⟩ => exact Fin.ext h2
    | ⟨3, _⟩ => exact Fin.ext h3

end Cert.Kernel10Ideal.Value
end
-- ==== Proof.SsdArgs.lean ====
module

public import proofs.«01_k».proof.Proof.Rows
public import proofs.«01_k».proof.Proof.SsdModel

@[expose] public section
noncomputable section
open Idealize.ShloMosaic

/-! The recurrence's arguments, read by row and column. -/
namespace Cert.Ssd
open Cert.Rows

/-- A row of an array of 16384 rows. -/
def rowF {n : Nat} (a : FVec Ideal (⟨2, ![16384, n]⟩ : Shape) .f32) (r : Nat) (k : Fin n) : EReal := a (ix2 ⟨r % 16384, Nat.mod_lt _ (by decide)⟩ k)

/-- The entry of a vector. -/
def vecF {n : Nat} (a : FVec Ideal (⟨1, ![n]⟩ : Shape) .f32) (k : Fin n) : EReal := a (ix1 k)

/-- The entry of the convolution's weight. -/
def tapF (a : FVec Ideal (⟨2, ![4, 3072]⟩ : Shape) .f32) (j : Fin 4) (k : Fin 3072) : EReal := a (ix2 j k)

/-- A row within the array is that row. -/
theorem rowF_eq {n : Nat} (a : FVec Ideal (⟨2, ![16384, n]⟩ : Shape) .f32) (r : Nat) (hr : r < 16384) (k : Fin n) : rowF a r k = a (ix2 ⟨r, hr⟩ k) :=
  congrArg (fun q => a (ix2 q k)) (Fin.ext (Nat.mod_eq_of_lt hr))

section
variable (z : FVec Ideal (⟨2, ![16384, 2048]⟩ : Shape) .f32) (x : FVec Ideal (⟨2, ![16384, 3072]⟩ : Shape) .f32) (dt : FVec Ideal (⟨2, ![16384, 32]⟩ : Shape) .f32)
  (w : FVec Ideal (⟨2, ![4, 3072]⟩ : Shape) .f32) (cb : FVec Ideal (⟨1, ![3072]⟩ : Shape) .f32) (db al ds : FVec Ideal (⟨1, ![32]⟩ : Shape) .f32)

/-- The state chunk `t` leaves, of the arguments. -/
def leaveA (t : Nat) : Fin 128 → Fin 2048 → EReal := leave (rowF x) (tapF w) (vecF cb) (rowF dt) (vecF db) (vecF al) t

/-- The state chunk `t` enters with, of the arguments. -/
def enterA (t : Nat) : Fin 128 → Fin 2048 → EReal := enter (rowF x) (tapF w) (vecF cb) (rowF dt) (vecF db) (vecF al) t

/-- The output, of the arguments. -/
def outA (t : Nat) (i : Fin 128) (q : Fin 2048) : EReal :=
  yW (rowF x) (tapF w) (vecF cb) (rowF dt) (vecF db) (vecF al) (rowF z) (fun q => vecF ds (hdOf q)) t i q

end

end Cert.Ssd
end
-- ==== Proof.SsdBlocks.lean ====
module

public import proofs.«01_k».proof.Proof.Gen.Kernel10Ideal.Value
public import proofs.«01_k».proof.Proof.Rows
public import proofs.«01_k».proof.Proof.SsdFin
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The blocks the recurrence reads, in the argument arrays. -/
namespace Cert.Kernel10Ideal.Value
open Cert.Kernel10Ideal Cert.Kernel10Ideal.Gen Cert.Rows Cert.Ssd

variable (m : (ℓ : Loc nD τ sig) → Buf (Elt Ideal) ℓ)

/-- The block indices of the windows at every grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![t.val / 64, 0, 0] ∧ win0_9.index t = ![t.val / 64, 0, 0, 0] ∧ win0_10.index t = ![t.val, 0] ∧ win0_11.index t = ![t.val / 64, 0, 0, 0] ∧ t.val < 128 :=
  (by decide +kernel : ∀ t : Fin grid0.N, _)

/-- The host's operations before the region, stretch after stretch. -/
theorem V_split (c : Dev nD) (b : Ref sig .tc) : V m c b = StableHlo.after hostOps0_2 (StableHlo.after hostOps0_1 (StableHlo.after hostOps0 (fun b => m (c, b)))) b := by
  show StableHlo.after (hostOps0 ++ (hostOps0_1 ++ (hostOps0_2 ++ []))) _ _ = _
  rw [StableHlo.after_append, StableHlo.after_append, StableHlo.after_append, StableHlo.after_nil]

/-- Where block 0 of point `t` lies in its array. -/
theorem emb0 (t : Fin cfg0.N) (i : Fin 128) (a : Fin 2048) (h : t.val < 128) :
    (((cfg0.win 0).blk t).view.emb (ix2 i a : S128x2048.Idx) : S16384x2048.Idx) = ix2 ⟨t.val * 128 + i.val, by omega⟩ a := by
  blk_ext [idx t]

/-- Block 0 of point `t`, read in the argument array. -/
theorem blk0 (c : Dev nD) (t : Fin cfg0.N) (i : Fin 128) (a : Fin 2048) (h : t.val < 128) : (show FVec Ideal S128x2048 .f32 from iblk m c 0 t) (ix2 i a)
    = (show FVec Ideal S16384x2048 .f32 from m ((c : Thread nD τ).loc main_arg0)) (ix2 ⟨t.val * 128 + i.val, by omega⟩ a) := by
  refine (congrArg (V m c main_arg0) (emb0 t i a h)).trans (congrFun (?_ : V m c main_arg0 = _) _)
  rw [V_split]
  after_results

/-- Where block 1 of point `t` lies in its array. -/
theorem emb1 (t : Fin cfg0.N) (i : Fin 128) (a : Fin 3072) (h : t.val < 128) :
    (((cfg0.win 1).blk t).view.emb (ix2 i a : S128x3072.Idx) : S16384x3072.Idx) = ix2 ⟨t.val * 128 + i.val, by omega⟩ a := by
  blk_ext [idx t]

/-- Block 1 of point `t`, read in the argument array. -/
theorem blk1 (c : Dev nD) (t : Fin cfg0.N) (i : Fin 128) (a : Fin 3072) (h : t.val < 128) : (show FVec Ideal S128x3072 .f32 from iblk m c 1 t) (ix2 i a)
    = (show FVec Ideal S16384x3072 .f32 from m ((c : Thread nD τ).loc main_arg1)) (ix2 ⟨t.val * 128 + i.val, by omega⟩ a) := by
  refine (congrArg (V m c main_arg1) (emb1 t i a h)).trans (congrFun (?_ : V m c main_arg1 = _) _)
  rw [V_split]
  after_results

/-- Where block 2 of point `t` lies in its array. -/
theorem emb2 (t : Fin cfg0.N) (i : Fin 128) (a : Fin 32) (h : t.val < 128) :
    (((cfg0.win 2).blk t).view.emb (ix2 i a : S128x32.Idx) : S16384x32.Idx) = ix2 ⟨t.val * 128 + i.val, by omega⟩ a := by
  blk_ext [idx t]

/-- Block 2 of point `t`, read in the argument array. -/
theorem blk2 (c : Dev nD) (t : Fin cfg0.N) (i : Fin 128) (a : Fin 32) (h : t.val < 128) : (show FVec Ideal S128x32 .f32 from iblk m c 2 t) (ix2 i a)
    = (show FVec Ideal S16384x32 .f32 from m ((c : Thread nD τ).loc main_arg2)) (ix2 ⟨t.val * 128 + i.val, by omega⟩ a) := by
  refine (congrArg (V m c main_arg2) (emb2 t i a h)).trans (congrFun (?_ : V m c main_arg2 = _) _)
  rw [V_split]
  after_results

/-- Where block 10 of point `t` lies in its array. -/
theorem emb10 (t : Fin cfg0.N) (i : Fin 128) (a : Fin 2048) (h : t.val < 128) :
    (((cfg0.win 10).blk t).view.emb (ix2 i a : S128x2048.Idx) : S16384x2048.Idx) = ix2 ⟨t.val * 128 + i.val, by omega⟩ a := by
  blk_ext [idx t]

/-- Where block 3 of point `t` lies in its array. -/
theorem emb3 (t : Fin cfg0.N) (j : Fin 4) (a : Fin 3072) :
    (((cfg0.win 3).blk t).view.emb (ix2 j a : S4x3072.Idx) : S4x3072.Idx) = ix2 j a := by
  blk_ext [idx t]

/-- Block 3 of point `t`, read in the argument array. -/
theorem blk3 (c : Dev nD) (t : Fin cfg0.N) (j : Fin 4) (a : Fin 3072) : (show FVec Ideal S4x3072 .f32 from iblk m c 3 t) (ix2 j a)
    = (show FVec Ideal S4x3072 .f32 from m ((c : Thread nD τ).loc main_arg3)) (ix2 j a) := by
  refine (congrArg (V m c main_arg3) (emb3 t j a)).trans (congrFun (?_ : V m c main_arg3 = _) _)
  rw [V_split]
  after_results

/-- Where block 4 of point `t` lies in its array. -/
theorem emb4 (t : Fin cfg0.N) (a : Fin 3072) :
    (((cfg0.win 4).blk t).view.emb (ix2 0 a : S1x3072.Idx) : S1x3072.Idx) = ix2 0 a := by
  blk_ext [idx t]

/-- What window 4 reads: argument 4 as a row. -/
theorem V_4 (c : Dev nD) : (show FVec Ideal S1x3072 .f32 from V m c main_v6) = shapeCast _ (show FVec Ideal S3072 .f32 from m ((c : Thread nD τ).loc main_arg4)) shapeCasts_S3072_S1x3072 := by
  show V m c main_v6 = _
  rw [V_split]
  after_results
  rfl

/-- Block 4 of point `t`, read in the argument array. -/
theorem blk4 (c : Dev nD) (t : Fin cfg0.N) (a : Fin 3072) : (show FVec Ideal S1x3072 .f32 from iblk m c 4 t) (ix2 0 a)
    = (show FVec Ideal S3072 .f32 from m ((c : Thread nD τ).loc main_arg4)) (ix1 a) := by
  refine (congrArg (V m c main_v6) (emb4 t a)).trans ((congrFun (V_4 m c) _).trans ?_)
  pointwise

/-- Where block 5 of point `t` lies in its array. -/
theorem emb5 (t : Fin cfg0.N) (a : Fin 32) :
    (((cfg0.win 5).blk t).view.emb (ix2 0 a : S1x32.Idx) : S1x32.Idx) = ix2 0 a := by
  blk_ext [idx t]

/-- What window 5 reads: argument 5 as a row. -/
theorem V_5 (c : Dev nD) : (show FVec Ideal S1x32 .f32 from V m c main_v7) = shapeCast _ (show FVec Ideal S32 .f32 from m ((c : Thread nD τ).loc main_arg5)) shapeCasts_S32_S1x32 := by
  show V m c main_v7 = _
  rw [V_split]
  after_results
  rfl

/-- Block 5 of point `t`, read in the argument array. -/
theorem blk5 (c : Dev nD) (t : Fin cfg0.N) (a : Fin 32) : (show FVec Ideal S1x32 .f32 from iblk m c 5 t) (ix2 0 a)
    = (show FVec Ideal S32 .f32 from m ((c : Thread nD τ).loc main_arg5)) (ix1 a) := by
  refine (congrArg (V m c main_v7) (emb5 t a)).trans ((congrFun (V_5 m c) _).trans ?_)
  pointwise

/-- Where block 6 of point `t` lies in its array. -/
theorem emb6 (t : Fin cfg0.N) (a : Fin 32) :
    (((cfg0.win 6).blk t).view.emb (ix2 0 a : S1x32.Idx) : S1x32.Idx) = ix2 0 a := by
  blk_ext [idx t]

/-- What window 6 reads: argument 6 as a row. -/
theorem V_6 (c : Dev nD) : (show FVec Ideal S1x32 .f32 from V m c main_v8) = shapeCast _ (show FVec Ideal S32 .f32 from m ((c : Thread nD τ).loc main_arg6)) shapeCasts_S32_S1x32 := by
  show V m c main_v8 = _
  rw [V_split]
  after_results
  rfl

/-- Block 6 of point `t`, read in the argument array. -/
theorem blk6 (c : Dev nD) (t : Fin cfg0.N) (a : Fin 32) : (show FVec Ideal S1x32 .f32 from iblk m c 6 t) (ix2 0 a)
    = (show FVec Ideal S32 .f32 from m ((c : Thread nD τ).loc main_arg6)) (ix1 a) := by
  refine (congrArg (V m c main_v8) (emb6 t a)).trans ((congrFun (V_6 m c) _).trans ?_)
  pointwise

/-- Where block 7 of point `t` lies in its array. -/
theorem emb7 (t : Fin cfg0.N) (a : Fin 2048) :
    (((cfg0.win 7).blk t).view.emb (ix2 0 a : S1x2048.Idx) : S1x2048.Idx) = ix2 0 a := by
  blk_ext [idx t]

/-- What window 7 reads: argument 7, every head's value over its 64 columns. -/
theorem V_7 (c : Dev nD) : (show FVec Ideal S1x2048 .f32 from V m c main_v5) = shapeCast _ (shapeCast S2048 (broadcastInDim S32x64 ![0] bcast_S32_S32x64_0 (show FVec Ideal S32 .f32 from m ((c : Thread nD τ).loc main_arg7))) shapeCasts_S32x64_S2048) shapeCasts_S2048_S1x2048 := by
  show V m c main_v5 = _
  rw [V_split]
  after_results
  rfl

/-- Block 7 of point `t`, read in the argument array. -/
theorem blk7 (c : Dev nD) (t : Fin cfg0.N) (a : Fin 2048) : (show FVec Ideal S1x2048 .f32 from iblk m c 7 t) (ix2 0 a)
    = (show FVec Ideal S32 .f32 from m ((c : Thread nD τ).loc main_arg7)) (ix1 (hdOf a)) := by
  refine (congrArg (V m c main_v5) (emb7 t a)).trans ((congrFun (V_7 m c) _).trans ?_)
  pointwise [hdOf]

/-- What window 8 reads: zeros. -/
theorem V_8 (c : Dev nD) : (show FVec Ideal S2x8x3072 .f32 from V m c main_v2) = pad S2x8x3072 ![0, 5, 0] ![0, 0, 0] ![0, 0, 0] (broadcastInDim S2x3x3072 ![] bcast_S_S2x3x3072 (constant S_ .f32 0x00000000#32)) (sitofp (F := Ideal) .f32 (constantI S_ 32 0#32)) pads_S2x3x3072_S2x8x3072_000_500_000 h_S_ := by
  show V m c main_v2 = _
  rw [V_split]
  after_results
  rfl

/-- Where block 8 of point `t` lies in its array. -/
theorem emb8 (t : Fin cfg0.N) (i : Fin 8) (a : Fin 3072) (h : t.val < 128) :
    (((cfg0.win 8).blk t).view.emb (ix3 0 i a : S1x8x3072.Idx) : S2x8x3072.Idx) = ix3 ⟨t.val / 64, by omega⟩ i a := by
  blk_ext [idx t]

/-- Block 8 of point `t` holds zeros. -/
theorem blk8 (c : Dev nD) (t : Fin cfg0.N) (i : Fin 8) (a : Fin 3072) (h : t.val < 128) : (show FVec Ideal S1x8x3072 .f32 from iblk m c 8 t) (ix3 0 i a) = (0 : EReal) := by
  refine (congrArg (V m c main_v2) (emb8 t i a h)).trans ((congrFun (V_8 m c) _).trans ?_)
  pointwise
  all_goals try simp
  exact fun _ => by show (((0#32 : BitVec 32).toInt : ℝ) : EReal) = 0; simp

/-- Block 9 of point `t` holds zeros. -/
theorem blk9 (c : Dev nD) (t : Fin cfg0.N) (y : S1x32x64x128.Idx) : (show FVec Ideal S1x32x64x128 .f32 from iblk m c 9 t) y = (0 : EReal) := by
  refine (congrFun (?_ : V m c main_v1 = broadcastInDim S2x32x64x128 ![] bcast_S_S2x32x64x128 (constant (F := Ideal) S_ .f32 0x00000000#32)) _).trans ?_
  · rw [V_split]
    after_results
  · pointwise

/-- Where block 11 of point `t` lies in its array. -/
theorem emb11 (t : Fin cfg0.N) (i : Fin 32) (j : Fin 64) (n : Fin 128) (h : t.val < 128) :
    (((cfg0.win 11).blk t).view.emb (ix4 0 i j n : S1x32x64x128.Idx) : S2x32x64x128.Idx) = ix4 ⟨t.val / 64, by omega⟩ i j n := by
  blk_ext [idx t]

end Cert.Kernel10Ideal.Value
end
-- ==== Proof.SsdCarry.lean ====
module

public import proofs.«01_k».proof.Proof.Gen.Kernel10Ideal.Value
public import proofs.«01_k».proof.Proof.Rows
public import proofs.«01_k».proof.Proof.SsdFin
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The rows a chunk hands to the next one. -/
namespace Cert.Kernel10Ideal.Value
open Cert.Kernel10Ideal Cert.Kernel10Ideal.Gen Cert.Rows Cert.Ssd

set_option maxHeartbeats 4000000 in
/-- The rows the body carries to the next chunk: its input's last eight. -/
theorem carryA (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32)  : sout0_A_0 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay98 x1 := by
  unfold sout0_A_0
  frame_out

set_option maxHeartbeats 4000000 in
/-- The rows the body carries to the next chunk: its input's last eight. -/
theorem carryB (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  : sout0_B_0 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay98 x1 := by
  unfold sout0_B_0
  frame_out

set_option maxHeartbeats 4000000 in
/-- The rows the body carries to the next chunk: its input's last eight. -/
theorem carryC (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  : sout0_C_0 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay98 x1 := by
  unfold sout0_C_0
  frame_out

/-- The rows carried into a batch's first chunk. -/
theorem pay6_at (x : Vec Ideal S1x8x3072 .f32) (i : Fin 8) (k : Fin 3072) : k0_pay6 (F := Ideal) x (ix2 i k) = x (ix3 0 i k) := by
  pointwise [k0_pay6]

end Cert.Kernel10Ideal.Value
end
-- ==== Proof.SsdChunk.lean ====
module

public import proofs.«01_k».proof.Proof.Gen.Kernel10Ideal.Value
public import proofs.«01_k».proof.Proof.Rows
public import proofs.«01_k».proof.Proof.SsdFin
public import proofs.«01_k».proof.Proof.SsdArgs
public import proofs.«01_k».proof.Proof.SsdBlocks
public import proofs.«01_k».proof.Proof.SsdCarry
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! A chunk of the kernel computes a chunk of the model. -/
namespace Cert.Kernel10Ideal.Value
open Cert.Kernel10Ideal Cert.Kernel10Ideal.Gen Cert.Rows Cert.Ssd

variable (m : (ℓ : Loc nD τ sig) → Buf (Elt Ideal) ℓ)

/-- The activations of a chunk, given the rows before it. -/
theorem blkAct_eq (X : Nat → Fin 3072 → EReal) (w : Fin 4 → Fin 3072 → EReal) (cb : Fin 3072 → EReal) (t : Nat) (x1 : Vec Ideal S128x3072 .f32) (prev : Vec Ideal S8x3072 .f32) (x3 : Vec Ideal S4x3072 .f32) (x4 : Vec Ideal S1x3072 .f32)
    (hx : ∀ i k, x1 (ix2 i k) = X (128 * t + i.val) k) (hp : ∀ a k, prev (ix2 a k) = if t % 64 = 0 then 0 else X (128 * t - 8 + a.val) k)
    (hw : ∀ j k, x3 (ix2 j k) = w j k) (hb : ∀ k, x4 (ix2 0 k) = cb k) : blkAct x1 prev x3 x4 = actW X w cb t := by
  have back_eq : ∀ (j : Nat) (hj : j ≤ 3) (hj0 : 1 ≤ j) (i : Fin 128) (k : Fin 3072) (p : Fin 8) (hp' : i.val < j → p.val = 8 - j + i.val) (r : Fin 128) (hr : ¬ i.val < j → r.val = i.val - j),
      (if i.val < j then prev (ix2 p k) else x1 (ix2 r k)) = back X j (128 * t + i.val) k := by
    intro j hj hj0 i k p hp' r hr
    unfold back
    by_cases h : i.val < j
    · rw [if_pos h, hp]
      by_cases h0 : t % 64 = 0
      · rw [if_pos h0, if_pos (by omega)]
      · rw [if_neg h0, if_neg (by omega)]
        exact congrArg (fun r => X r k) (by have := hp' h; omega)
    · rw [if_neg h, hx, if_neg (by omega)]
      exact congrArg (fun r => X r k) (by have := hr h; omega)
  funext i k
  unfold blkAct actW conv
  rw [hb, hx, hw, hw, hw, hw]
  refine congrArg silu (congrArg₂ (· + ·) (congrArg₂ (· + ·) (congrArg₂ (· + ·) rfl (congrArg (· * w 2 k) ?_)) (congrArg (· * w 1 k) ?_)) (congrArg (· * w 0 k) ?_))
  · by_cases h : i.val < 1
    · rw [dif_pos h, ← back_eq 1 (by omega) (by omega) i k ⟨7 + i.val, by omega⟩ (fun _ => by dsimp only) 0 (fun e => absurd h e), if_pos h]
    · rw [dif_neg h, ← back_eq 1 (by omega) (by omega) i k 0 (fun e => absurd e h) ⟨i.val - 1, by omega⟩ (fun _ => rfl), if_neg h]
  · by_cases h : i.val < 2
    · rw [dif_pos h, ← back_eq 2 (by omega) (by omega) i k ⟨6 + i.val, by omega⟩ (fun _ => by dsimp only) 0 (fun e => absurd h e), if_pos h]
    · rw [dif_neg h, ← back_eq 2 (by omega) (by omega) i k 0 (fun e => absurd e h) ⟨i.val - 2, by omega⟩ (fun _ => rfl), if_neg h]
  · by_cases h : i.val < 3
    · rw [dif_pos h, ← back_eq 3 (by omega) (by omega) i k ⟨5 + i.val, by omega⟩ (fun _ => by dsimp only) 0 (fun e => absurd h e), if_pos h]
    · rw [dif_neg h, ← back_eq 3 (by omega) (by omega) i k 0 (fun e => absurd e h) ⟨i.val - 3, by omega⟩ (fun _ => rfl), if_neg h]

section
variable (c : Dev nD)

/-- The region's arguments. -/
abbrev a0 : FVec Ideal S16384x2048 .f32 := m ((c : Thread nD τ).loc main_arg0)
/-- The convolution's input. -/
abbrev a1 : FVec Ideal S16384x3072 .f32 := m ((c : Thread nD τ).loc main_arg1)
/-- The step sizes before their bias. -/
abbrev a2 : FVec Ideal S16384x32 .f32 := m ((c : Thread nD τ).loc main_arg2)
/-- The convolution's weight. -/
abbrev a3 : FVec Ideal S4x3072 .f32 := m ((c : Thread nD τ).loc main_arg3)
/-- The convolution's bias. -/
abbrev a4 : FVec Ideal S3072 .f32 := m ((c : Thread nD τ).loc main_arg4)
/-- The step sizes' bias. -/
abbrev a5 : FVec Ideal S32 .f32 := m ((c : Thread nD τ).loc main_arg5)
/-- The logarithms of the decay rates. -/
abbrev a6 : FVec Ideal S32 .f32 := m ((c : Thread nD τ).loc main_arg6)
/-- The skip weights. -/
abbrev a7 : FVec Ideal S32 .f32 := m ((c : Thread nD τ).loc main_arg7)

/-- The state chunk `t` leaves. -/
abbrev leaveK (t : Nat) := leaveA (a1 m c) (a2 m c) (a3 m c) (a4 m c) (a5 m c) (a6 m c) t
/-- The output. -/
abbrev outK (t : Nat) := outA (a0 m c) (a1 m c) (a2 m c) (a3 m c) (a4 m c) (a5 m c) (a6 m c) (a7 m c) t

/-- What the carried buffers hold after chunk `n`: the input's last eight rows and the state. -/
def Inv (n : Nat) (hn : n < cfg0.N) : Prop :=
  (∀ (a : Fin 8) (k : Fin 3072), (outsAt0 m c n hn).2.2.1 (ix2 a k) = rowF (a1 m c) (128 * n + 120 + a.val) k)
  ∧ ∀ (i : Fin 128) (q : Fin 2048) (s : S16x128x128.Idx), (s 1).val = i.val → 128 * (s 0).val + (s 2).val = q.val → (outsAt0 m c n hn).2.2.2 s = leaveK m c n i q

variable (hpre : ∀ (r : Fin 16384) (h : Fin 32), a2 m c (ix2 r h) + a5 m c (ix1 h) < (⊤ : EReal))

/-- Block 1 of a chunk holds its rows. -/
theorem row1 (t : Fin cfg0.N) (i : Fin 128) (k : Fin 3072) : (show FVec Ideal S128x3072 .f32 from iblk m c 1 t) (ix2 i k) = rowF (a1 m c) (128 * t.val + i.val) k := by
  have ht := (idx t).2.2.2.2.2.2.2.2.2.2.2.2
  rw [blk1 m c t i k ht, rowF_eq _ _ (by omega)]
  exact congrArg (fun r => a1 m c (ix2 r k)) (Fin.ext (by show t.val * 128 + i.val = _; dsimp only; omega))

/-- Block 0 of a chunk holds its rows. -/
theorem row0 (t : Fin cfg0.N) : (fun i q => (show FVec Ideal S128x2048 .f32 from iblk m c 0 t) (ix2 i q)) = fun (i : Fin 128) q => rowF (a0 m c) (128 * t.val + i.val) q := by
  funext i k
  have ht := (idx t).2.2.2.2.2.2.2.2.2.2.2.2
  rw [blk0 m c t i k ht, rowF_eq _ _ (by omega)]
  exact congrArg (fun r => a0 m c (ix2 r k)) (Fin.ext (by show t.val * 128 + i.val = _; dsimp only; omega))

/-- The chunk's step sizes. -/
theorem dt_eq (t : Fin cfg0.N) : blkDt (iblk m c 2 t) (iblk m c 5 t) = dtW (rowF (a2 m c)) (vecF (a5 m c)) t.val := by
  funext i h
  have ht := (idx t).2.2.2.2.2.2.2.2.2.2.2.2
  unfold blkDt dtW
  refine congrArg softplus (congrArg₂ (· + ·) ((blk2 m c t i h ht).trans ?_) (blk5 m c t h))
  rw [rowF_eq _ _ (by omega)]
  exact congrArg (fun r => a2 m c (ix2 r h)) (Fin.ext (by show t.val * 128 + i.val = _; dsimp only; omega))

/-- The decay rates. -/
theorem rate_eq (t : Fin cfg0.N) : blkRate (iblk m c 6 t) = rateW (vecF (a6 m c)) := by
  funext h
  exact congrArg (fun v => 0 - Ideal.exp v) (blk6 m c t h)

/-- The chunk's activations, given the rows before it. -/
theorem act_eq (t : Fin cfg0.N) (prev : Vec Ideal S8x3072 .f32) (hp : ∀ a k, prev (ix2 a k) = if t.val % 64 = 0 then 0 else rowF (a1 m c) (128 * t.val - 8 + a.val) k) :
    blkAct (iblk m c 1 t) prev (iblk m c 3 t) (iblk m c 4 t) = actW (rowF (a1 m c)) (tapF (a3 m c)) (vecF (a4 m c)) t.val :=
  blkAct_eq _ _ _ _ _ _ _ _ (fun i k => row1 m c t i k) hp (fun j k => blk3 m c t j k) (fun k => blk4 m c t k)

/-- The skip weights, by column. -/
theorem skip_eq (t : Fin cfg0.N) : (fun q => (show FVec Ideal S1x2048 .f32 from iblk m c 7 t) (ix2 0 q)) = fun q => vecF (a7 m c) (hdOf q) :=
  funext fun q => blk7 m c t q

include hpre in
/-- What the softplus is taken of lies below infinity. -/
theorem pre_blk (t : Fin cfg0.N) (i : Fin 128) (h : Fin 32) : (show FVec Ideal S128x32 .f32 from iblk m c 2 t) (ix2 i h) + (show FVec Ideal S1x32 .f32 from iblk m c 5 t) (ix2 0 h) < (⊤ : EReal) := by
  have ht := (idx t).2.2.2.2.2.2.2.2.2.2.2.2
  rw [blk2 m c t i h ht, blk5 m c t h]
  exact hpre _ h

end

end Cert.Kernel10Ideal.Value
end
-- ==== Proof.SsdInit.lean ====
module

public import proofs.«01_k».proof.Proof.Gen.Kernel10Ideal.Value
public import proofs.«01_k».proof.Proof.Rows
public import proofs.«01_k».proof.Proof.SsdFin
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The state a batch starts from, pair by pair. -/
namespace Cert.Kernel10Ideal.Value
open Cert.Kernel10Ideal Cert.Kernel10Ideal.Gen Cert.Rows Cert.Ssd

/-- Heads 0 and 1 start from zero when the entering state is zero. -/
theorem init0 (a b : Vec Ideal S1x1x64x128 .f32) (ha : ∀ y, a y = (0 : EReal)) (hb : ∀ y, b y = (0 : EReal)) (n j : Fin 128) : k0_pay7 (F := Ideal) a b (ix3 0 n j) = (0 : EReal) := by
  pointwise [k0_pay7]
  by_cases h : j.val < 64 <;> simp [h, ha, hb]

/-- Heads 2 and 3 start from zero when the entering state is zero. -/
theorem init1 (a b : Vec Ideal S1x1x64x128 .f32) (ha : ∀ y, a y = (0 : EReal)) (hb : ∀ y, b y = (0 : EReal)) (n j : Fin 128) : k0_pay11 (F := Ideal) (k0_pay8 a) (k0_pay9 b) k0_pay10 (ix3 0 n j) = (0 : EReal) := by
  pointwise [k0_pay8, k0_pay9, k0_pay10, k0_pay11]
  by_cases h : j.val < 64 <;> simp [h, ha, hb]

/-- Heads 4 and 5 start from zero when the entering state is zero. -/
theorem init2 (a b : Vec Ideal S1x1x64x128 .f32) (ha : ∀ y, a y = (0 : EReal)) (hb : ∀ y, b y = (0 : EReal)) (n j : Fin 128) : k0_pay12 (F := Ideal) a b (ix3 0 n j) = (0 : EReal) := by
  pointwise [k0_pay12]
  by_cases h : j.val < 64 <;> simp [h, ha, hb]

/-- Heads 6 and 7 start from zero when the entering state is zero. -/
theorem init3 (a b : Vec Ideal S1x1x64x128 .f32) (ha : ∀ y, a y = (0 : EReal)) (hb : ∀ y, b y = (0 : EReal)) (n j : Fin 128) : k0_pay16 (F := Ideal) (k0_pay13 a) (k0_pay14 b) k0_pay15 (ix3 0 n j) = (0 : EReal) := by
  pointwise [k0_pay13, k0_pay14, k0_pay15, k0_pay16]
  by_cases h : j.val < 64 <;> simp [h, ha, hb]

/-- Heads 8 and 9 start from zero when the entering state is zero. -/
theorem init4 (a b : Vec Ideal S1x1x64x128 .f32) (ha : ∀ y, a y = (0 : EReal)) (hb : ∀ y, b y = (0 : EReal)) (n j : Fin 128) : k0_pay17 (F := Ideal) a b (ix3 0 n j) = (0 : EReal) := by
  pointwise [k0_pay17]
  by_cases h : j.val < 64 <;> simp [h, ha, hb]

/-- Heads 10 and 11 start from zero when the entering state is zero. -/
theorem init5 (a b : Vec Ideal S1x1x64x128 .f32) (ha : ∀ y, a y = (0 : EReal)) (hb : ∀ y, b y = (0 : EReal)) (n j : Fin 128) : k0_pay21 (F := Ideal) (k0_pay18 a) (k0_pay19 b) k0_pay20 (ix3 0 n j) = (0 : EReal) := by
  pointwise [k0_pay18, k0_pay19, k0_pay20, k0_pay21]
  by_cases h : j.val < 64 <;> simp [h, ha, hb]

/-- Heads 12 and 13 start from zero when the entering state is zero. -/
theorem init6 (a b : Vec Ideal S1x1x64x128 .f32) (ha : ∀ y, a y = (0 : EReal)) (hb : ∀ y, b y = (0 : EReal)) (n j : Fin 128) : k0_pay22 (F := Ideal) a b (ix3 0 n j) = (0 : EReal) := by
  pointwise [k0_pay22]
  by_cases h : j.val < 64 <;> simp [h, ha, hb]

/-- Heads 14 and 15 start from zero when the entering state is zero. -/
theorem init7 (a b : Vec Ideal S1x1x64x128 .f32) (ha : ∀ y, a y = (0 : EReal)) (hb : ∀ y, b y = (0 : EReal)) (n j : Fin 128) : k0_pay26 (F := Ideal) (k0_pay23 a) (k0_pay24 b) k0_pay25 (ix3 0 n j) = (0 : EReal) := by
  pointwise [k0_pay23, k0_pay24, k0_pay25, k0_pay26]
  by_cases h : j.val < 64 <;> simp [h, ha, hb]

/-- Heads 16 and 17 start from zero when the entering state is zero. -/
theorem init8 (a b : Vec Ideal S1x1x64x128 .f32) (ha : ∀ y, a y = (0 : EReal)) (hb : ∀ y, b y = (0 : EReal)) (n j : Fin 128) : k0_pay27 (F := Ideal) a b (ix3 0 n j) = (0 : EReal) := by
  pointwise [k0_pay27]
  by_cases h : j.val < 64 <;> simp [h, ha, hb]

/-- Heads 18 and 19 start from zero when the entering state is zero. -/
theorem init9 (a b : Vec Ideal S1x1x64x128 .f32) (ha : ∀ y, a y = (0 : EReal)) (hb : ∀ y, b y = (0 : EReal)) (n j : Fin 128) : k0_pay31 (F := Ideal) (k0_pay28 a) (k0_pay29 b) k0_pay30 (ix3 0 n j) = (0 : EReal) := by
  pointwise [k0_pay28, k0_pay29, k0_pay30, k0_pay31]
  by_cases h : j.val < 64 <;> simp [h, ha, hb]

/-- Heads 20 and 21 start from zero when the entering state is zero. -/
theorem init10 (a b : Vec Ideal S1x1x64x128 .f32) (ha : ∀ y, a y = (0 : EReal)) (hb : ∀ y, b y = (0 : EReal)) (n j : Fin 128) : k0_pay32 (F := Ideal) a b (ix3 0 n j) = (0 : EReal) := by
  pointwise [k0_pay32]
  by_cases h : j.val < 64 <;> simp [h, ha, hb]

/-- Heads 22 and 23 start from zero when the entering state is zero. -/
theorem init11 (a b : Vec Ideal S1x1x64x128 .f32) (ha : ∀ y, a y = (0 : EReal)) (hb : ∀ y, b y = (0 : EReal)) (n j : Fin 128) : k0_pay36 (F := Ideal) (k0_pay33 a) (k0_pay34 b) k0_pay35 (ix3 0 n j) = (0 : EReal) := by
  pointwise [k0_pay33, k0_pay34, k0_pay35, k0_pay36]
  by_cases h : j.val < 64 <;> simp [h, ha, hb]

/-- Heads 24 and 25 start from zero when the entering state is zero. -/
theorem init12 (a b : Vec Ideal S1x1x64x128 .f32) (ha : ∀ y, a y = (0 : EReal)) (hb : ∀ y, b y = (0 : EReal)) (n j : Fin 128) : k0_pay37 (F := Ideal) a b (ix3 0 n j) = (0 : EReal) := by
  pointwise [k0_pay37]
  by_cases h : j.val < 64 <;> simp [h, ha, hb]

/-- Heads 26 and 27 start from zero when the entering state is zero. -/
theorem init13 (a b : Vec Ideal S1x1x64x128 .f32) (ha : ∀ y, a y = (0 : EReal)) (hb : ∀ y, b y = (0 : EReal)) (n j : Fin 128) : k0_pay41 (F := Ideal) (k0_pay38 a) (k0_pay39 b) k0_pay40 (ix3 0 n j) = (0 : EReal) := by
  pointwise [k0_pay38, k0_pay39, k0_pay40, k0_pay41]
  by_cases h : j.val < 64 <;> simp [h, ha, hb]

/-- Heads 28 and 29 start from zero when the entering state is zero. -/
theorem init14 (a b : Vec Ideal S1x1x64x128 .f32) (ha : ∀ y, a y = (0 : EReal)) (hb : ∀ y, b y = (0 : EReal)) (n j : Fin 128) : k0_pay42 (F := Ideal) a b (ix3 0 n j) = (0 : EReal) := by
  pointwise [k0_pay42]
  by_cases h : j.val < 64 <;> simp [h, ha, hb]

/-- Heads 30 and 31 start from zero when the entering state is zero. -/
theorem init15 (a b : Vec Ideal S1x1x64x128 .f32) (ha : ∀ y, a y = (0 : EReal)) (hb : ∀ y, b y = (0 : EReal)) (n j : Fin 128) : k0_pay96 (F := Ideal) (k0_pay43 a) (k0_pay44 b) k0_pay45 (ix3 0 n j) = (0 : EReal) := by
  pointwise [k0_pay43, k0_pay44, k0_pay45, k0_pay96]
  by_cases h : j.val < 64 <;> simp [h, ha, hb]

end Cert.Kernel10Ideal.Value
end
-- ==== Proof.SsdPairY.lean ====
module

public import proofs.«01_k».proof.Proof.Gen.Kernel10Ideal.Value
public import proofs.«01_k».proof.Proof.Ssd

@[expose] public section
set_option maxRecDepth 16384
set_option maxHeartbeats 1000000
noncomputable section
open Idealize.ShloMosaic Idealize.ShloMosaic.TcCoe Idealize.SL.Sem
open Idealize.ShloMosaic.Pipeline (Dat)
/-! What the kernel stores for each pair of heads of a chunk, entry by entry. -/
namespace Cert.Kernel10Ideal.Value
open Cert.Kernel10Ideal Cert.Kernel10Ideal.Gen Cert.Ssd

/-- The causal mask's bit. -/
theorem causal_at (i x : Fin 128) : k0_pay118 (ix2 i x) = if x.val ≤ i.val then 1#1 else 0#1 := by
  pointwise [k0_pay118]
  word_cmp
  by_cases hx : x.val ≤ i.val <;> simp [hx]

/-- The bit that is set in the columns of a pair's first head. -/
theorem first_at (i j : Fin 128) : k0_pay120 (iota .tc S128x128 32 [1] iota_S128x128_d1_w32) k0_pay119 (ix2 i j : S128x128.Idx) = if j.val < 64 then 1#1 else 0#1 := by
  pointwise [k0_pay120, k0_pay119]
  word_cmp
  by_cases hx : j.val < 64 <;> simp [hx]

/-- The output entries of heads 0 and 1. -/
theorem pairY0 (v40 : FVec Ideal S128x512 .f32) (v41 : FVec Ideal S128x512 .f32) (v95 : FVec Ideal S128x32 .f32) (v98 : FVec Ideal S128x128 .f32) (v159 : FVec Ideal S128x2048 .f32) (v165 : FVec Ideal S128x2048 .f32) (v170 : FVec Ideal S128x2048 .f32) (v173 : FVec Ideal S128x2048 .f32) (v177 v178 : IVec S128x128 32) (hf : ∀ x j, k0_pay120 v177 v178 (ix2 x j) = if j.val < 64 then 1#1 else 0#1) (ht : FVec Ideal S1x128x128 .f32) (h98 : ∀ (h : Fin 32) x, v98 (ix2 ⟨h.val, by omega⟩ x) = v95 (ix2 x h)) (i j : Fin 128) (h : Fin 32) (hh : h.val = 0 + j.val / 64) :
    k0_pay129 (F := Ideal) v170 v173 (k0_pay126 v40 v41 v95 v98 v159 v165 k0_pay118 v177 v178 ht) (ix2 i j) = yE (fun n => v41 (ix2 i ⟨n.val, by omega⟩)) (fun x n => v40 (ix2 x ⟨n.val, by omega⟩)) (fun x => v95 (ix2 x h)) (fun x => v159 (ix2 x ⟨j.val, by omega⟩))
      (fun n => ht (ix3 0 n j)) (v165 (ix2 i ⟨j.val, by omega⟩)) (v170 (ix2 i ⟨j.val, by omega⟩)) (v173 (ix2 i ⟨j.val, by omega⟩)) i := by
  have e0 : ∀ x, v98 (ix2 0 x) = v95 (ix2 x 0) := fun x => h98 0 x
  have e1 : ∀ x, v98 (ix2 1 x) = v95 (ix2 x 1) := fun x => h98 1 x
  pointwise [k0_pay121, k0_pay122, k0_pay123, k0_pay125, k0_pay126, k0_pay129]
  by_cases hj : j.val < 64
  · obtain rfl : h = 0 := Fin.ext (by show h.val = 0; omega)
    simp only [e0, e1, hf, causal_at, sel_tri, if_pos hj, sel_one, Finset.sum_const_zero, add_zero]
    rfl
  · obtain rfl : h = 1 := Fin.ext (by show h.val = 1; omega)
    simp only [e0, e1, hf, causal_at, sel_tri, if_neg hj, sel_zero, Finset.sum_const_zero, zero_add]
    rfl

variable (v40 : FVec Ideal S128x512 .f32) (v41 : FVec Ideal S128x512 .f32) (v95 : FVec Ideal S128x32 .f32) (v98 : FVec Ideal S128x128 .f32) (v159 : FVec Ideal S128x2048 .f32) (v165 : FVec Ideal S128x2048 .f32) (v170 : FVec Ideal S128x2048 .f32) (v173 : FVec Ideal S128x2048 .f32) (fh : IVec S128x128 1) (hf : ∀ x j, fh (ix2 x j) = if j.val < 64 then 1#1 else 0#1) (ht : FVec Ideal S1x128x128 .f32) (h98 : ∀ (h : Fin 32) x, v98 (ix2 ⟨h.val, by omega⟩ x) = v95 (ix2 x h)) (i j : Fin 128) (h : Fin 32)
include hf h98

/-- The output entries of heads 2 and 3. -/
theorem pairY1 (hh : h.val = 2 + j.val / 64) :
    k0_pay133 (F := Ideal) v165 v170 v173 (k0_pay122 v41) (k0_pay130 v95 v98 v159 k0_pay118 fh (k0_pay123 v40 v41)) ht (ix2 i j) = yE (fun n => v41 (ix2 i ⟨n.val, by omega⟩)) (fun x n => v40 (ix2 x ⟨n.val, by omega⟩)) (fun x => v95 (ix2 x h)) (fun x => v159 (ix2 x ⟨128 + j.val, by omega⟩))
      (fun n => ht (ix3 0 n j)) (v165 (ix2 i ⟨128 + j.val, by omega⟩)) (v170 (ix2 i ⟨128 + j.val, by omega⟩)) (v173 (ix2 i ⟨128 + j.val, by omega⟩)) i := by
  have e0 : ∀ x, v98 (ix2 2 x) = v95 (ix2 x 2) := fun x => h98 2 x
  have e1 : ∀ x, v98 (ix2 3 x) = v95 (ix2 x 3) := fun x => h98 3 x
  pointwise [k0_pay121, k0_pay122, k0_pay123, k0_pay130, k0_pay131, k0_pay133]
  by_cases hj : j.val < 64
  · obtain rfl : h = 2 := Fin.ext (by show h.val = 2; omega)
    simp only [e0, e1, hf, causal_at, sel_tri, if_pos hj, sel_one, Finset.sum_const_zero, add_zero]
    rfl
  · obtain rfl : h = 3 := Fin.ext (by show h.val = 3; omega)
    simp only [e0, e1, hf, causal_at, sel_tri, if_neg hj, sel_zero, Finset.sum_const_zero, zero_add]
    rfl

/-- The output entries of heads 4 and 5. -/
theorem pairY2 (hh : h.val = 4 + j.val / 64) :
    k0_pay139 (F := Ideal) v165 v170 v173 fh (k0_pay122 v41) (k0_pay134 v159) (k0_pay135 v95 v98 k0_pay118 (k0_pay123 v40 v41)) (k0_pay136 v95 v98 k0_pay118 (k0_pay123 v40 v41)) ht (ix2 i j) = yE (fun n => v41 (ix2 i ⟨n.val, by omega⟩)) (fun x n => v40 (ix2 x ⟨n.val, by omega⟩)) (fun x => v95 (ix2 x h)) (fun x => v159 (ix2 x ⟨256 + j.val, by omega⟩))
      (fun n => ht (ix3 0 n j)) (v165 (ix2 i ⟨256 + j.val, by omega⟩)) (v170 (ix2 i ⟨256 + j.val, by omega⟩)) (v173 (ix2 i ⟨256 + j.val, by omega⟩)) i := by
  have e0 : ∀ x, v98 (ix2 4 x) = v95 (ix2 x 4) := fun x => h98 4 x
  have e1 : ∀ x, v98 (ix2 5 x) = v95 (ix2 x 5) := fun x => h98 5 x
  pointwise [k0_pay121, k0_pay122, k0_pay123, k0_pay134, k0_pay135, k0_pay136, k0_pay137, k0_pay139]
  by_cases hj : j.val < 64
  · obtain rfl : h = 4 := Fin.ext (by show h.val = 4; omega)
    simp only [e0, e1, hf, causal_at, sel_tri, if_pos hj, sel_one, Finset.sum_const_zero, add_zero]
    rfl
  · obtain rfl : h = 5 := Fin.ext (by show h.val = 5; omega)
    simp only [e0, e1, hf, causal_at, sel_tri, if_neg hj, sel_zero, Finset.sum_const_zero, zero_add]
    rfl

/-- The output entries of heads 6 and 7. -/
theorem pairY3 (hh : h.val = 6 + j.val / 64) :
    k0_pay145 (F := Ideal) v98 v165 v170 v173 k0_pay118 fh (k0_pay122 v41) (k0_pay123 v40 v41) (k0_pay140 v159) (k0_pay141 v95 v98 k0_pay118 (k0_pay123 v40 v41)) (k0_pay142 v95) ht (ix2 i j) = yE (fun n => v41 (ix2 i ⟨n.val, by omega⟩)) (fun x n => v40 (ix2 x ⟨n.val, by omega⟩)) (fun x => v95 (ix2 x h)) (fun x => v159 (ix2 x ⟨384 + j.val, by omega⟩))
      (fun n => ht (ix3 0 n j)) (v165 (ix2 i ⟨384 + j.val, by omega⟩)) (v170 (ix2 i ⟨384 + j.val, by omega⟩)) (v173 (ix2 i ⟨384 + j.val, by omega⟩)) i := by
  have e0 : ∀ x, v98 (ix2 6 x) = v95 (ix2 x 6) := fun x => h98 6 x
  have e1 : ∀ x, v98 (ix2 7 x) = v95 (ix2 x 7) := fun x => h98 7 x
  pointwise [k0_pay121, k0_pay122, k0_pay123, k0_pay140, k0_pay141, k0_pay142, k0_pay143, k0_pay145]
  by_cases hj : j.val < 64
  · obtain rfl : h = 6 := Fin.ext (by show h.val = 6; omega)
    simp only [e0, e1, hf, causal_at, sel_tri, if_pos hj, sel_one, Finset.sum_const_zero, add_zero]
    rfl
  · obtain rfl : h = 7 := Fin.ext (by show h.val = 7; omega)
    simp only [e0, e1, hf, causal_at, sel_tri, if_neg hj, sel_zero, Finset.sum_const_zero, zero_add]
    rfl

/-- The output entries of heads 8 and 9. -/
theorem pairY4 (hh : h.val = 8 + j.val / 64) :
    k0_pay155 (F := Ideal) v170 v173 (k0_pay151 v95 v98 v159 v165 k0_pay118 fh (k0_pay146 v40) (k0_pay147 v41) ht) (ix2 i j) = yE (fun n => v41 (ix2 i ⟨128 + n.val, by omega⟩)) (fun x n => v40 (ix2 x ⟨128 + n.val, by omega⟩)) (fun x => v95 (ix2 x h)) (fun x => v159 (ix2 x ⟨512 + j.val, by omega⟩))
      (fun n => ht (ix3 0 n j)) (v165 (ix2 i ⟨512 + j.val, by omega⟩)) (v170 (ix2 i ⟨512 + j.val, by omega⟩)) (v173 (ix2 i ⟨512 + j.val, by omega⟩)) i := by
  have e0 : ∀ x, v98 (ix2 8 x) = v95 (ix2 x 8) := fun x => h98 8 x
  have e1 : ∀ x, v98 (ix2 9 x) = v95 (ix2 x 9) := fun x => h98 9 x
  pointwise [k0_pay146, k0_pay147, k0_pay148, k0_pay150, k0_pay151, k0_pay155]
  by_cases hj : j.val < 64
  · obtain rfl : h = 8 := Fin.ext (by show h.val = 8; omega)
    simp only [e0, e1, hf, causal_at, sel_tri, if_pos hj, sel_one, Finset.sum_const_zero, add_zero]
    rfl
  · obtain rfl : h = 9 := Fin.ext (by show h.val = 9; omega)
    simp only [e0, e1, hf, causal_at, sel_tri, if_neg hj, sel_zero, Finset.sum_const_zero, zero_add]
    rfl

/-- The output entries of heads 10 and 11. -/
theorem pairY5 (hh : h.val = 10 + j.val / 64) :
    k0_pay159 (F := Ideal) v165 v170 v173 (k0_pay147 v41) (k0_pay156 v95 v98 v159 k0_pay118 fh (k0_pay148 (k0_pay146 v40) (k0_pay147 v41))) ht (ix2 i j) = yE (fun n => v41 (ix2 i ⟨128 + n.val, by omega⟩)) (fun x n => v40 (ix2 x ⟨128 + n.val, by omega⟩)) (fun x => v95 (ix2 x h)) (fun x => v159 (ix2 x ⟨640 + j.val, by omega⟩))
      (fun n => ht (ix3 0 n j)) (v165 (ix2 i ⟨640 + j.val, by omega⟩)) (v170 (ix2 i ⟨640 + j.val, by omega⟩)) (v173 (ix2 i ⟨640 + j.val, by omega⟩)) i := by
  have e0 : ∀ x, v98 (ix2 10 x) = v95 (ix2 x 10) := fun x => h98 10 x
  have e1 : ∀ x, v98 (ix2 11 x) = v95 (ix2 x 11) := fun x => h98 11 x
  pointwise [k0_pay146, k0_pay147, k0_pay148, k0_pay156, k0_pay157, k0_pay159]
  by_cases hj : j.val < 64
  · obtain rfl : h = 10 := Fin.ext (by show h.val = 10; omega)
    simp only [e0, e1, hf, causal_at, sel_tri, if_pos hj, sel_one, Finset.sum_const_zero, add_zero]
    rfl
  · obtain rfl : h = 11 := Fin.ext (by show h.val = 11; omega)
    simp only [e0, e1, hf, causal_at, sel_tri, if_neg hj, sel_zero, Finset.sum_const_zero, zero_add]
    rfl

/-- The output entries of heads 12 and 13. -/
theorem pairY6 (hh : h.val = 12 + j.val / 64) :
    k0_pay166 (F := Ideal) v165 v170 v173 fh (k0_pay147 v41) (k0_pay160 v159) (k0_pay161 v95 v98 k0_pay118 (k0_pay148 (k0_pay146 v40) (k0_pay147 v41))) (k0_pay162 v95 v98 k0_pay118 (k0_pay148 (k0_pay146 v40) (k0_pay147 v41))) (k0_pay163 v159 fh) (Scalar.ofBits .f32 0x00000000#32) ht (ix2 i j) = yE (fun n => v41 (ix2 i ⟨128 + n.val, by omega⟩)) (fun x n => v40 (ix2 x ⟨128 + n.val, by omega⟩)) (fun x => v95 (ix2 x h)) (fun x => v159 (ix2 x ⟨768 + j.val, by omega⟩))
      (fun n => ht (ix3 0 n j)) (v165 (ix2 i ⟨768 + j.val, by omega⟩)) (v170 (ix2 i ⟨768 + j.val, by omega⟩)) (v173 (ix2 i ⟨768 + j.val, by omega⟩)) i := by
  have e0 : ∀ x, v98 (ix2 12 x) = v95 (ix2 x 12) := fun x => h98 12 x
  have e1 : ∀ x, v98 (ix2 13 x) = v95 (ix2 x 13) := fun x => h98 13 x
  pointwise [k0_pay146, k0_pay147, k0_pay148, k0_pay160, k0_pay161, k0_pay162, k0_pay163, k0_pay164, k0_pay166]
  by_cases hj : j.val < 64
  · obtain rfl : h = 12 := Fin.ext (by show h.val = 12; omega)
    simp only [e0, e1, hf, causal_at, sel_tri, if_pos hj, sel_one, Finset.sum_const_zero, add_zero]
    rfl
  · obtain rfl : h = 13 := Fin.ext (by show h.val = 13; omega)
    simp only [e0, e1, hf, causal_at, sel_tri, if_neg hj, sel_zero, Finset.sum_const_zero, zero_add]
    rfl

/-- The output entries of heads 14 and 15. -/
theorem pairY7 (hh : h.val = 14 + j.val / 64) :
    k0_pay172 (F := Ideal) v165 v170 v173 k0_pay118 fh (k0_pay147 v41) (k0_pay148 (k0_pay146 v40) (k0_pay147 v41)) (k0_pay167 v159) (k0_pay168 v95 v98 k0_pay118 (k0_pay148 (k0_pay146 v40) (k0_pay147 v41))) (k0_pay169 v95 v98) ht (ix2 i j) = yE (fun n => v41 (ix2 i ⟨128 + n.val, by omega⟩)) (fun x n => v40 (ix2 x ⟨128 + n.val, by omega⟩)) (fun x => v95 (ix2 x h)) (fun x => v159 (ix2 x ⟨896 + j.val, by omega⟩))
      (fun n => ht (ix3 0 n j)) (v165 (ix2 i ⟨896 + j.val, by omega⟩)) (v170 (ix2 i ⟨896 + j.val, by omega⟩)) (v173 (ix2 i ⟨896 + j.val, by omega⟩)) i := by
  have e0 : ∀ x, v98 (ix2 14 x) = v95 (ix2 x 14) := fun x => h98 14 x
  have e1 : ∀ x, v98 (ix2 15 x) = v95 (ix2 x 15) := fun x => h98 15 x
  pointwise [k0_pay146, k0_pay147, k0_pay148, k0_pay167, k0_pay168, k0_pay169, k0_pay170, k0_pay172]
  by_cases hj : j.val < 64
  · obtain rfl : h = 14 := Fin.ext (by show h.val = 14; omega)
    simp only [e0, e1, hf, causal_at, sel_tri, if_pos hj, sel_one, Finset.sum_const_zero, add_zero]
    rfl
  · obtain rfl : h = 15 := Fin.ext (by show h.val = 15; omega)
    simp only [e0, e1, hf, causal_at, sel_tri, if_neg hj, sel_zero, Finset.sum_const_zero, zero_add]
    rfl

/-- The output entries of heads 16 and 17. -/
theorem pairY8 (hh : h.val = 16 + j.val / 64) :
    k0_pay182 (F := Ideal) v170 v173 (k0_pay179 v95 v98 v159 v165 k0_pay118 fh (k0_pay174 v41) (k0_pay175 v40 v41) ht) (ix2 i j) = yE (fun n => v41 (ix2 i ⟨256 + n.val, by omega⟩)) (fun x n => v40 (ix2 x ⟨256 + n.val, by omega⟩)) (fun x => v95 (ix2 x h)) (fun x => v159 (ix2 x ⟨1024 + j.val, by omega⟩))
      (fun n => ht (ix3 0 n j)) (v165 (ix2 i ⟨1024 + j.val, by omega⟩)) (v170 (ix2 i ⟨1024 + j.val, by omega⟩)) (v173 (ix2 i ⟨1024 + j.val, by omega⟩)) i := by
  have e0 : ∀ x, v98 (ix2 16 x) = v95 (ix2 x 16) := fun x => h98 16 x
  have e1 : ∀ x, v98 (ix2 17 x) = v95 (ix2 x 17) := fun x => h98 17 x
  pointwise [k0_pay173, k0_pay174, k0_pay175, k0_pay178, k0_pay179, k0_pay182]
  by_cases hj : j.val < 64
  · obtain rfl : h = 16 := Fin.ext (by show h.val = 16; omega)
    simp only [e0, e1, hf, causal_at, sel_tri, if_pos hj, sel_one, Finset.sum_const_zero, add_zero]
    rfl
  · obtain rfl : h = 17 := Fin.ext (by show h.val = 17; omega)
    simp only [e0, e1, hf, causal_at, sel_tri, if_neg hj, sel_zero, Finset.sum_const_zero, zero_add]
    rfl

/-- The output entries of heads 18 and 19. -/
theorem pairY9 (hh : h.val = 18 + j.val / 64) :
    k0_pay187 (F := Ideal) v165 v170 v173 (k0_pay183 v95 v98 v159 k0_pay118 fh (k0_pay175 v40 v41)) (k0_pay185 (k0_pay174 v41) ht) (ix2 i j) = yE (fun n => v41 (ix2 i ⟨256 + n.val, by omega⟩)) (fun x n => v40 (ix2 x ⟨256 + n.val, by omega⟩)) (fun x => v95 (ix2 x h)) (fun x => v159 (ix2 x ⟨1152 + j.val, by omega⟩))
      (fun n => ht (ix3 0 n j)) (v165 (ix2 i ⟨1152 + j.val, by omega⟩)) (v170 (ix2 i ⟨1152 + j.val, by omega⟩)) (v173 (ix2 i ⟨1152 + j.val, by omega⟩)) i := by
  have e0 : ∀ x, v98 (ix2 18 x) = v95 (ix2 x 18) := fun x => h98 18 x
  have e1 : ∀ x, v98 (ix2 19 x) = v95 (ix2 x 19) := fun x => h98 19 x
  pointwise [k0_pay173, k0_pay174, k0_pay175, k0_pay183, k0_pay184, k0_pay185, k0_pay187]
  by_cases hj : j.val < 64
  · obtain rfl : h = 18 := Fin.ext (by show h.val = 18; omega)
    simp only [e0, e1, hf, causal_at, sel_tri, if_pos hj, sel_one, Finset.sum_const_zero, add_zero]
    rfl
  · obtain rfl : h = 19 := Fin.ext (by show h.val = 19; omega)
    simp only [e0, e1, hf, causal_at, sel_tri, if_neg hj, sel_zero, Finset.sum_const_zero, zero_add]
    rfl

/-- The output entries of heads 20 and 21. -/
theorem pairY10 (hh : h.val = 20 + j.val / 64) :
    k0_pay192 (F := Ideal) v165 v170 v173 (k0_pay174 v41) (k0_pay188 v159 fh) (k0_pay189 v95 v98 k0_pay118 (k0_pay175 v40 v41)) ht (ix2 i j) = yE (fun n => v41 (ix2 i ⟨256 + n.val, by omega⟩)) (fun x n => v40 (ix2 x ⟨256 + n.val, by omega⟩)) (fun x => v95 (ix2 x h)) (fun x => v159 (ix2 x ⟨1280 + j.val, by omega⟩))
      (fun n => ht (ix3 0 n j)) (v165 (ix2 i ⟨1280 + j.val, by omega⟩)) (v170 (ix2 i ⟨1280 + j.val, by omega⟩)) (v173 (ix2 i ⟨1280 + j.val, by omega⟩)) i := by
  have e0 : ∀ x, v98 (ix2 20 x) = v95 (ix2 x 20) := fun x => h98 20 x
  have e1 : ∀ x, v98 (ix2 21 x) = v95 (ix2 x 21) := fun x => h98 21 x
  pointwise [k0_pay173, k0_pay174, k0_pay175, k0_pay188, k0_pay189, k0_pay190, k0_pay192]
  by_cases hj : j.val < 64
  · obtain rfl : h = 20 := Fin.ext (by show h.val = 20; omega)
    simp only [e0, e1, hf, causal_at, sel_tri, if_pos hj, sel_one, Finset.sum_const_zero, add_zero]
    rfl
  · obtain rfl : h = 21 := Fin.ext (by show h.val = 21; omega)
    simp only [e0, e1, hf, causal_at, sel_tri, if_neg hj, sel_zero, Finset.sum_const_zero, zero_add]
    rfl

/-- The output entries of heads 22 and 23. -/
theorem pairY11 (hh : h.val = 22 + j.val / 64) :
    k0_pay198 (F := Ideal) v165 v170 v173 k0_pay118 fh (k0_pay174 v41) (k0_pay175 v40 v41) (k0_pay193 v159) (k0_pay194 v95 v98 k0_pay118 (k0_pay175 v40 v41)) (k0_pay195 v95 v98 k0_pay118) ht (ix2 i j) = yE (fun n => v41 (ix2 i ⟨256 + n.val, by omega⟩)) (fun x n => v40 (ix2 x ⟨256 + n.val, by omega⟩)) (fun x => v95 (ix2 x h)) (fun x => v159 (ix2 x ⟨1408 + j.val, by omega⟩))
      (fun n => ht (ix3 0 n j)) (v165 (ix2 i ⟨1408 + j.val, by omega⟩)) (v170 (ix2 i ⟨1408 + j.val, by omega⟩)) (v173 (ix2 i ⟨1408 + j.val, by omega⟩)) i := by
  have e0 : ∀ x, v98 (ix2 22 x) = v95 (ix2 x 22) := fun x => h98 22 x
  have e1 : ∀ x, v98 (ix2 23 x) = v95 (ix2 x 23) := fun x => h98 23 x
  pointwise [k0_pay173, k0_pay174, k0_pay175, k0_pay193, k0_pay194, k0_pay195, k0_pay196, k0_pay198]
  by_cases hj : j.val < 64
  · obtain rfl : h = 22 := Fin.ext (by show h.val = 22; omega)
    simp only [e0, e1, hf, causal_at, sel_tri, if_pos hj, sel_one, Finset.sum_const_zero, add_zero]
    rfl
  · obtain rfl : h = 23 := Fin.ext (by show h.val = 23; omega)
    simp only [e0, e1, hf, causal_at, sel_tri, if_neg hj, sel_zero, Finset.sum_const_zero, zero_add]
    rfl

/-- The output entries of heads 24 and 25. -/
theorem pairY12 (hh : h.val = 24 + j.val / 64) :
    k0_pay209 (F := Ideal) v170 v173 (k0_pay207 v95 v98 v165 k0_pay118 fh (k0_pay200 v41) (k0_pay201 v40 v41) (k0_pay203 v159) (k0_pay204 v95) (k0_pay205 v98) ht) (ix2 i j) = yE (fun n => v41 (ix2 i ⟨384 + n.val, by omega⟩)) (fun x n => v40 (ix2 x ⟨384 + n.val, by omega⟩)) (fun x => v95 (ix2 x h)) (fun x => v159 (ix2 x ⟨1536 + j.val, by omega⟩))
      (fun n => ht (ix3 0 n j)) (v165 (ix2 i ⟨1536 + j.val, by omega⟩)) (v170 (ix2 i ⟨1536 + j.val, by omega⟩)) (v173 (ix2 i ⟨1536 + j.val, by omega⟩)) i := by
  have e0 : ∀ x, v98 (ix2 24 x) = v95 (ix2 x 24) := fun x => h98 24 x
  have e1 : ∀ x, v98 (ix2 25 x) = v95 (ix2 x 25) := fun x => h98 25 x
  pointwise [k0_pay199, k0_pay200, k0_pay201, k0_pay203, k0_pay204, k0_pay205, k0_pay206, k0_pay207, k0_pay209]
  by_cases hj : j.val < 64
  · obtain rfl : h = 24 := Fin.ext (by show h.val = 24; omega)
    simp only [e0, e1, hf, causal_at, sel_tri, if_pos hj, sel_one, Finset.sum_const_zero, add_zero]
    rfl
  · obtain rfl : h = 25 := Fin.ext (by show h.val = 25; omega)
    simp only [e0, e1, hf, causal_at, sel_tri, if_neg hj, sel_zero, Finset.sum_const_zero, zero_add]
    rfl

/-- The output entries of heads 26 and 27. -/
theorem pairY13 (hh : h.val = 26 + j.val / 64) :
    k0_pay214 (F := Ideal) v170 v173 (k0_pay211 v95 v98 v159 v165 k0_pay118 fh (k0_pay200 v41) (k0_pay201 v40 v41) ht) (ix2 i j) = yE (fun n => v41 (ix2 i ⟨384 + n.val, by omega⟩)) (fun x n => v40 (ix2 x ⟨384 + n.val, by omega⟩)) (fun x => v95 (ix2 x h)) (fun x => v159 (ix2 x ⟨1664 + j.val, by omega⟩))
      (fun n => ht (ix3 0 n j)) (v165 (ix2 i ⟨1664 + j.val, by omega⟩)) (v170 (ix2 i ⟨1664 + j.val, by omega⟩)) (v173 (ix2 i ⟨1664 + j.val, by omega⟩)) i := by
  have e0 : ∀ x, v98 (ix2 26 x) = v95 (ix2 x 26) := fun x => h98 26 x
  have e1 : ∀ x, v98 (ix2 27 x) = v95 (ix2 x 27) := fun x => h98 27 x
  pointwise [k0_pay199, k0_pay200, k0_pay201, k0_pay210, k0_pay211, k0_pay214]
  by_cases hj : j.val < 64
  · obtain rfl : h = 26 := Fin.ext (by show h.val = 26; omega)
    simp only [e0, e1, hf, causal_at, sel_tri, if_pos hj, sel_one, Finset.sum_const_zero, add_zero]
    rfl
  · obtain rfl : h = 27 := Fin.ext (by show h.val = 27; omega)
    simp only [e0, e1, hf, causal_at, sel_tri, if_neg hj, sel_zero, Finset.sum_const_zero, zero_add]
    rfl

/-- The output entries of heads 28 and 29. -/
theorem pairY14 (hh : h.val = 28 + j.val / 64) :
    k0_pay218 (F := Ideal) v165 v170 v173 (k0_pay200 v41) (k0_pay215 v95 v98 v159 k0_pay118 fh (k0_pay201 v40 v41)) ht (ix2 i j) = yE (fun n => v41 (ix2 i ⟨384 + n.val, by omega⟩)) (fun x n => v40 (ix2 x ⟨384 + n.val, by omega⟩)) (fun x => v95 (ix2 x h)) (fun x => v159 (ix2 x ⟨1792 + j.val, by omega⟩))
      (fun n => ht (ix3 0 n j)) (v165 (ix2 i ⟨1792 + j.val, by omega⟩)) (v170 (ix2 i ⟨1792 + j.val, by omega⟩)) (v173 (ix2 i ⟨1792 + j.val, by omega⟩)) i := by
  have e0 : ∀ x, v98 (ix2 28 x) = v95 (ix2 x 28) := fun x => h98 28 x
  have e1 : ∀ x, v98 (ix2 29 x) = v95 (ix2 x 29) := fun x => h98 29 x
  pointwise [k0_pay199, k0_pay200, k0_pay201, k0_pay215, k0_pay216, k0_pay218]
  by_cases hj : j.val < 64
  · obtain rfl : h = 28 := Fin.ext (by show h.val = 28; omega)
    simp only [e0, e1, hf, causal_at, sel_tri, if_pos hj, sel_one, Finset.sum_const_zero, add_zero]
    rfl
  · obtain rfl : h = 29 := Fin.ext (by show h.val = 29; omega)
    simp only [e0, e1, hf, causal_at, sel_tri, if_neg hj, sel_zero, Finset.sum_const_zero, zero_add]
    rfl

/-- The output entries of heads 30 and 31. -/
theorem pairY15 (hh : h.val = 30 + j.val / 64) :
    k0_pay1 (F := Ideal) v170 v173 (k0_pay223 v165 fh (k0_pay200 v41) (k0_pay219 v159) (k0_pay220 v95 v98 k0_pay118 (k0_pay201 v40 v41)) (k0_pay221 v95 v98 k0_pay118 (k0_pay201 v40 v41)) ht) (ix2 i j) = yE (fun n => v41 (ix2 i ⟨384 + n.val, by omega⟩)) (fun x n => v40 (ix2 x ⟨384 + n.val, by omega⟩)) (fun x => v95 (ix2 x h)) (fun x => v159 (ix2 x ⟨1920 + j.val, by omega⟩))
      (fun n => ht (ix3 0 n j)) (v165 (ix2 i ⟨1920 + j.val, by omega⟩)) (v170 (ix2 i ⟨1920 + j.val, by omega⟩)) (v173 (ix2 i ⟨1920 + j.val, by omega⟩)) i := by
  have e0 : ∀ x, v98 (ix2 30 x) = v95 (ix2 x 30) := fun x => h98 30 x
  have e1 : ∀ x, v98 (ix2 31 x) = v95 (ix2 x 31) := fun x => h98 31 x
  pointwise [k0_pay1, k0_pay199, k0_pay200, k0_pay201, k0_pay219, k0_pay220, k0_pay221, k0_pay222, k0_pay223]
  by_cases hj : j.val < 64
  · obtain rfl : h = 30 := Fin.ext (by show h.val = 30; omega)
    simp only [e0, e1, hf, causal_at, sel_tri, if_pos hj, sel_one, Finset.sum_const_zero, add_zero]
    rfl
  · obtain rfl : h = 31 := Fin.ext (by show h.val = 31; omega)
    simp only [e0, e1, hf, causal_at, sel_tri, if_neg hj, sel_zero, Finset.sum_const_zero, zero_add]
    rfl
end Cert.Kernel10Ideal.Value
end
-- ==== Proof.SsdPairH.lean ====
module

public import proofs.«01_k».proof.Proof.Gen.Kernel10Ideal.Value
public import proofs.«01_k».proof.Proof.Ssd

@[expose] public section
set_option maxRecDepth 16384
noncomputable section
open Idealize.ShloMosaic Idealize.ShloMosaic.TcCoe Idealize.SL.Sem
open Idealize.ShloMosaic.Pipeline (Dat)
/-! What the kernel stores for each pair of heads of a chunk, entry by entry. -/
namespace Cert.Kernel10Ideal.Value
open Cert.Kernel10Ideal Cert.Kernel10Ideal.Gen Cert.Ssd

variable (v40 : FVec Ideal S128x512 .f32) (v164 : FVec Ideal S128x2048 .bf16) (v166 : FVec Ideal S1x2048 .f32) (ht : FVec Ideal S1x128x128 .f32) (i j : Fin 128)

/-- The state entries of heads 0 and 1. -/
theorem pairH0 :
    k0_pay128 (F := Ideal) v164 (k0_pay124 v40) (k0_pay125 ht) (k0_pay127 v166) (ix3 0 i j) = hE (ht (ix3 0 i j)) (v166 (ix2 0 ⟨j.val, by omega⟩)) (fun x => v40 (ix2 x ⟨i.val, by omega⟩)) (fun x => v164 (ix2 x ⟨j.val, by omega⟩)) := by
  pointwise [k0_pay121, k0_pay124, k0_pay125, k0_pay127, k0_pay128]
  rfl

/-- The state entries of heads 2 and 3. -/
theorem pairH1 :
    k0_pay132 (F := Ideal) v164 v166 (k0_pay124 v40) ht (ix3 0 i j) = hE (ht (ix3 0 i j)) (v166 (ix2 0 ⟨128 + j.val, by omega⟩)) (fun x => v40 (ix2 x ⟨i.val, by omega⟩)) (fun x => v164 (ix2 x ⟨128 + j.val, by omega⟩)) := by
  pointwise [k0_pay121, k0_pay124, k0_pay131, k0_pay132]
  rfl

/-- The state entries of heads 4 and 5. -/
theorem pairH2 :
    k0_pay138 (F := Ideal) v164 v166 (k0_pay124 v40) ht (ix3 0 i j) = hE (ht (ix3 0 i j)) (v166 (ix2 0 ⟨256 + j.val, by omega⟩)) (fun x => v40 (ix2 x ⟨i.val, by omega⟩)) (fun x => v164 (ix2 x ⟨256 + j.val, by omega⟩)) := by
  pointwise [k0_pay121, k0_pay124, k0_pay137, k0_pay138]
  rfl

/-- The state entries of heads 6 and 7. -/
theorem pairH3 :
    k0_pay144 (F := Ideal) v164 v166 (k0_pay124 v40) ht (ix3 0 i j) = hE (ht (ix3 0 i j)) (v166 (ix2 0 ⟨384 + j.val, by omega⟩)) (fun x => v40 (ix2 x ⟨i.val, by omega⟩)) (fun x => v164 (ix2 x ⟨384 + j.val, by omega⟩)) := by
  pointwise [k0_pay121, k0_pay124, k0_pay143, k0_pay144]
  rfl

/-- The state entries of heads 8 and 9. -/
theorem pairH4 :
    k0_pay154 (F := Ideal) (k0_pay149 (k0_pay146 v40)) (k0_pay152 v166 ht) (k0_pay153 v164) (constant S128x128 .f32 0x00000000#32) (ix3 0 i j) = hE (ht (ix3 0 i j)) (v166 (ix2 0 ⟨512 + j.val, by omega⟩)) (fun x => v40 (ix2 x ⟨128 + i.val, by omega⟩)) (fun x => v164 (ix2 x ⟨512 + j.val, by omega⟩)) := by
  pointwise [k0_pay146, k0_pay149, k0_pay150, k0_pay152, k0_pay153, k0_pay154]
  rfl

/-- The state entries of heads 10 and 11. -/
theorem pairH5 :
    k0_pay158 (F := Ideal) v164 v166 (k0_pay149 (k0_pay146 v40)) ht (ix3 0 i j) = hE (ht (ix3 0 i j)) (v166 (ix2 0 ⟨640 + j.val, by omega⟩)) (fun x => v40 (ix2 x ⟨128 + i.val, by omega⟩)) (fun x => v164 (ix2 x ⟨640 + j.val, by omega⟩)) := by
  pointwise [k0_pay146, k0_pay149, k0_pay157, k0_pay158]
  rfl

/-- The state entries of heads 12 and 13. -/
theorem pairH6 :
    k0_pay165 (F := Ideal) v164 v166 (k0_pay149 (k0_pay146 v40)) ht (ix3 0 i j) = hE (ht (ix3 0 i j)) (v166 (ix2 0 ⟨768 + j.val, by omega⟩)) (fun x => v40 (ix2 x ⟨128 + i.val, by omega⟩)) (fun x => v164 (ix2 x ⟨768 + j.val, by omega⟩)) := by
  pointwise [k0_pay146, k0_pay149, k0_pay164, k0_pay165]
  rfl

/-- The state entries of heads 14 and 15. -/
theorem pairH7 :
    k0_pay171 (F := Ideal) v164 v166 (k0_pay149 (k0_pay146 v40)) ht (ix3 0 i j) = hE (ht (ix3 0 i j)) (v166 (ix2 0 ⟨896 + j.val, by omega⟩)) (fun x => v40 (ix2 x ⟨128 + i.val, by omega⟩)) (fun x => v164 (ix2 x ⟨896 + j.val, by omega⟩)) := by
  pointwise [k0_pay146, k0_pay149, k0_pay170, k0_pay171]
  rfl

/-- The state entries of heads 16 and 17. -/
theorem pairH8 :
    k0_pay181 (F := Ideal) (k0_pay180 v164 v166 (k0_pay176 v40) ht) (ix3 0 i j) = hE (ht (ix3 0 i j)) (v166 (ix2 0 ⟨1024 + j.val, by omega⟩)) (fun x => v40 (ix2 x ⟨256 + i.val, by omega⟩)) (fun x => v164 (ix2 x ⟨1024 + j.val, by omega⟩)) := by
  pointwise [k0_pay173, k0_pay176, k0_pay177, k0_pay178, k0_pay180, k0_pay181]
  rfl

/-- The state entries of heads 18 and 19. -/
theorem pairH9 :
    k0_pay186 (F := Ideal) v164 v166 (k0_pay177 (k0_pay176 v40)) (k0_pay184 ht) (ix3 0 i j) = hE (ht (ix3 0 i j)) (v166 (ix2 0 ⟨1152 + j.val, by omega⟩)) (fun x => v40 (ix2 x ⟨256 + i.val, by omega⟩)) (fun x => v164 (ix2 x ⟨1152 + j.val, by omega⟩)) := by
  pointwise [k0_pay173, k0_pay176, k0_pay177, k0_pay184, k0_pay186]
  rfl

/-- The state entries of heads 20 and 21. -/
theorem pairH10 :
    k0_pay191 (F := Ideal) v164 v166 (k0_pay177 (k0_pay176 v40)) ht (ix3 0 i j) = hE (ht (ix3 0 i j)) (v166 (ix2 0 ⟨1280 + j.val, by omega⟩)) (fun x => v40 (ix2 x ⟨256 + i.val, by omega⟩)) (fun x => v164 (ix2 x ⟨1280 + j.val, by omega⟩)) := by
  pointwise [k0_pay173, k0_pay176, k0_pay177, k0_pay190, k0_pay191]
  rfl

/-- The state entries of heads 22 and 23. -/
theorem pairH11 :
    k0_pay197 (F := Ideal) v164 v166 (k0_pay177 (k0_pay176 v40)) ht (ix3 0 i j) = hE (ht (ix3 0 i j)) (v166 (ix2 0 ⟨1408 + j.val, by omega⟩)) (fun x => v40 (ix2 x ⟨256 + i.val, by omega⟩)) (fun x => v164 (ix2 x ⟨1408 + j.val, by omega⟩)) := by
  pointwise [k0_pay173, k0_pay176, k0_pay177, k0_pay196, k0_pay197]
  rfl

/-- The state entries of heads 24 and 25. -/
theorem pairH12 :
    k0_pay208 (F := Ideal) v164 v166 (k0_pay202 v40) ht (ix3 0 i j) = hE (ht (ix3 0 i j)) (v166 (ix2 0 ⟨1536 + j.val, by omega⟩)) (fun x => v40 (ix2 x ⟨384 + i.val, by omega⟩)) (fun x => v164 (ix2 x ⟨1536 + j.val, by omega⟩)) := by
  pointwise [k0_pay199, k0_pay202, k0_pay206, k0_pay208]
  rfl

/-- The state entries of heads 26 and 27. -/
theorem pairH13 :
    k0_pay213 (F := Ideal) v164 (k0_pay202 v40) (k0_pay210 ht) (k0_pay212 v166) (ix3 0 i j) = hE (ht (ix3 0 i j)) (v166 (ix2 0 ⟨1664 + j.val, by omega⟩)) (fun x => v40 (ix2 x ⟨384 + i.val, by omega⟩)) (fun x => v164 (ix2 x ⟨1664 + j.val, by omega⟩)) := by
  pointwise [k0_pay199, k0_pay202, k0_pay210, k0_pay212, k0_pay213]
  rfl

/-- The state entries of heads 28 and 29. -/
theorem pairH14 :
    k0_pay217 (F := Ideal) v164 v166 (k0_pay202 v40) ht (ix3 0 i j) = hE (ht (ix3 0 i j)) (v166 (ix2 0 ⟨1792 + j.val, by omega⟩)) (fun x => v40 (ix2 x ⟨384 + i.val, by omega⟩)) (fun x => v164 (ix2 x ⟨1792 + j.val, by omega⟩)) := by
  pointwise [k0_pay199, k0_pay202, k0_pay216, k0_pay217]
  rfl

/-- The state entries of heads 30 and 31. -/
theorem pairH15 :
    k0_pay224 (F := Ideal) v164 v166 (k0_pay202 v40) ht (ix3 0 i j) = hE (ht (ix3 0 i j)) (v166 (ix2 0 ⟨1920 + j.val, by omega⟩)) (fun x => v40 (ix2 x ⟨384 + i.val, by omega⟩)) (fun x => v164 (ix2 x ⟨1920 + j.val, by omega⟩)) := by
  pointwise [k0_pay199, k0_pay202, k0_pay222, k0_pay224]
  rfl
end Cert.Kernel10Ideal.Value
end
-- ==== Proof.SsdYA.lean ====
module

public import proofs.«01_k».proof.Proof.Gen.Kernel10Ideal.Value
public import proofs.«01_k».proof.Proof.Rows
public import proofs.«01_k».proof.Proof.SsdFin
public import proofs.«01_k».proof.Proof.SsdInit
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The output of a batch's first chunk. -/
namespace Cert.Kernel10Ideal.Value
open Cert.Kernel10Ideal Cert.Kernel10Ideal.Gen Cert.Rows Cert.Ssd

set_option maxHeartbeats 4000000 in
/-- What the body stores in the output, entry by entry. -/
theorem yA_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32)  (hx9 : ∀ k, x9 k = (0 : EReal)) (hs : ∀ i h, x2 (ix2 i h) + x5 (ix2 0 h) < (⊤ : EReal)) (i : Fin 128) (q : Fin 2048) (t : S128x2048.Idx) (ti : (t 0).val = i.val) (tq : (t 1).val = q.val) :
    out0_A_10 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 t = yC (blkAct x1 (k0_pay6 x8) x3 x4) (blkDt x2 x5) (blkRate x6) zeroS (fun i q => x0 (ix2 i q)) (fun q => x7 (ix2 0 q)) i q := by
  unfold out0_A_10
  frame_out
  canon_tiles t h
  all_goals try simp (disch := decide) only [View.readCov_skip, View.readCov_cons_toLoadRect]
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j, hj⟩ := fin_of t1_lt
    obtain ⟨hq, rfl⟩ := at_val q (1920 + j.val)
    rw [pt2 t i j (h0.symm.trans ti) hj]
    exact (pairY15 _ _ _ _ _ _ _ _ _ first_at _ (fun h x => acst_at _ _ h x) i j (hdOf ⟨1920 + j.val, by omega⟩) (by show (_ : Nat) / 64 = _; dsimp only; omega)).trans
      (fin_y (prev := k0_pay6 x8) (hs := hs) (p := 15) (hht := by exact fun n => init15 _ _ (fun y => hx9 _) (fun y => hx9 _) n j))
  case piece1 =>
    obtain ⟨j, hj⟩ := fin_of t1_lt
    obtain ⟨hq, rfl⟩ := at_val q (1792 + j.val)
    rw [pt2 t i j (h0.symm.trans ti) hj]
    exact (pairY14 _ _ _ _ _ _ _ _ _ first_at _ (fun h x => acst_at _ _ h x) i j (hdOf ⟨1792 + j.val, by omega⟩) (by show (_ : Nat) / 64 = _; dsimp only; omega)).trans
      (fin_y (prev := k0_pay6 x8) (hs := hs) (p := 14) (hht := by exact fun n => init14 _ _ (fun y => hx9 _) (fun y => hx9 _) n j))
  case piece2 =>
    obtain ⟨j, hj⟩ := fin_of t1_lt
    obtain ⟨hq, rfl⟩ := at_val q (1664 + j.val)
    rw [pt2 t i j (h0.symm.trans ti) hj]
    exact (pairY13 _ _ _ _ _ _ _ _ _ first_at _ (fun h x => acst_at _ _ h x) i j (hdOf ⟨1664 + j.val, by omega⟩) (by show (_ : Nat) / 64 = _; dsimp only; omega)).trans
      (fin_y (prev := k0_pay6 x8) (hs := hs) (p := 13) (hht := by exact fun n => init13 _ _ (fun y => hx9 _) (fun y => hx9 _) n j))
  case piece3 =>
    obtain ⟨j, hj⟩ := fin_of t1_lt
    obtain ⟨hq, rfl⟩ := at_val q (1536 + j.val)
    rw [pt2 t i j (h0.symm.trans ti) hj]
    exact (pairY12 _ _ _ _ _ _ _ _ _ first_at _ (fun h x => acst_at _ _ h x) i j (hdOf ⟨1536 + j.val, by omega⟩) (by show (_ : Nat) / 64 = _; dsimp only; omega)).trans
      (fin_y (prev := k0_pay6 x8) (hs := hs) (p := 12) (hht := by exact fun n => init12 _ _ (fun y => hx9 _) (fun y => hx9 _) n j))
  case piece4 =>
    obtain ⟨j, hj⟩ := fin_of t1_lt
    obtain ⟨hq, rfl⟩ := at_val q (1408 + j.val)
    rw [pt2 t i j (h0.symm.trans ti) hj]
    exact (pairY11 _ _ _ _ _ _ _ _ _ first_at _ (fun h x => acst_at _ _ h x) i j (hdOf ⟨1408 + j.val, by omega⟩) (by show (_ : Nat) / 64 = _; dsimp only; omega)).trans
      (fin_y (prev := k0_pay6 x8) (hs := hs) (p := 11) (hht := by exact fun n => init11 _ _ (fun y => hx9 _) (fun y => hx9 _) n j))
  case piece5 =>
    obtain ⟨j, hj⟩ := fin_of t1_lt
    obtain ⟨hq, rfl⟩ := at_val q (1280 + j.val)
    rw [pt2 t i j (h0.symm.trans ti) hj]
    exact (pairY10 _ _ _ _ _ _ _ _ _ first_at _ (fun h x => acst_at _ _ h x) i j (hdOf ⟨1280 + j.val, by omega⟩) (by show (_ : Nat) / 64 = _; dsimp only; omega)).trans
      (fin_y (prev := k0_pay6 x8) (hs := hs) (p := 10) (hht := by exact fun n => init10 _ _ (fun y => hx9 _) (fun y => hx9 _) n j))
  case piece6 =>
    obtain ⟨j, hj⟩ := fin_of t1_lt
    obtain ⟨hq, rfl⟩ := at_val q (1152 + j.val)
    rw [pt2 t i j (h0.symm.trans ti) hj]
    exact (pairY9 _ _ _ _ _ _ _ _ _ first_at _ (fun h x => acst_at _ _ h x) i j (hdOf ⟨1152 + j.val, by omega⟩) (by show (_ : Nat) / 64 = _; dsimp only; omega)).trans
      (fin_y (prev := k0_pay6 x8) (hs := hs) (p := 9) (hht := by exact fun n => init9 _ _ (fun y => hx9 _) (fun y => hx9 _) n j))
  case piece7 =>
    obtain ⟨j, hj⟩ := fin_of t1_lt
    obtain ⟨hq, rfl⟩ := at_val q (1024 + j.val)
    rw [pt2 t i j (h0.symm.trans ti) hj]
    exact (pairY8 _ _ _ _ _ _ _ _ _ first_at _ (fun h x => acst_at _ _ h x) i j (hdOf ⟨1024 + j.val, by omega⟩) (by show (_ : Nat) / 64 = _; dsimp only; omega)).trans
      (fin_y (prev := k0_pay6 x8) (hs := hs) (p := 8) (hht := by exact fun n => init8 _ _ (fun y => hx9 _) (fun y => hx9 _) n j))
  case piece8 =>
    obtain ⟨j, hj⟩ := fin_of t1_lt
    obtain ⟨hq, rfl⟩ := at_val q (896 + j.val)
    rw [pt2 t i j (h0.symm.trans ti) hj]
    exact (pairY7 _ _ _ _ _ _ _ _ _ first_at _ (fun h x => acst_at _ _ h x) i j (hdOf ⟨896 + j.val, by omega⟩) (by show (_ : Nat) / 64 = _; dsimp only; omega)).trans
      (fin_y (prev := k0_pay6 x8) (hs := hs) (p := 7) (hht := by exact fun n => init7 _ _ (fun y => hx9 _) (fun y => hx9 _) n j))
  case piece9 =>
    obtain ⟨j, hj⟩ := fin_of t1_lt
    obtain ⟨hq, rfl⟩ := at_val q (768 + j.val)
    rw [pt2 t i j (h0.symm.trans ti) hj]
    exact (pairY6 _ _ _ _ _ _ _ _ _ first_at _ (fun h x => acst_at _ _ h x) i j (hdOf ⟨768 + j.val, by omega⟩) (by show (_ : Nat) / 64 = _; dsimp only; omega)).trans
      (fin_y (prev := k0_pay6 x8) (hs := hs) (p := 6) (hht := by exact fun n => init6 _ _ (fun y => hx9 _) (fun y => hx9 _) n j))
  case piece10 =>
    obtain ⟨j, hj⟩ := fin_of t1_lt
    obtain ⟨hq, rfl⟩ := at_val q (640 + j.val)
    rw [pt2 t i j (h0.symm.trans ti) hj]
    exact (pairY5 _ _ _ _ _ _ _ _ _ first_at _ (fun h x => acst_at _ _ h x) i j (hdOf ⟨640 + j.val, by omega⟩) (by show (_ : Nat) / 64 = _; dsimp only; omega)).trans
      (fin_y (prev := k0_pay6 x8) (hs := hs) (p := 5) (hht := by exact fun n => init5 _ _ (fun y => hx9 _) (fun y => hx9 _) n j))
  case piece11 =>
    obtain ⟨j, hj⟩ := fin_of t1_lt
    obtain ⟨hq, rfl⟩ := at_val q (512 + j.val)
    rw [pt2 t i j (h0.symm.trans ti) hj]
    exact (pairY4 _ _ _ _ _ _ _ _ _ first_at _ (fun h x => acst_at _ _ h x) i j (hdOf ⟨512 + j.val, by omega⟩) (by show (_ : Nat) / 64 = _; dsimp only; omega)).trans
      (fin_y (prev := k0_pay6 x8) (hs := hs) (p := 4) (hht := by exact fun n => init4 _ _ (fun y => hx9 _) (fun y => hx9 _) n j))
  case piece12 =>
    obtain ⟨j, hj⟩ := fin_of t1_lt
    obtain ⟨hq, rfl⟩ := at_val q (384 + j.val)
    rw [pt2 t i j (h0.symm.trans ti) hj]
    exact (pairY3 _ _ _ _ _ _ _ _ _ first_at _ (fun h x => acst_at _ _ h x) i j (hdOf ⟨384 + j.val, by omega⟩) (by show (_ : Nat) / 64 = _; dsimp only; omega)).trans
      (fin_y (prev := k0_pay6 x8) (hs := hs) (p := 3) (hht := by exact fun n => init3 _ _ (fun y => hx9 _) (fun y => hx9 _) n j))
  case piece13 =>
    obtain ⟨j, hj⟩ := fin_of t1_lt
    obtain ⟨hq, rfl⟩ := at_val q (256 + j.val)
    rw [pt2 t i j (h0.symm.trans ti) hj]
    exact (pairY2 _ _ _ _ _ _ _ _ _ first_at _ (fun h x => acst_at _ _ h x) i j (hdOf ⟨256 + j.val, by omega⟩) (by show (_ : Nat) / 64 = _; dsimp only; omega)).trans
      (fin_y (prev := k0_pay6 x8) (hs := hs) (p := 2) (hht := by exact fun n => init2 _ _ (fun y => hx9 _) (fun y => hx9 _) n j))
  case piece14 =>
    obtain ⟨j, hj⟩ := fin_of t1_lt
    obtain ⟨hq, rfl⟩ := at_val q (128 + j.val)
    rw [pt2 t i j (h0.symm.trans ti) hj]
    exact (pairY1 _ _ _ _ _ _ _ _ _ first_at _ (fun h x => acst_at _ _ h x) i j (hdOf ⟨128 + j.val, by omega⟩) (by show (_ : Nat) / 64 = _; dsimp only; omega)).trans
      (fin_y (prev := k0_pay6 x8) (hs := hs) (p := 1) (hht := by exact fun n => init1 _ _ (fun y => hx9 _) (fun y => hx9 _) n j))
  case piece15 =>
    obtain ⟨j, hj⟩ := fin_of t1_lt
    obtain ⟨hq, rfl⟩ := at_val q (j.val)
    rw [pt2 t i j (h0.symm.trans ti) hj]
    exact (pairY0 _ _ _ _ _ _ _ _ _ _ first_at _ (fun h x => acst_at _ _ h x) i j (hdOf ⟨j.val, by omega⟩) (by show (_ : Nat) / 64 = _; dsimp only; omega)).trans
      (fin_y (prev := k0_pay6 x8) (hs := hs) (p := 0) (hht := by exact fun n => init0 _ _ (fun y => hx9 _) (fun y => hx9 _) n j))

end Cert.Kernel10Ideal.Value
end
-- ==== Proof.SsdYB.lean ====
module

public import proofs.«01_k».proof.Proof.Gen.Kernel10Ideal.Value
public import proofs.«01_k».proof.Proof.Rows
public import proofs.«01_k».proof.Proof.SsdFin
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The output of a middle chunk. -/
namespace Cert.Kernel10Ideal.Value
open Cert.Kernel10Ideal Cert.Kernel10Ideal.Gen Cert.Rows Cert.Ssd

set_option maxHeartbeats 4000000 in
/-- What the body stores in the output, entry by entry. -/
theorem yB_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  (hs : ∀ i h, x2 (ix2 i h) + x5 (ix2 0 h) < (⊤ : EReal)) (i : Fin 128) (q : Fin 2048) (t : S128x2048.Idx) (ti : (t 0).val = i.val) (tq : (t 1).val = q.val) :
    out0_B_10 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 t = yC (blkAct x1 xs0 x3 x4) (blkDt x2 x5) (blkRate x6) (fun n q => xs1 (ix3 ⟨q.val / 128, by omega⟩ n ⟨q.val % 128, by omega⟩)) (fun i q => x0 (ix2 i q)) (fun q => x7 (ix2 0 q)) i q := by
  unfold out0_B_10
  frame_out
  canon_tiles t h
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j, hj⟩ := fin_of t1_lt
    obtain ⟨hq, rfl⟩ := at_val q (1920 + j.val)
    rw [pt2 t i j (h0.symm.trans ti) hj]
    exact (pairY15 _ _ _ _ _ _ _ _ _ first_at _ (fun h x => acst_at _ _ h x) i j (hdOf ⟨1920 + j.val, by omega⟩) (by show (_ : Nat) / 64 = _; dsimp only; omega)).trans
      (fin_y (prev := xs0) (hs := hs) (p := 15) (hht := by exact fun n => congrArg xs1 (pt3g _ _)))
  case piece1 =>
    obtain ⟨j, hj⟩ := fin_of t1_lt
    obtain ⟨hq, rfl⟩ := at_val q (1792 + j.val)
    rw [pt2 t i j (h0.symm.trans ti) hj]
    exact (pairY14 _ _ _ _ _ _ _ _ _ first_at _ (fun h x => acst_at _ _ h x) i j (hdOf ⟨1792 + j.val, by omega⟩) (by show (_ : Nat) / 64 = _; dsimp only; omega)).trans
      (fin_y (prev := xs0) (hs := hs) (p := 14) (hht := by exact fun n => congrArg xs1 (pt3g _ _)))
  case piece2 =>
    obtain ⟨j, hj⟩ := fin_of t1_lt
    obtain ⟨hq, rfl⟩ := at_val q (1664 + j.val)
    rw [pt2 t i j (h0.symm.trans ti) hj]
    exact (pairY13 _ _ _ _ _ _ _ _ _ first_at _ (fun h x => acst_at _ _ h x) i j (hdOf ⟨1664 + j.val, by omega⟩) (by show (_ : Nat) / 64 = _; dsimp only; omega)).trans
      (fin_y (prev := xs0) (hs := hs) (p := 13) (hht := by exact fun n => congrArg xs1 (pt3g _ _)))
  case piece3 =>
    obtain ⟨j, hj⟩ := fin_of t1_lt
    obtain ⟨hq, rfl⟩ := at_val q (1536 + j.val)
    rw [pt2 t i j (h0.symm.trans ti) hj]
    exact (pairY12 _ _ _ _ _ _ _ _ _ first_at _ (fun h x => acst_at _ _ h x) i j (hdOf ⟨1536 + j.val, by omega⟩) (by show (_ : Nat) / 64 = _; dsimp only; omega)).trans
      (fin_y (prev := xs0) (hs := hs) (p := 12) (hht := by exact fun n => congrArg xs1 (pt3g _ _)))
  case piece4 =>
    obtain ⟨j, hj⟩ := fin_of t1_lt
    obtain ⟨hq, rfl⟩ := at_val q (1408 + j.val)
    rw [pt2 t i j (h0.symm.trans ti) hj]
    exact (pairY11 _ _ _ _ _ _ _ _ _ first_at _ (fun h x => acst_at _ _ h x) i j (hdOf ⟨1408 + j.val, by omega⟩) (by show (_ : Nat) / 64 = _; dsimp only; omega)).trans
      (fin_y (prev := xs0) (hs := hs) (p := 11) (hht := by exact fun n => congrArg xs1 (pt3g _ _)))
  case piece5 =>
    obtain ⟨j, hj⟩ := fin_of t1_lt
    obtain ⟨hq, rfl⟩ := at_val q (1280 + j.val)
    rw [pt2 t i j (h0.symm.trans ti) hj]
    exact (pairY10 _ _ _ _ _ _ _ _ _ first_at _ (fun h x => acst_at _ _ h x) i j (hdOf ⟨1280 + j.val, by omega⟩) (by show (_ : Nat) / 64 = _; dsimp only; omega)).trans
      (fin_y (prev := xs0) (hs := hs) (p := 10) (hht := by exact fun n => congrArg xs1 (pt3g _ _)))
  case piece6 =>
    obtain ⟨j, hj⟩ := fin_of t1_lt
    obtain ⟨hq, rfl⟩ := at_val q (1152 + j.val)
    rw [pt2 t i j (h0.symm.trans ti) hj]
    exact (pairY9 _ _ _ _ _ _ _ _ _ first_at _ (fun h x => acst_at _ _ h x) i j (hdOf ⟨1152 + j.val, by omega⟩) (by show (_ : Nat) / 64 = _; dsimp only; omega)).trans
      (fin_y (prev := xs0) (hs := hs) (p := 9) (hht := by exact fun n => congrArg xs1 (pt3g _ _)))
  case piece7 =>
    obtain ⟨j, hj⟩ := fin_of t1_lt
    obtain ⟨hq, rfl⟩ := at_val q (1024 + j.val)
    rw [pt2 t i j (h0.symm.trans ti) hj]
    exact (pairY8 _ _ _ _ _ _ _ _ _ first_at _ (fun h x => acst_at _ _ h x) i j (hdOf ⟨1024 + j.val, by omega⟩) (by show (_ : Nat) / 64 = _; dsimp only; omega)).trans
      (fin_y (prev := xs0) (hs := hs) (p := 8) (hht := by exact fun n => congrArg xs1 (pt3g _ _)))
  case piece8 =>
    obtain ⟨j, hj⟩ := fin_of t1_lt
    obtain ⟨hq, rfl⟩ := at_val q (896 + j.val)
    rw [pt2 t i j (h0.symm.trans ti) hj]
    exact (pairY7 _ _ _ _ _ _ _ _ _ first_at _ (fun h x => acst_at _ _ h x) i j (hdOf ⟨896 + j.val, by omega⟩) (by show (_ : Nat) / 64 = _; dsimp only; omega)).trans
      (fin_y (prev := xs0) (hs := hs) (p := 7) (hht := by exact fun n => congrArg xs1 (pt3g _ _)))
  case piece9 =>
    obtain ⟨j, hj⟩ := fin_of t1_lt
    obtain ⟨hq, rfl⟩ := at_val q (768 + j.val)
    rw [pt2 t i j (h0.symm.trans ti) hj]
    exact (pairY6 _ _ _ _ _ _ _ _ _ first_at _ (fun h x => acst_at _ _ h x) i j (hdOf ⟨768 + j.val, by omega⟩) (by show (_ : Nat) / 64 = _; dsimp only; omega)).trans
      (fin_y (prev := xs0) (hs := hs) (p := 6) (hht := by exact fun n => congrArg xs1 (pt3g _ _)))
  case piece10 =>
    obtain ⟨j, hj⟩ := fin_of t1_lt
    obtain ⟨hq, rfl⟩ := at_val q (640 + j.val)
    rw [pt2 t i j (h0.symm.trans ti) hj]
    exact (pairY5 _ _ _ _ _ _ _ _ _ first_at _ (fun h x => acst_at _ _ h x) i j (hdOf ⟨640 + j.val, by omega⟩) (by show (_ : Nat) / 64 = _; dsimp only; omega)).trans
      (fin_y (prev := xs0) (hs := hs) (p := 5) (hht := by exact fun n => congrArg xs1 (pt3g _ _)))
  case piece11 =>
    obtain ⟨j, hj⟩ := fin_of t1_lt
    obtain ⟨hq, rfl⟩ := at_val q (512 + j.val)
    rw [pt2 t i j (h0.symm.trans ti) hj]
    exact (pairY4 _ _ _ _ _ _ _ _ _ first_at _ (fun h x => acst_at _ _ h x) i j (hdOf ⟨512 + j.val, by omega⟩) (by show (_ : Nat) / 64 = _; dsimp only; omega)).trans
      (fin_y (prev := xs0) (hs := hs) (p := 4) (hht := by exact fun n => congrArg xs1 (pt3g _ _)))
  case piece12 =>
    obtain ⟨j, hj⟩ := fin_of t1_lt
    obtain ⟨hq, rfl⟩ := at_val q (384 + j.val)
    rw [pt2 t i j (h0.symm.trans ti) hj]
    exact (pairY3 _ _ _ _ _ _ _ _ _ first_at _ (fun h x => acst_at _ _ h x) i j (hdOf ⟨384 + j.val, by omega⟩) (by show (_ : Nat) / 64 = _; dsimp only; omega)).trans
      (fin_y (prev := xs0) (hs := hs) (p := 3) (hht := by exact fun n => congrArg xs1 (pt3g _ _)))
  case piece13 =>
    obtain ⟨j, hj⟩ := fin_of t1_lt
    obtain ⟨hq, rfl⟩ := at_val q (256 + j.val)
    rw [pt2 t i j (h0.symm.trans ti) hj]
    exact (pairY2 _ _ _ _ _ _ _ _ _ first_at _ (fun h x => acst_at _ _ h x) i j (hdOf ⟨256 + j.val, by omega⟩) (by show (_ : Nat) / 64 = _; dsimp only; omega)).trans
      (fin_y (prev := xs0) (hs := hs) (p := 2) (hht := by exact fun n => congrArg xs1 (pt3g _ _)))
  case piece14 =>
    obtain ⟨j, hj⟩ := fin_of t1_lt
    obtain ⟨hq, rfl⟩ := at_val q (128 + j.val)
    rw [pt2 t i j (h0.symm.trans ti) hj]
    exact (pairY1 _ _ _ _ _ _ _ _ _ first_at _ (fun h x => acst_at _ _ h x) i j (hdOf ⟨128 + j.val, by omega⟩) (by show (_ : Nat) / 64 = _; dsimp only; omega)).trans
      (fin_y (prev := xs0) (hs := hs) (p := 1) (hht := by exact fun n => congrArg xs1 (pt3g _ _)))
  case piece15 =>
    obtain ⟨j, hj⟩ := fin_of t1_lt
    obtain ⟨hq, rfl⟩ := at_val q (j.val)
    rw [pt2 t i j (h0.symm.trans ti) hj]
    exact (pairY0 _ _ _ _ _ _ _ _ _ _ first_at _ (fun h x => acst_at _ _ h x) i j (hdOf ⟨j.val, by omega⟩) (by show (_ : Nat) / 64 = _; dsimp only; omega)).trans
      (fin_y (prev := xs0) (hs := hs) (p := 0) (hht := by exact fun n => congrArg xs1 (pt3g _ _)))

end Cert.Kernel10Ideal.Value
end
-- ==== Proof.SsdYC.lean ====
module

public import proofs.«01_k».proof.Proof.Gen.Kernel10Ideal.Value
public import proofs.«01_k».proof.Proof.Rows
public import proofs.«01_k».proof.Proof.SsdFin
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The output of a batch's last chunk. -/
namespace Cert.Kernel10Ideal.Value
open Cert.Kernel10Ideal Cert.Kernel10Ideal.Gen Cert.Rows Cert.Ssd

set_option maxHeartbeats 4000000 in
/-- What the body stores in the output, entry by entry. -/
theorem yC_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  (hs : ∀ i h, x2 (ix2 i h) + x5 (ix2 0 h) < (⊤ : EReal)) (i : Fin 128) (q : Fin 2048) (t : S128x2048.Idx) (ti : (t 0).val = i.val) (tq : (t 1).val = q.val) :
    out0_C_10 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 t = yC (blkAct x1 xs0 x3 x4) (blkDt x2 x5) (blkRate x6) (fun n q => xs1 (ix3 ⟨q.val / 128, by omega⟩ n ⟨q.val % 128, by omega⟩)) (fun i q => x0 (ix2 i q)) (fun q => x7 (ix2 0 q)) i q := by
  unfold out0_C_10
  frame_out
  canon_tiles t h
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j, hj⟩ := fin_of t1_lt
    obtain ⟨hq, rfl⟩ := at_val q (1920 + j.val)
    rw [pt2 t i j (h0.symm.trans ti) hj]
    exact (pairY15 _ _ _ _ _ _ _ _ _ first_at _ (fun h x => acst_at _ _ h x) i j (hdOf ⟨1920 + j.val, by omega⟩) (by show (_ : Nat) / 64 = _; dsimp only; omega)).trans
      (fin_y (prev := xs0) (hs := hs) (p := 15) (hht := by exact fun n => congrArg xs1 (pt3g _ _)))
  case piece1 =>
    obtain ⟨j, hj⟩ := fin_of t1_lt
    obtain ⟨hq, rfl⟩ := at_val q (1792 + j.val)
    rw [pt2 t i j (h0.symm.trans ti) hj]
    exact (pairY14 _ _ _ _ _ _ _ _ _ first_at _ (fun h x => acst_at _ _ h x) i j (hdOf ⟨1792 + j.val, by omega⟩) (by show (_ : Nat) / 64 = _; dsimp only; omega)).trans
      (fin_y (prev := xs0) (hs := hs) (p := 14) (hht := by exact fun n => congrArg xs1 (pt3g _ _)))
  case piece2 =>
    obtain ⟨j, hj⟩ := fin_of t1_lt
    obtain ⟨hq, rfl⟩ := at_val q (1664 + j.val)
    rw [pt2 t i j (h0.symm.trans ti) hj]
    exact (pairY13 _ _ _ _ _ _ _ _ _ first_at _ (fun h x => acst_at _ _ h x) i j (hdOf ⟨1664 + j.val, by omega⟩) (by show (_ : Nat) / 64 = _; dsimp only; omega)).trans
      (fin_y (prev := xs0) (hs := hs) (p := 13) (hht := by exact fun n => congrArg xs1 (pt3g _ _)))
  case piece3 =>
    obtain ⟨j, hj⟩ := fin_of t1_lt
    obtain ⟨hq, rfl⟩ := at_val q (1536 + j.val)
    rw [pt2 t i j (h0.symm.trans ti) hj]
    exact (pairY12 _ _ _ _ _ _ _ _ _ first_at _ (fun h x => acst_at _ _ h x) i j (hdOf ⟨1536 + j.val, by omega⟩) (by show (_ : Nat) / 64 = _; dsimp only; omega)).trans
      (fin_y (prev := xs0) (hs := hs) (p := 12) (hht := by exact fun n => congrArg xs1 (pt3g _ _)))
  case piece4 =>
    obtain ⟨j, hj⟩ := fin_of t1_lt
    obtain ⟨hq, rfl⟩ := at_val q (1408 + j.val)
    rw [pt2 t i j (h0.symm.trans ti) hj]
    exact (pairY11 _ _ _ _ _ _ _ _ _ first_at _ (fun h x => acst_at _ _ h x) i j (hdOf ⟨1408 + j.val, by omega⟩) (by show (_ : Nat) / 64 = _; dsimp only; omega)).trans
      (fin_y (prev := xs0) (hs := hs) (p := 11) (hht := by exact fun n => congrArg xs1 (pt3g _ _)))
  case piece5 =>
    obtain ⟨j, hj⟩ := fin_of t1_lt
    obtain ⟨hq, rfl⟩ := at_val q (1280 + j.val)
    rw [pt2 t i j (h0.symm.trans ti) hj]
    exact (pairY10 _ _ _ _ _ _ _ _ _ first_at _ (fun h x => acst_at _ _ h x) i j (hdOf ⟨1280 + j.val, by omega⟩) (by show (_ : Nat) / 64 = _; dsimp only; omega)).trans
      (fin_y (prev := xs0) (hs := hs) (p := 10) (hht := by exact fun n => congrArg xs1 (pt3g _ _)))
  case piece6 =>
    obtain ⟨j, hj⟩ := fin_of t1_lt
    obtain ⟨hq, rfl⟩ := at_val q (1152 + j.val)
    rw [pt2 t i j (h0.symm.trans ti) hj]
    exact (pairY9 _ _ _ _ _ _ _ _ _ first_at _ (fun h x => acst_at _ _ h x) i j (hdOf ⟨1152 + j.val, by omega⟩) (by show (_ : Nat) / 64 = _; dsimp only; omega)).trans
      (fin_y (prev := xs0) (hs := hs) (p := 9) (hht := by exact fun n => congrArg xs1 (pt3g _ _)))
  case piece7 =>
    obtain ⟨j, hj⟩ := fin_of t1_lt
    obtain ⟨hq, rfl⟩ := at_val q (1024 + j.val)
    rw [pt2 t i j (h0.symm.trans ti) hj]
    exact (pairY8 _ _ _ _ _ _ _ _ _ first_at _ (fun h x => acst_at _ _ h x) i j (hdOf ⟨1024 + j.val, by omega⟩) (by show (_ : Nat) / 64 = _; dsimp only; omega)).trans
      (fin_y (prev := xs0) (hs := hs) (p := 8) (hht := by exact fun n => congrArg xs1 (pt3g _ _)))
  case piece8 =>
    obtain ⟨j, hj⟩ := fin_of t1_lt
    obtain ⟨hq, rfl⟩ := at_val q (896 + j.val)
    rw [pt2 t i j (h0.symm.trans ti) hj]
    exact (pairY7 _ _ _ _ _ _ _ _ _ first_at _ (fun h x => acst_at _ _ h x) i j (hdOf ⟨896 + j.val, by omega⟩) (by show (_ : Nat) / 64 = _; dsimp only; omega)).trans
      (fin_y (prev := xs0) (hs := hs) (p := 7) (hht := by exact fun n => congrArg xs1 (pt3g _ _)))
  case piece9 =>
    obtain ⟨j, hj⟩ := fin_of t1_lt
    obtain ⟨hq, rfl⟩ := at_val q (768 + j.val)
    rw [pt2 t i j (h0.symm.trans ti) hj]
    exact (pairY6 _ _ _ _ _ _ _ _ _ first_at _ (fun h x => acst_at _ _ h x) i j (hdOf ⟨768 + j.val, by omega⟩) (by show (_ : Nat) / 64 = _; dsimp only; omega)).trans
      (fin_y (prev := xs0) (hs := hs) (p := 6) (hht := by exact fun n => congrArg xs1 (pt3g _ _)))
  case piece10 =>
    obtain ⟨j, hj⟩ := fin_of t1_lt
    obtain ⟨hq, rfl⟩ := at_val q (640 + j.val)
    rw [pt2 t i j (h0.symm.trans ti) hj]
    exact (pairY5 _ _ _ _ _ _ _ _ _ first_at _ (fun h x => acst_at _ _ h x) i j (hdOf ⟨640 + j.val, by omega⟩) (by show (_ : Nat) / 64 = _; dsimp only; omega)).trans
      (fin_y (prev := xs0) (hs := hs) (p := 5) (hht := by exact fun n => congrArg xs1 (pt3g _ _)))
  case piece11 =>
    obtain ⟨j, hj⟩ := fin_of t1_lt
    obtain ⟨hq, rfl⟩ := at_val q (512 + j.val)
    rw [pt2 t i j (h0.symm.trans ti) hj]
    exact (pairY4 _ _ _ _ _ _ _ _ _ first_at _ (fun h x => acst_at _ _ h x) i j (hdOf ⟨512 + j.val, by omega⟩) (by show (_ : Nat) / 64 = _; dsimp only; omega)).trans
      (fin_y (prev := xs0) (hs := hs) (p := 4) (hht := by exact fun n => congrArg xs1 (pt3g _ _)))
  case piece12 =>
    obtain ⟨j, hj⟩ := fin_of t1_lt
    obtain ⟨hq, rfl⟩ := at_val q (384 + j.val)
    rw [pt2 t i j (h0.symm.trans ti) hj]
    exact (pairY3 _ _ _ _ _ _ _ _ _ first_at _ (fun h x => acst_at _ _ h x) i j (hdOf ⟨384 + j.val, by omega⟩) (by show (_ : Nat) / 64 = _; dsimp only; omega)).trans
      (fin_y (prev := xs0) (hs := hs) (p := 3) (hht := by exact fun n => congrArg xs1 (pt3g _ _)))
  case piece13 =>
    obtain ⟨j, hj⟩ := fin_of t1_lt
    obtain ⟨hq, rfl⟩ := at_val q (256 + j.val)
    rw [pt2 t i j (h0.symm.trans ti) hj]
    exact (pairY2 _ _ _ _ _ _ _ _ _ first_at _ (fun h x => acst_at _ _ h x) i j (hdOf ⟨256 + j.val, by omega⟩) (by show (_ : Nat) / 64 = _; dsimp only; omega)).trans
      (fin_y (prev := xs0) (hs := hs) (p := 2) (hht := by exact fun n => congrArg xs1 (pt3g _ _)))
  case piece14 =>
    obtain ⟨j, hj⟩ := fin_of t1_lt
    obtain ⟨hq, rfl⟩ := at_val q (128 + j.val)
    rw [pt2 t i j (h0.symm.trans ti) hj]
    exact (pairY1 _ _ _ _ _ _ _ _ _ first_at _ (fun h x => acst_at _ _ h x) i j (hdOf ⟨128 + j.val, by omega⟩) (by show (_ : Nat) / 64 = _; dsimp only; omega)).trans
      (fin_y (prev := xs0) (hs := hs) (p := 1) (hht := by exact fun n => congrArg xs1 (pt3g _ _)))
  case piece15 =>
    obtain ⟨j, hj⟩ := fin_of t1_lt
    obtain ⟨hq, rfl⟩ := at_val q (j.val)
    rw [pt2 t i j (h0.symm.trans ti) hj]
    exact (pairY0 _ _ _ _ _ _ _ _ _ _ first_at _ (fun h x => acst_at _ _ h x) i j (hdOf ⟨j.val, by omega⟩) (by show (_ : Nat) / 64 = _; dsimp only; omega)).trans
      (fin_y (prev := xs0) (hs := hs) (p := 0) (hht := by exact fun n => congrArg xs1 (pt3g _ _)))

end Cert.Kernel10Ideal.Value
end
-- ==== Proof.SsdHA.lean ====
module

public import proofs.«01_k».proof.Proof.Gen.Kernel10Ideal.Value
public import proofs.«01_k».proof.Proof.Rows
public import proofs.«01_k».proof.Proof.SsdFin
public import proofs.«01_k».proof.Proof.SsdInit
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The state a batch's first chunk leaves. -/
namespace Cert.Kernel10Ideal.Value
open Cert.Kernel10Ideal Cert.Kernel10Ideal.Gen Cert.Rows Cert.Ssd

set_option maxHeartbeats 0 in
/-- What the first body of a batch leaves in the carried state, entry by entry. -/
theorem hA_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32)  (hx9 : ∀ k, x9 k = (0 : EReal)) (hs : ∀ i h, x2 (ix2 i h) + x5 (ix2 0 h) < (⊤ : EReal)) (n : Fin 128) (q : Fin 2048) (t : S16x128x128.Idx) (tn : (t 1).val = n.val) (tq : 128 * (t 0).val + (t 2).val = q.val) :
    sout0_A_1 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 t = hC (blkAct x1 (k0_pay6 x8) x3 x4) (blkDt x2 x5) (blkRate x6) zeroS n q := by
  obtain ⟨G, hG⟩ : ∃ G : S16x128x128.Idx → EReal, ∀ (y : S16x128x128.Idx) (n : Fin 128) (q : Fin 2048), (y 1).val = n.val → 128 * (y 0).val + (y 2).val = q.val → hC (blkAct x1 (k0_pay6 x8) x3 x4) (blkDt x2 x5) (blkRate x6) zeroS n q = G y :=
    ⟨fun y => hC (blkAct x1 (k0_pay6 x8) x3 x4) (blkDt x2 x5) (blkRate x6) zeroS ⟨(y 1).val, (y 1).isLt⟩ ⟨128 * (y 0).val + (y 2).val, by have a : (y 0).val < 16 := (y 0).isLt; have b : (y 2).val < 128 := (y 2).isLt; omega⟩,
      fun y n q h1 h2 => congrArg₂ (hC (blkAct x1 (k0_pay6 x8) x3 x4) (blkDt x2 x5) (blkRate x6) zeroS) (Fin.ext h1.symm) (Fin.ext h2.symm)⟩
  rw [hG t n q tn tq]
  unfold sout0_A_1
  frame_out
  refine (congrArg (fun L => View.canon L t) (List.take_append_drop 16 _).symm).trans ?_
  refine View.canon_append_of_piecesOf (Val := Elt Ideal) (e := EltTy.f32) G _ _ ?_ t (View.cover_of_tiledL _ ![1, 128, 128] (by sl_kernel_rfl) t)
  refine ⟨fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, trivial⟩
  all_goals try simp (disch := decide) only [View.readCov_skip, View.readCov_cons_toLoadRect]
  all_goals try dsimp only
  all_goals clear tn tq t n q
  all_goals try clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1920 + j.val, by have hjl := j.isLt; clear * - hjl; omega⟩ (by show 0 + 1 * (x 1).val = _; omega) (by show 128 * (15 + 1 * (x 0).val) + (0 + 1 * (x 2).val) = _; have h0 : (x 0).val < 1 := (x 0).isLt; dsimp only; omega))
    rw [pt3 x n j hn hj]
    exact (pairH15 _ _ _ _ n j).trans
      (fin_h (prev := k0_pay6 x8) (hs := hs) (p := 15) (hht := by exact init15 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1792 + j.val, by have hjl := j.isLt; clear * - hjl; omega⟩ (by show 0 + 1 * (x 1).val = _; omega) (by show 128 * (14 + 1 * (x 0).val) + (0 + 1 * (x 2).val) = _; have h0 : (x 0).val < 1 := (x 0).isLt; dsimp only; omega))
    rw [pt3 x n j hn hj]
    exact (pairH14 _ _ _ _ n j).trans
      (fin_h (prev := k0_pay6 x8) (hs := hs) (p := 14) (hht := by exact init14 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1664 + j.val, by have hjl := j.isLt; clear * - hjl; omega⟩ (by show 0 + 1 * (x 1).val = _; omega) (by show 128 * (13 + 1 * (x 0).val) + (0 + 1 * (x 2).val) = _; have h0 : (x 0).val < 1 := (x 0).isLt; dsimp only; omega))
    rw [pt3 x n j hn hj]
    exact (pairH13 _ _ _ _ n j).trans
      (fin_h (prev := k0_pay6 x8) (hs := hs) (p := 13) (hht := by exact init13 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1536 + j.val, by have hjl := j.isLt; clear * - hjl; omega⟩ (by show 0 + 1 * (x 1).val = _; omega) (by show 128 * (12 + 1 * (x 0).val) + (0 + 1 * (x 2).val) = _; have h0 : (x 0).val < 1 := (x 0).isLt; dsimp only; omega))
    rw [pt3 x n j hn hj]
    exact (pairH12 _ _ _ _ n j).trans
      (fin_h (prev := k0_pay6 x8) (hs := hs) (p := 12) (hht := by exact init12 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1408 + j.val, by have hjl := j.isLt; clear * - hjl; omega⟩ (by show 0 + 1 * (x 1).val = _; omega) (by show 128 * (11 + 1 * (x 0).val) + (0 + 1 * (x 2).val) = _; have h0 : (x 0).val < 1 := (x 0).isLt; dsimp only; omega))
    rw [pt3 x n j hn hj]
    exact (pairH11 _ _ _ _ n j).trans
      (fin_h (prev := k0_pay6 x8) (hs := hs) (p := 11) (hht := by exact init11 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1280 + j.val, by have hjl := j.isLt; clear * - hjl; omega⟩ (by show 0 + 1 * (x 1).val = _; omega) (by show 128 * (10 + 1 * (x 0).val) + (0 + 1 * (x 2).val) = _; have h0 : (x 0).val < 1 := (x 0).isLt; dsimp only; omega))
    rw [pt3 x n j hn hj]
    exact (pairH10 _ _ _ _ n j).trans
      (fin_h (prev := k0_pay6 x8) (hs := hs) (p := 10) (hht := by exact init10 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1152 + j.val, by have hjl := j.isLt; clear * - hjl; omega⟩ (by show 0 + 1 * (x 1).val = _; omega) (by show 128 * (9 + 1 * (x 0).val) + (0 + 1 * (x 2).val) = _; have h0 : (x 0).val < 1 := (x 0).isLt; dsimp only; omega))
    rw [pt3 x n j hn hj]
    exact (pairH9 _ _ _ _ n j).trans
      (fin_h (prev := k0_pay6 x8) (hs := hs) (p := 9) (hht := by exact init9 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨1024 + j.val, by have hjl := j.isLt; clear * - hjl; omega⟩ (by show 0 + 1 * (x 1).val = _; omega) (by show 128 * (8 + 1 * (x 0).val) + (0 + 1 * (x 2).val) = _; have h0 : (x 0).val < 1 := (x 0).isLt; dsimp only; omega))
    rw [pt3 x n j hn hj]
    exact (pairH8 _ _ _ _ n j).trans
      (fin_h (prev := k0_pay6 x8) (hs := hs) (p := 8) (hht := by exact init8 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨896 + j.val, by have hjl := j.isLt; clear * - hjl; omega⟩ (by show 0 + 1 * (x 1).val = _; omega) (by show 128 * (7 + 1 * (x 0).val) + (0 + 1 * (x 2).val) = _; have h0 : (x 0).val < 1 := (x 0).isLt; dsimp only; omega))
    rw [pt3 x n j hn hj]
    exact (pairH7 _ _ _ _ n j).trans
      (fin_h (prev := k0_pay6 x8) (hs := hs) (p := 7) (hht := by exact init7 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨768 + j.val, by have hjl := j.isLt; clear * - hjl; omega⟩ (by show 0 + 1 * (x 1).val = _; omega) (by show 128 * (6 + 1 * (x 0).val) + (0 + 1 * (x 2).val) = _; have h0 : (x 0).val < 1 := (x 0).isLt; dsimp only; omega))
    rw [pt3 x n j hn hj]
    exact (pairH6 _ _ _ _ n j).trans
      (fin_h (prev := k0_pay6 x8) (hs := hs) (p := 6) (hht := by exact init6 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨640 + j.val, by have hjl := j.isLt; clear * - hjl; omega⟩ (by show 0 + 1 * (x 1).val = _; omega) (by show 128 * (5 + 1 * (x 0).val) + (0 + 1 * (x 2).val) = _; have h0 : (x 0).val < 1 := (x 0).isLt; dsimp only; omega))
    rw [pt3 x n j hn hj]
    exact (pairH5 _ _ _ _ n j).trans
      (fin_h (prev := k0_pay6 x8) (hs := hs) (p := 5) (hht := by exact init5 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨512 + j.val, by have hjl := j.isLt; clear * - hjl; omega⟩ (by show 0 + 1 * (x 1).val = _; omega) (by show 128 * (4 + 1 * (x 0).val) + (0 + 1 * (x 2).val) = _; have h0 : (x 0).val < 1 := (x 0).isLt; dsimp only; omega))
    rw [pt3 x n j hn hj]
    exact (pairH4 _ _ _ _ n j).trans
      (fin_h (prev := k0_pay6 x8) (hs := hs) (p := 4) (hht := by exact init4 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨384 + j.val, by have hjl := j.isLt; clear * - hjl; omega⟩ (by show 0 + 1 * (x 1).val = _; omega) (by show 128 * (3 + 1 * (x 0).val) + (0 + 1 * (x 2).val) = _; have h0 : (x 0).val < 1 := (x 0).isLt; dsimp only; omega))
    rw [pt3 x n j hn hj]
    exact (pairH3 _ _ _ _ n j).trans
      (fin_h (prev := k0_pay6 x8) (hs := hs) (p := 3) (hht := by exact init3 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨256 + j.val, by have hjl := j.isLt; clear * - hjl; omega⟩ (by show 0 + 1 * (x 1).val = _; omega) (by show 128 * (2 + 1 * (x 0).val) + (0 + 1 * (x 2).val) = _; have h0 : (x 0).val < 1 := (x 0).isLt; dsimp only; omega))
    rw [pt3 x n j hn hj]
    exact (pairH2 _ _ _ _ n j).trans
      (fin_h (prev := k0_pay6 x8) (hs := hs) (p := 2) (hht := by exact init2 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨128 + j.val, by have hjl := j.isLt; clear * - hjl; omega⟩ (by show 0 + 1 * (x 1).val = _; omega) (by show 128 * (1 + 1 * (x 0).val) + (0 + 1 * (x 2).val) = _; have h0 : (x 0).val < 1 := (x 0).isLt; dsimp only; omega))
    rw [pt3 x n j hn hj]
    exact (pairH1 _ _ _ _ n j).trans
      (fin_h (prev := k0_pay6 x8) (hs := hs) (p := 1) (hht := by exact init1 _ _ (fun y => hx9 _) (fun y => hx9 _) n j))
  · obtain ⟨n, hn⟩ : ∃ n : Fin 128, (x 1).val = n.val := ⟨⟨_, (x 1).isLt⟩, rfl⟩
    obtain ⟨j, hj⟩ : ∃ j : Fin 128, (x 2).val = j.val := ⟨⟨_, (x 2).isLt⟩, rfl⟩
    refine Eq.trans ?_ (hG _ n ⟨j.val, by have hjl := j.isLt; clear * - hjl; omega⟩ (by show 0 + 1 * (x 1).val = _; omega) (by show 128 * (0 + 1 * (x 0).val) + (0 + 1 * (x 2).val) = _; have h0 : (x 0).val < 1 := (x 0).isLt; dsimp only; omega))
    rw [pt3 x n j hn hj]
    exact (pairH0 _ _ _ _ n j).trans
      (fin_h (prev := k0_pay6 x8) (hs := hs) (p := 0) (hht := by exact init0 _ _ (fun y => hx9 _) (fun y => hx9 _) n j))

end Cert.Kernel10Ideal.Value
end
-- ==== Proof.SsdHB.lean ====
module

public import proofs.«01_k».proof.Proof.Gen.Kernel10Ideal.Value
public import proofs.«01_k».proof.Proof.Rows
public import proofs.«01_k».proof.Proof.SsdFin
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The state a middle chunk leaves. -/
namespace Cert.Kernel10Ideal.Value
open Cert.Kernel10Ideal Cert.Kernel10Ideal.Gen Cert.Rows Cert.Ssd

set_option maxHeartbeats 4000000 in
/-- What the body leaves in the carried state, entry by entry. -/
theorem hB_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : ¬cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  (hs : ∀ i h, x2 (ix2 i h) + x5 (ix2 0 h) < (⊤ : EReal)) (n : Fin 128) (q : Fin 2048) (t : S16x128x128.Idx) (tn : (t 1).val = n.val) (tq : 128 * (t 0).val + (t 2).val = q.val) :
    sout0_B_1 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 t = hC (blkAct x1 xs0 x3 x4) (blkDt x2 x5) (blkRate x6) (fun n q => xs1 (ix3 ⟨q.val / 128, by omega⟩ n ⟨q.val % 128, by omega⟩)) n q := by
  unfold sout0_B_1
  frame_out
  canon_tiles t h
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j, hj⟩ := fin_of t2_lt
    obtain ⟨hq, rfl⟩ := at_val q (1920 + j.val)
    rw [pt3 t n j (h1.symm.trans tn) hj]
    exact (pairH15 _ _ _ _ n j).trans
      (fin_h (prev := xs0) (hs := hs) (p := 15) (hht := by exact congrArg xs1 (pt3g _ _)))
  case piece1 =>
    obtain ⟨j, hj⟩ := fin_of t2_lt
    obtain ⟨hq, rfl⟩ := at_val q (1792 + j.val)
    rw [pt3 t n j (h1.symm.trans tn) hj]
    exact (pairH14 _ _ _ _ n j).trans
      (fin_h (prev := xs0) (hs := hs) (p := 14) (hht := by exact congrArg xs1 (pt3g _ _)))
  case piece2 =>
    obtain ⟨j, hj⟩ := fin_of t2_lt
    obtain ⟨hq, rfl⟩ := at_val q (1664 + j.val)
    rw [pt3 t n j (h1.symm.trans tn) hj]
    exact (pairH13 _ _ _ _ n j).trans
      (fin_h (prev := xs0) (hs := hs) (p := 13) (hht := by exact congrArg xs1 (pt3g _ _)))
  case piece3 =>
    obtain ⟨j, hj⟩ := fin_of t2_lt
    obtain ⟨hq, rfl⟩ := at_val q (1536 + j.val)
    rw [pt3 t n j (h1.symm.trans tn) hj]
    exact (pairH12 _ _ _ _ n j).trans
      (fin_h (prev := xs0) (hs := hs) (p := 12) (hht := by exact congrArg xs1 (pt3g _ _)))
  case piece4 =>
    obtain ⟨j, hj⟩ := fin_of t2_lt
    obtain ⟨hq, rfl⟩ := at_val q (1408 + j.val)
    rw [pt3 t n j (h1.symm.trans tn) hj]
    exact (pairH11 _ _ _ _ n j).trans
      (fin_h (prev := xs0) (hs := hs) (p := 11) (hht := by exact congrArg xs1 (pt3g _ _)))
  case piece5 =>
    obtain ⟨j, hj⟩ := fin_of t2_lt
    obtain ⟨hq, rfl⟩ := at_val q (1280 + j.val)
    rw [pt3 t n j (h1.symm.trans tn) hj]
    exact (pairH10 _ _ _ _ n j).trans
      (fin_h (prev := xs0) (hs := hs) (p := 10) (hht := by exact congrArg xs1 (pt3g _ _)))
  case piece6 =>
    obtain ⟨j, hj⟩ := fin_of t2_lt
    obtain ⟨hq, rfl⟩ := at_val q (1152 + j.val)
    rw [pt3 t n j (h1.symm.trans tn) hj]
    exact (pairH9 _ _ _ _ n j).trans
      (fin_h (prev := xs0) (hs := hs) (p := 9) (hht := by exact congrArg xs1 (pt3g _ _)))
  case piece7 =>
    obtain ⟨j, hj⟩ := fin_of t2_lt
    obtain ⟨hq, rfl⟩ := at_val q (1024 + j.val)
    rw [pt3 t n j (h1.symm.trans tn) hj]
    exact (pairH8 _ _ _ _ n j).trans
      (fin_h (prev := xs0) (hs := hs) (p := 8) (hht := by exact congrArg xs1 (pt3g _ _)))
  case piece8 =>
    obtain ⟨j, hj⟩ := fin_of t2_lt
    obtain ⟨hq, rfl⟩ := at_val q (896 + j.val)
    rw [pt3 t n j (h1.symm.trans tn) hj]
    exact (pairH7 _ _ _ _ n j).trans
      (fin_h (prev := xs0) (hs := hs) (p := 7) (hht := by exact congrArg xs1 (pt3g _ _)))
  case piece9 =>
    obtain ⟨j, hj⟩ := fin_of t2_lt
    obtain ⟨hq, rfl⟩ := at_val q (768 + j.val)
    rw [pt3 t n j (h1.symm.trans tn) hj]
    exact (pairH6 _ _ _ _ n j).trans
      (fin_h (prev := xs0) (hs := hs) (p := 6) (hht := by exact congrArg xs1 (pt3g _ _)))
  case piece10 =>
    obtain ⟨j, hj⟩ := fin_of t2_lt
    obtain ⟨hq, rfl⟩ := at_val q (640 + j.val)
    rw [pt3 t n j (h1.symm.trans tn) hj]
    exact (pairH5 _ _ _ _ n j).trans
      (fin_h (prev := xs0) (hs := hs) (p := 5) (hht := by exact congrArg xs1 (pt3g _ _)))
  case piece11 =>
    obtain ⟨j, hj⟩ := fin_of t2_lt
    obtain ⟨hq, rfl⟩ := at_val q (512 + j.val)
    rw [pt3 t n j (h1.symm.trans tn) hj]
    exact (pairH4 _ _ _ _ n j).trans
      (fin_h (prev := xs0) (hs := hs) (p := 4) (hht := by exact congrArg xs1 (pt3g _ _)))
  case piece12 =>
    obtain ⟨j, hj⟩ := fin_of t2_lt
    obtain ⟨hq, rfl⟩ := at_val q (384 + j.val)
    rw [pt3 t n j (h1.symm.trans tn) hj]
    exact (pairH3 _ _ _ _ n j).trans
      (fin_h (prev := xs0) (hs := hs) (p := 3) (hht := by exact congrArg xs1 (pt3g _ _)))
  case piece13 =>
    obtain ⟨j, hj⟩ := fin_of t2_lt
    obtain ⟨hq, rfl⟩ := at_val q (256 + j.val)
    rw [pt3 t n j (h1.symm.trans tn) hj]
    exact (pairH2 _ _ _ _ n j).trans
      (fin_h (prev := xs0) (hs := hs) (p := 2) (hht := by exact congrArg xs1 (pt3g _ _)))
  case piece14 =>
    obtain ⟨j, hj⟩ := fin_of t2_lt
    obtain ⟨hq, rfl⟩ := at_val q (128 + j.val)
    rw [pt3 t n j (h1.symm.trans tn) hj]
    exact (pairH1 _ _ _ _ n j).trans
      (fin_h (prev := xs0) (hs := hs) (p := 1) (hht := by exact congrArg xs1 (pt3g _ _)))
  case piece15 =>
    obtain ⟨j, hj⟩ := fin_of t2_lt
    obtain ⟨hq, rfl⟩ := at_val q (j.val)
    rw [pt3 t n j (h1.symm.trans tn) hj]
    exact (pairH0 _ _ _ _ n j).trans
      (fin_h (prev := xs0) (hs := hs) (p := 0) (hht := by exact congrArg xs1 (pt3g _ _)))

end Cert.Kernel10Ideal.Value
end
-- ==== Proof.SsdHC.lean ====
module

public import proofs.«01_k».proof.Proof.Gen.Kernel10Ideal.Value
public import proofs.«01_k».proof.Proof.Rows
public import proofs.«01_k».proof.Proof.SsdFin
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The state a batch's last chunk leaves. -/
namespace Cert.Kernel10Ideal.Value
open Cert.Kernel10Ideal Cert.Kernel10Ideal.Gen Cert.Rows Cert.Ssd

set_option maxHeartbeats 4000000 in
/-- What the body leaves in the carried state, entry by entry. -/
theorem hC_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  (hs : ∀ i h, x2 (ix2 i h) + x5 (ix2 0 h) < (⊤ : EReal)) (n : Fin 128) (q : Fin 2048) (t : S16x128x128.Idx) (tn : (t 1).val = n.val) (tq : 128 * (t 0).val + (t 2).val = q.val) :
    sout0_C_1 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 t = hC (blkAct x1 xs0 x3 x4) (blkDt x2 x5) (blkRate x6) (fun n q => xs1 (ix3 ⟨q.val / 128, by omega⟩ n ⟨q.val % 128, by omega⟩)) n q := by
  unfold sout0_C_1
  frame_out
  canon_tiles t h
  all_goals try simp (disch := decide) only [View.readCov_skip, View.readCov_cons_toLoadRect]
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j, hj⟩ := fin_of t2_lt
    obtain ⟨hq, rfl⟩ := at_val q (1920 + j.val)
    rw [pt3 t n j (h1.symm.trans tn) hj]
    exact (pairH15 _ _ _ _ n j).trans
      (fin_h (prev := xs0) (hs := hs) (p := 15) (hht := by exact congrArg xs1 (pt3g _ _)))
  case piece1 =>
    obtain ⟨j, hj⟩ := fin_of t2_lt
    obtain ⟨hq, rfl⟩ := at_val q (1792 + j.val)
    rw [pt3 t n j (h1.symm.trans tn) hj]
    exact (pairH14 _ _ _ _ n j).trans
      (fin_h (prev := xs0) (hs := hs) (p := 14) (hht := by exact congrArg xs1 (pt3g _ _)))
  case piece2 =>
    obtain ⟨j, hj⟩ := fin_of t2_lt
    obtain ⟨hq, rfl⟩ := at_val q (1664 + j.val)
    rw [pt3 t n j (h1.symm.trans tn) hj]
    exact (pairH13 _ _ _ _ n j).trans
      (fin_h (prev := xs0) (hs := hs) (p := 13) (hht := by exact congrArg xs1 (pt3g _ _)))
  case piece3 =>
    obtain ⟨j, hj⟩ := fin_of t2_lt
    obtain ⟨hq, rfl⟩ := at_val q (1536 + j.val)
    rw [pt3 t n j (h1.symm.trans tn) hj]
    exact (pairH12 _ _ _ _ n j).trans
      (fin_h (prev := xs0) (hs := hs) (p := 12) (hht := by exact congrArg xs1 (pt3g _ _)))
  case piece4 =>
    obtain ⟨j, hj⟩ := fin_of t2_lt
    obtain ⟨hq, rfl⟩ := at_val q (1408 + j.val)
    rw [pt3 t n j (h1.symm.trans tn) hj]
    exact (pairH11 _ _ _ _ n j).trans
      (fin_h (prev := xs0) (hs := hs) (p := 11) (hht := by exact congrArg xs1 (pt3g _ _)))
  case piece5 =>
    obtain ⟨j, hj⟩ := fin_of t2_lt
    obtain ⟨hq, rfl⟩ := at_val q (1280 + j.val)
    rw [pt3 t n j (h1.symm.trans tn) hj]
    exact (pairH10 _ _ _ _ n j).trans
      (fin_h (prev := xs0) (hs := hs) (p := 10) (hht := by exact congrArg xs1 (pt3g _ _)))
  case piece6 =>
    obtain ⟨j, hj⟩ := fin_of t2_lt
    obtain ⟨hq, rfl⟩ := at_val q (1152 + j.val)
    rw [pt3 t n j (h1.symm.trans tn) hj]
    exact (pairH9 _ _ _ _ n j).trans
      (fin_h (prev := xs0) (hs := hs) (p := 9) (hht := by exact congrArg xs1 (pt3g _ _)))
  case piece7 =>
    obtain ⟨j, hj⟩ := fin_of t2_lt
    obtain ⟨hq, rfl⟩ := at_val q (1024 + j.val)
    rw [pt3 t n j (h1.symm.trans tn) hj]
    exact (pairH8 _ _ _ _ n j).trans
      (fin_h (prev := xs0) (hs := hs) (p := 8) (hht := by exact congrArg xs1 (pt3g _ _)))
  case piece8 =>
    obtain ⟨j, hj⟩ := fin_of t2_lt
    obtain ⟨hq, rfl⟩ := at_val q (896 + j.val)
    rw [pt3 t n j (h1.symm.trans tn) hj]
    exact (pairH7 _ _ _ _ n j).trans
      (fin_h (prev := xs0) (hs := hs) (p := 7) (hht := by exact congrArg xs1 (pt3g _ _)))
  case piece9 =>
    obtain ⟨j, hj⟩ := fin_of t2_lt
    obtain ⟨hq, rfl⟩ := at_val q (768 + j.val)
    rw [pt3 t n j (h1.symm.trans tn) hj]
    exact (pairH6 _ _ _ _ n j).trans
      (fin_h (prev := xs0) (hs := hs) (p := 6) (hht := by exact congrArg xs1 (pt3g _ _)))
  case piece10 =>
    obtain ⟨j, hj⟩ := fin_of t2_lt
    obtain ⟨hq, rfl⟩ := at_val q (640 + j.val)
    rw [pt3 t n j (h1.symm.trans tn) hj]
    exact (pairH5 _ _ _ _ n j).trans
      (fin_h (prev := xs0) (hs := hs) (p := 5) (hht := by exact congrArg xs1 (pt3g _ _)))
  case piece11 =>
    obtain ⟨j, hj⟩ := fin_of t2_lt
    obtain ⟨hq, rfl⟩ := at_val q (512 + j.val)
    rw [pt3 t n j (h1.symm.trans tn) hj]
    exact (pairH4 _ _ _ _ n j).trans
      (fin_h (prev := xs0) (hs := hs) (p := 4) (hht := by exact congrArg xs1 (pt3g _ _)))
  case piece12 =>
    obtain ⟨j, hj⟩ := fin_of t2_lt
    obtain ⟨hq, rfl⟩ := at_val q (384 + j.val)
    rw [pt3 t n j (h1.symm.trans tn) hj]
    exact (pairH3 _ _ _ _ n j).trans
      (fin_h (prev := xs0) (hs := hs) (p := 3) (hht := by exact congrArg xs1 (pt3g _ _)))
  case piece13 =>
    obtain ⟨j, hj⟩ := fin_of t2_lt
    obtain ⟨hq, rfl⟩ := at_val q (256 + j.val)
    rw [pt3 t n j (h1.symm.trans tn) hj]
    exact (pairH2 _ _ _ _ n j).trans
      (fin_h (prev := xs0) (hs := hs) (p := 2) (hht := by exact congrArg xs1 (pt3g _ _)))
  case piece14 =>
    obtain ⟨j, hj⟩ := fin_of t2_lt
    obtain ⟨hq, rfl⟩ := at_val q (128 + j.val)
    rw [pt3 t n j (h1.symm.trans tn) hj]
    exact (pairH1 _ _ _ _ n j).trans
      (fin_h (prev := xs0) (hs := hs) (p := 1) (hht := by exact congrArg xs1 (pt3g _ _)))
  case piece15 =>
    obtain ⟨j, hj⟩ := fin_of t2_lt
    obtain ⟨hq, rfl⟩ := at_val q (j.val)
    rw [pt3 t n j (h1.symm.trans tn) hj]
    exact (pairH0 _ _ _ _ n j).trans
      (fin_h (prev := xs0) (hs := hs) (p := 0) (hht := by exact congrArg xs1 (pt3g _ _)))

end Cert.Kernel10Ideal.Value
end
-- ==== Proof.SsdHeads.lean ====
module

public import proofs.«01_k».proof.Proof.Gen.Kernel10Ideal.Value
public import proofs.«01_k».proof.Proof.Rows
public import proofs.«01_k».proof.Proof.SsdFin
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The final state, taken apart head by head. -/
namespace Cert.Kernel10Ideal.Value
open Cert.Kernel10Ideal Cert.Kernel10Ideal.Gen Cert.Rows Cert.Ssd

/-- Head 0's part of a pair's state, transposed. -/
theorem head0 (v : FVec Ideal S1x128x128 .f32) (j : Fin 64) (n : Fin 128) : k0_pay47 (F := Ideal) v (ix4 0 0 j n) = v (ix3 0 n ⟨0 + j.val, by omega⟩) := by
  pointwise [k0_pay46, k0_pay47]

/-- Head 1's part of a pair's state, transposed. -/
theorem head1 (v : FVec Ideal S1x128x128 .f32) (j : Fin 64) (n : Fin 128) : k0_pay48 (F := Ideal) v (ix4 0 0 j n) = v (ix3 0 n ⟨64 + j.val, by omega⟩) := by
  pointwise [k0_pay46, k0_pay48]

/-- Head 2's part of a pair's state, transposed. -/
theorem head2 (v : FVec Ideal S1x128x128 .f32) (j : Fin 64) (n : Fin 128) : k0_pay50 (F := Ideal) v (ix4 0 0 j n) = v (ix3 0 n ⟨0 + j.val, by omega⟩) := by
  pointwise [k0_pay49, k0_pay50]

/-- Head 3's part of a pair's state, transposed. -/
theorem head3 (v : FVec Ideal S1x128x128 .f32) (j : Fin 64) (n : Fin 128) : k0_pay52 (F := Ideal) (k0_pay51 v) (ix4 0 0 j n) = v (ix3 0 n ⟨64 + j.val, by omega⟩) := by
  pointwise [k0_pay49, k0_pay51, k0_pay52]

/-- Head 4's part of a pair's state, transposed. -/
theorem head4 (v : FVec Ideal S1x128x128 .f32) (j : Fin 64) (n : Fin 128) : k0_pay54 (F := Ideal) v (ix4 0 0 j n) = v (ix3 0 n ⟨0 + j.val, by omega⟩) := by
  pointwise [k0_pay53, k0_pay54]

/-- Head 5's part of a pair's state, transposed. -/
theorem head5 (v : FVec Ideal S1x128x128 .f32) (j : Fin 64) (n : Fin 128) : k0_pay55 (F := Ideal) v (ix4 0 0 j n) = v (ix3 0 n ⟨64 + j.val, by omega⟩) := by
  pointwise [k0_pay53, k0_pay55]

/-- Head 6's part of a pair's state, transposed. -/
theorem head6 (v : FVec Ideal S1x128x128 .f32) (j : Fin 64) (n : Fin 128) : k0_pay57 (F := Ideal) v (ix4 0 0 j n) = v (ix3 0 n ⟨0 + j.val, by omega⟩) := by
  pointwise [k0_pay56, k0_pay57]

/-- Head 7's part of a pair's state, transposed. -/
theorem head7 (v : FVec Ideal S1x128x128 .f32) (j : Fin 64) (n : Fin 128) : k0_pay59 (F := Ideal) (k0_pay58 v) (FloatOps.ofBits FTy.f32 0#32 : Ideal .f32) (ix4 0 0 j n) = v (ix3 0 n ⟨64 + j.val, by omega⟩) := by
  pointwise [k0_pay56, k0_pay58, k0_pay59]

/-- Head 8's part of a pair's state, transposed. -/
theorem head8 (v : FVec Ideal S1x128x128 .f32) (j : Fin 64) (n : Fin 128) : k0_pay61 (F := Ideal) v (ix4 0 0 j n) = v (ix3 0 n ⟨0 + j.val, by omega⟩) := by
  pointwise [k0_pay60, k0_pay61]

/-- Head 9's part of a pair's state, transposed. -/
theorem head9 (v : FVec Ideal S1x128x128 .f32) (j : Fin 64) (n : Fin 128) : k0_pay62 (F := Ideal) v (ix4 0 0 j n) = v (ix3 0 n ⟨64 + j.val, by omega⟩) := by
  pointwise [k0_pay60, k0_pay62]

/-- Head 10's part of a pair's state, transposed. -/
theorem head10 (v : FVec Ideal S1x128x128 .f32) (j : Fin 64) (n : Fin 128) : k0_pay65 (F := Ideal) (k0_pay64 v) (ix4 0 0 j n) = v (ix3 0 n ⟨0 + j.val, by omega⟩) := by
  pointwise [k0_pay63, k0_pay64, k0_pay65]

/-- Head 11's part of a pair's state, transposed. -/
theorem head11 (v : FVec Ideal S1x128x128 .f32) (j : Fin 64) (n : Fin 128) : k0_pay66 (F := Ideal) (k0_pay63 v) (ix4 0 0 j n) = v (ix3 0 n ⟨64 + j.val, by omega⟩) := by
  pointwise [k0_pay63, k0_pay66]

/-- Head 12's part of a pair's state, transposed. -/
theorem head12 (v : FVec Ideal S1x128x128 .f32) (j : Fin 64) (n : Fin 128) : k0_pay68 (F := Ideal) v (ix4 0 0 j n) = v (ix3 0 n ⟨0 + j.val, by omega⟩) := by
  pointwise [k0_pay67, k0_pay68]

/-- Head 13's part of a pair's state, transposed. -/
theorem head13 (v : FVec Ideal S1x128x128 .f32) (j : Fin 64) (n : Fin 128) : k0_pay69 (F := Ideal) v (ix4 0 0 j n) = v (ix3 0 n ⟨64 + j.val, by omega⟩) := by
  pointwise [k0_pay67, k0_pay69]

/-- Head 14's part of a pair's state, transposed. -/
theorem head14 (v : FVec Ideal S1x128x128 .f32) (j : Fin 64) (n : Fin 128) : k0_pay72 (F := Ideal) (k0_pay71 v) (ix4 0 0 j n) = v (ix3 0 n ⟨0 + j.val, by omega⟩) := by
  pointwise [k0_pay70, k0_pay71, k0_pay72]

/-- Head 15's part of a pair's state, transposed. -/
theorem head15 (v : FVec Ideal S1x128x128 .f32) (j : Fin 64) (n : Fin 128) : k0_pay73 (F := Ideal) (k0_pay70 v) (ix4 0 0 j n) = v (ix3 0 n ⟨64 + j.val, by omega⟩) := by
  pointwise [k0_pay70, k0_pay73]

/-- Head 16's part of a pair's state, transposed. -/
theorem head16 (v : FVec Ideal S1x128x128 .f32) (j : Fin 64) (n : Fin 128) : k0_pay75 (F := Ideal) v (ix4 0 0 j n) = v (ix3 0 n ⟨0 + j.val, by omega⟩) := by
  pointwise [k0_pay74, k0_pay75]

/-- Head 17's part of a pair's state, transposed. -/
theorem head17 (v : FVec Ideal S1x128x128 .f32) (j : Fin 64) (n : Fin 128) : k0_pay76 (F := Ideal) v (ix4 0 0 j n) = v (ix3 0 n ⟨64 + j.val, by omega⟩) := by
  pointwise [k0_pay74, k0_pay76]

/-- Head 18's part of a pair's state, transposed. -/
theorem head18 (v : FVec Ideal S1x128x128 .f32) (j : Fin 64) (n : Fin 128) : k0_pay78 (F := Ideal) v (ix4 0 0 j n) = v (ix3 0 n ⟨0 + j.val, by omega⟩) := by
  pointwise [k0_pay77, k0_pay78]

/-- Head 19's part of a pair's state, transposed. -/
theorem head19 (v : FVec Ideal S1x128x128 .f32) (j : Fin 64) (n : Fin 128) : k0_pay79 (F := Ideal) v (ix4 0 0 j n) = v (ix3 0 n ⟨64 + j.val, by omega⟩) := by
  pointwise [k0_pay77, k0_pay79]

/-- Head 20's part of a pair's state, transposed. -/
theorem head20 (v : FVec Ideal S1x128x128 .f32) (j : Fin 64) (n : Fin 128) : k0_pay81 (F := Ideal) v (ix4 0 0 j n) = v (ix3 0 n ⟨0 + j.val, by omega⟩) := by
  pointwise [k0_pay80, k0_pay81]

/-- Head 21's part of a pair's state, transposed. -/
theorem head21 (v : FVec Ideal S1x128x128 .f32) (j : Fin 64) (n : Fin 128) : k0_pay83 (F := Ideal) (k0_pay82 v) (ix4 0 0 j n) = v (ix3 0 n ⟨64 + j.val, by omega⟩) := by
  pointwise [k0_pay80, k0_pay82, k0_pay83]

/-- Head 22's part of a pair's state, transposed. -/
theorem head22 (v : FVec Ideal S1x128x128 .f32) (j : Fin 64) (n : Fin 128) : k0_pay85 (F := Ideal) v (ix4 0 0 j n) = v (ix3 0 n ⟨0 + j.val, by omega⟩) := by
  pointwise [k0_pay84, k0_pay85]

/-- Head 23's part of a pair's state, transposed. -/
theorem head23 (v : FVec Ideal S1x128x128 .f32) (j : Fin 64) (n : Fin 128) : k0_pay86 (F := Ideal) v (ix4 0 0 j n) = v (ix3 0 n ⟨64 + j.val, by omega⟩) := by
  pointwise [k0_pay84, k0_pay86]

/-- Head 24's part of a pair's state, transposed. -/
theorem head24 (v : FVec Ideal S1x128x128 .f32) (j : Fin 64) (n : Fin 128) : k0_pay88 (F := Ideal) v (ix4 0 0 j n) = v (ix3 0 n ⟨0 + j.val, by omega⟩) := by
  pointwise [k0_pay87, k0_pay88]

/-- Head 25's part of a pair's state, transposed. -/
theorem head25 (v : FVec Ideal S1x128x128 .f32) (j : Fin 64) (n : Fin 128) : k0_pay90 (F := Ideal) (k0_pay89 v) (ix4 0 0 j n) = v (ix3 0 n ⟨64 + j.val, by omega⟩) := by
  pointwise [k0_pay87, k0_pay89, k0_pay90]

/-- Head 26's part of a pair's state, transposed. -/
theorem head26 (v : FVec Ideal S1x128x128 .f32) (j : Fin 64) (n : Fin 128) : k0_pay92 (F := Ideal) v (ix4 0 0 j n) = v (ix3 0 n ⟨0 + j.val, by omega⟩) := by
  pointwise [k0_pay91, k0_pay92]

/-- Head 27's part of a pair's state, transposed. -/
theorem head27 (v : FVec Ideal S1x128x128 .f32) (j : Fin 64) (n : Fin 128) : k0_pay93 (F := Ideal) v (ix4 0 0 j n) = v (ix3 0 n ⟨64 + j.val, by omega⟩) := by
  pointwise [k0_pay91, k0_pay93]

/-- Head 28's part of a pair's state, transposed. -/
theorem head28 (v : FVec Ideal S1x128x128 .f32) (j : Fin 64) (n : Fin 128) : k0_pay95 (F := Ideal) v (ix4 0 0 j n) = v (ix3 0 n ⟨0 + j.val, by omega⟩) := by
  pointwise [k0_pay94, k0_pay95]

/-- Head 29's part of a pair's state, transposed. -/
theorem head29 (v : FVec Ideal S1x128x128 .f32) (j : Fin 64) (n : Fin 128) : k0_pay2 (F := Ideal) (k0_pay94 v) (ix4 0 0 j n) = v (ix3 0 n ⟨64 + j.val, by omega⟩) := by
  pointwise [k0_pay2, k0_pay94]

/-- Head 30's part of a pair's state, transposed. -/
theorem head30 (v : FVec Ideal S1x128x128 .f32) (j : Fin 64) (n : Fin 128) : k0_pay4 (F := Ideal) v (ix4 0 0 j n) = v (ix3 0 n ⟨0 + j.val, by omega⟩) := by
  pointwise [k0_pay3, k0_pay4]

/-- Head 31's part of a pair's state, transposed. -/
theorem head31 (v : FVec Ideal S1x128x128 .f32) (j : Fin 64) (n : Fin 128) : k0_pay5 (F := Ideal) v (ix4 0 0 j n) = v (ix3 0 n ⟨64 + j.val, by omega⟩) := by
  pointwise [k0_pay3, k0_pay5]

end Cert.Kernel10Ideal.Value
end
-- ==== Proof.SsdHO.lean ====
module

public import proofs.«01_k».proof.Proof.Gen.Kernel10Ideal.Value
public import proofs.«01_k».proof.Proof.Rows
public import proofs.«01_k».proof.Proof.SsdFin
public import proofs.«01_k».proof.Proof.SsdHeads
public import proofs.«01_k».proof.Proof.SsdPairY
public import proofs.«01_k».proof.Proof.SsdPairH
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! The state result. -/
namespace Cert.Kernel10Ideal.Value
open Cert.Kernel10Ideal Cert.Kernel10Ideal.Gen Cert.Rows Cert.Ssd

set_option maxHeartbeats 4000000 in
/-- What the last body of a batch stores in the state result, entry by entry. -/
theorem hout_at (c : Dev nD) (ic : grid0.Coords) (arg2 : Memref sig .tc .vmem S128x2048 .f32) (harg2 : arg2.IsWhole) (arg3 : Memref sig .tc .vmem S128x3072 .f32) (harg3 : arg3.IsWhole) (arg4 : Memref sig .tc .vmem S128x32 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x2048 .f32) (harg9 : arg9.IsWhole) (arg10 : Memref sig .tc .vmem S1x8x3072 .f32) (harg10 : arg10.IsWhole) (arg11 : Memref sig .tc .vmem S1x32x64x128 .f32) (harg11 : arg11.IsWhole) (arg12 : Memref sig .tc .vmem S128x2048 .f32) (harg12 : arg12.IsWhole) (arg13 : Memref sig .tc .vmem S1x32x64x128 .f32) (harg13 : arg13.IsWhole) (arg14 : Memref sig .tc .vmem S8x3072 .f32) (harg14 : arg14.IsWhole) (arg15 : Memref sig .tc .vmem S16x128x128 .f32) (harg15 : arg15.IsWhole) (hc0 : ¬cond0_0 ic) (hc1 : cond0_1 ic)
    (x0 : Vec Ideal S128x2048 .f32) (x1 : Vec Ideal S128x3072 .f32) (x2 : Vec Ideal S128x32 .f32) (x3 : Vec Ideal S4x3072 .f32) (x4 : Vec Ideal S1x3072 .f32) (x5 : Vec Ideal S1x32 .f32) (x6 : Vec Ideal S1x32 .f32) (x7 : Vec Ideal S1x2048 .f32) (x8 : Vec Ideal S1x8x3072 .f32) (x9 : Vec Ideal S1x32x64x128 .f32) (xs0 : Vec Ideal S8x3072 .f32) (xs1 : Vec Ideal S16x128x128 .f32)  (hs : ∀ i h, x2 (ix2 i h) + x5 (ix2 0 h) < (⊤ : EReal)) (n : Fin 128) (q : Fin 2048) (t : S1x32x64x128.Idx) (tn : (t 3).val = n.val) (tq : 64 * (t 1).val + (t 2).val = q.val) :
    out0_C_11 (F := Ideal) c ic arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 t = hC (blkAct x1 xs0 x3 x4) (blkDt x2 x5) (blkRate x6) (fun n q => xs1 (ix3 ⟨q.val / 128, by omega⟩ n ⟨q.val % 128, by omega⟩)) n q := by
  unfold out0_C_11
  frame_out
  canon_tiles t h
  all_goals try simp (disch := decide) only [View.readCov_skip, View.readCov_cons_toLoadRect]
  all_goals clear hc0 hc1 harg2 harg3 harg4 harg5 harg6 harg7 harg8 harg9 harg10 harg11 harg12 harg13 harg14 harg15 arg2 arg3 arg4 arg5 arg6 arg7 arg8 arg9 arg10 arg11 arg12 arg13 arg14 arg15 ic c
  case piece0 =>
    obtain ⟨j0, hj⟩ := fin_of t2_lt
    rw [pt4 t j0 n hj (h3.symm.trans tn)]
    refine (head31 _ j0 n).trans ?_
    obtain ⟨hq, rfl⟩ := at_val q (1920 + (64 + j0.val))
    exact (pairH15 _ _ _ _ n (⟨64 + j0.val, by omega⟩ : Fin 128)).trans
      (fin_h (prev := xs0) (hs := hs) (p := 15) (hht := by exact congrArg xs1 (pt3g _ _)))
  case piece1 =>
    obtain ⟨j0, hj⟩ := fin_of t2_lt
    rw [pt4 t j0 n hj (h3.symm.trans tn)]
    refine (head30 _ j0 n).trans ?_
    obtain ⟨hq, rfl⟩ := at_val q (1920 + (0 + j0.val))
    exact (pairH15 _ _ _ _ n (⟨0 + j0.val, by omega⟩ : Fin 128)).trans
      (fin_h (prev := xs0) (hs := hs) (p := 15) (hht := by exact congrArg xs1 (pt3g _ _)))
  case piece2 =>
    obtain ⟨j0, hj⟩ := fin_of t2_lt
    rw [pt4 t j0 n hj (h3.symm.trans tn)]
    refine (head29 _ j0 n).trans ?_
    obtain ⟨hq, rfl⟩ := at_val q (1792 + (64 + j0.val))
    exact (pairH14 _ _ _ _ n (⟨64 + j0.val, by omega⟩ : Fin 128)).trans
      (fin_h (prev := xs0) (hs := hs) (p := 14) (hht := by exact congrArg xs1 (pt3g _ _)))
  case piece3 =>
    obtain ⟨j0, hj⟩ := fin_of t2_lt
    rw [pt4 t j0 n hj (h3.symm.trans tn)]
    refine (head28 _ j0 n).trans ?_
    obtain ⟨hq, rfl⟩ := at_val q (1792 + (0 + j0.val))
    exact (pairH14 _ _ _ _ n (⟨0 + j0.val, by omega⟩ : Fin 128)).trans
      (fin_h (prev := xs0) (hs := hs) (p := 14) (hht := by exact congrArg xs1 (pt3g _ _)))
  case piece4 =>
    obtain ⟨j0, hj⟩ := fin_of t2_lt
    rw [pt4 t j0 n hj (h3.symm.trans tn)]
    refine (head27 _ j0 n).trans ?_
    obtain ⟨hq, rfl⟩ := at_val q (1664 + (64 + j0.val))
    exact (pairH13 _ _ _ _ n (⟨64 + j0.val, by omega⟩ : Fin 128)).trans
      (fin_h (prev := xs0) (hs := hs) (p := 13) (hht := by exact congrArg xs1 (pt3g _ _)))
  case piece5 =>
    obtain ⟨j0, hj⟩ := fin_of t2_lt
    rw [pt4 t j0 n hj (h3.symm.trans tn)]
    refine (head26 _ j0 n).trans ?_
    obtain ⟨hq, rfl⟩ := at_val q (1664 + (0 + j0.val))
    exact (pairH13 _ _ _ _ n (⟨0 + j0.val, by omega⟩ : Fin 128)).trans
      (fin_h (prev := xs0) (hs := hs) (p := 13) (hht := by exact congrArg xs1 (pt3g _ _)))
  case piece6 =>
    obtain ⟨j0, hj⟩ := fin_of t2_lt
    rw [pt4 t j0 n hj (h3.symm.trans tn)]
    refine (head25 _ j0 n).trans ?_
    obtain ⟨hq, rfl⟩ := at_val q (1536 + (64 + j0.val))
    exact (pairH12 _ _ _ _ n (⟨64 + j0.val, by omega⟩ : Fin 128)).trans
      (fin_h (prev := xs0) (hs := hs) (p := 12) (hht := by exact congrArg xs1 (pt3g _ _)))
  case piece7 =>
    obtain ⟨j0, hj⟩ := fin_of t2_lt
    rw [pt4 t j0 n hj (h3.symm.trans tn)]
    refine (head24 _ j0 n).trans ?_
    obtain ⟨hq, rfl⟩ := at_val q (1536 + (0 + j0.val))
    exact (pairH12 _ _ _ _ n (⟨0 + j0.val, by omega⟩ : Fin 128)).trans
      (fin_h (prev := xs0) (hs := hs) (p := 12) (hht := by exact congrArg xs1 (pt3g _ _)))
  case piece8 =>
    obtain ⟨j0, hj⟩ := fin_of t2_lt
    rw [pt4 t j0 n hj (h3.symm.trans tn)]
    refine (head23 _ j0 n).trans ?_
    obtain ⟨hq, rfl⟩ := at_val q (1408 + (64 + j0.val))
    exact (pairH11 _ _ _ _ n (⟨64 + j0.val, by omega⟩ : Fin 128)).trans
      (fin_h (prev := xs0) (hs := hs) (p := 11) (hht := by exact congrArg xs1 (pt3g _ _)))
  case piece9 =>
    obtain ⟨j0, hj⟩ := fin_of t2_lt
    rw [pt4 t j0 n hj (h3.symm.trans tn)]
    refine (head22 _ j0 n).trans ?_
    obtain ⟨hq, rfl⟩ := at_val q (1408 + (0 + j0.val))
    exact (pairH11 _ _ _ _ n (⟨0 + j0.val, by omega⟩ : Fin 128)).trans
      (fin_h (prev := xs0) (hs := hs) (p := 11) (hht := by exact congrArg xs1 (pt3g _ _)))
  case piece10 =>
    obtain ⟨j0, hj⟩ := fin_of t2_lt
    rw [pt4 t j0 n hj (h3.symm.trans tn)]
    refine (head21 _ j0 n).trans ?_
    obtain ⟨hq, rfl⟩ := at_val q (1280 + (64 + j0.val))
    exact (pairH10 _ _ _ _ n (⟨64 + j0.val, by omega⟩ : Fin 128)).trans
      (fin_h (prev := xs0) (hs := hs) (p := 10) (hht := by exact congrArg xs1 (pt3g _ _)))
  case piece11 =>
    obtain ⟨j0, hj⟩ := fin_of t2_lt
    rw [pt4 t j0 n hj (h3.symm.trans tn)]
    refine (head20 _ j0 n).trans ?_
    obtain ⟨hq, rfl⟩ := at_val q (1280 + (0 + j0.val))
    exact (pairH10 _ _ _ _ n (⟨0 + j0.val, by omega⟩ : Fin 128)).trans
      (fin_h (prev := xs0) (hs := hs) (p := 10) (hht := by exact congrArg xs1 (pt3g _ _)))
  case piece12 =>
    obtain ⟨j0, hj⟩ := fin_of t2_lt
    rw [pt4 t j0 n hj (h3.symm.trans tn)]
    refine (head19 _ j0 n).trans ?_
    obtain ⟨hq, rfl⟩ := at_val q (1152 + (64 + j0.val))
    exact (pairH9 _ _ _ _ n (⟨64 + j0.val, by omega⟩ : Fin 128)).trans
      (fin_h (prev := xs0) (hs := hs) (p := 9) (hht := by exact congrArg xs1 (pt3g _ _)))
  case piece13 =>
    obtain ⟨j0, hj⟩ := fin_of t2_lt
    rw [pt4 t j0 n hj (h3.symm.trans tn)]
    refine (head18 _ j0 n).trans ?_
    obtain ⟨hq, rfl⟩ := at_val q (1152 + (0 + j0.val))
    exact (pairH9 _ _ _ _ n (⟨0 + j0.val, by omega⟩ : Fin 128)).trans
      (fin_h (prev := xs0) (hs := hs) (p := 9) (hht := by exact congrArg xs1 (pt3g _ _)))
  case piece14 =>
    obtain ⟨j0, hj⟩ := fin_of t2_lt
    rw [pt4 t j0 n hj (h3.symm.trans tn)]
    refine (head17 _ j0 n).trans ?_
    obtain ⟨hq, rfl⟩ := at_val q (1024 + (64 + j0.val))
    exact (pairH8 _ _ _ _ n (⟨64 + j0.val, by omega⟩ : Fin 128)).trans
      (fin_h (prev := xs0) (hs := hs) (p := 8) (hht := by exact congrArg xs1 (pt3g _ _)))
  case piece15 =>
    obtain ⟨j0, hj⟩ := fin_of t2_lt
    rw [pt4 t j0 n hj (h3.symm.trans tn)]
    refine (head16 _ j0 n).trans ?_
    obtain ⟨hq, rfl⟩ := at_val q (1024 + (0 + j0.val))
    exact (pairH8 _ _ _ _ n (⟨0 + j0.val, by omega⟩ : Fin 128)).trans
      (fin_h (prev := xs0) (hs := hs) (p := 8) (hht := by exact congrArg xs1 (pt3g _ _)))
  case piece16 =>
    obtain ⟨j0, hj⟩ := fin_of t2_lt
    rw [pt4 t j0 n hj (h3.symm.trans tn)]
    refine (head15 _ j0 n).trans ?_
    obtain ⟨hq, rfl⟩ := at_val q (896 + (64 + j0.val))
    exact (pairH7 _ _ _ _ n (⟨64 + j0.val, by omega⟩ : Fin 128)).trans
      (fin_h (prev := xs0) (hs := hs) (p := 7) (hht := by exact congrArg xs1 (pt3g _ _)))
  case piece17 =>
    obtain ⟨j0, hj⟩ := fin_of t2_lt
    rw [pt4 t j0 n hj (h3.symm.trans tn)]
    refine (head14 _ j0 n).trans ?_
    obtain ⟨hq, rfl⟩ := at_val q (896 + (0 + j0.val))
    exact (pairH7 _ _ _ _ n (⟨0 + j0.val, by omega⟩ : Fin 128)).trans
      (fin_h (prev := xs0) (hs := hs) (p := 7) (hht := by exact congrArg xs1 (pt3g _ _)))
  case piece18 =>
    obtain ⟨j0, hj⟩ := fin_of t2_lt
    rw [pt4 t j0 n hj (h3.symm.trans tn)]
    refine (head13 _ j0 n).trans ?_
    obtain ⟨hq, rfl⟩ := at_val q (768 + (64 + j0.val))
    exact (pairH6 _ _ _ _ n (⟨64 + j0.val, by omega⟩ : Fin 128)).trans
      (fin_h (prev := xs0) (hs := hs) (p := 6) (hht := by exact congrArg xs1 (pt3g _ _)))
  case piece19 =>
    obtain ⟨j0, hj⟩ := fin_of t2_lt
    rw [pt4 t j0 n hj (h3.symm.trans tn)]
    refine (head12 _ j0 n).trans ?_
    obtain ⟨hq, rfl⟩ := at_val q (768 + (0 + j0.val))
    exact (pairH6 _ _ _ _ n (⟨0 + j0.val, by omega⟩ : Fin 128)).trans
      (fin_h (prev := xs0) (hs := hs) (p := 6) (hht := by exact congrArg xs1 (pt3g _ _)))
  case piece20 =>
    obtain ⟨j0, hj⟩ := fin_of t2_lt
    rw [pt4 t j0 n hj (h3.symm.trans tn)]
    refine (head11 _ j0 n).trans ?_
    obtain ⟨hq, rfl⟩ := at_val q (640 + (64 + j0.val))
    exact (pairH5 _ _ _ _ n (⟨64 + j0.val, by omega⟩ : Fin 128)).trans
      (fin_h (prev := xs0) (hs := hs) (p := 5) (hht := by exact congrArg xs1 (pt3g _ _)))
  case piece21 =>
    obtain ⟨j0, hj⟩ := fin_of t2_lt
    rw [pt4 t j0 n hj (h3.symm.trans tn)]
    refine (head10 _ j0 n).trans ?_
    obtain ⟨hq, rfl⟩ := at_val q (640 + (0 + j0.val))
    exact (pairH5 _ _ _ _ n (⟨0 + j0.val, by omega⟩ : Fin 128)).trans
      (fin_h (prev := xs0) (hs := hs) (p := 5) (hht := by exact congrArg xs1 (pt3g _ _)))
  case piece22 =>
    obtain ⟨j0, hj⟩ := fin_of t2_lt
    rw [pt4 t j0 n hj (h3.symm.trans tn)]
    refine (head9 _ j0 n).trans ?_
    obtain ⟨hq, rfl⟩ := at_val q (512 + (64 + j0.val))
    exact (pairH4 _ _ _ _ n (⟨64 + j0.val, by omega⟩ : Fin 128)).trans
      (fin_h (prev := xs0) (hs := hs) (p := 4) (hht := by exact congrArg xs1 (pt3g _ _)))
  case piece23 =>
    obtain ⟨j0, hj⟩ := fin_of t2_lt
    rw [pt4 t j0 n hj (h3.symm.trans tn)]
    refine (head8 _ j0 n).trans ?_
    obtain ⟨hq, rfl⟩ := at_val q (512 + (0 + j0.val))
    exact (pairH4 _ _ _ _ n (⟨0 + j0.val, by omega⟩ : Fin 128)).trans
      (fin_h (prev := xs0) (hs := hs) (p := 4) (hht := by exact congrArg xs1 (pt3g _ _)))
  case piece24 =>
    obtain ⟨j0, hj⟩ := fin_of t2_lt
    rw [pt4 t j0 n hj (h3.symm.trans tn)]
    refine (head7 _ j0 n).trans ?_
    obtain ⟨hq, rfl⟩ := at_val q (384 + (64 + j0.val))
    exact (pairH3 _ _ _ _ n (⟨64 + j0.val, by omega⟩ : Fin 128)).trans
      (fin_h (prev := xs0) (hs := hs) (p := 3) (hht := by exact congrArg xs1 (pt3g _ _)))
  case piece25 =>
    obtain ⟨j0, hj⟩ := fin_of t2_lt
    rw [pt4 t j0 n hj (h3.symm.trans tn)]
    refine (head6 _ j0 n).trans ?_
    obtain ⟨hq, rfl⟩ := at_val q (384 + (0 + j0.val))
    exact (pairH3 _ _ _ _ n (⟨0 + j0.val, by omega⟩ : Fin 128)).trans
      (fin_h (prev := xs0) (hs := hs) (p := 3) (hht := by exact congrArg xs1 (pt3g _ _)))
  case piece26 =>
    obtain ⟨j0, hj⟩ := fin_of t2_lt
    rw [pt4 t j0 n hj (h3.symm.trans tn)]
    refine (head5 _ j0 n).trans ?_
    obtain ⟨hq, rfl⟩ := at_val q (256 + (64 + j0.val))
    exact (pairH2 _ _ _ _ n (⟨64 + j0.val, by omega⟩ : Fin 128)).trans
      (fin_h (prev := xs0) (hs := hs) (p := 2) (hht := by exact congrArg xs1 (pt3g _ _)))
  case piece27 =>
    obtain ⟨j0, hj⟩ := fin_of t2_lt
    rw [pt4 t j0 n hj (h3.symm.trans tn)]
    refine (head4 _ j0 n).trans ?_
    obtain ⟨hq, rfl⟩ := at_val q (256 + (0 + j0.val))
    exact (pairH2 _ _ _ _ n (⟨0 + j0.val, by omega⟩ : Fin 128)).trans
      (fin_h (prev := xs0) (hs := hs) (p := 2) (hht := by exact congrArg xs1 (pt3g _ _)))
  case piece28 =>
    obtain ⟨j0, hj⟩ := fin_of t2_lt
    rw [pt4 t j0 n hj (h3.symm.trans tn)]
    refine (head3 _ j0 n).trans ?_
    obtain ⟨hq, rfl⟩ := at_val q (128 + (64 + j0.val))
    exact (pairH1 _ _ _ _ n (⟨64 + j0.val, by omega⟩ : Fin 128)).trans
      (fin_h (prev := xs0) (hs := hs) (p := 1) (hht := by exact congrArg xs1 (pt3g _ _)))
  case piece29 =>
    obtain ⟨j0, hj⟩ := fin_of t2_lt
    rw [pt4 t j0 n hj (h3.symm.trans tn)]
    refine (head2 _ j0 n).trans ?_
    obtain ⟨hq, rfl⟩ := at_val q (128 + (0 + j0.val))
    exact (pairH1 _ _ _ _ n (⟨0 + j0.val, by omega⟩ : Fin 128)).trans
      (fin_h (prev := xs0) (hs := hs) (p := 1) (hht := by exact congrArg xs1 (pt3g _ _)))
  case piece30 =>
    obtain ⟨j0, hj⟩ := fin_of t2_lt
    rw [pt4 t j0 n hj (h3.symm.trans tn)]
    refine (head1 _ j0 n).trans ?_
    obtain ⟨hq, rfl⟩ := at_val q ((64 + j0.val))
    exact (pairH0 _ _ _ _ n (⟨64 + j0.val, by omega⟩ : Fin 128)).trans
      (fin_h (prev := xs0) (hs := hs) (p := 0) (hht := by exact congrArg xs1 (pt3g _ _)))
  case piece31 =>
    obtain ⟨j0, hj⟩ := fin_of t2_lt
    rw [pt4 t j0 n hj (h3.symm.trans tn)]
    refine (head0 _ j0 n).trans ?_
    obtain ⟨hq, rfl⟩ := at_val q ((0 + j0.val))
    exact (pairH0 _ _ _ _ n (⟨0 + j0.val, by omega⟩ : Fin 128)).trans
      (fin_h (prev := xs0) (hs := hs) (p := 0) (hht := by exact congrArg xs1 (pt3g _ _)))

end Cert.Kernel10Ideal.Value
end
-- ==== Proof.SsdState.lean ====
module

public import proofs.«01_k».proof.Proof.Gen.Kernel10Ideal.Value
public import proofs.«01_k».proof.Proof.Rows
public import proofs.«01_k».proof.Proof.SsdFin
public import proofs.«01_k».proof.Proof.SsdChunk
public import proofs.«01_k».proof.Proof.SsdYA
public import proofs.«01_k».proof.Proof.SsdYB
public import proofs.«01_k».proof.Proof.SsdYC
public import proofs.«01_k».proof.Proof.SsdHA
public import proofs.«01_k».proof.Proof.SsdHB
public import proofs.«01_k».proof.Proof.SsdHC
public import proofs.«01_k».proof.Proof.SsdHO
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
/-! What the kernel leaves: the model's output and its last states. -/
namespace Cert.Kernel10Ideal.Value
open Cert.Kernel10Ideal Cert.Kernel10Ideal.Gen Cert.Rows Cert.Ssd

variable (m : (ℓ : Loc nD τ sig) → Buf (Elt Ideal) ℓ) (c : Dev nD)
  (hpre : ∀ (r : Fin 16384) (h : Fin 32), a2 m c (ix2 r h) + a5 m c (ix1 h) < (⊤ : EReal))

/-- The output of the model, at a chunk that starts a batch. -/
theorem outK_first (t : Nat) (h0 : t % 64 = 0) : outK m c t = yC (actW (rowF (a1 m c)) (tapF (a3 m c)) (vecF (a4 m c)) t) (dtW (rowF (a2 m c)) (vecF (a5 m c)) t) (rateW (vecF (a6 m c))) zeroS (fun i q => rowF (a0 m c) (128 * t + i.val) q) (fun q => vecF (a7 m c) (hdOf q)) := by
  funext i q
  unfold outK outA yW enter
  rw [if_pos h0]

/-- The output of the model, at a later chunk. -/
theorem outK_next (t : Nat) (h0 : ¬ t % 64 = 0) : outK m c t = yC (actW (rowF (a1 m c)) (tapF (a3 m c)) (vecF (a4 m c)) t) (dtW (rowF (a2 m c)) (vecF (a5 m c)) t) (rateW (vecF (a6 m c))) (leaveK m c (t - 1)) (fun i q => rowF (a0 m c) (128 * t + i.val) q) (fun q => vecF (a7 m c) (hdOf q)) := by
  funext i q
  unfold outK outA yW enter
  rw [if_neg h0]
  rfl

/-- The state of the model, after a chunk that starts a batch. -/
theorem leaveK_first (t : Nat) (h0 : t % 64 = 0) : leaveK m c t = hC (actW (rowF (a1 m c)) (tapF (a3 m c)) (vecF (a4 m c)) t) (dtW (rowF (a2 m c)) (vecF (a5 m c)) t) (rateW (vecF (a6 m c))) zeroS := by
  unfold leaveK leaveA
  rw [leave_eq]
  unfold enter
  rw [if_pos h0]

/-- The state of the model, after a later chunk. -/
theorem leaveK_next (t : Nat) (h0 : ¬ t % 64 = 0) : leaveK m c t = hC (actW (rowF (a1 m c)) (tapF (a3 m c)) (vecF (a4 m c)) t) (dtW (rowF (a2 m c)) (vecF (a5 m c)) t) (rateW (vecF (a6 m c))) (leaveK m c (t - 1)) := by
  unfold leaveK leaveA
  rw [leave_eq]
  unfold enter
  rw [if_neg h0]

/-- The rows before a chunk that starts a batch are zero. -/
theorem prev_first (t : Fin cfg0.N) (h0 : t.val % 64 = 0) (a : Fin 8) (k : Fin 3072) : k0_pay6 (F := Ideal) (iblk m c 8 t) (ix2 a k) = if t.val % 64 = 0 then 0 else rowF (a1 m c) (128 * t.val - 8 + a.val) k := by
  rw [if_pos h0]
  exact (pay6_at _ _ _).trans (blk8 m c t a k (idx t).2.2.2.2.2.2.2.2.2.2.2.2)

/-- The rows before a later chunk are the last eight of the chunk before it. -/
theorem prev_next (t : Fin cfg0.N) (h0 : ¬ t.val % 64 = 0) (hi : Inv m c (t.val - 1) (Nat.lt_of_le_of_lt (Nat.sub_le _ _) t.isLt)) (a : Fin 8) (k : Fin 3072) :
    (outsAt0 m c (t.val - 1) (Nat.lt_of_le_of_lt (Nat.sub_le _ _) t.isLt)).2.2.1 (ix2 a k) = if t.val % 64 = 0 then 0 else rowF (a1 m c) (128 * t.val - 8 + a.val) k := by
  rw [if_neg h0, hi.1]
  exact congrArg (fun r => rowF (a1 m c) r k) (by have : 1 ≤ t.val := by omega
                                                  omega)

/-- The state before a later chunk is what the chunk before it leaves. -/
theorem state_next (t : Fin cfg0.N) (hi : Inv m c (t.val - 1) (Nat.lt_of_le_of_lt (Nat.sub_le _ _) t.isLt)) :
    (fun (n : Fin 128) (q : Fin 2048) => (outsAt0 m c (t.val - 1) (Nat.lt_of_le_of_lt (Nat.sub_le _ _) t.isLt)).2.2.2 (ix3 ⟨q.val / 128, by omega⟩ n ⟨q.val % 128, by omega⟩)) = leaveK m c (t.val - 1) :=
  funext fun n => funext fun q => hi.2 n q _ rfl (Nat.div_add_mod _ _)

/-- The carried rows, once the body has stored them. -/
theorem carry_row (t : Fin cfg0.N) (a : Fin 8) (k : Fin 3072) : k0_pay98 (F := Ideal) (iblk m c 1 t) (ix2 a k) = rowF (a1 m c) (128 * t.val + 120 + a.val) k := by
  rw [carry_at]
  exact (row1 m c t _ k).trans (congrArg (fun r => rowF (a1 m c) r k) (Nat.add_assoc _ _ _).symm)

include hpre in
/-- Case A: the output block holds the model's output. -/
theorem outA (t : Fin cfg0.N) (h0 : t.val % 64 = 0) (h1 : ¬ t.val % 64 = 63) (i : Fin 128) (q : Fin 2048) (s : S128x2048.Idx) (si : (s 0).val = i.val) (sq : (s 1).val = q.val) : (outsAt0 m c t.val t.isLt).1 s = outK m c t.val i q := by
  rw [outsAt0_A m c t h0 h1, outK_first m c t.val h0]
  dsimp only
  refine (yA_at (hs := by exact fun i h => pre_blk m c hpre t i h) (hx9 := by exact fun y => blk9 m c t y) (i := i) (q := q) (ti := si) (tq := sq) ..).trans ?_
  rw [act_eq m c t _ (prev_first m c t h0), dt_eq, rate_eq, skip_eq, row0]

include hpre in
/-- Case A: the carried buffers hold the model's state and the input's last rows. -/
theorem invA (t : Fin cfg0.N) (h0 : t.val % 64 = 0) (h1 : ¬ t.val % 64 = 63) : Inv m c t.val t.isLt := by
  refine ⟨fun a k => ?_, fun n q s sn sq => ?_⟩
  · rw [outsAt0_A m c t h0 h1]
    dsimp only
    exact (congrFun (carryA ..) _).trans (carry_row m c t a k)
  · rw [outsAt0_A m c t h0 h1, leaveK_first m c t.val h0]
    dsimp only
    refine (hA_at (hs := by exact fun i h => pre_blk m c hpre t i h) (hx9 := by exact fun y => blk9 m c t y) (n := n) (q := q) (tn := sn) (tq := sq) ..).trans ?_
    rw [act_eq m c t _ (prev_first m c t h0), dt_eq, rate_eq]

include hpre in
/-- Case B: the output block holds the model's output. -/
theorem outB (t : Fin cfg0.N) (h0 : ¬ t.val % 64 = 0) (h1 : ¬ t.val % 64 = 63) (hi : Inv m c (t.val - 1) (Nat.lt_of_le_of_lt (Nat.sub_le _ _) t.isLt)) (i : Fin 128) (q : Fin 2048) (s : S128x2048.Idx) (si : (s 0).val = i.val) (sq : (s 1).val = q.val) : (outsAt0 m c t.val t.isLt).1 s = outK m c t.val i q := by
  rw [outsAt0_B m c t h0 h1, outK_next m c t.val h0]
  dsimp only
  refine (yB_at (hs := by exact fun i h => pre_blk m c hpre t i h) (i := i) (q := q) (ti := si) (tq := sq) ..).trans ?_
  rw [act_eq m c t _ (prev_next m c t h0 hi), dt_eq, rate_eq, skip_eq, row0, state_next m c t hi]

include hpre in
/-- Case B: the carried buffers hold the model's state and the input's last rows. -/
theorem invB (t : Fin cfg0.N) (h0 : ¬ t.val % 64 = 0) (h1 : ¬ t.val % 64 = 63) (hi : Inv m c (t.val - 1) (Nat.lt_of_le_of_lt (Nat.sub_le _ _) t.isLt)) : Inv m c t.val t.isLt := by
  refine ⟨fun a k => ?_, fun n q s sn sq => ?_⟩
  · rw [outsAt0_B m c t h0 h1]
    dsimp only
    exact (congrFun (carryB ..) _).trans (carry_row m c t a k)
  · rw [outsAt0_B m c t h0 h1, leaveK_next m c t.val h0]
    dsimp only
    refine (hB_at (hs := by exact fun i h => pre_blk m c hpre t i h) (n := n) (q := q) (tn := sn) (tq := sq) ..).trans ?_
    rw [act_eq m c t _ (prev_next m c t h0 hi), dt_eq, rate_eq, state_next m c t hi]

include hpre in
/-- Case C: the output block holds the model's output. -/
theorem outC (t : Fin cfg0.N) (h0 : ¬ t.val % 64 = 0) (h1 : t.val % 64 = 63) (hi : Inv m c (t.val - 1) (Nat.lt_of_le_of_lt (Nat.sub_le _ _) t.isLt)) (i : Fin 128) (q : Fin 2048) (s : S128x2048.Idx) (si : (s 0).val = i.val) (sq : (s 1).val = q.val) : (outsAt0 m c t.val t.isLt).1 s = outK m c t.val i q := by
  rw [outsAt0_C m c t h0 h1, outK_next m c t.val h0]
  dsimp only
  refine (yC_at (hs := by exact fun i h => pre_blk m c hpre t i h) (i := i) (q := q) (ti := si) (tq := sq) ..).trans ?_
  rw [act_eq m c t _ (prev_next m c t h0 hi), dt_eq, rate_eq, skip_eq, row0, state_next m c t hi]

include hpre in
/-- Case C: the carried buffers hold the model's state and the input's last rows. -/
theorem invC (t : Fin cfg0.N) (h0 : ¬ t.val % 64 = 0) (h1 : t.val % 64 = 63) (hi : Inv m c (t.val - 1) (Nat.lt_of_le_of_lt (Nat.sub_le _ _) t.isLt)) : Inv m c t.val t.isLt := by
  refine ⟨fun a k => ?_, fun n q s sn sq => ?_⟩
  · rw [outsAt0_C m c t h0 h1]
    dsimp only
    exact (congrFun (carryC ..) _).trans (carry_row m c t a k)
  · rw [outsAt0_C m c t h0 h1, leaveK_next m c t.val h0]
    dsimp only
    refine (hC_at (hs := by exact fun i h => pre_blk m c hpre t i h) (n := n) (q := q) (tn := sn) (tq := sq) ..).trans ?_
    rw [act_eq m c t _ (prev_next m c t h0 hi), dt_eq, rate_eq, state_next m c t hi]

include hpre in
/-- After every chunk the carried buffers hold the input's last rows and the model's state. -/
theorem inv (n : Nat) (hn : n < cfg0.N) : Inv m c n hn := by
  induction n with
  | zero => exact invA m c hpre ⟨0, hn⟩ rfl (by show ¬ 0 % 64 = 63; decide)
  | succ n ih =>
    by_cases h0 : (n + 1) % 64 = 0
    · exact invA m c hpre ⟨n + 1, hn⟩ h0 (by show ¬ (n + 1) % 64 = 63; omega)
    · by_cases h1 : (n + 1) % 64 = 63
      · exact invC m c hpre ⟨n + 1, hn⟩ h0 h1 (ih _)
      · exact invB m c hpre ⟨n + 1, hn⟩ h0 h1 (ih _)

include hpre in
/-- Every chunk's output block holds the model's output. -/
theorem out_at (t : Fin cfg0.N) (i : Fin 128) (q : Fin 2048) (s : S128x2048.Idx) (si : (s 0).val = i.val) (sq : (s 1).val = q.val) : (outsAt0 m c t.val t.isLt).1 s = outK m c t.val i q := by
  by_cases h0 : t.val % 64 = 0
  · exact outA m c hpre t h0 (by omega) i q s si sq
  · by_cases h1 : t.val % 64 = 63
    · exact outC m c hpre t h0 h1 (inv m c hpre _ _) i q s si sq
    · exact outB m c hpre t h0 h1 (inv m c hpre _ _) i q s si sq

include hpre in
/-- A batch's last chunk stores the state it leaves. -/
theorem last_at (t : Fin cfg0.N) (h1 : t.val % 64 = 63) (n : Fin 128) (q : Fin 2048) (s : S1x32x64x128.Idx) (sn : (s 3).val = n.val) (sq : 64 * (s 1).val + (s 2).val = q.val) : (outsAt0 m c t.val t.isLt).2.1 s = leaveK m c t.val n q := by
  have h0 : ¬ t.val % 64 = 0 := by omega
  have hi := inv m c hpre (t.val - 1) (Nat.lt_of_le_of_lt (Nat.sub_le _ _) t.isLt)
  rw [outsAt0_C m c t h0 h1, leaveK_next m c t.val h0]
  dsimp only
  refine (hout_at (hs := by exact fun i h => pre_blk m c hpre t i h) (n := n) (q := q) (tn := sn) (tq := sq) ..).trans ?_
  rw [act_eq m c t _ (prev_next m c t h0 hi), dt_eq, rate_eq, state_next m c t hi]

include hpre in
/-- The output array after the run. -/
theorem ssd10 (X : FVec Ideal S16384x2048 .f32) (hX : ∀ (r : Fin 16384) (q : Fin 2048), X (ix2 r q) = outK m c (r.val / 128) ⟨r.val % 128, by omega⟩ q) : (dats m 0 c).arrAt 10 cfg0.N = X := by
  refine (dats m 0 c).arrAt_eq_of_covers 10 _ (by decide +kernel) fun t _ y => ?_
  have ht := (idx t).2.2.2.2.2.2.2.2.2.2.2.2
  blk_simp
  rw [after0_10]
  idx_vars y
  refine (out_at m c hpre t y0 y1 _ rfl rfl).trans ?_
  refine Eq.trans ?_ (congrArg X (emb10 t y0 y1 ht)).symm
  rw [hX]
  exact congrArg₂ (fun t i => outK m c t i y1) (by dsimp only; omega) (Fin.ext (by dsimp only; omega))

include hpre in
/-- The state array after the run. -/
theorem ssd11 (X : FVec Ideal S2x32x64x128 .f32) (hX : ∀ (b : Fin 2) (h : Fin 32) (j : Fin 64) (n : Fin 128), X (ix4 b h j n) = leaveK m c (64 * b.val + 63) n ⟨64 * h.val + j.val, by omega⟩) : (dats m 0 c).arrAt 11 cfg0.N = X := by
  refine (dats m 0 c).arrAt_eq_of_covers 11 _ (by decide +kernel) fun t hf y => ?_
  have ht := (idx t).2.2.2.2.2.2.2.2.2.2.2.2
  have h1 : t.val % 64 = 63 := (by decide +kernel : ∀ t : Fin cfg0.N, (cfg0.win 11).flush t = true → t.val % 64 = 63) t hf
  blk_simp
  rw [after0_11]
  idx_vars y
  obtain rfl : y0 = 0 := Subsingleton.elim (α := Fin 1) _ _
  refine (last_at m c hpre t h1 y3 ⟨64 * y1.val + y2.val, by omega⟩ _ rfl rfl).trans ?_
  refine Eq.trans ?_ (congrArg X (emb11 t y1 y2 y3 ht)).symm
  rw [hX]
  exact congrArg (fun t => leaveK m c t y3 _) (by dsimp only; omega)

end Cert.Kernel10Ideal.Value
end
-- ==== Proof.SsdRefDefs.lean ====
module

public import proofs.«01_k».proof.Proof.Gen.Reference10Ideal.Run
public import proofs.«01_k».proof.Proof.Rows
public import proofs.«01_k».proof.Proof.SsdArgs
public import Idealize.ShloMosaic.Lib.KernelVsHost

@[expose] public section
set_option maxRecDepth 100000
noncomputable section
open Idealize.ShloMosaic Idealize.ShloMosaic.TcCoe Idealize.SL.Sem Idealize.ShloMosaic.StableHlo

/-! The reference of the recurrence as array functions, a stretch of its operations at a time, and what each stretch leaves in its buffers. -/
namespace Cert.Reference10Ideal.Value
open Cert.Reference10Ideal Cert.Reference10Ideal.Gen

/-- The short convolution. -/
def rConv (x : FVec Ideal S16384x3072 .f32) (w : FVec Ideal S4x3072 .f32) (cb : FVec Ideal S3072 .f32) : FVec Ideal S2x8192x3072 .f32 :=
  (addf (broadcastInDim S2x8192x3072 ![0, 1, 2] bcast_S1x1x3072_S2x8192x3072_0_1_2 (broadcastInDim S1x1x3072 ![2] bcast_S3072_S1x1x3072_2 cb)) (addf (addf (addf (addf (broadcastInDim S2x8192x3072 ![] bcast_S_S2x8192x3072 (constant S_ .f32 0x00000000#32)) (mulf (extractStridedSlice S2x8192x3072 ![0, 0, 0] (concatenate S2x8195x3072 1 [⟨S2x3x3072, (broadcastInDim S2x3x3072 ![] bcast_S_S2x3x3072 (constant S_ .f32 0x00000000#32))⟩, ⟨S2x8192x3072, (shapeCast S2x8192x3072 x shapeCasts_S16384x3072_S2x8192x3072)⟩] concatenates_S2x3x3072_S2x8192x3072_S2x8195x3072_d1) slices_S2x8195x3072_S2x8192x3072_0_0_0) (broadcastInDim S2x8192x3072 ![0, 1, 2] bcast_S1x1x3072_S2x8192x3072_0_1_2 (broadcastInDim S1x1x3072 ![2] bcast_S3072_S1x1x3072_2 (shapeCast S3072 (extractStridedSlice S1x3072 ![0, 0] w slices_S4x3072_S1x3072_0_0) shapeCasts_S1x3072_S3072))))) (mulf (extractStridedSlice S2x8192x3072 ![0, 1, 0] (concatenate S2x8195x3072 1 [⟨S2x3x3072, (broadcastInDim S2x3x3072 ![] bcast_S_S2x3x3072 (constant S_ .f32 0x00000000#32))⟩, ⟨S2x8192x3072, (shapeCast S2x8192x3072 x shapeCasts_S16384x3072_S2x8192x3072)⟩] concatenates_S2x3x3072_S2x8192x3072_S2x8195x3072_d1) slices_S2x8195x3072_S2x8192x3072_0_1_0) (broadcastInDim S2x8192x3072 ![0, 1, 2] bcast_S1x1x3072_S2x8192x3072_0_1_2 (broadcastInDim S1x1x3072 ![2] bcast_S3072_S1x1x3072_2 (shapeCast S3072 (extractStridedSlice S1x3072 ![1, 0] w slices_S4x3072_S1x3072_1_0) shapeCasts_S1x3072_S3072))))) (mulf (extractStridedSlice S2x8192x3072 ![0, 2, 0] (concatenate S2x8195x3072 1 [⟨S2x3x3072, (broadcastInDim S2x3x3072 ![] bcast_S_S2x3x3072 (constant S_ .f32 0x00000000#32))⟩, ⟨S2x8192x3072, (shapeCast S2x8192x3072 x shapeCasts_S16384x3072_S2x8192x3072)⟩] concatenates_S2x3x3072_S2x8192x3072_S2x8195x3072_d1) slices_S2x8195x3072_S2x8192x3072_0_2_0) (broadcastInDim S2x8192x3072 ![0, 1, 2] bcast_S1x1x3072_S2x8192x3072_0_1_2 (broadcastInDim S1x1x3072 ![2] bcast_S3072_S1x1x3072_2 (shapeCast S3072 (extractStridedSlice S1x3072 ![2, 0] w slices_S4x3072_S1x3072_2_0) shapeCasts_S1x3072_S3072))))) (mulf (extractStridedSlice S2x8192x3072 ![0, 3, 0] (concatenate S2x8195x3072 1 [⟨S2x3x3072, (broadcastInDim S2x3x3072 ![] bcast_S_S2x3x3072 (constant S_ .f32 0x00000000#32))⟩, ⟨S2x8192x3072, (shapeCast S2x8192x3072 x shapeCasts_S16384x3072_S2x8192x3072)⟩] concatenates_S2x3x3072_S2x8192x3072_S2x8195x3072_d1) slices_S2x8195x3072_S2x8192x3072_0_3_0) (broadcastInDim S2x8192x3072 ![0, 1, 2] bcast_S1x1x3072_S2x8192x3072_0_1_2 (broadcastInDim S1x1x3072 ![2] bcast_S3072_S1x1x3072_2 (shapeCast S3072 (extractStridedSlice S1x3072 ![3, 0] w slices_S4x3072_S1x3072_3_0) shapeCasts_S1x3072_S3072))))))

/-- The gate rows, batch by batch. -/
def rZ (z : FVec Ideal S16384x2048 .f32) : FVec Ideal S2x8192x2048 .f32 :=
  (shapeCast S2x8192x2048 z shapeCasts_S16384x2048_S2x8192x2048)

/-- The step rows, batch by batch. -/
def rDtIn (dt : FVec Ideal S16384x32 .f32) : FVec Ideal S2x8192x32 .f32 :=
  (shapeCast S2x8192x32 dt shapeCasts_S16384x32_S2x8192x32)

/-- The zero state. -/
def rZero  : FVec Ideal S2x32x64x128 .f32 :=
  (broadcastInDim S2x32x64x128 ![] bcast_S_S2x32x64x128 (constant S_ .f32 0x00000000#32))

/-- The activation. -/
def rSilu (v : FVec Ideal S2x8192x3072 .f32) : FVec Ideal S2x8192x3072 .f32 :=
  (mulf v (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf v)))))

/-- The value columns of the activations. -/
def rXs (v : FVec Ideal S2x8192x3072 .f32) : FVec Ideal S2x8192x32x64 .f32 :=
  (shapeCast S2x8192x32x64 (extractStridedSlice S2x8192x2048 ![0, 0, 0] v slices_S2x8192x3072_S2x8192x2048_0_0_0) shapeCasts_S2x8192x2048_S2x8192x32x64)

/-- The input-vector columns of the activations. -/
def rBm (v : FVec Ideal S2x8192x3072 .f32) : FVec Ideal S2x8192x4x128 .f32 :=
  (shapeCast S2x8192x4x128 (extractStridedSlice S2x8192x512 ![0, 0, 2048] v slices_S2x8192x3072_S2x8192x512_0_0_2048) shapeCasts_S2x8192x512_S2x8192x4x128)

/-- The output-vector columns of the activations. -/
def rCm (v : FVec Ideal S2x8192x3072 .f32) : FVec Ideal S2x8192x4x128 .f32 :=
  (shapeCast S2x8192x4x128 (extractStridedSlice S2x8192x512 ![0, 0, 2560] v slices_S2x8192x3072_S2x8192x512_0_0_2560) shapeCasts_S2x8192x512_S2x8192x4x128)

/-- The step rows plus their bias. -/
def rDtB (v : FVec Ideal S2x8192x32 .f32) (db : FVec Ideal S32 .f32) : FVec Ideal S2x8192x32 .f32 :=
  (addf v (broadcastInDim S2x8192x32 ![0, 1, 2] bcast_S1x1x32_S2x8192x32_0_1_2 (broadcastInDim S1x1x32 ![2] bcast_S32_S1x1x32_2 db)))

/-- The softplus. -/
def rSoft (v : FVec Ideal S2x8192x32 .f32) : FVec Ideal S2x8192x32 .f32 :=
  (select ((cmpf .une) (subf v (broadcastInDim S2x8192x32 ![] bcast_S_S2x8192x32 (constant S_ .f32 0x00000000#32))) (subf v (broadcastInDim S2x8192x32 ![] bcast_S_S2x8192x32 (constant S_ .f32 0x00000000#32)))) (addf v (broadcastInDim S2x8192x32 ![] bcast_S_S2x8192x32 (constant S_ .f32 0x00000000#32))) (addf (maximumf v (broadcastInDim S2x8192x32 ![] bcast_S_S2x8192x32 (constant S_ .f32 0x00000000#32))) (Host.log1p (Host.exp (Host.negf (Host.absf (subf v (broadcastInDim S2x8192x32 ![] bcast_S_S2x8192x32 (constant S_ .f32 0x00000000#32)))))))))

/-- The values scaled by their step sizes. -/
def rXr (xs : FVec Ideal S2x8192x32x64 .f32) (d : FVec Ideal S2x8192x32 .f32) : FVec Ideal S2x64x128x4x8x64 .f32 :=
  (shapeCast S2x64x128x4x8x64 (mulf xs (broadcastInDim S2x8192x32x64 ![0, 1, 2, 3] bcast_S2x8192x32x1_S2x8192x32x64_0_1_2_3 (broadcastInDim S2x8192x32x1 ![0, 1, 2] bcast_S2x8192x32_S2x8192x32x1_0_1_2 d))) shapeCasts_S2x8192x32x64_S2x64x128x4x8x64)

/-- The step sizes times the decay rates. -/
def rDa (d : FVec Ideal S2x8192x32 .f32) (al : FVec Ideal S32 .f32) : FVec Ideal S2x64x128x4x8 .f32 :=
  (shapeCast S2x64x128x4x8 (mulf d (broadcastInDim S2x8192x32 ![0, 1, 2] bcast_S1x1x32_S2x8192x32_0_1_2 (broadcastInDim S1x1x32 ![2] bcast_S32_S1x1x32_2 (Host.negf (Host.exp al))))) shapeCasts_S2x8192x32_S2x64x128x4x8)

/-- Their running sums within a chunk. -/
def rAcs (v : FVec Ideal S2x64x128x4x8 .f32) : FVec Ideal S2x64x128x4x8 .f32 :=
  (Host.reduceWindowAdd ![1, 1, 128, 1, 1] ![1, 1, 1, 1, 1] ![0, 0, 127, 0, 0] ![0, 0, 0, 0, 0] v (broadcastInDim S_ ![] bcast_S_S_ (constant S_ .f32 0x00000000#32)) reduceWindows_S2x64x128x4x8_S2x64x128x4x8_w1s1p0_0_w1s1p0_0_w128s1p127_0_w1s1p0_0_w1s1p0_0 h_S_)

/-- The input vectors, chunk by chunk. -/
def rBr (v : FVec Ideal S2x8192x4x128 .f32) : FVec Ideal S2x64x128x4x128 .f32 :=
  (shapeCast S2x64x128x4x128 v shapeCasts_S2x8192x4x128_S2x64x128x4x128)

/-- The output vectors, chunk by chunk. -/
def rCr (v : FVec Ideal S2x8192x4x128 .f32) : FVec Ideal S2x64x128x4x128 .f32 :=
  (shapeCast S2x64x128x4x128 v shapeCasts_S2x8192x4x128_S2x64x128x4x128)

/-- The differences of the running sums of two tokens. -/
def rSeg (v : FVec Ideal S2x64x128x4x8 .f32) : FVec Ideal S2x64x128x128x4x8 .f32 :=
  (subf (broadcastInDim S2x64x128x128x4x8 ![0, 1, 2, 3, 4, 5] bcast_S2x64x128x1x4x8_S2x64x128x128x4x8_0_1_2_3_4_5 (broadcastInDim S2x64x128x1x4x8 ![0, 1, 2, 4, 5] bcast_S2x64x128x4x8_S2x64x128x1x4x8_0_1_2_4_5 v)) (broadcastInDim S2x64x128x128x4x8 ![0, 1, 2, 3, 4, 5] bcast_S2x64x1x128x4x8_S2x64x128x128x4x8_0_1_2_3_4_5 (broadcastInDim S2x64x1x128x4x8 ![0, 1, 3, 4, 5] bcast_S2x64x128x4x8_S2x64x1x128x4x8_0_1_3_4_5 v)))

/-- A square of set bits. -/
def rOnes  : IVec S128x128 1 :=
  (broadcastInDim S128x128 ![] bcast_S_S128x128 (constantI S_ 1 1#1))

/-- Its lower triangle. -/
def rTril (v : IVec S128x128 1) : IVec S128x128 1 :=
  (select ((cmpi .sge) (addi (iotaInDim S128x128 32 0) (broadcastInDim S128x128 ![] bcast_S_S128x128 (constantI S_ 32 0#32))) (iotaInDim S128x128 32 1)) v (broadcastInDim S128x128 ![] bcast_S_S128x128 (constantI S_ 1 0#1)))

/-- The triangle with two more axes. -/
def rMask (v : IVec S128x128 1) : IVec S128x128x1x1 1 :=
  (broadcastInDim S128x128x1x1 ![0, 1] bcast_S128x128_S128x128x1x1_0_1 v)

/-- The differences below the diagonal, zero above. -/
def rSegM (v : FVec Ideal S2x64x128x128x4x8 .f32) (k : IVec S128x128x1x1 1) (zz : FVec Ideal S_ .f32) : FVec Ideal S2x64x128x128x4x8 .f32 :=
  (select (broadcastInDim S2x64x128x128x4x8 ![2, 3, 4, 5] bcast_S128x128x1x1_S2x64x128x128x4x8_2_3_4_5 k) v (broadcastInDim S2x64x128x128x4x8 ![] bcast_S_S2x64x128x128x4x8 zz))

/-- Their exponentials. -/
def rExp (v : FVec Ideal S2x64x128x128x4x8 .f32) : FVec Ideal S2x64x128x128x4x8 .f32 :=
  (Host.exp v)

/-- The exponentials below the diagonal, zero above. -/
def rDec (v : FVec Ideal S2x64x128x128x4x8 .f32) (k : IVec S128x128x1x1 1) (zz : FVec Ideal S_ .f32) : FVec Ideal S2x64x128x128x4x8 .f32 :=
  (select (broadcastInDim S2x64x128x128x4x8 ![2, 3, 4, 5] bcast_S128x128x1x1_S2x64x128x128x4x8_2_3_4_5 k) v (broadcastInDim S2x64x128x128x4x8 ![] bcast_S_S2x64x128x128x4x8 zz))

/-- The own tokens' part of the outputs. -/
def rYin (br : FVec Ideal S2x64x128x4x128 .f32) (cr : FVec Ideal S2x64x128x4x128 .f32) (dec : FVec Ideal S2x64x128x128x4x8 .f32) (xr : FVec Ideal S2x64x128x4x8x64 .f32) : FVec Ideal S2x64x128x4x8x64 .f32 :=
  (transpose S2x64x128x4x8x64 [0, 1, 5, 2, 3, 4] (Host.dotGeneral dot_S2x64x128x4x8x64_S2x64x128x128x4x8_S2x64x4x8x64x128_2_3_5_2_0134_0145 none xr (mulf (broadcastInDim S2x64x128x128x4x8 ![0, 1, 2, 3, 4, 5] bcast_S2x64x128x128x4x1_S2x64x128x128x4x8_0_1_2_3_4_5 (broadcastInDim S2x64x128x128x4x1 ![0, 1, 2, 3, 4] bcast_S2x64x128x128x4_S2x64x128x128x4x1_0_1_2_3_4 (transpose S2x64x128x128x4 [0, 1, 4, 3, 2] (Host.dotGeneral dot_S2x64x128x4x128_S2x64x128x4x128_S2x64x4x128x128_4_4_2_2_013_013 none br cr) transposes_S2x64x4x128x128_S2x64x128x128x4_0_1_4_3_2))) dec)) transposes_S2x64x4x8x64x128_S2x64x128x4x8x64_0_1_5_2_3_4)

/-- The chunks' own parts of the states. -/
def rSc (br : FVec Ideal S2x64x128x4x128 .f32) (a : FVec Ideal S2x64x128x4x8 .f32) (xr : FVec Ideal S2x64x128x4x8x64 .f32) : FVec Ideal S64x2x4x8x64x128 .f32 :=
  (transpose S64x2x4x8x64x128 [1, 0, 2, 3, 4, 5] (Host.dotGeneral dot_S2x64x128x4x8x64_S2x64x128x4x128_S2x64x4x8x64x128_2_2_45_4_013_013 none (mulf (broadcastInDim S2x64x128x4x8x64 ![0, 1, 2, 3, 4, 5] bcast_S2x64x128x4x8x1_S2x64x128x4x8x64_0_1_2_3_4_5 (broadcastInDim S2x64x128x4x8x1 ![0, 1, 2, 3, 4] bcast_S2x64x128x4x8_S2x64x128x4x8x1_0_1_2_3_4 (Host.exp (subf (broadcastInDim S2x64x128x4x8 ![0, 1, 2, 3, 4] bcast_S2x64x1x4x8_S2x64x128x4x8_0_1_2_3_4 (extractStridedSlice S2x64x1x4x8 ![0, 0, 127, 0, 0] a slices_S2x64x128x4x8_S2x64x1x4x8_0_0_127_0_0)) a)))) xr) br) transposes_S2x64x4x8x64x128_S64x2x4x8x64x128_1_0_2_3_4_5)

/-- The chunks' decays. -/
def rDc (a : FVec Ideal S2x64x128x4x8 .f32) : FVec Ideal S64x2x4x8 .f32 :=
  (transpose S64x2x4x8 [1, 0, 2, 3] (Host.exp (shapeCast S2x64x4x8 (extractStridedSlice S2x64x1x4x8 ![0, 0, 127, 0, 0] a slices_S2x64x128x4x8_S2x64x1x4x8_0_0_127_0_0) shapeCasts_S2x64x1x4x8_S2x64x4x8)) transposes_S2x64x4x8_S64x2x4x8_1_0_2_3)

/-- The state before the first chunk. -/
def rSt0 (v : FVec Ideal S2x32x64x128 .f32) : FVec Ideal S2x4x8x64x128 .f32 :=
  (shapeCast S2x4x8x64x128 v shapeCasts_S2x32x64x128_S2x4x8x64x128)

/-- The empty stack of states. -/
def rStk0  : FVec Ideal S64x2x4x8x64x128 .f32 :=
  (broadcastInDim S64x2x4x8x64x128 ![] bcast_S_S64x2x4x8x64x128 (constant S_ .f32 0x00000000#32))

/-- The outputs before the gate. -/
def rY (stk : FVec Ideal S64x2x4x8x64x128 .f32) (a : FVec Ideal S2x64x128x4x8 .f32) (cr : FVec Ideal S2x64x128x4x128 .f32) (yin : FVec Ideal S2x64x128x4x8x64 .f32) (xs : FVec Ideal S2x8192x32x64 .f32) (ds : FVec Ideal S32 .f32) : FVec Ideal S2x8192x2048 .f32 :=
  (shapeCast S2x8192x2048 (addf (shapeCast S2x8192x32x64 (addf yin (mulf (broadcastInDim S2x64x128x4x8x64 ![0, 1, 2, 3, 4, 5] bcast_S2x64x128x4x8x1_S2x64x128x4x8x64_0_1_2_3_4_5 (broadcastInDim S2x64x128x4x8x1 ![0, 1, 2, 3, 4] bcast_S2x64x128x4x8_S2x64x128x4x8x1_0_1_2_3_4 (Host.exp a))) (transpose S2x64x128x4x8x64 [0, 1, 5, 2, 3, 4] (Host.dotGeneral dot_S2x64x4x8x64x128_S2x64x128x4x128_S2x64x4x8x64x128_5_4_34_2_012_013 none (transpose S2x64x4x8x64x128 [1, 0, 2, 3, 4, 5] stk transposes_S64x2x4x8x64x128_S2x64x4x8x64x128_1_0_2_3_4_5) cr) transposes_S2x64x4x8x64x128_S2x64x128x4x8x64_0_1_5_2_3_4))) shapeCasts_S2x64x128x4x8x64_S2x8192x32x64) (mulf xs (broadcastInDim S2x8192x32x64 ![0, 1, 2, 3] bcast_S1x1x32x1_S2x8192x32x64_0_1_2_3 (broadcastInDim S1x1x32x1 ![2, 3] bcast_S32x1_S1x1x32x1_2_3 (broadcastInDim S32x1 ![0] bcast_S32_S32x1_0 ds))))) shapeCasts_S2x8192x32x64_S2x8192x2048)

/-- The final states. -/
def rState (st : FVec Ideal S2x4x8x64x128 .f32) : FVec Ideal S2x32x64x128 .f32 :=
  (shapeCast S2x32x64x128 st shapeCasts_S2x4x8x64x128_S2x32x64x128)

/-- The gate. -/
def rGate (z : FVec Ideal S2x8192x2048 .f32) : FVec Ideal S2x8192x2048 .f32 :=
  (mulf z (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf z)))))

/-- The gated outputs. -/
def rOut (y : FVec Ideal S2x8192x2048 .f32) (g : FVec Ideal S2x8192x2048 .f32) : FVec Ideal S16384x2048 .f32 :=
  (shapeCast S16384x2048 (mulf y g) shapeCasts_S2x8192x2048_S16384x2048)

end Cert.Reference10Ideal.Value
end
-- ==== Proof.SsdRefGot.lean ====
module

public import proofs.«01_k».proof.Proof.SsdRefDefs
public import proofs.«01_k».proof.Proof.Rows
public import proofs.«01_k».proof.Proof.SsdArgs
public import Idealize.ShloMosaic.Lib.KernelVsHost

@[expose] public section
set_option maxRecDepth 100000
noncomputable section
open Idealize.ShloMosaic Idealize.ShloMosaic.TcCoe Idealize.SL.Sem Idealize.ShloMosaic.StableHlo

/-! What each stretch of the reference's operations leaves in its buffers. -/
namespace Cert.Reference10Ideal.Value
open Cert.Reference10Ideal Cert.Reference10Ideal.Gen

/-- A buffer the stretch does not write keeps its contents through it. -/
theorem keep0 (E : Valuation τ sig (Elt Ideal)) (r : Ref sig .tc) (h : r ∉ hostOps0_W := by decide +kernel) : after hostOps0 E (Proc.devRef .tc r) = E (Proc.devRef .tc r) :=
  after_of_writes_sub hostOps0 E hostOps0_writes h

/-- A buffer the stretch does not write keeps its contents through it. -/
theorem keep1 (E : Valuation τ sig (Elt Ideal)) (r : Ref sig .tc) (h : r ∉ hostOps0_1_W := by decide +kernel) : after hostOps0_1 E (Proc.devRef .tc r) = E (Proc.devRef .tc r) :=
  after_of_writes_sub hostOps0_1 E hostOps0_1_writes h

/-- A buffer the stretch does not write keeps its contents through it. -/
theorem keep2 (E : Valuation τ sig (Elt Ideal)) (r : Ref sig .tc) (h : r ∉ hostOps0_2_W := by decide +kernel) : after hostOps0_2 E (Proc.devRef .tc r) = E (Proc.devRef .tc r) :=
  after_of_writes_sub hostOps0_2 E hostOps0_2_writes h

/-- A buffer the stretch does not write keeps its contents through it. -/
theorem keep3 (E : Valuation τ sig (Elt Ideal)) (r : Ref sig .tc) (h : r ∉ hostOps0_3_W := by decide +kernel) : after hostOps0_3 E (Proc.devRef .tc r) = E (Proc.devRef .tc r) :=
  after_of_writes_sub hostOps0_3 E hostOps0_3_writes h

/-- A buffer the stretch does not write keeps its contents through it. -/
theorem keep4 (E : Valuation τ sig (Elt Ideal)) (r : Ref sig .tc) (h : r ∉ hostOps0_4_W := by decide +kernel) : after hostOps0_4 E (Proc.devRef .tc r) = E (Proc.devRef .tc r) :=
  after_of_writes_sub hostOps0_4 E hostOps0_4_writes h

/-- A buffer the stretch does not write keeps its contents through it. -/
theorem keep5 (E : Valuation τ sig (Elt Ideal)) (r : Ref sig .tc) (h : r ∉ hostOps0_5_W := by decide +kernel) : after hostOps0_5 E (Proc.devRef .tc r) = E (Proc.devRef .tc r) :=
  after_of_writes_sub hostOps0_5 E hostOps0_5_writes h

/-- A buffer the stretch does not write keeps its contents through it. -/
theorem keep6 (E : Valuation τ sig (Elt Ideal)) (r : Ref sig .tc) (h : r ∉ hostOps0_6_W := by decide +kernel) : after hostOps0_6 E (Proc.devRef .tc r) = E (Proc.devRef .tc r) :=
  after_of_writes_sub hostOps0_6 E hostOps0_6_writes h

/-- A buffer the stretch does not write keeps its contents through it. -/
theorem keep7 (E : Valuation τ sig (Elt Ideal)) (r : Ref sig .tc) (h : r ∉ hostOps0_7_W := by decide +kernel) : after hostOps0_7 E (Proc.devRef .tc r) = E (Proc.devRef .tc r) :=
  after_of_writes_sub hostOps0_7 E hostOps0_7_writes h

/-- A buffer the stretch does not write keeps its contents through it. -/
theorem keep8 (E : Valuation τ sig (Elt Ideal)) (r : Ref sig .tc) (h : r ∉ hostOps0_8_W := by decide +kernel) : after hostOps0_8 E (Proc.devRef .tc r) = E (Proc.devRef .tc r) :=
  after_of_writes_sub hostOps0_8 E hostOps0_8_writes h

/-- A buffer the stretch does not write keeps its contents through it. -/
theorem keep9 (E : Valuation τ sig (Elt Ideal)) (r : Ref sig .tc) (h : r ∉ hostOps0_9_W := by decide +kernel) : after hostOps0_9 E (Proc.devRef .tc r) = E (Proc.devRef .tc r) :=
  after_of_writes_sub hostOps0_9 E hostOps0_9_writes h

/-- A buffer the stretch does not write keeps its contents through it. -/
theorem keep10 (E : Valuation τ sig (Elt Ideal)) (r : Ref sig .tc) (h : r ∉ hostOps0_10_W := by decide +kernel) : after hostOps0_10 E (Proc.devRef .tc r) = E (Proc.devRef .tc r) :=
  after_of_writes_sub hostOps0_10 E hostOps0_10_writes h

/-- A buffer the stretch does not write keeps its contents through it. -/
theorem keep11 (E : Valuation τ sig (Elt Ideal)) (r : Ref sig .tc) (h : r ∉ hostOps0_11_W := by decide +kernel) : after hostOps0_11 E (Proc.devRef .tc r) = E (Proc.devRef .tc r) :=
  after_of_writes_sub hostOps0_11 E hostOps0_11_writes h

/-- A buffer the stretch does not write keeps its contents through it. -/
theorem keep12 (E : Valuation τ sig (Elt Ideal)) (r : Ref sig .tc) (h : r ∉ hostOps0_12_W := by decide +kernel) : after hostOps0_12 E (Proc.devRef .tc r) = E (Proc.devRef .tc r) :=
  after_of_writes_sub hostOps0_12 E hostOps0_12_writes h

/-- The buffers the stretch writes. -/
abbrev post13_W : List (Ref sig .tc) := [main_v96, main_v97, main_v98, main_v99, main_v100, main_v101, main_v102, main_v103, main_v104, main_v105, main_v106, main_v107, main_v108, main_v109, main_v110, main_v111]
theorem post13_writes : (hostOps0_13 : List (HloOp τ sig (Elt Ideal))).Forall fun op => op.writes ⊆ (post13_W.map (Proc.devRef (τ := τ) .tc)).toFinset :=
  StableHlo.forall_writes_sub_of_map rfl
/-- A buffer the stretch does not write keeps its contents through it. -/
theorem keep13 (E : Valuation τ sig (Elt Ideal)) (r : Ref sig .tc) (h : r ∉ post13_W := by decide +kernel) : after hostOps0_13 E (Proc.devRef .tc r) = E (Proc.devRef .tc r) :=
  after_of_writes_sub hostOps0_13 E post13_writes h

/-- The buffers the stretch writes. -/
abbrev post14_W : List (Ref sig .tc) := [main_call9_v0, main_call9_v1, main_call9_cst, main_call9_v2, main_call9_v3, main_call9_cst_0, main_call9_v4, main_call9_v5, main_v112]
theorem post14_writes : (hostOps0_14 : List (HloOp τ sig (Elt Ideal))).Forall fun op => op.writes ⊆ (post14_W.map (Proc.devRef (τ := τ) .tc)).toFinset :=
  StableHlo.forall_writes_sub_of_map rfl
/-- A buffer the stretch does not write keeps its contents through it. -/
theorem keep14 (E : Valuation τ sig (Elt Ideal)) (r : Ref sig .tc) (h : r ∉ post14_W := by decide +kernel) : after hostOps0_14 E (Proc.devRef .tc r) = E (Proc.devRef .tc r) :=
  after_of_writes_sub hostOps0_14 E post14_writes h

/-- The buffers the stretch writes. -/
abbrev post15_W : List (Ref sig .tc) := [main_v113, main_v114]
theorem post15_writes : (hostOps0_15 : List (HloOp τ sig (Elt Ideal))).Forall fun op => op.writes ⊆ (post15_W.map (Proc.devRef (τ := τ) .tc)).toFinset :=
  StableHlo.forall_writes_sub_of_map rfl
/-- A buffer the stretch does not write keeps its contents through it. -/
theorem keep15 (E : Valuation τ sig (Elt Ideal)) (r : Ref sig .tc) (h : r ∉ post15_W := by decide +kernel) : after hostOps0_15 E (Proc.devRef .tc r) = E (Proc.devRef .tc r) :=
  after_of_writes_sub hostOps0_15 E post15_writes h

/-- The short convolution. -/
theorem got_rConv (E : Valuation τ sig (Elt Ideal)) : after hostOps0 E (Proc.devRef .tc main_v37) = rConv (E (Proc.devRef .tc main_arg1)) (E (Proc.devRef .tc main_arg3)) (E (Proc.devRef .tc main_arg4)) := by
  after_results
  rfl

/-- The gate rows, batch by batch. -/
theorem got_rZ (E : Valuation τ sig (Elt Ideal)) : after hostOps0 E (Proc.devRef .tc main_v0) = rZ (E (Proc.devRef .tc main_arg0)) := by
  after_results
  rfl

/-- The step rows, batch by batch. -/
theorem got_rDtIn (E : Valuation τ sig (Elt Ideal)) : after hostOps0 E (Proc.devRef .tc main_v2) = rDtIn (E (Proc.devRef .tc main_arg2)) := by
  after_results
  rfl

/-- The zero state. -/
theorem got_rZero (E : Valuation τ sig (Elt Ideal)) : after hostOps0 E (Proc.devRef .tc main_v4) = rZero  := by
  after_results
  rfl

/-- The activation. -/
theorem got_rSilu (E : Valuation τ sig (Elt Ideal)) : after hostOps0_1 E (Proc.devRef .tc main_v38) = rSilu (E (Proc.devRef .tc main_v37)) := by
  after_results
  rfl

/-- The value columns of the activations. -/
theorem got_rXs (E : Valuation τ sig (Elt Ideal)) : after hostOps0_2 E (Proc.devRef .tc main_v40) = rXs (E (Proc.devRef .tc main_v38)) := by
  after_results
  rfl

/-- The input-vector columns of the activations. -/
theorem got_rBm (E : Valuation τ sig (Elt Ideal)) : after hostOps0_2 E (Proc.devRef .tc main_v42) = rBm (E (Proc.devRef .tc main_v38)) := by
  after_results
  rfl

/-- The output-vector columns of the activations. -/
theorem got_rCm (E : Valuation τ sig (Elt Ideal)) : after hostOps0_2 E (Proc.devRef .tc main_v44) = rCm (E (Proc.devRef .tc main_v38)) := by
  after_results
  rfl

/-- The step rows plus their bias. -/
theorem got_rDtB (E : Valuation τ sig (Elt Ideal)) : after hostOps0_2 E (Proc.devRef .tc main_v47) = rDtB (E (Proc.devRef .tc main_v2)) (E (Proc.devRef .tc main_arg5)) := by
  after_results
  rfl

/-- The softplus. -/
theorem got_rSoft (E : Valuation τ sig (Elt Ideal)) : after hostOps0_3 E (Proc.devRef .tc main_v48) = rSoft (E (Proc.devRef .tc main_v47)) := by
  after_results
  rfl

/-- The values scaled by their step sizes. -/
theorem got_rXr (E : Valuation τ sig (Elt Ideal)) : after hostOps0_4 E (Proc.devRef .tc main_v54) = rXr (E (Proc.devRef .tc main_v40)) (E (Proc.devRef .tc main_v48)) := by
  after_results
  rfl

/-- The step sizes times the decay rates. -/
theorem got_rDa (E : Valuation τ sig (Elt Ideal)) : after hostOps0_4 E (Proc.devRef .tc main_v58) = rDa (E (Proc.devRef .tc main_v48)) (E (Proc.devRef .tc main_arg6)) := by
  after_results
  rfl

/-- Their running sums within a chunk. -/
theorem got_rAcs (E : Valuation τ sig (Elt Ideal)) : after hostOps0_5 E (Proc.devRef .tc main_v59) = rAcs (E (Proc.devRef .tc main_v58)) := by
  after_results
  rfl

/-- The input vectors, chunk by chunk. -/
theorem got_rBr (E : Valuation τ sig (Elt Ideal)) : after hostOps0_6 E (Proc.devRef .tc main_v60) = rBr (E (Proc.devRef .tc main_v42)) := by
  after_results
  rfl

/-- The output vectors, chunk by chunk. -/
theorem got_rCr (E : Valuation τ sig (Elt Ideal)) : after hostOps0_6 E (Proc.devRef .tc main_v61) = rCr (E (Proc.devRef .tc main_v44)) := by
  after_results
  rfl

/-- The differences of the running sums of two tokens. -/
theorem got_rSeg (E : Valuation τ sig (Elt Ideal)) : after hostOps0_6 E (Proc.devRef .tc main_v66) = rSeg (E (Proc.devRef .tc main_v59)) := by
  after_results
  rfl

/-- A square of set bits. -/
theorem got_rOnes (E : Valuation τ sig (Elt Ideal)) : after hostOps0_6 E (Proc.devRef .tc main_v67) = rOnes  := by
  after_results
  rfl

/-- Its lower triangle. -/
theorem got_rTril (E : Valuation τ sig (Elt Ideal)) : after hostOps0_7 E (Proc.devRef .tc main_v68) = rTril (E (Proc.devRef .tc main_v67)) := by
  after_results
  rfl

/-- The triangle with two more axes. -/
theorem got_rMask (E : Valuation τ sig (Elt Ideal)) : after hostOps0_8 E (Proc.devRef .tc main_v69) = rMask (E (Proc.devRef .tc main_v68)) := by
  after_results
  rfl

/-- The differences below the diagonal, zero above. -/
theorem got_rSegM (E : Valuation τ sig (Elt Ideal)) : after hostOps0_9 E (Proc.devRef .tc main_v70) = rSegM (E (Proc.devRef .tc main_v66)) (E (Proc.devRef .tc main_v69)) (E (Proc.devRef .tc main_cst_2)) := by
  after_results
  rfl

/-- Their exponentials. -/
theorem got_rExp (E : Valuation τ sig (Elt Ideal)) : after hostOps0_10 E (Proc.devRef .tc main_v71) = rExp (E (Proc.devRef .tc main_v70)) := by
  after_results
  rfl

/-- The exponentials below the diagonal, zero above. -/
theorem got_rDec (E : Valuation τ sig (Elt Ideal)) : after hostOps0_11 E (Proc.devRef .tc main_v72) = rDec (E (Proc.devRef .tc main_v71)) (E (Proc.devRef .tc main_v69)) (E (Proc.devRef .tc main_cst_3)) := by
  after_results
  rfl

/-- The own tokens' part of the outputs. -/
theorem got_rYin (E : Valuation τ sig (Elt Ideal)) : after hostOps0_12 E (Proc.devRef .tc main_v79) = rYin (E (Proc.devRef .tc main_v60)) (E (Proc.devRef .tc main_v61)) (E (Proc.devRef .tc main_v72)) (E (Proc.devRef .tc main_v54)) := by
  after_results
  rfl

/-- The chunks' own parts of the states. -/
theorem got_rSc (E : Valuation τ sig (Elt Ideal)) : after hostOps0_12 E (Proc.devRef .tc main_v95_0) = rSc (E (Proc.devRef .tc main_v60)) (E (Proc.devRef .tc main_v59)) (E (Proc.devRef .tc main_v54)) := by
  after_results
  rfl

/-- The chunks' decays. -/
theorem got_rDc (E : Valuation τ sig (Elt Ideal)) : after hostOps0_12 E (Proc.devRef .tc main_v95_1) = rDc (E (Proc.devRef .tc main_v59)) := by
  after_results
  rfl

/-- The state before the first chunk. -/
theorem got_rSt0 (E : Valuation τ sig (Elt Ideal)) : after hostOps0_12 E (Proc.devRef .tc main_v95_3) = rSt0 (E (Proc.devRef .tc main_v4)) := by
  after_results
  rfl

/-- The empty stack of states. -/
theorem got_rStk0 (E : Valuation τ sig (Elt Ideal)) : after hostOps0_12 E (Proc.devRef .tc main_v95_4) = rStk0  := by
  after_results
  rfl

/-- The outputs before the gate. -/
theorem got_rY (E : Valuation τ sig (Elt Ideal)) : after hostOps0_13 E (Proc.devRef .tc main_v111) = rY (E (Proc.devRef .tc main_v95_4)) (E (Proc.devRef .tc main_v59)) (E (Proc.devRef .tc main_v61)) (E (Proc.devRef .tc main_v79)) (E (Proc.devRef .tc main_v40)) (E (Proc.devRef .tc main_arg7)) := by
  after_results
  rfl

/-- The final states. -/
theorem got_rState (E : Valuation τ sig (Elt Ideal)) : after hostOps0_13 E (Proc.devRef .tc main_v105) = rState (E (Proc.devRef .tc main_v95_3)) := by
  after_results
  rfl

/-- The gate. -/
theorem got_rGate (E : Valuation τ sig (Elt Ideal)) : after hostOps0_14 E (Proc.devRef .tc main_v112) = rGate (E (Proc.devRef .tc main_v0)) := by
  after_results
  rfl

/-- The gated outputs. -/
theorem got_rOut (E : Valuation τ sig (Elt Ideal)) : after hostOps0_15 E (Proc.devRef .tc main_v114) = rOut (E (Proc.devRef .tc main_v111)) (E (Proc.devRef .tc main_v112)) := by
  after_results
  rfl

/-- The zero of a choice. -/
theorem got_cst2 (E : Valuation τ sig (Elt Ideal)) : after hostOps0_8 E (Proc.devRef .tc main_cst_2) = (constant (F := Ideal) S_ .f32 0x00000000#32 : FVec Ideal S_ .f32) := by
  after_results

/-- The zero of a choice. -/
theorem got_cst3 (E : Valuation τ sig (Elt Ideal)) : after hostOps0_10 E (Proc.devRef .tc main_cst_3) = (constant (F := Ideal) S_ .f32 0x00000000#32 : FVec Ideal S_ .f32) := by
  after_results

end Cert.Reference10Ideal.Value
end
-- ==== Proof.SsdRefAt.lean ====
module

public import proofs.«01_k».proof.Proof.SsdRefGot

@[expose] public section
set_option maxRecDepth 100000
noncomputable section
open Idealize.ShloMosaic Idealize.ShloMosaic.TcCoe Idealize.SL.Sem Idealize.ShloMosaic.StableHlo

/-! The entries of the reference before its running sums. -/
namespace Cert.Reference10Ideal.Value
open Cert.Reference10Ideal Cert.Reference10Ideal.Gen Cert.Ssd

/-- The activation at an index. -/
theorem rSilu_at (v : FVec Ideal S2x8192x3072 .f32) (b : Fin 2) (r : Fin 8192) (k : Fin 3072) : rSilu v (ix3 b r k) = silu (v (ix3 b r k)) := by
  pointwise [rSilu, silu]
  simp only [Ideal.logistic]

/-- The gate at an index. -/
theorem rGate_at (v : FVec Ideal S2x8192x2048 .f32) (b : Fin 2) (r : Fin 8192) (k : Fin 2048) : rGate v (ix3 b r k) = silu (v (ix3 b r k)) := by
  pointwise [rGate, silu]
  simp only [Ideal.logistic]

/-- The value columns at an index. -/
theorem rXs_at (v : FVec Ideal S2x8192x3072 .f32) (b : Fin 2) (r : Fin 8192) (h : Fin 32) (j : Fin 64) :
    rXs v (ix4 b r h j) = v (ix3 b r ⟨64 * h.val + j.val, by omega⟩) := by
  pointwise [rXs]
  refine congrArg v ((ix3_inj _ _ _ _ _ _).mpr ?_)
  (simp only [Fin.ext_iff, true_and, and_true]; omega)

/-- The input-vector columns at an index. -/
theorem rBm_at (v : FVec Ideal S2x8192x3072 .f32) (b : Fin 2) (r : Fin 8192) (g : Fin 4) (n : Fin 128) :
    rBm v (ix4 b r g n) = v (ix3 b r ⟨2048 + (128 * g.val + n.val), by omega⟩) := by
  pointwise [rBm]
  refine congrArg v ((ix3_inj _ _ _ _ _ _).mpr ?_)
  (simp only [Fin.ext_iff, true_and, and_true]; omega)

/-- The output-vector columns at an index. -/
theorem rCm_at (v : FVec Ideal S2x8192x3072 .f32) (b : Fin 2) (r : Fin 8192) (g : Fin 4) (n : Fin 128) :
    rCm v (ix4 b r g n) = v (ix3 b r ⟨2560 + (128 * g.val + n.val), by omega⟩) := by
  pointwise [rCm]
  refine congrArg v ((ix3_inj _ _ _ _ _ _).mpr ?_)
  (simp only [Fin.ext_iff, true_and, and_true]; omega)

/-- The step rows at an index. -/
theorem rDtIn_at (dt : FVec Ideal S16384x32 .f32) (b : Fin 2) (r : Fin 8192) (h : Fin 32) : rDtIn dt (ix3 b r h) = dt (ix2 ⟨8192 * b.val + r.val, by omega⟩ h) := by
  pointwise [rDtIn]
  refine congrArg dt ((ix2_inj _ _ _ _).mpr ?_)
  (simp only [Fin.ext_iff, true_and, and_true]; omega)

/-- The gate rows at an index. -/
theorem rZ_at (z : FVec Ideal S16384x2048 .f32) (b : Fin 2) (r : Fin 8192) (h : Fin 2048) : rZ z (ix3 b r h) = z (ix2 ⟨8192 * b.val + r.val, by omega⟩ h) := by
  pointwise [rZ]
  refine congrArg z ((ix2_inj _ _ _ _).mpr ?_)
  (simp only [Fin.ext_iff, true_and, and_true]; omega)

/-- The biased step rows at an index. -/
theorem rDtB_at (v : FVec Ideal S2x8192x32 .f32) (db : FVec Ideal S32 .f32) (b : Fin 2) (r : Fin 8192) (h : Fin 32) : rDtB v db (ix3 b r h) = v (ix3 b r h) + db (ix1 h) := by
  pointwise [rDtB]

/-- The softplus at an index. -/
theorem rSoft_at (v : FVec Ideal S2x8192x32 .f32) (b : Fin 2) (r : Fin 8192) (h : Fin 32) : rSoft v (ix3 b r h) = softplus (v (ix3 b r h)) := by
  pointwise [rSoft, softplus]
  rw [if_neg (fun h => h rfl), zero_sub]
  rfl

/-- The scaled values at an index. -/
theorem rXr_at (xs : FVec Ideal S2x8192x32x64 .f32) (d : FVec Ideal S2x8192x32 .f32) (b : Fin 2) (c : Fin 64) (i : Fin 128) (g : Fin 4) (e : Fin 8) (j : Fin 64) :
    rXr xs d (ix6 b c i g e j) = xs (ix4 b ⟨128 * c.val + i.val, by omega⟩ ⟨8 * g.val + e.val, by omega⟩ j) * d (ix3 b ⟨128 * c.val + i.val, by omega⟩ ⟨8 * g.val + e.val, by omega⟩) := by
  pointwise [rXr]
  refine congrArg₂ (· * ·) (congrArg xs ((ix4_inj _ _ _ _ _ _ _ _).mpr ?_)) (congrArg d ((ix3_inj _ _ _ _ _ _).mpr ?_)) <;> (simp only [Fin.ext_iff, true_and, and_true]; omega)

/-- The decays' summands at an index. -/
theorem rDa_at (d : FVec Ideal S2x8192x32 .f32) (al : FVec Ideal S32 .f32) (b : Fin 2) (c : Fin 64) (i : Fin 128) (g : Fin 4) (e : Fin 8) :
    rDa d al (ix5 b c i g e) = d (ix3 b ⟨128 * c.val + i.val, by omega⟩ ⟨8 * g.val + e.val, by omega⟩) * (0 - Ideal.exp (al (ix1 ⟨8 * g.val + e.val, by omega⟩))) := by
  pointwise [rDa]
  rw [zero_sub]
  refine congrArg₂ (· * ·) (congrArg d ((ix3_inj _ _ _ _ _ _).mpr ?_)) (congrArg (fun q => -Ideal.exp (al q)) ((ix1_inj _ _).mpr ?_)) <;> (simp only [Fin.ext_iff, true_and, and_true]; omega)

/-- The input vectors of a chunk at an index. -/
theorem rBr_at (v : FVec Ideal S2x8192x4x128 .f32) (b : Fin 2) (c : Fin 64) (i : Fin 128) (g : Fin 4) (n : Fin 128) :
    rBr v (ix5 b c i g n) = v (ix4 b ⟨128 * c.val + i.val, by omega⟩ g n) := by
  pointwise [rBr]
  refine congrArg v ((ix4_inj _ _ _ _ _ _ _ _).mpr ?_)
  (simp only [Fin.ext_iff, true_and, and_true]; omega)

/-- The output vectors of a chunk at an index. -/
theorem rCr_at (v : FVec Ideal S2x8192x4x128 .f32) (b : Fin 2) (c : Fin 64) (i : Fin 128) (g : Fin 4) (n : Fin 128) :
    rCr v (ix5 b c i g n) = v (ix4 b ⟨128 * c.val + i.val, by omega⟩ g n) := by
  pointwise [rCr]
  refine congrArg v ((ix4_inj _ _ _ _ _ _ _ _).mpr ?_)
  (simp only [Fin.ext_iff, true_and, and_true]; omega)

/-- The short convolution at an index. -/
theorem rConv_at (x : FVec Ideal S16384x3072 .f32) (w : FVec Ideal S4x3072 .f32) (cb : FVec Ideal S3072 .f32) (b : Fin 2) (r : Fin 8192) (k : Fin 3072) :
    rConv x w cb (ix3 b r k) = conv (rowF x) (tapF w) (vecF cb) (8192 * b.val + r.val) k := by
  pointwise [rConv]
  have hb := b.isLt
  have hr := r.isLt
  have h0 : (8192 * b.val + r.val) % 8192 = r.val := by omega
  have hx : ∀ (n : Nat) (hn : n < 16384) (q : Fin 16384), q.val = n → rowF x n k = x (ix2 q k) := by
    intro n hn q hq
    refine (rowF_eq x n hn k).trans (congrArg x ((ix2_inj _ _ _ _).mpr ⟨Fin.ext hq.symm, rfl⟩))
  have e3 : (if h : r.val < 3 then (0 : EReal) else x (ix2 ⟨b.val * 8192 + (r.val - 3), by omega⟩ k)) = back (rowF x) 3 (8192 * b.val + r.val) k := by
    unfold back; rw [h0]
    by_cases h : r.val < 3
    · rw [dif_pos h, if_pos h]
    · rw [dif_neg h, if_neg h]; exact (hx _ (by omega) _ (by dsimp only; omega)).symm
  have e2 : (if h : 1 + r.val < 3 then (0 : EReal) else x (ix2 ⟨b.val * 8192 + (1 + r.val - 3), by omega⟩ k)) = back (rowF x) 2 (8192 * b.val + r.val) k := by
    unfold back; rw [h0]
    by_cases h : r.val < 2
    · rw [dif_pos (by omega), if_pos h]
    · rw [dif_neg (by omega), if_neg h]; exact (hx _ (by omega) _ (by dsimp only; omega)).symm
  have e1 : (if h : 2 + r.val < 3 then (0 : EReal) else x (ix2 ⟨b.val * 8192 + (2 + r.val - 3), by omega⟩ k)) = back (rowF x) 1 (8192 * b.val + r.val) k := by
    unfold back; rw [h0]
    by_cases h : r.val < 1
    · rw [dif_pos (by omega), if_pos h]
    · rw [dif_neg (by omega), if_neg h]; exact (hx _ (by omega) _ (by dsimp only; omega)).symm
  have e0 : x (ix2 ⟨b.val * 8192 + r.val, by omega⟩ k) = rowF x (8192 * b.val + r.val) k := (hx _ (by omega) _ (by dsimp only; omega)).symm
  rw [e3, e2, e1, e0]
  unfold conv
  show vecF cb k + (back (rowF x) 3 _ k * tapF w 0 k + back (rowF x) 2 _ k * tapF w 1 k + back (rowF x) 1 _ k * tapF w 2 k + rowF x _ k * tapF w 3 k) = _
  ac_rfl

end Cert.Reference10Ideal.Value
end
-- ==== Proof.SsdRefAcs.lean ====
module

public import proofs.«01_k».proof.Proof.SsdRefAt

@[expose] public section
set_option maxRecDepth 100000
noncomputable section
open Idealize.ShloMosaic Idealize.ShloMosaic.TcCoe Idealize.SL.Sem Idealize.ShloMosaic.StableHlo

/-! The running sums of the reference. -/
namespace Cert.Reference10Ideal.Value
open Cert.Reference10Ideal Cert.Reference10Ideal.Gen Cert.Ssd

/-- A fold of additions over a list is the start plus the list's sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window of the running sum: one position on every axis but the tokens', and 128 on that. -/
abbrev W5 : Shape := ⟨5, ![1, 1, 128, 1, 1]⟩

/-- A sum over the window's positions is a sum over its tokens. -/
theorem sum_window (F : Fin 128 → EReal) : ∑ p : W5.Idx, F (p 2) = ∑ n : Fin 128, F n := by
  refine Fintype.sum_equiv ⟨fun p => p 2, fun n => ix5 (n0 := 1) (n1 := 1) (n2 := 128) (n3 := 1) (n4 := 1) 0 0 n 0 0, fun p => ?_, fun n => rfl⟩ _ _ fun p => rfl
  refine funext fun a => ?_
  fin_cases a
  · exact Subsingleton.elim (α := Fin 1) _ _
  · exact Subsingleton.elim (α := Fin 1) _ _
  · rfl
  · exact Subsingleton.elim (α := Fin 1) _ _
  · exact Subsingleton.elim (α := Fin 1) _ _

/-- The window ending at token `i` holds the tokens up to `i`. -/
theorem sum_shift (G : Fin 128 → EReal) (i : Fin 128) :
    (∑ n : Fin 128, if h : 127 ≤ i.val + n.val then G ⟨i.val + n.val - 127, by omega⟩ else 0) = ∑ x : Fin 128, if x.val ≤ i.val then G x else 0 := by
  have e : ∀ n : Fin 128, (if h : 127 ≤ i.val + n.val then G ⟨i.val + n.val - 127, by omega⟩ else 0)
      = if 127 ≤ i.val + n.val then G ⟨(i.val + n.val - 127) % 128, by omega⟩ else 0 := fun n => by
    by_cases h : 127 ≤ i.val + n.val
    · rw [dif_pos h, if_pos h]; exact congrArg G (Fin.ext (by dsimp only; omega))
    · rw [dif_neg h, if_neg h]
  rw [Finset.sum_congr rfl fun n _ => e n, ← Finset.sum_filter, ← Finset.sum_filter]
  refine Finset.sum_bij' (fun n _ => ⟨(i.val + n.val - 127) % 128, by omega⟩) (fun x _ => ⟨(x.val + 127 - i.val) % 128, by omega⟩) ?_ ?_ ?_ ?_ ?_
  · intro n hn
    simp only [Finset.mem_filter, Finset.mem_univ, true_and] at hn ⊢
    omega
  · intro n hn
    simp only [Finset.mem_filter, Finset.mem_univ, true_and] at hn ⊢
    omega
  · intro n hn
    simp only [Finset.mem_filter, Finset.mem_univ, true_and] at hn
    exact Fin.ext (by dsimp only; omega)
  · intro n hn
    simp only [Finset.mem_filter, Finset.mem_univ, true_and] at hn
    exact Fin.ext (by dsimp only; omega)
  · intro n hn; rfl

/-- The running sums at an index: the sum over the chunk's tokens up to it. -/
theorem rAcs_at (v : FVec Ideal S2x64x128x4x8 .f32) (b : Fin 2) (c : Fin 64) (i : Fin 128) (g : Fin 4) (e : Fin 8) :
    rAcs v (ix5 b c i g e) = ∑ x : Fin 128, if x.val ≤ i.val then v (ix5 b c x g e) else 0 := by
  unfold rAcs
  show Host.reduceWindow (s := S2x64x128x4x8) (t := S2x64x128x4x8) (u := S_) (· + ·) ![1, 1, 128, 1, 1] ![1, 1, 1, 1, 1] ![0, 0, 127, 0, 0] ![0, 0, 0, 0, 0] v (fun _ => (broadcastInDim S_ ![] bcast_S_S_ (constant (F := Ideal) S_ .f32 0x00000000#32)) (Shape.Idx.first h_S_)) reduceWindows_S2x64x128x4x8_S2x64x128x4x8_w1s1p0_0_w1s1p0_0_w128s1p127_0_w1s1p0_0_w1s1p0_0 h_S_ (ix5 b c i g e) = _
  have hv : (broadcastInDim S_ ![] bcast_S_S_ (constant (F := Ideal) S_ .f32 0x00000000#32)) (Shape.Idx.first h_S_) = (0 : EReal) := by
    pointwise
  rw [hv]
  unfold Host.reduceWindow
  dsimp only
  refine (foldl_add _ _ _).trans ?_
  rw [zero_add]
  refine Eq.trans ?_ (sum_shift (fun x => v (ix5 b c x g e)) i)
  refine Eq.trans ?_ (sum_window (fun n => if h : 127 ≤ i.val + n.val then v (ix5 b c ⟨i.val + n.val - 127, by omega⟩ g e) else 0))
  refine Eq.trans ?_ (Equiv.sum_comp W5.rowMajor.symm _)
  rw [← List.sum_ofFn, List.ofFn_eq_map]
  refine congrArg List.sum (List.map_congr_left fun n _ => ?_)
  have p0 : (W5.rowMajor.symm n 0).val = 0 := by
    have h := (W5.rowMajor.symm n 0).isLt
    change _ < 1 at h
    omega
  have p1 : (W5.rowMajor.symm n 1).val = 0 := by
    have h := (W5.rowMajor.symm n 1).isLt
    change _ < 1 at h
    omega
  have p3 : (W5.rowMajor.symm n 3).val = 0 := by
    have h := (W5.rowMajor.symm n 3).isLt
    change _ < 1 at h
    omega
  have p4 : (W5.rowMajor.symm n 4).val = 0 := by
    have h := (W5.rowMajor.symm n 4).isLt
    change _ < 1 at h
    omega
  have p2 : (W5.rowMajor.symm n 2).val < 128 := (W5.rowMajor.symm n 2).isLt
  have hb := b.isLt
  have hc := c.isLt
  have hg := g.isLt
  have he := e.isLt
  have hi := i.isLt
  by_cases h : 127 ≤ i.val + (W5.rowMajor.symm n 2).val
  · rw [dif_pos h]
    refine (dif_pos (fun a => ?_)).trans (congrArg v (funext fun a => Fin.ext ?_))
    · match a with
      | ⟨0, _⟩ =>
        show 0 ≤ b.val * 1 + (W5.rowMajor.symm n 0).val ∧ b.val * 1 + (W5.rowMajor.symm n 0).val - 0 < 2
        omega
      | ⟨1, _⟩ =>
        show 0 ≤ c.val * 1 + (W5.rowMajor.symm n 1).val ∧ c.val * 1 + (W5.rowMajor.symm n 1).val - 0 < 64
        omega
      | ⟨2, _⟩ =>
        show 127 ≤ i.val * 1 + (W5.rowMajor.symm n 2).val ∧ i.val * 1 + (W5.rowMajor.symm n 2).val - 127 < 128
        omega
      | ⟨3, _⟩ =>
        show 0 ≤ g.val * 1 + (W5.rowMajor.symm n 3).val ∧ g.val * 1 + (W5.rowMajor.symm n 3).val - 0 < 4
        omega
      | ⟨4, _⟩ =>
        show 0 ≤ e.val * 1 + (W5.rowMajor.symm n 4).val ∧ e.val * 1 + (W5.rowMajor.symm n 4).val - 0 < 8
        omega
    · match a with
      | ⟨0, _⟩ =>
        show b.val * 1 + (W5.rowMajor.symm n 0).val - 0 = b.val
        omega
      | ⟨1, _⟩ =>
        show c.val * 1 + (W5.rowMajor.symm n 1).val - 0 = c.val
        omega
      | ⟨2, _⟩ =>
        show i.val * 1 + (W5.rowMajor.symm n 2).val - 127 = i.val + (W5.rowMajor.symm n 2).val - 127
        omega
      | ⟨3, _⟩ =>
        show g.val * 1 + (W5.rowMajor.symm n 3).val - 0 = g.val
        omega
      | ⟨4, _⟩ =>
        show e.val * 1 + (W5.rowMajor.symm n 4).val - 0 = e.val
        omega
  · rw [dif_neg h]
    refine dif_neg fun hin => h ?_
    have h2 := (hin 2).1
    change 127 ≤ i.val * 1 + (W5.rowMajor.symm n 2).val at h2
    omega

end Cert.Reference10Ideal.Value
end
-- ==== Proof.SsdRefMix.lean ====
module

public import proofs.«01_k».proof.Proof.SsdRefAcs
public import Idealize.ShloMosaic.Lib.WordCmp

@[expose] public section
set_option maxRecDepth 100000
noncomputable section
open Idealize.ShloMosaic Idealize.ShloMosaic.TcCoe Idealize.SL.Sem Idealize.ShloMosaic.StableHlo

/-! The entries of the reference from its running sums on. -/
namespace Cert.Reference10Ideal.Value
open Cert.Reference10Ideal Cert.Reference10Ideal.Gen Cert.Ssd

/-- The lower triangle at an index. -/
theorem rMask_at (i j : Fin 128) : rMask (rTril rOnes) (ix4 i j 0 0) = if j.val ≤ i.val then 1#1 else 0#1 := by
  pointwise [rMask, rTril, rOnes]
  have e : IntOp.cmpi CmpIPredicate.sge (IntOp.addi (BitVec.ofNat 32 i.val) 0#32) (BitVec.ofNat 32 j.val) = if j.val ≤ i.val then 1#1 else 0#1 := by
    have hi := i.isLt
    have hj := j.isLt
    rw [show IntOp.addi (BitVec.ofNat 32 i.val) 0#32 = BitVec.ofNat 32 i.val from BitVec.add_zero _]
    word_cmp
    by_cases hx : j.val ≤ i.val <;> simp [hx]
  rw [e, sel_if]

/-- The decay between two tokens of a chunk at an index. -/
theorem rDec_at (a : FVec Ideal S2x64x128x4x8 .f32) (b : Fin 2) (c : Fin 64) (i j : Fin 128) (g : Fin 4) (e : Fin 8) :
    rDec (rExp (rSegM (rSeg a) (rMask (rTril rOnes)) (constant S_ .f32 0x00000000#32))) (rMask (rTril rOnes)) (constant S_ .f32 0x00000000#32) (ix6 b c i j g e)
      = if j.val ≤ i.val then Ideal.exp (a (ix5 b c i g e) - a (ix5 b c j g e)) else 0 := by
  pointwise [rDec, rExp, rSegM, rSeg]
  rw [rMask_at]
  by_cases h : j.val ≤ i.val
  · simp only [if_pos h, sel_one]
  · simp only [if_neg h, sel_zero]

/-- The own tokens' part of an output at an index. -/
theorem rYin_at (br cr : FVec Ideal S2x64x128x4x128 .f32) (dec : FVec Ideal S2x64x128x128x4x8 .f32) (xr : FVec Ideal S2x64x128x4x8x64 .f32) (b : Fin 2) (c : Fin 64) (i : Fin 128) (g : Fin 4) (e : Fin 8) (j : Fin 64) :
    rYin br cr dec xr (ix6 b c i g e j) = ∑ x : Fin 128, xr (ix6 b c x g e j) * ((∑ n : Fin 128, br (ix5 b c x g n) * cr (ix5 b c i g n)) * dec (ix6 b c i x g e)) := by
  pointwise [rYin]

/-- A chunk's own part of the state at an index. -/
theorem rSc_at (br : FVec Ideal S2x64x128x4x128 .f32) (a : FVec Ideal S2x64x128x4x8 .f32) (xr : FVec Ideal S2x64x128x4x8x64 .f32) (b : Fin 2) (c : Fin 64) (g : Fin 4) (e : Fin 8) (j : Fin 64) (n : Fin 128) :
    rSc br a xr (ix6 c b g e j n) = ∑ x : Fin 128, Ideal.exp (a (ix5 b c 127 g e) - a (ix5 b c x g e)) * xr (ix6 b c x g e j) * br (ix5 b c x g n) := by
  pointwise [rSc]

/-- A chunk's decay at an index. -/
theorem rDc_at (a : FVec Ideal S2x64x128x4x8 .f32) (b : Fin 2) (c : Fin 64) (g : Fin 4) (e : Fin 8) : rDc a (ix4 c b g e) = Ideal.exp (a (ix5 b c 127 g e)) := by
  pointwise [rDc]

/-- The outputs before the gate at an index. -/
theorem rY_at (stk : FVec Ideal S64x2x4x8x64x128 .f32) (a : FVec Ideal S2x64x128x4x8 .f32) (cr : FVec Ideal S2x64x128x4x128 .f32) (yin : FVec Ideal S2x64x128x4x8x64 .f32) (xs : FVec Ideal S2x8192x32x64 .f32) (ds : FVec Ideal S32 .f32)
    (b : Fin 2) (c : Fin 64) (i : Fin 128) (q : Fin 2048) :
    rY stk a cr yin xs ds (ix3 b ⟨128 * c.val + i.val, by omega⟩ q)
      = yin (ix6 b c i ⟨q.val / 512, by omega⟩ ⟨q.val / 64 % 8, by omega⟩ ⟨q.val % 64, by omega⟩)
        + Ideal.exp (a (ix5 b c i ⟨q.val / 512, by omega⟩ ⟨q.val / 64 % 8, by omega⟩)) * (∑ n : Fin 128, stk (ix6 c b ⟨q.val / 512, by omega⟩ ⟨q.val / 64 % 8, by omega⟩ ⟨q.val % 64, by omega⟩ n) * cr (ix5 b c i ⟨q.val / 512, by omega⟩ n))
        + xs (ix4 b ⟨128 * c.val + i.val, by omega⟩ ⟨q.val / 64, by omega⟩ ⟨q.val % 64, by omega⟩) * ds (ix1 ⟨q.val / 64, by omega⟩) := by
  pointwise [rY]
  have e : (⟨q.val / 64 / 8, by omega⟩ : Fin 4) = ⟨q.val / 512, by omega⟩ := Fin.ext (by show q.val / 64 / 8 = q.val / 512; omega)
  simp only [e]

/-- The final state at an index. -/
theorem rState_at (st : FVec Ideal S2x4x8x64x128 .f32) (b : Fin 2) (h : Fin 32) (j : Fin 64) (n : Fin 128) :
    rState st (ix4 b h j n) = st (ix5 b ⟨h.val / 8, by omega⟩ ⟨h.val % 8, by omega⟩ j n) := by
  pointwise [rState]

/-- The gated outputs at an index. -/
theorem rOut_at (y g : FVec Ideal S2x8192x2048 .f32) (r : Fin 16384) (q : Fin 2048) :
    rOut y g (ix2 r q) = y (ix3 ⟨r.val / 8192, by omega⟩ ⟨r.val % 8192, by omega⟩ q) * g (ix3 ⟨r.val / 8192, by omega⟩ ⟨r.val % 8192, by omega⟩ q) := by
  pointwise [rOut]

/-- The state before the first chunk is zero. -/
theorem rSt0_at (b : Fin 2) (g : Fin 4) (e : Fin 8) (j : Fin 64) (n : Fin 128) : rSt0 rZero (ix5 b g e j n) = 0 := by
  pointwise [rSt0, rZero]

end Cert.Reference10Ideal.Value
end
-- ==== Proof.SsdRefVal.lean ====
module

public import proofs.«01_k».proof.Proof.SsdRefMix

@[expose] public section
set_option maxRecDepth 100000
noncomputable section
open Idealize.ShloMosaic Idealize.ShloMosaic.TcCoe Idealize.SL.Sem Idealize.ShloMosaic.StableHlo

/-! The reference's arrays as functions of its arguments, and their entries in terms of the recurrence. -/
namespace Cert.Reference10Ideal.Value
open Cert.Reference10Ideal Cert.Reference10Ideal.Gen Cert.Ssd

/-- The column of group `g`, head `e` of it, lane `j`. -/
def qOf (g : Fin 4) (e : Fin 8) (j : Fin 64) : Fin 2048 := ⟨512 * g.val + 64 * e.val + j.val, by omega⟩

/-- The head `e` of group `g`. -/
def hOf (g : Fin 4) (e : Fin 8) : Fin 32 := ⟨8 * g.val + e.val, by omega⟩

/-- A column's head. -/
theorem hd_q (g : Fin 4) (e : Fin 8) (j : Fin 64) : hdOf (qOf g e j) = hOf g e := Fin.ext (by show (512 * g.val + 64 * e.val + j.val) / 64 = 8 * g.val + e.val; omega)

section
variable (x : FVec Ideal S16384x3072 .f32) (dt : FVec Ideal S16384x32 .f32) (w : FVec Ideal S4x3072 .f32) (cb : FVec Ideal S3072 .f32) (db al : FVec Ideal S32 .f32)

/-- The activations. -/
def vAct : FVec Ideal S2x8192x3072 .f32 := rSilu (rConv x w cb)
/-- The step sizes. -/
def vDt : FVec Ideal S2x8192x32 .f32 := rSoft (rDtB (rDtIn dt) db)
/-- The values scaled by their step sizes. -/
def vXr : FVec Ideal S2x64x128x4x8x64 .f32 := rXr (rXs (vAct x w cb)) (vDt dt db)
/-- The running sums. -/
def vAcs : FVec Ideal S2x64x128x4x8 .f32 := rAcs (rDa (vDt dt db) al)
/-- The input vectors. -/
def vBr : FVec Ideal S2x64x128x4x128 .f32 := rBr (rBm (vAct x w cb))
/-- The output vectors. -/
def vCr : FVec Ideal S2x64x128x4x128 .f32 := rCr (rCm (vAct x w cb))
/-- The decays between the tokens of a chunk. -/
def vDec : FVec Ideal S2x64x128x128x4x8 .f32 :=
  rDec (rExp (rSegM (rSeg (vAcs dt db al)) (rMask (rTril rOnes)) (constant S_ .f32 0x00000000#32))) (rMask (rTril rOnes)) (constant S_ .f32 0x00000000#32)
/-- The own tokens' part of the outputs. -/
def vYin : FVec Ideal S2x64x128x4x8x64 .f32 := rYin (vBr x w cb) (vCr x w cb) (vDec dt db al) (vXr x dt w cb db)
/-- The chunks' own parts of the states. -/
def vSc : FVec Ideal S64x2x4x8x64x128 .f32 := rSc (vBr x w cb) (vAcs dt db al) (vXr x dt w cb db)
/-- The chunks' decays. -/
def vDc : FVec Ideal S64x2x4x8 .f32 := rDc (vAcs dt db al)

/-- The activations of a chunk of a batch. -/
abbrev aW (b : Fin 2) (c : Nat) := actW (rowF x) (tapF w) (vecF cb) (64 * b.val + c)
/-- The step sizes of a chunk of a batch. -/
abbrev dW (b : Fin 2) (c : Nat) := dtW (rowF dt) (vecF db) (64 * b.val + c)

/-- The activations at an index. -/
theorem vAct_at (b : Fin 2) (c : Fin 64) (i : Fin 128) (k : Fin 3072) : vAct x w cb (ix3 b ⟨128 * c.val + i.val, by omega⟩ k) = aW x w cb b c.val i k := by
  unfold vAct
  rw [rSilu_at, rConv_at]
  show silu _ = silu _
  rw [show 8192 * b.val + (128 * c.val + i.val) = 128 * (64 * b.val + c.val) + i.val by omega]

/-- The step sizes at an index. -/
theorem vDt_at (b : Fin 2) (c : Fin 64) (i : Fin 128) (h : Fin 32) : vDt dt db (ix3 b ⟨128 * c.val + i.val, by omega⟩ h) = dW dt db b c.val i h := by
  unfold vDt
  rw [rSoft_at, rDtB_at, rDtIn_at]
  show softplus _ = softplus (rowF dt (128 * (64 * b.val + c.val) + i.val) h + vecF db h)
  rw [rowF_eq dt _ (by omega)]
  refine congrArg (fun q => softplus (dt q + db (ix1 h))) ((ix2_inj _ _ _ _).mpr ?_)
  (simp only [Fin.ext_iff, true_and, and_true]; omega)

/-- The scaled values at an index. -/
theorem vXr_at (b : Fin 2) (c : Fin 64) (i : Fin 128) (g : Fin 4) (e : Fin 8) (j : Fin 64) :
    vXr x dt w cb db (ix6 b c i g e j) = xrE (aW x w cb b c.val) (dW dt db b c.val) i (qOf g e j) := by
  unfold vXr
  rw [rXr_at, rXs_at, vAct_at, vDt_at]
  unfold xrE
  rw [hd_q]
  refine congrArg₂ (· * ·) (congrArg (aW x w cb b c.val i) (Fin.ext ?_)) rfl
  show 64 * (8 * g.val + e.val) + j.val = 512 * g.val + 64 * e.val + j.val
  omega

/-- The running sums at an index. -/
theorem vAcs_at (b : Fin 2) (c : Fin 64) (i : Fin 128) (g : Fin 4) (e : Fin 8) :
    vAcs dt db al (ix5 b c i g e) = acs (dW dt db b c.val) (rateW (vecF al)) i (hOf g e) := by
  unfold vAcs acs
  rw [rAcs_at]
  refine Finset.sum_congr rfl fun y _ => ?_
  rw [rDa_at, vDt_at]
  rfl

/-- The input vectors at an index. -/
theorem vBr_at (b : Fin 2) (c : Fin 64) (i : Fin 128) (g : Fin 4) (n : Fin 128) (e : Fin 8) (j : Fin 64) :
    vBr x w cb (ix5 b c i g n) = aW x w cb b c.val i (bmCol (qOf g e j) n) := by
  unfold vBr
  rw [rBr_at, rBm_at, vAct_at]
  refine congrArg (aW x w cb b c.val i) (Fin.ext ?_)
  show 2048 + (128 * g.val + n.val) = 2048 + (128 * ((512 * g.val + 64 * e.val + j.val) / 512) + n.val)
  omega

/-- The output vectors at an index. -/
theorem vCr_at (b : Fin 2) (c : Fin 64) (i : Fin 128) (g : Fin 4) (n : Fin 128) (e : Fin 8) (j : Fin 64) :
    vCr x w cb (ix5 b c i g n) = aW x w cb b c.val i (cmCol (qOf g e j) n) := by
  unfold vCr
  rw [rCr_at, rCm_at, vAct_at]
  refine congrArg (aW x w cb b c.val i) (Fin.ext ?_)
  show 2560 + (128 * g.val + n.val) = 2560 + (128 * ((512 * g.val + 64 * e.val + j.val) / 512) + n.val)
  omega

/-- The own tokens' part of the outputs at an index. -/
theorem vYin_at (b : Fin 2) (c : Fin 64) (i : Fin 128) (g : Fin 4) (e : Fin 8) (j : Fin 64) :
    vYin x dt w cb db al (ix6 b c i g e j)
      = intra (fun n => aW x w cb b c.val i (cmCol (qOf g e j) n)) (fun y n => aW x w cb b c.val y (bmCol (qOf g e j) n))
          (fun y => acs (dW dt db b c.val) (rateW (vecF al)) y (hdOf (qOf g e j))) (fun y => xrE (aW x w cb b c.val) (dW dt db b c.val) y (qOf g e j)) i := by
  unfold vYin intra
  rw [rYin_at]
  refine Finset.sum_congr rfl fun y _ => ?_
  rw [vXr_at, show vDec dt db al (ix6 b c i y g e) = _ from rDec_at _ _ _ _ _ _ _, vAcs_at, vAcs_at, hd_q]
  rw [Finset.sum_congr rfl fun n _ => (congrArg₂ (· * ·) (vBr_at x w cb b c y g n e j) (vCr_at x w cb b c i g n e j)).trans (mul_comm _ _)]
  by_cases h : y.val ≤ i.val
  · rw [if_pos h, if_pos h, mul_comm]
  · rw [if_neg h, if_neg h, mul_zero, mul_zero]

/-- The chunks' own parts of the states at an index. -/
theorem vSc_at (b : Fin 2) (c : Fin 64) (g : Fin 4) (e : Fin 8) (j : Fin 64) (n : Fin 128) :
    vSc x dt w cb db al (ix6 c b g e j n)
      = ∑ y : Fin 128, aW x w cb b c.val y (bmCol (qOf g e j) n) * (xrE (aW x w cb b c.val) (dW dt db b c.val) y (qOf g e j)
          * Ideal.exp (acs (dW dt db b c.val) (rateW (vecF al)) 127 (hdOf (qOf g e j)) - acs (dW dt db b c.val) (rateW (vecF al)) y (hdOf (qOf g e j)))) := by
  unfold vSc
  rw [rSc_at]
  refine Finset.sum_congr rfl fun y _ => ?_
  rw [vXr_at, vAcs_at, vAcs_at, vBr_at x w cb b c y g n e j, hd_q, mul_comm, mul_comm (Ideal.exp _)]

/-- The chunks' decays at an index. -/
theorem vDc_at (b : Fin 2) (c : Fin 64) (g : Fin 4) (e : Fin 8) (j : Fin 64) :
    vDc dt db al (ix4 c b g e) = Ideal.exp (acs (dW dt db b c.val) (rateW (vecF al)) 127 (hdOf (qOf g e j))) := by
  unfold vDc
  rw [rDc_at, vAcs_at, hd_q]

/-- The state of batch `b` before its chunk `k`. -/
def stE (b : Fin 2) : Nat → Fin 128 → Fin 2048 → EReal
  | 0 => zeroS
  | k + 1 => leaveA x dt w cb db al (64 * b.val + k)

/-- It is the state the chunk enters with. -/
theorem stE_enter (b : Fin 2) (k : Nat) (hk : k < 64) : stE x dt w cb db al b k = enterA x dt w cb db al (64 * b.val + k) := by
  unfold enterA enter
  cases k with
  | zero => rw [if_pos (by omega)]; rfl
  | succ k => rw [if_neg (by omega)]; rfl

/-- One step of the scan. -/
theorem stE_succ (b : Fin 2) (k : Fin 64) (g : Fin 4) (e : Fin 8) (j : Fin 64) (n : Fin 128) :
    stE x dt w cb db al b (k.val + 1) n (qOf g e j) = stE x dt w cb db al b k.val n (qOf g e j) * vDc dt db al (ix4 k b g e) + vSc x dt w cb db al (ix6 k b g e j n) := by
  rw [stE_enter x dt w cb db al b k.val k.isLt, vDc_at dt db al b k g e j, vSc_at]
  show leaveA x dt w cb db al (64 * b.val + k.val) n (qOf g e j) = _
  unfold leaveA
  rw [leave_eq]
  rfl

end

end Cert.Reference10Ideal.Value
end
-- ==== Proof.SsdRefEntry.lean ====
module

public import proofs.«01_k».proof.Proof.SsdRefVal

@[expose] public section
set_option maxRecDepth 100000
noncomputable section
open Idealize.ShloMosaic Idealize.ShloMosaic.TcCoe Idealize.SL.Sem Idealize.ShloMosaic.StableHlo

/-! What the reference's buffers hold when its scan starts: `e_b_k` says what buffer `b` holds after `k` stretches. -/
namespace Cert.Reference10Ideal.Value
open Cert.Reference10Ideal Cert.Reference10Ideal.Gen Cert.Ssd

variable (m : (ℓ : Loc nD τ sig) → Buf (Elt Ideal) ℓ) (c : Dev nD)

/-- The contents at launch. -/
def B0 : Valuation τ sig (Elt Ideal) := launchContents m c
/-- The contents after stretch 0 of the operations before the scan. -/
def B1 : Valuation τ sig (Elt Ideal) := after hostOps0 (B0 m c)
/-- The contents after stretch 1 of the operations before the scan. -/
def B2 : Valuation τ sig (Elt Ideal) := after hostOps0_1 (B1 m c)
/-- The contents after stretch 2 of the operations before the scan. -/
def B3 : Valuation τ sig (Elt Ideal) := after hostOps0_2 (B2 m c)
/-- The contents after stretch 3 of the operations before the scan. -/
def B4 : Valuation τ sig (Elt Ideal) := after hostOps0_3 (B3 m c)
/-- The contents after stretch 4 of the operations before the scan. -/
def B5 : Valuation τ sig (Elt Ideal) := after hostOps0_4 (B4 m c)
/-- The contents after stretch 5 of the operations before the scan. -/
def B6 : Valuation τ sig (Elt Ideal) := after hostOps0_5 (B5 m c)
/-- The contents after stretch 6 of the operations before the scan. -/
def B7 : Valuation τ sig (Elt Ideal) := after hostOps0_6 (B6 m c)
/-- The contents after stretch 7 of the operations before the scan. -/
def B8 : Valuation τ sig (Elt Ideal) := after hostOps0_7 (B7 m c)
/-- The contents after stretch 8 of the operations before the scan. -/
def B9 : Valuation τ sig (Elt Ideal) := after hostOps0_8 (B8 m c)
/-- The contents after stretch 9 of the operations before the scan. -/
def B10 : Valuation τ sig (Elt Ideal) := after hostOps0_9 (B9 m c)
/-- The contents after stretch 10 of the operations before the scan. -/
def B11 : Valuation τ sig (Elt Ideal) := after hostOps0_10 (B10 m c)
/-- The contents after stretch 11 of the operations before the scan. -/
def B12 : Valuation τ sig (Elt Ideal) := after hostOps0_11 (B11 m c)
/-- The contents after stretch 12 of the operations before the scan. -/
def B13 : Valuation τ sig (Elt Ideal) := after hostOps0_12 (B12 m c)

/-- The scan starts from the contents after the stretches. -/
theorem entry_eq : entryContents preI m c = B13 m c := by
  simp only [entryContents, afterL_cons, afterL_nil]
  rfl

/-- Argument 0. -/
def r0 : FVec Ideal S16384x2048 .f32 := m ((c.tc : Thread nD τ).loc main_arg0)
/-- Argument 1. -/
def r1 : FVec Ideal S16384x3072 .f32 := m ((c.tc : Thread nD τ).loc main_arg1)
/-- Argument 2. -/
def r2 : FVec Ideal S16384x32 .f32 := m ((c.tc : Thread nD τ).loc main_arg2)
/-- Argument 3. -/
def r3 : FVec Ideal S4x3072 .f32 := m ((c.tc : Thread nD τ).loc main_arg3)
/-- Argument 4. -/
def r4 : FVec Ideal S3072 .f32 := m ((c.tc : Thread nD τ).loc main_arg4)
/-- Argument 5. -/
def r5 : FVec Ideal S32 .f32 := m ((c.tc : Thread nD τ).loc main_arg5)
/-- Argument 6. -/
def r6 : FVec Ideal S32 .f32 := m ((c.tc : Thread nD τ).loc main_arg6)
/-- Argument 7. -/
def r7 : FVec Ideal S32 .f32 := m ((c.tc : Thread nD τ).loc main_arg7)

theorem e_main_arg0_0 : B0 m c (Proc.devRef .tc main_arg0) = r0 m c := rfl
theorem e_main_arg1_0 : B0 m c (Proc.devRef .tc main_arg1) = r1 m c := rfl
theorem e_main_arg2_0 : B0 m c (Proc.devRef .tc main_arg2) = r2 m c := rfl
theorem e_main_arg3_0 : B0 m c (Proc.devRef .tc main_arg3) = r3 m c := rfl
theorem e_main_arg4_0 : B0 m c (Proc.devRef .tc main_arg4) = r4 m c := rfl
theorem e_main_arg5_0 : B0 m c (Proc.devRef .tc main_arg5) = r5 m c := rfl
theorem e_main_arg6_0 : B0 m c (Proc.devRef .tc main_arg6) = r6 m c := rfl
theorem e_main_arg7_0 : B0 m c (Proc.devRef .tc main_arg7) = r7 m c := rfl
theorem e_main_v37_1 : B1 m c (Proc.devRef .tc main_v37) = rConv (r1 m c) (r3 m c) (r4 m c) := (got_rConv _).trans (by rw [e_main_arg1_0 m c, e_main_arg3_0 m c, e_main_arg4_0 m c] <;> rfl)
theorem e_main_v0_1 : B1 m c (Proc.devRef .tc main_v0) = rZ (r0 m c) := (got_rZ _).trans (by rw [e_main_arg0_0 m c] <;> rfl)
theorem e_main_v2_1 : B1 m c (Proc.devRef .tc main_v2) = rDtIn (r2 m c) := (got_rDtIn _).trans (by rw [e_main_arg2_0 m c] <;> rfl)
theorem e_main_v4_1 : B1 m c (Proc.devRef .tc main_v4) = rZero := got_rZero _
theorem e_main_v38_2 : B2 m c (Proc.devRef .tc main_v38) = vAct (r1 m c) (r3 m c) (r4 m c) := (got_rSilu _).trans (by rw [e_main_v37_1 m c] <;> rfl)
theorem e_main_v40_3 : B3 m c (Proc.devRef .tc main_v40) = rXs (vAct (r1 m c) (r3 m c) (r4 m c)) := (got_rXs _).trans (by rw [e_main_v38_2 m c] <;> rfl)
theorem e_main_v42_3 : B3 m c (Proc.devRef .tc main_v42) = rBm (vAct (r1 m c) (r3 m c) (r4 m c)) := (got_rBm _).trans (by rw [e_main_v38_2 m c] <;> rfl)
theorem e_main_v44_3 : B3 m c (Proc.devRef .tc main_v44) = rCm (vAct (r1 m c) (r3 m c) (r4 m c)) := (got_rCm _).trans (by rw [e_main_v38_2 m c] <;> rfl)
theorem e_main_v2_2 : B2 m c (Proc.devRef .tc main_v2) = rDtIn (r2 m c) := (keep1 _ _).trans <| e_main_v2_1 m c
theorem e_main_arg5_2 : B2 m c (Proc.devRef .tc main_arg5) = (r5 m c) := (keep1 _ _).trans <| (keep0 _ _).trans <| e_main_arg5_0 m c
theorem e_main_v47_3 : B3 m c (Proc.devRef .tc main_v47) = rDtB (rDtIn (r2 m c)) (r5 m c) := (got_rDtB _).trans (by rw [e_main_v2_2 m c, e_main_arg5_2 m c] <;> rfl)
theorem e_main_v48_4 : B4 m c (Proc.devRef .tc main_v48) = vDt (r2 m c) (r5 m c) := (got_rSoft _).trans (by rw [e_main_v47_3 m c] <;> rfl)
theorem e_main_v40_4 : B4 m c (Proc.devRef .tc main_v40) = rXs (vAct (r1 m c) (r3 m c) (r4 m c)) := (keep3 _ _).trans <| e_main_v40_3 m c
theorem e_main_v54_5 : B5 m c (Proc.devRef .tc main_v54) = vXr (r1 m c) (r2 m c) (r3 m c) (r4 m c) (r5 m c) := (got_rXr _).trans (by rw [e_main_v40_4 m c, e_main_v48_4 m c] <;> rfl)
theorem e_main_arg6_4 : B4 m c (Proc.devRef .tc main_arg6) = (r6 m c) := (keep3 _ _).trans <| (keep2 _ _).trans <| (keep1 _ _).trans <| (keep0 _ _).trans <| e_main_arg6_0 m c
theorem e_main_v58_5 : B5 m c (Proc.devRef .tc main_v58) = rDa (vDt (r2 m c) (r5 m c)) (r6 m c) := (got_rDa _).trans (by rw [e_main_v48_4 m c, e_main_arg6_4 m c] <;> rfl)
theorem e_main_v59_6 : B6 m c (Proc.devRef .tc main_v59) = vAcs (r2 m c) (r5 m c) (r6 m c) := (got_rAcs _).trans (by rw [e_main_v58_5 m c] <;> rfl)
theorem e_main_v42_6 : B6 m c (Proc.devRef .tc main_v42) = rBm (vAct (r1 m c) (r3 m c) (r4 m c)) := (keep5 _ _).trans <| (keep4 _ _).trans <| (keep3 _ _).trans <| e_main_v42_3 m c
theorem e_main_v60_7 : B7 m c (Proc.devRef .tc main_v60) = vBr (r1 m c) (r3 m c) (r4 m c) := (got_rBr _).trans (by rw [e_main_v42_6 m c] <;> rfl)
theorem e_main_v44_6 : B6 m c (Proc.devRef .tc main_v44) = rCm (vAct (r1 m c) (r3 m c) (r4 m c)) := (keep5 _ _).trans <| (keep4 _ _).trans <| (keep3 _ _).trans <| e_main_v44_3 m c
theorem e_main_v61_7 : B7 m c (Proc.devRef .tc main_v61) = vCr (r1 m c) (r3 m c) (r4 m c) := (got_rCr _).trans (by rw [e_main_v44_6 m c] <;> rfl)
theorem e_main_v66_7 : B7 m c (Proc.devRef .tc main_v66) = rSeg (vAcs (r2 m c) (r5 m c) (r6 m c)) := (got_rSeg _).trans (by rw [e_main_v59_6 m c] <;> rfl)
theorem e_main_v67_7 : B7 m c (Proc.devRef .tc main_v67) = rOnes := got_rOnes _
theorem e_main_v68_8 : B8 m c (Proc.devRef .tc main_v68) = rTril rOnes := (got_rTril _).trans (by rw [e_main_v67_7 m c] <;> rfl)
theorem e_main_v69_9 : B9 m c (Proc.devRef .tc main_v69) = rMask (rTril rOnes) := (got_rMask _).trans (by rw [e_main_v68_8 m c] <;> rfl)
theorem e_main_cst_2_9 : B9 m c (Proc.devRef .tc main_cst_2) = (constant (F := Ideal) S_ .f32 0x00000000#32 : FVec Ideal S_ .f32) := got_cst2 _
theorem e_main_v66_9 : B9 m c (Proc.devRef .tc main_v66) = rSeg (vAcs (r2 m c) (r5 m c) (r6 m c)) := (keep8 _ _).trans <| (keep7 _ _).trans <| e_main_v66_7 m c
theorem e_main_v70_10 : B10 m c (Proc.devRef .tc main_v70) = rSegM (rSeg (vAcs (r2 m c) (r5 m c) (r6 m c))) (rMask (rTril rOnes)) (constant (F := Ideal) S_ .f32 0x00000000#32 : FVec Ideal S_ .f32) := (got_rSegM _).trans (by rw [e_main_v66_9 m c, e_main_v69_9 m c, e_main_cst_2_9 m c] <;> rfl)
theorem e_main_v71_11 : B11 m c (Proc.devRef .tc main_v71) = rExp (rSegM (rSeg (vAcs (r2 m c) (r5 m c) (r6 m c))) (rMask (rTril rOnes)) (constant (F := Ideal) S_ .f32 0x00000000#32 : FVec Ideal S_ .f32)) := (got_rExp _).trans (by rw [e_main_v70_10 m c] <;> rfl)
theorem e_main_cst_3_11 : B11 m c (Proc.devRef .tc main_cst_3) = (constant (F := Ideal) S_ .f32 0x00000000#32 : FVec Ideal S_ .f32) := got_cst3 _
theorem e_main_v69_11 : B11 m c (Proc.devRef .tc main_v69) = rMask (rTril rOnes) := (keep10 _ _).trans <| (keep9 _ _).trans <| e_main_v69_9 m c
theorem e_main_v72_12 : B12 m c (Proc.devRef .tc main_v72) = vDec (r2 m c) (r5 m c) (r6 m c) := (got_rDec _).trans (by rw [e_main_v71_11 m c, e_main_v69_11 m c, e_main_cst_3_11 m c] <;> rfl)
theorem e_main_v60_12 : B12 m c (Proc.devRef .tc main_v60) = vBr (r1 m c) (r3 m c) (r4 m c) := (keep11 _ _).trans <| (keep10 _ _).trans <| (keep9 _ _).trans <| (keep8 _ _).trans <| (keep7 _ _).trans <| e_main_v60_7 m c
theorem e_main_v61_12 : B12 m c (Proc.devRef .tc main_v61) = vCr (r1 m c) (r3 m c) (r4 m c) := (keep11 _ _).trans <| (keep10 _ _).trans <| (keep9 _ _).trans <| (keep8 _ _).trans <| (keep7 _ _).trans <| e_main_v61_7 m c
theorem e_main_v54_12 : B12 m c (Proc.devRef .tc main_v54) = vXr (r1 m c) (r2 m c) (r3 m c) (r4 m c) (r5 m c) := (keep11 _ _).trans <| (keep10 _ _).trans <| (keep9 _ _).trans <| (keep8 _ _).trans <| (keep7 _ _).trans <| (keep6 _ _).trans <| (keep5 _ _).trans <| e_main_v54_5 m c
theorem e_main_v79_13 : B13 m c (Proc.devRef .tc main_v79) = vYin (r1 m c) (r2 m c) (r3 m c) (r4 m c) (r5 m c) (r6 m c) := (got_rYin _).trans (by rw [e_main_v60_12 m c, e_main_v61_12 m c, e_main_v72_12 m c, e_main_v54_12 m c] <;> rfl)
theorem e_main_v59_12 : B12 m c (Proc.devRef .tc main_v59) = vAcs (r2 m c) (r5 m c) (r6 m c) := (keep11 _ _).trans <| (keep10 _ _).trans <| (keep9 _ _).trans <| (keep8 _ _).trans <| (keep7 _ _).trans <| (keep6 _ _).trans <| e_main_v59_6 m c
theorem e_main_v95_0_13 : B13 m c (Proc.devRef .tc main_v95_0) = vSc (r1 m c) (r2 m c) (r3 m c) (r4 m c) (r5 m c) (r6 m c) := (got_rSc _).trans (by rw [e_main_v60_12 m c, e_main_v59_12 m c, e_main_v54_12 m c] <;> rfl)
theorem e_main_v95_1_13 : B13 m c (Proc.devRef .tc main_v95_1) = vDc (r2 m c) (r5 m c) (r6 m c) := (got_rDc _).trans (by rw [e_main_v59_12 m c] <;> rfl)
theorem e_main_v4_12 : B12 m c (Proc.devRef .tc main_v4) = rZero := (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| e_main_v4_1 m c
theorem e_main_v95_3_13 : B13 m c (Proc.devRef .tc main_v95_3) = rSt0 rZero := (got_rSt0 _).trans (by rw [e_main_v4_12 m c] <;> rfl)
theorem e_main_v59_13 : B13 m c (Proc.devRef .tc main_v59) = vAcs (r2 m c) (r5 m c) (r6 m c) := (keep12 _ _).trans <| e_main_v59_12 m c
theorem e_main_v61_13 : B13 m c (Proc.devRef .tc main_v61) = vCr (r1 m c) (r3 m c) (r4 m c) := (keep12 _ _).trans <| e_main_v61_12 m c
theorem e_main_v40_13 : B13 m c (Proc.devRef .tc main_v40) = rXs (vAct (r1 m c) (r3 m c) (r4 m c)) := (keep12 _ _).trans <| (keep11 _ _).trans <| (keep10 _ _).trans <| (keep9 _ _).trans <| (keep8 _ _).trans <| (keep7 _ _).trans <| (keep6 _ _).trans <| (keep5 _ _).trans <| (keep4 _ _).trans <| e_main_v40_4 m c
theorem e_main_v0_13 : B13 m c (Proc.devRef .tc main_v0) = rZ (r0 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| e_main_v0_1 m c
theorem e_main_arg0_13 : B13 m c (Proc.devRef .tc main_arg0) = (r0 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg0_0 m c
theorem e_main_arg1_13 : B13 m c (Proc.devRef .tc main_arg1) = (r1 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg1_0 m c
theorem e_main_arg2_13 : B13 m c (Proc.devRef .tc main_arg2) = (r2 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg2_0 m c
theorem e_main_arg3_13 : B13 m c (Proc.devRef .tc main_arg3) = (r3 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg3_0 m c
theorem e_main_arg4_13 : B13 m c (Proc.devRef .tc main_arg4) = (r4 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg4_0 m c
theorem e_main_arg5_13 : B13 m c (Proc.devRef .tc main_arg5) = (r5 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| e_main_arg5_2 m c
theorem e_main_arg6_13 : B13 m c (Proc.devRef .tc main_arg6) = (r6 m c) := (keep12 _ _).trans <| (keep11 _ _).trans <| (keep10 _ _).trans <| (keep9 _ _).trans <| (keep8 _ _).trans <| (keep7 _ _).trans <| (keep6 _ _).trans <| (keep5 _ _).trans <| (keep4 _ _).trans <| e_main_arg6_4 m c
theorem e_main_arg7_13 : B13 m c (Proc.devRef .tc main_arg7) = (r7 m c) := (keep12 _ _).trans <| (keep11 _ _).trans <| (keep10 _ _).trans <| (keep9 _ _).trans <| (keep8 _ _).trans <| (keep7 _ _).trans <| (keep6 _ _).trans <| (keep5 _ _).trans <| (keep4 _ _).trans <| (keep3 _ _).trans <| (keep2 _ _).trans <| (keep1 _ _).trans <| (keep0 _ _).trans <| e_main_arg7_0 m c
end Cert.Reference10Ideal.Value
end
-- ==== Proof.SsdRefStep.lean ====
module

public import proofs.«01_k».proof.Proof.SsdRefMix
public import Idealize.ShloMosaic.Lib.DynamicIndex

@[expose] public section
set_option maxRecDepth 100000
noncomputable section
open Idealize.ShloMosaic Idealize.ShloMosaic.TcCoe Idealize.SL.Sem Idealize.ShloMosaic.StableHlo

/-! What one step of the reference's scan over the chunks does, entry by entry. -/
namespace Cert.Reference10Ideal.Value
open Cert.Reference10Ideal Cert.Reference10Ideal.Gen Cert.Ssd

/-- A slice at trip `k` of the stacked array, at an index. -/
theorem slice6 (x : FVec Ideal S64x2x4x8x64x128 .f32) (start : Fin 6 → Int) (h : S64x2x4x8x64x128.Slices (fun _ => 0) S1x2x4x8x64x128) (k : Nat) (hk : k < 64)
    (hs : ∀ a, start a = ((![k, 0, 0, 0, 0, 0] : Fin 6 → Nat) a : Int)) (b : Fin 2) (g : Fin 4) (e : Fin 8) (j : Fin 64) (n : Fin 128) :
    Host.dynamicSlice S1x2x4x8x64x128 x start h (ix6 0 b g e j n) = x (ix6 ⟨k, hk⟩ b g e j n) := by
  rw [Host.dynamicSlice_apply]
  have cs : ∀ a : Fin 6, Host.clampedStart S64x2x4x8x64x128 S1x2x4x8x64x128 h.1 start a = (![k, 0, 0, 0, 0, 0] : Fin 6 → Nat) a := fun a =>
    Host.clampedStart_of_le h.1 start a _ (hs a) (by fin_cases a <;> simp <;> omega)
  refine congrArg x (funext fun a => Fin.ext ?_)
  show Host.clampedStart S64x2x4x8x64x128 S1x2x4x8x64x128 h.1 start a + _ = _
  rw [cs a]
  fin_cases a <;> first | rfl | exact Nat.zero_add _

/-- A slice at trip `k` of the stacked array, at an index. -/
theorem slice4 (x : FVec Ideal S64x2x4x8 .f32) (start : Fin 4 → Int) (h : S64x2x4x8.Slices (fun _ => 0) S1x2x4x8) (k : Nat) (hk : k < 64)
    (hs : ∀ a, start a = ((![k, 0, 0, 0] : Fin 4 → Nat) a : Int)) (b : Fin 2) (g : Fin 4) (e : Fin 8) :
    Host.dynamicSlice S1x2x4x8 x start h (ix4 0 b g e) = x (ix4 ⟨k, hk⟩ b g e) := by
  rw [Host.dynamicSlice_apply]
  have cs : ∀ a : Fin 4, Host.clampedStart S64x2x4x8 S1x2x4x8 h.1 start a = (![k, 0, 0, 0] : Fin 4 → Nat) a := fun a =>
    Host.clampedStart_of_le h.1 start a _ (hs a) (by fin_cases a <;> simp <;> omega)
  refine congrArg x (funext fun a => Fin.ext ?_)
  show Host.clampedStart S64x2x4x8 S1x2x4x8 h.1 start a + _ = _
  rw [cs a]
  fin_cases a <;> first | rfl | exact Nat.zero_add _

/-- The stacked array with the slice at trip `k` replaced, at an index. -/
theorem upd6 (x : FVec Ideal S64x2x4x8x64x128 .f32) (u : FVec Ideal S1x2x4x8x64x128 .f32) (start : Fin 6 → Int) (h : S64x2x4x8x64x128.Slices (fun _ => 0) S1x2x4x8x64x128) (k : Nat) (hk : k < 64)
    (hs : ∀ a, start a = ((![k, 0, 0, 0, 0, 0] : Fin 6 → Nat) a : Int)) (t : Fin 64) (b : Fin 2) (g : Fin 4) (e : Fin 8) (j : Fin 64) (n : Fin 128) :
    Host.dynamicUpdateSlice x u start h (ix6 t b g e j n) = if t.val = k then u (ix6 0 b g e j n) else x (ix6 t b g e j n) := by
  rw [Host.dynamicUpdateSlice_apply]
  have cs : ∀ a : Fin 6, Host.clampedStart S64x2x4x8x64x128 S1x2x4x8x64x128 h.1 start a = (![k, 0, 0, 0, 0, 0] : Fin 6 → Nat) a := fun a =>
    Host.clampedStart_of_le h.1 start a _ (hs a) (by fin_cases a <;> simp <;> omega)
  by_cases ht : t.val = k
  · rw [if_pos ht, dif_pos (by
      intro a
      rw [cs a]
      fin_cases a
      · show k ≤ t.val ∧ t.val < k + 1; omega
      · show 0 ≤ b.val ∧ b.val < 0 + 2; omega
      · show 0 ≤ g.val ∧ g.val < 0 + 4; omega
      · show 0 ≤ e.val ∧ e.val < 0 + 8; omega
      · show 0 ≤ j.val ∧ j.val < 0 + 64; omega
      · show 0 ≤ n.val ∧ n.val < 0 + 128; omega)]
    refine congrArg u (funext fun a => Fin.ext ?_)
    show _ - Host.clampedStart S64x2x4x8x64x128 S1x2x4x8x64x128 h.1 start a = _
    rw [cs a]
    fin_cases a
    · show t.val - k = 0; omega
    all_goals rfl
  · rw [if_neg ht, dif_neg (by
      intro hh
      have h0 := hh 0
      rw [cs 0] at h0
      have : k ≤ t.val ∧ t.val < k + 1 := h0
      omega)]

/-- The trip counter as a number. -/
theorem iv_int (k : Nat) (hk : k < 64) : (Scf.iv 0#32 1#32 k : BitVec 32).toInt = (k : Int) := by
  have : (Scf.iv 0#32 1#32 k : BitVec 32) = BitVec.ofNat 32 k := by simp [Scf.iv]
  rw [this, toInt_ofNat_of_lt (by omega)]

/-- The next state at an index. -/
theorem next_at (V : Valuation τ sig (Elt Ideal)) (k : Nat) (hk : k < 64) (h2 : V (Proc.devRef .tc main_v95_2) = fun _ => Scf.iv 0#32 1#32 k)
    (v3 : FVec Ideal S2x4x8x64x128 .f32) (v1 : FVec Ideal S64x2x4x8 .f32) (v0 : FVec Ideal S64x2x4x8x64x128 .f32)
    (h3 : V (Proc.devRef .tc main_v95_3) = v3) (h1 : V (Proc.devRef .tc main_v95_1) = v1) (h0 : V (Proc.devRef .tc main_v95_0) = v0)
    (b : Fin 2) (g : Fin 4) (e : Fin 8) (j : Fin 64) (n : Fin 128) :
    (step_main_v95_3 V : FVec Ideal S2x4x8x64x128 .f32) (ix5 b g e j n) = v3 (ix5 b g e j n) * v1 (ix4 ⟨k, hk⟩ b g e) + v0 (ix6 ⟨k, hk⟩ b g e j n) := by
  unfold step_main_v95_3
  rw [h2, h3, h1, h0, id]
  have e4 := fun b g e hs => slice4 v1 (fun a : Fin 4 => (((![fun _ => Scf.iv 0#32 1#32 k, constantI S_ 32 0#32, constantI S_ 32 0#32, constantI S_ 32 0#32] : Fin 4 → (⟨S_, .i32⟩ : BufTy).Contents (Elt Ideal))) a (Shape.Idx.first h_S_)).toInt) sliceFits_S64x2x4x8_S1x2x4x8 k hk hs b g e
  have e6 := fun b g e j n hs => slice6 v0 (fun a : Fin 6 => (((![fun _ => Scf.iv 0#32 1#32 k, constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt) sliceFits_S64x2x4x8x64x128_S1x2x4x8x64x128 k hk hs b g e j n
  have e4' := e4 b g e (by intro a; fin_cases a <;> first | exact iv_int k hk | rfl)
  have e6' := e6 b g e j n (by intro a; fin_cases a <;> first | exact iv_int k hk | rfl)
  rw [← e4', ← e6']
  generalize Host.dynamicSlice S1x2x4x8 v1 _ _ = y1
  generalize Host.dynamicSlice S1x2x4x8x64x128 v0 _ _ = y0
  pointwise

/-- The stack after a trip at an index. -/
theorem stack_at (V : Valuation τ sig (Elt Ideal)) (k : Nat) (hk : k < 64) (h2 : V (Proc.devRef .tc main_v95_2) = fun _ => Scf.iv 0#32 1#32 k)
    (v3 : FVec Ideal S2x4x8x64x128 .f32) (v4 : FVec Ideal S64x2x4x8x64x128 .f32)
    (h3 : V (Proc.devRef .tc main_v95_3) = v3) (h4 : V (Proc.devRef .tc main_v95_4) = v4)
    (t : Fin 64) (b : Fin 2) (g : Fin 4) (e : Fin 8) (j : Fin 64) (n : Fin 128) :
    (step_main_v95_4 V : FVec Ideal S64x2x4x8x64x128 .f32) (ix6 t b g e j n) = if t.val = k then v3 (ix5 b g e j n) else v4 (ix6 t b g e j n) := by
  unfold step_main_v95_4
  rw [h2, h3, h4, id]
  refine (upd6 v4 _ _ _ k hk (by intro a; fin_cases a <;> first | exact iv_int k hk | rfl) t b g e j n).trans ?_
  have : (broadcastInDim S1x2x4x8x64x128 ![1, 2, 3, 4, 5] bcast_S2x4x8x64x128_S1x2x4x8x64x128_1_2_3_4_5 v3 : FVec Ideal S1x2x4x8x64x128 .f32) (ix6 0 b g e j n) = v3 (ix5 b g e j n) := by
    pointwise
  rw [this]

end Cert.Reference10Ideal.Value
end
-- ==== Proof.SsdRefLoop.lean ====
module

public import proofs.«01_k».proof.Proof.SsdRefEntry
public import proofs.«01_k».proof.Proof.SsdRefStep

@[expose] public section
set_option maxRecDepth 100000
noncomputable section
open Idealize.ShloMosaic Idealize.ShloMosaic.TcCoe Idealize.SL.Sem Idealize.ShloMosaic.StableHlo

/-! The reference's scan over the chunks is the recurrence, and what the reference ends with. -/
namespace Cert.Reference10Ideal.Value
open Cert.Reference10Ideal Cert.Reference10Ideal.Gen Cert.Ssd

variable (m : (ℓ : Loc nD τ sig) → Buf (Elt Ideal) ℓ) (c : Dev nD)

/-- The contents the `k`-th trip starts from. -/
theorem atK_succ (k : Nat) : atK m (k + 1) c = afterL bodyI (after condOps (atK m k c)) := rfl

/-- A buffer the scan does not write keeps its contents through it. -/
theorem keepL (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : ∀ k, atK m k c (Proc.devRef .tc r) = B13 m c (Proc.devRef .tc r)
  | 0 => by rw [← entry_eq]; rfl
  | k + 1 => by
    rw [atK_succ]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact keepL r hc h0 h1 h2 h3 h4 k

/-- The chunks' own parts stay as they are. -/
theorem loop0 : ∀ k, atK m k c (Proc.devRef .tc main_v95_0) = vSc (r1 m c) (r2 m c) (r3 m c) (r4 m c) (r5 m c) (r6 m c)
  | 0 => by rw [show atK m 0 c = B13 m c from entry_eq m c]; exact e_main_v95_0_13 m c
  | k + 1 => by
    rw [atK_succ]
    exact (trip_agree (atK m k c) main_v95_0 (by decide)).trans ((STEP_main_v95_0 _).trans (loop0 k))

/-- The chunks' decays stay as they are. -/
theorem loop1 : ∀ k, atK m k c (Proc.devRef .tc main_v95_1) = vDc (r2 m c) (r5 m c) (r6 m c)
  | 0 => by rw [show atK m 0 c = B13 m c from entry_eq m c]; exact e_main_v95_1_13 m c
  | k + 1 => by
    rw [atK_succ]
    exact (trip_agree (atK m k c) main_v95_1 (by decide)).trans ((STEP_main_v95_1 _).trans (loop1 k))

/-- The state the scan carries. -/
def cur (k : Nat) : FVec Ideal S2x4x8x64x128 .f32 := atK m k c (Proc.devRef .tc main_v95_3)

/-- The stack of states the scan builds. -/
def stk (k : Nat) : FVec Ideal S64x2x4x8x64x128 .f32 := atK m k c (Proc.devRef .tc main_v95_4)

/-- The state before trip `k` is the recurrence's. -/
theorem cur_at : ∀ (k : Nat) (_ : k ≤ 64) (b : Fin 2) (g : Fin 4) (e : Fin 8) (j : Fin 64) (n : Fin 128),
    cur m c k (ix5 b g e j n) = stE (r1 m c) (r2 m c) (r3 m c) (r4 m c) (r5 m c) (r6 m c) b k n (qOf g e j)
  | 0, _, b, g, e, j, n => by
    unfold cur
    rw [show atK m 0 c = B13 m c from entry_eq m c, e_main_v95_3_13]
    exact rSt0_at b g e j n
  | k + 1, hk, b, g, e, j, n => by
    have h : cur m c (k + 1) = step_main_v95_3 (atK m k c) := by
      unfold cur
      rw [atK_succ]
      exact (trip_agree (atK m k c) main_v95_3 (by decide)).trans (STEP_main_v95_3 _)
    rw [h, next_at (atK m k c) k (by omega) (atK_ctr m c k) (cur m c k) _ _ rfl (loop1 m c k) (loop0 m c k), cur_at k (by omega)]
    exact (stE_succ _ _ _ _ _ _ b ⟨k, by omega⟩ g e j n).symm

/-- The stack holds, at each chunk passed, the state before that chunk. -/
theorem stk_at : ∀ (k : Nat) (_ : k ≤ 64) (t : Fin 64) (_ : t.val < k) (b : Fin 2) (g : Fin 4) (e : Fin 8) (j : Fin 64) (n : Fin 128),
    stk m c k (ix6 t b g e j n) = stE (r1 m c) (r2 m c) (r3 m c) (r4 m c) (r5 m c) (r6 m c) b t.val n (qOf g e j)
  | 0, _, t, ht, b, g, e, j, n => absurd ht (Nat.not_lt_zero _)
  | k + 1, hk, t, ht, b, g, e, j, n => by
    have h : stk m c (k + 1) = step_main_v95_4 (atK m k c) := by
      unfold stk
      rw [atK_succ]
      exact (trip_agree (atK m k c) main_v95_4 (by decide)).trans (STEP_main_v95_4 _)
    rw [h, stack_at (atK m k c) k (by omega) (atK_ctr m c k) (cur m c k) (stk m c k) rfl rfl]
    by_cases e0 : t.val = k
    · rw [if_pos e0, cur_at m c k (by omega), e0]
    · rw [if_neg e0]; exact stk_at k (by omega) t (by omega) b g e j n

/-- The contents after the scan. -/
def P13 : Valuation τ sig (Elt Ideal) := after condOps (atK m 64 c)

/-- What the program ends with. -/
theorem final_eq : finalContents condOps preI bodyI postI 64 m c = after hostOps0_15 (after hostOps0_14 (after hostOps0_13 (P13 m c))) := rfl

theorem p_main_v59 : P13 m c (Proc.devRef .tc main_v59) = vAcs (r2 m c) (r5 m c) (r6 m c) :=
  (after_of_writes_sub condOps _ condOps_writes (by decide +kernel)).trans ((keepL m c main_v59 (by decide +kernel) (by decide +kernel) (by decide +kernel) (by decide +kernel) (by decide +kernel) (by decide +kernel) 64).trans (e_main_v59_13 m c))
theorem p_main_v61 : P13 m c (Proc.devRef .tc main_v61) = vCr (r1 m c) (r3 m c) (r4 m c) :=
  (after_of_writes_sub condOps _ condOps_writes (by decide +kernel)).trans ((keepL m c main_v61 (by decide +kernel) (by decide +kernel) (by decide +kernel) (by decide +kernel) (by decide +kernel) (by decide +kernel) 64).trans (e_main_v61_13 m c))
theorem p_main_v79 : P13 m c (Proc.devRef .tc main_v79) = vYin (r1 m c) (r2 m c) (r3 m c) (r4 m c) (r5 m c) (r6 m c) :=
  (after_of_writes_sub condOps _ condOps_writes (by decide +kernel)).trans ((keepL m c main_v79 (by decide +kernel) (by decide +kernel) (by decide +kernel) (by decide +kernel) (by decide +kernel) (by decide +kernel) 64).trans (e_main_v79_13 m c))
theorem p_main_v40 : P13 m c (Proc.devRef .tc main_v40) = rXs (vAct (r1 m c) (r3 m c) (r4 m c)) :=
  (after_of_writes_sub condOps _ condOps_writes (by decide +kernel)).trans ((keepL m c main_v40 (by decide +kernel) (by decide +kernel) (by decide +kernel) (by decide +kernel) (by decide +kernel) (by decide +kernel) 64).trans (e_main_v40_13 m c))
theorem p_main_v0 : P13 m c (Proc.devRef .tc main_v0) = rZ (r0 m c) :=
  (after_of_writes_sub condOps _ condOps_writes (by decide +kernel)).trans ((keepL m c main_v0 (by decide +kernel) (by decide +kernel) (by decide +kernel) (by decide +kernel) (by decide +kernel) (by decide +kernel) 64).trans (e_main_v0_13 m c))
theorem p_main_arg0 : P13 m c (Proc.devRef .tc main_arg0) = r0 m c :=
  (after_of_writes_sub condOps _ condOps_writes (by decide +kernel)).trans ((keepL m c main_arg0 (by decide +kernel) (by decide +kernel) (by decide +kernel) (by decide +kernel) (by decide +kernel) (by decide +kernel) 64).trans (e_main_arg0_13 m c))
theorem p_main_arg1 : P13 m c (Proc.devRef .tc main_arg1) = r1 m c :=
  (after_of_writes_sub condOps _ condOps_writes (by decide +kernel)).trans ((keepL m c main_arg1 (by decide +kernel) (by decide +kernel) (by decide +kernel) (by decide +kernel) (by decide +kernel) (by decide +kernel) 64).trans (e_main_arg1_13 m c))
theorem p_main_arg2 : P13 m c (Proc.devRef .tc main_arg2) = r2 m c :=
  (after_of_writes_sub condOps _ condOps_writes (by decide +kernel)).trans ((keepL m c main_arg2 (by decide +kernel) (by decide +kernel) (by decide +kernel) (by decide +kernel) (by decide +kernel) (by decide +kernel) 64).trans (e_main_arg2_13 m c))
theorem p_main_arg3 : P13 m c (Proc.devRef .tc main_arg3) = r3 m c :=
  (after_of_writes_sub condOps _ condOps_writes (by decide +kernel)).trans ((keepL m c main_arg3 (by decide +kernel) (by decide +kernel) (by decide +kernel) (by decide +kernel) (by decide +kernel) (by decide +kernel) 64).trans (e_main_arg3_13 m c))
theorem p_main_arg4 : P13 m c (Proc.devRef .tc main_arg4) = r4 m c :=
  (after_of_writes_sub condOps _ condOps_writes (by decide +kernel)).trans ((keepL m c main_arg4 (by decide +kernel) (by decide +kernel) (by decide +kernel) (by decide +kernel) (by decide +kernel) (by decide +kernel) 64).trans (e_main_arg4_13 m c))
theorem p_main_arg5 : P13 m c (Proc.devRef .tc main_arg5) = r5 m c :=
  (after_of_writes_sub condOps _ condOps_writes (by decide +kernel)).trans ((keepL m c main_arg5 (by decide +kernel) (by decide +kernel) (by decide +kernel) (by decide +kernel) (by decide +kernel) (by decide +kernel) 64).trans (e_main_arg5_13 m c))
theorem p_main_arg6 : P13 m c (Proc.devRef .tc main_arg6) = r6 m c :=
  (after_of_writes_sub condOps _ condOps_writes (by decide +kernel)).trans ((keepL m c main_arg6 (by decide +kernel) (by decide +kernel) (by decide +kernel) (by decide +kernel) (by decide +kernel) (by decide +kernel) 64).trans (e_main_arg6_13 m c))
theorem p_main_arg7 : P13 m c (Proc.devRef .tc main_arg7) = r7 m c :=
  (after_of_writes_sub condOps _ condOps_writes (by decide +kernel)).trans ((keepL m c main_arg7 (by decide +kernel) (by decide +kernel) (by decide +kernel) (by decide +kernel) (by decide +kernel) (by decide +kernel) 64).trans (e_main_arg7_13 m c))
theorem p_main_v95_3 : P13 m c (Proc.devRef .tc main_v95_3) = cur m c 64 := after_of_writes_sub condOps _ condOps_writes (by decide +kernel)
theorem p_main_v95_4 : P13 m c (Proc.devRef .tc main_v95_4) = stk m c 64 := after_of_writes_sub condOps _ condOps_writes (by decide +kernel)

/-- The arguments are kept. -/
theorem f_main_arg0 : finalContents condOps preI bodyI postI 64 m c (Proc.devRef .tc main_arg0) = r0 m c := by
  rw [final_eq, keep15 _ _ (by decide +kernel), keep14 _ _ (by decide +kernel), keep13 _ _ (by decide +kernel), p_main_arg0]
theorem f_main_arg1 : finalContents condOps preI bodyI postI 64 m c (Proc.devRef .tc main_arg1) = r1 m c := by
  rw [final_eq, keep15 _ _ (by decide +kernel), keep14 _ _ (by decide +kernel), keep13 _ _ (by decide +kernel), p_main_arg1]
theorem f_main_arg2 : finalContents condOps preI bodyI postI 64 m c (Proc.devRef .tc main_arg2) = r2 m c := by
  rw [final_eq, keep15 _ _ (by decide +kernel), keep14 _ _ (by decide +kernel), keep13 _ _ (by decide +kernel), p_main_arg2]
theorem f_main_arg3 : finalContents condOps preI bodyI postI 64 m c (Proc.devRef .tc main_arg3) = r3 m c := by
  rw [final_eq, keep15 _ _ (by decide +kernel), keep14 _ _ (by decide +kernel), keep13 _ _ (by decide +kernel), p_main_arg3]
theorem f_main_arg4 : finalContents condOps preI bodyI postI 64 m c (Proc.devRef .tc main_arg4) = r4 m c := by
  rw [final_eq, keep15 _ _ (by decide +kernel), keep14 _ _ (by decide +kernel), keep13 _ _ (by decide +kernel), p_main_arg4]
theorem f_main_arg5 : finalContents condOps preI bodyI postI 64 m c (Proc.devRef .tc main_arg5) = r5 m c := by
  rw [final_eq, keep15 _ _ (by decide +kernel), keep14 _ _ (by decide +kernel), keep13 _ _ (by decide +kernel), p_main_arg5]
theorem f_main_arg6 : finalContents condOps preI bodyI postI 64 m c (Proc.devRef .tc main_arg6) = r6 m c := by
  rw [final_eq, keep15 _ _ (by decide +kernel), keep14 _ _ (by decide +kernel), keep13 _ _ (by decide +kernel), p_main_arg6]
theorem f_main_arg7 : finalContents condOps preI bodyI postI 64 m c (Proc.devRef .tc main_arg7) = r7 m c := by
  rw [final_eq, keep15 _ _ (by decide +kernel), keep14 _ _ (by decide +kernel), keep13 _ _ (by decide +kernel), p_main_arg7]
/-- The outputs. -/
def R1 : FVec Ideal S16384x2048 .f32 :=
  rOut (rY (stk m c 64) (vAcs (r2 m c) (r5 m c) (r6 m c)) (vCr (r1 m c) (r3 m c) (r4 m c)) (vYin (r1 m c) (r2 m c) (r3 m c) (r4 m c) (r5 m c) (r6 m c)) (rXs (vAct (r1 m c) (r3 m c) (r4 m c))) (r7 m c)) (rGate (rZ (r0 m c)))
theorem f_out : finalContents condOps preI bodyI postI 64 m c (Proc.devRef .tc main_v114) = R1 m c := by
  rw [final_eq, got_rOut, got_rGate, keep14 _ main_v111 (by decide +kernel), got_rY, keep13 _ main_v0 (by decide +kernel), p_main_v0, p_main_v95_4, p_main_v59, p_main_v61, p_main_v79, p_main_v40, p_main_arg7]
  rfl
theorem f_state : finalContents condOps preI bodyI postI 64 m c (Proc.devRef .tc main_v105) = rState (cur m c 64) := by
  rw [final_eq, keep15 _ _ (by decide +kernel), keep14 _ _ (by decide +kernel), got_rState, p_main_v95_3]

/-- The final states are the ones the batches' last chunks leave. -/
theorem state_at (b : Fin 2) (h : Fin 32) (j : Fin 64) (n : Fin 128) :
    rState (cur m c 64) (ix4 b h j n) = leaveA (r1 m c) (r2 m c) (r3 m c) (r4 m c) (r5 m c) (r6 m c) (64 * b.val + 63) n ⟨64 * h.val + j.val, by omega⟩ := by
  rw [rState_at, cur_at m c 64 le_rfl]
  show leaveA _ _ _ _ _ _ (64 * b.val + 63) n _ = _
  refine congrArg _ (Fin.ext ?_)
  show 512 * (h.val / 8) + 64 * (h.val % 8) + j.val = 64 * h.val + j.val
  omega

/-- The outputs before the gate, times the gate, at a token of a chunk. -/
theorem out_at' (b : Fin 2) (t : Fin 64) (i : Fin 128) (q : Fin 2048) :
    rY (stk m c 64) (vAcs (r2 m c) (r5 m c) (r6 m c)) (vCr (r1 m c) (r3 m c) (r4 m c)) (vYin (r1 m c) (r2 m c) (r3 m c) (r4 m c) (r5 m c) (r6 m c)) (rXs (vAct (r1 m c) (r3 m c) (r4 m c))) (r7 m c) (ix3 b ⟨128 * t.val + i.val, by omega⟩ q)
      * rGate (rZ (r0 m c)) (ix3 b ⟨128 * t.val + i.val, by omega⟩ q)
      = outA (r0 m c) (r1 m c) (r2 m c) (r3 m c) (r4 m c) (r5 m c) (r6 m c) (r7 m c) (64 * b.val + t.val) i q := by
  have hq : qOf ⟨q.val / 512, by omega⟩ ⟨q.val / 64 % 8, by omega⟩ ⟨q.val % 64, by omega⟩ = q := Fin.ext (by show 512 * (q.val / 512) + 64 * (q.val / 64 % 8) + q.val % 64 = q.val; omega)
  have hh : hOf ⟨q.val / 512, by omega⟩ ⟨q.val / 64 % 8, by omega⟩ = hdOf q := by rw [← hd_q _ _ ⟨q.val % 64, by omega⟩, hq]
  rw [rY_at, rGate_at, rZ_at, vYin_at, vAcs_at, rXs_at, vAct_at, hq, hh]
  rw [Finset.sum_congr rfl fun n _ => (congrArg₂ (· * ·) (stk_at m c 64 le_rfl t t.isLt b _ _ _ n) (vCr_at (r1 m c) (r3 m c) (r4 m c) b t i _ n ⟨q.val / 64 % 8, by omega⟩ ⟨q.val % 64, by omega⟩)).trans (mul_comm _ _)]
  rw [hq, stE_enter _ _ _ _ _ _ b t.val t.isLt, mul_comm (Ideal.exp _)]
  unfold outA yW yC yE
  have e1 : (⟨64 * (q.val / 64) + q.val % 64, by omega⟩ : Fin 3072) = xsCol q := Fin.ext (by show 64 * (q.val / 64) + q.val % 64 = q.val; omega)
  have e2 : r0 m c (ix2 ⟨8192 * b.val + (128 * t.val + i.val), by omega⟩ q) = rowF (r0 m c) (128 * (64 * b.val + t.val) + i.val) q := by
    rw [rowF_eq _ _ (by omega)]
    refine congrArg (r0 m c) ((ix2_inj _ _ _ _).mpr ?_)
    (simp only [Fin.ext_iff, true_and, and_true]; omega)
  beta_reduce
  rw [← e1, ← e2]
  rfl

/-- The outputs are the recurrence's. -/
theorem out_at (r : Fin 16384) (q : Fin 2048) :
    R1 m c (ix2 r q) = outA (r0 m c) (r1 m c) (r2 m c) (r3 m c) (r4 m c) (r5 m c) (r6 m c) (r7 m c) (r.val / 128) ⟨r.val % 128, Nat.mod_lt _ (by decide)⟩ q := by
  unfold R1
  rw [rOut_at]
  have e : (⟨r.val % 8192, by omega⟩ : Fin 8192) = ⟨128 * (r.val % 8192 / 128) + r.val % 128, by omega⟩ := Fin.ext (by show r.val % 8192 = 128 * (r.val % 8192 / 128) + r.val % 128; omega)
  rw [e]
  refine (out_at' m c ⟨r.val / 8192, by omega⟩ ⟨r.val % 8192 / 128, by omega⟩ ⟨r.val % 128, by omega⟩ q).trans ?_
  have e3 : 64 * (r.val / 8192) + r.val % 8192 / 128 = r.val / 128 := by omega
  show outA _ _ _ _ _ _ _ _ (64 * (r.val / 8192) + r.val % 8192 / 128) _ q = _
  rw [e3]

end Cert.Reference10Ideal.Value
end
-- ==== Proof.SsdPre.lean ====
module

public import proofs.«01_k».proof.Defs
public import Idealize.ShloMosaic.Lib.ReduceAll
public import Idealize.ShloMosaic.Lib.Pointwise

@[expose] public section
set_option maxRecDepth 16384
noncomputable section
open Idealize.ShloMosaic

/-! The precondition of the recurrence: every step size before the softplus is below infinity. -/
namespace Cert.Pre_finite_steps.Gen
open Cert.Pre_finite_steps

/-- The shape relations of the precondition hold. -/
instance facts : Cert.Pre_finite_steps.Facts where
  bcast_S32_S1x32_1 := by decide
  bcast_S1x32_S16384x32_0_1 := by decide
  bcast_S_S16384x32 := by decide
  reducesTo_S16384x32_S_d0_1 := by decide
  h_S_ := by decide

/-- The precondition says of each token and head that the step size's input plus its bias is below infinity. -/
theorem below (z : FVec Ideal S16384x2048 .f32) (x : FVec Ideal S16384x3072 .f32) (dt : FVec Ideal S16384x32 .f32) (w : FVec Ideal S4x3072 .f32) (cb : FVec Ideal S3072 .f32)
    (db al ds : FVec Ideal S32 .f32) (h : Cert.Pre_finite_steps.fn (F := Ideal) z x dt w cb db al ds = (fun _ => 1#1)) (r : Fin 16384) (k : Fin 32) :
    dt (ix2 r k) + db (ix1 k) < (⊤ : EReal) := by
  haveI : Subsingleton S_.Idx := ⟨fun a b => funext fun q => q.elim0⟩
  have e := congrFun h (Shape.Idx.first Facts.h_S_)
  have e2 := Host.reduce_andi_all _ _ _ _ _ e (ix2 r k)
  have htop : Ideal.ofBits .f32 0x7F800000#32 = ⊤ := by simp [Ideal.ofBits, Ideal.ieee]
  revert e2
  pointwise
  rw [htop]
  intro e2
  by_contra hn
  rw [decide_eq_false hn] at e2
  exact absurd e2 (by decide)

end Cert.Pre_finite_steps.Gen
end
-- ==== Proof.SsdClaim.lean ====
module

public import proofs.«01_k».proof.Defs
public import proofs.«01_k».proof.Proof.Gen.Kernel10.Frame
public import proofs.«01_k».proof.Proof.SsdState
public import proofs.«01_k».proof.Proof.SsdRefLoop
public import proofs.«01_k».proof.Proof.SsdPre
public import Idealize.ShloMosaic.Lib.Claim
public import Idealize.ShloMosaic.Lib.Quiescent

@[expose] public section
set_option maxRecDepth 100000
noncomputable section
open Idealize.ShloMosaic Idealize.ShloMosaic.TcCoe Idealize.SL.Sem

namespace Cert.Reference10Ideal.Value
open Cert.Reference10Ideal Cert.Reference10Ideal.Gen Cert.Ssd

/-- The reference's run: its results are the outputs and the final states, and its arguments are kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v114) = R1 m c
      ∧ r.2.mem ((c.tc : Thread nD τ).loc main_v105) = rState (cur m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v114 rfl).trans (f_out m c), (h c main_v105 rfl).trans (f_state m c), (h c main_arg0 rfl).trans (f_main_arg0 m c), (h c main_arg1 rfl).trans (f_main_arg1 m c), (h c main_arg2 rfl).trans (f_main_arg2 m c), (h c main_arg3 rfl).trans (f_main_arg3 m c), (h c main_arg4 rfl).trans (f_main_arg4 m c), (h c main_arg5 rfl).trans (f_main_arg5 m c), (h c main_arg6 rfl).trans (f_main_arg6 m c), (h c main_arg7 rfl).trans (f_main_arg7 m c)⟩) (run_fold m ρ)

end Cert.Reference10Ideal.Value

/-! The claims about the state-space recurrence. -/
namespace Cert.Proof.Ssd
open Cert.Ssd

/-- The kernel runs, leaves its arguments and ends with every counter at zero. -/
theorem frame : Cert.quiescent_Kernel10 := fun m ρ _ => Cert.Kernel10.Gen.frame m ρ

/-- The same of the kernel read over the extended reals. -/
theorem frame_ideal : Cert.quiescent_Kernel10Ideal := fun m ρ _ => Cert.Kernel10Ideal.Gen.frame m ρ

/-- The same under the precondition. -/
theorem frame_ideal_pre : Cert.quiescent_Kernel10Ideal_pre_finite_steps := fun m ρ _ => Cert.Kernel10Ideal.Gen.frame m ρ

/-- The same of the reference. -/
theorem frame_ref : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run m ρ)

/-- The same under the precondition. -/
theorem frame_ref_pre : Cert.quiescent_Reference10Ideal_pre_finite_steps := fun m ρ _ =>
  (θ_run Cert.Reference10Ideal.defs _ _).mono (fun r h => ⟨fun c => (h c).2.2, Idealize.ShloMosaic.sem_eq_zero_of_no_sems (by decide) r.2⟩)
    (Cert.Reference10Ideal.Value.run m ρ)

/-- Over the extended reals, where every step size before the softplus is below infinity, each of the kernel's arrays is the reference's, entry by entry. -/
theorem algebraic : Cert.algebraic_Kernel10Ideal_Reference10Ideal_pre_finite_steps := by
  intro m g m' g' hpre hagree
  refine ⟨fun c => Cert.Reference10Ideal.Value.R1 m' c, fun c => Cert.Reference10Ideal.Value.rState (Cert.Reference10Ideal.Value.cur m' c 64), ?_, Cert.Reference10Ideal.Value.run m' g'⟩
  refine (θ_run Cert.Kernel10Ideal.defs _ _).mono (fun _ h c => ⟨(h c).1.trans ?_, (h c).2.1.trans ?_, (h c).2.2⟩) (Cert.Kernel10Ideal.Value.run_blocks m g)
  · refine Cert.Kernel10Ideal.Value.ssd10 m c (Cert.Pre_finite_steps.Gen.below _ _ _ _ _ _ _ _ (hpre c)) _ fun r q => ?_
    beta_reduce
    rw [Cert.Reference10Ideal.Value.out_at]
    obtain ⟨h0, h1, h2, h3, h4, h5, h6, h7⟩ := hagree c
    unfold Cert.Reference10Ideal.Value.r0 Cert.Reference10Ideal.Value.r1 Cert.Reference10Ideal.Value.r2 Cert.Reference10Ideal.Value.r3 Cert.Reference10Ideal.Value.r4 Cert.Reference10Ideal.Value.r5 Cert.Reference10Ideal.Value.r6 Cert.Reference10Ideal.Value.r7
    rw [h0, h1, h2, h3, h4, h5, h6, h7]
  · refine Cert.Kernel10Ideal.Value.ssd11 m c (Cert.Pre_finite_steps.Gen.below _ _ _ _ _ _ _ _ (hpre c)) _ fun b h j n => ?_
    beta_reduce
    rw [Cert.Reference10Ideal.Value.state_at]
    obtain ⟨h0, h1, h2, h3, h4, h5, h6, h7⟩ := hagree c
    unfold Cert.Reference10Ideal.Value.r1 Cert.Reference10Ideal.Value.r2 Cert.Reference10Ideal.Value.r3 Cert.Reference10Ideal.Value.r4 Cert.Reference10Ideal.Value.r5 Cert.Reference10Ideal.Value.r6
    rw [h1, h2, h3, h4, h5, h6]
end Cert.Proof.Ssd
end
-- ==== Proof.lean ====
module

public import proofs.«01_k».proof.Defs
public import proofs.«01_k».proof.Proof.XattnClaim
public import proofs.«01_k».proof.Proof.FfnClaim
public import proofs.«01_k».proof.Proof.MemClaim
public import proofs.«01_k».proof.Proof.NormClaim
public import proofs.«01_k».proof.Proof.OutClaim
public import proofs.«01_k».proof.Proof.SsdOutClaim
public import proofs.«01_k».proof.Proof.SsdInClaim
public import proofs.«01_k».proof.Proof.DsaInClaim
public import proofs.«01_k».proof.Proof.NsaInClaim
public import proofs.«01_k».proof.Proof.SsdClaim

@[expose] public section
noncomputable section
namespace Cert.Proof
open Idealize.ShloMosaic Idealize.SL.Sem

/-- Everything the certificate claims. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Pre_finite_steps.Gen.facts,
    Xattn.frame,
    Xattn.frame_ideal,
    Xattn.frame_ref,
    Ffn.frame,
    Ffn.frame_ideal,
    Ffn.frame_ref,
    Mem.frame,
    Mem.frame_ideal,
    Mem.frame_ref,
    Norm.frame,
    Norm.frame_ideal,
    Norm.frame_ref,
    Out.frame,
    Out.frame_ideal,
    Out.frame_ref,
    SsdOut.frame,
    SsdOut.frame_ideal,
    SsdOut.frame_ref,
    SsdIn.frame,
    SsdIn.frame_ideal,
    SsdIn.frame_ref,
    DsaIn.frame,
    DsaIn.frame_ideal,
    DsaIn.frame_ref,
    NsaIn.frame,
    NsaIn.frame_ideal,
    NsaIn.frame_ref,
    Ssd.frame,
    Ssd.frame_ideal,
    Ssd.frame_ideal_pre,
    Ssd.frame_ref,
    Ssd.frame_ref_pre,
    trivial,
    Xattn.algebraic,
    trivial,
    Ffn.algebraic,
    trivial,
    Mem.algebraic,
    trivial,
    Norm.algebraic,
    trivial,
    Out.algebraic,
    trivial,
    SsdOut.algebraic,
    trivial,
    SsdIn.algebraic,
    trivial,
    DsaIn.algebraic,
    trivial,
    NsaIn.algebraic,
    trivial,
    Ssd.algebraic⟩

end Cert.Proof
end
